-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gdn_finite [hPre_gdn_finite : Cert.Pre_gdn_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gdn_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gdn_finite [hPre_gdn_finite : Cert.Pre_gdn_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gdn_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_gla_finite [hPre_gla_finite : Cert.Pre_gla_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_gla_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_gla_finite [hPre_gla_finite : Cert.Pre_gla_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_gla_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_merge_finite [hPre_merge_finite : Cert.Pre_merge_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_merge_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_merge_finite [hPre_merge_finite : Cert.Pre_merge_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_merge_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_in_proj_finite [hPre_in_proj_finite : Cert.Pre_in_proj_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_in_proj_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_in_proj_finite [hPre_in_proj_finite : Cert.Pre_in_proj_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_in_proj_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_prep_finite [hPre_prep_finite : Cert.Pre_prep_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_prep_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13)) (m ((c.tc : Thread Cert.Kernel8Ideal.nD Cert.Kernel8Ideal.τ).loc Cert.Kernel8Ideal.main_arg14)) (m ((c.tc : Thread Cert.Kernel8Ideal.nD Cert.Kernel8Ideal.τ).loc Cert.Kernel8Ideal.main_arg15)) (m ((c.tc : Thread Cert.Kernel8Ideal.nD Cert.Kernel8Ideal.τ).loc Cert.Kernel8Ideal.main_arg16)) (m ((c.tc : Thread Cert.Kernel8Ideal.nD Cert.Kernel8Ideal.τ).loc Cert.Kernel8Ideal.main_arg17)) (m ((c.tc : Thread Cert.Kernel8Ideal.nD Cert.Kernel8Ideal.τ).loc Cert.Kernel8Ideal.main_arg18)) (m ((c.tc : Thread Cert.Kernel8Ideal.nD Cert.Kernel8Ideal.τ).loc Cert.Kernel8Ideal.main_arg19))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_prep_finite [hPre_prep_finite : Cert.Pre_prep_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_prep_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13)) (m ((c.tc : Thread Cert.Reference8Ideal.nD Cert.Reference8Ideal.τ).loc Cert.Reference8Ideal.main_arg14)) (m ((c.tc : Thread Cert.Reference8Ideal.nD Cert.Reference8Ideal.τ).loc Cert.Reference8Ideal.main_arg15)) (m ((c.tc : Thread Cert.Reference8Ideal.nD Cert.Reference8Ideal.τ).loc Cert.Reference8Ideal.main_arg16)) (m ((c.tc : Thread Cert.Reference8Ideal.nD Cert.Reference8Ideal.τ).loc Cert.Reference8Ideal.main_arg17)) (m ((c.tc : Thread Cert.Reference8Ideal.nD Cert.Reference8Ideal.τ).loc Cert.Reference8Ideal.main_arg18)) (m ((c.tc : Thread Cert.Reference8Ideal.nD Cert.Reference8Ideal.τ).loc Cert.Reference8Ideal.main_arg19))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gdn_finite [hKernelIdeal : Cert.KernelIdeal.Facts] [hPre_gdn_finite : Cert.Pre_gdn_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gdn_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gdn_finite [hReferenceIdeal : Cert.ReferenceIdeal.Facts] [hPre_gdn_finite : Cert.Pre_gdn_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gdn_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_gla_finite [hKernel2Ideal : Cert.Kernel2Ideal.Facts] [hPre_gla_finite : Cert.Pre_gla_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_gla_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_gla_finite [hReference2Ideal : Cert.Reference2Ideal.Facts] [hPre_gla_finite : Cert.Pre_gla_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_gla_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Kernel4Ideal_pre_merge_finite [hKernel4Ideal : Cert.Kernel4Ideal.Facts] [hPre_merge_finite : Cert.Pre_merge_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_merge_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def quiescent_Reference4Ideal_pre_merge_finite [hReference4Ideal : Cert.Reference4Ideal.Facts] [hPre_merge_finite : Cert.Pre_merge_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_merge_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_in_proj_finite [hKernel5Ideal : Cert.Kernel5Ideal.Facts] [hPre_in_proj_finite : Cert.Pre_in_proj_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_in_proj_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_in_proj_finite [hReference5Ideal : Cert.Reference5Ideal.Facts] [hPre_in_proj_finite : Cert.Pre_in_proj_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_in_proj_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13)
      ∧ r.2.mem ((c.tc : Thread Cert.Kernel8.nD Cert.Kernel8.τ).loc Cert.Kernel8.main_arg14) = m ((c.tc : Thread Cert.Kernel8.nD Cert.Kernel8.τ).loc Cert.Kernel8.main_arg14)
      ∧ r.2.mem ((c.tc : Thread Cert.Kernel8.nD Cert.Kernel8.τ).loc Cert.Kernel8.main_arg15) = m ((c.tc : Thread Cert.Kernel8.nD Cert.Kernel8.τ).loc Cert.Kernel8.main_arg15)
      ∧ r.2.mem ((c.tc : Thread Cert.Kernel8.nD Cert.Kernel8.τ).loc Cert.Kernel8.main_arg16) = m ((c.tc : Thread Cert.Kernel8.nD Cert.Kernel8.τ).loc Cert.Kernel8.main_arg16)
      ∧ r.2.mem ((c.tc : Thread Cert.Kernel8.nD Cert.Kernel8.τ).loc Cert.Kernel8.main_arg17) = m ((c.tc : Thread Cert.Kernel8.nD Cert.Kernel8.τ).loc Cert.Kernel8.main_arg17)
      ∧ r.2.mem ((c.tc : Thread Cert.Kernel8.nD Cert.Kernel8.τ).loc Cert.Kernel8.main_arg18) = m ((c.tc : Thread Cert.Kernel8.nD Cert.Kernel8.τ).loc Cert.Kernel8.main_arg18)
      ∧ r.2.mem ((c.tc : Thread Cert.Kernel8.nD Cert.Kernel8.τ).loc Cert.Kernel8.main_arg19) = m ((c.tc : Thread Cert.Kernel8.nD Cert.Kernel8.τ).loc Cert.Kernel8.main_arg19))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
      ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
      ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15)
      ∧ r.2.mem ((c.tc : Thread Cert.Kernel8Ideal.nD Cert.Kernel8Ideal.τ).loc Cert.Kernel8Ideal.main_arg16) = m ((c.tc : Thread Cert.Kernel8Ideal.nD Cert.Kernel8Ideal.τ).loc Cert.Kernel8Ideal.main_arg16)
      ∧ r.2.mem ((c.tc : Thread Cert.Kernel8Ideal.nD Cert.Kernel8Ideal.τ).loc Cert.Kernel8Ideal.main_arg17) = m ((c.tc : Thread Cert.Kernel8Ideal.nD Cert.Kernel8Ideal.τ).loc Cert.Kernel8Ideal.main_arg17)
      ∧ r.2.mem ((c.tc : Thread Cert.Kernel8Ideal.nD Cert.Kernel8Ideal.τ).loc Cert.Kernel8Ideal.main_arg18) = m ((c.tc : Thread Cert.Kernel8Ideal.nD Cert.Kernel8Ideal.τ).loc Cert.Kernel8Ideal.main_arg18)
      ∧ r.2.mem ((c.tc : Thread Cert.Kernel8Ideal.nD Cert.Kernel8Ideal.τ).loc Cert.Kernel8Ideal.main_arg19) = m ((c.tc : Thread Cert.Kernel8Ideal.nD Cert.Kernel8Ideal.τ).loc Cert.Kernel8Ideal.main_arg19))
      ∧ r.2.sem = fun _ => 0)

def quiescent_Kernel8Ideal_pre_prep_finite [hKernel8Ideal : Cert.Kernel8Ideal.Facts] [hPre_prep_finite : Cert.Pre_prep_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_prep_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
      ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
      ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15)
      ∧ r.2.mem ((c.tc : Thread Cert.Kernel8Ideal.nD Cert.Kernel8Ideal.τ).loc Cert.Kernel8Ideal.main_arg16) = m ((c.tc : Thread Cert.Kernel8Ideal.nD Cert.Kernel8Ideal.τ).loc Cert.Kernel8Ideal.main_arg16)
      ∧ r.2.mem ((c.tc : Thread Cert.Kernel8Ideal.nD Cert.Kernel8Ideal.τ).loc Cert.Kernel8Ideal.main_arg17) = m ((c.tc : Thread Cert.Kernel8Ideal.nD Cert.Kernel8Ideal.τ).loc Cert.Kernel8Ideal.main_arg17)
      ∧ r.2.mem ((c.tc : Thread Cert.Kernel8Ideal.nD Cert.Kernel8Ideal.τ).loc Cert.Kernel8Ideal.main_arg18) = m ((c.tc : Thread Cert.Kernel8Ideal.nD Cert.Kernel8Ideal.τ).loc Cert.Kernel8Ideal.main_arg18)
      ∧ r.2.mem ((c.tc : Thread Cert.Kernel8Ideal.nD Cert.Kernel8Ideal.τ).loc Cert.Kernel8Ideal.main_arg19) = m ((c.tc : Thread Cert.Kernel8Ideal.nD Cert.Kernel8Ideal.τ).loc Cert.Kernel8Ideal.main_arg19))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13)
      ∧ r.2.mem ((c.tc : Thread Cert.Reference8Ideal.nD Cert.Reference8Ideal.τ).loc Cert.Reference8Ideal.main_arg14) = m ((c.tc : Thread Cert.Reference8Ideal.nD Cert.Reference8Ideal.τ).loc Cert.Reference8Ideal.main_arg14)
      ∧ r.2.mem ((c.tc : Thread Cert.Reference8Ideal.nD Cert.Reference8Ideal.τ).loc Cert.Reference8Ideal.main_arg15) = m ((c.tc : Thread Cert.Reference8Ideal.nD Cert.Reference8Ideal.τ).loc Cert.Reference8Ideal.main_arg15)
      ∧ r.2.mem ((c.tc : Thread Cert.Reference8Ideal.nD Cert.Reference8Ideal.τ).loc Cert.Reference8Ideal.main_arg16) = m ((c.tc : Thread Cert.Reference8Ideal.nD Cert.Reference8Ideal.τ).loc Cert.Reference8Ideal.main_arg16)
      ∧ r.2.mem ((c.tc : Thread Cert.Reference8Ideal.nD Cert.Reference8Ideal.τ).loc Cert.Reference8Ideal.main_arg17) = m ((c.tc : Thread Cert.Reference8Ideal.nD Cert.Reference8Ideal.τ).loc Cert.Reference8Ideal.main_arg17)
      ∧ r.2.mem ((c.tc : Thread Cert.Reference8Ideal.nD Cert.Reference8Ideal.τ).loc Cert.Reference8Ideal.main_arg18) = m ((c.tc : Thread Cert.Reference8Ideal.nD Cert.Reference8Ideal.τ).loc Cert.Reference8Ideal.main_arg18)
      ∧ r.2.mem ((c.tc : Thread Cert.Reference8Ideal.nD Cert.Reference8Ideal.τ).loc Cert.Reference8Ideal.main_arg19) = m ((c.tc : Thread Cert.Reference8Ideal.nD Cert.Reference8Ideal.τ).loc Cert.Reference8Ideal.main_arg19))
      ∧ r.2.sem = fun _ => 0)

def quiescent_Reference8Ideal_pre_prep_finite [hReference8Ideal : Cert.Reference8Ideal.Facts] [hPre_prep_finite : Cert.Pre_prep_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_prep_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13)
      ∧ r.2.mem ((c.tc : Thread Cert.Reference8Ideal.nD Cert.Reference8Ideal.τ).loc Cert.Reference8Ideal.main_arg14) = m ((c.tc : Thread Cert.Reference8Ideal.nD Cert.Reference8Ideal.τ).loc Cert.Reference8Ideal.main_arg14)
      ∧ r.2.mem ((c.tc : Thread Cert.Reference8Ideal.nD Cert.Reference8Ideal.τ).loc Cert.Reference8Ideal.main_arg15) = m ((c.tc : Thread Cert.Reference8Ideal.nD Cert.Reference8Ideal.τ).loc Cert.Reference8Ideal.main_arg15)
      ∧ r.2.mem ((c.tc : Thread Cert.Reference8Ideal.nD Cert.Reference8Ideal.τ).loc Cert.Reference8Ideal.main_arg16) = m ((c.tc : Thread Cert.Reference8Ideal.nD Cert.Reference8Ideal.τ).loc Cert.Reference8Ideal.main_arg16)
      ∧ r.2.mem ((c.tc : Thread Cert.Reference8Ideal.nD Cert.Reference8Ideal.τ).loc Cert.Reference8Ideal.main_arg17) = m ((c.tc : Thread Cert.Reference8Ideal.nD Cert.Reference8Ideal.τ).loc Cert.Reference8Ideal.main_arg17)
      ∧ r.2.mem ((c.tc : Thread Cert.Reference8Ideal.nD Cert.Reference8Ideal.τ).loc Cert.Reference8Ideal.main_arg18) = m ((c.tc : Thread Cert.Reference8Ideal.nD Cert.Reference8Ideal.τ).loc Cert.Reference8Ideal.main_arg18)
      ∧ r.2.mem ((c.tc : Thread Cert.Reference8Ideal.nD Cert.Reference8Ideal.τ).loc Cert.Reference8Ideal.main_arg19) = m ((c.tc : Thread Cert.Reference8Ideal.nD Cert.Reference8Ideal.τ).loc Cert.Reference8Ideal.main_arg19))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11))
      ∧ r.2.sem = fun _ => 0)

def preserves_Kernel_KernelIdeal : Prop :=
  True

def algebraic_KernelIdeal_ReferenceIdeal_pre_gdn_finite [hKernelIdeal : Cert.KernelIdeal.Facts] [hReferenceIdeal : Cert.ReferenceIdeal.Facts] [hPre_gdn_finite : Cert.Pre_gdn_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gdn_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_gla_finite [hKernel2Ideal : Cert.Kernel2Ideal.Facts] [hReference2Ideal : Cert.Reference2Ideal.Facts] [hPre_gla_finite : Cert.Pre_gla_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_gla_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_merge_finite [hKernel4Ideal : Cert.Kernel4Ideal.Facts] [hReference4Ideal : Cert.Reference4Ideal.Facts] [hPre_merge_finite : Cert.Pre_merge_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_merge_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v17)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v87) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def preserves_Kernel5_Kernel5Ideal : Prop :=
  True

def algebraic_Kernel5Ideal_Reference5Ideal_pre_in_proj_finite [hKernel5Ideal : Cert.Kernel5Ideal.Facts] [hReference5Ideal : Cert.Reference5Ideal.Facts] [hPre_in_proj_finite : Cert.Pre_in_proj_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_in_proj_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v31_0)) (v1 : (c : Dev Cert.Kernel5Ideal.nD) → Buf (Elt Ideal) ((c.tc : Thread Cert.Kernel5Ideal.nD Cert.Kernel5Ideal.τ).loc Cert.Kernel5Ideal.main_v31_1)) (v2 : (c : Dev Cert.Kernel5Ideal.nD) → Buf (Elt Ideal) ((c.tc : Thread Cert.Kernel5Ideal.nD Cert.Kernel5Ideal.τ).loc Cert.Kernel5Ideal.main_v31_2)) (v3 : (c : Dev Cert.Kernel5Ideal.nD) → Buf (Elt Ideal) ((c.tc : Thread Cert.Kernel5Ideal.nD Cert.Kernel5Ideal.τ).loc Cert.Kernel5Ideal.main_v31_3)) (v4 : (c : Dev Cert.Kernel5Ideal.nD) → Buf (Elt Ideal) ((c.tc : Thread Cert.Kernel5Ideal.nD Cert.Kernel5Ideal.τ).loc Cert.Kernel5Ideal.main_v31_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v31_0) = v0 c
          ∧ r.2.mem ((c.tc : Thread Cert.Kernel5Ideal.nD Cert.Kernel5Ideal.τ).loc Cert.Kernel5Ideal.main_v31_1) = v1 c
          ∧ r.2.mem ((c.tc : Thread Cert.Kernel5Ideal.nD Cert.Kernel5Ideal.τ).loc Cert.Kernel5Ideal.main_v31_2) = v2 c
          ∧ r.2.mem ((c.tc : Thread Cert.Kernel5Ideal.nD Cert.Kernel5Ideal.τ).loc Cert.Kernel5Ideal.main_v31_3) = v3 c
          ∧ r.2.mem ((c.tc : Thread Cert.Kernel5Ideal.nD Cert.Kernel5Ideal.τ).loc Cert.Kernel5Ideal.main_v31_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v151) = v0 c
          ∧ r.2.mem ((c.tc : Thread Cert.Reference5Ideal.nD Cert.Reference5Ideal.τ).loc Cert.Reference5Ideal.main_v160) = v1 c
          ∧ r.2.mem ((c.tc : Thread Cert.Reference5Ideal.nD Cert.Reference5Ideal.τ).loc Cert.Reference5Ideal.main_v162) = v2 c
          ∧ r.2.mem ((c.tc : Thread Cert.Reference5Ideal.nD Cert.Reference5Ideal.τ).loc Cert.Reference5Ideal.main_v172) = v3 c
          ∧ r.2.mem ((c.tc : Thread Cert.Reference5Ideal.nD Cert.Reference5Ideal.τ).loc Cert.Reference5Ideal.main_v61) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v89_0)) (v1 : (c : Dev Cert.Kernel7Ideal.nD) → Buf (Elt Ideal) ((c.tc : Thread Cert.Kernel7Ideal.nD Cert.Kernel7Ideal.τ).loc Cert.Kernel7Ideal.main_v89_1)) (v2 : (c : Dev Cert.Kernel7Ideal.nD) → Buf (Elt Ideal) ((c.tc : Thread Cert.Kernel7Ideal.nD Cert.Kernel7Ideal.τ).loc Cert.Kernel7Ideal.main_v89_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v89_0) = v0 c
          ∧ r.2.mem ((c.tc : Thread Cert.Kernel7Ideal.nD Cert.Kernel7Ideal.τ).loc Cert.Kernel7Ideal.main_v89_1) = v1 c
          ∧ r.2.mem ((c.tc : Thread Cert.Kernel7Ideal.nD Cert.Kernel7Ideal.τ).loc Cert.Kernel7Ideal.main_v89_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v103) = v0 c
          ∧ r.2.mem ((c.tc : Thread Cert.Reference7Ideal.nD Cert.Reference7Ideal.τ).loc Cert.Reference7Ideal.main_v105) = v1 c
          ∧ r.2.mem ((c.tc : Thread Cert.Reference7Ideal.nD Cert.Reference7Ideal.τ).loc Cert.Reference7Ideal.main_v107) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def preserves_Kernel8_Kernel8Ideal : Prop :=
  True

def algebraic_Kernel8Ideal_Reference8Ideal_pre_prep_finite [hKernel8Ideal : Cert.Kernel8Ideal.Facts] [hReference8Ideal : Cert.Reference8Ideal.Facts] [hPre_prep_finite : Cert.Pre_prep_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_prep_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)
      ∧ m' ((c.tc : Thread Cert.Reference8Ideal.nD Cert.Reference8Ideal.τ).loc Cert.Reference8Ideal.main_arg14) = m ((c.tc : Thread Cert.Kernel8Ideal.nD Cert.Kernel8Ideal.τ).loc Cert.Kernel8Ideal.main_arg14)
      ∧ m' ((c.tc : Thread Cert.Reference8Ideal.nD Cert.Reference8Ideal.τ).loc Cert.Reference8Ideal.main_arg15) = m ((c.tc : Thread Cert.Kernel8Ideal.nD Cert.Kernel8Ideal.τ).loc Cert.Kernel8Ideal.main_arg15)
      ∧ m' ((c.tc : Thread Cert.Reference8Ideal.nD Cert.Reference8Ideal.τ).loc Cert.Reference8Ideal.main_arg16) = m ((c.tc : Thread Cert.Kernel8Ideal.nD Cert.Kernel8Ideal.τ).loc Cert.Kernel8Ideal.main_arg16)
      ∧ m' ((c.tc : Thread Cert.Reference8Ideal.nD Cert.Reference8Ideal.τ).loc Cert.Reference8Ideal.main_arg17) = m ((c.tc : Thread Cert.Kernel8Ideal.nD Cert.Kernel8Ideal.τ).loc Cert.Kernel8Ideal.main_arg17)
      ∧ m' ((c.tc : Thread Cert.Reference8Ideal.nD Cert.Reference8Ideal.τ).loc Cert.Reference8Ideal.main_arg18) = m ((c.tc : Thread Cert.Kernel8Ideal.nD Cert.Kernel8Ideal.τ).loc Cert.Kernel8Ideal.main_arg18)
      ∧ m' ((c.tc : Thread Cert.Reference8Ideal.nD Cert.Reference8Ideal.τ).loc Cert.Reference8Ideal.main_arg19) = m ((c.tc : Thread Cert.Kernel8Ideal.nD Cert.Kernel8Ideal.τ).loc Cert.Kernel8Ideal.main_arg19)) →
    ∃ (v0 : (c : Dev Cert.Kernel8Ideal.nD) → Buf (Elt Ideal) ((c.tc : Thread Cert.Kernel8Ideal.nD Cert.Kernel8Ideal.τ).loc Cert.Kernel8Ideal.main_v29_0)) (v1 : (c : Dev Cert.Kernel8Ideal.nD) → Buf (Elt Ideal) ((c.tc : Thread Cert.Kernel8Ideal.nD Cert.Kernel8Ideal.τ).loc Cert.Kernel8Ideal.main_v29_1)) (v2 : (c : Dev Cert.Kernel8Ideal.nD) → Buf (Elt Ideal) ((c.tc : Thread Cert.Kernel8Ideal.nD Cert.Kernel8Ideal.τ).loc Cert.Kernel8Ideal.main_v29_2)) (v3 : (c : Dev Cert.Kernel8Ideal.nD) → Buf (Elt Ideal) ((c.tc : Thread Cert.Kernel8Ideal.nD Cert.Kernel8Ideal.τ).loc Cert.Kernel8Ideal.main_v29_3)) (v4 : (c : Dev Cert.Kernel8Ideal.nD) → Buf (Elt Ideal) ((c.tc : Thread Cert.Kernel8Ideal.nD Cert.Kernel8Ideal.τ).loc Cert.Kernel8Ideal.main_v29_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v29_0) = v0 c
          ∧ r.2.mem ((c.tc : Thread Cert.Kernel8Ideal.nD Cert.Kernel8Ideal.τ).loc Cert.Kernel8Ideal.main_v29_1) = v1 c
          ∧ r.2.mem ((c.tc : Thread Cert.Kernel8Ideal.nD Cert.Kernel8Ideal.τ).loc Cert.Kernel8Ideal.main_v29_2) = v2 c
          ∧ r.2.mem ((c.tc : Thread Cert.Kernel8Ideal.nD Cert.Kernel8Ideal.τ).loc Cert.Kernel8Ideal.main_v29_3) = v3 c
          ∧ r.2.mem ((c.tc : Thread Cert.Kernel8Ideal.nD Cert.Kernel8Ideal.τ).loc Cert.Kernel8Ideal.main_v29_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
          ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
          ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15)
          ∧ r.2.mem ((c.tc : Thread Cert.Kernel8Ideal.nD Cert.Kernel8Ideal.τ).loc Cert.Kernel8Ideal.main_arg16) = m ((c.tc : Thread Cert.Kernel8Ideal.nD Cert.Kernel8Ideal.τ).loc Cert.Kernel8Ideal.main_arg16)
          ∧ r.2.mem ((c.tc : Thread Cert.Kernel8Ideal.nD Cert.Kernel8Ideal.τ).loc Cert.Kernel8Ideal.main_arg17) = m ((c.tc : Thread Cert.Kernel8Ideal.nD Cert.Kernel8Ideal.τ).loc Cert.Kernel8Ideal.main_arg17)
          ∧ r.2.mem ((c.tc : Thread Cert.Kernel8Ideal.nD Cert.Kernel8Ideal.τ).loc Cert.Kernel8Ideal.main_arg18) = m ((c.tc : Thread Cert.Kernel8Ideal.nD Cert.Kernel8Ideal.τ).loc Cert.Kernel8Ideal.main_arg18)
          ∧ r.2.mem ((c.tc : Thread Cert.Kernel8Ideal.nD Cert.Kernel8Ideal.τ).loc Cert.Kernel8Ideal.main_arg19) = m ((c.tc : Thread Cert.Kernel8Ideal.nD Cert.Kernel8Ideal.τ).loc Cert.Kernel8Ideal.main_arg19))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v119) = v0 c
          ∧ r.2.mem ((c.tc : Thread Cert.Reference8Ideal.nD Cert.Reference8Ideal.τ).loc Cert.Reference8Ideal.main_v126) = v1 c
          ∧ r.2.mem ((c.tc : Thread Cert.Reference8Ideal.nD Cert.Reference8Ideal.τ).loc Cert.Reference8Ideal.main_v141) = v2 c
          ∧ r.2.mem ((c.tc : Thread Cert.Reference8Ideal.nD Cert.Reference8Ideal.τ).loc Cert.Reference8Ideal.main_v157) = v3 c
          ∧ r.2.mem ((c.tc : Thread Cert.Reference8Ideal.nD Cert.Reference8Ideal.τ).loc Cert.Reference8Ideal.main_v158) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13)
          ∧ r.2.mem ((c.tc : Thread Cert.Reference8Ideal.nD Cert.Reference8Ideal.τ).loc Cert.Reference8Ideal.main_arg14) = m' ((c.tc : Thread Cert.Reference8Ideal.nD Cert.Reference8Ideal.τ).loc Cert.Reference8Ideal.main_arg14)
          ∧ r.2.mem ((c.tc : Thread Cert.Reference8Ideal.nD Cert.Reference8Ideal.τ).loc Cert.Reference8Ideal.main_arg15) = m' ((c.tc : Thread Cert.Reference8Ideal.nD Cert.Reference8Ideal.τ).loc Cert.Reference8Ideal.main_arg15)
          ∧ r.2.mem ((c.tc : Thread Cert.Reference8Ideal.nD Cert.Reference8Ideal.τ).loc Cert.Reference8Ideal.main_arg16) = m' ((c.tc : Thread Cert.Reference8Ideal.nD Cert.Reference8Ideal.τ).loc Cert.Reference8Ideal.main_arg16)
          ∧ r.2.mem ((c.tc : Thread Cert.Reference8Ideal.nD Cert.Reference8Ideal.τ).loc Cert.Reference8Ideal.main_arg17) = m' ((c.tc : Thread Cert.Reference8Ideal.nD Cert.Reference8Ideal.τ).loc Cert.Reference8Ideal.main_arg17)
          ∧ r.2.mem ((c.tc : Thread Cert.Reference8Ideal.nD Cert.Reference8Ideal.τ).loc Cert.Reference8Ideal.main_arg18) = m' ((c.tc : Thread Cert.Reference8Ideal.nD Cert.Reference8Ideal.τ).loc Cert.Reference8Ideal.main_arg18)
          ∧ r.2.mem ((c.tc : Thread Cert.Reference8Ideal.nD Cert.Reference8Ideal.τ).loc Cert.Reference8Ideal.main_arg19) = m' ((c.tc : Thread Cert.Reference8Ideal.nD Cert.Reference8Ideal.τ).loc Cert.Reference8Ideal.main_arg19))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)) →
    ∃ (v0 : (c : Dev Cert.Kernel9Ideal.nD) → Buf (Elt Ideal) ((c.tc : Thread Cert.Kernel9Ideal.nD Cert.Kernel9Ideal.τ).loc Cert.Kernel9Ideal.main_v90_1)) (v1 : (c : Dev Cert.Kernel9Ideal.nD) → Buf (Elt Ideal) ((c.tc : Thread Cert.Kernel9Ideal.nD Cert.Kernel9Ideal.τ).loc Cert.Kernel9Ideal.main_v90_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v90_1) = v0 c
          ∧ r.2.mem ((c.tc : Thread Cert.Kernel9Ideal.nD Cert.Kernel9Ideal.τ).loc Cert.Kernel9Ideal.main_v90_2) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v59_0) = v0 c
          ∧ r.2.mem ((c.tc : Thread Cert.Reference9Ideal.nD Cert.Reference9Ideal.τ).loc Cert.Reference9Ideal.main_v59_1) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_gdn_finite : Cert.Pre_gdn_finite.Facts) (hPre_gla_finite : Cert.Pre_gla_finite.Facts) (hPre_merge_finite : Cert.Pre_merge_finite.Facts) (hPre_in_proj_finite : Cert.Pre_in_proj_finite.Facts) (hPre_prep_finite : Cert.Pre_prep_finite.Facts),
    quiescent_Kernel (hKernel := hKernel)
    ∧ quiescent_KernelIdeal (hKernelIdeal := hKernelIdeal)
    ∧ quiescent_KernelIdeal_pre_gdn_finite (hKernelIdeal := hKernelIdeal) (hPre_gdn_finite := hPre_gdn_finite)
    ∧ quiescent_ReferenceIdeal (hReferenceIdeal := hReferenceIdeal)
    ∧ quiescent_ReferenceIdeal_pre_gdn_finite (hReferenceIdeal := hReferenceIdeal) (hPre_gdn_finite := hPre_gdn_finite)
    ∧ quiescent_Kernel2 (hKernel2 := hKernel2)
    ∧ quiescent_Kernel2Ideal (hKernel2Ideal := hKernel2Ideal)
    ∧ quiescent_Kernel2Ideal_pre_gla_finite (hKernel2Ideal := hKernel2Ideal) (hPre_gla_finite := hPre_gla_finite)
    ∧ quiescent_Reference2Ideal (hReference2Ideal := hReference2Ideal)
    ∧ quiescent_Reference2Ideal_pre_gla_finite (hReference2Ideal := hReference2Ideal) (hPre_gla_finite := hPre_gla_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_merge_finite (hKernel4Ideal := hKernel4Ideal) (hPre_merge_finite := hPre_merge_finite)
    ∧ quiescent_Reference4Ideal (hReference4Ideal := hReference4Ideal)
    ∧ quiescent_Reference4Ideal_pre_merge_finite (hReference4Ideal := hReference4Ideal) (hPre_merge_finite := hPre_merge_finite)
    ∧ quiescent_Kernel5 (hKernel5 := hKernel5)
    ∧ quiescent_Kernel5Ideal (hKernel5Ideal := hKernel5Ideal)
    ∧ quiescent_Kernel5Ideal_pre_in_proj_finite (hKernel5Ideal := hKernel5Ideal) (hPre_in_proj_finite := hPre_in_proj_finite)
    ∧ quiescent_Reference5Ideal (hReference5Ideal := hReference5Ideal)
    ∧ quiescent_Reference5Ideal_pre_in_proj_finite (hReference5Ideal := hReference5Ideal) (hPre_in_proj_finite := hPre_in_proj_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_prep_finite (hKernel8Ideal := hKernel8Ideal) (hPre_prep_finite := hPre_prep_finite)
    ∧ quiescent_Reference8Ideal (hReference8Ideal := hReference8Ideal)
    ∧ quiescent_Reference8Ideal_pre_prep_finite (hReference8Ideal := hReference8Ideal) (hPre_prep_finite := hPre_prep_finite)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_gdn_finite (hKernelIdeal := hKernelIdeal) (hReferenceIdeal := hReferenceIdeal) (hPre_gdn_finite := hPre_gdn_finite)
    ∧ preserves_Kernel2_Kernel2Ideal
    ∧ algebraic_Kernel2Ideal_Reference2Ideal_pre_gla_finite (hKernel2Ideal := hKernel2Ideal) (hReference2Ideal := hReference2Ideal) (hPre_gla_finite := hPre_gla_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_merge_finite (hKernel4Ideal := hKernel4Ideal) (hReference4Ideal := hReference4Ideal) (hPre_merge_finite := hPre_merge_finite)
    ∧ preserves_Kernel5_Kernel5Ideal
    ∧ algebraic_Kernel5Ideal_Reference5Ideal_pre_in_proj_finite (hKernel5Ideal := hKernel5Ideal) (hReference5Ideal := hReference5Ideal) (hPre_in_proj_finite := hPre_in_proj_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_prep_finite (hKernel8Ideal := hKernel8Ideal) (hReference8Ideal := hReference8Ideal) (hPre_prep_finite := hPre_prep_finite)
    ∧ preserves_Kernel9_Kernel9Ideal
    ∧ algebraic_Kernel9Ideal_Reference9Ideal (hKernel9Ideal := hKernel9Ideal) (hReference9Ideal := hReference9Ideal)
-- ==== Pre_gdn_finite.lean ====
abbrev S128x4x1x64 : Shape := ⟨4, ![128, 4, 1, 64]⟩
abbrev S128x4x1 : Shape := ⟨3, ![128, 4, 1]⟩
abbrev S128x4x64x64 : Shape := ⟨4, ![128, 4, 64, 64]⟩
abbrev S_ : Shape := ⟨0, ![]⟩

class Facts : Prop where
  bcast_S_S128x4x1x64 : S_.BroadcastsInDim S128x4x1x64 (![] : Fin 0 → Fin S128x4x1x64.rank)
  reducesTo_S128x4x1x64_S_d0_1_2_3 : S128x4x1x64.ReducesTo [0, 1, 2, 3] S_
  h_S_ : 0 < S_.numel
  bcast_S_S128x4x1 : S_.BroadcastsInDim S128x4x1 (![] : Fin 0 → Fin S128x4x1.rank)
  reducesTo_S128x4x1_S_d0_1_2 : S128x4x1.ReducesTo [0, 1, 2] S_
  bcast_S_S128x4x64x64 : S_.BroadcastsInDim S128x4x64x64 (![] : Fin 0 → Fin S128x4x64x64.rank)
  reducesTo_S128x4x64x64_S_d0_1_2_3 : S128x4x64x64.ReducesTo [0, 1, 2, 3] S_

variable [Facts]

def fn_part1 {F : FTy → Type} [FloatOps F] (main_arg4 : FVec F S128x4x1 .f32) (main_arg5 : FVec F S128x4x64x64 .f32) (main_v13 : IVec S_ 1) (main_v16 : IVec S128x4x1 1) : IVec S_ 1 :=
  let main_c_5 : IVec S_ 1 := constantI S_ 1 1#1
  let main_v17 : IVec S_ 1 := (fun x v => Host.reduce IntOp.andi x v reducesTo_S128x4x1_S_d0_1_2 h_S_) main_v16 main_c_5
  let main_v18 : IVec S_ 1 := andi main_v13 main_v17
  let main_v19 : FVec F S128x4x1 .f32 := Host.absf main_arg4
  let main_cst_6 : FVec F S_ .f32 := constant S_ .f32 0x7F800000#32
  let main_v20 : FVec F S128x4x1 .f32 := broadcastInDim S128x4x1 ![] bcast_S_S128x4x1 main_cst_6
  let main_v21 : IVec S128x4x1 1 := cmpf .olt main_v19 main_v20
  let main_c_7 : IVec S_ 1 := constantI S_ 1 1#1
  let main_v22 : IVec S_ 1 := (fun x v => Host.reduce IntOp.andi x v reducesTo_S128x4x1_S_d0_1_2 h_S_) main_v21 main_c_7
  let main_v23 : IVec S_ 1 := andi main_v18 main_v22
  let main_v24 : FVec F S128x4x64x64 .f32 := Host.absf main_arg5
  let main_cst_8 : FVec F S_ .f32 := constant S_ .f32 0x7F800000#32
  let main_v25 : FVec F S128x4x64x64 .f32 := broadcastInDim S128x4x64x64 ![] bcast_S_S128x4x64x64 main_cst_8
  let main_v26 : IVec S128x4x64x64 1 := cmpf .olt main_v24 main_v25
  let main_c_9 : IVec S_ 1 := constantI S_ 1 1#1
  let main_v27 : IVec S_ 1 := (fun x v => Host.reduce IntOp.andi x v reducesTo_S128x4x64x64_S_d0_1_2_3 h_S_) main_v26 main_c_9
  let main_v28 : IVec S_ 1 := andi main_v23 main_v27
  main_v28

def fn {F : FTy → Type} [FloatOps F] (main_arg0 : FVec F S128x4x1x64 .f32) (main_arg1 : FVec F S128x4x1x64 .f32) (main_arg2 : FVec F S128x4x1x64 .f32) (main_arg3 : FVec F S128x4x1 .f32) (main_arg4 : FVec F S128x4x1 .f32) (main_arg5 : FVec F S128x4x64x64 .f32) : IVec S_ 1 :=
  let main_v0 : FVec F S128x4x1x64 .f32 := Host.absf main_arg0
  let main_cst : FVec F S_ .f32 := constant S_ .f32 0x7F800000#32
  let main_v1 : FVec F S128x4x1x64 .f32 := broadcastInDim S128x4x1x64 ![] bcast_S_S128x4x1x64 main_cst
  let main_v2 : IVec S128x4x1x64 1 := cmpf .olt main_v0 main_v1
  let main_c : IVec S_ 1 := constantI S_ 1 1#1
  let main_v3 : IVec S_ 1 := (fun x v => Host.reduce IntOp.andi x v reducesTo_S128x4x1x64_S_d0_1_2_3 h_S_) main_v2 main_c
  let main_v4 : FVec F S128x4x1x64 .f32 := Host.absf main_arg1
  let main_cst_0 : FVec F S_ .f32 := constant S_ .f32 0x7F800000#32
  let main_v5 : FVec F S128x4x1x64 .f32 := broadcastInDim S128x4x1x64 ![] bcast_S_S128x4x1x64 main_cst_0
  let main_v6 : IVec S128x4x1x64 1 := cmpf .olt main_v4 main_v5
  let main_c_1 : IVec S_ 1 := constantI S_ 1 1#1
  let main_v7 : IVec S_ 1 := (fun x v => Host.reduce IntOp.andi x v reducesTo_S128x4x1x64_S_d0_1_2_3 h_S_) main_v6 main_c_1
  let main_v8 : IVec S_ 1 := andi main_v3 main_v7
  let main_v9 : FVec F S128x4x1x64 .f32 := Host.absf main_arg2
  let main_cst_2 : FVec F S_ .f32 := constant S_ .f32 0x7F800000#32
  let main_v10 : FVec F S128x4x1x64 .f32 := broadcastInDim S128x4x1x64 ![] bcast_S_S128x4x1x64 main_cst_2
  let main_v11 : IVec S128x4x1x64 1 := cmpf .olt main_v9 main_v10
  let main_c_3 : IVec S_ 1 := constantI S_ 1 1#1
  let main_v12 : IVec S_ 1 := (fun x v => Host.reduce IntOp.andi x v reducesTo_S128x4x1x64_S_d0_1_2_3 h_S_) main_v11 main_c_3
  let main_v13 : IVec S_ 1 := andi main_v8 main_v12
  let main_v14 : FVec F S128x4x1 .f32 := Host.absf main_arg3
  let main_cst_4 : FVec F S_ .f32 := constant S_ .f32 0x7F800000#32
  let main_v15 : FVec F S128x4x1 .f32 := broadcastInDim S128x4x1 ![] bcast_S_S128x4x1 main_cst_4
  let main_v16 : IVec S128x4x1 1 := cmpf .olt main_v14 main_v15
  fn_part1 (F := F) main_arg4 main_arg5 main_v13 main_v16
-- ==== Pre_gla_finite.lean ====
abbrev S128x4x1x64 : Shape := ⟨4, ![128, 4, 1, 64]⟩
abbrev S128x4x64x64 : Shape := ⟨4, ![128, 4, 64, 64]⟩
abbrev S_ : Shape := ⟨0, ![]⟩

class Facts : Prop where
  bcast_S_S128x4x1x64 : S_.BroadcastsInDim S128x4x1x64 (![] : Fin 0 → Fin S128x4x1x64.rank)
  reducesTo_S128x4x1x64_S_d0_1_2_3 : S128x4x1x64.ReducesTo [0, 1, 2, 3] S_
  h_S_ : 0 < S_.numel
  bcast_S_S128x4x64x64 : S_.BroadcastsInDim S128x4x64x64 (![] : Fin 0 → Fin S128x4x64x64.rank)
  reducesTo_S128x4x64x64_S_d0_1_2_3 : S128x4x64x64.ReducesTo [0, 1, 2, 3] S_

variable [Facts]

def fn_part1 {F : FTy → Type} [FloatOps F] (main_arg4 : FVec F S128x4x64x64 .f32) (main_v13 : IVec S_ 1) (main_v16 : IVec S128x4x1x64 1) : IVec S_ 1 :=
  let main_c_5 : IVec S_ 1 := constantI S_ 1 1#1
  let main_v17 : IVec S_ 1 := (fun x v => Host.reduce IntOp.andi x v reducesTo_S128x4x1x64_S_d0_1_2_3 h_S_) main_v16 main_c_5
  let main_v18 : IVec S_ 1 := andi main_v13 main_v17
  let main_v19 : FVec F S128x4x64x64 .f32 := Host.absf main_arg4
  let main_cst_6 : FVec F S_ .f32 := constant S_ .f32 0x7F800000#32
  let main_v20 : FVec F S128x4x64x64 .f32 := broadcastInDim S128x4x64x64 ![] bcast_S_S128x4x64x64 main_cst_6
  let main_v21 : IVec S128x4x64x64 1 := cmpf .olt main_v19 main_v20
  let main_c_7 : IVec S_ 1 := constantI S_ 1 1#1
  let main_v22 : IVec S_ 1 := (fun x v => Host.reduce IntOp.andi x v reducesTo_S128x4x64x64_S_d0_1_2_3 h_S_) main_v21 main_c_7
  let main_v23 : IVec S_ 1 := andi main_v18 main_v22
  main_v23

def fn {F : FTy → Type} [FloatOps F] (main_arg0 : FVec F S128x4x1x64 .f32) (main_arg1 : FVec F S128x4x1x64 .f32) (main_arg2 : FVec F S128x4x1x64 .f32) (main_arg3 : FVec F S128x4x1x64 .f32) (main_arg4 : FVec F S128x4x64x64 .f32) : IVec S_ 1 :=
  let main_v0 : FVec F S128x4x1x64 .f32 := Host.absf main_arg0
  let main_cst : FVec F S_ .f32 := constant S_ .f32 0x7F800000#32
  let main_v1 : FVec F S128x4x1x64 .f32 := broadcastInDim S128x4x1x64 ![] bcast_S_S128x4x1x64 main_cst
  let main_v2 : IVec S128x4x1x64 1 := cmpf .olt main_v0 main_v1
  let main_c : IVec S_ 1 := constantI S_ 1 1#1
  let main_v3 : IVec S_ 1 := (fun x v => Host.reduce IntOp.andi x v reducesTo_S128x4x1x64_S_d0_1_2_3 h_S_) main_v2 main_c
  let main_v4 : FVec F S128x4x1x64 .f32 := Host.absf main_arg1
  let main_cst_0 : FVec F S_ .f32 := constant S_ .f32 0x7F800000#32
  let main_v5 : FVec F S128x4x1x64 .f32 := broadcastInDim S128x4x1x64 ![] bcast_S_S128x4x1x64 main_cst_0
  let main_v6 : IVec S128x4x1x64 1 := cmpf .olt main_v4 main_v5
  let main_c_1 : IVec S_ 1 := constantI S_ 1 1#1
  let main_v7 : IVec S_ 1 := (fun x v => Host.reduce IntOp.andi x v reducesTo_S128x4x1x64_S_d0_1_2_3 h_S_) main_v6 main_c_1
  let main_v8 : IVec S_ 1 := andi main_v3 main_v7
  let main_v9 : FVec F S128x4x1x64 .f32 := Host.absf main_arg2
  let main_cst_2 : FVec F S_ .f32 := constant S_ .f32 0x7F800000#32
  let main_v10 : FVec F S128x4x1x64 .f32 := broadcastInDim S128x4x1x64 ![] bcast_S_S128x4x1x64 main_cst_2
  let main_v11 : IVec S128x4x1x64 1 := cmpf .olt main_v9 main_v10
  let main_c_3 : IVec S_ 1 := constantI S_ 1 1#1
  let main_v12 : IVec S_ 1 := (fun x v => Host.reduce IntOp.andi x v reducesTo_S128x4x1x64_S_d0_1_2_3 h_S_) main_v11 main_c_3
  let main_v13 : IVec S_ 1 := andi main_v8 main_v12
  let main_v14 : FVec F S128x4x1x64 .f32 := Host.absf main_arg3
  let main_cst_4 : FVec F S_ .f32 := constant S_ .f32 0x7F800000#32
  let main_v15 : FVec F S128x4x1x64 .f32 := broadcastInDim S128x4x1x64 ![] bcast_S_S128x4x1x64 main_cst_4
  let main_v16 : IVec S128x4x1x64 1 := cmpf .olt main_v14 main_v15
  fn_part1 (F := F) main_arg4 main_v13 main_v16
-- ==== Pre_in_proj_finite.lean ====
abbrev S8x2048x1024 : Shape := ⟨3, ![8, 2048, 1024]⟩
abbrev S1024 : Shape := ⟨1, ![1024]⟩
abbrev S1024x7448 : Shape := ⟨2, ![1024, 7448]⟩
abbrev S4x768 : Shape := ⟨2, ![4, 768]⟩
abbrev S4 : Shape := ⟨1, ![4]⟩
abbrev S16x256 : Shape := ⟨2, ![16, 256]⟩
abbrev S256 : Shape := ⟨1, ![256]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x7448 : S_.BroadcastsInDim S1024x7448 (![] : Fin 0 → Fin S1024x7448.rank)
  reducesTo_S1024x7448_S_d0_1 : S1024x7448.ReducesTo [0, 1] S_
  bcast_S_S4x768 : S_.BroadcastsInDim S4x768 (![] : Fin 0 → Fin S4x768.rank)
  reducesTo_S4x768_S_d0_1 : S4x768.ReducesTo [0, 1] S_

variable [Facts]

def fn_part1 {F : FTy → Type} [FloatOps F] (main_v13 : IVec S_ 1) (main_v16 : IVec S4x768 1) : IVec S_ 1 :=
  let main_c_5 : IVec S_ 1 := constantI S_ 1 1#1
  let main_v17 : IVec S_ 1 := (fun x v => Host.reduce IntOp.andi x v reducesTo_S4x768_S_d0_1 h_S_) main_v16 main_c_5
  let main_v18 : IVec S_ 1 := andi main_v13 main_v17
  main_v18

def fn {F : FTy → Type} [FloatOps F] (main_arg0 : FVec F S8x2048x1024 .f32) (main_arg1 : FVec F S1024 .f32) (main_arg2 : FVec F S1024x7448 .f32) (main_arg3 : FVec F S4x768 .f32) (main_arg4 : FVec F S4 .f32) (main_arg5 : FVec F S4 .f32) (main_arg6 : FVec F S16x256 .f32) (main_arg7 : FVec F S256 .f32) (main_arg8 : FVec F S256 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x7448 .f32 := Host.absf main_arg2
  let main_cst_2 : FVec F S_ .f32 := constant S_ .f32 0x7F800000#32
  let main_v10 : FVec F S1024x7448 .f32 := broadcastInDim S1024x7448 ![] bcast_S_S1024x7448 main_cst_2
  let main_v11 : IVec S1024x7448 1 := cmpf .olt main_v9 main_v10
  let main_c_3 : IVec S_ 1 := constantI S_ 1 1#1
  let main_v12 : IVec S_ 1 := (fun x v => Host.reduce IntOp.andi x v reducesTo_S1024x7448_S_d0_1 h_S_) main_v11 main_c_3
  let main_v13 : IVec S_ 1 := andi main_v8 main_v12
  let main_v14 : FVec F S4x768 .f32 := Host.absf main_arg3
  let main_cst_4 : FVec F S_ .f32 := constant S_ .f32 0x7F800000#32
  let main_v15 : FVec F S4x768 .f32 := broadcastInDim S4x768 ![] bcast_S_S4x768 main_cst_4
  let main_v16 : IVec S4x768 1 := cmpf .olt main_v14 main_v15
  fn_part1 (F := F) main_v13 main_v16
-- ==== Pre_merge_finite.lean ====
abbrev S8x2048x1024 : Shape := ⟨3, ![8, 2048, 1024]⟩
abbrev S8x4x2048x64 : Shape := ⟨4, ![8, 4, 2048, 64]⟩
abbrev S8x2048x256 : Shape := ⟨3, ![8, 2048, 256]⟩
abbrev S16384x1536 : Shape := ⟨2, ![16384, 1536]⟩
abbrev S16384x1280 : Shape := ⟨2, ![16384, 1280]⟩
abbrev S256 : Shape := ⟨1, ![256]⟩
abbrev S1024 : Shape := ⟨1, ![1024]⟩
abbrev S1024x7448 : Shape := ⟨2, ![1024, 7448]⟩
abbrev S4x256x1024 : Shape := ⟨3, ![4, 256, 1024]⟩
abbrev S1024x1024 : Shape := ⟨2, ![1024, 1024]⟩
abbrev S_ : Shape := ⟨0, ![]⟩

class Facts : Prop where
  bcast_S_S8x4x2048x64 : S_.BroadcastsInDim S8x4x2048x64 (![] : Fin 0 → Fin S8x4x2048x64.rank)
  reducesTo_S8x4x2048x64_S_d0_1_2_3 : S8x4x2048x64.ReducesTo [0, 1, 2, 3] S_
  h_S_ : 0 < S_.numel

variable [Facts]

def fn {F : FTy → Type} [FloatOps F] (main_arg0 : FVec F S8x2048x1024 .f32) (main_arg1 : FVec F S8x4x2048x64 .f32) (main_arg2 : FVec F S8x4x2048x64 .f32) (main_arg3 : FVec F S8x2048x256 .f32) (main_arg4 : FVec F S8x4x2048x64 .f32) (main_arg5 : FVec F S16384x1536 .f32) (main_arg6 : FVec F S16384x1280 .f32) (main_arg7 : FVec F S16384x1280 .f32) (main_arg8 : FVec F S256 .f32) (main_arg9 : FVec F S256 .f32) (main_arg10 : FVec F S256 .f32) (main_arg11 : FVec F S1024 .f32) (main_arg12 : FVec F S1024x7448 .f32) (main_arg13 : FVec F S4x256x1024 .f32) (main_arg14 : FVec F S1024x1024 .f32) : IVec S_ 1 :=
  let main_v0 : FVec F S8x4x2048x64 .f32 := Host.absf main_arg1
  let main_cst : FVec F S_ .f32 := constant S_ .f32 0x7F800000#32
  let main_v1 : FVec F S8x4x2048x64 .f32 := broadcastInDim S8x4x2048x64 ![] bcast_S_S8x4x2048x64 main_cst
  let main_v2 : IVec S8x4x2048x64 1 := cmpf .olt main_v0 main_v1
  let main_c : IVec S_ 1 := constantI S_ 1 1#1
  let main_v3 : IVec S_ 1 := (fun x v => Host.reduce IntOp.andi x v reducesTo_S8x4x2048x64_S_d0_1_2_3 h_S_) main_v2 main_c
  let main_v4 : FVec F S8x4x2048x64 .f32 := Host.absf main_arg2
  let main_cst_0 : FVec F S_ .f32 := constant S_ .f32 0x7F800000#32
  let main_v5 : FVec F S8x4x2048x64 .f32 := broadcastInDim S8x4x2048x64 ![] bcast_S_S8x4x2048x64 main_cst_0
  let main_v6 : IVec S8x4x2048x64 1 := cmpf .olt main_v4 main_v5
  let main_c_1 : IVec S_ 1 := constantI S_ 1 1#1
  let main_v7 : IVec S_ 1 := (fun x v => Host.reduce IntOp.andi x v reducesTo_S8x4x2048x64_S_d0_1_2_3 h_S_) main_v6 main_c_1
  let main_v8 : IVec S_ 1 := andi main_v3 main_v7
  let main_v9 : FVec F S8x4x2048x64 .f32 := Host.absf main_arg4
  let main_cst_2 : FVec F S_ .f32 := constant S_ .f32 0x7F800000#32
  let main_v10 : FVec F S8x4x2048x64 .f32 := broadcastInDim S8x4x2048x64 ![] bcast_S_S8x4x2048x64 main_cst_2
  let main_v11 : IVec S8x4x2048x64 1 := cmpf .olt main_v9 main_v10
  let main_c_3 : IVec S_ 1 := constantI S_ 1 1#1
  let main_v12 : IVec S_ 1 := (fun x v => Host.reduce IntOp.andi x v reducesTo_S8x4x2048x64_S_d0_1_2_3 h_S_) main_v11 main_c_3
  let main_v13 : IVec S_ 1 := andi main_v8 main_v12
  main_v13
-- ==== Pre_prep_finite.lean ====
abbrev S128x1x768 : Shape := ⟨3, ![128, 1, 768]⟩
abbrev S128x1x4 : Shape := ⟨3, ![128, 1, 4]⟩
abbrev S128x1x256 : Shape := ⟨3, ![128, 1, 256]⟩
abbrev S128x1x16 : Shape := ⟨3, ![128, 1, 16]⟩
abbrev S128x3x768 : Shape := ⟨3, ![128, 3, 768]⟩
abbrev S4x768 : Shape := ⟨2, ![4, 768]⟩
abbrev S4 : Shape := ⟨1, ![4]⟩
abbrev S16x256 : Shape := ⟨2, ![16, 256]⟩
abbrev S256 : Shape := ⟨1, ![256]⟩
abbrev S_ : Shape := ⟨0, ![]⟩

class Facts : Prop where
  bcast_S_S128x1x768 : S_.BroadcastsInDim S128x1x768 (![] : Fin 0 → Fin S128x1x768.rank)
  reducesTo_S128x1x768_S_d0_1_2 : S128x1x768.ReducesTo [0, 1, 2] S_
  h_S_ : 0 < S_.numel
  bcast_S_S128x1x4 : S_.BroadcastsInDim S128x1x4 (![] : Fin 0 → Fin S128x1x4.rank)
  reducesTo_S128x1x4_S_d0_1_2 : S128x1x4.ReducesTo [0, 1, 2] S_
  bcast_S_S128x1x256 : S_.BroadcastsInDim S128x1x256 (![] : Fin 0 → Fin S128x1x256.rank)
  reducesTo_S128x1x256_S_d0_1_2 : S128x1x256.ReducesTo [0, 1, 2] S_
  bcast_S_S128x3x768 : S_.BroadcastsInDim S128x3x768 (![] : Fin 0 → Fin S128x3x768.rank)
  reducesTo_S128x3x768_S_d0_1_2 : S128x3x768.ReducesTo [0, 1, 2] S_
  bcast_S_S4x768 : S_.BroadcastsInDim S4x768 (![] : Fin 0 → Fin S4x768.rank)
  reducesTo_S4x768_S_d0_1 : S4x768.ReducesTo [0, 1] S_

variable [Facts]

def fn_part1 {F : FTy → Type} [FloatOps F] (main_arg13 : FVec F S128x3x768 .f32) (main_arg14 : FVec F S4x768 .f32) (main_v13 : IVec S_ 1) (main_v16 : IVec S128x1x256 1) : IVec S_ 1 :=
  let main_c_5 : IVec S_ 1 := constantI S_ 1 1#1
  let main_v17 : IVec S_ 1 := (fun x v => Host.reduce IntOp.andi x v reducesTo_S128x1x256_S_d0_1_2 h_S_) main_v16 main_c_5
  let main_v18 : IVec S_ 1 := andi main_v13 main_v17
  let main_v19 : FVec F S128x3x768 .f32 := Host.absf main_arg13
  let main_cst_6 : FVec F S_ .f32 := constant S_ .f32 0x7F800000#32
  let main_v20 : FVec F S128x3x768 .f32 := broadcastInDim S128x3x768 ![] bcast_S_S128x3x768 main_cst_6
  let main_v21 : IVec S128x3x768 1 := cmpf .olt main_v19 main_v20
  let main_c_7 : IVec S_ 1 := constantI S_ 1 1#1
  let main_v22 : IVec S_ 1 := (fun x v => Host.reduce IntOp.andi x v reducesTo_S128x3x768_S_d0_1_2 h_S_) main_v21 main_c_7
  let main_v23 : IVec S_ 1 := andi main_v18 main_v22
  let main_v24 : FVec F S4x768 .f32 := Host.absf main_arg14
  let main_cst_8 : FVec F S_ .f32 := constant S_ .f32 0x7F800000#32
  let main_v25 : FVec F S4x768 .f32 := broadcastInDim S4x768 ![] bcast_S_S4x768 main_cst_8
  let main_v26 : IVec S4x768 1 := cmpf .olt main_v24 main_v25
  let main_c_9 : IVec S_ 1 := constantI S_ 1 1#1
  let main_v27 : IVec S_ 1 := (fun x v => Host.reduce IntOp.andi x v reducesTo_S4x768_S_d0_1 h_S_) main_v26 main_c_9
  let main_v28 : IVec S_ 1 := andi main_v23 main_v27
  main_v28

def fn {F : FTy → Type} [FloatOps F] (main_arg0 : FVec F S128x1x768 .f32) (main_arg1 : FVec F S128x1x4 .f32) (main_arg2 : FVec F S128x1x4 .f32) (main_arg3 : FVec F S128x1x256 .f32) (main_arg4 : FVec F S128x1x256 .f32) (main_arg5 : FVec F S128x1x256 .f32) (main_arg6 : FVec F S128x1x256 .f32) (main_arg7 : FVec F S128x1x16 .f32) (main_arg8 : FVec F S128x1x256 .f32) (main_arg9 : FVec F S128x1x256 .f32) (main_arg10 : FVec F S128x1x256 .f32) (main_arg11 : FVec F S128x1x256 .f32) (main_arg12 : FVec F S128x1x256 .f32) (main_arg13 : FVec F S128x3x768 .f32) (main_arg14 : FVec F S4x768 .f32) (main_arg15 : FVec F S4 .f32) (main_arg16 : FVec F S4 .f32) (main_arg17 : FVec F S16x256 .f32) (main_arg18 : FVec F S256 .f32) (main_arg19 : FVec F S256 .f32) : IVec S_ 1 :=
  let main_v0 : FVec F S128x1x768 .f32 := Host.absf main_arg0
  let main_cst : FVec F S_ .f32 := constant S_ .f32 0x7F800000#32
  let main_v1 : FVec F S128x1x768 .f32 := broadcastInDim S128x1x768 ![] bcast_S_S128x1x768 main_cst
  let main_v2 : IVec S128x1x768 1 := cmpf .olt main_v0 main_v1
  let main_c : IVec S_ 1 := constantI S_ 1 1#1
  let main_v3 : IVec S_ 1 := (fun x v => Host.reduce IntOp.andi x v reducesTo_S128x1x768_S_d0_1_2 h_S_) main_v2 main_c
  let main_v4 : FVec F S128x1x4 .f32 := Host.absf main_arg1
  let main_cst_0 : FVec F S_ .f32 := constant S_ .f32 0x7F800000#32
  let main_v5 : FVec F S128x1x4 .f32 := broadcastInDim S128x1x4 ![] bcast_S_S128x1x4 main_cst_0
  let main_v6 : IVec S128x1x4 1 := cmpf .olt main_v4 main_v5
  let main_c_1 : IVec S_ 1 := constantI S_ 1 1#1
  let main_v7 : IVec S_ 1 := (fun x v => Host.reduce IntOp.andi x v reducesTo_S128x1x4_S_d0_1_2 h_S_) main_v6 main_c_1
  let main_v8 : IVec S_ 1 := andi main_v3 main_v7
  let main_v9 : FVec F S128x1x4 .f32 := Host.absf main_arg2
  let main_cst_2 : FVec F S_ .f32 := constant S_ .f32 0x7F800000#32
  let main_v10 : FVec F S128x1x4 .f32 := broadcastInDim S128x1x4 ![] bcast_S_S128x1x4 main_cst_2
  let main_v11 : IVec S128x1x4 1 := cmpf .olt main_v9 main_v10
  let main_c_3 : IVec S_ 1 := constantI S_ 1 1#1
  let main_v12 : IVec S_ 1 := (fun x v => Host.reduce IntOp.andi x v reducesTo_S128x1x4_S_d0_1_2 h_S_) main_v11 main_c_3
  let main_v13 : IVec S_ 1 := andi main_v8 main_v12
  let main_v14 : FVec F S128x1x256 .f32 := Host.absf main_arg10
  let main_cst_4 : FVec F S_ .f32 := constant S_ .f32 0x7F800000#32
  let main_v15 : FVec F S128x1x256 .f32 := broadcastInDim S128x1x256 ![] bcast_S_S128x1x256 main_cst_4
  let main_v16 : IVec S128x1x256 1 := cmpf .olt main_v14 main_v15
  fn_part1 (F := F) main_arg13 main_arg14 main_v13 main_v16
-- ==== Kernel.lean ====
abbrev S128x4x1x64 : Shape := ⟨4, ![128, 4, 1, 64]⟩
abbrev S128x4x1 : Shape := ⟨3, ![128, 4, 1]⟩
abbrev S128x4x64x64 : Shape := ⟨4, ![128, 4, 64, 64]⟩
abbrev S128x4x64 : Shape := ⟨3, ![128, 4, 64]⟩
abbrev S4x128x64 : Shape := ⟨3, ![4, 128, 64]⟩
abbrev S1x4x128x64 : Shape := ⟨4, ![1, 4, 128, 64]⟩
abbrev S3x4x128x64 : Shape := ⟨4, ![3, 4, 128, 64]⟩
abbrev S4x128x1 : Shape := ⟨3, ![4, 128, 1]⟩
abbrev S1x4x128x1 : Shape := ⟨4, ![1, 4, 128, 1]⟩
abbrev S2x4x128x1 : Shape := ⟨4, ![2, 4, 128, 1]⟩
abbrev S128x16384 : Shape := ⟨2, ![128, 16384]⟩
abbrev S1x1x128x64 : Shape := ⟨4, ![1, 1, 128, 64]⟩
abbrev S1x1x128x1 : Shape := ⟨4, ![1, 1, 128, 1]⟩
abbrev S128x4096 : Shape := ⟨2, ![128, 4096]⟩
abbrev S1x128x64 : Shape := ⟨3, ![1, 128, 64]⟩
abbrev S64x4096 : Shape := ⟨2, ![64, 4096]⟩
abbrev S128x64 : Shape := ⟨2, ![128, 64]⟩
abbrev S128x1 : Shape := ⟨2, ![128, 1]⟩
abbrev S128 : Shape := ⟨1, ![128]⟩

abbrev nBuf : Space → Nat
  | .hbm => 24
  | .vmem => 16
  | .smem => 0
  | _ => 0

abbrev bufTy : (tb : Table) → Fin (tcTables nBuf tb) → BufTy
  | .hbm, ⟨0, _⟩ => ⟨S128x4x1x64, .f32⟩
  | .hbm, ⟨1, _⟩ => ⟨S128x4x1x64, .f32⟩
  | .hbm, ⟨2, _⟩ => ⟨S128x4x1x64, .f32⟩
  | .hbm, ⟨3, _⟩ => ⟨S128x4x1, .f32⟩
  | .hbm, ⟨4, _⟩ => ⟨S128x4x1, .f32⟩
  | .hbm, ⟨5, _⟩ => ⟨S128x4x64x64, .f32⟩
  | .hbm, ⟨6, _⟩ => ⟨S128x4x64, .f32⟩
  | .hbm, ⟨7, _⟩ => ⟨S4x128x64, .f32⟩
  | .hbm, ⟨8, _⟩ => ⟨S128x4x64, .f32⟩
  | .hbm, ⟨9, _⟩ => ⟨S4x128x64, .f32⟩
  | .hbm, ⟨10, _⟩ => ⟨S128x4x64, .f32⟩
  | .hbm, ⟨11, _⟩ => ⟨S4x128x64, .f32⟩
  | .hbm, ⟨12, _⟩ => ⟨S1x4x128x64, .f32⟩
  | .hbm, ⟨13, _⟩ => ⟨S1x4x128x64, .f32⟩
  | .hbm, ⟨14, _⟩ => ⟨S1x4x128x64, .f32⟩
  | .hbm, ⟨15, _⟩ => ⟨S3x4x128x64, .f32⟩
  | .hbm, ⟨16, _⟩ => ⟨S4x128x1, .f32⟩
  | .hbm, ⟨17, _⟩ => ⟨S4x128x1, .f32⟩
  | .hbm, ⟨18, _⟩ => ⟨S1x4x128x1, .f32⟩
  | .hbm, ⟨19, _⟩ => ⟨S1x4x128x1, .f32⟩
  | .hbm, ⟨20, _⟩ => ⟨S2x4x128x1, .f32⟩
  | .hbm, ⟨21, _⟩ => ⟨S128x16384, .f32⟩
  | .hbm, ⟨22, _⟩ => ⟨S4x128x64, .f32⟩
  | .hbm, ⟨23, _⟩ => ⟨S128x16384, .f32⟩
  | .local _ .vmem, ⟨0, _⟩ => ⟨S1x1x128x64, .f32⟩
  | .local _ .vmem, ⟨1, _⟩ => ⟨S1x1x128x64, .f32⟩
  | .local _ .vmem, ⟨2, _⟩ => ⟨S1x1x128x64, .f32⟩
  | .local _ .vmem, ⟨3, _⟩ => ⟨S1x1x128x64, .f32⟩
  | .local _ .vmem, ⟨4, _⟩ => ⟨S1x1x128x64, .f32⟩
  | .local _ .vmem, ⟨5, _⟩ => ⟨S1x1x128x64, .f32⟩
  | .local _ .vmem, ⟨6, _⟩ => ⟨S1x1x128x1, .f32⟩
  | .local _ .vmem, ⟨7, _⟩ => ⟨S1x1x128x1, .f32⟩
  | .local _ .vmem, ⟨8, _⟩ => ⟨S1x1x128x1, .f32⟩
  | .local _ .vmem, ⟨9, _⟩ => ⟨S1x1x128x1, .f32⟩
  | .local _ .vmem, ⟨10, _⟩ => ⟨S128x4096, .f32⟩
  | .local _ .vmem, ⟨11, _⟩ => ⟨S128x4096, .f32⟩
  | .local _ .vmem, ⟨12, _⟩ => ⟨S1x128x64, .f32⟩
  | .local _ .vmem, ⟨13, _⟩ => ⟨S1x128x64, .f32⟩
  | .local _ .vmem, ⟨14, _⟩ => ⟨S128x4096, .f32⟩
  | .local _ .vmem, ⟨15, _⟩ => ⟨S128x4096, .f32⟩
  | _, _ => ⟨S128x4x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x1x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S128x4x1x64 : Shape := ⟨4, ![128, 4, 1, 64]⟩
abbrev S128x4x1 : Shape := ⟨3, ![128, 4, 1]⟩
abbrev S128x4x64x64 : Shape := ⟨4, ![128, 4, 64, 64]⟩
abbrev S128x4x64 : Shape := ⟨3, ![128, 4, 64]⟩
abbrev S128x4 : Shape := ⟨2, ![128, 4]⟩
abbrev S128x4x1x1 : Shape := ⟨4, ![128, 4, 1, 1]⟩
abbrev S128x4x64x1 : Shape := ⟨4, ![128, 4, 64, 1]⟩
abbrev S4x128x64 : Shape := ⟨3, ![4, 128, 64]⟩
abbrev S128x16384 : Shape := ⟨2, ![128, 16384]⟩

abbrev nBuf : Space → Nat
  | .hbm => 29
  | .vmem => 0
  | .smem => 0
  | _ => 0

abbrev bufTy : (tb : Table) → Fin (tcTables nBuf tb) → BufTy
  | .hbm, ⟨0, _⟩ => ⟨S128x4x1x64, .f32⟩
  | .hbm, ⟨1, _⟩ => ⟨S128x4x1x64, .f32⟩
  | .hbm, ⟨2, _⟩ => ⟨S128x4x1x64, .f32⟩
  | .hbm, ⟨3, _⟩ => ⟨S128x4x1, .f32⟩
  | .hbm, ⟨4, _⟩ => ⟨S128x4x1, .f32⟩
  | .hbm, ⟨5, _⟩ => ⟨S128x4x64x64, .f32⟩
  | .hbm, ⟨6, _⟩ => ⟨S128x4x64, .f32⟩
  | .hbm, ⟨7, _⟩ => ⟨S128x4x64, .f32⟩
  | .hbm, ⟨8, _⟩ => ⟨S128x4x64, .f32⟩
  | .hbm, ⟨9, _⟩ => ⟨S128x4, .f32⟩
  | .hbm, ⟨10, _⟩ => ⟨S128x4, .f32⟩
  | .hbm, ⟨11, _⟩ => ⟨S128x4, .f32⟩
  | .hbm, ⟨12, _⟩ => ⟨S128x4x1x1, .f32⟩
  | .hbm, ⟨13, _⟩ => ⟨S128x4x64x64, .f32⟩
  | .hbm, ⟨14, _⟩ => ⟨S128x4x64x64, .f32⟩
  | .hbm, ⟨15, _⟩ => ⟨S128x4x1, .f32⟩
  | .hbm, ⟨16, _⟩ => ⟨S128x4x64, .f32⟩
  | .hbm, ⟨17, _⟩ => ⟨S128x4x64, .f32⟩
  | .hbm, ⟨18, _⟩ => ⟨S128x4x64, .f32⟩
  | .hbm, ⟨19, _⟩ => ⟨S128x4x64, .f32⟩
  | .hbm, ⟨20, _⟩ => ⟨S128x4x64x1, .f32⟩
  | .hbm, ⟨21, _⟩ => ⟨S128x4x1x64, .f32⟩
  | .hbm, ⟨22, _⟩ => ⟨S128x4x64x64, .f32⟩
  | .hbm, ⟨23, _⟩ => ⟨S128x4x64x64, .f32⟩
  | .hbm, ⟨24, _⟩ => ⟨S128x4x64x64, .f32⟩
  | .hbm, ⟨25, _⟩ => ⟨S128x4x64x64, .f32⟩
  | .hbm, ⟨26, _⟩ => ⟨S128x4x64, .f32⟩
  | .hbm, ⟨27, _⟩ => ⟨S4x128x64, .f32⟩
  | .hbm, ⟨28, _⟩ => ⟨S128x16384, .f32⟩
  | _, _ => ⟨S128x4x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel2.lean ====
abbrev S128x4x1x64 : Shape := ⟨4, ![128, 4, 1, 64]⟩
abbrev S128x4x64x64 : Shape := ⟨4, ![128, 4, 64, 64]⟩
abbrev S128x4x64 : Shape := ⟨3, ![128, 4, 64]⟩
abbrev S4x128x64 : Shape := ⟨3, ![4, 128, 64]⟩
abbrev S1x4x128x64 : Shape := ⟨4, ![1, 4, 128, 64]⟩
abbrev S4x4x128x64 : Shape := ⟨4, ![4, 4, 128, 64]⟩
abbrev S128x16384 : Shape := ⟨2, ![128, 16384]⟩
abbrev S1x1x128x64 : Shape := ⟨4, ![1, 1, 128, 64]⟩
abbrev S128x4096 : Shape := ⟨2, ![128, 4096]⟩
abbrev S1x128x64 : Shape := ⟨3, ![1, 128, 64]⟩
abbrev S64x4096 : Shape := ⟨2, ![64, 4096]⟩
abbrev S128x64 : Shape := ⟨2, ![128, 64]⟩
abbrev S128 : Shape := ⟨1, ![128]⟩
abbrev S128x1 : Shape := ⟨2, ![128, 1]⟩

abbrev nBuf : Space → Nat
  | .hbm => 21
  | .vmem => 14
  | .smem => 0
  | _ => 0

abbrev bufTy : (tb : Table) → Fin (tcTables nBuf tb) → BufTy
  | .hbm, ⟨0, _⟩ => ⟨S128x4x1x64, .f32⟩
  | .hbm, ⟨1, _⟩ => ⟨S128x4x1x64, .f32⟩
  | .hbm, ⟨2, _⟩ => ⟨S128x4x1x64, .f32⟩
  | .hbm, ⟨3, _⟩ => ⟨S128x4x1x64, .f32⟩
  | .hbm, ⟨4, _⟩ => ⟨S128x4x64x64, .f32⟩
  | .hbm, ⟨5, _⟩ => ⟨S128x4x64, .f32⟩
  | .hbm, ⟨6, _⟩ => ⟨S4x128x64, .f32⟩
  | .hbm, ⟨7, _⟩ => ⟨S128x4x64, .f32⟩
  | .hbm, ⟨8, _⟩ => ⟨S4x128x64, .f32⟩
  | .hbm, ⟨9, _⟩ => ⟨S128x4x64, .f32⟩
  | .hbm, ⟨10, _⟩ => ⟨S4x128x64, .f32⟩
  | .hbm, ⟨11, _⟩ => ⟨S128x4x64, .f32⟩
  | .hbm, ⟨12, _⟩ => ⟨S4x128x64, .f32⟩
  | .hbm, ⟨13, _⟩ => ⟨S1x4x128x64, .f32⟩
  | .hbm, ⟨14, _⟩ => ⟨S1x4x128x64, .f32⟩
  | .hbm, ⟨15, _⟩ => ⟨S1x4x128x64, .f32⟩
  | .hbm, ⟨16, _⟩ => ⟨S1x4x128x64, .f32⟩
  | .hbm, ⟨17, _⟩ => ⟨S4x4x128x64, .f32⟩
  | .hbm, ⟨18, _⟩ => ⟨S128x16384, .f32⟩
  | .hbm, ⟨19, _⟩ => ⟨S4x128x64, .f32⟩
  | .hbm, ⟨20, _⟩ => ⟨S128x16384, .f32⟩
  | .local _ .vmem, ⟨0, _⟩ => ⟨S1x1x128x64, .f32⟩
  | .local _ .vmem, ⟨1, _⟩ => ⟨S1x1x128x64, .f32⟩
  | .local _ .vmem, ⟨2, _⟩ => ⟨S1x1x128x64, .f32⟩
  | .local _ .vmem, ⟨3, _⟩ => ⟨S1x1x128x64, .f32⟩
  | .local _ .vmem, ⟨4, _⟩ => ⟨S1x1x128x64, .f32⟩
  | .local _ .vmem, ⟨5, _⟩ => ⟨S1x1x128x64, .f32⟩
  | .local _ .vmem, ⟨6, _⟩ => ⟨S1x1x128x64, .f32⟩
  | .local _ .vmem, ⟨7, _⟩ => ⟨S1x1x128x64, .f32⟩
  | .local _ .vmem, ⟨8, _⟩ => ⟨S128x4096, .f32⟩
  | .local _ .vmem, ⟨9, _⟩ => ⟨S128x4096, .f32⟩
  | .local _ .vmem, ⟨10, _⟩ => ⟨S1x128x64, .f32⟩
  | .local _ .vmem, ⟨11, _⟩ => ⟨S1x128x64, .f32⟩
  | .local _ .vmem, ⟨12, _⟩ => ⟨S128x4096, .f32⟩
  | .local _ .vmem, ⟨13, _⟩ => ⟨S128x4096, .f32⟩
  | _, _ => ⟨S128x4x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc0_transform_3 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x1x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S128x4x1x64 : Shape := ⟨4, ![128, 4, 1, 64]⟩
abbrev S128x4x64x64 : Shape := ⟨4, ![128, 4, 64, 64]⟩
abbrev S128x4x64 : Shape := ⟨3, ![128, 4, 64]⟩
abbrev S128x4x64x1 : Shape := ⟨4, ![128, 4, 64, 1]⟩
abbrev S4x128x64 : Shape := ⟨3, ![4, 128, 64]⟩
abbrev S128x16384 : Shape := ⟨2, ![128, 16384]⟩

abbrev nBuf : Space → Nat
  | .hbm => 22
  | .vmem => 0
  | .smem => 0
  | _ => 0

abbrev bufTy : (tb : Table) → Fin (tcTables nBuf tb) → BufTy
  | .hbm, ⟨0, _⟩ => ⟨S128x4x1x64, .f32⟩
  | .hbm, ⟨1, _⟩ => ⟨S128x4x1x64, .f32⟩
  | .hbm, ⟨2, _⟩ => ⟨S128x4x1x64, .f32⟩
  | .hbm, ⟨3, _⟩ => ⟨S128x4x1x64, .f32⟩
  | .hbm, ⟨4, _⟩ => ⟨S128x4x64x64, .f32⟩
  | .hbm, ⟨5, _⟩ => ⟨S128x4x64, .f32⟩
  | .hbm, ⟨6, _⟩ => ⟨S128x4x64, .f32⟩
  | .hbm, ⟨7, _⟩ => ⟨S128x4x64, .f32⟩
  | .hbm, ⟨8, _⟩ => ⟨S128x4x64, .f32⟩
  | .hbm, ⟨9, _⟩ => ⟨S128x4x64, .f32⟩
  | .hbm, ⟨10, _⟩ => ⟨S128x4x64x1, .f32⟩
  | .hbm, ⟨11, _⟩ => ⟨S128x4x64x64, .f32⟩
  | .hbm, ⟨12, _⟩ => ⟨S128x4x64x64, .f32⟩
  | .hbm, ⟨13, _⟩ => ⟨S128x4x64x1, .f32⟩
  | .hbm, ⟨14, _⟩ => ⟨S128x4x1x64, .f32⟩
  | .hbm, ⟨15, _⟩ => ⟨S128x4x64x64, .f32⟩
  | .hbm, ⟨16, _⟩ => ⟨S128x4x64x64, .f32⟩
  | .hbm, ⟨17, _⟩ => ⟨S128x4x64x64, .f32⟩
  | .hbm, ⟨18, _⟩ => ⟨S128x4x64x64, .f32⟩
  | .hbm, ⟨19, _⟩ => ⟨S128x4x64, .f32⟩
  | .hbm, ⟨20, _⟩ => ⟨S4x128x64, .f32⟩
  | .hbm, ⟨21, _⟩ => ⟨S128x16384, .f32⟩
  | _, _ => ⟨S128x4x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 13
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S16384x1024, .f32⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8x2048x1024 : Shape := ⟨3, ![8, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S16384x1024 : Shape := ⟨2, ![16384, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x2816, .f32⟩
  | .hbm, ⟨23, _⟩ => ⟨S8x2048x2816, .f32⟩
  | .hbm, ⟨24, _⟩ => ⟨S8x2048x2816, .f32⟩
  | .hbm, ⟨25, _⟩ => ⟨S_, .f32⟩
  | .hbm, ⟨26, _⟩ => ⟨S8x2048x2816, .f32⟩
  | .hbm, ⟨27, _⟩ => ⟨S8x2048x2816, .f32⟩
  | .hbm, ⟨28, _⟩ => ⟨S_, .f32⟩
  | .hbm, ⟨29, _⟩ => ⟨S8x2048x2816, .f32⟩
  | .hbm, ⟨30, _⟩ => ⟨S8x2048x2816, .f32⟩
  | .hbm, ⟨31, _⟩ => ⟨S8x2048x2816, .f32⟩
  | .hbm, ⟨32, _⟩ => ⟨S8x2048x2816, .f32⟩
  | .hbm, ⟨33, _⟩ => ⟨S8x2048x2816, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S_, .f32⟩
  | .hbm, ⟨38, _⟩ => ⟨S8x2048, .f32⟩
  | .hbm, ⟨39, _⟩ => ⟨S8x2048x1, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S_, .f32⟩
  | .hbm, ⟨44, _⟩ => ⟨S8x2048x1, .f32⟩
  | .hbm, ⟨45, _⟩ => ⟨S8x2048x1, .f32⟩
  | .hbm, ⟨46, _⟩ => ⟨S8x2048x1, .f32⟩
  | .hbm, ⟨47, _⟩ => ⟨S8x2048x1024, .f32⟩
  | .hbm, ⟨48, _⟩ => ⟨S8x2048x1024, .f32⟩
  | .hbm, ⟨49, _⟩ => ⟨S1x1x1024, .f32⟩
  | .hbm, ⟨50, _⟩ => ⟨S8x2048x1024, .f32⟩
  | .hbm, ⟨51, _⟩ => ⟨S8x2048x1024, .f32⟩
  | .hbm, ⟨52, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x4x2048x64 : Shape := ⟨4, ![8, 4, 2048, 64]⟩
abbrev S8x2048x256 : Shape := ⟨3, ![8, 2048, 256]⟩
abbrev S16384x1536 : Shape := ⟨2, ![16384, 1536]⟩
abbrev S16384x1280 : Shape := ⟨2, ![16384, 1280]⟩
abbrev S256 : Shape := ⟨1, ![256]⟩
abbrev S1024 : Shape := ⟨1, ![1024]⟩
abbrev S1024x7448 : Shape := ⟨2, ![1024, 7448]⟩
abbrev S4x256x1024 : Shape := ⟨3, ![4, 256, 1024]⟩
abbrev S1024x1024 : Shape := ⟨2, ![1024, 1024]⟩
abbrev S1024x4096 : Shape := ⟨2, ![1024, 4096]⟩
abbrev S16384x1024 : Shape := ⟨2, ![16384, 1024]⟩
abbrev S8x2048x4x64 : Shape := ⟨4, ![8, 2048, 4, 64]⟩
abbrev S16384x256 : Shape := ⟨2, ![16384, 256]⟩
abbrev S2048x8x256 : Shape := ⟨3, ![2048, 8, 256]⟩
abbrev S2048x2048 : Shape := ⟨2, ![2048, 2048]⟩
abbrev S1x1024 : Shape := ⟨2, ![1, 1024]⟩
abbrev S1x256 : Shape := ⟨2, ![1, 256]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S256x256 : Shape := ⟨2, ![256, 256]⟩
abbrev S1x256x1024 : Shape := ⟨3, ![1, 256, 1024]⟩
abbrev S256x1024 : Shape := ⟨2, ![256, 1024]⟩

abbrev nBuf : Space → Nat
  | .hbm => 33
  | .vmem => 25
  | .smem => 0
  | _ => 0

abbrev bufTy : (tb : Table) → Fin (tcTables nBuf tb) → BufTy
  | .hbm, ⟨0, _⟩ => ⟨S8x2048x1024, .f32⟩
  | .hbm, ⟨1, _⟩ => ⟨S8x4x2048x64, .f32⟩
  | .hbm, ⟨2, _⟩ => ⟨S8x4x2048x64, .f32⟩
  | .hbm, ⟨3, _⟩ => ⟨S8x2048x256, .f32⟩
  | .hbm, ⟨4, _⟩ => ⟨S8x4x2048x64, .f32⟩
  | .hbm, ⟨5, _⟩ => ⟨S16384x1536, .f32⟩
  | .hbm, ⟨6, _⟩ => ⟨S16384x1280, .f32⟩
  | .hbm, ⟨7, _⟩ => ⟨S16384x1280, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S1024, .f32⟩
  | .hbm, ⟨12, _⟩ => ⟨S1024x7448, .f32⟩
  | .hbm, ⟨13, _⟩ => ⟨S4x256x1024, .f32⟩
  | .hbm, ⟨14, _⟩ => ⟨S1024x1024, .f32⟩
  | .hbm, ⟨15, _⟩ => ⟨S1024x7448, .bf16⟩
  | .hbm, ⟨16, _⟩ => ⟨S1024x4096, .bf16⟩
  | .hbm, ⟨17, _⟩ => ⟨S16384x1024, .f32⟩
  | .hbm, ⟨18, _⟩ => ⟨S8x2048x4x64, .f32⟩
  | .hbm, ⟨19, _⟩ => ⟨S16384x256, .f32⟩
  | .hbm, ⟨20, _⟩ => ⟨S8x2048x4x64, .f32⟩
  | .hbm, ⟨21, _⟩ => ⟨S16384x256, .f32⟩
  | .hbm, ⟨22, _⟩ => ⟨S2048x8x256, .f32⟩
  | .hbm, ⟨23, _⟩ => ⟨S2048x2048, .f32⟩
  | .hbm, ⟨24, _⟩ => ⟨S8x2048x4x64, .f32⟩
  | .hbm, ⟨25, _⟩ => ⟨S16384x256, .f32⟩
  | .hbm, ⟨26, _⟩ => ⟨S1x1024, .f32⟩
  | .hbm, ⟨27, _⟩ => ⟨S4x256x1024, .bf16⟩
  | .hbm, ⟨28, _⟩ => ⟨S1024x1024, .bf16⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x1024, .f32⟩
  | .local _ .vmem, ⟨20, _⟩ => ⟨S1024x4096, .bf16⟩
  | .local _ .vmem, ⟨21, _⟩ => ⟨S4x256x1024, .bf16⟩
  | .local _ .vmem, ⟨22, _⟩ => ⟨S1024x1024, .bf16⟩
  | .local _ .vmem, ⟨23, _⟩ => ⟨S512x1024, .f32⟩
  | .local _ .vmem, ⟨24, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S8x2048x1024 : Shape := ⟨3, ![8, 2048, 1024]⟩
abbrev S8x4x2048x64 : Shape := ⟨4, ![8, 4, 2048, 64]⟩
abbrev S8x2048x256 : Shape := ⟨3, ![8, 2048, 256]⟩
abbrev S16384x1536 : Shape := ⟨2, ![16384, 1536]⟩
abbrev S16384x1280 : Shape := ⟨2, ![16384, 1280]⟩
abbrev S256 : Shape := ⟨1, ![256]⟩
abbrev S1024 : Shape := ⟨1, ![1024]⟩
abbrev S1024x7448 : Shape := ⟨2, ![1024, 7448]⟩
abbrev S4x256x1024 : Shape := ⟨3, ![4, 256, 1024]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x7448 : Shape := ⟨3, ![8, 2048, 7448]⟩
abbrev S8x2048x4096 : Shape := ⟨3, ![8, 2048, 4096]⟩
abbrev S8x4x2048 : Shape := ⟨3, ![8, 4, 2048]⟩
abbrev S8x4x2048x1 : Shape := ⟨4, ![8, 4, 2048, 1]⟩
abbrev S8x2048x4x64 : Shape := ⟨4, ![8, 2048, 4, 64]⟩
abbrev S1x1x256 : Shape := ⟨3, ![1, 1, 256]⟩
abbrev S16384x256 : Shape := ⟨2, ![16384, 256]⟩
abbrev S8x2048x1x256 : Shape := ⟨4, ![8, 2048, 1, 256]⟩
abbrev S8x2048x4x256 : Shape := ⟨4, ![8, 2048, 4, 256]⟩
abbrev S4x1024x8x2048 : Shape := ⟨4, ![4, 1024, 8, 2048]⟩
abbrev S8x2048x4x1024 : Shape := ⟨4, ![8, 2048, 4, 1024]⟩
abbrev S16384x1024 : Shape := ⟨2, ![16384, 1024]⟩

abbrev nBuf : Space → Nat
  | .hbm => 118
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x4x2048x64, .f32⟩
  | .hbm, ⟨2, _⟩ => ⟨S8x4x2048x64, .f32⟩
  | .hbm, ⟨3, _⟩ => ⟨S8x2048x256, .f32⟩
  | .hbm, ⟨4, _⟩ => ⟨S8x4x2048x64, .f32⟩
  | .hbm, ⟨5, _⟩ => ⟨S16384x1536, .f32⟩
  | .hbm, ⟨6, _⟩ => ⟨S16384x1280, .f32⟩
  | .hbm, ⟨7, _⟩ => ⟨S16384x1280, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S1024, .f32⟩
  | .hbm, ⟨12, _⟩ => ⟨S1024x7448, .f32⟩
  | .hbm, ⟨13, _⟩ => ⟨S4x256x1024, .f32⟩
  | .hbm, ⟨14, _⟩ => ⟨S1024x1024, .f32⟩
  | .hbm, ⟨15, _⟩ => ⟨S8x2048x1024, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1, .f32⟩
  | .hbm, ⟨26, _⟩ => ⟨S8x2048x1024, .f32⟩
  | .hbm, ⟨27, _⟩ => ⟨S8x2048x1024, .f32⟩
  | .hbm, ⟨28, _⟩ => ⟨S1x1x1024, .f32⟩
  | .hbm, ⟨29, _⟩ => ⟨S8x2048x1024, .f32⟩
  | .hbm, ⟨30, _⟩ => ⟨S8x2048x1024, .f32⟩
  | .hbm, ⟨31, _⟩ => ⟨S8x2048x7448, .f32⟩
  | .hbm, ⟨32, _⟩ => ⟨S8x2048x4096, .f32⟩
  | .hbm, ⟨33, _⟩ => ⟨S8x4x2048x64, .f32⟩
  | .hbm, ⟨34, _⟩ => ⟨S_, .f32⟩
  | .hbm, ⟨35, _⟩ => ⟨S8x4x2048, .f32⟩
  | .hbm, ⟨36, _⟩ => ⟨S8x4x2048x1, .f32⟩
  | .hbm, ⟨37, _⟩ => ⟨S_, .f32⟩
  | .hbm, ⟨38, _⟩ => ⟨S8x4x2048x1, .f32⟩
  | .hbm, ⟨39, _⟩ => ⟨S8x4x2048x1, .f32⟩
  | .hbm, ⟨40, _⟩ => ⟨S_, .f32⟩
  | .hbm, ⟨41, _⟩ => ⟨S8x4x2048x1, .f32⟩
  | .hbm, ⟨42, _⟩ => ⟨S8x4x2048x1, .f32⟩
  | .hbm, ⟨43, _⟩ => ⟨S8x4x2048x1, .f32⟩
  | .hbm, ⟨44, _⟩ => ⟨S8x4x2048x64, .f32⟩
  | .hbm, ⟨45, _⟩ => ⟨S8x4x2048x64, .f32⟩
  | .hbm, ⟨46, _⟩ => ⟨S8x2048x4x64, .f32⟩
  | .hbm, ⟨47, _⟩ => ⟨S8x2048x256, .f32⟩
  | .hbm, ⟨48, _⟩ => ⟨S1x1x256, .f32⟩
  | .hbm, ⟨49, _⟩ => ⟨S8x2048x256, .f32⟩
  | .hbm, ⟨50, _⟩ => ⟨S8x2048x256, .f32⟩
  | .hbm, ⟨51, _⟩ => ⟨S16384x256, .f32⟩
  | .hbm, ⟨52, _⟩ => ⟨S8x2048x256, .f32⟩
  | .hbm, ⟨53, _⟩ => ⟨S8x2048x256, .f32⟩
  | .hbm, ⟨54, _⟩ => ⟨S8x4x2048x64, .f32⟩
  | .hbm, ⟨55, _⟩ => ⟨S_, .f32⟩
  | .hbm, ⟨56, _⟩ => ⟨S8x4x2048, .f32⟩
  | .hbm, ⟨57, _⟩ => ⟨S8x4x2048x1, .f32⟩
  | .hbm, ⟨58, _⟩ => ⟨S_, .f32⟩
  | .hbm, ⟨59, _⟩ => ⟨S8x4x2048x1, .f32⟩
  | .hbm, ⟨60, _⟩ => ⟨S8x4x2048x1, .f32⟩
  | .hbm, ⟨61, _⟩ => ⟨S_, .f32⟩
  | .hbm, ⟨62, _⟩ => ⟨S8x4x2048x1, .f32⟩
  | .hbm, ⟨63, _⟩ => ⟨S8x4x2048x1, .f32⟩
  | .hbm, ⟨64, _⟩ => ⟨S8x4x2048x1, .f32⟩
  | .hbm, ⟨65, _⟩ => ⟨S8x4x2048x64, .f32⟩
  | .hbm, ⟨66, _⟩ => ⟨S8x4x2048x64, .f32⟩
  | .hbm, ⟨67, _⟩ => ⟨S8x2048x4x64, .f32⟩
  | .hbm, ⟨68, _⟩ => ⟨S8x2048x256, .f32⟩
  | .hbm, ⟨69, _⟩ => ⟨S1x1x256, .f32⟩
  | .hbm, ⟨70, _⟩ => ⟨S8x2048x256, .f32⟩
  | .hbm, ⟨71, _⟩ => ⟨S8x2048x256, .f32⟩
  | .hbm, ⟨72, _⟩ => ⟨S16384x256, .f32⟩
  | .hbm, ⟨73, _⟩ => ⟨S8x2048x256, .f32⟩
  | .hbm, ⟨74, _⟩ => ⟨S8x2048x256, .f32⟩
  | .hbm, ⟨75, _⟩ => ⟨S8x4x2048x64, .f32⟩
  | .hbm, ⟨76, _⟩ => ⟨S_, .f32⟩
  | .hbm, ⟨77, _⟩ => ⟨S8x4x2048, .f32⟩
  | .hbm, ⟨78, _⟩ => ⟨S8x4x2048x1, .f32⟩
  | .hbm, ⟨79, _⟩ => ⟨S_, .f32⟩
  | .hbm, ⟨80, _⟩ => ⟨S8x4x2048x1, .f32⟩
  | .hbm, ⟨81, _⟩ => ⟨S8x4x2048x1, .f32⟩
  | .hbm, ⟨82, _⟩ => ⟨S_, .f32⟩
  | .hbm, ⟨83, _⟩ => ⟨S8x4x2048x1, .f32⟩
  | .hbm, ⟨84, _⟩ => ⟨S8x4x2048x1, .f32⟩
  | .hbm, ⟨85, _⟩ => ⟨S8x4x2048x1, .f32⟩
  | .hbm, ⟨86, _⟩ => ⟨S8x4x2048x64, .f32⟩
  | .hbm, ⟨87, _⟩ => ⟨S8x4x2048x64, .f32⟩
  | .hbm, ⟨88, _⟩ => ⟨S8x2048x4x64, .f32⟩
  | .hbm, ⟨89, _⟩ => ⟨S8x2048x256, .f32⟩
  | .hbm, ⟨90, _⟩ => ⟨S1x1x256, .f32⟩
  | .hbm, ⟨91, _⟩ => ⟨S8x2048x256, .f32⟩
  | .hbm, ⟨92, _⟩ => ⟨S8x2048x256, .f32⟩
  | .hbm, ⟨93, _⟩ => ⟨S16384x256, .f32⟩
  | .hbm, ⟨94, _⟩ => ⟨S8x2048x256, .f32⟩
  | .hbm, ⟨95, _⟩ => ⟨S8x2048x256, .f32⟩
  | .hbm, ⟨96, _⟩ => ⟨S8x2048x1x256, .f32⟩
  | .hbm, ⟨97, _⟩ => ⟨S8x2048x1x256, .f32⟩
  | .hbm, ⟨98, _⟩ => ⟨S8x2048x1x256, .f32⟩
  | .hbm, ⟨99, _⟩ => ⟨S8x2048x1x256, .f32⟩
  | .hbm, ⟨100, _⟩ => ⟨S8x2048x4x256, .f32⟩
  | .hbm, ⟨101, _⟩ => ⟨S4x1024x8x2048, .f32⟩
  | .hbm, ⟨102, _⟩ => ⟨S8x2048x4x1024, .f32⟩
  | .hbm, ⟨103, _⟩ => ⟨S8x2048x4x1024, .f32⟩
  | .hbm, ⟨104, _⟩ => ⟨S8x2048x4x1024, .f32⟩
  | .hbm, ⟨105, _⟩ => ⟨S8x2048x4x1024, .f32⟩
  | .hbm, ⟨106, _⟩ => ⟨S_, .f32⟩
  | .hbm, ⟨107, _⟩ => ⟨S8x2048x4x1024, .f32⟩
  | .hbm, ⟨108, _⟩ => ⟨S8x2048x4x1024, .f32⟩
  | .hbm, ⟨109, _⟩ => ⟨S_, .f32⟩
  | .hbm, ⟨110, _⟩ => ⟨S8x2048x4x1024, .f32⟩
  | .hbm, ⟨111, _⟩ => ⟨S8x2048x4x1024, .f32⟩
  | .hbm, ⟨112, _⟩ => ⟨S8x2048x4x1024, .f32⟩
  | .hbm, ⟨113, _⟩ => ⟨S_, .f32⟩
  | .hbm, ⟨114, _⟩ => ⟨S8x2048x1024, .f32⟩
  | .hbm, ⟨115, _⟩ => ⟨S8x2048x1024, .f32⟩
  | .hbm, ⟨116, _⟩ => ⟨S8x2048x1024, .f32⟩
  | .hbm, ⟨117, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_8 : Ref sig .tc := ⟨.hbm, 76, rfl⟩
abbrev main_v52 : Ref sig .tc := ⟨.hbm, 77, rfl⟩
abbrev main_v53 : Ref sig .tc := ⟨.hbm, 78, rfl⟩
abbrev main_cst_9 : Ref sig .tc := ⟨.hbm, 79, rfl⟩
abbrev main_v54 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_11 : Ref sig .tc := ⟨.hbm, 106, rfl⟩
abbrev main_v79 : Ref sig .tc := ⟨.hbm, 107, rfl⟩
abbrev main_v80 : Ref sig .tc := ⟨.hbm, 108, rfl⟩
abbrev main_cst_12 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_13 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩

abbrev nD : Nat := 1
abbrev τ : Topo := Topo.v7x

variable {F : FTy → Type} [FloatOps F]
-- ==== Kernel5.lean ====
abbrev S8x2048x1024 : Shape := ⟨3, ![8, 2048, 1024]⟩
abbrev S1024 : Shape := ⟨1, ![1024]⟩
abbrev S1024x7448 : Shape := ⟨2, ![1024, 7448]⟩
abbrev S4x768 : Shape := ⟨2, ![4, 768]⟩
abbrev S4 : Shape := ⟨1, ![4]⟩
abbrev S16x256 : Shape := ⟨2, ![16, 256]⟩
abbrev S256 : Shape := ⟨1, ![256]⟩
abbrev S1024x768 : Shape := ⟨2, ![1024, 768]⟩
abbrev S1024x4 : Shape := ⟨2, ![1024, 4]⟩
abbrev S1024x256 : Shape := ⟨2, ![1024, 256]⟩
abbrev S1024x16 : Shape := ⟨2, ![1024, 16]⟩
abbrev S1024x4096 : Shape := ⟨2, ![1024, 4096]⟩
abbrev S_ : Shape := ⟨0, ![]⟩
abbrev S1024x120 : Shape := ⟨2, ![1024, 120]⟩
abbrev S1024x112 : Shape := ⟨2, ![1024, 112]⟩
abbrev S1024x3584 : Shape := ⟨2, ![1024, 3584]⟩
abbrev S112x256 : Shape := ⟨2, ![112, 256]⟩
abbrev S128x256 : Shape := ⟨2, ![128, 256]⟩
abbrev S4x64 : Shape := ⟨2, ![4, 64]⟩
abbrev S1x256 : Shape := ⟨2, ![1, 256]⟩
abbrev S16384x1024 : Shape := ⟨2, ![16384, 1024]⟩
abbrev S1x1024 : Shape := ⟨2, ![1, 1024]⟩
abbrev S16384x1536 : Shape := ⟨2, ![16384, 1536]⟩
abbrev S16384x1280 : Shape := ⟨2, ![16384, 1280]⟩
abbrev S2048x2048 : Shape := ⟨2, ![2048, 2048]⟩
abbrev S8x3x768 : Shape := ⟨3, ![8, 3, 768]⟩
abbrev S512x1024 : Shape := ⟨2, ![512, 1024]⟩
abbrev S8x1024 : Shape := ⟨2, ![8, 1024]⟩
abbrev S512x1536 : Shape := ⟨2, ![512, 1536]⟩
abbrev S512x1280 : Shape := ⟨2, ![512, 1280]⟩
abbrev S512x256 : Shape := ⟨2, ![512, 256]⟩
abbrev S1x3x768 : Shape := ⟨3, ![1, 3, 768]⟩
abbrev S512 : Shape := ⟨1, ![512]⟩
abbrev S512x1 : Shape := ⟨2, ![512, 1]⟩
abbrev S1024x1024 : Shape := ⟨2, ![1024, 1024]⟩
abbrev S1024x1152 : Shape := ⟨2, ![1024, 1152]⟩
abbrev S512x1152 : Shape := ⟨2, ![512, 1152]⟩
abbrev S8 : Shape := ⟨1, ![8]⟩
abbrev S8x1 : Shape := ⟨2, ![8, 1]⟩
abbrev S8x768 : Shape := ⟨2, ![8, 768]⟩
abbrev S512x768 : Shape := ⟨2, ![512, 768]⟩
abbrev S3x768 : Shape := ⟨2, ![3, 768]⟩
abbrev S520x768 : Shape := ⟨2, ![520, 768]⟩
abbrev S1x768 : Shape := ⟨2, ![1, 768]⟩
abbrev S256x256 : Shape := ⟨2, ![256, 256]⟩
abbrev S512x128 : Shape := ⟨2, ![512, 128]⟩

abbrev nBuf : Space → Nat
  | .hbm => 48
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x7448, .f32⟩
  | .hbm, ⟨3, _⟩ => ⟨S4x768, .f32⟩
  | .hbm, ⟨4, _⟩ => ⟨S4, .f32⟩
  | .hbm, ⟨5, _⟩ => ⟨S4, .f32⟩
  | .hbm, ⟨6, _⟩ => ⟨S16x256, .f32⟩
  | .hbm, ⟨7, _⟩ => ⟨S256, .f32⟩
  | .hbm, ⟨8, _⟩ => ⟨S256, .f32⟩
  | .hbm, ⟨9, _⟩ => ⟨S1024x7448, .bf16⟩
  | .hbm, ⟨10, _⟩ => ⟨S1024x768, .bf16⟩
  | .hbm, ⟨11, _⟩ => ⟨S1024x4, .bf16⟩
  | .hbm, ⟨12, _⟩ => ⟨S1024x4, .bf16⟩
  | .hbm, ⟨13, _⟩ => ⟨S1024x256, .bf16⟩
  | .hbm, ⟨14, _⟩ => ⟨S1024x256, .bf16⟩
  | .hbm, ⟨15, _⟩ => ⟨S1024x256, .bf16⟩
  | .hbm, ⟨16, _⟩ => ⟨S1024x256, .bf16⟩
  | .hbm, ⟨17, _⟩ => ⟨S1024x16, .bf16⟩
  | .hbm, ⟨18, _⟩ => ⟨S1024x256, .bf16⟩
  | .hbm, ⟨19, _⟩ => ⟨S1024x256, .bf16⟩
  | .hbm, ⟨20, _⟩ => ⟨S1024x256, .bf16⟩
  | .hbm, ⟨21, _⟩ => ⟨S1024x256, .bf16⟩
  | .hbm, ⟨22, _⟩ => ⟨S1024x256, .bf16⟩
  | .hbm, ⟨23, _⟩ => ⟨S1024x256, .bf16⟩
  | .hbm, ⟨24, _⟩ => ⟨S1024x4096, .bf16⟩
  | .hbm, ⟨25, _⟩ => ⟨S_, .bf16⟩
  | .hbm, ⟨26, _⟩ => ⟨S1024x120, .bf16⟩
  | .hbm, ⟨27, _⟩ => ⟨S_, .bf16⟩
  | .hbm, ⟨28, _⟩ => ⟨S1024x112, .bf16⟩
  | .hbm, ⟨29, _⟩ => ⟨S1024x3584, .bf16⟩
  | .hbm, ⟨30, _⟩ => ⟨S_, .f32⟩
  | .hbm, ⟨31, _⟩ => ⟨S112x256, .f32⟩
  | .hbm, ⟨32, _⟩ => ⟨S128x256, .f32⟩
  | .hbm, ⟨33, _⟩ => ⟨S4x64, .f32⟩
  | .hbm, ⟨34, _⟩ => ⟨S256, .f32⟩
  | .hbm, ⟨35, _⟩ => ⟨S1x256, .f32⟩
  | .hbm, ⟨36, _⟩ => ⟨S4x64, .f32⟩
  | .hbm, ⟨37, _⟩ => ⟨S256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S16384x1024, .f32⟩
  | .hbm, ⟨42, _⟩ => ⟨S1x1024, .f32⟩
  | .hbm, ⟨43, _⟩ => ⟨S16384x1536, .f32⟩
  | .hbm, ⟨44, _⟩ => ⟨S16384x1280, .f32⟩
  | .hbm, ⟨45, _⟩ => ⟨S2048x2048, .f32⟩
  | .hbm, ⟨46, _⟩ => ⟨S16384x1280, .f32⟩
  | .hbm, ⟨47, _⟩ => ⟨S8x3x768, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S1x1024, .f32⟩
  | .local _ .vmem, ⟨5, _⟩ => ⟨S1024x3584, .bf16⟩
  | .local _ .vmem, ⟨6, _⟩ => ⟨S4x768, .f32⟩
  | .local _ .vmem, ⟨7, _⟩ => ⟨S1x256, .f32⟩
  | .local _ .vmem, ⟨8, _⟩ => ⟨S1x256, .f32⟩
  | .local _ .vmem, ⟨9, _⟩ => ⟨S128x256, .f32⟩
  | .local _ .vmem, ⟨10, _⟩ => ⟨S1x256, .f32⟩
  | .local _ .vmem, ⟨11, _⟩ => ⟨S1x256, .f32⟩
  | .local _ .vmem, ⟨12, _⟩ => ⟨S512x1536, .f32⟩
  | .local _ .vmem, ⟨13, _⟩ => ⟨S512x1536, .f32⟩
  | .local _ .vmem, ⟨14, _⟩ => ⟨S512x1280, .f32⟩
  | .local _ .vmem, ⟨15, _⟩ => ⟨S512x1280, .f32⟩
  | .local _ .vmem, ⟨16, _⟩ => ⟨S512x256, .f32⟩
  | .local _ .vmem, ⟨17, _⟩ => ⟨S512x256, .f32⟩
  | .local _ .vmem, ⟨18, _⟩ => ⟨S512x1280, .f32⟩
  | .local _ .vmem, ⟨19, _⟩ => ⟨S512x1280, .f32⟩
  | .local _ .vmem, ⟨20, _⟩ => ⟨S1x3x768, .f32⟩
  | .local _ .vmem, ⟨21, _⟩ => ⟨S1x3x768, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31_0 : Ref sig .tc := ⟨.hbm, 43, rfl⟩
abbrev main_v31_1 : Ref sig .tc := ⟨.hbm, 44, rfl⟩
abbrev main_v31_2 : Ref sig .tc := ⟨.hbm, 45, rfl⟩
abbrev main_v31_3 : Ref sig .tc := ⟨.hbm, 46, rfl⟩
abbrev main_v31_4 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1280 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1280 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x3x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S8x2048x1024 : Shape := ⟨3, ![8, 2048, 1024]⟩
abbrev S1024 : Shape := ⟨1, ![1024]⟩
abbrev S1024x7448 : Shape := ⟨2, ![1024, 7448]⟩
abbrev S4x768 : Shape := ⟨2, ![4, 768]⟩
abbrev S4 : Shape := ⟨1, ![4]⟩
abbrev S16x256 : Shape := ⟨2, ![16, 256]⟩
abbrev S256 : Shape := ⟨1, ![256]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x7448 : Shape := ⟨3, ![8, 2048, 7448]⟩
abbrev S8x2048x768 : Shape := ⟨3, ![8, 2048, 768]⟩
abbrev S8x2048x4 : Shape := ⟨3, ![8, 2048, 4]⟩
abbrev S8x2048x256 : Shape := ⟨3, ![8, 2048, 256]⟩
abbrev S8x2048x16 : Shape := ⟨3, ![8, 2048, 16]⟩
abbrev S8x2048x4096 : Shape := ⟨3, ![8, 2048, 4096]⟩
abbrev S8x3x768 : Shape := ⟨3, ![8, 3, 768]⟩
abbrev S8x2051x768 : Shape := ⟨3, ![8, 2051, 768]⟩
abbrev S1x768 : Shape := ⟨2, ![1, 768]⟩
abbrev S768 : Shape := ⟨1, ![768]⟩
abbrev S1x1x768 : Shape := ⟨3, ![1, 1, 768]⟩
abbrev S1x1x4 : Shape := ⟨3, ![1, 1, 4]⟩
abbrev S1x1x256 : Shape := ⟨3, ![1, 1, 256]⟩
abbrev S8x2048x4x64 : Shape := ⟨4, ![8, 2048, 4, 64]⟩
abbrev S8x2048x4x1 : Shape := ⟨4, ![8, 2048, 4, 1]⟩
abbrev S16384x256 : Shape := ⟨2, ![16384, 256]⟩
abbrev S16384x1536 : Shape := ⟨2, ![16384, 1536]⟩
abbrev S16384x1280 : Shape := ⟨2, ![16384, 1280]⟩
abbrev S2048x8x256 : Shape := ⟨3, ![2048, 8, 256]⟩
abbrev S2048x2048 : Shape := ⟨2, ![2048, 2048]⟩

abbrev nBuf : Space → Nat
  | .hbm => 303
  | .vmem => 0
  | .smem => 0
  | _ => 0

abbrev hbmTy0_0 (i : Nat) : BufTy := match i % 128 with
  | 0 => ⟨S8x2048x1024, .f32⟩
  | 1 => ⟨S1024, .f32⟩
  | 2 => ⟨S1024x7448, .f32⟩
  | 3 => ⟨S4x768, .f32⟩
  | 4 => ⟨S4, .f32⟩
  | 5 => ⟨S4, .f32⟩
  | 6 => ⟨S16x256, .f32⟩
  | 7 => ⟨S256, .f32⟩
  | 8 => ⟨S256, .f32⟩
  | 9 => ⟨S8x2048x1024, .f32⟩
  | 10 => ⟨S_, .f32⟩
  | 11 => ⟨S8x2048, .f32⟩
  | 12 => ⟨S8x2048x1, .f32⟩
  | 13 => ⟨S_, .f32⟩
  | 14 => ⟨S8x2048x1, .f32⟩
  | 15 => ⟨S8x2048x1, .f32⟩
  | 16 => ⟨S_, .f32⟩
  | 17 => ⟨S8x2048x1, .f32⟩
  | 18 => ⟨S8x2048x1, .f32⟩
  | 19 => ⟨S8x2048x1, .f32⟩
  | 20 => ⟨S8x2048x1024, .f32⟩
  | 21 => ⟨S8x2048x1024, .f32⟩
  | 22 => ⟨S1x1x1024, .f32⟩
  | 23 => ⟨S8x2048x1024, .f32⟩
  | 24 => ⟨S8x2048x1024, .f32⟩
  | 25 => ⟨S8x2048x7448, .f32⟩
  | 26 => ⟨S8x2048x768, .f32⟩
  | 27 => ⟨S8x2048x4, .f32⟩
  | 28 => ⟨S8x2048x4, .f32⟩
  | 29 => ⟨S8x2048x256, .f32⟩
  | 30 => ⟨S8x2048x256, .f32⟩
  | 31 => ⟨S8x2048x256, .f32⟩
  | 32 => ⟨S8x2048x256, .f32⟩
  | 33 => ⟨S8x2048x16, .f32⟩
  | 34 => ⟨S8x2048x256, .f32⟩
  | 35 => ⟨S8x2048x256, .f32⟩
  | 36 => ⟨S8x2048x256, .f32⟩
  | 37 => ⟨S8x2048x256, .f32⟩
  | 38 => ⟨S8x2048x256, .f32⟩
  | 39 => ⟨S8x2048x256, .f32⟩
  | 40 => ⟨S8x2048x4096, .f32⟩
  | 41 => ⟨S_, .f32⟩
  | 42 => ⟨S8x3x768, .f32⟩
  | 43 => ⟨S8x2051x768, .f32⟩
  | 44 => ⟨S8x2048x768, .f32⟩
  | 45 => ⟨S1x768, .f32⟩
  | 46 => ⟨S768, .f32⟩
  | 47 => ⟨S1x1x768, .f32⟩
  | 48 => ⟨S8x2048x768, .f32⟩
  | 49 => ⟨S8x2048x768, .f32⟩
  | 50 => ⟨S_, .f32⟩
  | 51 => ⟨S8x2048x768, .f32⟩
  | 52 => ⟨S8x2048x768, .f32⟩
  | 53 => ⟨S8x2048x768, .f32⟩
  | 54 => ⟨S1x768, .f32⟩
  | 55 => ⟨S768, .f32⟩
  | 56 => ⟨S1x1x768, .f32⟩
  | 57 => ⟨S8x2048x768, .f32⟩
  | 58 => ⟨S8x2048x768, .f32⟩
  | 59 => ⟨S8x2048x768, .f32⟩
  | 60 => ⟨S8x2048x768, .f32⟩
  | 61 => ⟨S1x768, .f32⟩
  | 62 => ⟨S768, .f32⟩
  | 63 => ⟨S1x1x768, .f32⟩
  | 64 => ⟨S8x2048x768, .f32⟩
  | 65 => ⟨S8x2048x768, .f32⟩
  | 66 => ⟨S8x2048x768, .f32⟩
  | 67 => ⟨S8x2048x768, .f32⟩
  | 68 => ⟨S1x768, .f32⟩
  | 69 => ⟨S768, .f32⟩
  | 70 => ⟨S1x1x768, .f32⟩
  | 71 => ⟨S8x2048x768, .f32⟩
  | 72 => ⟨S8x2048x768, .f32⟩
  | 73 => ⟨S8x2048x768, .f32⟩
  | 74 => ⟨S8x2048x768, .f32⟩
  | 75 => ⟨S8x2048x768, .f32⟩
  | 76 => ⟨S_, .f32⟩
  | 77 => ⟨S8x2048x768, .f32⟩
  | 78 => ⟨S8x2048x768, .f32⟩
  | 79 => ⟨S_, .f32⟩
  | 80 => ⟨S8x2048x768, .f32⟩
  | 81 => ⟨S8x2048x768, .f32⟩
  | 82 => ⟨S8x2048x768, .f32⟩
  | 83 => ⟨S8x3x768, .f32⟩
  | 84 => ⟨S8x2048x256, .f32⟩
  | 85 => ⟨S8x2048x256, .f32⟩
  | 86 => ⟨S8x2048x256, .f32⟩
  | 87 => ⟨S8x2048x4, .f32⟩
  | 88 => ⟨S8x2048x4, .f32⟩
  | 89 => ⟨S_, .f32⟩
  | 90 => ⟨S8x2048x4, .f32⟩
  | 91 => ⟨S8x2048x4, .f32⟩
  | 92 => ⟨S_, .f32⟩
  | 93 => ⟨S8x2048x4, .f32⟩
  | 94 => ⟨S8x2048x4, .f32⟩
  | 95 => ⟨S4, .f32⟩
  | 96 => ⟨S4, .f32⟩
  | 97 => ⟨S1x1x4, .f32⟩
  | 98 => ⟨S8x2048x4, .f32⟩
  | 99 => ⟨S8x2048x4, .f32⟩
  | 100 => ⟨S_, .f32⟩
  | 101 => ⟨S8x2048x4, .f32⟩
  | 102 => ⟨S8x2048x4, .f32⟩
  | 103 => ⟨S8x2048x4, .f32⟩
  | 104 => ⟨S8x2048x4, .f32⟩
  | 105 => ⟨S8x2048x4, .i1⟩
  | 106 => ⟨S8x2048x4, .f32⟩
  | 107 => ⟨S8x2048x4, .f32⟩
  | 108 => ⟨S8x2048x4, .f32⟩
  | 109 => ⟨S8x2048x4, .f32⟩
  | 110 => ⟨S8x2048x4, .f32⟩
  | 111 => ⟨S8x2048x4, .f32⟩
  | 112 => ⟨S8x2048x4, .f32⟩
  | 113 => ⟨S8x2048x4, .f32⟩
  | 114 => ⟨S1x1x4, .f32⟩
  | 115 => ⟨S8x2048x4, .f32⟩
  | 116 => ⟨S8x2048x4, .f32⟩
  | 117 => ⟨S8x2048x256, .f32⟩
  | 118 => ⟨S1x1x256, .f32⟩
  | 119 => ⟨S8x2048x256, .f32⟩
  | 120 => ⟨S8x2048x256, .f32⟩
  | 121 => ⟨S8x2048x256, .f32⟩
  | 122 => ⟨S_, .f32⟩
  | 123 => ⟨S8x2048x256, .f32⟩
  | 124 => ⟨S8x2048x256, .f32⟩
  | 125 => ⟨S8x2048x256, .f32⟩
  | 126 => ⟨S8x2048x256, .f32⟩
  | 127 => ⟨S8x2048x256, .i1⟩
  | _ => ⟨S8x2048x1024, .f32⟩

abbrev hbmTy0_1 (i : Nat) : BufTy := match i % 128 with
  | 0 => ⟨S8x2048x256, .f32⟩
  | 1 => ⟨S8x2048x256, .f32⟩
  | 2 => ⟨S8x2048x256, .f32⟩
  | 3 => ⟨S8x2048x256, .f32⟩
  | 4 => ⟨S8x2048x256, .f32⟩
  | 5 => ⟨S8x2048x256, .f32⟩
  | 6 => ⟨S8x2048x256, .f32⟩
  | 7 => ⟨S8x2048x256, .f32⟩
  | 8 => ⟨S8x2048x256, .f32⟩
  | 9 => ⟨S_, .f32⟩
  | 10 => ⟨S8x2048x256, .f32⟩
  | 11 => ⟨S8x2048x256, .f32⟩
  | 12 => ⟨S8x2048x256, .f32⟩
  | 13 => ⟨S_, .f32⟩
  | 14 => ⟨S8x2048x256, .f32⟩
  | 15 => ⟨S8x2048x256, .f32⟩
  | 16 => ⟨S8x2048x256, .f32⟩
  | 17 => ⟨S8x2048x256, .f32⟩
  | 18 => ⟨S8x2048x256, .i1⟩
  | 19 => ⟨S8x2048x256, .f32⟩
  | 20 => ⟨S8x2048x256, .f32⟩
  | 21 => ⟨S8x2048x256, .f32⟩
  | 22 => ⟨S8x2048x256, .f32⟩
  | 23 => ⟨S8x2048x256, .f32⟩
  | 24 => ⟨S8x2048x256, .f32⟩
  | 25 => ⟨S8x2048x256, .f32⟩
  | 26 => ⟨S8x2048x256, .f32⟩
  | 27 => ⟨S8x2048x256, .f32⟩
  | 28 => ⟨S_, .f32⟩
  | 29 => ⟨S256, .f32⟩
  | 30 => ⟨S256, .i1⟩
  | 31 => ⟨S_, .f32⟩
  | 32 => ⟨S_, .f32⟩
  | 33 => ⟨S256, .f32⟩
  | 34 => ⟨S256, .f32⟩
  | 35 => ⟨S256, .f32⟩
  | 36 => ⟨S8x2048x256, .f32⟩
  | 37 => ⟨S8x2048x256, .f32⟩
  | 38 => ⟨S_, .f32⟩
  | 39 => ⟨S8x2048x256, .f32⟩
  | 40 => ⟨S8x2048x256, .f32⟩
  | 41 => ⟨S8x2048x256, .f32⟩
  | 42 => ⟨S8x2048x256, .f32⟩
  | 43 => ⟨S8x2048x256, .i1⟩
  | 44 => ⟨S8x2048x256, .f32⟩
  | 45 => ⟨S8x2048x256, .f32⟩
  | 46 => ⟨S8x2048x256, .f32⟩
  | 47 => ⟨S8x2048x256, .f32⟩
  | 48 => ⟨S8x2048x256, .f32⟩
  | 49 => ⟨S8x2048x256, .f32⟩
  | 50 => ⟨S8x2048x256, .f32⟩
  | 51 => ⟨S8x2048x256, .f32⟩
  | 52 => ⟨S8x2048x256, .f32⟩
  | 53 => ⟨S1x1x256, .f32⟩
  | 54 => ⟨S8x2048x256, .f32⟩
  | 55 => ⟨S8x2048x256, .f32⟩
  | 56 => ⟨S8x2048x256, .f32⟩
  | 57 => ⟨S8x2048x256, .f32⟩
  | 58 => ⟨S8x2048x256, .i1⟩
  | 59 => ⟨S8x2048x256, .f32⟩
  | 60 => ⟨S8x2048x256, .f32⟩
  | 61 => ⟨S8x2048x256, .f32⟩
  | 62 => ⟨S8x2048x256, .f32⟩
  | 63 => ⟨S8x2048x256, .f32⟩
  | 64 => ⟨S8x2048x256, .f32⟩
  | 65 => ⟨S8x2048x256, .f32⟩
  | 66 => ⟨S8x2048x256, .i1⟩
  | 67 => ⟨S8x2048x256, .f32⟩
  | 68 => ⟨S_, .f32⟩
  | 69 => ⟨S256, .f32⟩
  | 70 => ⟨S256, .f32⟩
  | 71 => ⟨S8x2048x256, .f32⟩
  | 72 => ⟨S8x2048x256, .f32⟩
  | 73 => ⟨S8x2048x256, .f32⟩
  | 74 => ⟨S_, .f32⟩
  | 75 => ⟨S8x2048x256, .f32⟩
  | 76 => ⟨S8x2048x256, .f32⟩
  | 77 => ⟨S_, .f32⟩
  | 78 => ⟨S8x2048x256, .f32⟩
  | 79 => ⟨S8x2048x256, .f32⟩
  | 80 => ⟨S1x1x256, .f32⟩
  | 81 => ⟨S8x2048x256, .f32⟩
  | 82 => ⟨S8x2048x256, .f32⟩
  | 83 => ⟨S8x2048x4x64, .f32⟩
  | 84 => ⟨S8x2048x4x64, .f32⟩
  | 85 => ⟨S_, .f32⟩
  | 86 => ⟨S8x2048x4, .f32⟩
  | 87 => ⟨S8x2048x4x1, .f32⟩
  | 88 => ⟨S_, .f32⟩
  | 89 => ⟨S8x2048x4x1, .f32⟩
  | 90 => ⟨S8x2048x4x1, .f32⟩
  | 91 => ⟨S8x2048x4x1, .f32⟩
  | 92 => ⟨S8x2048x4x64, .f32⟩
  | 93 => ⟨S8x2048x4x64, .f32⟩
  | 94 => ⟨S_, .f32⟩
  | 95 => ⟨S8x2048x4x64, .f32⟩
  | 96 => ⟨S8x2048x4x64, .f32⟩
  | 97 => ⟨S16384x256, .f32⟩
  | 98 => ⟨S8x2048x4x64, .f32⟩
  | 99 => ⟨S8x2048x4x64, .f32⟩
  | 100 => ⟨S_, .f32⟩
  | 101 => ⟨S8x2048x4, .f32⟩
  | 102 => ⟨S8x2048x4x1, .f32⟩
  | 103 => ⟨S_, .f32⟩
  | 104 => ⟨S8x2048x4x1, .f32⟩
  | 105 => ⟨S8x2048x4x1, .f32⟩
  | 106 => ⟨S8x2048x4x1, .f32⟩
  | 107 => ⟨S8x2048x4x64, .f32⟩
  | 108 => ⟨S8x2048x4x64, .f32⟩
  | 109 => ⟨S16384x256, .f32⟩
  | 110 => ⟨S16384x256, .f32⟩
  | 111 => ⟨S8x2048x256, .f32⟩
  | 112 => ⟨S8x2048x256, .f32⟩
  | 113 => ⟨S_, .f32⟩
  | 114 => ⟨S8x2048x256, .f32⟩
  | 115 => ⟨S8x2048x256, .f32⟩
  | 116 => ⟨S_, .f32⟩
  | 117 => ⟨S8x2048x256, .f32⟩
  | 118 => ⟨S8x2048x256, .f32⟩
  | 119 => ⟨S8x2048x256, .f32⟩
  | 120 => ⟨S16384x256, .f32⟩
  | 121 => ⟨S8x2048x4x1, .f32⟩
  | 122 => ⟨S8x2048x4x64, .f32⟩
  | 123 => ⟨S16384x256, .f32⟩
  | 124 => ⟨S8x2048x4x1, .f32⟩
  | 125 => ⟨S8x2048x4x64, .f32⟩
  | 126 => ⟨S16384x256, .f32⟩
  | 127 => ⟨S16384x1536, .f32⟩
  | _ => ⟨S8x2048x1024, .f32⟩

abbrev hbmTy0_2 (i : Nat) : BufTy := match i % 128 with
  | 0 => ⟨S_, .f32⟩
  | 1 => ⟨S8x2048x256, .f32⟩
  | 2 => ⟨S8x2048x256, .f32⟩
  | 3 => ⟨S16384x256, .f32⟩
  | 4 => ⟨S16384x256, .f32⟩
  | 5 => ⟨S16384x256, .f32⟩
  | 6 => ⟨S8x2048x256, .f32⟩
  | 7 => ⟨S8x2048x256, .f32⟩
  | 8 => ⟨S_, .f32⟩
  | 9 => ⟨S8x2048x256, .f32⟩
  | 10 => ⟨S8x2048x256, .f32⟩
  | 11 => ⟨S_, .f32⟩
  | 12 => ⟨S8x2048x256, .f32⟩
  | 13 => ⟨S8x2048x256, .f32⟩
  | 14 => ⟨S8x2048x256, .f32⟩
  | 15 => ⟨S16384x256, .f32⟩
  | 16 => ⟨S16384x256, .f32⟩
  | 17 => ⟨S16384x1280, .f32⟩
  | 18 => ⟨S2048x8x256, .f32⟩
  | 19 => ⟨S2048x2048, .f32⟩
  | 20 => ⟨S8x2048x256, .f32⟩
  | 21 => ⟨S8x2048x256, .f32⟩
  | 22 => ⟨S_, .f32⟩
  | 23 => ⟨S8x2048x256, .f32⟩
  | 24 => ⟨S8x2048x256, .f32⟩
  | 25 => ⟨S_, .f32⟩
  | 26 => ⟨S8x2048x256, .f32⟩
  | 27 => ⟨S8x2048x256, .f32⟩
  | 28 => ⟨S8x2048x256, .f32⟩
  | 29 => ⟨S_, .f32⟩
  | 30 => ⟨S8x2048x256, .f32⟩
  | 31 => ⟨S8x2048x256, .f32⟩
  | 32 => ⟨S16384x256, .f32⟩
  | 33 => ⟨S16384x256, .f32⟩
  | 34 => ⟨S16384x256, .f32⟩
  | 35 => ⟨S8x2048x256, .f32⟩
  | 36 => ⟨S8x2048x256, .f32⟩
  | 37 => ⟨S_, .f32⟩
  | 38 => ⟨S8x2048x256, .f32⟩
  | 39 => ⟨S8x2048x256, .f32⟩
  | 40 => ⟨S_, .f32⟩
  | 41 => ⟨S8x2048x256, .f32⟩
  | 42 => ⟨S8x2048x256, .f32⟩
  | 43 => ⟨S8x2048x256, .f32⟩
  | 44 => ⟨S16384x256, .f32⟩
  | 45 => ⟨S16384x256, .f32⟩
  | 46 => ⟨S16384x1280, .f32⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_4 : Ref sig .tc := ⟨.hbm, 89, rfl⟩
abbrev main_v67 : Ref sig .tc := ⟨.hbm, 90, rfl⟩
abbrev main_v68 : Ref sig .tc := ⟨.hbm, 91, rfl⟩
abbrev main_cst_5 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_call1_cst : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_call1_v5 : Ref sig .tc := ⟨.hbm, 106, rfl⟩
abbrev main_call1_v6 : Ref sig .tc := ⟨.hbm, 107, rfl⟩
abbrev main_call1_v7 : Ref sig .tc := ⟨.hbm, 108, rfl⟩
abbrev main_call1_v8 : Ref sig .tc := ⟨.hbm, 109, rfl⟩
abbrev main_call1_v9 : Ref sig .tc := ⟨.hbm, 110, rfl⟩
abbrev main_call1_v10 : Ref sig .tc := ⟨.hbm, 111, rfl⟩
abbrev main_call1_v11 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_call2_v0 : Ref sig .tc := ⟨.hbm, 121, rfl⟩
abbrev main_call2_call0_cst : Ref sig .tc := ⟨.hbm, 122, rfl⟩
abbrev main_call2_call0_v0 : Ref sig .tc := ⟨.hbm, 123, rfl⟩
abbrev main_call2_call0_v1 : Ref sig .tc := ⟨.hbm, 124, rfl⟩
abbrev main_call2_call0_v2 : Ref sig .tc := ⟨.hbm, 125, rfl⟩
abbrev main_call2_call0_v3 : Ref sig .tc := ⟨.hbm, 126, rfl⟩
abbrev main_call2_call0_v4 : Ref sig .tc := ⟨.hbm, 127, rfl⟩
abbrev main_call2_call0_v5 : Ref sig .tc := ⟨.hbm, 128, rfl⟩
abbrev main_call2_call0_v6 : Ref sig .tc := ⟨.hbm, 129, rfl⟩
abbrev main_call2_call0_v7 : Ref sig .tc := ⟨.hbm, 130, rfl⟩
abbrev main_call2_call0_v8 : Ref sig .tc := ⟨.hbm, 131, rfl⟩
abbrev main_call2_call0_v9 : Ref sig .tc := ⟨.hbm, 132, rfl⟩
abbrev main_call2_call0_v10 : Ref sig .tc := ⟨.hbm, 133, rfl⟩
abbrev main_call2_call0_v11 : Ref sig .tc := ⟨.hbm, 134, rfl⟩
abbrev main_call2_v1 : Ref sig .tc := ⟨.hbm, 135, rfl⟩
abbrev main_v84 : Ref sig .tc := ⟨.hbm, 136, rfl⟩
abbrev main_cst_6 : Ref sig .tc := ⟨.hbm, 137, rfl⟩
abbrev main_v85 : Ref sig .tc := ⟨.hbm, 138, rfl⟩
abbrev main_v86 : Ref sig .tc := ⟨.hbm, 139, rfl⟩
abbrev main_call3_v0 : Ref sig .tc := ⟨.hbm, 140, rfl⟩
abbrev main_call3_call0_cst : Ref sig .tc := ⟨.hbm, 141, rfl⟩
abbrev main_call3_call0_v0 : Ref sig .tc := ⟨.hbm, 142, rfl⟩
abbrev main_call3_call0_v1 : Ref sig .tc := ⟨.hbm, 143, rfl⟩
abbrev main_call3_call0_v2 : Ref sig .tc := ⟨.hbm, 144, rfl⟩
abbrev main_call3_call0_v3 : Ref sig .tc := ⟨.hbm, 145, rfl⟩
abbrev main_call3_call0_v4 : Ref sig .tc := ⟨.hbm, 146, rfl⟩
abbrev main_call3_call0_v5 : Ref sig .tc := ⟨.hbm, 147, rfl⟩
abbrev main_call3_call0_v6 : Ref sig .tc := ⟨.hbm, 148, rfl⟩
abbrev main_call3_call0_v7 : Ref sig .tc := ⟨.hbm, 149, rfl⟩
abbrev main_call3_call0_v8 : Ref sig .tc := ⟨.hbm, 150, rfl⟩
abbrev main_call3_call0_v9 : Ref sig .tc := ⟨.hbm, 151, rfl⟩
abbrev main_call3_call0_v10 : Ref sig .tc := ⟨.hbm, 152, rfl⟩
abbrev main_call3_call0_v11 : Ref sig .tc := ⟨.hbm, 153, rfl⟩
abbrev main_call3_v1 : Ref sig .tc := ⟨.hbm, 154, rfl⟩
abbrev main_v87 : Ref sig .tc := ⟨.hbm, 155, rfl⟩
abbrev main_cst_7 : Ref sig .tc := ⟨.hbm, 156, rfl⟩
abbrev main_v88 : Ref sig .tc := ⟨.hbm, 157, rfl⟩
abbrev main_v89 : Ref sig .tc := ⟨.hbm, 158, rfl⟩
abbrev main_cst_8 : Ref sig .tc := ⟨.hbm, 159, rfl⟩
abbrev main_call4_v0 : Ref sig .tc := ⟨.hbm, 160, rfl⟩
abbrev main_call4_v1 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_call5_v0 : Ref sig .tc := ⟨.hbm, 165, rfl⟩
abbrev main_call5_call0_cst : Ref sig .tc := ⟨.hbm, 166, rfl⟩
abbrev main_call5_call0_v0 : Ref sig .tc := ⟨.hbm, 167, rfl⟩
abbrev main_call5_call0_v1 : Ref sig .tc := ⟨.hbm, 168, rfl⟩
abbrev main_call5_call0_v2 : Ref sig .tc := ⟨.hbm, 169, rfl⟩
abbrev main_call5_call0_v3 : Ref sig .tc := ⟨.hbm, 170, rfl⟩
abbrev main_call5_call0_v4 : Ref sig .tc := ⟨.hbm, 171, rfl⟩
abbrev main_call5_call0_v5 : Ref sig .tc := ⟨.hbm, 172, rfl⟩
abbrev main_call5_call0_v6 : Ref sig .tc := ⟨.hbm, 173, rfl⟩
abbrev main_call5_call0_v7 : Ref sig .tc := ⟨.hbm, 174, rfl⟩
abbrev main_call5_call0_v8 : Ref sig .tc := ⟨.hbm, 175, rfl⟩
abbrev main_call5_call0_v9 : Ref sig .tc := ⟨.hbm, 176, rfl⟩
abbrev main_call5_call0_v10 : Ref sig .tc := ⟨.hbm, 177, rfl⟩
abbrev main_call5_call0_v11 : Ref sig .tc := ⟨.hbm, 178, rfl⟩
abbrev main_call5_v1 : Ref sig .tc := ⟨.hbm, 179, rfl⟩
abbrev main_v93 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_call6_v0 : Ref sig .tc := ⟨.hbm, 194, rfl⟩
abbrev main_v107 : Ref sig .tc := ⟨.hbm, 195, rfl⟩
abbrev main_cst_9 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_cst_10 : Ref sig .tc := ⟨.hbm, 202, rfl⟩
abbrev main_v113 : Ref sig .tc := ⟨.hbm, 203, rfl⟩
abbrev main_v114 : Ref sig .tc := ⟨.hbm, 204, rfl⟩
abbrev main_cst_11 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_cst_12 : Ref sig .tc := ⟨.hbm, 213, rfl⟩
abbrev main_v122 : Ref sig .tc := ⟨.hbm, 214, rfl⟩
abbrev main_v123 : Ref sig .tc := ⟨.hbm, 215, rfl⟩
abbrev main_cst_13 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_cst_14 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_cst_15 : Ref sig .tc := ⟨.hbm, 228, rfl⟩
abbrev main_v134 : Ref sig .tc := ⟨.hbm, 229, rfl⟩
abbrev main_v135 : Ref sig .tc := ⟨.hbm, 230, rfl⟩
abbrev main_cst_16 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_call7_v0 : Ref sig .tc := ⟨.hbm, 239, rfl⟩
abbrev main_call7_v1 : Ref sig .tc := ⟨.hbm, 240, rfl⟩
abbrev main_call7_cst : Ref sig .tc := ⟨.hbm, 241, rfl⟩
abbrev main_call7_v2 : Ref sig .tc := ⟨.hbm, 242, rfl⟩
abbrev main_call7_v3 : Ref sig .tc := ⟨.hbm, 243, rfl⟩
abbrev main_call7_cst_0 : Ref sig .tc := ⟨.hbm, 244, rfl⟩
abbrev main_call7_v4 : Ref sig .tc := ⟨.hbm, 245, rfl⟩
abbrev main_call7_v5 : Ref sig .tc := ⟨.hbm, 246, rfl⟩
abbrev main_v143 : Ref sig .tc := ⟨.hbm, 247, rfl⟩
abbrev main_v144 : Ref sig .tc := ⟨.hbm, 248, rfl⟩
abbrev main_v145 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_v149 : Ref sig .tc := ⟨.hbm, 253, rfl⟩
abbrev main_v150 : Ref sig .tc := ⟨.hbm, 254, rfl⟩
abbrev main_v151 : Ref sig .tc := ⟨.hbm, 255, rfl⟩
abbrev main_cst_17 : Ref sig .tc := ⟨.hbm, 256, rfl⟩
abbrev main_v152 : Ref sig .tc := ⟨.hbm, 257, rfl⟩
abbrev main_v153 : Ref sig .tc := ⟨.hbm, 258, rfl⟩
abbrev main_v154 : Ref sig .tc := ⟨.hbm, 259, rfl⟩
abbrev main_v155 : Ref sig .tc := ⟨.hbm, 260, rfl⟩
abbrev main_v156 : Ref sig .tc := ⟨.hbm, 261, rfl⟩
abbrev main_call8_v0 : Ref sig .tc := ⟨.hbm, 262, rfl⟩
abbrev main_call8_v1 : Ref sig .tc := ⟨.hbm, 263, rfl⟩
abbrev main_call8_cst : Ref sig .tc := ⟨.hbm, 264, rfl⟩
abbrev main_call8_v2 : Ref sig .tc := ⟨.hbm, 265, rfl⟩
abbrev main_call8_v3 : Ref sig .tc := ⟨.hbm, 266, rfl⟩
abbrev main_call8_cst_0 : Ref sig .tc := ⟨.hbm, 267, rfl⟩
abbrev main_call8_v4 : Ref sig .tc := ⟨.hbm, 268, rfl⟩
abbrev main_call8_v5 : Ref sig .tc := ⟨.hbm, 269, rfl⟩
abbrev main_v157 : Ref sig .tc := ⟨.hbm, 270, rfl⟩
abbrev main_v158 : Ref sig .tc := ⟨.hbm, 271, rfl⟩
abbrev main_v159 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_call9_v0 : Ref sig .tc := ⟨.hbm, 276, rfl⟩
abbrev main_call9_v1 : Ref sig .tc := ⟨.hbm, 277, rfl⟩
abbrev main_call9_cst : Ref sig .tc := ⟨.hbm, 278, rfl⟩
abbrev main_call9_v2 : Ref sig .tc := ⟨.hbm, 279, rfl⟩
abbrev main_call9_v3 : Ref sig .tc := ⟨.hbm, 280, rfl⟩
abbrev main_call9_cst_0 : Ref sig .tc := ⟨.hbm, 281, rfl⟩
abbrev main_call9_v4 : Ref sig .tc := ⟨.hbm, 282, rfl⟩
abbrev main_call9_v5 : Ref sig .tc := ⟨.hbm, 283, rfl⟩
abbrev main_v163 : Ref sig .tc := ⟨.hbm, 284, rfl⟩
abbrev main_cst_18 : Ref sig .tc := ⟨.hbm, 285, rfl⟩
abbrev main_v164 : Ref sig .tc := ⟨.hbm, 286, rfl⟩
abbrev main_v165 : Ref sig .tc := ⟨.hbm, 287, rfl⟩
abbrev main_v166 : Ref sig .tc := ⟨.hbm, 288, rfl⟩
abbrev main_v167 : Ref sig .tc := ⟨.hbm, 289, rfl⟩
abbrev main_v168 : Ref sig .tc := ⟨.hbm, 290, rfl⟩
abbrev main_call10_v0 : Ref sig .tc := ⟨.hbm, 291, rfl⟩
abbrev main_call10_v1 : Ref sig .tc := ⟨.hbm, 292, rfl⟩
abbrev main_call10_cst : Ref sig .tc := ⟨.hbm, 293, rfl⟩
abbrev main_call10_v2 : Ref sig .tc := ⟨.hbm, 294, rfl⟩
abbrev main_call10_v3 : Ref sig .tc := ⟨.hbm, 295, rfl⟩
abbrev main_call10_cst_0 : Ref sig .tc := ⟨.hbm, 296, rfl⟩
abbrev main_call10_v4 : Ref sig .tc := ⟨.hbm, 297, rfl⟩
abbrev main_call10_v5 : Ref sig .tc := ⟨.hbm, 298, rfl⟩
abbrev main_v169 : Ref sig .tc := ⟨.hbm, 299, rfl⟩
abbrev main_v170 : Ref sig .tc := ⟨.hbm, 300, rfl⟩
abbrev main_v171 : Ref sig .tc := ⟨.hbm, 301, rfl⟩
abbrev main_v172 : Ref sig .tc := ⟨.hbm, 302, rfl⟩

abbrev nD : Nat := 1
abbrev τ : Topo := Topo.v7x

variable {F : FTy → Type} [FloatOps F]
-- ==== Kernel6.lean ====
abbrev S128x1x1024 : Shape := ⟨3, ![128, 1, 1024]⟩
abbrev S1024 : Shape := ⟨1, ![1024]⟩
abbrev S1024x2816 : Shape := ⟨2, ![1024, 2816]⟩
abbrev S2816x1024 : Shape := ⟨2, ![2816, 1024]⟩
abbrev S128x1024 : Shape := ⟨2, ![128, 1024]⟩
abbrev S1x1024 : Shape := ⟨2, ![1, 1024]⟩
abbrev S128 : Shape := ⟨1, ![128]⟩
abbrev S128x1 : Shape := ⟨2, ![128, 1]⟩
abbrev S1024x256 : Shape := ⟨2, ![1024, 256]⟩
abbrev S128x256 : Shape := ⟨2, ![128, 256]⟩
abbrev S256x1024 : Shape := ⟨2, ![256, 1024]⟩

abbrev nBuf : Space → Nat
  | .hbm => 13
  | .vmem => 7
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S128x1024, .f32⟩
  | .hbm, ⟨10, _⟩ => ⟨S1x1024, .f32⟩
  | .hbm, ⟨11, _⟩ => ⟨S1x1024, .f32⟩
  | .hbm, ⟨12, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference6Ideal.lean ====
abbrev S128x1x1024 : Shape := ⟨3, ![128, 1, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x2816 : Shape := ⟨3, ![128, 1, 2816]⟩
abbrev S128x1024 : Shape := ⟨2, ![128, 1024]⟩

abbrev nBuf : Space → Nat
  | .hbm => 53
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S128x1x1024, .f32⟩
  | .hbm, ⟨7, _⟩ => ⟨S_, .f32⟩
  | .hbm, ⟨8, _⟩ => ⟨S128x1, .f32⟩
  | .hbm, ⟨9, _⟩ => ⟨S128x1x1, .f32⟩
  | .hbm, ⟨10, _⟩ => ⟨S_, .f32⟩
  | .hbm, ⟨11, _⟩ => ⟨S128x1x1, .f32⟩
  | .hbm, ⟨12, _⟩ => ⟨S128x1x1, .f32⟩
  | .hbm, ⟨13, _⟩ => ⟨S_, .f32⟩
  | .hbm, ⟨14, _⟩ => ⟨S128x1x1, .f32⟩
  | .hbm, ⟨15, _⟩ => ⟨S128x1x1, .f32⟩
  | .hbm, ⟨16, _⟩ => ⟨S128x1x1, .f32⟩
  | .hbm, ⟨17, _⟩ => ⟨S128x1x1024, .f32⟩
  | .hbm, ⟨18, _⟩ => ⟨S128x1x1024, .f32⟩
  | .hbm, ⟨19, _⟩ => ⟨S1x1x1024, .f32⟩
  | .hbm, ⟨20, _⟩ => ⟨S128x1x1024, .f32⟩
  | .hbm, ⟨21, _⟩ => ⟨S128x1x1024, .f32⟩
  | .hbm, ⟨22, _⟩ => ⟨S128x1x2816, .f32⟩
  | .hbm, ⟨23, _⟩ => ⟨S128x1x2816, .f32⟩
  | .hbm, ⟨24, _⟩ => ⟨S128x1x2816, .f32⟩
  | .hbm, ⟨25, _⟩ => ⟨S_, .f32⟩
  | .hbm, ⟨26, _⟩ => ⟨S128x1x2816, .f32⟩
  | .hbm, ⟨27, _⟩ => ⟨S128x1x2816, .f32⟩
  | .hbm, ⟨28, _⟩ => ⟨S_, .f32⟩
  | .hbm, ⟨29, _⟩ => ⟨S128x1x2816, .f32⟩
  | .hbm, ⟨30, _⟩ => ⟨S128x1x2816, .f32⟩
  | .hbm, ⟨31, _⟩ => ⟨S128x1x2816, .f32⟩
  | .hbm, ⟨32, _⟩ => ⟨S128x1x2816, .f32⟩
  | .hbm, ⟨33, _⟩ => ⟨S128x1x2816, .f32⟩
  | .hbm, ⟨34, _⟩ => ⟨S128x1x1024, .f32⟩
  | .hbm, ⟨35, _⟩ => ⟨S128x1x1024, .f32⟩
  | .hbm, ⟨36, _⟩ => ⟨S128x1x1024, .f32⟩
  | .hbm, ⟨37, _⟩ => ⟨S_, .f32⟩
  | .hbm, ⟨38, _⟩ => ⟨S128x1, .f32⟩
  | .hbm, ⟨39, _⟩ => ⟨S128x1x1, .f32⟩
  | .hbm, ⟨40, _⟩ => ⟨S_, .f32⟩
  | .hbm, ⟨41, _⟩ => ⟨S128x1x1, .f32⟩
  | .hbm, ⟨42, _⟩ => ⟨S128x1x1, .f32⟩
  | .hbm, ⟨43, _⟩ => ⟨S_, .f32⟩
  | .hbm, ⟨44, _⟩ => ⟨S128x1x1, .f32⟩
  | .hbm, ⟨45, _⟩ => ⟨S128x1x1, .f32⟩
  | .hbm, ⟨46, _⟩ => ⟨S128x1x1, .f32⟩
  | .hbm, ⟨47, _⟩ => ⟨S128x1x1024, .f32⟩
  | .hbm, ⟨48, _⟩ => ⟨S128x1x1024, .f32⟩
  | .hbm, ⟨49, _⟩ => ⟨S1x1x1024, .f32⟩
  | .hbm, ⟨50, _⟩ => ⟨S128x1x1024, .f32⟩
  | .hbm, ⟨51, _⟩ => ⟨S128x1x1024, .f32⟩
  | .hbm, ⟨52, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel7.lean ====
abbrev S128x1x256 : Shape := ⟨3, ![128, 1, 256]⟩
abbrev S128x16x64 : Shape := ⟨3, ![128, 16, 64]⟩
abbrev S16x64 : Shape := ⟨2, ![16, 64]⟩
abbrev S16x64x16 : Shape := ⟨3, ![16, 64, 16]⟩
abbrev S16x16x64 : Shape := ⟨3, ![16, 16, 64]⟩
abbrev S256 : Shape := ⟨1, ![256]⟩
abbrev S16 : Shape := ⟨1, ![16]⟩
abbrev S256x512 : Shape := ⟨2, ![256, 512]⟩
abbrev S_ : Shape := ⟨0, ![]⟩
abbrev S16x1 : Shape := ⟨2, ![16, 1]⟩
abbrev S16x64x1 : Shape := ⟨3, ![16, 64, 1]⟩
abbrev S16x16 : Shape := ⟨2, ![16, 16]⟩
abbrev S1x1024 : Shape := ⟨2, ![1, 1024]⟩
abbrev S16x16x1x64 : Shape := ⟨4, ![16, 16, 1, 64]⟩
abbrev S16x1x16x1 : Shape := ⟨4, ![16, 1, 16, 1]⟩
abbrev S16x16x16x64 : Shape := ⟨4, ![16, 16, 16, 64]⟩
abbrev S256x1024 : Shape := ⟨2, ![256, 1024]⟩
abbrev S16x64x1x16 : Shape := ⟨4, ![16, 64, 1, 16]⟩
abbrev S16x64x16x16 : Shape := ⟨4, ![16, 64, 16, 16]⟩
abbrev S1024x256 : Shape := ⟨2, ![1024, 256]⟩
abbrev S1x256 : Shape := ⟨2, ![1, 256]⟩
abbrev S128x256 : Shape := ⟨2, ![128, 256]⟩
abbrev S128x1024 : Shape := ⟨2, ![128, 1024]⟩
abbrev S128x512 : Shape := ⟨2, ![128, 512]⟩

abbrev nBuf : Space → Nat
  | .hbm => 108
  | .vmem => 16
  | .smem => 0
  | _ => 0

abbrev bufTy : (tb : Table) → Fin (tcTables nBuf tb) → BufTy
  | .hbm, ⟨0, _⟩ => ⟨S128x1x256, .f32⟩
  | .hbm, ⟨1, _⟩ => ⟨S128x16x64, .f32⟩
  | .hbm, ⟨2, _⟩ => ⟨S128x16x64, .f32⟩
  | .hbm, ⟨3, _⟩ => ⟨S16x64, .f32⟩
  | .hbm, ⟨4, _⟩ => ⟨S16x64, .f32⟩
  | .hbm, ⟨5, _⟩ => ⟨S16x64x16, .f32⟩
  | .hbm, ⟨6, _⟩ => ⟨S16x64x16, .f32⟩
  | .hbm, ⟨7, _⟩ => ⟨S16x16x64, .f32⟩
  | .hbm, ⟨8, _⟩ => ⟨S16x16x64, .f32⟩
  | .hbm, ⟨9, _⟩ => ⟨S256, .f32⟩
  | .hbm, ⟨10, _⟩ => ⟨S16, .f32⟩
  | .hbm, ⟨11, _⟩ => ⟨S256x512, .f32⟩
  | .hbm, ⟨12, _⟩ => ⟨S_, .f32⟩
  | .hbm, ⟨13, _⟩ => ⟨S16x64, .f32⟩
  | .hbm, ⟨14, _⟩ => ⟨S16x64, .f32⟩
  | .hbm, ⟨15, _⟩ => ⟨S16, .f32⟩
  | .hbm, ⟨16, _⟩ => ⟨S16x1, .f32⟩
  | .hbm, ⟨17, _⟩ => ⟨S16x64, .f32⟩
  | .hbm, ⟨18, _⟩ => ⟨S16x64, .f32⟩
  | .hbm, ⟨19, _⟩ => ⟨S16x64, .f32⟩
  | .hbm, ⟨20, _⟩ => ⟨S16x64, .f32⟩
  | .hbm, ⟨21, _⟩ => ⟨S16x64, .f32⟩
  | .hbm, ⟨22, _⟩ => ⟨S16x64, .f32⟩
  | .hbm, ⟨23, _⟩ => ⟨S16x64, .f32⟩
  | .hbm, ⟨24, _⟩ => ⟨S16x64, .f32⟩
  | .hbm, ⟨25, _⟩ => ⟨S16x64, .f32⟩
  | .hbm, ⟨26, _⟩ => ⟨S16x64, .f32⟩
  | .hbm, ⟨27, _⟩ => ⟨S16x64, .f32⟩
  | .hbm, ⟨28, _⟩ => ⟨S16x64, .f32⟩
  | .hbm, ⟨29, _⟩ => ⟨S16x64, .f32⟩
  | .hbm, ⟨30, _⟩ => ⟨S16x64, .f32⟩
  | .hbm, ⟨31, _⟩ => ⟨S_, .f32⟩
  | .hbm, ⟨32, _⟩ => ⟨S16x64, .f32⟩
  | .hbm, ⟨33, _⟩ => ⟨S16x64, .f32⟩
  | .hbm, ⟨34, _⟩ => ⟨S16x64, .f32⟩
  | .hbm, ⟨35, _⟩ => ⟨S16x64, .f32⟩
  | .hbm, ⟨36, _⟩ => ⟨S16x64, .f32⟩
  | .hbm, ⟨37, _⟩ => ⟨S16x64, .f32⟩
  | .hbm, ⟨38, _⟩ => ⟨S16x64, .f32⟩
  | .hbm, ⟨39, _⟩ => ⟨S_, .f32⟩
  | .hbm, ⟨40, _⟩ => ⟨S16x64, .f32⟩
  | .hbm, ⟨41, _⟩ => ⟨S16x64, .f32⟩
  | .hbm, ⟨42, _⟩ => ⟨S16x64, .f32⟩
  | .hbm, ⟨43, _⟩ => ⟨S16x64, .f32⟩
  | .hbm, ⟨44, _⟩ => ⟨S16x64, .f32⟩
  | .hbm, ⟨45, _⟩ => ⟨S16x64x1, .f32⟩
  | .hbm, ⟨46, _⟩ => ⟨S16x64x16, .f32⟩
  | .hbm, ⟨47, _⟩ => ⟨S16x64x16, .f32⟩
  | .hbm, ⟨48, _⟩ => ⟨S16x64x1, .f32⟩
  | .hbm, ⟨49, _⟩ => ⟨S16x64x16, .f32⟩
  | .hbm, ⟨50, _⟩ => ⟨S16x64x16, .f32⟩
  | .hbm, ⟨51, _⟩ => ⟨S16x64x16, .f32⟩
  | .hbm, ⟨52, _⟩ => ⟨S16x64x1, .f32⟩
  | .hbm, ⟨53, _⟩ => ⟨S16x64x16, .f32⟩
  | .hbm, ⟨54, _⟩ => ⟨S16x64x16, .f32⟩
  | .hbm, ⟨55, _⟩ => ⟨S16x64x1, .f32⟩
  | .hbm, ⟨56, _⟩ => ⟨S16x64x16, .f32⟩
  | .hbm, ⟨57, _⟩ => ⟨S16x64x16, .f32⟩
  | .hbm, ⟨58, _⟩ => ⟨S16x64x16, .f32⟩
  | .hbm, ⟨59, _⟩ => ⟨S16x16, .i32⟩
  | .hbm, ⟨60, _⟩ => ⟨S16x16, .i32⟩
  | .hbm, ⟨61, _⟩ => ⟨S_, .i32⟩
  | .hbm, ⟨62, _⟩ => ⟨S16x16, .i32⟩
  | .hbm, ⟨63, _⟩ => ⟨S16x16, .i32⟩
  | .hbm, ⟨64, _⟩ => ⟨S16x16, .i1⟩
  | .hbm, ⟨65, _⟩ => ⟨S16x16, .f32⟩
  | .hbm, ⟨66, _⟩ => ⟨S1x1024, .f32⟩
  | .hbm, ⟨67, _⟩ => ⟨S1x1024, .f32⟩
  | .hbm, ⟨68, _⟩ => ⟨S16x16x64, .f32⟩
  | .hbm, ⟨69, _⟩ => ⟨S16x16x1x64, .f32⟩
  | .hbm, ⟨70, _⟩ => ⟨S16x1x16x1, .f32⟩
  | .hbm, ⟨71, _⟩ => ⟨S16x16x16x64, .f32⟩
  | .hbm, ⟨72, _⟩ => ⟨S16x16x16x64, .f32⟩
  | .hbm, ⟨73, _⟩ => ⟨S16x16x16x64, .f32⟩
  | .hbm, ⟨74, _⟩ => ⟨S256x1024, .f32⟩
  | .hbm, ⟨75, _⟩ => ⟨S256x1024, .bf16⟩
  | .hbm, ⟨76, _⟩ => ⟨S16x16x64, .f32⟩
  | .hbm, ⟨77, _⟩ => ⟨S16x16x1x64, .f32⟩
  | .hbm, ⟨78, _⟩ => ⟨S16x1x16x1, .f32⟩
  | .hbm, ⟨79, _⟩ => ⟨S16x16x16x64, .f32⟩
  | .hbm, ⟨80, _⟩ => ⟨S16x16x16x64, .f32⟩
  | .hbm, ⟨81, _⟩ => ⟨S16x16x16x64, .f32⟩
  | .hbm, ⟨82, _⟩ => ⟨S256x1024, .f32⟩
  | .hbm, ⟨83, _⟩ => ⟨S256x1024, .bf16⟩
  | .hbm, ⟨84, _⟩ => ⟨S16x64x16, .f32⟩
  | .hbm, ⟨85, _⟩ => ⟨S16x64x1x16, .f32⟩
  | .hbm, ⟨86, _⟩ => ⟨S16x1x16x1, .f32⟩
  | .hbm, ⟨87, _⟩ => ⟨S16x64x16x16, .f32⟩
  | .hbm, ⟨88, _⟩ => ⟨S16x64x16x16, .f32⟩
  | .hbm, ⟨89, _⟩ => ⟨S16x64x16x16, .f32⟩
  | .hbm, ⟨90, _⟩ => ⟨S1024x256, .f32⟩
  | .hbm, ⟨91, _⟩ => ⟨S1024x256, .bf16⟩
  | .hbm, ⟨92, _⟩ => ⟨S16x64x16, .f32⟩
  | .hbm, ⟨93, _⟩ => ⟨S16x64x1x16, .f32⟩
  | .hbm, ⟨94, _⟩ => ⟨S16x1x16x1, .f32⟩
  | .hbm, ⟨95, _⟩ => ⟨S16x64x16x16, .f32⟩
  | .hbm, ⟨96, _⟩ => ⟨S16x64x16x16, .f32⟩
  | .hbm, ⟨97, _⟩ => ⟨S16x64x16x16, .f32⟩
  | .hbm, ⟨98, _⟩ => ⟨S1024x256, .f32⟩
  | .hbm, ⟨99, _⟩ => ⟨S1024x256, .bf16⟩
  | .hbm, ⟨100, _⟩ => ⟨S1x256, .f32⟩
  | .hbm, ⟨101, _⟩ => ⟨S256x512, .bf16⟩
  | .hbm, ⟨102, _⟩ => ⟨S128x256, .f32⟩
  | .hbm, ⟨103, _⟩ => ⟨S128x1024, .f32⟩
  | .hbm, ⟨104, _⟩ => ⟨S128x1024, .f32⟩
  | .hbm, ⟨105, _⟩ => ⟨S128x256, .f32⟩
  | .hbm, ⟨106, _⟩ => ⟨S128x1024, .f32⟩
  | .hbm, ⟨107, _⟩ => ⟨S128x1024, .f32⟩
  | .local _ .vmem, ⟨0, _⟩ => ⟨S128x256, .f32⟩
  | .local _ .vmem, ⟨1, _⟩ => ⟨S128x1024, .f32⟩
  | .local _ .vmem, ⟨2, _⟩ => ⟨S128x1024, .f32⟩
  | .local _ .vmem, ⟨3, _⟩ => ⟨S1x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | .local _ .vmem, ⟨7, _⟩ => ⟨S1024x256, .bf16⟩
  | .local _ .vmem, ⟨8, _⟩ => ⟨S1024x256, .bf16⟩
  | .local _ .vmem, ⟨9, _⟩ => ⟨S1x256, .f32⟩
  | .local _ .vmem, ⟨10, _⟩ => ⟨S256x512, .bf16⟩
  | .local _ .vmem, ⟨11, _⟩ => ⟨S128x256, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S128x1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89_0 : Ref sig .tc := ⟨.hbm, 105, rfl⟩
abbrev main_v89_1 : Ref sig .tc := ⟨.hbm, 106, rfl⟩
abbrev main_v89_2 : Ref sig .tc := ⟨.hbm, 107, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def k0_mult1 : BitVec 32 :=
  let c0_i32_19 : BitVec 32 := 0#32
  let c128_i32 : BitVec 32 := 128#32
  let v30 : BitVec 32 := Scalar.muli c0_i32_19 c128_i32
  v30
def k0_off1 : Fin 2 → Nat :=
  let c0_i32_19 : BitVec 32 := 0#32
  let c128_i32 : BitVec 32 := 128#32
  let v30 : BitVec 32 := Scalar.muli c0_i32_19 c128_i32
  let v31 : BitVec 32 := v30
  let v32 : Index := Scalar.indexCast v31
  let c0_20 : Index := 0#32
  ![v32.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference7Ideal.lean ====
abbrev S128x1x256 : Shape := ⟨3, ![128, 1, 256]⟩
abbrev S128x16x64 : Shape := ⟨3, ![128, 16, 64]⟩
abbrev S16x64 : Shape := ⟨2, ![16, 64]⟩
abbrev S16x64x16 : Shape := ⟨3, ![16, 64, 16]⟩
abbrev S16x16x64 : Shape := ⟨3, ![16, 16, 64]⟩
abbrev S256 : Shape := ⟨1, ![256]⟩
abbrev S16 : Shape := ⟨1, ![16]⟩
abbrev S256x512 : Shape := ⟨2, ![256, 512]⟩
abbrev S128x1x16x16 : Shape := ⟨4, ![128, 1, 16, 16]⟩
abbrev S_ : Shape := ⟨0, ![]⟩
abbrev S16x1 : Shape := ⟨2, ![16, 1]⟩
abbrev S16x64x1 : Shape := ⟨3, ![16, 64, 1]⟩
abbrev S16x64x128x1 : Shape := ⟨4, ![16, 64, 128, 1]⟩
abbrev S128x1x16x64 : Shape := ⟨4, ![128, 1, 16, 64]⟩
abbrev S1x16x64 : Shape := ⟨3, ![1, 16, 64]⟩
abbrev S1 : Shape := ⟨1, ![1]⟩
abbrev S16x16x128x1 : Shape := ⟨4, ![16, 16, 128, 1]⟩
abbrev S1x1x256 : Shape := ⟨3, ![1, 1, 256]⟩
abbrev S128x1x512 : Shape := ⟨3, ![128, 1, 512]⟩
abbrev S128x256 : Shape := ⟨2, ![128, 256]⟩
abbrev S128x1024 : Shape := ⟨2, ![128, 1024]⟩

abbrev nBuf : Space → Nat
  | .hbm => 131
  | .vmem => 0
  | .smem => 0
  | _ => 0

abbrev hbmTy0_0 (i : Nat) : BufTy := match i % 128 with
  | 0 => ⟨S128x1x256, .f32⟩
  | 1 => ⟨S128x16x64, .f32⟩
  | 2 => ⟨S128x16x64, .f32⟩
  | 3 => ⟨S16x64, .f32⟩
  | 4 => ⟨S16x64, .f32⟩
  | 5 => ⟨S16x64x16, .f32⟩
  | 6 => ⟨S16x64x16, .f32⟩
  | 7 => ⟨S16x16x64, .f32⟩
  | 8 => ⟨S16x16x64, .f32⟩
  | 9 => ⟨S256, .f32⟩
  | 10 => ⟨S16, .f32⟩
  | 11 => ⟨S256x512, .f32⟩
  | 12 => ⟨S128x1x16x16, .f32⟩
  | 13 => ⟨S_, .f32⟩
  | 14 => ⟨S16x64, .f32⟩
  | 15 => ⟨S16x64, .f32⟩
  | 16 => ⟨S16, .f32⟩
  | 17 => ⟨S16x1, .f32⟩
  | 18 => ⟨S16x64, .f32⟩
  | 19 => ⟨S16x64, .f32⟩
  | 20 => ⟨S16x64, .f32⟩
  | 21 => ⟨S16x64, .f32⟩
  | 22 => ⟨S16x64, .f32⟩
  | 23 => ⟨S16x64, .f32⟩
  | 24 => ⟨S16x64, .f32⟩
  | 25 => ⟨S16x64, .f32⟩
  | 26 => ⟨S16x64, .f32⟩
  | 27 => ⟨S16x64, .f32⟩
  | 28 => ⟨S16x64, .f32⟩
  | 29 => ⟨S16x64, .f32⟩
  | 30 => ⟨S16x64, .f32⟩
  | 31 => ⟨S16x64, .f32⟩
  | 32 => ⟨S_, .f32⟩
  | 33 => ⟨S16x64, .f32⟩
  | 34 => ⟨S16x64, .f32⟩
  | 35 => ⟨S16x64, .f32⟩
  | 36 => ⟨S16x64, .f32⟩
  | 37 => ⟨S16x64, .f32⟩
  | 38 => ⟨S16x64, .f32⟩
  | 39 => ⟨S16x64, .f32⟩
  | 40 => ⟨S_, .f32⟩
  | 41 => ⟨S16x64, .f32⟩
  | 42 => ⟨S16x64, .f32⟩
  | 43 => ⟨S16x64, .f32⟩
  | 44 => ⟨S16x64, .f32⟩
  | 45 => ⟨S16x64, .f32⟩
  | 46 => ⟨S16x64x1, .f32⟩
  | 47 => ⟨S16x64x16, .f32⟩
  | 48 => ⟨S16x64x16, .f32⟩
  | 49 => ⟨S16x64x1, .f32⟩
  | 50 => ⟨S16x64x16, .f32⟩
  | 51 => ⟨S16x64x16, .f32⟩
  | 52 => ⟨S16x64x16, .f32⟩
  | 53 => ⟨S16x64x1, .f32⟩
  | 54 => ⟨S16x64x16, .f32⟩
  | 55 => ⟨S16x64x16, .f32⟩
  | 56 => ⟨S16x64x1, .f32⟩
  | 57 => ⟨S16x64x16, .f32⟩
  | 58 => ⟨S16x64x16, .f32⟩
  | 59 => ⟨S16x64x16, .f32⟩
  | 60 => ⟨S16x64x128x1, .f32⟩
  | 61 => ⟨S128x1x16x64, .f32⟩
  | 62 => ⟨S16x64x128x1, .f32⟩
  | 63 => ⟨S128x1x16x64, .f32⟩
  | 64 => ⟨S1x16x64, .f32⟩
  | 65 => ⟨S128x16x64, .f32⟩
  | 66 => ⟨S128x16x64, .f32⟩
  | 67 => ⟨S1x16x64, .f32⟩
  | 68 => ⟨S128x16x64, .f32⟩
  | 69 => ⟨S128x16x64, .f32⟩
  | 70 => ⟨S128x16x64, .f32⟩
  | 71 => ⟨S_, .i32⟩
  | 72 => ⟨S1, .i32⟩
  | 73 => ⟨S128x1x16x64, .f32⟩
  | 74 => ⟨S1x16x64, .f32⟩
  | 75 => ⟨S128x16x64, .f32⟩
  | 76 => ⟨S128x16x64, .f32⟩
  | 77 => ⟨S1x16x64, .f32⟩
  | 78 => ⟨S128x16x64, .f32⟩
  | 79 => ⟨S128x16x64, .f32⟩
  | 80 => ⟨S128x16x64, .f32⟩
  | 81 => ⟨S_, .i32⟩
  | 82 => ⟨S1, .i32⟩
  | 83 => ⟨S128x1x16x64, .f32⟩
  | 84 => ⟨S128x1x16x64, .f32⟩
  | 85 => ⟨S128x1x16x64, .f32⟩
  | 86 => ⟨S16x16x128x1, .f32⟩
  | 87 => ⟨S128x1x16x16, .f32⟩
  | 88 => ⟨S16x16x128x1, .f32⟩
  | 89 => ⟨S128x1x16x16, .f32⟩
  | 90 => ⟨S128x1x16x16, .f32⟩
  | 91 => ⟨S128x1x256, .f32⟩
  | 92 => ⟨S128x1x256, .f32⟩
  | 93 => ⟨S1x1x256, .f32⟩
  | 94 => ⟨S128x1x256, .f32⟩
  | 95 => ⟨S128x1x256, .f32⟩
  | 96 => ⟨S128x1x256, .f32⟩
  | 97 => ⟨S128x1x256, .f32⟩
  | 98 => ⟨S128x1x256, .f32⟩
  | 99 => ⟨S_, .f32⟩
  | 100 => ⟨S128x1x256, .f32⟩
  | 101 => ⟨S128x1x256, .f32⟩
  | 102 => ⟨S128x1x256, .f32⟩
  | 103 => ⟨S_, .f32⟩
  | 104 => ⟨S128x1x256, .f32⟩
  | 105 => ⟨S128x1x256, .f32⟩
  | 106 => ⟨S128x1x256, .f32⟩
  | 107 => ⟨S_, .f32⟩
  | 108 => ⟨S128x1x256, .f32⟩
  | 109 => ⟨S128x1x256, .f32⟩
  | 110 => ⟨S_, .f32⟩
  | 111 => ⟨S128x1x256, .f32⟩
  | 112 => ⟨S128x1x256, .f32⟩
  | 113 => ⟨S128x1x256, .f32⟩
  | 114 => ⟨S128x1x512, .f32⟩
  | 115 => ⟨S128x1x256, .f32⟩
  | 116 => ⟨S128x1x256, .f32⟩
  | 117 => ⟨S128x1x256, .f32⟩
  | 118 => ⟨S128x1x256, .f32⟩
  | 119 => ⟨S_, .f32⟩
  | 120 => ⟨S128x1x256, .f32⟩
  | 121 => ⟨S128x1x256, .f32⟩
  | 122 => ⟨S_, .f32⟩
  | 123 => ⟨S128x1x256, .f32⟩
  | 124 => ⟨S128x1x256, .f32⟩
  | 125 => ⟨S128x1x256, .f32⟩
  | 126 => ⟨S128x256, .f32⟩
  | 127 => ⟨S128x16x64, .f32⟩
  | _ => ⟨S128x1x256, .f32⟩

abbrev hbmTy0_1 (i : Nat) : BufTy := match i % 128 with
  | 0 => ⟨S128x1024, .f32⟩
  | 1 => ⟨S128x16x64, .f32⟩
  | 2 => ⟨S128x1024, .f32⟩
  | _ => ⟨S128x1x256, .f32⟩

abbrev hbmTy (i : Nat) : BufTy := match i / 128 with
  | 0 => hbmTy0_0 i
  | 1 => hbmTy0_1 i
  | _ => ⟨S128x1x256, .f32⟩

abbrev bufTy : (tb : Table) → Fin (tcTables nBuf tb) → BufTy
  | .hbm, ⟨i, _⟩ => hbmTy i
  | _, _ => ⟨S128x1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_c : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_c_2 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_cst_3 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_4 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_5 : Ref sig .tc := ⟨.hbm, 107, rfl⟩
abbrev main_v88 : Ref sig .tc := ⟨.hbm, 108, rfl⟩
abbrev main_v89 : Ref sig .tc := ⟨.hbm, 109, rfl⟩
abbrev main_cst_6 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_cst_7 : Ref sig .tc := ⟨.hbm, 119, rfl⟩
abbrev main_v98 : Ref sig .tc := ⟨.hbm, 120, rfl⟩
abbrev main_v99 : Ref sig .tc := ⟨.hbm, 121, rfl⟩
abbrev main_cst_8 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩

abbrev nD : Nat := 1
abbrev τ : Topo := Topo.v7x

variable {F : FTy → Type} [FloatOps F]
-- ==== Kernel8.lean ====
abbrev S128x1x768 : Shape := ⟨3, ![128, 1, 768]⟩
abbrev S128x1x4 : Shape := ⟨3, ![128, 1, 4]⟩
abbrev S128x1x256 : Shape := ⟨3, ![128, 1, 256]⟩
abbrev S128x1x16 : Shape := ⟨3, ![128, 1, 16]⟩
abbrev S128x3x768 : Shape := ⟨3, ![128, 3, 768]⟩
abbrev S4x768 : Shape := ⟨2, ![4, 768]⟩
abbrev S4 : Shape := ⟨1, ![4]⟩
abbrev S16x256 : Shape := ⟨2, ![16, 256]⟩
abbrev S256 : Shape := ⟨1, ![256]⟩
abbrev S_ : Shape := ⟨0, ![]⟩
abbrev S128x120 : Shape := ⟨2, ![128, 120]⟩
abbrev S128x768 : Shape := ⟨2, ![128, 768]⟩
abbrev S128x256 : Shape := ⟨2, ![128, 256]⟩
abbrev S128x4 : Shape := ⟨2, ![128, 4]⟩
abbrev S128x1152 : Shape := ⟨2, ![128, 1152]⟩
abbrev S128x112 : Shape := ⟨2, ![128, 112]⟩
abbrev S128x16 : Shape := ⟨2, ![128, 16]⟩
abbrev S128x1024 : Shape := ⟨2, ![128, 1024]⟩
abbrev S112x256 : Shape := ⟨2, ![112, 256]⟩
abbrev S4x64 : Shape := ⟨2, ![4, 64]⟩
abbrev S1x256 : Shape := ⟨2, ![1, 256]⟩
abbrev S128x2304 : Shape := ⟨2, ![128, 2304]⟩
abbrev S3x4x128x64 : Shape := ⟨4, ![3, 4, 128, 64]⟩
abbrev S2x4x128x1 : Shape := ⟨4, ![2, 4, 128, 1]⟩
abbrev S4x4x128x64 : Shape := ⟨4, ![4, 4, 128, 64]⟩
abbrev S256x256 : Shape := ⟨2, ![256, 256]⟩
abbrev S1x768 : Shape := ⟨2, ![1, 768]⟩
abbrev S128x1536 : Shape := ⟨2, ![128, 1536]⟩
abbrev S128x64 : Shape := ⟨2, ![128, 64]⟩
abbrev S1x1x128x64 : Shape := ⟨4, ![1, 1, 128, 64]⟩
abbrev S128x128 : Shape := ⟨2, ![128, 128]⟩
abbrev S128x1 : Shape := ⟨2, ![128, 1]⟩
abbrev S1x1x128x1 : Shape := ⟨4, ![1, 1, 128, 1]⟩

abbrev nBuf : Space → Nat
  | .hbm => 57
  | .vmem => 15
  | .smem => 0
  | _ => 0

abbrev bufTy : (tb : Table) → Fin (tcTables nBuf tb) → BufTy
  | .hbm, ⟨0, _⟩ => ⟨S128x1x768, .f32⟩
  | .hbm, ⟨1, _⟩ => ⟨S128x1x4, .f32⟩
  | .hbm, ⟨2, _⟩ => ⟨S128x1x4, .f32⟩
  | .hbm, ⟨3, _⟩ => ⟨S128x1x256, .f32⟩
  | .hbm, ⟨4, _⟩ => ⟨S128x1x256, .f32⟩
  | .hbm, ⟨5, _⟩ => ⟨S128x1x256, .f32⟩
  | .hbm, ⟨6, _⟩ => ⟨S128x1x256, .f32⟩
  | .hbm, ⟨7, _⟩ => ⟨S128x1x16, .f32⟩
  | .hbm, ⟨8, _⟩ => ⟨S128x1x256, .f32⟩
  | .hbm, ⟨9, _⟩ => ⟨S128x1x256, .f32⟩
  | .hbm, ⟨10, _⟩ => ⟨S128x1x256, .f32⟩
  | .hbm, ⟨11, _⟩ => ⟨S128x1x256, .f32⟩
  | .hbm, ⟨12, _⟩ => ⟨S128x1x256, .f32⟩
  | .hbm, ⟨13, _⟩ => ⟨S128x3x768, .f32⟩
  | .hbm, ⟨14, _⟩ => ⟨S4x768, .f32⟩
  | .hbm, ⟨15, _⟩ => ⟨S4, .f32⟩
  | .hbm, ⟨16, _⟩ => ⟨S4, .f32⟩
  | .hbm, ⟨17, _⟩ => ⟨S16x256, .f32⟩
  | .hbm, ⟨18, _⟩ => ⟨S256, .f32⟩
  | .hbm, ⟨19, _⟩ => ⟨S256, .f32⟩
  | .hbm, ⟨20, _⟩ => ⟨S_, .f32⟩
  | .hbm, ⟨21, _⟩ => ⟨S128x120, .f32⟩
  | .hbm, ⟨22, _⟩ => ⟨S128x768, .f32⟩
  | .hbm, ⟨23, _⟩ => ⟨S128x256, .f32⟩
  | .hbm, ⟨24, _⟩ => ⟨S128x4, .f32⟩
  | .hbm, ⟨25, _⟩ => ⟨S128x4, .f32⟩
  | .hbm, ⟨26, _⟩ => ⟨S128x1152, .f32⟩
  | .hbm, ⟨27, _⟩ => ⟨S_, .f32⟩
  | .hbm, ⟨28, _⟩ => ⟨S128x112, .f32⟩
  | .hbm, ⟨29, _⟩ => ⟨S128x256, .f32⟩
  | .hbm, ⟨30, _⟩ => ⟨S128x256, .f32⟩
  | .hbm, ⟨31, _⟩ => ⟨S128x256, .f32⟩
  | .hbm, ⟨32, _⟩ => ⟨S128x256, .f32⟩
  | .hbm, ⟨33, _⟩ => ⟨S128x16, .f32⟩
  | .hbm, ⟨34, _⟩ => ⟨S128x1152, .f32⟩
  | .hbm, ⟨35, _⟩ => ⟨S128x256, .f32⟩
  | .hbm, ⟨36, _⟩ => ⟨S128x256, .f32⟩
  | .hbm, ⟨37, _⟩ => ⟨S128x256, .f32⟩
  | .hbm, ⟨38, _⟩ => ⟨S128x256, .f32⟩
  | .hbm, ⟨39, _⟩ => ⟨S128x1024, .f32⟩
  | .hbm, ⟨40, _⟩ => ⟨S_, .f32⟩
  | .hbm, ⟨41, _⟩ => ⟨S112x256, .f32⟩
  | .hbm, ⟨42, _⟩ => ⟨S128x256, .f32⟩
  | .hbm, ⟨43, _⟩ => ⟨S4x64, .f32⟩
  | .hbm, ⟨44, _⟩ => ⟨S256, .f32⟩
  | .hbm, ⟨45, _⟩ => ⟨S1x256, .f32⟩
  | .hbm, ⟨46, _⟩ => ⟨S4x64, .f32⟩
  | .hbm, ⟨47, _⟩ => ⟨S256, .f32⟩
  | .hbm, ⟨48, _⟩ => ⟨S1x256, .f32⟩
  | .hbm, ⟨49, _⟩ => ⟨S1x256, .f32⟩
  | .hbm, ⟨50, _⟩ => ⟨S1x256, .f32⟩
  | .hbm, ⟨51, _⟩ => ⟨S128x2304, .f32⟩
  | .hbm, ⟨52, _⟩ => ⟨S3x4x128x64, .f32⟩
  | .hbm, ⟨53, _⟩ => ⟨S2x4x128x1, .f32⟩
  | .hbm, ⟨54, _⟩ => ⟨S4x4x128x64, .f32⟩
  | .hbm, ⟨55, _⟩ => ⟨S4x4x128x64, .f32⟩
  | .hbm, ⟨56, _⟩ => ⟨S128x2304, .f32⟩
  | .local _ .vmem, ⟨0, _⟩ => ⟨S128x1152, .f32⟩
  | .local _ .vmem, ⟨1, _⟩ => ⟨S128x1152, .f32⟩
  | .local _ .vmem, ⟨2, _⟩ => ⟨S128x1024, .f32⟩
  | .local _ .vmem, ⟨3, _⟩ => ⟨S128x2304, .f32⟩
  | .local _ .vmem, ⟨4, _⟩ => ⟨S4x768, .f32⟩
  | .local _ .vmem, ⟨5, _⟩ => ⟨S1x256, .f32⟩
  | .local _ .vmem, ⟨6, _⟩ => ⟨S1x256, .f32⟩
  | .local _ .vmem, ⟨7, _⟩ => ⟨S128x256, .f32⟩
  | .local _ .vmem, ⟨8, _⟩ => ⟨S1x256, .f32⟩
  | .local _ .vmem, ⟨9, _⟩ => ⟨S1x256, .f32⟩
  | .local _ .vmem, ⟨10, _⟩ => ⟨S3x4x128x64, .f32⟩
  | .local _ .vmem, ⟨11, _⟩ => ⟨S2x4x128x1, .f32⟩
  | .local _ .vmem, ⟨12, _⟩ => ⟨S4x4x128x64, .f32⟩
  | .local _ .vmem, ⟨13, _⟩ => ⟨S4x4x128x64, .f32⟩
  | .local _ .vmem, ⟨14, _⟩ => ⟨S128x2304, .f32⟩
  | _, _ => ⟨S128x1x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_1 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29_0 : Ref sig .tc := ⟨.hbm, 52, rfl⟩
abbrev main_v29_1 : Ref sig .tc := ⟨.hbm, 53, rfl⟩
abbrev main_v29_2 : Ref sig .tc := ⟨.hbm, 54, rfl⟩
abbrev main_v29_3 : Ref sig .tc := ⟨.hbm, 55, rfl⟩
abbrev main_v29_4 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1152 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x4x128x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x4x128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x4x128x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x4x128x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x2304 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference8Ideal.lean ====
abbrev S128x1x768 : Shape := ⟨3, ![128, 1, 768]⟩
abbrev S128x1x4 : Shape := ⟨3, ![128, 1, 4]⟩
abbrev S128x1x256 : Shape := ⟨3, ![128, 1, 256]⟩
abbrev S128x1x16 : Shape := ⟨3, ![128, 1, 16]⟩
abbrev S128x3x768 : Shape := ⟨3, ![128, 3, 768]⟩
abbrev S4x768 : Shape := ⟨2, ![4, 768]⟩
abbrev S4 : Shape := ⟨1, ![4]⟩
abbrev S16x256 : Shape := ⟨2, ![16, 256]⟩
abbrev S256 : Shape := ⟨1, ![256]⟩
abbrev S128x4x768 : Shape := ⟨3, ![128, 4, 768]⟩
abbrev S1x768 : Shape := ⟨2, ![1, 768]⟩
abbrev S768 : Shape := ⟨1, ![768]⟩
abbrev S1x1x768 : Shape := ⟨3, ![1, 1, 768]⟩
abbrev S_ : Shape := ⟨0, ![]⟩
abbrev S1x1x4 : Shape := ⟨3, ![1, 1, 4]⟩
abbrev S1x1x256 : Shape := ⟨3, ![1, 1, 256]⟩
abbrev S128x1x4x64 : Shape := ⟨4, ![128, 1, 4, 64]⟩
abbrev S128x1x4x1 : Shape := ⟨4, ![128, 1, 4, 1]⟩
abbrev S128x4x64 : Shape := ⟨3, ![128, 4, 64]⟩
abbrev S4x128x64 : Shape := ⟨3, ![4, 128, 64]⟩
abbrev S1x4x128x64 : Shape := ⟨4, ![1, 4, 128, 64]⟩
abbrev S3x4x128x64 : Shape := ⟨4, ![3, 4, 128, 64]⟩
abbrev S128x4x1 : Shape := ⟨3, ![128, 4, 1]⟩
abbrev S4x128x1 : Shape := ⟨3, ![4, 128, 1]⟩
abbrev S1x4x128x1 : Shape := ⟨4, ![1, 4, 128, 1]⟩
abbrev S2x4x128x1 : Shape := ⟨4, ![2, 4, 128, 1]⟩
abbrev S4x4x128x64 : Shape := ⟨4, ![4, 4, 128, 64]⟩
abbrev S128x2304 : Shape := ⟨2, ![128, 2304]⟩

abbrev nBuf : Space → Nat
  | .hbm => 272
  | .vmem => 0
  | .smem => 0
  | _ => 0

abbrev hbmTy0_0 (i : Nat) : BufTy := match i % 128 with
  | 0 => ⟨S128x1x768, .f32⟩
  | 1 => ⟨S128x1x4, .f32⟩
  | 2 => ⟨S128x1x4, .f32⟩
  | 3 => ⟨S128x1x256, .f32⟩
  | 4 => ⟨S128x1x256, .f32⟩
  | 5 => ⟨S128x1x256, .f32⟩
  | 6 => ⟨S128x1x256, .f32⟩
  | 7 => ⟨S128x1x16, .f32⟩
  | 8 => ⟨S128x1x256, .f32⟩
  | 9 => ⟨S128x1x256, .f32⟩
  | 10 => ⟨S128x1x256, .f32⟩
  | 11 => ⟨S128x1x256, .f32⟩
  | 12 => ⟨S128x1x256, .f32⟩
  | 13 => ⟨S128x3x768, .f32⟩
  | 14 => ⟨S4x768, .f32⟩
  | 15 => ⟨S4, .f32⟩
  | 16 => ⟨S4, .f32⟩
  | 17 => ⟨S16x256, .f32⟩
  | 18 => ⟨S256, .f32⟩
  | 19 => ⟨S256, .f32⟩
  | 20 => ⟨S128x4x768, .f32⟩
  | 21 => ⟨S128x1x768, .f32⟩
  | 22 => ⟨S1x768, .f32⟩
  | 23 => ⟨S768, .f32⟩
  | 24 => ⟨S1x1x768, .f32⟩
  | 25 => ⟨S128x1x768, .f32⟩
  | 26 => ⟨S128x1x768, .f32⟩
  | 27 => ⟨S_, .f32⟩
  | 28 => ⟨S128x1x768, .f32⟩
  | 29 => ⟨S128x1x768, .f32⟩
  | 30 => ⟨S128x1x768, .f32⟩
  | 31 => ⟨S1x768, .f32⟩
  | 32 => ⟨S768, .f32⟩
  | 33 => ⟨S1x1x768, .f32⟩
  | 34 => ⟨S128x1x768, .f32⟩
  | 35 => ⟨S128x1x768, .f32⟩
  | 36 => ⟨S128x1x768, .f32⟩
  | 37 => ⟨S128x1x768, .f32⟩
  | 38 => ⟨S1x768, .f32⟩
  | 39 => ⟨S768, .f32⟩
  | 40 => ⟨S1x1x768, .f32⟩
  | 41 => ⟨S128x1x768, .f32⟩
  | 42 => ⟨S128x1x768, .f32⟩
  | 43 => ⟨S128x1x768, .f32⟩
  | 44 => ⟨S128x1x768, .f32⟩
  | 45 => ⟨S1x768, .f32⟩
  | 46 => ⟨S768, .f32⟩
  | 47 => ⟨S1x1x768, .f32⟩
  | 48 => ⟨S128x1x768, .f32⟩
  | 49 => ⟨S128x1x768, .f32⟩
  | 50 => ⟨S128x1x768, .f32⟩
  | 51 => ⟨S128x1x768, .f32⟩
  | 52 => ⟨S128x1x768, .f32⟩
  | 53 => ⟨S_, .f32⟩
  | 54 => ⟨S128x1x768, .f32⟩
  | 55 => ⟨S128x1x768, .f32⟩
  | 56 => ⟨S_, .f32⟩
  | 57 => ⟨S128x1x768, .f32⟩
  | 58 => ⟨S128x1x768, .f32⟩
  | 59 => ⟨S128x1x768, .f32⟩
  | 60 => ⟨S128x3x768, .f32⟩
  | 61 => ⟨S128x1x256, .f32⟩
  | 62 => ⟨S128x1x256, .f32⟩
  | 63 => ⟨S128x1x256, .f32⟩
  | 64 => ⟨S128x1x4, .f32⟩
  | 65 => ⟨S128x1x4, .f32⟩
  | 66 => ⟨S_, .f32⟩
  | 67 => ⟨S128x1x4, .f32⟩
  | 68 => ⟨S128x1x4, .f32⟩
  | 69 => ⟨S_, .f32⟩
  | 70 => ⟨S128x1x4, .f32⟩
  | 71 => ⟨S128x1x4, .f32⟩
  | 72 => ⟨S4, .f32⟩
  | 73 => ⟨S4, .f32⟩
  | 74 => ⟨S1x1x4, .f32⟩
  | 75 => ⟨S128x1x4, .f32⟩
  | 76 => ⟨S128x1x4, .f32⟩
  | 77 => ⟨S_, .f32⟩
  | 78 => ⟨S128x1x4, .f32⟩
  | 79 => ⟨S128x1x4, .f32⟩
  | 80 => ⟨S128x1x4, .f32⟩
  | 81 => ⟨S128x1x4, .f32⟩
  | 82 => ⟨S128x1x4, .i1⟩
  | 83 => ⟨S128x1x4, .f32⟩
  | 84 => ⟨S128x1x4, .f32⟩
  | 85 => ⟨S128x1x4, .f32⟩
  | 86 => ⟨S128x1x4, .f32⟩
  | 87 => ⟨S128x1x4, .f32⟩
  | 88 => ⟨S128x1x4, .f32⟩
  | 89 => ⟨S128x1x4, .f32⟩
  | 90 => ⟨S128x1x4, .f32⟩
  | 91 => ⟨S1x1x4, .f32⟩
  | 92 => ⟨S128x1x4, .f32⟩
  | 93 => ⟨S128x1x4, .f32⟩
  | 94 => ⟨S128x1x256, .f32⟩
  | 95 => ⟨S1x1x256, .f32⟩
  | 96 => ⟨S128x1x256, .f32⟩
  | 97 => ⟨S128x1x256, .f32⟩
  | 98 => ⟨S128x1x256, .f32⟩
  | 99 => ⟨S_, .f32⟩
  | 100 => ⟨S128x1x256, .f32⟩
  | 101 => ⟨S128x1x256, .f32⟩
  | 102 => ⟨S128x1x256, .f32⟩
  | 103 => ⟨S128x1x256, .f32⟩
  | 104 => ⟨S128x1x256, .i1⟩
  | 105 => ⟨S128x1x256, .f32⟩
  | 106 => ⟨S128x1x256, .f32⟩
  | 107 => ⟨S128x1x256, .f32⟩
  | 108 => ⟨S128x1x256, .f32⟩
  | 109 => ⟨S128x1x256, .f32⟩
  | 110 => ⟨S128x1x256, .f32⟩
  | 111 => ⟨S128x1x256, .f32⟩
  | 112 => ⟨S128x1x256, .f32⟩
  | 113 => ⟨S128x1x256, .f32⟩
  | 114 => ⟨S_, .f32⟩
  | 115 => ⟨S128x1x256, .f32⟩
  | 116 => ⟨S128x1x256, .f32⟩
  | 117 => ⟨S128x1x256, .f32⟩
  | 118 => ⟨S_, .f32⟩
  | 119 => ⟨S128x1x256, .f32⟩
  | 120 => ⟨S128x1x256, .f32⟩
  | 121 => ⟨S128x1x256, .f32⟩
  | 122 => ⟨S128x1x256, .f32⟩
  | 123 => ⟨S128x1x256, .i1⟩
  | 124 => ⟨S128x1x256, .f32⟩
  | 125 => ⟨S128x1x256, .f32⟩
  | 126 => ⟨S128x1x256, .f32⟩
  | 127 => ⟨S128x1x256, .f32⟩
  | _ => ⟨S128x1x768, .f32⟩

abbrev hbmTy0_1 (i : Nat) : BufTy := match i % 128 with
  | 0 => ⟨S128x1x256, .f32⟩
  | 1 => ⟨S128x1x256, .f32⟩
  | 2 => ⟨S128x1x256, .f32⟩
  | 3 => ⟨S128x1x256, .f32⟩
  | 4 => ⟨S128x1x256, .f32⟩
  | 5 => ⟨S_, .f32⟩
  | 6 => ⟨S256, .f32⟩
  | 7 => ⟨S256, .i1⟩
  | 8 => ⟨S_, .f32⟩
  | 9 => ⟨S_, .f32⟩
  | 10 => ⟨S256, .f32⟩
  | 11 => ⟨S256, .f32⟩
  | 12 => ⟨S256, .f32⟩
  | 13 => ⟨S128x1x256, .f32⟩
  | 14 => ⟨S128x1x256, .f32⟩
  | 15 => ⟨S_, .f32⟩
  | 16 => ⟨S128x1x256, .f32⟩
  | 17 => ⟨S128x1x256, .f32⟩
  | 18 => ⟨S128x1x256, .f32⟩
  | 19 => ⟨S128x1x256, .f32⟩
  | 20 => ⟨S128x1x256, .i1⟩
  | 21 => ⟨S128x1x256, .f32⟩
  | 22 => ⟨S128x1x256, .f32⟩
  | 23 => ⟨S128x1x256, .f32⟩
  | 24 => ⟨S128x1x256, .f32⟩
  | 25 => ⟨S128x1x256, .f32⟩
  | 26 => ⟨S128x1x256, .f32⟩
  | 27 => ⟨S128x1x256, .f32⟩
  | 28 => ⟨S128x1x256, .f32⟩
  | 29 => ⟨S128x1x256, .f32⟩
  | 30 => ⟨S1x1x256, .f32⟩
  | 31 => ⟨S128x1x256, .f32⟩
  | 32 => ⟨S128x1x256, .f32⟩
  | 33 => ⟨S128x1x256, .f32⟩
  | 34 => ⟨S128x1x256, .f32⟩
  | 35 => ⟨S128x1x256, .i1⟩
  | 36 => ⟨S128x1x256, .f32⟩
  | 37 => ⟨S128x1x256, .f32⟩
  | 38 => ⟨S128x1x256, .f32⟩
  | 39 => ⟨S128x1x256, .f32⟩
  | 40 => ⟨S128x1x256, .f32⟩
  | 41 => ⟨S128x1x256, .f32⟩
  | 42 => ⟨S128x1x256, .f32⟩
  | 43 => ⟨S128x1x256, .i1⟩
  | 44 => ⟨S128x1x256, .f32⟩
  | 45 => ⟨S_, .f32⟩
  | 46 => ⟨S256, .f32⟩
  | 47 => ⟨S256, .f32⟩
  | 48 => ⟨S128x1x256, .f32⟩
  | 49 => ⟨S128x1x256, .f32⟩
  | 50 => ⟨S128x1x256, .f32⟩
  | 51 => ⟨S_, .f32⟩
  | 52 => ⟨S128x1x256, .f32⟩
  | 53 => ⟨S128x1x256, .f32⟩
  | 54 => ⟨S_, .f32⟩
  | 55 => ⟨S128x1x256, .f32⟩
  | 56 => ⟨S128x1x256, .f32⟩
  | 57 => ⟨S1x1x256, .f32⟩
  | 58 => ⟨S128x1x256, .f32⟩
  | 59 => ⟨S128x1x256, .f32⟩
  | 60 => ⟨S128x1x4x64, .f32⟩
  | 61 => ⟨S128x1x4x64, .f32⟩
  | 62 => ⟨S_, .f32⟩
  | 63 => ⟨S128x1x4, .f32⟩
  | 64 => ⟨S128x1x4x1, .f32⟩
  | 65 => ⟨S_, .f32⟩
  | 66 => ⟨S128x1x4x1, .f32⟩
  | 67 => ⟨S128x1x4x1, .f32⟩
  | 68 => ⟨S128x1x4x1, .f32⟩
  | 69 => ⟨S128x1x4x64, .f32⟩
  | 70 => ⟨S128x1x4x64, .f32⟩
  | 71 => ⟨S_, .f32⟩
  | 72 => ⟨S128x1x4x64, .f32⟩
  | 73 => ⟨S128x1x4x64, .f32⟩
  | 74 => ⟨S128x1x4x64, .f32⟩
  | 75 => ⟨S128x1x4x64, .f32⟩
  | 76 => ⟨S_, .f32⟩
  | 77 => ⟨S128x1x4, .f32⟩
  | 78 => ⟨S128x1x4x1, .f32⟩
  | 79 => ⟨S_, .f32⟩
  | 80 => ⟨S128x1x4x1, .f32⟩
  | 81 => ⟨S128x1x4x1, .f32⟩
  | 82 => ⟨S128x1x4x1, .f32⟩
  | 83 => ⟨S128x1x4x64, .f32⟩
  | 84 => ⟨S128x1x4x64, .f32⟩
  | 85 => ⟨S128x4x64, .f32⟩
  | 86 => ⟨S4x128x64, .f32⟩
  | 87 => ⟨S128x4x64, .f32⟩
  | 88 => ⟨S4x128x64, .f32⟩
  | 89 => ⟨S128x4x64, .f32⟩
  | 90 => ⟨S4x128x64, .f32⟩
  | 91 => ⟨S1x4x128x64, .f32⟩
  | 92 => ⟨S1x4x128x64, .f32⟩
  | 93 => ⟨S1x4x128x64, .f32⟩
  | 94 => ⟨S3x4x128x64, .f32⟩
  | 95 => ⟨S128x4x1, .f32⟩
  | 96 => ⟨S4x128x1, .f32⟩
  | 97 => ⟨S128x4x1, .f32⟩
  | 98 => ⟨S4x128x1, .f32⟩
  | 99 => ⟨S1x4x128x1, .f32⟩
  | 100 => ⟨S1x4x128x1, .f32⟩
  | 101 => ⟨S2x4x128x1, .f32⟩
  | 102 => ⟨S_, .f32⟩
  | 103 => ⟨S128x1x256, .f32⟩
  | 104 => ⟨S128x1x256, .f32⟩
  | 105 => ⟨S128x4x64, .f32⟩
  | 106 => ⟨S4x128x64, .f32⟩
  | 107 => ⟨S128x4x64, .f32⟩
  | 108 => ⟨S4x128x64, .f32⟩
  | 109 => ⟨S128x4x64, .f32⟩
  | 110 => ⟨S4x128x64, .f32⟩
  | 111 => ⟨S128x4x64, .f32⟩
  | 112 => ⟨S4x128x64, .f32⟩
  | 113 => ⟨S1x4x128x64, .f32⟩
  | 114 => ⟨S1x4x128x64, .f32⟩
  | 115 => ⟨S1x4x128x64, .f32⟩
  | 116 => ⟨S1x4x128x64, .f32⟩
  | 117 => ⟨S4x4x128x64, .f32⟩
  | 118 => ⟨S128x1x256, .f32⟩
  | 119 => ⟨S128x1x256, .f32⟩
  | 120 => ⟨S_, .f32⟩
  | 121 => ⟨S128x1x256, .f32⟩
  | 122 => ⟨S128x1x256, .f32⟩
  | 123 => ⟨S_, .f32⟩
  | 124 => ⟨S128x1x256, .f32⟩
  | 125 => ⟨S128x1x256, .f32⟩
  | 126 => ⟨S128x1x256, .f32⟩
  | 127 => ⟨S_, .f32⟩
  | _ => ⟨S128x1x768, .f32⟩

abbrev hbmTy0_2 (i : Nat) : BufTy := match i % 128 with
  | 0 => ⟨S128x1x256, .f32⟩
  | 1 => ⟨S128x1x256, .f32⟩
  | 2 => ⟨S128x4x64, .f32⟩
  | 3 => ⟨S4x128x64, .f32⟩
  | 4 => ⟨S128x4x64, .f32⟩
  | 5 => ⟨S4x128x64, .f32⟩
  | 6 => ⟨S128x4x64, .f32⟩
  | 7 => ⟨S4x128x64, .f32⟩
  | 8 => ⟨S128x4x64, .f32⟩
  | 9 => ⟨S4x128x64, .f32⟩
  | 10 => ⟨S1x4x128x64, .f32⟩
  | 11 => ⟨S1x4x128x64, .f32⟩
  | 12 => ⟨S1x4x128x64, .f32⟩
  | 13 => ⟨S1x4x128x64, .f32⟩
  | 14 => ⟨S4x4x128x64, .f32⟩
  | 15 => ⟨S128x2304, .f32⟩
  | _ => ⟨S128x1x768, .f32⟩

abbrev hbmTy (i : Nat) : BufTy := match i / 128 with
  | 0 => hbmTy0_0 i
  | 1 => hbmTy0_1 i
  | 2 => hbmTy0_2 i
  | _ => ⟨S128x1x768, .f32⟩

abbrev bufTy : (tb : Table) → Fin (tcTables nBuf tb) → BufTy
  | .hbm, ⟨i, _⟩ => hbmTy i
  | _, _ => ⟨S128x1x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_0 : Ref sig .tc := ⟨.hbm, 66, rfl⟩
abbrev main_v37 : Ref sig .tc := ⟨.hbm, 67, rfl⟩
abbrev main_v38 : Ref sig .tc := ⟨.hbm, 68, rfl⟩
abbrev main_cst_1 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_call1_cst : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_v6 : Ref sig .tc := ⟨.hbm, 84, rfl⟩
abbrev main_call1_v7 : Ref sig .tc := ⟨.hbm, 85, rfl⟩
abbrev main_call1_v8 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_call2_v0 : Ref sig .tc := ⟨.hbm, 98, rfl⟩
abbrev main_call2_call0_cst : Ref sig .tc := ⟨.hbm, 99, rfl⟩
abbrev main_call2_call0_v0 : Ref sig .tc := ⟨.hbm, 100, rfl⟩
abbrev main_call2_call0_v1 : Ref sig .tc := ⟨.hbm, 101, rfl⟩
abbrev main_call2_call0_v2 : Ref sig .tc := ⟨.hbm, 102, rfl⟩
abbrev main_call2_call0_v3 : Ref sig .tc := ⟨.hbm, 103, rfl⟩
abbrev main_call2_call0_v4 : Ref sig .tc := ⟨.hbm, 104, rfl⟩
abbrev main_call2_call0_v5 : Ref sig .tc := ⟨.hbm, 105, rfl⟩
abbrev main_call2_call0_v6 : Ref sig .tc := ⟨.hbm, 106, rfl⟩
abbrev main_call2_call0_v7 : Ref sig .tc := ⟨.hbm, 107, rfl⟩
abbrev main_call2_call0_v8 : Ref sig .tc := ⟨.hbm, 108, rfl⟩
abbrev main_call2_call0_v9 : Ref sig .tc := ⟨.hbm, 109, rfl⟩
abbrev main_call2_call0_v10 : Ref sig .tc := ⟨.hbm, 110, rfl⟩
abbrev main_call2_call0_v11 : Ref sig .tc := ⟨.hbm, 111, rfl⟩
abbrev main_call2_v1 : Ref sig .tc := ⟨.hbm, 112, rfl⟩
abbrev main_v54 : Ref sig .tc := ⟨.hbm, 113, rfl⟩
abbrev main_cst_2 : Ref sig .tc := ⟨.hbm, 114, rfl⟩
abbrev main_v55 : Ref sig .tc := ⟨.hbm, 115, rfl⟩
abbrev main_v56 : Ref sig .tc := ⟨.hbm, 116, rfl⟩
abbrev main_call3_v0 : Ref sig .tc := ⟨.hbm, 117, rfl⟩
abbrev main_call3_call0_cst : Ref sig .tc := ⟨.hbm, 118, rfl⟩
abbrev main_call3_call0_v0 : Ref sig .tc := ⟨.hbm, 119, rfl⟩
abbrev main_call3_call0_v1 : Ref sig .tc := ⟨.hbm, 120, rfl⟩
abbrev main_call3_call0_v2 : Ref sig .tc := ⟨.hbm, 121, rfl⟩
abbrev main_call3_call0_v3 : Ref sig .tc := ⟨.hbm, 122, rfl⟩
abbrev main_call3_call0_v4 : Ref sig .tc := ⟨.hbm, 123, rfl⟩
abbrev main_call3_call0_v5 : Ref sig .tc := ⟨.hbm, 124, rfl⟩
abbrev main_call3_call0_v6 : Ref sig .tc := ⟨.hbm, 125, rfl⟩
abbrev main_call3_call0_v7 : Ref sig .tc := ⟨.hbm, 126, rfl⟩
abbrev main_call3_call0_v8 : Ref sig .tc := ⟨.hbm, 127, rfl⟩
abbrev main_call3_call0_v9 : Ref sig .tc := ⟨.hbm, 128, rfl⟩
abbrev main_call3_call0_v10 : Ref sig .tc := ⟨.hbm, 129, rfl⟩
abbrev main_call3_call0_v11 : Ref sig .tc := ⟨.hbm, 130, rfl⟩
abbrev main_call3_v1 : Ref sig .tc := ⟨.hbm, 131, rfl⟩
abbrev main_v57 : Ref sig .tc := ⟨.hbm, 132, rfl⟩
abbrev main_cst_3 : Ref sig .tc := ⟨.hbm, 133, rfl⟩
abbrev main_v58 : Ref sig .tc := ⟨.hbm, 134, rfl⟩
abbrev main_v59 : Ref sig .tc := ⟨.hbm, 135, rfl⟩
abbrev main_cst_4 : Ref sig .tc := ⟨.hbm, 136, rfl⟩
abbrev main_call4_v0 : Ref sig .tc := ⟨.hbm, 137, rfl⟩
abbrev main_call4_v1 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_call5_v0 : Ref sig .tc := ⟨.hbm, 142, rfl⟩
abbrev main_call5_call0_cst : Ref sig .tc := ⟨.hbm, 143, rfl⟩
abbrev main_call5_call0_v0 : Ref sig .tc := ⟨.hbm, 144, rfl⟩
abbrev main_call5_call0_v1 : Ref sig .tc := ⟨.hbm, 145, rfl⟩
abbrev main_call5_call0_v2 : Ref sig .tc := ⟨.hbm, 146, rfl⟩
abbrev main_call5_call0_v3 : Ref sig .tc := ⟨.hbm, 147, rfl⟩
abbrev main_call5_call0_v4 : Ref sig .tc := ⟨.hbm, 148, rfl⟩
abbrev main_call5_call0_v5 : Ref sig .tc := ⟨.hbm, 149, rfl⟩
abbrev main_call5_call0_v6 : Ref sig .tc := ⟨.hbm, 150, rfl⟩
abbrev main_call5_call0_v7 : Ref sig .tc := ⟨.hbm, 151, rfl⟩
abbrev main_call5_call0_v8 : Ref sig .tc := ⟨.hbm, 152, rfl⟩
abbrev main_call5_call0_v9 : Ref sig .tc := ⟨.hbm, 153, rfl⟩
abbrev main_call5_call0_v10 : Ref sig .tc := ⟨.hbm, 154, rfl⟩
abbrev main_call5_call0_v11 : Ref sig .tc := ⟨.hbm, 155, rfl⟩
abbrev main_call5_v1 : Ref sig .tc := ⟨.hbm, 156, rfl⟩
abbrev main_v63 : Ref sig .tc := ⟨.hbm, 157, rfl⟩
abbrev main_v64 : Ref sig .tc := ⟨.hbm, 158, rfl⟩
abbrev main_v65 : Ref sig .tc := ⟨.hbm, 159, rfl⟩
abbrev main_v66 : Ref sig .tc := ⟨.hbm, 160, rfl⟩
abbrev main_v67 : Ref sig .tc := ⟨.hbm, 161, rfl⟩
abbrev main_v68 : Ref sig .tc := ⟨.hbm, 162, rfl⟩
abbrev main_v69 : Ref sig .tc := ⟨.hbm, 163, rfl⟩
abbrev main_v70 : Ref sig .tc := ⟨.hbm, 164, rfl⟩
abbrev main_v71 : Ref sig .tc := ⟨.hbm, 165, rfl⟩
abbrev main_v72 : Ref sig .tc := ⟨.hbm, 166, rfl⟩
abbrev main_v73 : Ref sig .tc := ⟨.hbm, 167, rfl⟩
abbrev main_v74 : Ref sig .tc := ⟨.hbm, 168, rfl⟩
abbrev main_v75 : Ref sig .tc := ⟨.hbm, 169, rfl⟩
abbrev main_v76 : Ref sig .tc := ⟨.hbm, 170, rfl⟩
abbrev main_call6_v0 : Ref sig .tc := ⟨.hbm, 171, rfl⟩
abbrev main_v77 : Ref sig .tc := ⟨.hbm, 172, rfl⟩
abbrev main_cst_5 : Ref sig .tc := ⟨.hbm, 173, rfl⟩
abbrev main_v78 : Ref sig .tc := ⟨.hbm, 174, rfl⟩
abbrev main_v79 : Ref sig .tc := ⟨.hbm, 175, rfl⟩
abbrev main_v80 : Ref sig .tc := ⟨.hbm, 176, rfl⟩
abbrev main_v81 : Ref sig .tc := ⟨.hbm, 177, rfl⟩
abbrev main_v82 : Ref sig .tc := ⟨.hbm, 178, rfl⟩
abbrev main_cst_6 : Ref sig .tc := ⟨.hbm, 179, rfl⟩
abbrev main_v83 : Ref sig .tc := ⟨.hbm, 180, rfl⟩
abbrev main_v84 : Ref sig .tc := ⟨.hbm, 181, rfl⟩
abbrev main_cst_7 : Ref sig .tc := ⟨.hbm, 182, rfl⟩
abbrev main_v85 : Ref sig .tc := ⟨.hbm, 183, rfl⟩
abbrev main_v86 : Ref sig .tc := ⟨.hbm, 184, rfl⟩
abbrev main_v87 : Ref sig .tc := ⟨.hbm, 185, rfl⟩
abbrev main_v88 : Ref sig .tc := ⟨.hbm, 186, rfl⟩
abbrev main_v89 : Ref sig .tc := ⟨.hbm, 187, rfl⟩
abbrev main_v90 : Ref sig .tc := ⟨.hbm, 188, rfl⟩
abbrev main_v91 : Ref sig .tc := ⟨.hbm, 189, rfl⟩
abbrev main_cst_8 : Ref sig .tc := ⟨.hbm, 190, rfl⟩
abbrev main_v92 : Ref sig .tc := ⟨.hbm, 191, rfl⟩
abbrev main_v93 : Ref sig .tc := ⟨.hbm, 192, rfl⟩
abbrev main_cst_9 : Ref sig .tc := ⟨.hbm, 193, rfl⟩
abbrev main_v94 : Ref sig .tc := ⟨.hbm, 194, rfl⟩
abbrev main_v95 : Ref sig .tc := ⟨.hbm, 195, rfl⟩
abbrev main_v96 : Ref sig .tc := ⟨.hbm, 196, rfl⟩
abbrev main_v97 : Ref sig .tc := ⟨.hbm, 197, rfl⟩
abbrev main_v98 : Ref sig .tc := ⟨.hbm, 198, rfl⟩
abbrev main_cst_10 : Ref sig .tc := ⟨.hbm, 199, rfl⟩
abbrev main_v99 : Ref sig .tc := ⟨.hbm, 200, rfl⟩
abbrev main_v100 : Ref sig .tc := ⟨.hbm, 201, rfl⟩
abbrev main_v101 : Ref sig .tc := ⟨.hbm, 202, rfl⟩
abbrev main_v102 : Ref sig .tc := ⟨.hbm, 203, rfl⟩
abbrev main_cst_11 : Ref sig .tc := ⟨.hbm, 204, rfl⟩
abbrev main_v103 : Ref sig .tc := ⟨.hbm, 205, rfl⟩
abbrev main_v104 : Ref sig .tc := ⟨.hbm, 206, rfl⟩
abbrev main_cst_12 : Ref sig .tc := ⟨.hbm, 207, rfl⟩
abbrev main_v105 : Ref sig .tc := ⟨.hbm, 208, rfl⟩
abbrev main_v106 : Ref sig .tc := ⟨.hbm, 209, rfl⟩
abbrev main_v107 : Ref sig .tc := ⟨.hbm, 210, rfl⟩
abbrev main_v108 : Ref sig .tc := ⟨.hbm, 211, rfl⟩
abbrev main_v109 : Ref sig .tc := ⟨.hbm, 212, rfl⟩
abbrev main_v110 : Ref sig .tc := ⟨.hbm, 213, rfl⟩
abbrev main_v111 : Ref sig .tc := ⟨.hbm, 214, rfl⟩
abbrev main_v112 : Ref sig .tc := ⟨.hbm, 215, rfl⟩
abbrev main_v113 : Ref sig .tc := ⟨.hbm, 216, rfl⟩
abbrev main_v114 : Ref sig .tc := ⟨.hbm, 217, rfl⟩
abbrev main_v115 : Ref sig .tc := ⟨.hbm, 218, rfl⟩
abbrev main_v116 : Ref sig .tc := ⟨.hbm, 219, rfl⟩
abbrev main_v117 : Ref sig .tc := ⟨.hbm, 220, rfl⟩
abbrev main_v118 : Ref sig .tc := ⟨.hbm, 221, rfl⟩
abbrev main_v119 : Ref sig .tc := ⟨.hbm, 222, rfl⟩
abbrev main_v120 : Ref sig .tc := ⟨.hbm, 223, rfl⟩
abbrev main_v121 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_v125 : Ref sig .tc := ⟨.hbm, 228, rfl⟩
abbrev main_v126 : Ref sig .tc := ⟨.hbm, 229, rfl⟩
abbrev main_cst_13 : Ref sig .tc := ⟨.hbm, 230, rfl⟩
abbrev main_v127 : Ref sig .tc := ⟨.hbm, 231, rfl⟩
abbrev main_v128 : Ref sig .tc := ⟨.hbm, 232, rfl⟩
abbrev main_v129 : Ref sig .tc := ⟨.hbm, 233, rfl⟩
abbrev main_v130 : Ref sig .tc := ⟨.hbm, 234, rfl⟩
abbrev main_v131 : Ref sig .tc := ⟨.hbm, 235, rfl⟩
abbrev main_v132 : Ref sig .tc := ⟨.hbm, 236, rfl⟩
abbrev main_v133 : Ref sig .tc := ⟨.hbm, 237, rfl⟩
abbrev main_v134 : Ref sig .tc := ⟨.hbm, 238, rfl⟩
abbrev main_v135 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_v139 : Ref sig .tc := ⟨.hbm, 243, rfl⟩
abbrev main_v140 : Ref sig .tc := ⟨.hbm, 244, rfl⟩
abbrev main_v141 : Ref sig .tc := ⟨.hbm, 245, rfl⟩
abbrev main_call7_v0 : Ref sig .tc := ⟨.hbm, 246, rfl⟩
abbrev main_call7_v1 : Ref sig .tc := ⟨.hbm, 247, rfl⟩
abbrev main_call7_cst : Ref sig .tc := ⟨.hbm, 248, rfl⟩
abbrev main_call7_v2 : Ref sig .tc := ⟨.hbm, 249, rfl⟩
abbrev main_call7_v3 : Ref sig .tc := ⟨.hbm, 250, rfl⟩
abbrev main_call7_cst_0 : Ref sig .tc := ⟨.hbm, 251, rfl⟩
abbrev main_call7_v4 : Ref sig .tc := ⟨.hbm, 252, rfl⟩
abbrev main_call7_v5 : Ref sig .tc := ⟨.hbm, 253, rfl⟩
abbrev main_v142 : Ref sig .tc := ⟨.hbm, 254, rfl⟩
abbrev main_cst_14 : Ref sig .tc := ⟨.hbm, 255, rfl⟩
abbrev main_v143 : Ref sig .tc := ⟨.hbm, 256, rfl⟩
abbrev main_v144 : Ref sig .tc := ⟨.hbm, 257, rfl⟩
abbrev main_v145 : Ref sig .tc := ⟨.hbm, 258, rfl⟩
abbrev main_v146 : Ref sig .tc := ⟨.hbm, 259, rfl⟩
abbrev main_v147 : Ref sig .tc := ⟨.hbm, 260, rfl⟩
abbrev main_v148 : Ref sig .tc := ⟨.hbm, 261, rfl⟩
abbrev main_v149 : Ref sig .tc := ⟨.hbm, 262, rfl⟩
abbrev main_v150 : Ref sig .tc := ⟨.hbm, 263, rfl⟩
abbrev main_v151 : Ref sig .tc := ⟨.hbm, 264, rfl⟩
abbrev main_v152 : Ref sig .tc := ⟨.hbm, 265, rfl⟩
abbrev main_v153 : Ref sig .tc := ⟨.hbm, 266, rfl⟩
abbrev main_v154 : Ref sig .tc := ⟨.hbm, 267, rfl⟩
abbrev main_v155 : Ref sig .tc := ⟨.hbm, 268, rfl⟩
abbrev main_v156 : Ref sig .tc := ⟨.hbm, 269, rfl⟩
abbrev main_v157 : Ref sig .tc := ⟨.hbm, 270, rfl⟩
abbrev main_v158 : Ref sig .tc := ⟨.hbm, 271, rfl⟩

abbrev nD : Nat := 1
abbrev τ : Topo := Topo.v7x

variable {F : FTy → Type} [FloatOps F]
-- ==== Kernel9.lean ====
abbrev S8x2048x256 : Shape := ⟨3, ![8, 2048, 256]⟩
abbrev S8x16x64 : Shape := ⟨3, ![8, 16, 64]⟩
abbrev S16x64 : Shape := ⟨2, ![16, 64]⟩
abbrev S16x64x16 : Shape := ⟨3, ![16, 64, 16]⟩
abbrev S16x16x64 : Shape := ⟨3, ![16, 16, 64]⟩
abbrev S256 : Shape := ⟨1, ![256]⟩
abbrev S16 : Shape := ⟨1, ![16]⟩
abbrev S256x512 : Shape := ⟨2, ![256, 512]⟩
abbrev S_ : Shape := ⟨0, ![]⟩
abbrev S16x1 : Shape := ⟨2, ![16, 1]⟩
abbrev S16x64x1 : Shape := ⟨3, ![16, 64, 1]⟩
abbrev S16x16 : Shape := ⟨2, ![16, 16]⟩
abbrev S1x1024 : Shape := ⟨2, ![1, 1024]⟩
abbrev S16x16x1x64 : Shape := ⟨4, ![16, 16, 1, 64]⟩
abbrev S16x1x16x1 : Shape := ⟨4, ![16, 1, 16, 1]⟩
abbrev S16x16x16x64 : Shape := ⟨4, ![16, 16, 16, 64]⟩
abbrev S256x1024 : Shape := ⟨2, ![256, 1024]⟩
abbrev S16x64x1x16 : Shape := ⟨4, ![16, 64, 1, 16]⟩
abbrev S16x64x16x16 : Shape := ⟨4, ![16, 64, 16, 16]⟩
abbrev S1024x256 : Shape := ⟨2, ![1024, 256]⟩
abbrev S1x256 : Shape := ⟨2, ![1, 256]⟩
abbrev S2048x8x256 : Shape := ⟨3, ![2048, 8, 256]⟩
abbrev S16384x256 : Shape := ⟨2, ![16384, 256]⟩
abbrev S8x1024 : Shape := ⟨2, ![8, 1024]⟩
abbrev S1024x1024 : Shape := ⟨2, ![1024, 1024]⟩
abbrev S1024x512 : Shape := ⟨2, ![1024, 512]⟩

abbrev nBuf : Space → Nat
  | .hbm => 109
  | .vmem => 18
  | .smem => 0
  | _ => 0

abbrev bufTy : (tb : Table) → Fin (tcTables nBuf tb) → BufTy
  | .hbm, ⟨0, _⟩ => ⟨S8x2048x256, .f32⟩
  | .hbm, ⟨1, _⟩ => ⟨S8x16x64, .f32⟩
  | .hbm, ⟨2, _⟩ => ⟨S8x16x64, .f32⟩
  | .hbm, ⟨3, _⟩ => ⟨S16x64, .f32⟩
  | .hbm, ⟨4, _⟩ => ⟨S16x64, .f32⟩
  | .hbm, ⟨5, _⟩ => ⟨S16x64x16, .f32⟩
  | .hbm, ⟨6, _⟩ => ⟨S16x64x16, .f32⟩
  | .hbm, ⟨7, _⟩ => ⟨S16x16x64, .f32⟩
  | .hbm, ⟨8, _⟩ => ⟨S16x16x64, .f32⟩
  | .hbm, ⟨9, _⟩ => ⟨S256, .f32⟩
  | .hbm, ⟨10, _⟩ => ⟨S16, .f32⟩
  | .hbm, ⟨11, _⟩ => ⟨S256x512, .f32⟩
  | .hbm, ⟨12, _⟩ => ⟨S_, .f32⟩
  | .hbm, ⟨13, _⟩ => ⟨S16x64, .f32⟩
  | .hbm, ⟨14, _⟩ => ⟨S16x64, .f32⟩
  | .hbm, ⟨15, _⟩ => ⟨S16, .f32⟩
  | .hbm, ⟨16, _⟩ => ⟨S16x1, .f32⟩
  | .hbm, ⟨17, _⟩ => ⟨S16x64, .f32⟩
  | .hbm, ⟨18, _⟩ => ⟨S16x64, .f32⟩
  | .hbm, ⟨19, _⟩ => ⟨S16x64, .f32⟩
  | .hbm, ⟨20, _⟩ => ⟨S16x64, .f32⟩
  | .hbm, ⟨21, _⟩ => ⟨S16x64, .f32⟩
  | .hbm, ⟨22, _⟩ => ⟨S16x64, .f32⟩
  | .hbm, ⟨23, _⟩ => ⟨S16x64, .f32⟩
  | .hbm, ⟨24, _⟩ => ⟨S16x64, .f32⟩
  | .hbm, ⟨25, _⟩ => ⟨S16x64, .f32⟩
  | .hbm, ⟨26, _⟩ => ⟨S16x64, .f32⟩
  | .hbm, ⟨27, _⟩ => ⟨S16x64, .f32⟩
  | .hbm, ⟨28, _⟩ => ⟨S16x64, .f32⟩
  | .hbm, ⟨29, _⟩ => ⟨S16x64, .f32⟩
  | .hbm, ⟨30, _⟩ => ⟨S16x64, .f32⟩
  | .hbm, ⟨31, _⟩ => ⟨S_, .f32⟩
  | .hbm, ⟨32, _⟩ => ⟨S16x64, .f32⟩
  | .hbm, ⟨33, _⟩ => ⟨S16x64, .f32⟩
  | .hbm, ⟨34, _⟩ => ⟨S16x64, .f32⟩
  | .hbm, ⟨35, _⟩ => ⟨S16x64, .f32⟩
  | .hbm, ⟨36, _⟩ => ⟨S16x64, .f32⟩
  | .hbm, ⟨37, _⟩ => ⟨S16x64, .f32⟩
  | .hbm, ⟨38, _⟩ => ⟨S16x64, .f32⟩
  | .hbm, ⟨39, _⟩ => ⟨S_, .f32⟩
  | .hbm, ⟨40, _⟩ => ⟨S16x64, .f32⟩
  | .hbm, ⟨41, _⟩ => ⟨S16x64, .f32⟩
  | .hbm, ⟨42, _⟩ => ⟨S16x64, .f32⟩
  | .hbm, ⟨43, _⟩ => ⟨S16x64, .f32⟩
  | .hbm, ⟨44, _⟩ => ⟨S16x64, .f32⟩
  | .hbm, ⟨45, _⟩ => ⟨S16x64x1, .f32⟩
  | .hbm, ⟨46, _⟩ => ⟨S16x64x16, .f32⟩
  | .hbm, ⟨47, _⟩ => ⟨S16x64x16, .f32⟩
  | .hbm, ⟨48, _⟩ => ⟨S16x64x1, .f32⟩
  | .hbm, ⟨49, _⟩ => ⟨S16x64x16, .f32⟩
  | .hbm, ⟨50, _⟩ => ⟨S16x64x16, .f32⟩
  | .hbm, ⟨51, _⟩ => ⟨S16x64x16, .f32⟩
  | .hbm, ⟨52, _⟩ => ⟨S16x64x1, .f32⟩
  | .hbm, ⟨53, _⟩ => ⟨S16x64x16, .f32⟩
  | .hbm, ⟨54, _⟩ => ⟨S16x64x16, .f32⟩
  | .hbm, ⟨55, _⟩ => ⟨S16x64x1, .f32⟩
  | .hbm, ⟨56, _⟩ => ⟨S16x64x16, .f32⟩
  | .hbm, ⟨57, _⟩ => ⟨S16x64x16, .f32⟩
  | .hbm, ⟨58, _⟩ => ⟨S16x64x16, .f32⟩
  | .hbm, ⟨59, _⟩ => ⟨S16x16, .i32⟩
  | .hbm, ⟨60, _⟩ => ⟨S16x16, .i32⟩
  | .hbm, ⟨61, _⟩ => ⟨S_, .i32⟩
  | .hbm, ⟨62, _⟩ => ⟨S16x16, .i32⟩
  | .hbm, ⟨63, _⟩ => ⟨S16x16, .i32⟩
  | .hbm, ⟨64, _⟩ => ⟨S16x16, .i1⟩
  | .hbm, ⟨65, _⟩ => ⟨S16x16, .f32⟩
  | .hbm, ⟨66, _⟩ => ⟨S1x1024, .f32⟩
  | .hbm, ⟨67, _⟩ => ⟨S1x1024, .f32⟩
  | .hbm, ⟨68, _⟩ => ⟨S16x16x64, .f32⟩
  | .hbm, ⟨69, _⟩ => ⟨S16x16x1x64, .f32⟩
  | .hbm, ⟨70, _⟩ => ⟨S16x1x16x1, .f32⟩
  | .hbm, ⟨71, _⟩ => ⟨S16x16x16x64, .f32⟩
  | .hbm, ⟨72, _⟩ => ⟨S16x16x16x64, .f32⟩
  | .hbm, ⟨73, _⟩ => ⟨S16x16x16x64, .f32⟩
  | .hbm, ⟨74, _⟩ => ⟨S256x1024, .f32⟩
  | .hbm, ⟨75, _⟩ => ⟨S256x1024, .bf16⟩
  | .hbm, ⟨76, _⟩ => ⟨S16x16x64, .f32⟩
  | .hbm, ⟨77, _⟩ => ⟨S16x16x1x64, .f32⟩
  | .hbm, ⟨78, _⟩ => ⟨S16x1x16x1, .f32⟩
  | .hbm, ⟨79, _⟩ => ⟨S16x16x16x64, .f32⟩
  | .hbm, ⟨80, _⟩ => ⟨S16x16x16x64, .f32⟩
  | .hbm, ⟨81, _⟩ => ⟨S16x16x16x64, .f32⟩
  | .hbm, ⟨82, _⟩ => ⟨S256x1024, .f32⟩
  | .hbm, ⟨83, _⟩ => ⟨S256x1024, .bf16⟩
  | .hbm, ⟨84, _⟩ => ⟨S16x64x16, .f32⟩
  | .hbm, ⟨85, _⟩ => ⟨S16x64x1x16, .f32⟩
  | .hbm, ⟨86, _⟩ => ⟨S16x1x16x1, .f32⟩
  | .hbm, ⟨87, _⟩ => ⟨S16x64x16x16, .f32⟩
  | .hbm, ⟨88, _⟩ => ⟨S16x64x16x16, .f32⟩
  | .hbm, ⟨89, _⟩ => ⟨S16x64x16x16, .f32⟩
  | .hbm, ⟨90, _⟩ => ⟨S1024x256, .f32⟩
  | .hbm, ⟨91, _⟩ => ⟨S1024x256, .bf16⟩
  | .hbm, ⟨92, _⟩ => ⟨S16x64x16, .f32⟩
  | .hbm, ⟨93, _⟩ => ⟨S16x64x1x16, .f32⟩
  | .hbm, ⟨94, _⟩ => ⟨S16x1x16x1, .f32⟩
  | .hbm, ⟨95, _⟩ => ⟨S16x64x16x16, .f32⟩
  | .hbm, ⟨96, _⟩ => ⟨S16x64x16x16, .f32⟩
  | .hbm, ⟨97, _⟩ => ⟨S16x64x16x16, .f32⟩
  | .hbm, ⟨98, _⟩ => ⟨S1024x256, .f32⟩
  | .hbm, ⟨99, _⟩ => ⟨S1024x256, .bf16⟩
  | .hbm, ⟨100, _⟩ => ⟨S1x256, .f32⟩
  | .hbm, ⟨101, _⟩ => ⟨S256x512, .bf16⟩
  | .hbm, ⟨102, _⟩ => ⟨S2048x8x256, .f32⟩
  | .hbm, ⟨103, _⟩ => ⟨S16384x256, .f32⟩
  | .hbm, ⟨104, _⟩ => ⟨S8x1024, .f32⟩
  | .hbm, ⟨105, _⟩ => ⟨S8x1024, .f32⟩
  | .hbm, ⟨106, _⟩ => ⟨S16384x256, .f32⟩
  | .hbm, ⟨107, _⟩ => ⟨S8x1024, .f32⟩
  | .hbm, ⟨108, _⟩ => ⟨S8x1024, .f32⟩
  | .local _ .vmem, ⟨0, _⟩ => ⟨S1024x256, .f32⟩
  | .local _ .vmem, ⟨1, _⟩ => ⟨S1024x256, .f32⟩
  | .local _ .vmem, ⟨2, _⟩ => ⟨S8x1024, .f32⟩
  | .local _ .vmem, ⟨3, _⟩ => ⟨S8x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S1024x256, .bf16⟩
  | .local _ .vmem, ⟨9, _⟩ => ⟨S1024x256, .bf16⟩
  | .local _ .vmem, ⟨10, _⟩ => ⟨S1x256, .f32⟩
  | .local _ .vmem, ⟨11, _⟩ => ⟨S256x512, .bf16⟩
  | .local _ .vmem, ⟨12, _⟩ => ⟨S1024x256, .f32⟩
  | .local _ .vmem, ⟨13, _⟩ => ⟨S1024x256, .f32⟩
  | .local _ .vmem, ⟨14, _⟩ => ⟨S8x1024, .f32⟩
  | .local _ .vmem, ⟨15, _⟩ => ⟨S8x1024, .f32⟩
  | .local _ .vmem, ⟨16, _⟩ => ⟨S1024x1024, .f32⟩
  | .local _ .vmem, ⟨17, _⟩ => ⟨S1024x1024, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90_0 : Ref sig .tc := ⟨.hbm, 106, rfl⟩
abbrev main_v90_1 : Ref sig .tc := ⟨.hbm, 107, rfl⟩
abbrev main_v90_2 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg13_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem13_0 : DmaSem sig := 15

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_19 : BitVec 32 := 0#32
  let c128_i32 : BitVec 32 := 128#32
  let v30 : BitVec 32 := Scalar.addi c0_i32_19 c128_i32
  let c1_i32 : BitVec 32 := 1#32
  ⟨c0_i32_19, v30, c1_i32⟩
def k0_mult1 (k0_t1 : Fin k0_t1_loop.trips) : BitVec 32 :=
  let c0_i32_19 : BitVec 32 := 0#32
  let c1_i32 : BitVec 32 := 1#32
  let arg17 : BitVec 32 := Scf.iv c0_i32_19 c1_i32 k0_t1
  let c8_i32 : BitVec 32 := 8#32
  let v78 : BitVec 32 := Scalar.muli arg17 c8_i32
  v78
def k0_off1 (k0_t1 : Fin k0_t1_loop.trips) : Fin 2 → Nat :=
  let c0_i32_19 : BitVec 32 := 0#32
  let c1_i32 : BitVec 32 := 1#32
  let arg17 : BitVec 32 := Scf.iv c0_i32_19 c1_i32 k0_t1
  let c8_i32 : BitVec 32 := 8#32
  let v78 : BitVec 32 := Scalar.muli arg17 c8_i32
  let v79 : BitVec 32 := v78
  let v80 : Index := Scalar.indexCast v79
  let c0_49 : Index := 0#32
  ![v80.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference9Ideal.lean ====
abbrev S8x2048x256 : Shape := ⟨3, ![8, 2048, 256]⟩
abbrev S8x16x64 : Shape := ⟨3, ![8, 16, 64]⟩
abbrev S16x64 : Shape := ⟨2, ![16, 64]⟩
abbrev S16x64x16 : Shape := ⟨3, ![16, 64, 16]⟩
abbrev S16x16x64 : Shape := ⟨3, ![16, 16, 64]⟩
abbrev S256 : Shape := ⟨1, ![256]⟩
abbrev S16 : Shape := ⟨1, ![16]⟩
abbrev S256x512 : Shape := ⟨2, ![256, 512]⟩
abbrev S8x2048x16x16 : Shape := ⟨4, ![8, 2048, 16, 16]⟩
abbrev S_ : Shape := ⟨0, ![]⟩
abbrev S16x1 : Shape := ⟨2, ![16, 1]⟩
abbrev S16x64x1 : Shape := ⟨3, ![16, 64, 1]⟩
abbrev S16x64x8x2048 : Shape := ⟨4, ![16, 64, 8, 2048]⟩
abbrev S8x2048x16x64 : Shape := ⟨4, ![8, 2048, 16, 64]⟩
abbrev S2048x8x16x64 : Shape := ⟨4, ![2048, 8, 16, 64]⟩
abbrev S2048x8x1024 : Shape := ⟨3, ![2048, 8, 1024]⟩
abbrev S8x1024 : Shape := ⟨2, ![8, 1024]⟩
abbrev S1x1024 : Shape := ⟨2, ![1, 1024]⟩
abbrev S1x8x1024 : Shape := ⟨3, ![1, 8, 1024]⟩

abbrev nBuf : Space → Nat
  | .hbm => 76
  | .vmem => 8
  | .smem => 0
  | _ => 0

abbrev bufTy : (tb : Table) → Fin (tcTables nBuf tb) → BufTy
  | .hbm, ⟨0, _⟩ => ⟨S8x2048x256, .f32⟩
  | .hbm, ⟨1, _⟩ => ⟨S8x16x64, .f32⟩
  | .hbm, ⟨2, _⟩ => ⟨S8x16x64, .f32⟩
  | .hbm, ⟨3, _⟩ => ⟨S16x64, .f32⟩
  | .hbm, ⟨4, _⟩ => ⟨S16x64, .f32⟩
  | .hbm, ⟨5, _⟩ => ⟨S16x64x16, .f32⟩
  | .hbm, ⟨6, _⟩ => ⟨S16x64x16, .f32⟩
  | .hbm, ⟨7, _⟩ => ⟨S16x16x64, .f32⟩
  | .hbm, ⟨8, _⟩ => ⟨S16x16x64, .f32⟩
  | .hbm, ⟨9, _⟩ => ⟨S256, .f32⟩
  | .hbm, ⟨10, _⟩ => ⟨S16, .f32⟩
  | .hbm, ⟨11, _⟩ => ⟨S256x512, .f32⟩
  | .hbm, ⟨12, _⟩ => ⟨S8x2048x16x16, .f32⟩
  | .hbm, ⟨13, _⟩ => ⟨S_, .f32⟩
  | .hbm, ⟨14, _⟩ => ⟨S16x64, .f32⟩
  | .hbm, ⟨15, _⟩ => ⟨S16x64, .f32⟩
  | .hbm, ⟨16, _⟩ => ⟨S16, .f32⟩
  | .hbm, ⟨17, _⟩ => ⟨S16x1, .f32⟩
  | .hbm, ⟨18, _⟩ => ⟨S16x64, .f32⟩
  | .hbm, ⟨19, _⟩ => ⟨S16x64, .f32⟩
  | .hbm, ⟨20, _⟩ => ⟨S16x64, .f32⟩
  | .hbm, ⟨21, _⟩ => ⟨S16x64, .f32⟩
  | .hbm, ⟨22, _⟩ => ⟨S16x64, .f32⟩
  | .hbm, ⟨23, _⟩ => ⟨S16x64, .f32⟩
  | .hbm, ⟨24, _⟩ => ⟨S16x64, .f32⟩
  | .hbm, ⟨25, _⟩ => ⟨S16x64, .f32⟩
  | .hbm, ⟨26, _⟩ => ⟨S16x64, .f32⟩
  | .hbm, ⟨27, _⟩ => ⟨S16x64, .f32⟩
  | .hbm, ⟨28, _⟩ => ⟨S16x64, .f32⟩
  | .hbm, ⟨29, _⟩ => ⟨S16x64, .f32⟩
  | .hbm, ⟨30, _⟩ => ⟨S16x64, .f32⟩
  | .hbm, ⟨31, _⟩ => ⟨S16x64, .f32⟩
  | .hbm, ⟨32, _⟩ => ⟨S_, .f32⟩
  | .hbm, ⟨33, _⟩ => ⟨S16x64, .f32⟩
  | .hbm, ⟨34, _⟩ => ⟨S16x64, .f32⟩
  | .hbm, ⟨35, _⟩ => ⟨S16x64, .f32⟩
  | .hbm, ⟨36, _⟩ => ⟨S16x64, .f32⟩
  | .hbm, ⟨37, _⟩ => ⟨S16x64, .f32⟩
  | .hbm, ⟨38, _⟩ => ⟨S16x64, .f32⟩
  | .hbm, ⟨39, _⟩ => ⟨S16x64, .f32⟩
  | .hbm, ⟨40, _⟩ => ⟨S_, .f32⟩
  | .hbm, ⟨41, _⟩ => ⟨S16x64, .f32⟩
  | .hbm, ⟨42, _⟩ => ⟨S16x64, .f32⟩
  | .hbm, ⟨43, _⟩ => ⟨S16x64, .f32⟩
  | .hbm, ⟨44, _⟩ => ⟨S16x64, .f32⟩
  | .hbm, ⟨45, _⟩ => ⟨S16x64, .f32⟩
  | .hbm, ⟨46, _⟩ => ⟨S16x64x1, .f32⟩
  | .hbm, ⟨47, _⟩ => ⟨S16x64x16, .f32⟩
  | .hbm, ⟨48, _⟩ => ⟨S16x64x16, .f32⟩
  | .hbm, ⟨49, _⟩ => ⟨S16x64x1, .f32⟩
  | .hbm, ⟨50, _⟩ => ⟨S16x64x16, .f32⟩
  | .hbm, ⟨51, _⟩ => ⟨S16x64x16, .f32⟩
  | .hbm, ⟨52, _⟩ => ⟨S16x64x16, .f32⟩
  | .hbm, ⟨53, _⟩ => ⟨S16x64x1, .f32⟩
  | .hbm, ⟨54, _⟩ => ⟨S16x64x16, .f32⟩
  | .hbm, ⟨55, _⟩ => ⟨S16x64x16, .f32⟩
  | .hbm, ⟨56, _⟩ => ⟨S16x64x1, .f32⟩
  | .hbm, ⟨57, _⟩ => ⟨S16x64x16, .f32⟩
  | .hbm, ⟨58, _⟩ => ⟨S16x64x16, .f32⟩
  | .hbm, ⟨59, _⟩ => ⟨S16x64x16, .f32⟩
  | .hbm, ⟨60, _⟩ => ⟨S16x64x8x2048, .f32⟩
  | .hbm, ⟨61, _⟩ => ⟨S8x2048x16x64, .f32⟩
  | .hbm, ⟨62, _⟩ => ⟨S16x64x8x2048, .f32⟩
  | .hbm, ⟨63, _⟩ => ⟨S8x2048x16x64, .f32⟩
  | .hbm, ⟨64, _⟩ => ⟨S2048x8x16x64, .f32⟩
  | .hbm, ⟨65, _⟩ => ⟨S2048x8x1024, .f32⟩
  | .hbm, ⟨66, _⟩ => ⟨S2048x8x16x64, .f32⟩
  | .hbm, ⟨67, _⟩ => ⟨S2048x8x1024, .f32⟩
  | .hbm, ⟨68, _⟩ => ⟨S8x1024, .f32⟩
  | .hbm, ⟨69, _⟩ => ⟨S8x1024, .f32⟩
  | .hbm, ⟨70, _⟩ => ⟨S1x1024, .f32⟩
  | .hbm, ⟨71, _⟩ => ⟨S8x1024, .f32⟩
  | .hbm, ⟨72, _⟩ => ⟨S1x1024, .f32⟩
  | .hbm, ⟨73, _⟩ => ⟨S8x1024, .f32⟩
  | .hbm, ⟨74, _⟩ => ⟨S8x1024, .f32⟩
  | .hbm, ⟨75, _⟩ => ⟨S8x1024, .f32⟩
  | .local _ .vmem, ⟨0, _⟩ => ⟨S2048x8x1024, .f32⟩
  | .local _ .vmem, ⟨1, _⟩ => ⟨S2048x8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59_0 : Ref sig .tc := ⟨.hbm, 74, rfl⟩
abbrev main_v59_1 : Ref sig .tc := ⟨.hbm, 75, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c2048_i32 : BitVec 32 := 2048#32
  let v8 : BitVec 32 := Scalar.addi c0_i32 c2048_i32
  let c1_i32 : BitVec 32 := 1#32
  ⟨c0_i32, v8, c1_i32⟩
def k0_off1 (k0_t1 : Fin k0_t1_loop.trips) : Fin 3 → Nat :=
  let c0_i32 : BitVec 32 := 0#32
  let c1_i32 : BitVec 32 := 1#32
  let arg8 : BitVec 32 := Scf.iv c0_i32 c1_i32 k0_t1
  let v15 : Index := Scalar.indexCast arg8
  let c0_12 : Index := 0#32
  let c0_13 : Index := 0#32
  ![v15.toNat, 0, 0]
abbrev stage0_0 : Fin 1 → Memref sig .tc .vmem S2048x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Dec.Common.lean ====
module

public import Idealize.ShloMosaic.Lib.Pointwise

@[expose] public section

set_option maxRecDepth 16384
noncomputable section

namespace Cert.Hand

open Idealize.ShloMosaic

/-- A conjunction of single bits over a finite set, started at one, is one only if every bit is. -/
theorem fold_and_one {ι : Type} (s : Finset ι) (f : ι → BitVec 1)
    (h : Finset.fold IntOp.andi (1#1) f s = 1#1) : ∀ x ∈ s, f x = 1#1 := by
  classical
  induction s using Finset.induction_on with
  | empty => intro x hx; exact absurd hx (Finset.notMem_empty x)
  | insert a s ha ih =>
    rw [Finset.fold_insert ha] at h
    have hab : ∀ u v : BitVec 1, IntOp.andi u v = 1#1 → u = 1#1 ∧ v = 1#1 := by
      unfold IntOp.andi; decide
    obtain ⟨h1, h2⟩ := hab _ _ h
    intro x hx
    rcases Finset.mem_insert.mp hx with rfl | hx
    · exact h1
    · exact ih h2 x hx

/-- A conjunction of two bits is one only if both are. -/
theorem and_one {u v : BitVec 1} (h : IntOp.andi u v = 1#1) : u = 1#1 ∧ v = 1#1 := by
  revert u v; unfold IntOp.andi; decide

/-- The bit pattern of positive infinity is the top of the extended reals. -/
theorem ofBits_inf : Ideal.ofBits FTy.f32 2139095040#32 = ⊤ := by
  simp [Ideal.ofBits, Ideal.ieee]

/-- A number whose absolute value tests below infinity is a real number. -/
theorem real_of_bit {x : EReal}
    (h : BitVec.ofBool (decide (FloatOps.absf (F := Ideal) (φ := .f32) x < Ideal.ofBits FTy.f32 2139095040#32)) = 1#1) :
    ∃ r : ℝ, x = (r : EReal) := by
  rw [ofBits_inf] at h
  have h' : max x (-x) < (⊤ : EReal) := by
    by_contra hc
    have : decide (FloatOps.absf (F := Ideal) (φ := .f32) x < (⊤ : EReal)) = false := decide_eq_false hc
    rw [this] at h
    exact absurd h (by decide)
  have h1 : x ≠ ⊤ := fun e => by rw [e] at h'; simp at h'
  have h2 : x ≠ ⊥ := fun e => by rw [e] at h'; simp at h'
  exact ⟨x.toReal, (EReal.coe_toReal h1 h2).symm⟩

/-- An array all of whose tests hold is an array of real numbers. -/
theorem reals_of_fold {ι : Type} {P : ι → Prop} [DecidablePred P] [Fintype ι] {x : ι → EReal}
    (h : Finset.fold IntOp.andi (1#1)
      (fun i => BitVec.ofBool (decide (FloatOps.absf (F := Ideal) (φ := .f32) (x i) < Ideal.ofBits FTy.f32 2139095040#32)))
      {i | P i} = 1#1) (hP : ∀ i, P i) :
    ∃ r : ι → ℝ, x = fun i => ((r i : ℝ) : EReal) := by
  have := fun i => real_of_bit (fold_and_one _ _ h i (by simp [hP i]))
  exact ⟨fun i => (this i).choose, funext fun i => (this i).choose_spec⟩

/-- The same, for a test that runs over the three coordinates of an array. -/
theorem reals_of_fold3 {a b c : ℕ} {x : (⟨3, ![a, b, c]⟩ : Shape).Idx → EReal}
    (h : Finset.fold IntOp.andi (1#1)
      (fun k : Fin a × Fin b × Fin c => BitVec.ofBool (decide (FloatOps.absf (F := Ideal) (φ := .f32) (x (ix3 k.1 k.2.1 k.2.2)) < Ideal.ofBits FTy.f32 2139095040#32)))
      Finset.univ = 1#1) :
    ∃ r : (⟨3, ![a, b, c]⟩ : Shape).Idx → ℝ, x = fun i => ((r i : ℝ) : EReal) := by
  have hx : ∀ i, ∃ r : ℝ, x i = (r : EReal) := by
    intro i
    have e : i = ix3 (i 0) (i 1) (i 2) := by
      funext d
      match d with
      | ⟨0, _⟩ => rfl
      | ⟨1, _⟩ => rfl
      | ⟨2, _⟩ => rfl
    rw [e]
    exact real_of_bit (fold_and_one _ _ h (i 0, i 1, i 2) (Finset.mem_univ _))
  exact ⟨fun i => (hx i).choose, funext fun i => (hx i).choose_spec⟩

/-- A finite sum of real numbers is the same in the reals and in the extended reals. -/
theorem coe_sum {ι : Type} [Fintype ι] (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

/-- Equality of two words below `2 ^ 32`, as a bit. -/
theorem bit_eq (a b : ℕ) (ha : a < 4294967296) (hb : b < 4294967296) :
    IntOp.cmpi CmpIPredicate.eq (BitVec.ofNat 32 a) (BitVec.ofNat 32 b) = if a = b then 1#1 else 0#1 := by
  unfold IntOp.cmpi
  by_cases h : a = b
  · subst h; simp
  · rw [if_neg h]
    have : ¬ BitVec.ofNat 32 a = BitVec.ofNat 32 b := by
      intro e
      have e' := congrArg BitVec.toNat e
      simp only [BitVec.toNat_ofNat] at e'
      rw [Nat.mod_eq_of_lt (by omega), Nat.mod_eq_of_lt (by omega)] at e'
      exact h e'
    rw [show (BitVec.ofNat 32 a == BitVec.ofNat 32 b) = false from beq_eq_false_iff_ne.mpr this]; rfl

/-- Shifting a small word right by six divides it by 64. -/
theorem shift_six (c : ℕ) (hc : c < 4096) :
    IntOp.shrsi ArithUnit.vector (BitVec.ofNat 32 c) 6#32 = BitVec.ofNat 32 (c / 64) := by
  have hm : (BitVec.ofNat 32 c).msb = false := by
    rw [BitVec.msb_eq_false_iff_two_mul_lt]
    simp only [BitVec.toNat_ofNat]
    rw [Nat.mod_eq_of_lt (by omega)]; omega
  unfold IntOp.shrsi
  rw [if_pos (by decide)]
  show BitVec.sshiftRight _ _ = _
  rw [BitVec.sshiftRight_eq_of_msb_false hm]
  apply BitVec.eq_of_toNat_eq
  rw [BitVec.toNat_ushiftRight]
  simp only [BitVec.toNat_ofNat]
  rw [Nat.mod_eq_of_lt (by omega), Nat.mod_eq_of_lt (by omega), Nat.shiftRight_eq_div_pow]
  norm_num
  omega

/-- Masking a small word with 63 leaves its remainder by 64. -/
theorem mask_six (c : ℕ) (hc : c < 4096) :
    IntOp.andi (BitVec.ofNat 32 c) 63#32 = BitVec.ofNat 32 (c % 64) := by
  unfold IntOp.andi
  apply BitVec.eq_of_toNat_eq
  rw [BitVec.toNat_and]
  simp only [BitVec.toNat_ofNat]
  rw [Nat.mod_eq_of_lt (by omega), show 63 % 2 ^ 32 = 2 ^ 6 - 1 by norm_num, Nat.and_two_pow_sub_one_eq_mod]
  omega

/-- The entry of the 0/1 matrix that repeats a key coordinate: one where the row is the lane divided by 64. -/
theorem rep_div (r : Fin 64) (c : Fin 4096) :
    Scalar.select (IntOp.cmpi CmpIPredicate.eq (BitVec.ofNat 32 r.val)
      (IntOp.shrsi ArithUnit.vector (BitVec.ofNat 32 c.val) 6#32)) (1 : EReal) 0
      = if r.val = c.val / 64 then 1 else 0 := by
  rw [shift_six _ c.isLt, bit_eq _ _ (by omega) (by omega)]
  unfold Scalar.select
  by_cases h : r.val = c.val / 64 <;> simp [h]

/-- The entry of the 0/1 matrix that repeats a value coordinate: one where the row is the lane's remainder by 64. -/
theorem rep_mod (r : Fin 64) (c : Fin 4096) :
    Scalar.select (IntOp.cmpi CmpIPredicate.eq (BitVec.ofNat 32 r.val)
      (IntOp.andi (BitVec.ofNat 32 c.val) 63#32)) (1 : EReal) 0
      = if r.val = c.val % 64 then 1 else 0 := by
  rw [mask_six _ c.isLt, bit_eq _ _ (by omega) (by omega)]
  unfold Scalar.select
  by_cases h : r.val = c.val % 64 <;> simp [h]

/-- A sum against a 0/1 row picks the one term the row marks. -/
theorem sum_pick {n : ℕ} (f : Fin n → EReal) (a : ℕ) (ha : a < n) :
    ∑ x : Fin n, f x * (if x.val = a then (1 : EReal) else 0) = f ⟨a, ha⟩ := by
  rw [Finset.sum_eq_single (⟨a, ha⟩ : Fin n)]
  · simp
  · intro b _ hb
    have : b.val ≠ a := fun e => hb (Fin.ext e)
    simp [this]
  · intro h; exact absurd (Finset.mem_univ _) h

/-- The lane of the flattened 64 × 64 state that holds entry `(k, v)`. -/
def lane (k v : Fin 64) : Fin 4096 := ⟨k.val * 64 + v.val, by omega⟩

/-- A sum over the 4096 lanes kept where the lane's remainder is `v` is the sum over the key coordinates. -/
theorem sum_lanes (f : Fin 4096 → EReal) (v : Fin 64) :
    ∑ x : Fin 4096, f x * (if v.val = x.val % 64 then (1 : EReal) else 0) = ∑ k : Fin 64, f (lane k v) := by
  have e : ∑ x : Fin 4096, f x * (if v.val = x.val % 64 then (1 : EReal) else 0)
      = ∑ p : Fin 64 × Fin 64, f (lane p.1 p.2) * (if v = p.2 then (1 : EReal) else 0) := by
    refine (Fintype.sum_equiv (finProdFinEquiv (m := 64) (n := 64)) _ _ fun p => ?_).symm
    have h1 : (finProdFinEquiv (m := 64) (n := 64) p) = lane p.1 p.2 :=
      Fin.ext (by simp [lane, finProdFinEquiv]; omega)
    have h2 : (v = p.2) ↔ v.val = (lane p.1 p.2).val % 64 := by
      have := p.2.isLt
      simp only [lane, Fin.ext_iff]; omega
    rw [h1]
    simp only [h2]
  rw [e, Fintype.sum_prod_type]
  refine Finset.sum_congr rfl fun k _ => ?_
  rw [Finset.sum_eq_single v]
  · simp
  · intro b _ hb; simp [Ne.symm hb]
  · intro h; exact absurd (Finset.mem_univ _) h

/-- The key coordinate of a lane. -/
def keyOf (l : Fin 4096) : Fin 64 := ⟨l.val / 64, by omega⟩

/-- The value coordinate of a lane. -/
def valOf (l : Fin 4096) : Fin 64 := ⟨l.val % 64, by omega⟩

/-- A lane's two coordinates are the ones it was made of. -/
theorem keyOf_lane (k v : Fin 64) : keyOf (lane k v) = k := Fin.ext (by simp only [keyOf, lane]; omega)
/-- A lane's two coordinates are the ones it was made of. -/
theorem valOf_lane (k v : Fin 64) : valOf (lane k v) = v := Fin.ext (by simp only [valOf, lane]; omega)

/-- A row against the matrix of repeated keys is the row at the lane's key. -/
theorem sum_key (f : Fin 64 → EReal) (l : Fin 4096) :
    ∑ x : Fin 64, f x * (if x.val = l.val / 64 then (1 : EReal) else 0) = f (keyOf l) := sum_pick f _ (by omega)

/-- A row against the matrix of repeated values is the row at the lane's value. -/
theorem sum_val (f : Fin 64 → EReal) (l : Fin 4096) :
    ∑ x : Fin 64, f x * (if x.val = l.val % 64 then (1 : EReal) else 0) = f (valOf l) := sum_pick f _ (by omega)

/-- A real number less itself is zero. -/
theorem coe_sub_self (r : ℝ) : (r : EReal) - (r : EReal) = 0 := by
  rw [← EReal.coe_sub, sub_self, EReal.coe_zero]

end Cert.Hand
end
-- ==== Proof.Dec.Gdn.lean ====
module

public import proofs.«01_k».proof.Proof.Gen.KernelIdeal.Value
public import proofs.«01_k».proof.Proof.Dec.Common
public import Idealize.ShloMosaic.Lib.Pointwise

@[expose] public section

set_option maxRecDepth 16384
noncomputable section

namespace Cert.KernelIdeal.Hand

open Cert.KernelIdeal Cert.KernelIdeal.Gen Idealize.ShloMosaic Idealize.ShloMosaic.TcCoe Idealize.SL.Sem Cert.Hand

/-! ## One head's step, element by element -/

/-- The 0/1 matrix that repeats a key coordinate over its 64 lanes. -/
theorem rep_k (r : Fin 64) (c : Fin 4096) : k0_pay2 (F := Ideal) (ix2 r c) = if r.val = c.val / 64 then 1 else 0 := by
  pointwise [k0_pay2]
  exact rep_div r c

/-- The 0/1 matrix that repeats the value coordinates side by side. -/
theorem rep_v (r : Fin 64) (c : Fin 4096) : k0_pay3 (F := Ideal) (ix2 r c) = if r.val = c.val % 64 then 1 else 0 := by
  pointwise [k0_pay3]
  exact rep_mod r c

/-- An index list of zeros is the constant zero. -/
theorem hz4 : (![0, 0, 0, 0] : Fin 4 → Nat) = fun _ => 0 := funext fun a => by fin_cases a <;> rfl
/-- An index list of zeros is the constant zero. -/
theorem hz3 : (![0, 0, 0] : Fin 3 → Nat) = fun _ => 0 := funext fun a => by fin_cases a <;> rfl
/-- An index list of zeros is the constant zero. -/
theorem hz2 : (![0, 0] : Fin 2 → Nat) = fun _ => 0 := funext fun a => by fin_cases a <;> rfl

/-- The output block of a point: the payload of the blocks it loads. -/
theorem out_o (x0 x1 x2 : Vec Ideal S1x1x128x64 .f32) (x3 x4 : Vec Ideal S1x1x128x1 .f32) (x5 : Vec Ideal S128x4096 .f32) :
    out0_6 x0 x1 x2 x3 x4 x5 = k0_pay13 (k0_pay2 (F := Ideal)) (k0_pay3 (F := Ideal)) (k0_pay4 x0) (k0_pay5 x1) (k0_pay6 x2)
      (k0_pay7 x3) (k0_pay8 x4) (k0_pay9 x5) (k0_pay10 x1) (constant S128x4096 .f32 0x00000000#32) := by
  unfold_out out0_6
  rw [View.canon_unit_zero hz3, View.ld_unit_zero (S := S1x1x128x64) hz4, View.ld_unit_zero (S := S1x1x128x64) hz4,
    View.ld_unit_zero (S := S1x1x128x64) hz4, View.ld_unit_zero (S := S1x1x128x1) hz4, View.ld_unit_zero (S := S1x1x128x1) hz4,
    View.ld_unit_zero (S := S128x4096) hz2]

/-- The state block of a point. -/
theorem out_s (x0 x1 x2 : Vec Ideal S1x1x128x64 .f32) (x3 x4 : Vec Ideal S1x1x128x1 .f32) (x5 : Vec Ideal S128x4096 .f32) :
    out0_7 x0 x1 x2 x3 x4 x5 = k0_pay1 (k0_pay3 (F := Ideal))
      (k0_pay11 (k0_pay2 (F := Ideal)) (k0_pay10 x1) (constant S128x4096 .f32 0x00000000#32))
      (k0_pay12 (k0_pay2 (F := Ideal)) (k0_pay3 (F := Ideal)) (k0_pay6 x2) (k0_pay7 x3) (k0_pay8 x4) (k0_pay9 x5) (k0_pay10 x1)
        (constant S128x4096 .f32 0x00000000#32))
      (k0_pay14 (k0_pay7 x3) (k0_pay9 x5)) := by
  unfold_out out0_7
  rw [View.canon_unit_zero hz2, View.ld_unit_zero (S := S1x1x128x64) hz4,
    View.ld_unit_zero (S := S1x1x128x64) hz4, View.ld_unit_zero (S := S1x1x128x1) hz4, View.ld_unit_zero (S := S1x1x128x1) hz4,
    View.ld_unit_zero (S := S128x4096) hz2]

/-- The delta rule's update of one value coordinate, over the reals. -/
def upd (k : Fin 64 → ℝ) (w g beta : ℝ) (s : Fin 64 → ℝ) : ℝ :=
  beta * (w - ∑ d, Real.exp g * s d * k d)

/-- The update as the kernel brackets it. -/
theorem upd_eq (k : Fin 64 → ℝ) (w g beta : ℝ) (s : Fin 64 → ℝ) :
    beta * w - beta * Real.exp g * ∑ d, k d * s d = upd k w g beta s := by
  unfold upd
  rw [mul_sub, mul_assoc, Finset.mul_sum]
  exact congrArg (fun z => beta * w - beta * z) (Finset.sum_congr rfl fun d _ => by ring)

/-- A point's output at an element, over real blocks. -/
theorem out_o_apply (x0 x1 x2 : Vec Ideal S1x1x128x64 .f32) (x3 x4 : Vec Ideal S1x1x128x1 .f32) (x5 : Vec Ideal S128x4096 .f32) (b : Fin 128) (v : Fin 64)
    (q k w : Fin 64 → ℝ) (g beta : ℝ) (s : Fin 64 → Fin 64 → ℝ)
    (hq : ∀ d, x0 (ix4 0 0 b d) = (q d : EReal)) (hk : ∀ d, x1 (ix4 0 0 b d) = (k d : EReal))
    (hw : ∀ d, x2 (ix4 0 0 b d) = (w d : EReal)) (hg : x3 (ix4 0 0 b 0) = (g : EReal)) (hb : x4 (ix4 0 0 b 0) = (beta : EReal))
    (hs : ∀ l, x5 (ix2 b l) = (s (keyOf l) (valOf l) : EReal)) :
    out0_6 x0 x1 x2 x3 x4 x5 (ix3 0 b v)
      = ((∑ d, (Real.exp g * s d v + k d * upd k (w v) g beta (fun e => s e v)) * q d : ℝ) : EReal) := by
  rw [out_o]
  pointwise [k0_pay4, k0_pay5, k0_pay6, k0_pay7, k0_pay8, k0_pay9, k0_pay10, k0_pay11, k0_pay12, k0_pay13, k0_pay14, k0_pay1]
  simp only [rep_k, rep_v, sum_key, hq, hk, hw, hg, hb, hs, Ideal.exp_coe, ← EReal.coe_mul, coe_sub_self, zero_mul,
    Finset.sum_const_zero, add_zero, zero_add, sum_lanes, keyOf_lane, valOf_lane, ← coe_sum, ← EReal.coe_add, ← EReal.coe_sub]
  refine congrArg _ ?_
  rw [upd_eq, Finset.mul_sum, Finset.sum_mul, ← Finset.sum_add_distrib]
  exact Finset.sum_congr rfl fun d _ => by ring

/-- A point's new state at an element, over real blocks. -/
theorem out_s_apply (x0 x1 x2 : Vec Ideal S1x1x128x64 .f32) (x3 x4 : Vec Ideal S1x1x128x1 .f32) (x5 : Vec Ideal S128x4096 .f32) (b : Fin 128) (l : Fin 4096)
    (k w : Fin 64 → ℝ) (g beta : ℝ) (s : Fin 64 → Fin 64 → ℝ)
    (hk : ∀ d, x1 (ix4 0 0 b d) = (k d : EReal))
    (hw : ∀ d, x2 (ix4 0 0 b d) = (w d : EReal)) (hg : x3 (ix4 0 0 b 0) = (g : EReal)) (hb : x4 (ix4 0 0 b 0) = (beta : EReal))
    (hs : ∀ l, x5 (ix2 b l) = (s (keyOf l) (valOf l) : EReal)) :
    out0_7 x0 x1 x2 x3 x4 x5 (ix2 b l)
      = ((Real.exp g * s (keyOf l) (valOf l) + k (keyOf l) * upd k (w (valOf l)) g beta (fun e => s e (valOf l)) : ℝ) : EReal) := by
  rw [out_s]
  pointwise [k0_pay4, k0_pay5, k0_pay6, k0_pay7, k0_pay8, k0_pay9, k0_pay10, k0_pay11, k0_pay12, k0_pay13, k0_pay14, k0_pay1]
  simp only [rep_k, rep_v, sum_key, sum_val, hk, hw, hg, hb, hs, Ideal.exp_coe, ← EReal.coe_mul, coe_sub_self, zero_mul, sub_zero,
    Finset.sum_const_zero, add_zero, zero_add, sum_lanes, keyOf_lane, valOf_lane, ← coe_sum, ← EReal.coe_add, ← EReal.coe_sub]
  refine congrArg _ ?_
  rw [upd_eq]

/-! ## The blocks a point reads -/

/-- One array with the heads moved to the front and a leading axis of one. -/
abbrev pk (x : Vec Ideal S128x4x1x64 .f32) : Vec Ideal S1x4x128x64 .f32 :=
  broadcastInDim S1x4x128x64 ![1, 2, 3] bcast_S4x128x64_S1x4x128x64_1_2_3 (transpose S4x128x64 [1, 0, 2] (shapeCast S128x4x64 x shapeCasts_S128x4x1x64_S128x4x64) transposes_S128x4x64_S4x128x64_1_0_2)

/-- The queries, keys and values packed with the heads first. -/
abbrev pack (q k v : Vec Ideal S128x4x1x64 .f32) : Vec Ideal S3x4x128x64 .f32 :=
  concatenate S3x4x128x64 0 [⟨S1x4x128x64, pk q⟩, ⟨S1x4x128x64, pk k⟩, ⟨S1x4x128x64, pk v⟩] concatenates_S1x4x128x64_S1x4x128x64_S1x4x128x64_S3x4x128x64_d0

/-- One array with the heads moved to the front and a leading axis of one. -/
abbrev ck (x : Vec Ideal S128x4x1 .f32) : Vec Ideal S1x4x128x1 .f32 :=
  broadcastInDim S1x4x128x1 ![1, 2, 3] bcast_S4x128x1_S1x4x128x1_1_2_3 (transpose S4x128x1 [1, 0, 2] x transposes_S128x4x1_S4x128x1_1_0_2)

/-- The decays and the step sizes packed with the heads first. -/
abbrev cols (g b : Vec Ideal S128x4x1 .f32) : Vec Ideal S2x4x128x1 .f32 :=
  concatenate S2x4x128x1 0 [⟨S1x4x128x1, ck g⟩, ⟨S1x4x128x1, ck b⟩] concatenates_S1x4x128x1_S1x4x128x1_S2x4x128x1_d0

/-- Part 0 of the packed arrays is the queries. -/
theorem pack_q (q k v : Vec Ideal S128x4x1x64 .f32) (h : Fin 4) (b : Fin 128) (d : Fin 64) :
    pack q k v (ix4 0 h b d) = q (ix4 b h 0 d) := by pointwise [pack]
/-- Part 1 of the packed arrays is the keys. -/
theorem pack_k (q k v : Vec Ideal S128x4x1x64 .f32) (h : Fin 4) (b : Fin 128) (d : Fin 64) :
    pack q k v (ix4 1 h b d) = k (ix4 b h 0 d) := by pointwise [pack]
/-- Part 2 of the packed arrays is the values. -/
theorem pack_v (q k v : Vec Ideal S128x4x1x64 .f32) (h : Fin 4) (b : Fin 128) (d : Fin 64) :
    pack q k v (ix4 2 h b d) = v (ix4 b h 0 d) := by pointwise [pack]
/-- Part 0 of the packed scalars is the log decays. -/
theorem cols_g (g b : Vec Ideal S128x4x1 .f32) (h : Fin 4) (i : Fin 128) :
    cols g b (ix4 0 h i 0) = g (ix3 i h 0) := by pointwise [cols]
/-- Part 1 of the packed scalars is the step sizes. -/
theorem cols_b (g b : Vec Ideal S128x4x1 .f32) (h : Fin 4) (i : Fin 128) :
    cols g b (ix4 1 h i 0) = b (ix3 i h 0) := by pointwise [cols]
/-- The flattened state at head `h`, lane `l` is the state at that head, the lane's key and value coordinates. -/
theorem flat_s (s : Vec Ideal S128x4x64x64 .f32) (b : Fin 128) (h : Fin 4) (l : Fin 4096) :
    shapeCast S128x16384 s shapeCasts_S128x4x64x64_S128x16384 (ix2 b ⟨h.val * 4096 + l.val, by omega⟩)
      = s (ix4 b h (keyOf l) (valOf l)) := by
  pointwise
  exact congrArg s (congrArg₂ (ix4 b h) (Fin.ext (show (h.val * 4096 + l.val) / 64 % 64 = l.val / 64 by omega))
    (Fin.ext (show (h.val * 4096 + l.val) % 64 = l.val % 64 by omega)))

variable (m : (ℓ : Loc nD τ sig) → Buf (Elt Ideal) ℓ)

/-- The packed vectors the kernel call is given. -/
theorem V_p (c : Dev nD) :
    V m c main_v9 = pack (m (c.tc.loc main_arg0)) (m (c.tc.loc main_arg1)) (m (c.tc.loc main_arg2)) := by
  unfold V
  after_results <;> rfl

/-- The packed scalars the kernel call is given. -/
theorem V_c (c : Dev nD) :
    V m c main_v14 = cols (m (c.tc.loc main_arg3)) (m (c.tc.loc main_arg4)) := by
  unfold V
  after_results <;> rfl

/-- The flattened state the kernel call is given. -/
theorem V_s (c : Dev nD) :
    V m c main_v15 = shapeCast S128x16384 (m (c.tc.loc main_arg5) : Vec Ideal S128x4x64x64 .f32) shapeCasts_S128x4x64x64_S128x16384 := by
  unfold V
  after_results <;> rfl

/-- Point `t` reads head `t` of part 0 of the packed vectors. -/
theorem idx0 : ∀ t : Fin cfg0.N, win0_0.index t 0 = 0 ∧ win0_0.index t 1 = t.val ∧ win0_0.index t 2 = 0 ∧ win0_0.index t 3 = 0 :=
  (by decide +kernel : ∀ t : Fin grid0.N, win0_0.index t 0 = 0 ∧ win0_0.index t 1 = t.val ∧ win0_0.index t 2 = 0 ∧ win0_0.index t 3 = 0)

/-- The block read at point `t`, at an element, is the argument at the matching index. -/
theorem blk0 (c : Dev nD) (t : Fin cfg0.N) (h : Fin 4) (ht : t.val = h.val) (b : Fin 128) (d : Fin 64) :
    iblk m c 0 t (ix4 0 0 b d) = (m (c.tc.loc main_arg0) : Vec Ideal S128x4x1x64 .f32) (ix4 b h 0 d) := by
  refine Eq.trans ?_ ((congrFun (V_p m c) (ix4 0 h b d)).trans (pack_q _ _ _ h b d))
  show V m c main_v9 ((win0_0.rect t).emb (ix4 0 0 b d)) = _
  refine congrArg (V m c main_v9) (funext fun a => Fin.ext ?_)
  obtain ⟨e0, e1, e2, e3⟩ := idx0 t
  refine (Pipeline.Window.rect_emb_val win0_0 t _ a).trans ?_
  match a with
  | ⟨0, _⟩ => show win0_0.index t 0 * 1 + 0 = 0; rw [e0]
  | ⟨1, _⟩ => show win0_0.index t 1 * 1 + 0 = h.val; rw [e1]; omega
  | ⟨2, _⟩ => show win0_0.index t 2 * 128 + b.val = b.val; rw [e2]; omega
  | ⟨3, _⟩ => show win0_0.index t 3 * 64 + d.val = d.val; rw [e3]; omega

/-- Point `t` reads head `t` of part 1 of the packed vectors. -/
theorem idx1 : ∀ t : Fin cfg0.N, win0_1.index t 0 = 1 ∧ win0_1.index t 1 = t.val ∧ win0_1.index t 2 = 0 ∧ win0_1.index t 3 = 0 :=
  (by decide +kernel : ∀ t : Fin grid0.N, win0_1.index t 0 = 1 ∧ win0_1.index t 1 = t.val ∧ win0_1.index t 2 = 0 ∧ win0_1.index t 3 = 0)

/-- The block read at point `t`, at an element, is the argument at the matching index. -/
theorem blk1 (c : Dev nD) (t : Fin cfg0.N) (h : Fin 4) (ht : t.val = h.val) (b : Fin 128) (d : Fin 64) :
    iblk m c 1 t (ix4 0 0 b d) = (m (c.tc.loc main_arg1) : Vec Ideal S128x4x1x64 .f32) (ix4 b h 0 d) := by
  refine Eq.trans ?_ ((congrFun (V_p m c) (ix4 1 h b d)).trans (pack_k _ _ _ h b d))
  show V m c main_v9 ((win0_1.rect t).emb (ix4 0 0 b d)) = _
  refine congrArg (V m c main_v9) (funext fun a => Fin.ext ?_)
  obtain ⟨e0, e1, e2, e3⟩ := idx1 t
  refine (Pipeline.Window.rect_emb_val win0_1 t _ a).trans ?_
  match a with
  | ⟨0, _⟩ => show win0_1.index t 0 * 1 + 0 = 1; rw [e0]
  | ⟨1, _⟩ => show win0_1.index t 1 * 1 + 0 = h.val; rw [e1]; omega
  | ⟨2, _⟩ => show win0_1.index t 2 * 128 + b.val = b.val; rw [e2]; omega
  | ⟨3, _⟩ => show win0_1.index t 3 * 64 + d.val = d.val; rw [e3]; omega

/-- Point `t` reads head `t` of part 2 of the packed vectors. -/
theorem idx2 : ∀ t : Fin cfg0.N, win0_2.index t 0 = 2 ∧ win0_2.index t 1 = t.val ∧ win0_2.index t 2 = 0 ∧ win0_2.index t 3 = 0 :=
  (by decide +kernel : ∀ t : Fin grid0.N, win0_2.index t 0 = 2 ∧ win0_2.index t 1 = t.val ∧ win0_2.index t 2 = 0 ∧ win0_2.index t 3 = 0)

/-- The block read at point `t`, at an element, is the argument at the matching index. -/
theorem blk2 (c : Dev nD) (t : Fin cfg0.N) (h : Fin 4) (ht : t.val = h.val) (b : Fin 128) (d : Fin 64) :
    iblk m c 2 t (ix4 0 0 b d) = (m (c.tc.loc main_arg2) : Vec Ideal S128x4x1x64 .f32) (ix4 b h 0 d) := by
  refine Eq.trans ?_ ((congrFun (V_p m c) (ix4 2 h b d)).trans (pack_v _ _ _ h b d))
  show V m c main_v9 ((win0_2.rect t).emb (ix4 0 0 b d)) = _
  refine congrArg (V m c main_v9) (funext fun a => Fin.ext ?_)
  obtain ⟨e0, e1, e2, e3⟩ := idx2 t
  refine (Pipeline.Window.rect_emb_val win0_2 t _ a).trans ?_
  match a with
  | ⟨0, _⟩ => show win0_2.index t 0 * 1 + 0 = 2; rw [e0]
  | ⟨1, _⟩ => show win0_2.index t 1 * 1 + 0 = h.val; rw [e1]; omega
  | ⟨2, _⟩ => show win0_2.index t 2 * 128 + b.val = b.val; rw [e2]; omega
  | ⟨3, _⟩ => show win0_2.index t 3 * 64 + d.val = d.val; rw [e3]; omega

/-- Point `t` reads head `t` of part 0 of the packed scalars. -/
theorem idx3 : ∀ t : Fin cfg0.N, win0_3.index t 0 = 0 ∧ win0_3.index t 1 = t.val ∧ win0_3.index t 2 = 0 ∧ win0_3.index t 3 = 0 :=
  (by decide +kernel : ∀ t : Fin grid0.N, win0_3.index t 0 = 0 ∧ win0_3.index t 1 = t.val ∧ win0_3.index t 2 = 0 ∧ win0_3.index t 3 = 0)

/-- The block read at point `t`, at an element, is the argument at the matching index. -/
theorem blk3 (c : Dev nD) (t : Fin cfg0.N) (h : Fin 4) (ht : t.val = h.val) (b : Fin 128) :
    iblk m c 3 t (ix4 0 0 b 0) = (m (c.tc.loc main_arg3) : Vec Ideal S128x4x1 .f32) (ix3 b h 0) := by
  refine Eq.trans ?_ ((congrFun (V_c m c) (ix4 0 h b 0)).trans (cols_g _ _ h b))
  show V m c main_v14 ((win0_3.rect t).emb (ix4 0 0 b 0)) = _
  refine congrArg (V m c main_v14) (funext fun a => Fin.ext ?_)
  obtain ⟨e0, e1, e2, e3⟩ := idx3 t
  refine (Pipeline.Window.rect_emb_val win0_3 t _ a).trans ?_
  match a with
  | ⟨0, _⟩ => show win0_3.index t 0 * 1 + 0 = 0; rw [e0]
  | ⟨1, _⟩ => show win0_3.index t 1 * 1 + 0 = h.val; rw [e1]; omega
  | ⟨2, _⟩ => show win0_3.index t 2 * 128 + b.val = b.val; rw [e2]; omega
  | ⟨3, _⟩ => show win0_3.index t 3 * 1 + 0 = 0; rw [e3]

/-- Point `t` reads head `t` of part 1 of the packed scalars. -/
theorem idx4 : ∀ t : Fin cfg0.N, win0_4.index t 0 = 1 ∧ win0_4.index t 1 = t.val ∧ win0_4.index t 2 = 0 ∧ win0_4.index t 3 = 0 :=
  (by decide +kernel : ∀ t : Fin grid0.N, win0_4.index t 0 = 1 ∧ win0_4.index t 1 = t.val ∧ win0_4.index t 2 = 0 ∧ win0_4.index t 3 = 0)

/-- The block read at point `t`, at an element, is the argument at the matching index. -/
theorem blk4 (c : Dev nD) (t : Fin cfg0.N) (h : Fin 4) (ht : t.val = h.val) (b : Fin 128) :
    iblk m c 4 t (ix4 0 0 b 0) = (m (c.tc.loc main_arg4) : Vec Ideal S128x4x1 .f32) (ix3 b h 0) := by
  refine Eq.trans ?_ ((congrFun (V_c m c) (ix4 1 h b 0)).trans (cols_b _ _ h b))
  show V m c main_v14 ((win0_4.rect t).emb (ix4 0 0 b 0)) = _
  refine congrArg (V m c main_v14) (funext fun a => Fin.ext ?_)
  obtain ⟨e0, e1, e2, e3⟩ := idx4 t
  refine (Pipeline.Window.rect_emb_val win0_4 t _ a).trans ?_
  match a with
  | ⟨0, _⟩ => show win0_4.index t 0 * 1 + 0 = 1; rw [e0]
  | ⟨1, _⟩ => show win0_4.index t 1 * 1 + 0 = h.val; rw [e1]; omega
  | ⟨2, _⟩ => show win0_4.index t 2 * 128 + b.val = b.val; rw [e2]; omega
  | ⟨3, _⟩ => show win0_4.index t 3 * 1 + 0 = 0; rw [e3]

/-- Point `t` reads the lanes of head `t` of the flattened state. -/
theorem idx5 : ∀ t : Fin cfg0.N, win0_5.index t 0 = 0 ∧ win0_5.index t 1 = t.val :=
  (by decide +kernel : ∀ t : Fin grid0.N, win0_5.index t 0 = 0 ∧ win0_5.index t 1 = t.val)

/-- The block read at point `t`, at an element, is the argument at the matching index. -/
theorem blk5 (c : Dev nD) (t : Fin cfg0.N) (h : Fin 4) (ht : t.val = h.val) (b : Fin 128) (l : Fin 4096) :
    iblk m c 5 t (ix2 b l) = (m (c.tc.loc main_arg5) : Vec Ideal S128x4x64x64 .f32) (ix4 b h (keyOf l) (valOf l)) := by
  refine Eq.trans ?_ ((congrFun (V_s m c) (ix2 b ⟨h.val * 4096 + l.val, by omega⟩)).trans (flat_s _ b h l))
  show V m c main_v15 ((win0_5.rect t).emb (ix2 b l)) = _
  refine congrArg (V m c main_v15) (funext fun a => Fin.ext ?_)
  obtain ⟨e0, e1⟩ := idx5 t
  refine (Pipeline.Window.rect_emb_val win0_5 t _ a).trans ?_
  match a with
  | ⟨0, _⟩ => show win0_5.index t 0 * 128 + b.val = b.val; rw [e0]; omega
  | ⟨1, _⟩ => show win0_5.index t 1 * 4096 + l.val = h.val * 4096 + l.val; rw [e1, ht]

/-! ## The two result arrays -/

/-- Which block of its array the window takes at point `t`. -/
theorem idx6 : ∀ t : Fin cfg0.N, win0_6.index t 0 = t.val ∧ win0_6.index t 1 = 0 ∧ win0_6.index t 2 = 0 :=
  (by decide +kernel : ∀ t : Fin grid0.N, win0_6.index t 0 = t.val ∧ win0_6.index t 1 = 0 ∧ win0_6.index t 2 = 0)
/-- Which block of its array the window takes at point `t`. -/
theorem idx7 : ∀ t : Fin cfg0.N, win0_7.index t 0 = 0 ∧ win0_7.index t 1 = t.val :=
  (by decide +kernel : ∀ t : Fin grid0.N, win0_7.index t 0 = 0 ∧ win0_7.index t 1 = t.val)

/-- Where element `(0, b, v)` of point `t`'s output block lies in the output array. -/
theorem emb6 (t : Fin cfg0.N) (h : Fin 4) (ht : t.val = h.val) (b : Fin 128) (v : Fin 64) :
    (win0_6.rect t).emb (ix3 0 b v) = (ix3 h b v : S4x128x64.Idx) := by
  refine funext fun a => Fin.ext ?_
  obtain ⟨e0, e1, e2⟩ := idx6 t
  refine (Pipeline.Window.rect_emb_val win0_6 t _ a).trans ?_
  match a with
  | ⟨0, _⟩ => show win0_6.index t 0 * 1 + 0 = h.val; rw [e0]; omega
  | ⟨1, _⟩ => show win0_6.index t 1 * 128 + b.val = b.val; rw [e1]; omega
  | ⟨2, _⟩ => show win0_6.index t 2 * 64 + v.val = v.val; rw [e2]; omega

/-- Where element `(b, l)` of point `t`'s state block lies in the state array. -/
theorem emb7 (t : Fin cfg0.N) (h : Fin 4) (ht : t.val = h.val) (b : Fin 128) (l : Fin 4096) :
    (win0_7.rect t).emb (ix2 b l) = (ix2 b ⟨h.val * 4096 + l.val, by omega⟩ : S128x16384.Idx) := by
  refine funext fun a => Fin.ext ?_
  obtain ⟨e0, e1⟩ := idx7 t
  refine (Pipeline.Window.rect_emb_val win0_7 t _ a).trans ?_
  match a with
  | ⟨0, _⟩ => show win0_7.index t 0 * 128 + b.val = b.val; rw [e0]; omega
  | ⟨1, _⟩ => show win0_7.index t 1 * 4096 + l.val = h.val * 4096 + l.val; rw [e1, ht]

/-- The point of head `h`. -/
abbrev pt (h : Fin 4) : Fin cfg0.N := ⟨h.val, by have : cfg0.N = 4 := N_0; omega⟩

variable (q k w : S128x4x1x64.Idx → ℝ) (g beta : S128x4x1.Idx → ℝ) (s : S128x4x64x64.Idx → ℝ)

/-- The update of head `h`, sequence `b`, value coordinate `v`, over the reals. -/
def updAt (b : Fin 128) (h : Fin 4) (v : Fin 64) : ℝ :=
  upd (fun d => k (ix4 b h 0 d)) (w (ix4 b h 0 v)) (g (ix3 b h 0)) (beta (ix3 b h 0)) (fun e => s (ix4 b h e v))

/-- The step's output of head `h`, sequence `b`, value coordinate `v`, over the reals. -/
def stepO (h : Fin 4) (b : Fin 128) (v : Fin 64) : ℝ :=
  ∑ d : Fin 64, (Real.exp (g (ix3 b h 0)) * s (ix4 b h d v) + k (ix4 b h 0 d) * updAt k w g beta s b h v) * q (ix4 b h 0 d)

/-- The step's new state, over the reals. -/
def stepS (b : Fin 128) (h : Fin 4) (l : Fin 4096) : ℝ :=
  Real.exp (g (ix3 b h 0)) * s (ix4 b h (keyOf l) (valOf l)) + k (ix4 b h 0 (keyOf l)) * updAt k w g beta s b h (valOf l)

/-- The output array after the run. -/
theorem final_o (c : Dev nD)
    (hq : m (c.tc.loc main_arg0) = fun i => (q i : EReal)) (hk : m (c.tc.loc main_arg1) = fun i => (k i : EReal))
    (hw : m (c.tc.loc main_arg2) = fun i => (w i : EReal)) (hg : m (c.tc.loc main_arg3) = fun i => (g i : EReal))
    (hb : m (c.tc.loc main_arg4) = fun i => (beta i : EReal))
    (hs : m (c.tc.loc main_arg5) = fun i => (s i : EReal)) (h : Fin 4) (b : Fin 128) (v : Fin 64) :
    (dats m 0 c).arrAt 6 cfg0.N (ix3 h b v) = (stepO q k w g beta s h b v : EReal) := by
  have e := congrFun (Value.blocks6 m c (pt h) (flush0_6 _)) (ix3 0 b v)
  rw [Value.flushed6] at e
  have e' : (dats m 0 c).arrAt 6 cfg0.N ((win0_6.rect (pt h)).emb (ix3 0 b v)) =
    out0_6 (iblk m c 0 (pt h)) (iblk m c 1 (pt h)) (iblk m c 2 (pt h)) (iblk m c 3 (pt h)) (iblk m c 4 (pt h)) (iblk m c 5 (pt h)) (ix3 0 b v) := e
  rw [emb6 (pt h) h rfl] at e'
  rw [e']
  exact out_o_apply _ _ _ _ _ _ b v (fun d => q (ix4 b h 0 d)) (fun d => k (ix4 b h 0 d)) (fun d => w (ix4 b h 0 d)) (g (ix3 b h 0)) (beta (ix3 b h 0))
    (fun d e => s (ix4 b h d e))
    (fun d => by rw [blk0 m c (pt h) h rfl, hq]) (fun d => by rw [blk1 m c (pt h) h rfl, hk]) (fun d => by rw [blk2 m c (pt h) h rfl, hw])
    (by rw [blk3 m c (pt h) h rfl, hg]) (by rw [blk4 m c (pt h) h rfl, hb]) (fun l => by rw [blk5 m c (pt h) h rfl, hs])

/-- The state array after the run. -/
theorem final_s (c : Dev nD)
    (hk : m (c.tc.loc main_arg1) = fun i => (k i : EReal))
    (hw : m (c.tc.loc main_arg2) = fun i => (w i : EReal)) (hg : m (c.tc.loc main_arg3) = fun i => (g i : EReal))
    (hb : m (c.tc.loc main_arg4) = fun i => (beta i : EReal))
    (hs : m (c.tc.loc main_arg5) = fun i => (s i : EReal)) (b : Fin 128) (h : Fin 4) (l : Fin 4096) :
    (dats m 0 c).arrAt 7 cfg0.N (ix2 b ⟨h.val * 4096 + l.val, by omega⟩ : S128x16384.Idx) = (stepS k w g beta s b h l : EReal) := by
  have e := congrFun (Value.blocks7 m c (pt h) (flush0_7 _)) (ix2 b l)
  rw [Value.flushed7] at e
  have e' : (dats m 0 c).arrAt 7 cfg0.N ((win0_7.rect (pt h)).emb (ix2 b l)) =
    out0_7 (iblk m c 0 (pt h)) (iblk m c 1 (pt h)) (iblk m c 2 (pt h)) (iblk m c 3 (pt h)) (iblk m c 4 (pt h)) (iblk m c 5 (pt h)) (ix2 b l) := e
  rw [emb7 (pt h) h rfl] at e'
  rw [e']
  exact out_s_apply _ _ _ _ _ _ b l (fun d => k (ix4 b h 0 d)) (fun d => w (ix4 b h 0 d)) (g (ix3 b h 0)) (beta (ix3 b h 0))
    (fun d e => s (ix4 b h d e))
    (fun d => by rw [blk1 m c (pt h) h rfl, hk]) (fun d => by rw [blk2 m c (pt h) h rfl, hw])
    (by rw [blk3 m c (pt h) h rfl, hg]) (by rw [blk4 m c (pt h) h rfl, hb]) (fun l => by rw [blk5 m c (pt h) h rfl, hs])

end Cert.KernelIdeal.Hand
end
-- ==== Proof.Dec.Gdn2.lean ====
module

public import proofs.«01_k».proof.Defs
public import proofs.«01_k».proof.Proof.Dec.Gdn
public import proofs.«01_k».proof.Proof.Gen.ReferenceIdeal.Run
public import proofs.«01_k».proof.Proof.Gen.ReferenceIdeal.Read
public import proofs.«01_k».proof.Proof.Gen.Pre_gdn_finite

@[expose] public section

set_option maxRecDepth 16384
noncomputable section

namespace Cert.ReferenceIdeal.Hand

open Cert.ReferenceIdeal Cert.ReferenceIdeal.Gen Cert.ReferenceIdeal.Read Idealize.ShloMosaic Idealize.ShloMosaic.TcCoe Idealize.SL.Sem
open Cert.Hand

/-- The reference's output at an element, over real arguments. -/
theorem ref_o (q k w : S128x4x1x64.Idx → ℝ) (g beta : S128x4x1.Idx → ℝ) (s : S128x4x64x64.Idx → ℝ) (h : Fin 4) (b : Fin 128) (v : Fin 64) :
    val_main_v21 (F := Ideal) (fun i => (q i : EReal)) (fun i => (k i : EReal)) (fun i => (w i : EReal)) (fun i => (g i : EReal))
      (fun i => (beta i : EReal)) (fun i => (s i : EReal)) (ix3 h b v) = (Cert.KernelIdeal.Hand.stepO q k w g beta s h b v : EReal) := by
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  simp only [Ideal.exp_coe, ← EReal.coe_mul, ← EReal.coe_add, ← coe_sum, ← EReal.coe_sub]
  rfl

/-- The reference's new state at an element, over real arguments. -/
theorem ref_s (k w : S128x4x1x64.Idx → ℝ) (g beta : S128x4x1.Idx → ℝ) (s : S128x4x64x64.Idx → ℝ) (b : Fin 128) (h : Fin 4) (l : Fin 4096) :
    val_main_v22 (F := Ideal) (fun i => (k i : EReal)) (fun i => (w i : EReal)) (fun i => (g i : EReal)) (fun i => (beta i : EReal))
      (fun i => (s i : EReal)) (ix2 b ⟨h.val * 4096 + l.val, by omega⟩) = (Cert.KernelIdeal.Hand.stepS k w g beta s b h l : EReal) := by
  have e2 : (⟨(h.val * 4096 + l.val) / 64 % 64, by omega⟩ : Fin 64) = keyOf l := Fin.ext (by show (h.val * 4096 + l.val) / 64 % 64 = l.val / 64; omega)
  have e3 : (⟨(h.val * 4096 + l.val) % 64, by omega⟩ : Fin 64) = valOf l := Fin.ext (by show (h.val * 4096 + l.val) % 64 = l.val % 64; omega)
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  rw [e2, e3]
  simp only [Ideal.exp_coe, ← EReal.coe_mul, ← EReal.coe_add, ← coe_sum, ← EReal.coe_sub]
  rfl

end Cert.ReferenceIdeal.Hand

namespace Cert.KernelIdeal.Hand

open Cert.KernelIdeal Cert.KernelIdeal.Gen Idealize.ShloMosaic Idealize.ShloMosaic.TcCoe Idealize.SL.Sem Cert.Hand

/-- Arguments that pass the finiteness test are arrays of real numbers. -/
theorem reals (q k w : FVec Ideal S128x4x1x64 .f32) (g beta : FVec Ideal S128x4x1 .f32) (s : FVec Ideal S128x4x64x64 .f32)
    (h : Cert.Pre_gdn_finite.fn (F := Ideal) q k w g beta s = fun _ => 1#1) :
    (∃ r : S128x4x1x64.Idx → ℝ, q = fun i => (r i : EReal)) ∧ (∃ r : S128x4x1x64.Idx → ℝ, k = fun i => (r i : EReal))
    ∧ (∃ r : S128x4x1x64.Idx → ℝ, w = fun i => (r i : EReal)) ∧ (∃ r : S128x4x1.Idx → ℝ, g = fun i => (r i : EReal))
    ∧ (∃ r : S128x4x1.Idx → ℝ, beta = fun i => (r i : EReal)) ∧ (∃ r : S128x4x64x64.Idx → ℝ, s = fun i => (r i : EReal)) := by
  have h0 := congrFun h (fun a => a.elim0)
  pointwise [Cert.Pre_gdn_finite.fn, Cert.Pre_gdn_finite.fn_part1] at h0
  obtain ⟨h0, h6⟩ := and_one h0
  obtain ⟨h0, h5⟩ := and_one h0
  obtain ⟨h0, h4⟩ := and_one h0
  obtain ⟨h0, h3⟩ := and_one h0
  obtain ⟨h1, h2⟩ := and_one h0
  exact ⟨reals_of_fold h1 fun _ => funext fun a => a.elim0, reals_of_fold h2 fun _ => funext fun a => a.elim0,
    reals_of_fold h3 fun _ => funext fun a => a.elim0, reals_of_fold3 h4,
    reals_of_fold3 h5, reals_of_fold h6 fun _ => funext fun a => a.elim0⟩

/-- The kernel's two results are the reference's. -/
theorem gdn_equal : Cert.algebraic_KernelIdeal_ReferenceIdeal_pre_gdn_finite
    (hKernelIdeal := Cert.KernelIdeal.Gen.facts) (hReferenceIdeal := Cert.ReferenceIdeal.Gen.facts)
    (hPre_gdn_finite := Cert.Pre_gdn_finite.Gen.facts) := by
  intro m ρ m' ρ' hpre hag
  refine ⟨fun c => (dats m 0 c).arrAt 6 cfg0.N, fun c => (dats m 0 c).arrAt 7 cfg0.N, Value.run_blocks m ρ, ?_⟩
  refine (θ_run _ _ _).mono (fun r h c => ?_) (Cert.ReferenceIdeal.Value.run m' ρ')
  obtain ⟨h15, h16, hkeep⟩ := h c
  obtain ⟨a0, a1, a2, a3, a4, a5⟩ := hag c
  obtain ⟨⟨q, hq⟩, ⟨k, hk⟩, ⟨w, hw⟩, ⟨g, hg⟩, ⟨beta, hb⟩, ⟨s, hs⟩⟩ := reals _ _ _ _ _ _ (hpre c)
  refine ⟨h15.trans ?_, h16.trans ?_, hkeep⟩
  · refine (Cert.ReferenceIdeal.Read.val_main_v21_eq _ _ _ _ _ _).trans ?_
    rw [a0, a1, a2, a3, a4, a5]
    funext i
    idx_vars i
    refine Eq.trans ?_ (final_o m q k w g beta s c hq hk hw hg hb hs i0 i1 i2).symm
    erw [hq, hk, hw, hg, hb, hs]
    exact Cert.ReferenceIdeal.Hand.ref_o q k w g beta s i0 i1 i2
  · refine (Cert.ReferenceIdeal.Read.val_main_v22_eq _ _ _ _ _).trans ?_
    rw [a1, a2, a3, a4, a5]
    funext i
    idx_vars i
    have hi : i1 = ⟨(⟨i1.val / 4096, by omega⟩ : Fin 4).val * 4096 + (⟨i1.val % 4096, by omega⟩ : Fin 4096).val, by dsimp only; omega⟩ :=
      Fin.ext (by dsimp only; omega)
    rw [hi]
    refine Eq.trans ?_ (final_s m k w g beta s c hk hw hg hb hs i0 _ _).symm
    erw [hk, hw, hg, hb, hs]
    exact Cert.ReferenceIdeal.Hand.ref_s k w g beta s i0 _ _

end Cert.KernelIdeal.Hand
end
-- ==== Proof.Dec.Gla.lean ====
module

public import proofs.«01_k».proof.Proof.Gen.Kernel2Ideal.Value
public import proofs.«01_k».proof.Proof.Dec.Common
public import Idealize.ShloMosaic.Lib.Pointwise

@[expose] public section

set_option maxRecDepth 16384
noncomputable section

namespace Cert.Kernel2Ideal.Hand

open Cert.Kernel2Ideal Cert.Kernel2Ideal.Gen Idealize.ShloMosaic Idealize.ShloMosaic.TcCoe Idealize.SL.Sem Cert.Hand

/-! ## One head's step, element by element -/

/-- The 0/1 matrix that repeats a key coordinate over its 64 lanes. -/
theorem rep_k (r : Fin 64) (c : Fin 4096) : k0_pay2 (F := Ideal) (ix2 r c) = if r.val = c.val / 64 then 1 else 0 := by
  pointwise [k0_pay2]
  exact rep_div r c

/-- The 0/1 matrix that repeats the value coordinates side by side. -/
theorem rep_v (r : Fin 64) (c : Fin 4096) : k0_pay3 (F := Ideal) (ix2 r c) = if r.val = c.val % 64 then 1 else 0 := by
  pointwise [k0_pay3]
  exact rep_mod r c

/-- The flattened state the kernel call is given. -/
theorem V_s (m : (ℓ : Loc nD τ sig) → Buf (Elt Ideal) ℓ) (c : Dev nD) :
    V m c main_v13 = shapeCast S128x16384 (m (c.tc.loc main_arg4) : Vec Ideal S128x4x64x64 .f32) shapeCasts_S128x4x64x64_S128x16384 := by
  unfold V
  after_results <;> rfl

/-- One array with the heads moved to the front and a leading axis of one. -/
abbrev pk (x : Vec Ideal S128x4x1x64 .f32) : Vec Ideal S1x4x128x64 .f32 :=
  broadcastInDim S1x4x128x64 ![1, 2, 3] bcast_S4x128x64_S1x4x128x64_1_2_3 (transpose S4x128x64 [1, 0, 2] (shapeCast S128x4x64 x shapeCasts_S128x4x1x64_S128x4x64) transposes_S128x4x64_S4x128x64_1_0_2)
/-- The arrays packed along a new leading axis. -/
abbrev pack (q k v g : Vec Ideal S128x4x1x64 .f32) : Vec Ideal S4x4x128x64 .f32 :=
  concatenate S4x4x128x64 0 [⟨S1x4x128x64, pk q⟩, ⟨S1x4x128x64, pk k⟩, ⟨S1x4x128x64, pk v⟩, ⟨S1x4x128x64, pk g⟩] concatenates_S1x4x128x64_S1x4x128x64_S1x4x128x64_S1x4x128x64_S4x4x128x64_d0

/-- The packed arrays the kernel call is given. -/
theorem V_p (m : (ℓ : Loc nD τ sig) → Buf (Elt Ideal) ℓ) (c : Dev nD) :
    V m c main_v12 = pack (m (c.tc.loc main_arg0)) (m (c.tc.loc main_arg1)) (m (c.tc.loc main_arg2)) (m (c.tc.loc main_arg3)) := by
  unfold V
  after_results <;> rfl

/-- Part 0 of the packed arrays is the queries. -/
theorem pack_q (q k v g : Vec Ideal S128x4x1x64 .f32) (h : Fin 4) (b : Fin 128) (d : Fin 64) :
    pack q k v g (ix4 0 h b d) = q (ix4 b h 0 d) := by pointwise [pack]
/-- Part 1 of the packed arrays is the keys. -/
theorem pack_k (q k v g : Vec Ideal S128x4x1x64 .f32) (h : Fin 4) (b : Fin 128) (d : Fin 64) :
    pack q k v g (ix4 1 h b d) = k (ix4 b h 0 d) := by pointwise [pack]
/-- Part 2 of the packed arrays is the values. -/
theorem pack_v (q k v g : Vec Ideal S128x4x1x64 .f32) (h : Fin 4) (b : Fin 128) (d : Fin 64) :
    pack q k v g (ix4 2 h b d) = v (ix4 b h 0 d) := by pointwise [pack]
/-- Part 3 of the packed arrays is the log decays. -/
theorem pack_g (q k v g : Vec Ideal S128x4x1x64 .f32) (h : Fin 4) (b : Fin 128) (d : Fin 64) :
    pack q k v g (ix4 3 h b d) = g (ix4 b h 0 d) := by pointwise [pack]
/-- The flattened state at head `h`, lane `l` is the state at that head, the lane's key and value coordinates. -/
theorem flat_s (s : Vec Ideal S128x4x64x64 .f32) (b : Fin 128) (h : Fin 4) (l : Fin 4096) :
    shapeCast S128x16384 s shapeCasts_S128x4x64x64_S128x16384 (ix2 b ⟨h.val * 4096 + l.val, by omega⟩)
      = s (ix4 b h (keyOf l) (valOf l)) := by
  pointwise
  exact congrArg s (congrArg₂ (ix4 b h) (Fin.ext (show (h.val * 4096 + l.val) / 64 % 64 = l.val / 64 by omega))
    (Fin.ext (show (h.val * 4096 + l.val) % 64 = l.val % 64 by omega)))

end Cert.Kernel2Ideal.Hand
end
-- ==== Proof.Dec.Gla2.lean ====
module

public import proofs.«01_k».proof.Proof.Dec.Gla
@[expose] public section

set_option maxRecDepth 16384
noncomputable section

namespace Cert.Kernel2Ideal.Hand

open Cert.Kernel2Ideal Cert.Kernel2Ideal.Gen Idealize.ShloMosaic Idealize.ShloMosaic.TcCoe Idealize.SL.Sem Cert.Hand
open Idealize.ShloMosaic.Pipeline (Dat)

/-- An index list of zeros is the constant zero. -/
theorem hz4 : (![0, 0, 0, 0] : Fin 4 → Nat) = fun _ => 0 := funext fun a => by fin_cases a <;> rfl
/-- An index list of zeros is the constant zero. -/
theorem hz3 : (![0, 0, 0] : Fin 3 → Nat) = fun _ => 0 := funext fun a => by fin_cases a <;> rfl
/-- An index list of zeros is the constant zero. -/
theorem hz2 : (![0, 0] : Fin 2 → Nat) = fun _ => 0 := funext fun a => by fin_cases a <;> rfl

/-- The output block of a point: the payload of the blocks it loads. -/
theorem out_o (x0 x1 x2 x3 : Vec Ideal S1x1x128x64 .f32) (x4 : Vec Ideal S128x4096 .f32) :
    out0_5 x0 x1 x2 x3 x4 = k0_pay1 (k0_pay10 (k0_pay3 (F := Ideal)) (k0_pay4 x0) (k0_pay5 x1) (k0_pay6 x2) (k0_pay9 x0 x3 x4)) := by
  unfold_out out0_5
  rw [View.canon_unit_zero hz3, View.ld_unit_zero (S := S1x1x128x64) hz4, View.ld_unit_zero (S := S1x1x128x64) hz4,
    View.ld_unit_zero (S := S1x1x128x64) hz4, View.ld_unit_zero (S := S1x1x128x64) hz4, View.ld_unit_zero (S := S128x4096) hz2]

/-- What a point writes, as the stored payload of the blocks it reads. -/
theorem out_s (x0 x1 x2 x3 : Vec Ideal S1x1x128x64 .f32) (x4 : Vec Ideal S128x4096 .f32) :
    out0_6 x0 x1 x2 x3 x4 = k0_pay11 (k0_pay2 (F := Ideal)) (k0_pay3 (F := Ideal)) (k0_pay5 x1) (k0_pay6 x2) (k0_pay7 x4) (k0_pay8 x3) := by
  unfold_out out0_6
  rw [View.canon_unit_zero hz2, View.ld_unit_zero (S := S1x1x128x64) hz4, View.ld_unit_zero (S := S1x1x128x64) hz4,
    View.ld_unit_zero (S := S1x1x128x64) hz4, View.ld_unit_zero (S := S128x4096) hz2]

/-- A point's output at an element, over real blocks. -/
theorem out_o_apply (x0 x1 x2 x3 : Vec Ideal S1x1x128x64 .f32) (x4 : Vec Ideal S128x4096 .f32) (b : Fin 128) (v : Fin 64)
    (q k w g : Fin 64 → ℝ) (s : Fin 64 → Fin 64 → ℝ)
    (hq : ∀ d, x0 (ix4 0 0 b d) = (q d : EReal)) (hk : ∀ d, x1 (ix4 0 0 b d) = (k d : EReal))
    (hw : ∀ d, x2 (ix4 0 0 b d) = (w d : EReal)) (hg : ∀ d, x3 (ix4 0 0 b d) = (g d : EReal))
    (hs : ∀ l, x4 (ix2 b l) = (s (keyOf l) (valOf l) : EReal)) :
    out0_5 x0 x1 x2 x3 x4 (ix3 0 b v)
      = ((∑ d, (Real.exp (g d) * s d v + k d * w v) * q d : ℝ) : EReal) := by
  rw [out_o]
  pointwise [k0_pay1, k0_pay4, k0_pay5, k0_pay6, k0_pay7, k0_pay8, k0_pay9, k0_pay10]
  simp only [rep_k, rep_v, sum_key, hq, hk, hw, hg, hs, Ideal.exp_coe, ← EReal.coe_mul, coe_sub_self, zero_mul,
    Finset.sum_const_zero, add_zero, sum_lanes, keyOf_lane, valOf_lane, ← coe_sum, ← EReal.coe_add]
  refine congrArg _ ?_
  rw [Finset.sum_mul, ← Finset.sum_add_distrib]
  exact Finset.sum_congr rfl fun d _ => by ring

/-- A point's new state at an element, over real blocks. -/
theorem out_s_apply (x0 x1 x2 x3 : Vec Ideal S1x1x128x64 .f32) (x4 : Vec Ideal S128x4096 .f32) (b : Fin 128) (l : Fin 4096)
    (k w g : Fin 64 → ℝ) (s : Fin 64 → Fin 64 → ℝ)
    (hk : ∀ d, x1 (ix4 0 0 b d) = (k d : EReal))
    (hw : ∀ d, x2 (ix4 0 0 b d) = (w d : EReal)) (hg : ∀ d, x3 (ix4 0 0 b d) = (g d : EReal))
    (hs : ∀ l, x4 (ix2 b l) = (s (keyOf l) (valOf l) : EReal)) :
    out0_6 x0 x1 x2 x3 x4 (ix2 b l)
      = ((Real.exp (g (keyOf l)) * s (keyOf l) (valOf l) + k (keyOf l) * w (valOf l) : ℝ) : EReal) := by
  rw [out_s]
  pointwise [k0_pay4, k0_pay5, k0_pay6, k0_pay7, k0_pay8, k0_pay11]
  simp only [rep_k, rep_v, sum_key, sum_val, hk, hw, hg, hs, Ideal.exp_coe, coe_sub_self, sub_zero, zero_mul,
    Finset.sum_const_zero, add_zero, ← EReal.coe_mul, ← EReal.coe_add]

variable (m : (ℓ : Loc nD τ sig) → Buf (Elt Ideal) ℓ)

/-- Point `t` reads head `t` of part 0 of the packed vectors. -/
theorem idx0 : ∀ t : Fin cfg0.N, win0_0.index t 0 = 0 ∧ win0_0.index t 1 = t.val ∧ win0_0.index t 2 = 0 ∧ win0_0.index t 3 = 0 :=
  (by decide +kernel : ∀ t : Fin grid0.N, win0_0.index t 0 = 0 ∧ win0_0.index t 1 = t.val ∧ win0_0.index t 2 = 0 ∧ win0_0.index t 3 = 0)

/-- The block read at point `t`, at an element, is the argument at the matching index. -/
theorem blk0 (c : Dev nD) (t : Fin cfg0.N) (h : Fin 4) (ht : t.val = h.val) (b : Fin 128) (d : Fin 64) :
    iblk m c 0 t (ix4 0 0 b d) = (m (c.tc.loc main_arg0) : Vec Ideal S128x4x1x64 .f32) (ix4 b h 0 d) := by
  refine Eq.trans ?_ ((congrFun (V_p m c) (ix4 0 h b d)).trans (pack_q _ _ _ _ h b d))
  show V m c main_v12 ((win0_0.rect t).emb (ix4 0 0 b d)) = _
  refine congrArg (V m c main_v12) (funext fun a => Fin.ext ?_)
  obtain ⟨e0, e1, e2, e3⟩ := idx0 t
  refine (Pipeline.Window.rect_emb_val win0_0 t _ a).trans ?_
  match a with
  | ⟨0, _⟩ => show win0_0.index t 0 * 1 + 0 = 0; rw [e0]
  | ⟨1, _⟩ => show win0_0.index t 1 * 1 + 0 = h.val; rw [e1]; omega
  | ⟨2, _⟩ => show win0_0.index t 2 * 128 + b.val = b.val; rw [e2]; omega
  | ⟨3, _⟩ => show win0_0.index t 3 * 64 + d.val = d.val; rw [e3]; omega

/-- Point `t` reads head `t` of part 1 of the packed vectors. -/
theorem idx1 : ∀ t : Fin cfg0.N, win0_1.index t 0 = 1 ∧ win0_1.index t 1 = t.val ∧ win0_1.index t 2 = 0 ∧ win0_1.index t 3 = 0 :=
  (by decide +kernel : ∀ t : Fin grid0.N, win0_1.index t 0 = 1 ∧ win0_1.index t 1 = t.val ∧ win0_1.index t 2 = 0 ∧ win0_1.index t 3 = 0)

/-- The block read at point `t`, at an element, is the argument at the matching index. -/
theorem blk1 (c : Dev nD) (t : Fin cfg0.N) (h : Fin 4) (ht : t.val = h.val) (b : Fin 128) (d : Fin 64) :
    iblk m c 1 t (ix4 0 0 b d) = (m (c.tc.loc main_arg1) : Vec Ideal S128x4x1x64 .f32) (ix4 b h 0 d) := by
  refine Eq.trans ?_ ((congrFun (V_p m c) (ix4 1 h b d)).trans (pack_k _ _ _ _ h b d))
  show V m c main_v12 ((win0_1.rect t).emb (ix4 0 0 b d)) = _
  refine congrArg (V m c main_v12) (funext fun a => Fin.ext ?_)
  obtain ⟨e0, e1, e2, e3⟩ := idx1 t
  refine (Pipeline.Window.rect_emb_val win0_1 t _ a).trans ?_
  match a with
  | ⟨0, _⟩ => show win0_1.index t 0 * 1 + 0 = 1; rw [e0]
  | ⟨1, _⟩ => show win0_1.index t 1 * 1 + 0 = h.val; rw [e1]; omega
  | ⟨2, _⟩ => show win0_1.index t 2 * 128 + b.val = b.val; rw [e2]; omega
  | ⟨3, _⟩ => show win0_1.index t 3 * 64 + d.val = d.val; rw [e3]; omega

/-- Point `t` reads head `t` of part 2 of the packed vectors. -/
theorem idx2 : ∀ t : Fin cfg0.N, win0_2.index t 0 = 2 ∧ win0_2.index t 1 = t.val ∧ win0_2.index t 2 = 0 ∧ win0_2.index t 3 = 0 :=
  (by decide +kernel : ∀ t : Fin grid0.N, win0_2.index t 0 = 2 ∧ win0_2.index t 1 = t.val ∧ win0_2.index t 2 = 0 ∧ win0_2.index t 3 = 0)

/-- The block read at point `t`, at an element, is the argument at the matching index. -/
theorem blk2 (c : Dev nD) (t : Fin cfg0.N) (h : Fin 4) (ht : t.val = h.val) (b : Fin 128) (d : Fin 64) :
    iblk m c 2 t (ix4 0 0 b d) = (m (c.tc.loc main_arg2) : Vec Ideal S128x4x1x64 .f32) (ix4 b h 0 d) := by
  refine Eq.trans ?_ ((congrFun (V_p m c) (ix4 2 h b d)).trans (pack_v _ _ _ _ h b d))
  show V m c main_v12 ((win0_2.rect t).emb (ix4 0 0 b d)) = _
  refine congrArg (V m c main_v12) (funext fun a => Fin.ext ?_)
  obtain ⟨e0, e1, e2, e3⟩ := idx2 t
  refine (Pipeline.Window.rect_emb_val win0_2 t _ a).trans ?_
  match a with
  | ⟨0, _⟩ => show win0_2.index t 0 * 1 + 0 = 2; rw [e0]
  | ⟨1, _⟩ => show win0_2.index t 1 * 1 + 0 = h.val; rw [e1]; omega
  | ⟨2, _⟩ => show win0_2.index t 2 * 128 + b.val = b.val; rw [e2]; omega
  | ⟨3, _⟩ => show win0_2.index t 3 * 64 + d.val = d.val; rw [e3]; omega

/-- Point `t` reads head `t` of part 3 of the packed vectors. -/
theorem idx3 : ∀ t : Fin cfg0.N, win0_3.index t 0 = 3 ∧ win0_3.index t 1 = t.val ∧ win0_3.index t 2 = 0 ∧ win0_3.index t 3 = 0 :=
  (by decide +kernel : ∀ t : Fin grid0.N, win0_3.index t 0 = 3 ∧ win0_3.index t 1 = t.val ∧ win0_3.index t 2 = 0 ∧ win0_3.index t 3 = 0)

/-- The block read at point `t`, at an element, is the argument at the matching index. -/
theorem blk3 (c : Dev nD) (t : Fin cfg0.N) (h : Fin 4) (ht : t.val = h.val) (b : Fin 128) (d : Fin 64) :
    iblk m c 3 t (ix4 0 0 b d) = (m (c.tc.loc main_arg3) : Vec Ideal S128x4x1x64 .f32) (ix4 b h 0 d) := by
  refine Eq.trans ?_ ((congrFun (V_p m c) (ix4 3 h b d)).trans (pack_g _ _ _ _ h b d))
  show V m c main_v12 ((win0_3.rect t).emb (ix4 0 0 b d)) = _
  refine congrArg (V m c main_v12) (funext fun a => Fin.ext ?_)
  obtain ⟨e0, e1, e2, e3⟩ := idx3 t
  refine (Pipeline.Window.rect_emb_val win0_3 t _ a).trans ?_
  match a with
  | ⟨0, _⟩ => show win0_3.index t 0 * 1 + 0 = 3; rw [e0]
  | ⟨1, _⟩ => show win0_3.index t 1 * 1 + 0 = h.val; rw [e1]; omega
  | ⟨2, _⟩ => show win0_3.index t 2 * 128 + b.val = b.val; rw [e2]; omega
  | ⟨3, _⟩ => show win0_3.index t 3 * 64 + d.val = d.val; rw [e3]; omega

/-- Point `t` reads the lanes of head `t` of the flattened state. -/
theorem idx4 : ∀ t : Fin cfg0.N, win0_4.index t 0 = 0 ∧ win0_4.index t 1 = t.val :=
  (by decide +kernel : ∀ t : Fin grid0.N, win0_4.index t 0 = 0 ∧ win0_4.index t 1 = t.val)

/-- The block read at point `t`, at an element, is the argument at the matching index. -/
theorem blk4 (c : Dev nD) (t : Fin cfg0.N) (h : Fin 4) (ht : t.val = h.val) (b : Fin 128) (l : Fin 4096) :
    iblk m c 4 t (ix2 b l) = (m (c.tc.loc main_arg4) : Vec Ideal S128x4x64x64 .f32) (ix4 b h (keyOf l) (valOf l)) := by
  refine Eq.trans ?_ ((congrFun (V_s m c) (ix2 b ⟨h.val * 4096 + l.val, by omega⟩)).trans (flat_s _ b h l))
  show V m c main_v13 ((win0_4.rect t).emb (ix2 b l)) = _
  refine congrArg (V m c main_v13) (funext fun a => Fin.ext ?_)
  obtain ⟨e0, e1⟩ := idx4 t
  refine (Pipeline.Window.rect_emb_val win0_4 t _ a).trans ?_
  match a with
  | ⟨0, _⟩ => show win0_4.index t 0 * 128 + b.val = b.val; rw [e0]; omega
  | ⟨1, _⟩ => show win0_4.index t 1 * 4096 + l.val = h.val * 4096 + l.val; rw [e1, ht]

/-! ## The two result arrays -/

/-- Which block of its array the window takes at point `t`. -/
theorem idx5 : ∀ t : Fin cfg0.N, win0_5.index t 0 = t.val ∧ win0_5.index t 1 = 0 ∧ win0_5.index t 2 = 0 :=
  (by decide +kernel : ∀ t : Fin grid0.N, win0_5.index t 0 = t.val ∧ win0_5.index t 1 = 0 ∧ win0_5.index t 2 = 0)
/-- Which block of its array the window takes at point `t`. -/
theorem idx6 : ∀ t : Fin cfg0.N, win0_6.index t 0 = 0 ∧ win0_6.index t 1 = t.val :=
  (by decide +kernel : ∀ t : Fin grid0.N, win0_6.index t 0 = 0 ∧ win0_6.index t 1 = t.val)

/-- Where element `(0, b, v)` of point `t`'s output block lies in the output array. -/
theorem emb5 (t : Fin cfg0.N) (h : Fin 4) (ht : t.val = h.val) (b : Fin 128) (v : Fin 64) :
    (win0_5.rect t).emb (ix3 0 b v) = (ix3 h b v : S4x128x64.Idx) := by
  refine funext fun a => Fin.ext ?_
  obtain ⟨e0, e1, e2⟩ := idx5 t
  refine (Pipeline.Window.rect_emb_val win0_5 t _ a).trans ?_
  match a with
  | ⟨0, _⟩ => show win0_5.index t 0 * 1 + 0 = h.val; rw [e0]; omega
  | ⟨1, _⟩ => show win0_5.index t 1 * 128 + b.val = b.val; rw [e1]; omega
  | ⟨2, _⟩ => show win0_5.index t 2 * 64 + v.val = v.val; rw [e2]; omega

/-- Where an element of point `t`'s block lies in the whole array. -/
theorem emb6 (t : Fin cfg0.N) (h : Fin 4) (ht : t.val = h.val) (b : Fin 128) (l : Fin 4096) :
    (win0_6.rect t).emb (ix2 b l) = (ix2 b ⟨h.val * 4096 + l.val, by omega⟩ : S128x16384.Idx) := by
  refine funext fun a => Fin.ext ?_
  obtain ⟨e0, e1⟩ := idx6 t
  refine (Pipeline.Window.rect_emb_val win0_6 t _ a).trans ?_
  match a with
  | ⟨0, _⟩ => show win0_6.index t 0 * 128 + b.val = b.val; rw [e0]; omega
  | ⟨1, _⟩ => show win0_6.index t 1 * 4096 + l.val = h.val * 4096 + l.val; rw [e1, ht]

/-- The point of head `h`. -/
abbrev pt (h : Fin 4) : Fin cfg0.N := ⟨h.val, by have : cfg0.N = 4 := N_0; omega⟩

variable (q k w g : S128x4x1x64.Idx → ℝ) (s : S128x4x64x64.Idx → ℝ)

/-- The step's output of head `h`, sequence `b`, value coordinate `v`, over the reals. -/
def stepO (h : Fin 4) (b : Fin 128) (v : Fin 64) : ℝ :=
  ∑ d : Fin 64, (Real.exp (g (ix4 b h 0 d)) * s (ix4 b h d v) + k (ix4 b h 0 d) * w (ix4 b h 0 v)) * q (ix4 b h 0 d)

/-- The step's new state. -/
def stepS (b : Fin 128) (h : Fin 4) (l : Fin 4096) : ℝ :=
  Real.exp (g (ix4 b h 0 (keyOf l))) * s (ix4 b h (keyOf l) (valOf l)) + k (ix4 b h 0 (keyOf l)) * w (ix4 b h 0 (valOf l))

/-- The output array after the run. -/
theorem final_o (c : Dev nD)
    (hq : m (c.tc.loc main_arg0) = fun i => (q i : EReal)) (hk : m (c.tc.loc main_arg1) = fun i => (k i : EReal))
    (hw : m (c.tc.loc main_arg2) = fun i => (w i : EReal)) (hg : m (c.tc.loc main_arg3) = fun i => (g i : EReal))
    (hs : m (c.tc.loc main_arg4) = fun i => (s i : EReal)) (h : Fin 4) (b : Fin 128) (v : Fin 64) :
    (dats m 0 c).arrAt 5 cfg0.N (ix3 h b v) = (stepO q k w g s h b v : EReal) := by
  have e := congrFun (Value.blocks5 m c (pt h) (flush0_5 _)) (ix3 0 b v)
  rw [Value.flushed5] at e
  have e' : (dats m 0 c).arrAt 5 cfg0.N ((win0_5.rect (pt h)).emb (ix3 0 b v)) =
    out0_5 (iblk m c 0 (pt h)) (iblk m c 1 (pt h)) (iblk m c 2 (pt h)) (iblk m c 3 (pt h)) (iblk m c 4 (pt h)) (ix3 0 b v) := e
  rw [emb5 (pt h) h rfl] at e'
  rw [e']
  exact out_o_apply _ _ _ _ _ b v (fun d => q (ix4 b h 0 d)) (fun d => k (ix4 b h 0 d)) (fun d => w (ix4 b h 0 d)) (fun d => g (ix4 b h 0 d))
    (fun d e => s (ix4 b h d e))
    (fun d => by rw [blk0 m c (pt h) h rfl, hq]) (fun d => by rw [blk1 m c (pt h) h rfl, hk]) (fun d => by rw [blk2 m c (pt h) h rfl, hw])
    (fun d => by rw [blk3 m c (pt h) h rfl, hg]) (fun l => by rw [blk4 m c (pt h) h rfl, hs])

/-- The state array after the run. -/
theorem final_s (c : Dev nD)
    (hk : m (c.tc.loc main_arg1) = fun i => (k i : EReal))
    (hw : m (c.tc.loc main_arg2) = fun i => (w i : EReal)) (hg : m (c.tc.loc main_arg3) = fun i => (g i : EReal))
    (hs : m (c.tc.loc main_arg4) = fun i => (s i : EReal)) (b : Fin 128) (h : Fin 4) (l : Fin 4096) :
    (dats m 0 c).arrAt 6 cfg0.N (ix2 b ⟨h.val * 4096 + l.val, by omega⟩ : S128x16384.Idx) = (stepS k w g s b h l : EReal) := by
  have e := congrFun (Value.blocks6 m c (pt h) (flush0_6 _)) (ix2 b l)
  rw [Value.flushed6] at e
  have e' : (dats m 0 c).arrAt 6 cfg0.N ((win0_6.rect (pt h)).emb (ix2 b l)) =
    out0_6 (iblk m c 0 (pt h)) (iblk m c 1 (pt h)) (iblk m c 2 (pt h)) (iblk m c 3 (pt h)) (iblk m c 4 (pt h)) (ix2 b l) := e
  rw [emb6 (pt h) h rfl] at e'
  rw [e']
  exact out_s_apply _ _ _ _ _ b l (fun d => k (ix4 b h 0 d)) (fun d => w (ix4 b h 0 d)) (fun d => g (ix4 b h 0 d))
    (fun d e => s (ix4 b h d e))
    (fun d => by rw [blk1 m c (pt h) h rfl, hk]) (fun d => by rw [blk2 m c (pt h) h rfl, hw])
    (fun d => by rw [blk3 m c (pt h) h rfl, hg]) (fun l => by rw [blk4 m c (pt h) h rfl, hs])

end Cert.Kernel2Ideal.Hand
end
-- ==== Proof.Dec.Gla3.lean ====
module

public import proofs.«01_k».proof.Defs
public import proofs.«01_k».proof.Proof.Dec.Gla2
public import proofs.«01_k».proof.Proof.Gen.Reference2Ideal.Run
public import proofs.«01_k».proof.Proof.Gen.Reference2Ideal.Read
public import proofs.«01_k».proof.Proof.Gen.Pre_gla_finite

@[expose] public section

set_option maxRecDepth 16384
noncomputable section

namespace Cert.Reference2Ideal.Hand

open Cert.Reference2Ideal Cert.Reference2Ideal.Gen Cert.Reference2Ideal.Read Idealize.ShloMosaic Idealize.ShloMosaic.TcCoe Idealize.SL.Sem
open Cert.Hand

/-- The reference's output at an element, over real arguments. -/
theorem ref_o (q k w g : S128x4x1x64.Idx → ℝ) (s : S128x4x64x64.Idx → ℝ) (h : Fin 4) (b : Fin 128) (v : Fin 64) :
    val_main_v15 (F := Ideal) (fun i => (q i : EReal)) (fun i => (k i : EReal)) (fun i => (w i : EReal)) (fun i => (g i : EReal))
      (fun i => (s i : EReal)) (ix3 h b v) = (Cert.Kernel2Ideal.Hand.stepO q k w g s h b v : EReal) := by
  pointwise [val_main_v15, val_main_v14, val_main_v13, val_main_v12, val_main_v11, val_main_v10, val_main_v9, val_main_v8, val_main_v7, val_main_v6, val_main_v5, val_main_v4, val_main_v3, val_main_v2, val_main_v1, val_main_v0]
  simp only [Ideal.exp_coe, ← EReal.coe_mul, ← EReal.coe_add, ← coe_sum]
  rfl

/-- The reference's new state at an element, over real arguments. -/
theorem ref_s (k w g : S128x4x1x64.Idx → ℝ) (s : S128x4x64x64.Idx → ℝ) (b : Fin 128) (h : Fin 4) (l : Fin 4096) :
    val_main_v16 (F := Ideal) (fun i => (k i : EReal)) (fun i => (w i : EReal)) (fun i => (g i : EReal))
      (fun i => (s i : EReal)) (ix2 b ⟨h.val * 4096 + l.val, by omega⟩) = (Cert.Kernel2Ideal.Hand.stepS k w g s b h l : EReal) := by
  have e1 : (⟨(h.val * 4096 + l.val) / 4096, by omega⟩ : Fin 4) = h := Fin.ext (by show (h.val * 4096 + l.val) / 4096 = h.val; omega)
  have e2 : (⟨(h.val * 4096 + l.val) / 64 % 64, by omega⟩ : Fin 64) = keyOf l := Fin.ext (by show (h.val * 4096 + l.val) / 64 % 64 = l.val / 64; omega)
  have e3 : (⟨(h.val * 4096 + l.val) % 64, by omega⟩ : Fin 64) = valOf l := Fin.ext (by show (h.val * 4096 + l.val) % 64 = l.val % 64; omega)
  pointwise [val_main_v16, val_main_v13, val_main_v12, val_main_v11, val_main_v10, val_main_v9, val_main_v8, val_main_v7, val_main_v6, val_main_v5, val_main_v4, val_main_v3, val_main_v2, val_main_v1, val_main_v0]
  rw [e2, e3]
  simp only [Ideal.exp_coe, ← EReal.coe_mul, ← EReal.coe_add]
  rfl

end Cert.Reference2Ideal.Hand

namespace Cert.Kernel2Ideal.Hand

open Cert.Kernel2Ideal Cert.Kernel2Ideal.Gen Idealize.ShloMosaic Idealize.ShloMosaic.TcCoe Idealize.SL.Sem Cert.Hand

/-- Arguments that pass the finiteness test are arrays of real numbers. -/
theorem reals (q k w g : FVec Ideal S128x4x1x64 .f32) (s : FVec Ideal S128x4x64x64 .f32)
    (h : Cert.Pre_gla_finite.fn (F := Ideal) q k w g s = fun _ => 1#1) :
    (∃ r : S128x4x1x64.Idx → ℝ, q = fun i => (r i : EReal)) ∧ (∃ r : S128x4x1x64.Idx → ℝ, k = fun i => (r i : EReal))
    ∧ (∃ r : S128x4x1x64.Idx → ℝ, w = fun i => (r i : EReal)) ∧ (∃ r : S128x4x1x64.Idx → ℝ, g = fun i => (r i : EReal))
    ∧ (∃ r : S128x4x64x64.Idx → ℝ, s = fun i => (r i : EReal)) := by
  have h0 := congrFun h (fun a => a.elim0)
  pointwise [Cert.Pre_gla_finite.fn, Cert.Pre_gla_finite.fn_part1] at h0
  obtain ⟨h0, h5⟩ := and_one h0
  obtain ⟨h0, h4⟩ := and_one h0
  obtain ⟨h0, h3⟩ := and_one h0
  obtain ⟨h1, h2⟩ := and_one h0
  exact ⟨reals_of_fold h1 fun _ => funext fun a => a.elim0, reals_of_fold h2 fun _ => funext fun a => a.elim0,
    reals_of_fold h3 fun _ => funext fun a => a.elim0, reals_of_fold h4 fun _ => funext fun a => a.elim0,
    reals_of_fold h5 fun _ => funext fun a => a.elim0⟩

/-- The kernel's two results are the reference's. -/
theorem gla_equal : Cert.algebraic_Kernel2Ideal_Reference2Ideal_pre_gla_finite
    (hKernel2Ideal := Cert.Kernel2Ideal.Gen.facts) (hReference2Ideal := Cert.Reference2Ideal.Gen.facts)
    (hPre_gla_finite := Cert.Pre_gla_finite.Gen.facts) := by
  intro m ρ m' ρ' hpre hag
  refine ⟨fun c => (dats m 0 c).arrAt 5 cfg0.N, fun c => (dats m 0 c).arrAt 6 cfg0.N, Value.run_blocks m ρ, ?_⟩
  refine (θ_run _ _ _).mono (fun r h c => ?_) (Cert.Reference2Ideal.Value.run m' ρ')
  obtain ⟨h15, h16, hkeep⟩ := h c
  obtain ⟨a0, a1, a2, a3, a4⟩ := hag c
  obtain ⟨⟨q, hq⟩, ⟨k, hk⟩, ⟨w, hw⟩, ⟨g, hg⟩, ⟨s, hs⟩⟩ := reals _ _ _ _ _ (hpre c)
  refine ⟨h15.trans ?_, h16.trans ?_, hkeep⟩
  · refine (Cert.Reference2Ideal.Read.val_main_v15_eq _ _ _ _ _).trans ?_
    rw [a0, a1, a2, a3, a4]
    funext i
    idx_vars i
    refine Eq.trans ?_ (final_o m q k w g s c hq hk hw hg hs i0 i1 i2).symm
    erw [hq, hk, hw, hg, hs]
    exact Cert.Reference2Ideal.Hand.ref_o q k w g s i0 i1 i2
  · refine (Cert.Reference2Ideal.Read.val_main_v16_eq _ _ _ _).trans ?_
    rw [a1, a2, a3, a4]
    funext i
    idx_vars i
    have hi : i1 = ⟨(⟨i1.val / 4096, by omega⟩ : Fin 4).val * 4096 + (⟨i1.val % 4096, by omega⟩ : Fin 4096).val, by dsimp only; omega⟩ :=
      Fin.ext (by dsimp only; omega)
    rw [hi]
    refine Eq.trans ?_ (final_s m k w g s c hk hw hg hs i0 _ _).symm
    erw [hk, hw, hg, hs]
    exact Cert.Reference2Ideal.Hand.ref_s k w g s i0 _ _

end Cert.Kernel2Ideal.Hand
end
-- ==== Proof.Dec.Norms.lean ====
module

public import proofs.«01_k».proof.Proof.Dec.Common

@[expose] public section

set_option maxRecDepth 16384
noncomputable section

namespace Cert.Hand

open Idealize.ShloMosaic

/-- The bit pattern of one half. -/
theorem ofBits_half : Ideal.ofBits FTy.f32 1056964608#32 = ((1 / 2 : ℝ) : EReal) := by
  simp [Ideal.ofBits, Ideal.ieee]
  rw [← EReal.coe_mul]
  norm_num

/-- The logistic function as the kernels write it, by the hyperbolic tangent. -/
def lgs (x : EReal) : EReal := Ideal.ofBits FTy.f32 1056964608#32 * (1 + Ideal.tanh (Ideal.ofBits FTy.f32 1056964608#32 * x))

/-- `(1 + tanh (x / 2)) / 2 = 1 / (1 + exp (-x))` for a real number. -/
theorem real_lgs (r : ℝ) : 1 / 2 * (1 + Real.tanh (1 / 2 * r)) = (1 + Real.exp (-r))⁻¹ := by
  have e1 : Real.exp (1 / 2 * r) ≠ 0 := (Real.exp_pos _).ne'
  have e : Real.exp (-r) = (Real.exp (1 / 2 * r))⁻¹ * (Real.exp (1 / 2 * r))⁻¹ := by
    rw [← Real.exp_neg, ← Real.exp_add]; congr 1; ring
  have e2 : (0 : ℝ) < Real.exp (1 / 2 * r) := Real.exp_pos _
  rw [Real.tanh_eq_sinh_div_cosh, Real.sinh_eq, Real.cosh_eq, e, Real.exp_neg]
  field_simp
  ring

/-- The kernels' logistic function is the plain one, at the infinities too. -/
theorem lgs_eq (x : EReal) : lgs x = Ideal.logistic x := by
  unfold lgs
  rw [ofBits_half]
  induction x using EReal.rec with
  | bot =>
    rw [EReal.coe_mul_bot_of_pos (by norm_num), Ideal.tanh_bot, Ideal.logistic_bot]
    have : (1 : EReal) + -1 = 0 := by
      rw [← EReal.coe_one, ← EReal.coe_neg, ← EReal.coe_add]; simp
    rw [this, mul_zero]
  | coe r =>
    rw [← EReal.coe_mul, Ideal.tanh_coe, Ideal.logistic_coe, ← EReal.coe_one, ← EReal.coe_add, ← EReal.coe_mul, real_lgs]
  | top =>
    rw [EReal.coe_mul_top_of_pos (by norm_num), Ideal.tanh_top, Ideal.logistic_top, ← EReal.coe_one, ← EReal.coe_add, ← EReal.coe_mul]
    norm_num

/-- A row divided by its root mean square (a small constant added below the root) and scaled. -/
def rms (x w : Fin 1024 → EReal) (j : Fin 1024) : EReal :=
  x j * Ideal.rsqrt (Ideal.div (∑ k, x k * x k) (Ideal.ofBits FTy.f32 1149239296#32) + Ideal.ofBits FTy.f32 897988541#32) * w j

/-- One column tile of the feed-forward block: 256 hidden columns from `o` on. -/
def tile (f : Fin 2816 → EReal) (o : ℕ) (ho : o + 256 ≤ 2816) : EReal := ∑ i : Fin 256, f ⟨o + i.val, by omega⟩

/-- A sum over `(c + 1) * 256` columns is the sum over the first `c * 256` and the next tile's. -/
theorem sum_tile (c : ℕ) (f : ℕ → EReal) :
    ∑ i ∈ Finset.range ((c + 1) * 256), f i = ∑ i ∈ Finset.range (c * 256), f i + ∑ i : Fin 256, f (c * 256 + i.val) := by
  rw [show (c + 1) * 256 = c * 256 + 256 by ring, Finset.sum_range_add, Finset.sum_range (fun i => f (c * 256 + i))]

/-- The eleven tiles together are the sum over all hidden columns. -/
theorem tiles (f : Fin 2816 → EReal) :
    0 + tile f 0 (by omega) + tile f 256 (by omega) + tile f 512 (by omega) + tile f 768 (by omega) + tile f 1024 (by omega)
      + tile f 1280 (by omega) + tile f 1536 (by omega) + tile f 1792 (by omega) + tile f 2048 (by omega) + tile f 2304 (by omega)
      + tile f 2560 (by omega) = ∑ i, f i := by
  have hg : ∀ o (ho : o + 256 ≤ 2816), tile f o ho = ∑ i : Fin 256, (fun n => if h : n < 2816 then f ⟨n, h⟩ else 0) (o + i.val) := by
    intro o ho
    refine Finset.sum_congr rfl fun i _ => ?_
    simp only
    rw [dif_pos (by omega)]
  have hs : ∑ i, f i = ∑ i ∈ Finset.range (11 * 256), (fun n => if h : n < 2816 then f ⟨n, h⟩ else 0) i := by
    rw [Finset.sum_range]
    refine Finset.sum_congr rfl fun i _ => ?_
    rw [dif_pos i.isLt]
  rw [hs]
  simp only [hg]
  rw [sum_tile 10, sum_tile 9, sum_tile 8, sum_tile 7, sum_tile 6, sum_tile 5, sum_tile 4, sum_tile 3, sum_tile 2, sum_tile 1, sum_tile 0,
    Nat.zero_mul, Finset.range_zero, Finset.sum_empty]

/-- The feed-forward block's new row: the old row, plus the gated hidden columns times the down projection. -/
def ffnRow (h nw : Fin 1024 → EReal) (wg wu : Fin 1024 → Fin 2816 → EReal) (wd : Fin 2816 → Fin 1024 → EReal) (k : Fin 1024) : EReal :=
  h k + ∑ i, (∑ d, rms h nw d * wg d i) * lgs (∑ d, rms h nw d * wg d i) * (∑ d, rms h nw d * wu d i) * wd i k

end Cert.Hand
end
-- ==== Proof.Ffn.Body.lean ====
module

public import proofs.«01_k».proof.Proof.Gen.Kernel3Ideal.Value
public import proofs.«01_k».proof.Proof.Dec.Norms
@[expose] public section

set_option maxRecDepth 16384
noncomputable section

namespace Cert.Kernel3Ideal.Hand

open Cert.Kernel3Ideal Cert.Kernel3Ideal.Gen Idealize.ShloMosaic Idealize.ShloMosaic.TcCoe Idealize.SL.Sem Cert.Hand
open Idealize.ShloMosaic.Pipeline (Dat)

/-- An index list of zeros is the constant zero. -/
theorem hz2 : (![0, 0] : Fin 2 → Nat) = fun _ => 0 := funext fun a => by fin_cases a <;> rfl

/-- The last payload is the row norm of the block's new rows. -/
theorem last_apply (v1 : FVec Ideal S512x1024 .f32) (v206 v209 : FVec Ideal S512x256 .f32) (v223 : FVec Ideal S512x1024 .f32)
    (v233 : Vec Ideal S256x1024 .bf16) (v239 : Vec Ideal S1x1024 .f32) (r : Fin 512) (j : Fin 1024) :
    k0_pay1 v1 v206 v209 v223 (Scalar.ofBits .f32 0x3F000000#32) v233 v239 (ix2 r j)
      = rms (fun k => v1 (ix2 r k) + (v223 (ix2 r k) + ∑ i : Fin 256, v206 (ix2 r i) * lgs (v206 (ix2 r i)) * v209 (ix2 r i) * v233 (ix2 i k)))
          (fun k => v239 (ix2 0 k)) j := by
  pointwise [k0_pay1]
  rfl

/-- The normed rows the two up projections read. -/
theorem hn_apply (x0 : Vec Ideal S512x1024 .f32) (x1 : Vec Ideal S1x1024 .f32) (r : Fin 512) (d : Fin 1024) :
    k0_pay3 x0 x1 (ix2 r d) = rms (fun k => x0 (ix2 r k)) (fun k => x1 (ix2 0 k)) d := by
  pointwise [k0_pay3, k0_pay2]
  rfl

/-- The result block of a point, at an element. -/
theorem out_apply (x0 : Vec Ideal S512x1024 .f32) (x1 : Vec Ideal S1x1024 .f32) (x2 x3 : Vec Ideal S1024x2816 .bf16)
    (x4 : Vec Ideal S2816x1024 .bf16) (x5 : Vec Ideal S1x1024 .f32) (r : Fin 512) (j : Fin 1024) :
    out0_6 x0 x1 x2 x3 x4 x5 (ix2 r j)
      = rms (ffnRow (fun k => x0 (ix2 r k)) (fun k => x1 (ix2 0 k)) (fun d i => x2 (ix2 d i)) (fun d i => x3 (ix2 d i)) (fun i k => x4 (ix2 i k)))
          (fun k => x5 (ix2 0 k)) j := by
  unfold_out out0_6
  rw [View.canon_unit_zero hz2, last_apply, View.ld_unit_zero (S := S1x1024) hz2 _ x5]
  simp only [View.ld_unit_zero (S := S512x1024) hz2, View.ld_unit_zero (S := S1x1024) hz2]
  refine congrFun (congrArg₂ rms (funext fun k => ?_) rfl) j
  unfold ffnRow
  rw [← tiles]
  simp only [View.ld_unit]
  pointwise [k0_pay2, k0_pay4, k0_pay5, k0_pay6, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay25, k0_pay26, k0_pay27, k0_pay28,
    k0_pay29, k0_pay30, k0_pay31, k0_pay32]
  simp only [hn_apply]
  simp only [tile, lgs, zero_add]

end Cert.Kernel3Ideal.Hand
end
-- ==== Proof.Ffn.Final.lean ====
module

public import proofs.«01_k».proof.Proof.Ffn.Body
@[expose] public section

set_option maxRecDepth 16384
noncomputable section

namespace Cert.Kernel3Ideal.Hand

open Cert.Kernel3Ideal Cert.Kernel3Ideal.Gen Idealize.ShloMosaic Idealize.ShloMosaic.TcCoe Idealize.SL.Sem Cert.Hand
open Idealize.ShloMosaic.Pipeline (Dat)

variable (m : (ℓ : Loc nD τ sig) → Buf (Elt Ideal) ℓ)

/-- The rows the call is given: the tokens' rows one after another. -/
theorem V_h (c : Dev nD) : V m c main_v3 = shapeCast S16384x1024 (m (c.tc.loc main_arg0) : Vec Ideal S8x2048x1024 .f32) shapeCasts_S8x2048x1024_S16384x1024 := by
  unfold V
  after_results <;> rfl
/-- The first gain as a row. -/
theorem V_n (c : Dev nD) : V m c main_v4 = shapeCast S1x1024 (m (c.tc.loc main_arg1) : Vec Ideal S1024 .f32) shapeCasts_S1024_S1x1024 := by
  unfold V
  after_results <;> rfl
/-- The last gain as a row. -/
theorem V_f (c : Dev nD) : V m c main_v5 = shapeCast S1x1024 (m (c.tc.loc main_arg5) : Vec Ideal S1024 .f32) shapeCasts_S1024_S1x1024 := by
  unfold V
  after_results <;> rfl
/-- The gate weights. -/
theorem V_g (c : Dev nD) : V m c main_v0 = (m (c.tc.loc main_arg2) : Vec Ideal S1024x2816 .f32) := by
  unfold V
  after_results <;> rfl
/-- The up weights. -/
theorem V_u (c : Dev nD) : V m c main_v1 = (m (c.tc.loc main_arg3) : Vec Ideal S1024x2816 .f32) := by
  unfold V
  after_results <;> rfl
/-- The down weights. -/
theorem V_d (c : Dev nD) : V m c main_v2 = (m (c.tc.loc main_arg4) : Vec Ideal S2816x1024 .f32) := by
  unfold V
  after_results <;> rfl

/-- Row `R` of the flattened rows is token `R % 2048` of sequence `R / 2048`. -/
theorem flat_h (x : Vec Ideal S8x2048x1024 .f32) (R : Fin 16384) (d : Fin 1024) :
    shapeCast S16384x1024 x shapeCasts_S8x2048x1024_S16384x1024 (ix2 R d) = x (ix3 ⟨R.val / 2048, by omega⟩ ⟨R.val % 2048, by omega⟩ d) := by
  pointwise
/-- A gain's row. -/
theorem flat_w (x : Vec Ideal S1024 .f32) (d : Fin 1024) :
    shapeCast S1x1024 x shapeCasts_S1024_S1x1024 (ix2 0 d) = x (ix1 d) := by
  pointwise

/-- Point `t` reads its 512 rows. -/
theorem idx0 : ∀ t : Fin cfg0.N, win0_0.index t 0 = t.val ∧ win0_0.index t 1 = 0 :=
  (by decide +kernel : ∀ t : Fin grid0.N, win0_0.index t 0 = t.val ∧ win0_0.index t 1 = 0)
/-- Every point reads the whole first gain. -/
theorem idx1 : ∀ t : Fin cfg0.N, win0_1.index t 0 = 0 ∧ win0_1.index t 1 = 0 :=
  (by decide +kernel : ∀ t : Fin grid0.N, win0_1.index t 0 = 0 ∧ win0_1.index t 1 = 0)
/-- Every point reads the whole gate weights. -/
theorem idx2 : ∀ t : Fin cfg0.N, win0_2.index t 0 = 0 ∧ win0_2.index t 1 = 0 :=
  (by decide +kernel : ∀ t : Fin grid0.N, win0_2.index t 0 = 0 ∧ win0_2.index t 1 = 0)
/-- Every point reads the whole up weights. -/
theorem idx3 : ∀ t : Fin cfg0.N, win0_3.index t 0 = 0 ∧ win0_3.index t 1 = 0 :=
  (by decide +kernel : ∀ t : Fin grid0.N, win0_3.index t 0 = 0 ∧ win0_3.index t 1 = 0)
/-- Every point reads the whole down weights. -/
theorem idx4 : ∀ t : Fin cfg0.N, win0_4.index t 0 = 0 ∧ win0_4.index t 1 = 0 :=
  (by decide +kernel : ∀ t : Fin grid0.N, win0_4.index t 0 = 0 ∧ win0_4.index t 1 = 0)
/-- Every point reads the whole last gain. -/
theorem idx5 : ∀ t : Fin cfg0.N, win0_5.index t 0 = 0 ∧ win0_5.index t 1 = 0 :=
  (by decide +kernel : ∀ t : Fin grid0.N, win0_5.index t 0 = 0 ∧ win0_5.index t 1 = 0)
/-- Point `t` writes its 512 rows. -/
theorem idx6 : ∀ t : Fin cfg0.N, win0_6.index t 0 = t.val ∧ win0_6.index t 1 = 0 :=
  (by decide +kernel : ∀ t : Fin grid0.N, win0_6.index t 0 = t.val ∧ win0_6.index t 1 = 0)

/-- The rows read at point `t`. -/
theorem blk0 (c : Dev nD) (t : Fin cfg0.N) (R : Fin 16384) (r : Fin 512) (hR : R.val = t.val * 512 + r.val) (d : Fin 1024) :
    iblk m c 0 t (ix2 r d) = (m (c.tc.loc main_arg0) : Vec Ideal S8x2048x1024 .f32) (ix3 ⟨R.val / 2048, by omega⟩ ⟨R.val % 2048, by omega⟩ d) := by
  refine Eq.trans ?_ ((congrFun (V_h m c) (ix2 R d)).trans (flat_h _ R d))
  show V m c main_v3 ((win0_0.rect t).emb (ix2 r d)) = _
  refine congrArg (V m c main_v3) (funext fun a => Fin.ext ?_)
  obtain ⟨e0, e1⟩ := idx0 t
  refine (Pipeline.Window.rect_emb_val win0_0 t _ a).trans ?_
  match a with
  | ⟨0, _⟩ => show win0_0.index t 0 * 512 + r.val = R.val; rw [e0, hR]
  | ⟨1, _⟩ => show win0_0.index t 1 * 1024 + d.val = d.val; rw [e1]; omega

/-- The first gain read at point `t`. -/
theorem blk1 (c : Dev nD) (t : Fin cfg0.N) (d : Fin 1024) :
    iblk m c 1 t (ix2 0 d) = (m (c.tc.loc main_arg1) : Vec Ideal S1024 .f32) (ix1 d) := by
  refine Eq.trans ?_ ((congrFun (V_n m c) (ix2 0 d)).trans (flat_w _ d))
  show V m c main_v4 ((win0_1.rect t).emb (ix2 0 d)) = _
  refine congrArg (V m c main_v4) (funext fun a => Fin.ext ?_)
  obtain ⟨e0, e1⟩ := idx1 t
  refine (Pipeline.Window.rect_emb_val win0_1 t _ a).trans ?_
  match a with
  | ⟨0, _⟩ => show win0_1.index t 0 * 1 + 0 = 0; rw [e0]
  | ⟨1, _⟩ => show win0_1.index t 1 * 1024 + d.val = d.val; rw [e1]; omega

/-- The last gain read at point `t`. -/
theorem blk5 (c : Dev nD) (t : Fin cfg0.N) (d : Fin 1024) :
    iblk m c 5 t (ix2 0 d) = (m (c.tc.loc main_arg5) : Vec Ideal S1024 .f32) (ix1 d) := by
  refine Eq.trans ?_ ((congrFun (V_f m c) (ix2 0 d)).trans (flat_w _ d))
  show V m c main_v5 ((win0_5.rect t).emb (ix2 0 d)) = _
  refine congrArg (V m c main_v5) (funext fun a => Fin.ext ?_)
  obtain ⟨e0, e1⟩ := idx5 t
  refine (Pipeline.Window.rect_emb_val win0_5 t _ a).trans ?_
  match a with
  | ⟨0, _⟩ => show win0_5.index t 0 * 1 + 0 = 0; rw [e0]
  | ⟨1, _⟩ => show win0_5.index t 1 * 1024 + d.val = d.val; rw [e1]; omega

/-- The gate weights read at point `t`. -/
theorem blk2 (c : Dev nD) (t : Fin cfg0.N) (d : Fin 1024) (i : Fin 2816) :
    iblk m c 2 t (ix2 d i) = (m (c.tc.loc main_arg2) : Vec Ideal S1024x2816 .f32) (ix2 d i) := by
  refine Eq.trans ?_ (congrFun (V_g m c) (ix2 d i))
  show V m c main_v0 ((win0_2.rect t).emb (ix2 d i)) = _
  refine congrArg (V m c main_v0) (funext fun a => Fin.ext ?_)
  obtain ⟨e0, e1⟩ := idx2 t
  refine (Pipeline.Window.rect_emb_val win0_2 t _ a).trans ?_
  match a with
  | ⟨0, _⟩ => show win0_2.index t 0 * 1024 + d.val = d.val; rw [e0]; omega
  | ⟨1, _⟩ => show win0_2.index t 1 * 2816 + i.val = i.val; rw [e1]; omega

/-- The up weights read at point `t`. -/
theorem blk3 (c : Dev nD) (t : Fin cfg0.N) (d : Fin 1024) (i : Fin 2816) :
    iblk m c 3 t (ix2 d i) = (m (c.tc.loc main_arg3) : Vec Ideal S1024x2816 .f32) (ix2 d i) := by
  refine Eq.trans ?_ (congrFun (V_u m c) (ix2 d i))
  show V m c main_v1 ((win0_3.rect t).emb (ix2 d i)) = _
  refine congrArg (V m c main_v1) (funext fun a => Fin.ext ?_)
  obtain ⟨e0, e1⟩ := idx3 t
  refine (Pipeline.Window.rect_emb_val win0_3 t _ a).trans ?_
  match a with
  | ⟨0, _⟩ => show win0_3.index t 0 * 1024 + d.val = d.val; rw [e0]; omega
  | ⟨1, _⟩ => show win0_3.index t 1 * 2816 + i.val = i.val; rw [e1]; omega

/-- The down weights read at point `t`. -/
theorem blk4 (c : Dev nD) (t : Fin cfg0.N) (i : Fin 2816) (k : Fin 1024) :
    iblk m c 4 t (ix2 i k) = (m (c.tc.loc main_arg4) : Vec Ideal S2816x1024 .f32) (ix2 i k) := by
  refine Eq.trans ?_ (congrFun (V_d m c) (ix2 i k))
  show V m c main_v2 ((win0_4.rect t).emb (ix2 i k)) = _
  refine congrArg (V m c main_v2) (funext fun a => Fin.ext ?_)
  obtain ⟨e0, e1⟩ := idx4 t
  refine (Pipeline.Window.rect_emb_val win0_4 t _ a).trans ?_
  match a with
  | ⟨0, _⟩ => show win0_4.index t 0 * 2816 + i.val = i.val; rw [e0]; omega
  | ⟨1, _⟩ => show win0_4.index t 1 * 1024 + k.val = k.val; rw [e1]; omega

/-- Where element `(r, j)` of point `t`'s rows lies in the result array. -/
theorem emb6 (t : Fin cfg0.N) (R : Fin 16384) (r : Fin 512) (hR : R.val = t.val * 512 + r.val) (j : Fin 1024) :
    (win0_6.rect t).emb (ix2 r j) = (ix2 R j : S16384x1024.Idx) := by
  refine funext fun a => Fin.ext ?_
  obtain ⟨e0, e1⟩ := idx6 t
  refine (Pipeline.Window.rect_emb_val win0_6 t _ a).trans ?_
  match a with
  | ⟨0, _⟩ => show win0_6.index t 0 * 512 + r.val = R.val; rw [e0, hR]
  | ⟨1, _⟩ => show win0_6.index t 1 * 1024 + j.val = j.val; rw [e1]; omega

/-- The result of the whole block for a row, from the argument arrays. -/
def outRow (x0 : Vec Ideal S8x2048x1024 .f32) (x1 : Vec Ideal S1024 .f32) (x2 x3 : Vec Ideal S1024x2816 .f32)
    (x4 : Vec Ideal S2816x1024 .f32) (x5 : Vec Ideal S1024 .f32) (b : Fin 8) (l : Fin 2048) (j : Fin 1024) : EReal :=
  rms (ffnRow (fun k => x0 (ix3 b l k)) (fun k => x1 (ix1 k)) (fun d i => x2 (ix2 d i)) (fun d i => x3 (ix2 d i)) (fun i k => x4 (ix2 i k)))
    (fun k => x5 (ix1 k)) j

/-- The result array after the run. -/
theorem final_y (c : Dev nD) (R : Fin 16384) (j : Fin 1024) :
    (dats m 0 c).arrAt 6 cfg0.N (ix2 R j) = outRow (m (c.tc.loc main_arg0)) (m (c.tc.loc main_arg1))
      (m (c.tc.loc main_arg2)) (m (c.tc.loc main_arg3)) (m (c.tc.loc main_arg4))
      (m (c.tc.loc main_arg5)) ⟨R.val / 2048, by omega⟩ ⟨R.val % 2048, by omega⟩ j := by
  have hN : cfg0.N = 32 := N_0
  obtain ⟨t, ht⟩ : ∃ t : Fin cfg0.N, t.val = R.val / 512 := ⟨⟨R.val / 512, by omega⟩, rfl⟩
  obtain ⟨r, hr⟩ : ∃ r : Fin 512, r.val = R.val % 512 := ⟨⟨R.val % 512, by omega⟩, rfl⟩
  have hR : R.val = t.val * 512 + r.val := by omega
  have e := congrFun (Value.blocks6 m c t (flush0_6 _)) (ix2 r j)
  rw [Value.flushed6] at e
  have e' : (dats m 0 c).arrAt 6 cfg0.N ((win0_6.rect t).emb (ix2 r j)) =
    out0_6 (iblk m c 0 t) (iblk m c 1 t) (iblk m c 2 t) (iblk m c 3 t) (iblk m c 4 t) (iblk m c 5 t) (ix2 r j) := e
  rw [emb6 t R r hR] at e'
  rw [e', out_apply]
  unfold outRow
  simp only [blk0 m c t R r hR, blk1 m c t, blk2 m c t, blk3 m c t, blk4 m c t, blk5 m c t]

end Cert.Kernel3Ideal.Hand
end
-- ==== Proof.Ffn.Equal.lean ====
module

public import proofs.«01_k».proof.Defs
public import proofs.«01_k».proof.Proof.Ffn.Final
public import proofs.«01_k».proof.Proof.Gen.Reference3Ideal.Run
public import proofs.«01_k».proof.Proof.Gen.Reference3Ideal.Read
@[expose] public section

set_option maxRecDepth 16384
noncomputable section

namespace Cert.Reference3Ideal.Hand

open Cert.Reference3Ideal Cert.Reference3Ideal.Gen Cert.Reference3Ideal.Read Idealize.ShloMosaic Idealize.ShloMosaic.TcCoe Idealize.SL.Sem Cert.Hand

variable (x0 : FVec Ideal S8x2048x1024 .f32) (x1 : FVec Ideal S1024 .f32) (x2 x3 : FVec Ideal S1024x2816 .f32)
  (x4 : FVec Ideal S2816x1024 .f32) (x5 : FVec Ideal S1024 .f32)

/-- The normalised rows. -/
theorem v12_apply (b : Fin 8) (l : Fin 2048) (d : Fin 1024) :
    val_main_v12 (F := Ideal) x0 x1 (ix3 b l d) = rms (fun k => x0 (ix3 b l k)) (fun k => x1 (ix1 k)) d := by
  pointwise [val_main_v12, val_main_v11, val_main_v10, val_main_v9, val_main_v8, val_main_v7, val_main_v6, val_main_v5, val_main_cst_1,
    val_main_v4, val_main_v3, val_main_cst_0, val_main_v2, val_main_v1, val_main_cst, val_main_v0, rms]

/-- The hidden columns: the gate's product times its logistic value, times the up product. -/
theorem v16_apply (b : Fin 8) (l : Fin 2048) (i : Fin 2816) :
    val_main_v16 (F := Ideal) x0 x1 x2 x3 (ix3 b l i) =
      (∑ d, rms (fun k => x0 (ix3 b l k)) (fun k => x1 (ix1 k)) d * x2 (ix2 d i)) *
        Ideal.logistic (∑ d, rms (fun k => x0 (ix3 b l k)) (fun k => x1 (ix1 k)) d * x2 (ix2 d i)) *
        (∑ d, rms (fun k => x0 (ix3 b l k)) (fun k => x1 (ix1 k)) d * x3 (ix2 d i)) := by
  pointwise [val_main_v16, val_main_v15, val_main_v14, val_main_call0_v5, val_main_call0_v4, val_main_call0_cst_0, val_main_call0_v3,
    val_main_call0_v2, val_main_call0_cst, val_main_call0_v1, val_main_call0_v0, val_main_v13]
  simp only [v12_apply]
  rfl

/-- The rows after the feed-forward block. -/
theorem v18_apply (b : Fin 8) (l : Fin 2048) (k : Fin 1024) :
    val_main_v18 (F := Ideal) x0 x1 x2 x3 x4 (ix3 b l k) =
      ffnRow (fun k => x0 (ix3 b l k)) (fun k => x1 (ix1 k)) (fun d i => x2 (ix2 d i)) (fun d i => x3 (ix2 d i)) (fun i k => x4 (ix2 i k)) k := by
  pointwise [val_main_v18, val_main_v17]
  simp only [v16_apply, ffnRow, lgs_eq]

/-- The result at row `R`. -/
theorem ref_y (R : Fin 16384) (j : Fin 1024) :
    val_main_v32 (F := Ideal) x0 x1 x2 x3 x4 x5 (ix2 R j) =
      rms (ffnRow (fun k => x0 (ix3 ⟨R.val / 2048, by omega⟩ ⟨R.val % 2048, by omega⟩ k)) (fun k => x1 (ix1 k)) (fun d i => x2 (ix2 d i))
        (fun d i => x3 (ix2 d i)) (fun i k => x4 (ix2 i k))) (fun k => x5 (ix1 k)) j := by
  pointwise [val_main_v32, val_main_v31, val_main_v30, val_main_v29, val_main_v28, val_main_v27, val_main_v26, val_main_v25, val_main_v24,
    val_main_cst_4, val_main_v23, val_main_v22, val_main_cst_3, val_main_v21, val_main_v20, val_main_cst_2, val_main_v19]
  simp only [v18_apply]
  rfl

end Cert.Reference3Ideal.Hand

namespace Cert.Kernel3Ideal.Hand

open Cert.Kernel3Ideal Cert.Kernel3Ideal.Gen Idealize.ShloMosaic Idealize.ShloMosaic.TcCoe Idealize.SL.Sem Cert.Hand

/-- The kernel's result is the reference's. -/
theorem ffn_equal : Cert.algebraic_Kernel3Ideal_Reference3Ideal
    (hKernel3Ideal := Cert.Kernel3Ideal.Gen.facts) (hReference3Ideal := Cert.Reference3Ideal.Gen.facts) := by
  intro m ρ m' ρ' _ hag
  refine ⟨fun c => (dats m 0 c).arrAt 6 cfg0.N, Value.run_blocks m ρ, ?_⟩
  refine (θ_run _ _ _).mono (fun r h c => ?_) (Cert.Reference3Ideal.Value.run m' ρ')
  obtain ⟨hy, hkeep⟩ := h c
  obtain ⟨a0, a1, a2, a3, a4, a5⟩ := hag c
  refine ⟨hy.trans ?_, hkeep⟩
  refine (Cert.Reference3Ideal.Read.val_main_v32_eq _ _).trans ?_
  rw [a0, a1, a2, a3, a4, a5]
  funext i
  idx_vars i
  refine Eq.trans ?_ (final_y m c i0 i1).symm
  exact Cert.Reference3Ideal.Hand.ref_y _ _ _ _ _ _ i0 i1

end Cert.Kernel3Ideal.Hand
end
-- ==== Proof.Merge.Body.lean ====
module

public import proofs.«01_k».proof.Proof.Gen.Kernel4Ideal.Value
public import proofs.«01_k».proof.Proof.Dec.Norms
@[expose] public section

set_option maxRecDepth 16384
noncomputable section

namespace Cert.Hand

open Idealize.ShloMosaic

/-- A sum over 256 columns kept where the column is in `c`'s group of 64 is the sum over that group. -/
theorem sum_group (f : Fin 256 → EReal) (c : Fin 256) :
    ∑ x : Fin 256, f x * (if x.val / 64 = c.val / 64 then (1 : EReal) else 0)
      = ∑ k : Fin 64, f ⟨c.val / 64 * 64 + k.val, by omega⟩ := by
  have e : ∑ x : Fin 256, f x * (if x.val / 64 = c.val / 64 then (1 : EReal) else 0)
      = ∑ p : Fin 4 × Fin 64, f ⟨p.1.val * 64 + p.2.val, by omega⟩ * (if p.1.val = c.val / 64 then (1 : EReal) else 0) := by
    refine (Fintype.sum_equiv (finProdFinEquiv (m := 4) (n := 64)) _ _ fun p => ?_).symm
    have h1 : (finProdFinEquiv (m := 4) (n := 64) p : Fin (4 * 64)) = (⟨p.1.val * 64 + p.2.val, by omega⟩ : Fin 256) :=
      Fin.ext (by simp [finProdFinEquiv]; omega)
    have h2 : (p.1.val * 64 + p.2.val) / 64 = p.1.val := by omega
    rw [h1]
    simp only [h2]
  rw [e, Fintype.sum_prod_type, Finset.sum_eq_single (⟨c.val / 64, by omega⟩ : Fin 4)]
  · simp
  · intro b _ hb
    have : b.val ≠ c.val / 64 := fun e => hb (Fin.ext e)
    simp [this]
  · intro h; exact absurd (Finset.mem_univ _) h

/-- The bit pattern of 64. -/
theorem ofBits_64 : Ideal.ofBits FTy.f32 1115684864#32 = ((64 : ℝ) : EReal) := by
  simp [Ideal.ofBits, Ideal.ieee]
  rw [← EReal.coe_mul]
  norm_num

/-- The bit pattern of one 64th. -/
theorem ofBits_64th : Ideal.ofBits FTy.f32 1015021568#32 = ((1 / 64 : ℝ) : EReal) := by
  simp [Ideal.ofBits, Ideal.ieee]
  rw [← EReal.coe_mul]
  norm_num

/-- A row of four heads, each divided by its root mean square, scaled by the gain and by the gate. -/
def hng (o w g : Fin 256 → EReal) (c : Fin 256) : EReal :=
  o c * Ideal.rsqrt (Ideal.div (∑ k : Fin 64, o ⟨c.val / 64 * 64 + k.val, by omega⟩ * o ⟨c.val / 64 * 64 + k.val, by omega⟩)
    (Ideal.ofBits FTy.f32 1115684864#32) + Ideal.ofBits FTy.f32 897988541#32) * w c * g c

/-- One branch's part of a row: its projection times the logistic value of its gate. -/
def branch (xn : Fin 1024 → EReal) (wm : Fin 1024 → Fin 1024 → EReal) (o : Fin 256 → EReal) (wb : Fin 256 → Fin 1024 → EReal)
    (i : Fin 1024) : EReal :=
  lgs (∑ d, xn d * wm d i) * ∑ x, o x * wb x i

end Cert.Hand

namespace Cert.Kernel4Ideal.Hand

open Cert.Kernel4Ideal Cert.Kernel4Ideal.Gen Idealize.ShloMosaic Idealize.ShloMosaic.TcCoe Idealize.SL.Sem Cert.Hand
open Idealize.ShloMosaic.Pipeline (Dat)

/-- An index list of zeros is the constant zero. -/
theorem hz2 : (![0, 0] : Fin 2 → Nat) = fun _ => 0 := funext fun a => by fin_cases a <;> rfl

/-- The zero-one matrix of the heads' columns. -/
theorem ones_apply (r c : Fin 256) : k0_pay8 (F := Ideal) (ix2 r c) = if r.val / 64 = c.val / 64 then 1 else 0 := by
  pointwise [k0_pay8]
  rw [shift_six _ (by omega), shift_six _ (by omega), bit_eq _ _ (by omega) (by omega)]
  unfold Scalar.select
  by_cases h : r.val / 64 = c.val / 64 <;> simp [h]

/-- The mean of squares as the kernel takes it, for a row of real numbers. -/
theorem ms_eq (o : Fin 256 → EReal) (q : Fin 256 → ℝ) (ho : o = fun c => (q c : EReal)) (c : Fin 256) :
    (∑ x, o x * o x * (if x.val / 64 = c.val / 64 then (1 : EReal) else 0) +
      ∑ x, (o x * o x - o x * o x) * (if x.val / 64 = c.val / 64 then (1 : EReal) else 0)) * Ideal.ofBits FTy.f32 1015021568#32
      = Ideal.div (∑ k : Fin 64, o ⟨c.val / 64 * 64 + k.val, by omega⟩ * o ⟨c.val / 64 * 64 + k.val, by omega⟩) (Ideal.ofBits FTy.f32 1115684864#32) := by
  have h : ∀ x, o x * o x - o x * o x = 0 := by
    intro x
    rw [ho]
    simp only [← EReal.coe_mul]
    exact coe_sub_self _
  simp only [h, zero_mul, Finset.sum_const_zero, add_zero]
  rw [sum_group (fun x => o x * o x) c, ofBits_64, ofBits_64th, Ideal.div_coe (by norm_num)]

/-- The first branch's gated row. -/
theorem norm_a (v : FVec Ideal S512x256 .f32) (g : Vec Ideal S512x256 .f32) (w : Vec Ideal S1x256 .f32) (r : Fin 512)
    (q : Fin 256 → ℝ) (hq : (fun c => v (ix2 r c)) = fun c => (q c : EReal)) (j : Fin 256) :
    k0_pay9 (k0_pay4 v) (k0_pay8 (F := Ideal)) g w (ix2 r j) = hng (fun c => v (ix2 r c)) (fun c => w (ix2 0 c)) (fun c => g (ix2 r c)) j := by
  pointwise [k0_pay9, k0_pay4]
  simp only [ones_apply]
  rw [ms_eq (fun c => v (ix2 r c)) q hq j]
  rfl

/-- The second branch's gated row. -/
theorem norm_b (v : FVec Ideal S512x256 .f32) (g : Vec Ideal S512x256 .f32) (w : Vec Ideal S1x256 .f32) (r : Fin 512)
    (q : Fin 256 → ℝ) (hq : (fun c => v (ix2 r c)) = fun c => (q c : EReal)) (j : Fin 256) :
    k0_pay10 (k0_pay5 v) (k0_pay8 (F := Ideal)) g w (ix2 r j) = hng (fun c => v (ix2 r c)) (fun c => w (ix2 0 c)) (fun c => g (ix2 r c)) j := by
  pointwise [k0_pay10, k0_pay5]
  simp only [ones_apply]
  rw [ms_eq (fun c => v (ix2 r c)) q hq j]
  rfl

/-- The fourth branch's gated row. -/
theorem norm_d (v : FVec Ideal S512x256 .f32) (g : Vec Ideal S512x256 .f32) (w : Vec Ideal S1x256 .f32) (r : Fin 512)
    (q : Fin 256 → ℝ) (hq : (fun c => v (ix2 r c)) = fun c => (q c : EReal)) (j : Fin 256) :
    k0_pay11 (k0_pay7 v) (k0_pay8 (F := Ideal)) g w (ix2 r j) = hng (fun c => v (ix2 r c)) (fun c => w (ix2 0 c)) (fun c => g (ix2 r c)) j := by
  pointwise [k0_pay11, k0_pay7]
  simp only [ones_apply]
  rw [ms_eq (fun c => v (ix2 r c)) q hq j]
  rfl

/-- The normed rows the gates read. -/
theorem xn_apply (x0 : Vec Ideal S512x1024 .f32) (x1 : Vec Ideal S1x1024 .f32) (r : Fin 512) (d : Fin 1024) :
    k0_pay3 x0 x1 (ix2 r d) = rms (fun k => x0 (ix2 r k)) (fun k => x1 (ix2 0 k)) d := by
  pointwise [k0_pay3, k0_pay2]
  rfl

/-- The merged row, from its parts. -/
def mergeRow (h : Fin 1024 → EReal) (oa ob oc od : Fin 256 → EReal) (ga gb gd wa wb wd : Fin 256 → EReal) (nw : Fin 1024 → EReal)
    (wm : Fin 1024 → Fin 4096 → EReal) (w : Fin 4 → Fin 256 → Fin 1024 → EReal) (wo : Fin 1024 → Fin 1024 → EReal) (j : Fin 1024) : EReal :=
  h j + ∑ i, (branch (rms h nw) (fun d i => wm d ⟨i.val, by omega⟩) (hng oa wa ga) (w 0) i
    + branch (rms h nw) (fun d i => wm d ⟨1024 + i.val, by omega⟩) (hng ob wb gb) (w 1) i
    + branch (rms h nw) (fun d i => wm d ⟨2048 + i.val, by omega⟩) oc (w 2) i
    + branch (rms h nw) (fun d i => wm d ⟨3072 + i.val, by omega⟩) (hng od wd gd) (w 3) i) * wo i j

/-- The result block of a point, at an element. -/
theorem out_apply (x0 : Vec Ideal S512x1024 .f32) (x1 x2 x3 x4 x5 x6 x7 : Vec Ideal S512x256 .f32) (x8 x9 x10 : Vec Ideal S1x256 .f32)
    (x11 : Vec Ideal S1x1024 .f32) (x12 : Vec Ideal S1024x4096 .bf16) (x13 : Vec Ideal S4x256x1024 .bf16) (x14 : Vec Ideal S1024x1024 .bf16)
    (r : Fin 512) (q1 q2 q4 : Fin 256 → ℝ) (h1 : (fun c => x1 (ix2 r c)) = fun c => (q1 c : EReal))
    (h2 : (fun c => x2 (ix2 r c)) = fun c => (q2 c : EReal)) (h4 : (fun c => x4 (ix2 r c)) = fun c => (q4 c : EReal)) (j : Fin 1024) :
    out0_15 x0 x1 x2 x3 x4 x5 x6 x7 x8 x9 x10 x11 x12 x13 x14 (ix2 r j)
      = mergeRow (fun k => x0 (ix2 r k)) (fun c => x1 (ix2 r c)) (fun c => x2 (ix2 r c)) (fun c => x3 (ix2 r c)) (fun c => x4 (ix2 r c))
          (fun c => x5 (ix2 r c)) (fun c => x6 (ix2 r c)) (fun c => x7 (ix2 r c)) (fun c => x8 (ix2 0 c)) (fun c => x9 (ix2 0 c))
          (fun c => x10 (ix2 0 c)) (fun k => x11 (ix2 0 k)) (fun d i => x12 (ix2 d i)) (fun k x i => x13 (ix3 k x i)) (fun i k => x14 (ix2 i k)) j := by
  unfold_out out0_15
  rw [View.canon_unit_zero hz2]
  simp only [View.ld_unit_zero (S := S512x1024) hz2, View.ld_unit_zero (S := S1x1024) hz2, View.ld_unit_zero (S := S512x256) hz2, View.ld_unit_zero (S := S1x256) hz2]
  rw [View.ld_unit_zero (S := S1024x1024) hz2 _ x14]
  simp only [View.ld_unit]
  pointwise [k0_pay1, k0_pay2, k0_pay6, k0_pay12, k0_pay13, k0_pay14, k0_pay15, k0_pay16, k0_pay17, k0_pay18, k0_pay19, k0_pay20, k0_pay21, k0_pay22]
  simp only [norm_a _ _ _ r q1 h1, norm_b _ _ _ r q2 h2, norm_d _ _ _ r q4 h4, xn_apply]
  simp only [mergeRow, branch, lgs]

end Cert.Kernel4Ideal.Hand
end
-- ==== Proof.Merge.Final.lean ====
module

public import proofs.«01_k».proof.Proof.Merge.Body
@[expose] public section

set_option maxRecDepth 16384
noncomputable section

namespace Cert.Kernel4Ideal.Hand

open Cert.Kernel4Ideal Cert.Kernel4Ideal.Gen Idealize.ShloMosaic Idealize.ShloMosaic.TcCoe Idealize.SL.Sem Cert.Hand
open Idealize.ShloMosaic.Pipeline (Dat)

/-- One token's columns of a mixer's output: the heads side by side. -/
def heads (x : Vec Ideal S8x4x2048x64 .f32) (b : Fin 8) (l : Fin 2048) (c : Fin 256) : EReal :=
  x (ix4 b ⟨c.val / 64, by omega⟩ l ⟨c.val % 64, by omega⟩)

/-- Row `R` of the flattened rows is token `R % 2048` of sequence `R / 2048`. -/
theorem flat_h (x : Vec Ideal S8x2048x1024 .f32) (R : Fin 16384) (d : Fin 1024) :
    shapeCast S16384x1024 x shapeCasts_S8x2048x1024_S16384x1024 (ix2 R d) = x (ix3 ⟨R.val / 2048, by omega⟩ ⟨R.val % 2048, by omega⟩ d) := by
  pointwise

/-- Row `R` of a mixer's flattened output. -/
theorem flat_o (x : Vec Ideal S8x4x2048x64 .f32) (R : Fin 16384) (c : Fin 256) :
    shapeCast S16384x256 (transpose S8x2048x4x64 [0, 2, 1, 3] x transposes_S8x4x2048x64_S8x2048x4x64_0_2_1_3) shapeCasts_S8x2048x4x64_S16384x256 (ix2 R c)
      = heads x ⟨R.val / 2048, by omega⟩ ⟨R.val % 2048, by omega⟩ c := by
  pointwise [heads]

/-- Row `l`, column `b * 256 + c` of the time-major array is token `l` of sequence `b`, column `c`. -/
theorem flat_c (x : Vec Ideal S8x2048x256 .f32) (b : Fin 8) (l : Fin 2048) (c : Fin 256) :
    shapeCast S2048x2048 (transpose S2048x8x256 [1, 0, 2] x transposes_S8x2048x256_S2048x8x256_1_0_2) shapeCasts_S2048x8x256_S2048x2048
      (ix2 l ⟨b.val * 256 + c.val, by omega⟩) = x (ix3 b l c) := by
  pointwise

/-- A gain of a head norm as a row. -/
theorem flat_g (x : Vec Ideal S256 .f32) (d : Fin 256) : shapeCast S1x256 x shapeCasts_S256_S1x256 (ix2 0 d) = x (ix1 d) := by
  pointwise
/-- The first gain as a row. -/
theorem flat_w (x : Vec Ideal S1024 .f32) (d : Fin 1024) : shapeCast S1x1024 x shapeCasts_S1024_S1x1024 (ix2 0 d) = x (ix1 d) := by
  pointwise
/-- The gates' columns of the input weights. -/
theorem flat_m (x : Vec Ideal S1024x7448 .f32) (d : Fin 1024) (i : Fin 4096) :
    extractStridedSlice S1024x4096 ![0, 3352] x slices_S1024x7448_S1024x4096_0_3352 (ix2 d i) = x (ix2 d ⟨3352 + i.val, by omega⟩) := by
  pointwise

variable (m : (ℓ : Loc nD τ sig) → Buf (Elt Ideal) ℓ)

/-- The array window 0 reads, from the argument. -/
theorem V_0 (c : Dev nD) : V m c main_v2 = shapeCast S16384x1024 (m (c.tc.loc main_arg0) : Vec Ideal S8x2048x1024 .f32) shapeCasts_S8x2048x1024_S16384x1024 := by
  unfold V
  after_results <;> rfl
/-- The array window 1 reads, from the argument. -/
theorem V_1 (c : Dev nD) : V m c main_v4 = shapeCast S16384x256 (transpose S8x2048x4x64 [0, 2, 1, 3] (m (c.tc.loc main_arg1) : Vec Ideal S8x4x2048x64 .f32) transposes_S8x4x2048x64_S8x2048x4x64_0_2_1_3) shapeCasts_S8x2048x4x64_S16384x256 := by
  unfold V
  after_results <;> rfl
/-- The array window 2 reads, from the argument. -/
theorem V_2 (c : Dev nD) : V m c main_v6 = shapeCast S16384x256 (transpose S8x2048x4x64 [0, 2, 1, 3] (m (c.tc.loc main_arg2) : Vec Ideal S8x4x2048x64 .f32) transposes_S8x4x2048x64_S8x2048x4x64_0_2_1_3) shapeCasts_S8x2048x4x64_S16384x256 := by
  unfold V
  after_results <;> rfl
/-- The array window 3 reads, from the argument. -/
theorem V_3 (c : Dev nD) : V m c main_v8 = shapeCast S2048x2048 (transpose S2048x8x256 [1, 0, 2] (m (c.tc.loc main_arg3) : Vec Ideal S8x2048x256 .f32) transposes_S8x2048x256_S2048x8x256_1_0_2) shapeCasts_S2048x8x256_S2048x2048 := by
  unfold V
  after_results <;> rfl
/-- The array window 4 reads, from the argument. -/
theorem V_4 (c : Dev nD) : V m c main_v10 = shapeCast S16384x256 (transpose S8x2048x4x64 [0, 2, 1, 3] (m (c.tc.loc main_arg4) : Vec Ideal S8x4x2048x64 .f32) transposes_S8x4x2048x64_S8x2048x4x64_0_2_1_3) shapeCasts_S8x2048x4x64_S16384x256 := by
  unfold V
  after_results <;> rfl
/-- The array window 5 reads is the argument. -/
theorem V_5 (c : Dev nD) : V m c main_arg5 = (m (c.tc.loc main_arg5) : Vec Ideal S16384x1536 .f32) := V_main_arg5 m c
/-- The array window 6 reads is the argument. -/
theorem V_6 (c : Dev nD) : V m c main_arg6 = (m (c.tc.loc main_arg6) : Vec Ideal S16384x1280 .f32) := V_main_arg6 m c
/-- The array window 7 reads is the argument. -/
theorem V_7 (c : Dev nD) : V m c main_arg7 = (m (c.tc.loc main_arg7) : Vec Ideal S16384x1280 .f32) := V_main_arg7 m c
/-- The array window 8 reads, from the argument. -/
theorem V_8 (c : Dev nD) : V m c main_v14 = shapeCast S1x256 (m (c.tc.loc main_arg8) : Vec Ideal S256 .f32) shapeCasts_S256_S1x256 := by
  unfold V
  after_results <;> rfl
/-- The array window 9 reads, from the argument. -/
theorem V_9 (c : Dev nD) : V m c main_v15 = shapeCast S1x256 (m (c.tc.loc main_arg9) : Vec Ideal S256 .f32) shapeCasts_S256_S1x256 := by
  unfold V
  after_results <;> rfl
/-- The array window 10 reads, from the argument. -/
theorem V_10 (c : Dev nD) : V m c main_v16 = shapeCast S1x256 (m (c.tc.loc main_arg10) : Vec Ideal S256 .f32) shapeCasts_S256_S1x256 := by
  unfold V
  after_results <;> rfl
/-- The array window 11 reads, from the argument. -/
theorem V_11 (c : Dev nD) : V m c main_v11 = shapeCast S1x1024 (m (c.tc.loc main_arg11) : Vec Ideal S1024 .f32) shapeCasts_S1024_S1x1024 := by
  unfold V
  after_results <;> rfl
/-- The array window 12 reads, from the argument. -/
theorem V_12 (c : Dev nD) : V m c main_v1 = extractStridedSlice S1024x4096 ![0, 3352] (m (c.tc.loc main_arg12) : Vec Ideal S1024x7448 .f32) slices_S1024x7448_S1024x4096_0_3352 := by
  unfold V
  after_results <;> rfl
/-- The array window 13 reads, from the argument. -/
theorem V_13 (c : Dev nD) : V m c main_v12 = (m (c.tc.loc main_arg13) : Vec Ideal S4x256x1024 .f32) := by
  unfold V
  after_results <;> rfl
/-- The array window 14 reads, from the argument. -/
theorem V_14 (c : Dev nD) : V m c main_v13 = (m (c.tc.loc main_arg14) : Vec Ideal S1024x1024 .f32) := by
  unfold V
  after_results <;> rfl

/-- Which block window 0 takes at point `t`. -/
theorem idx0 : ∀ t : Fin cfg0.N, win0_0.index t 0 = t.val ∧ win0_0.index t 1 = 0 :=
  (by decide +kernel : ∀ t : Fin grid0.N, win0_0.index t 0 = t.val ∧ win0_0.index t 1 = 0)
/-- Which block window 1 takes at point `t`. -/
theorem idx1 : ∀ t : Fin cfg0.N, win0_1.index t 0 = t.val ∧ win0_1.index t 1 = 0 :=
  (by decide +kernel : ∀ t : Fin grid0.N, win0_1.index t 0 = t.val ∧ win0_1.index t 1 = 0)
/-- Which block window 2 takes at point `t`. -/
theorem idx2 : ∀ t : Fin cfg0.N, win0_2.index t 0 = t.val ∧ win0_2.index t 1 = 0 :=
  (by decide +kernel : ∀ t : Fin grid0.N, win0_2.index t 0 = t.val ∧ win0_2.index t 1 = 0)
/-- Which block window 3 takes at point `t`. -/
theorem idx3 : ∀ t : Fin cfg0.N, win0_3.index t 0 = t.val % 4 ∧ win0_3.index t 1 = t.val / 4 :=
  (by decide +kernel : ∀ t : Fin grid0.N, win0_3.index t 0 = t.val % 4 ∧ win0_3.index t 1 = t.val / 4)
/-- Which block window 4 takes at point `t`. -/
theorem idx4 : ∀ t : Fin cfg0.N, win0_4.index t 0 = t.val ∧ win0_4.index t 1 = 0 :=
  (by decide +kernel : ∀ t : Fin grid0.N, win0_4.index t 0 = t.val ∧ win0_4.index t 1 = 0)
/-- Which block window 5 takes at point `t`. -/
theorem idx5 : ∀ t : Fin cfg0.N, win0_5.index t 0 = t.val ∧ win0_5.index t 1 = 3 :=
  (by decide +kernel : ∀ t : Fin grid0.N, win0_5.index t 0 = t.val ∧ win0_5.index t 1 = 3)
/-- Which block window 6 takes at point `t`. -/
theorem idx6 : ∀ t : Fin cfg0.N, win0_6.index t 0 = t.val ∧ win0_6.index t 1 = 3 :=
  (by decide +kernel : ∀ t : Fin grid0.N, win0_6.index t 0 = t.val ∧ win0_6.index t 1 = 3)
/-- Which block window 7 takes at point `t`. -/
theorem idx7 : ∀ t : Fin cfg0.N, win0_7.index t 0 = t.val ∧ win0_7.index t 1 = 3 :=
  (by decide +kernel : ∀ t : Fin grid0.N, win0_7.index t 0 = t.val ∧ win0_7.index t 1 = 3)
/-- Which block window 8 takes at point `t`. -/
theorem idx8 : ∀ t : Fin cfg0.N, win0_8.index t 0 = 0 ∧ win0_8.index t 1 = 0 :=
  (by decide +kernel : ∀ t : Fin grid0.N, win0_8.index t 0 = 0 ∧ win0_8.index t 1 = 0)
/-- Which block window 9 takes at point `t`. -/
theorem idx9 : ∀ t : Fin cfg0.N, win0_9.index t 0 = 0 ∧ win0_9.index t 1 = 0 :=
  (by decide +kernel : ∀ t : Fin grid0.N, win0_9.index t 0 = 0 ∧ win0_9.index t 1 = 0)
/-- Which block window 10 takes at point `t`. -/
theorem idx10 : ∀ t : Fin cfg0.N, win0_10.index t 0 = 0 ∧ win0_10.index t 1 = 0 :=
  (by decide +kernel : ∀ t : Fin grid0.N, win0_10.index t 0 = 0 ∧ win0_10.index t 1 = 0)
/-- Which block window 11 takes at point `t`. -/
theorem idx11 : ∀ t : Fin cfg0.N, win0_11.index t 0 = 0 ∧ win0_11.index t 1 = 0 :=
  (by decide +kernel : ∀ t : Fin grid0.N, win0_11.index t 0 = 0 ∧ win0_11.index t 1 = 0)
/-- Which block window 12 takes at point `t`. -/
theorem idx12 : ∀ t : Fin cfg0.N, win0_12.index t 0 = 0 ∧ win0_12.index t 1 = 0 :=
  (by decide +kernel : ∀ t : Fin grid0.N, win0_12.index t 0 = 0 ∧ win0_12.index t 1 = 0)
/-- Which block window 13 takes at point `t`. -/
theorem idx13 : ∀ t : Fin cfg0.N, win0_13.index t 0 = 0 ∧ win0_13.index t 1 = 0 ∧ win0_13.index t 2 = 0 :=
  (by decide +kernel : ∀ t : Fin grid0.N, win0_13.index t 0 = 0 ∧ win0_13.index t 1 = 0 ∧ win0_13.index t 2 = 0)
/-- Which block window 14 takes at point `t`. -/
theorem idx14 : ∀ t : Fin cfg0.N, win0_14.index t 0 = 0 ∧ win0_14.index t 1 = 0 :=
  (by decide +kernel : ∀ t : Fin grid0.N, win0_14.index t 0 = 0 ∧ win0_14.index t 1 = 0)
/-- Which block window 15 takes at point `t`. -/
theorem idx15 : ∀ t : Fin cfg0.N, win0_15.index t 0 = t.val ∧ win0_15.index t 1 = 0 :=
  (by decide +kernel : ∀ t : Fin grid0.N, win0_15.index t 0 = t.val ∧ win0_15.index t 1 = 0)

/-- The block window 0 reads at point `t`, at an element. -/
theorem blk0 (c : Dev nD) (t : Fin cfg0.N) (R : Fin 16384) (r : Fin 512) (hR : R.val = t.val * 512 + r.val) (d : Fin 1024) :
    iblk m c 0 t (ix2 r d) = (m (c.tc.loc main_arg0) : Vec Ideal S8x2048x1024 .f32) (ix3 ⟨R.val / 2048, by omega⟩ ⟨R.val % 2048, by omega⟩ d) := by
  refine Eq.trans ?_ ((congrFun (V_0 m c) (ix2 R d)).trans (flat_h _ R d))
  show V m c main_v2 ((win0_0.rect t).emb (ix2 r d)) = _
  refine congrArg (V m c main_v2) (funext fun a => Fin.ext ?_)
  obtain ⟨e0, e1⟩ := idx0 t
  refine (Pipeline.Window.rect_emb_val win0_0 t _ a).trans ?_
  match a with
  | ⟨0, _⟩ => show win0_0.index t 0 * 512 + r.val = R.val; omega
  | ⟨1, _⟩ => show win0_0.index t 1 * 1024 + d.val = d.val; omega

/-- The block window 1 reads at point `t`, at an element. -/
theorem blk1 (c : Dev nD) (t : Fin cfg0.N) (R : Fin 16384) (r : Fin 512) (hR : R.val = t.val * 512 + r.val) (d : Fin 256) :
    iblk m c 1 t (ix2 r d) = heads (m (c.tc.loc main_arg1) : Vec Ideal S8x4x2048x64 .f32) ⟨R.val / 2048, by omega⟩ ⟨R.val % 2048, by omega⟩ d := by
  refine Eq.trans ?_ ((congrFun (V_1 m c) (ix2 R d)).trans (flat_o _ R d))
  show V m c main_v4 ((win0_1.rect t).emb (ix2 r d)) = _
  refine congrArg (V m c main_v4) (funext fun a => Fin.ext ?_)
  obtain ⟨e0, e1⟩ := idx1 t
  refine (Pipeline.Window.rect_emb_val win0_1 t _ a).trans ?_
  match a with
  | ⟨0, _⟩ => show win0_1.index t 0 * 512 + r.val = R.val; omega
  | ⟨1, _⟩ => show win0_1.index t 1 * 256 + d.val = d.val; omega

/-- The block window 2 reads at point `t`, at an element. -/
theorem blk2 (c : Dev nD) (t : Fin cfg0.N) (R : Fin 16384) (r : Fin 512) (hR : R.val = t.val * 512 + r.val) (d : Fin 256) :
    iblk m c 2 t (ix2 r d) = heads (m (c.tc.loc main_arg2) : Vec Ideal S8x4x2048x64 .f32) ⟨R.val / 2048, by omega⟩ ⟨R.val % 2048, by omega⟩ d := by
  refine Eq.trans ?_ ((congrFun (V_2 m c) (ix2 R d)).trans (flat_o _ R d))
  show V m c main_v6 ((win0_2.rect t).emb (ix2 r d)) = _
  refine congrArg (V m c main_v6) (funext fun a => Fin.ext ?_)
  obtain ⟨e0, e1⟩ := idx2 t
  refine (Pipeline.Window.rect_emb_val win0_2 t _ a).trans ?_
  match a with
  | ⟨0, _⟩ => show win0_2.index t 0 * 512 + r.val = R.val; omega
  | ⟨1, _⟩ => show win0_2.index t 1 * 256 + d.val = d.val; omega

/-- The block window 4 reads at point `t`, at an element. -/
theorem blk4 (c : Dev nD) (t : Fin cfg0.N) (R : Fin 16384) (r : Fin 512) (hR : R.val = t.val * 512 + r.val) (d : Fin 256) :
    iblk m c 4 t (ix2 r d) = heads (m (c.tc.loc main_arg4) : Vec Ideal S8x4x2048x64 .f32) ⟨R.val / 2048, by omega⟩ ⟨R.val % 2048, by omega⟩ d := by
  refine Eq.trans ?_ ((congrFun (V_4 m c) (ix2 R d)).trans (flat_o _ R d))
  show V m c main_v10 ((win0_4.rect t).emb (ix2 r d)) = _
  refine congrArg (V m c main_v10) (funext fun a => Fin.ext ?_)
  obtain ⟨e0, e1⟩ := idx4 t
  refine (Pipeline.Window.rect_emb_val win0_4 t _ a).trans ?_
  match a with
  | ⟨0, _⟩ => show win0_4.index t 0 * 512 + r.val = R.val; omega
  | ⟨1, _⟩ => show win0_4.index t 1 * 256 + d.val = d.val; omega

/-- The block window 3 reads at point `t`, at an element. -/
theorem blk3 (c : Dev nD) (t : Fin cfg0.N) (R : Fin 16384) (r : Fin 512) (hR : R.val = t.val * 512 + r.val) (d : Fin 256) :
    iblk m c 3 t (ix2 r d) = (m (c.tc.loc main_arg3) : Vec Ideal S8x2048x256 .f32) (ix3 ⟨R.val / 2048, by omega⟩ ⟨R.val % 2048, by omega⟩ d) := by
  have hN : cfg0.N = 32 := N_0
  refine Eq.trans ?_ ((congrFun (V_3 m c) (ix2 (⟨R.val % 2048, by omega⟩ : Fin 2048) (⟨(⟨R.val / 2048, by omega⟩ : Fin 8).val * 256 + d.val, by dsimp only; omega⟩ : Fin 2048))).trans (flat_c _ ⟨R.val / 2048, by omega⟩ ⟨R.val % 2048, by omega⟩ d))
  show V m c main_v8 ((win0_3.rect t).emb (ix2 r d)) = _
  refine congrArg (V m c main_v8) (funext fun a => Fin.ext ?_)
  obtain ⟨e0, e1⟩ := idx3 t
  refine (Pipeline.Window.rect_emb_val win0_3 t _ a).trans ?_
  match a with
  | ⟨0, _⟩ => show win0_3.index t 0 * 512 + r.val = R.val % 2048; omega
  | ⟨1, _⟩ => show win0_3.index t 1 * 256 + d.val = R.val / 2048 * 256 + d.val; omega

/-- The block window 5 reads at point `t`, at an element. -/
theorem blk5 (c : Dev nD) (t : Fin cfg0.N) (R : Fin 16384) (r : Fin 512) (hR : R.val = t.val * 512 + r.val) (d : Fin 256) :
    iblk m c 5 t (ix2 r d) = (m (c.tc.loc main_arg5) : Vec Ideal S16384x1536 .f32) (ix2 R ⟨768 + d.val, by omega⟩) := by
  refine Eq.trans ?_ ((congrFun (V_5 m c) (ix2 R (⟨768 + d.val, by omega⟩ : Fin 1536))))
  show V m c main_arg5 ((win0_5.rect t).emb (ix2 r d)) = _
  refine congrArg (V m c main_arg5) (funext fun a => Fin.ext ?_)
  obtain ⟨e0, e1⟩ := idx5 t
  refine (Pipeline.Window.rect_emb_val win0_5 t _ a).trans ?_
  match a with
  | ⟨0, _⟩ => show win0_5.index t 0 * 512 + r.val = R.val; omega
  | ⟨1, _⟩ => show win0_5.index t 1 * 256 + d.val = 768 + d.val; omega

/-- The block window 6 reads at point `t`, at an element. -/
theorem blk6 (c : Dev nD) (t : Fin cfg0.N) (R : Fin 16384) (r : Fin 512) (hR : R.val = t.val * 512 + r.val) (d : Fin 256) :
    iblk m c 6 t (ix2 r d) = (m (c.tc.loc main_arg6) : Vec Ideal S16384x1280 .f32) (ix2 R ⟨768 + d.val, by omega⟩) := by
  refine Eq.trans ?_ ((congrFun (V_6 m c) (ix2 R (⟨768 + d.val, by omega⟩ : Fin 1280))))
  show V m c main_arg6 ((win0_6.rect t).emb (ix2 r d)) = _
  refine congrArg (V m c main_arg6) (funext fun a => Fin.ext ?_)
  obtain ⟨e0, e1⟩ := idx6 t
  refine (Pipeline.Window.rect_emb_val win0_6 t _ a).trans ?_
  match a with
  | ⟨0, _⟩ => show win0_6.index t 0 * 512 + r.val = R.val; omega
  | ⟨1, _⟩ => show win0_6.index t 1 * 256 + d.val = 768 + d.val; omega

/-- The block window 7 reads at point `t`, at an element. -/
theorem blk7 (c : Dev nD) (t : Fin cfg0.N) (R : Fin 16384) (r : Fin 512) (hR : R.val = t.val * 512 + r.val) (d : Fin 256) :
    iblk m c 7 t (ix2 r d) = (m (c.tc.loc main_arg7) : Vec Ideal S16384x1280 .f32) (ix2 R ⟨768 + d.val, by omega⟩) := by
  refine Eq.trans ?_ ((congrFun (V_7 m c) (ix2 R (⟨768 + d.val, by omega⟩ : Fin 1280))))
  show V m c main_arg7 ((win0_7.rect t).emb (ix2 r d)) = _
  refine congrArg (V m c main_arg7) (funext fun a => Fin.ext ?_)
  obtain ⟨e0, e1⟩ := idx7 t
  refine (Pipeline.Window.rect_emb_val win0_7 t _ a).trans ?_
  match a with
  | ⟨0, _⟩ => show win0_7.index t 0 * 512 + r.val = R.val; omega
  | ⟨1, _⟩ => show win0_7.index t 1 * 256 + d.val = 768 + d.val; omega

/-- The block window 8 reads at point `t`, at an element. -/
theorem blk8 (c : Dev nD) (t : Fin cfg0.N)  (d : Fin 256) :
    iblk m c 8 t (ix2 0 d) = (m (c.tc.loc main_arg8) : Vec Ideal S256 .f32) (ix1 d) := by
  refine Eq.trans ?_ ((congrFun (V_8 m c) (ix2 0 d)).trans (flat_g _ d))
  show V m c main_v14 ((win0_8.rect t).emb (ix2 0 d)) = _
  refine congrArg (V m c main_v14) (funext fun a => Fin.ext ?_)
  obtain ⟨e0, e1⟩ := idx8 t
  refine (Pipeline.Window.rect_emb_val win0_8 t _ a).trans ?_
  match a with
  | ⟨0, _⟩ => show win0_8.index t 0 * 1 + 0 = 0; omega
  | ⟨1, _⟩ => show win0_8.index t 1 * 256 + d.val = d.val; omega

/-- The block window 9 reads at point `t`, at an element. -/
theorem blk9 (c : Dev nD) (t : Fin cfg0.N)  (d : Fin 256) :
    iblk m c 9 t (ix2 0 d) = (m (c.tc.loc main_arg9) : Vec Ideal S256 .f32) (ix1 d) := by
  refine Eq.trans ?_ ((congrFun (V_9 m c) (ix2 0 d)).trans (flat_g _ d))
  show V m c main_v15 ((win0_9.rect t).emb (ix2 0 d)) = _
  refine congrArg (V m c main_v15) (funext fun a => Fin.ext ?_)
  obtain ⟨e0, e1⟩ := idx9 t
  refine (Pipeline.Window.rect_emb_val win0_9 t _ a).trans ?_
  match a with
  | ⟨0, _⟩ => show win0_9.index t 0 * 1 + 0 = 0; omega
  | ⟨1, _⟩ => show win0_9.index t 1 * 256 + d.val = d.val; omega

/-- The block window 10 reads at point `t`, at an element. -/
theorem blk10 (c : Dev nD) (t : Fin cfg0.N)  (d : Fin 256) :
    iblk m c 10 t (ix2 0 d) = (m (c.tc.loc main_arg10) : Vec Ideal S256 .f32) (ix1 d) := by
  refine Eq.trans ?_ ((congrFun (V_10 m c) (ix2 0 d)).trans (flat_g _ d))
  show V m c main_v16 ((win0_10.rect t).emb (ix2 0 d)) = _
  refine congrArg (V m c main_v16) (funext fun a => Fin.ext ?_)
  obtain ⟨e0, e1⟩ := idx10 t
  refine (Pipeline.Window.rect_emb_val win0_10 t _ a).trans ?_
  match a with
  | ⟨0, _⟩ => show win0_10.index t 0 * 1 + 0 = 0; omega
  | ⟨1, _⟩ => show win0_10.index t 1 * 256 + d.val = d.val; omega

/-- The block window 11 reads at point `t`, at an element. -/
theorem blk11 (c : Dev nD) (t : Fin cfg0.N)  (d : Fin 1024) :
    iblk m c 11 t (ix2 0 d) = (m (c.tc.loc main_arg11) : Vec Ideal S1024 .f32) (ix1 d) := by
  refine Eq.trans ?_ ((congrFun (V_11 m c) (ix2 0 d)).trans (flat_w _ d))
  show V m c main_v11 ((win0_11.rect t).emb (ix2 0 d)) = _
  refine congrArg (V m c main_v11) (funext fun a => Fin.ext ?_)
  obtain ⟨e0, e1⟩ := idx11 t
  refine (Pipeline.Window.rect_emb_val win0_11 t _ a).trans ?_
  match a with
  | ⟨0, _⟩ => show win0_11.index t 0 * 1 + 0 = 0; omega
  | ⟨1, _⟩ => show win0_11.index t 1 * 1024 + d.val = d.val; omega

/-- The block window 12 reads at point `t`, at an element. -/
theorem blk12 (c : Dev nD) (t : Fin cfg0.N)  (d : Fin 1024) (i : Fin 4096) :
    iblk m c 12 t (ix2 d i) = (m (c.tc.loc main_arg12) : Vec Ideal S1024x7448 .f32) (ix2 d ⟨3352 + i.val, by omega⟩) := by
  refine Eq.trans ?_ ((congrFun (V_12 m c) (ix2 d i)).trans (flat_m _ d i))
  show V m c main_v1 ((win0_12.rect t).emb (ix2 d i)) = _
  refine congrArg (V m c main_v1) (funext fun a => Fin.ext ?_)
  obtain ⟨e0, e1⟩ := idx12 t
  refine (Pipeline.Window.rect_emb_val win0_12 t _ a).trans ?_
  match a with
  | ⟨0, _⟩ => show win0_12.index t 0 * 1024 + d.val = d.val; omega
  | ⟨1, _⟩ => show win0_12.index t 1 * 4096 + i.val = i.val; omega

/-- The block window 13 reads at point `t`, at an element. -/
theorem blk13 (c : Dev nD) (t : Fin cfg0.N)  (k : Fin 4) (x : Fin 256) (i : Fin 1024) :
    iblk m c 13 t (ix3 k x i) = (m (c.tc.loc main_arg13) : Vec Ideal S4x256x1024 .f32) (ix3 k x i) := by
  refine Eq.trans ?_ ((congrFun (V_13 m c) (ix3 k x i)))
  show V m c main_v12 ((win0_13.rect t).emb (ix3 k x i)) = _
  refine congrArg (V m c main_v12) (funext fun a => Fin.ext ?_)
  obtain ⟨e0, e1, e2⟩ := idx13 t
  refine (Pipeline.Window.rect_emb_val win0_13 t _ a).trans ?_
  match a with
  | ⟨0, _⟩ => show win0_13.index t 0 * 4 + k.val = k.val; omega
  | ⟨1, _⟩ => show win0_13.index t 1 * 256 + x.val = x.val; omega
  | ⟨2, _⟩ => show win0_13.index t 2 * 1024 + i.val = i.val; omega

/-- The block window 14 reads at point `t`, at an element. -/
theorem blk14 (c : Dev nD) (t : Fin cfg0.N)  (i j : Fin 1024) :
    iblk m c 14 t (ix2 i j) = (m (c.tc.loc main_arg14) : Vec Ideal S1024x1024 .f32) (ix2 i j) := by
  refine Eq.trans ?_ ((congrFun (V_14 m c) (ix2 i j)))
  show V m c main_v13 ((win0_14.rect t).emb (ix2 i j)) = _
  refine congrArg (V m c main_v13) (funext fun a => Fin.ext ?_)
  obtain ⟨e0, e1⟩ := idx14 t
  refine (Pipeline.Window.rect_emb_val win0_14 t _ a).trans ?_
  match a with
  | ⟨0, _⟩ => show win0_14.index t 0 * 1024 + i.val = i.val; omega
  | ⟨1, _⟩ => show win0_14.index t 1 * 1024 + j.val = j.val; omega

/-- Where element `(r, j)` of point `t`'s rows lies in the result array. -/
theorem emb15 (t : Fin cfg0.N) (R : Fin 16384) (r : Fin 512) (hR : R.val = t.val * 512 + r.val) (j : Fin 1024) :
    (win0_15.rect t).emb (ix2 r j) = (ix2 R j : S16384x1024.Idx) := by
  refine funext fun a => Fin.ext ?_
  obtain ⟨e0, e1⟩ := idx15 t
  refine (Pipeline.Window.rect_emb_val win0_15 t _ a).trans ?_
  match a with
  | ⟨0, _⟩ => show win0_15.index t 0 * 512 + r.val = R.val; rw [e0, hR]
  | ⟨1, _⟩ => show win0_15.index t 1 * 1024 + j.val = j.val; rw [e1]; omega

/-- The merged row of token `l` of sequence `b`, which is row `R` of the prepared columns, from the argument arrays. -/
def tokenRow (x0 : Vec Ideal S8x2048x1024 .f32) (x1 : Vec Ideal S8x4x2048x64 .f32) (x2 : Vec Ideal S8x4x2048x64 .f32) (x3 : Vec Ideal S8x2048x256 .f32) (x4 : Vec Ideal S8x4x2048x64 .f32) (x5 : Vec Ideal S16384x1536 .f32) (x6 : Vec Ideal S16384x1280 .f32) (x7 : Vec Ideal S16384x1280 .f32) (x8 : Vec Ideal S256 .f32) (x9 : Vec Ideal S256 .f32) (x10 : Vec Ideal S256 .f32) (x11 : Vec Ideal S1024 .f32) (x12 : Vec Ideal S1024x7448 .f32) (x13 : Vec Ideal S4x256x1024 .f32) (x14 : Vec Ideal S1024x1024 .f32)
    (b : Fin 8) (l : Fin 2048) (R : Fin 16384) (j : Fin 1024) : EReal :=
  mergeRow (fun k => x0 (ix3 b l k)) (heads x1 b l) (heads x2 b l) (fun c => x3 (ix3 b l c)) (heads x4 b l)
    (fun c => x5 (ix2 R ⟨768 + c.val, by omega⟩)) (fun c => x6 (ix2 R ⟨768 + c.val, by omega⟩)) (fun c => x7 (ix2 R ⟨768 + c.val, by omega⟩))
    (fun c => x8 (ix1 c)) (fun c => x9 (ix1 c)) (fun c => x10 (ix1 c)) (fun k => x11 (ix1 k)) (fun d i => x12 (ix2 d ⟨3352 + i.val, by omega⟩))
    (fun k x i => x13 (ix3 k x i)) (fun i k => x14 (ix2 i k)) j

/-- The result array after the run, when the mixers' outputs are real numbers. -/
theorem final_y (c : Dev nD) (q1 q2 q4 : S8x4x2048x64.Idx → ℝ) (h1 : (m (c.tc.loc main_arg1) : Vec Ideal S8x4x2048x64 .f32) = fun i => (q1 i : EReal))
    (h2 : (m (c.tc.loc main_arg2) : Vec Ideal S8x4x2048x64 .f32) = fun i => (q2 i : EReal)) (h4 : (m (c.tc.loc main_arg4) : Vec Ideal S8x4x2048x64 .f32) = fun i => (q4 i : EReal)) (R : Fin 16384) (j : Fin 1024) :
    (dats m 0 c).arrAt 15 cfg0.N (ix2 R j) = tokenRow (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) ⟨R.val / 2048, by omega⟩ ⟨R.val % 2048, by omega⟩ R j := by
  have hN : cfg0.N = 32 := N_0
  obtain ⟨t, ht⟩ : ∃ t : Fin cfg0.N, t.val = R.val / 512 := ⟨⟨R.val / 512, by omega⟩, rfl⟩
  obtain ⟨r, hr⟩ : ∃ r : Fin 512, r.val = R.val % 512 := ⟨⟨R.val % 512, by omega⟩, rfl⟩
  have hR : R.val = t.val * 512 + r.val := by omega
  have e := congrFun (Value.blocks15 m c t (flush0_15 _)) (ix2 r j)
  rw [Value.flushed15] at e
  have e' : (dats m 0 c).arrAt 15 cfg0.N ((win0_15.rect t).emb (ix2 r j)) =
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) := e
  rw [emb15 t R r hR] at e'
  have g1 : (fun d => iblk m c 1 t (ix2 r d)) = fun d => ((q1 (ix4 ⟨R.val / 2048, by omega⟩ ⟨d.val / 64, by omega⟩ ⟨R.val % 2048, by omega⟩ ⟨d.val % 64, by omega⟩) : ℝ) : EReal) := by
    funext d
    rw [blk1 m c t R r hR]
    exact congrFun h1 _
  have g2 : (fun d => iblk m c 2 t (ix2 r d)) = fun d => ((q2 (ix4 ⟨R.val / 2048, by omega⟩ ⟨d.val / 64, by omega⟩ ⟨R.val % 2048, by omega⟩ ⟨d.val % 64, by omega⟩) : ℝ) : EReal) := by
    funext d
    rw [blk2 m c t R r hR]
    exact congrFun h2 _
  have g4 : (fun d => iblk m c 4 t (ix2 r d)) = fun d => ((q4 (ix4 ⟨R.val / 2048, by omega⟩ ⟨d.val / 64, by omega⟩ ⟨R.val % 2048, by omega⟩ ⟨d.val % 64, by omega⟩) : ℝ) : EReal) := by
    funext d
    rw [blk4 m c t R r hR]
    exact congrFun h4 _
  rw [e', out_apply _ _ _ _ _ _ _ _ _ _ _ _ _ _ _ r _ _ _ g1 g2 g4]
  unfold tokenRow
  simp only [blk0 m c t R r hR, blk1 m c t R r hR, blk2 m c t R r hR, blk3 m c t R r hR, blk4 m c t R r hR, blk5 m c t R r hR, blk6 m c t R r hR, blk7 m c t R r hR, blk8 m c t, blk9 m c t, blk10 m c t, blk11 m c t, blk12 m c t, blk13 m c t, blk14 m c t]
  try rfl

end Cert.Kernel4Ideal.Hand
end
-- ==== Proof.Merge.Equal.lean ====
module

public import proofs.«01_k».proof.Defs
public import proofs.«01_k».proof.Proof.Merge.Final
public import proofs.«01_k».proof.Proof.Gen.Reference4Ideal.Run
public import proofs.«01_k».proof.Proof.Gen.Reference4Ideal.Read
public import proofs.«01_k».proof.Proof.Gen.Pre_merge_finite
@[expose] public section

set_option maxRecDepth 16384
noncomputable section

namespace Cert.Reference4Ideal.Hand

open Cert.Reference4Ideal Cert.Reference4Ideal.Gen Cert.Reference4Ideal.Read Idealize.ShloMosaic Idealize.ShloMosaic.TcCoe Idealize.SL.Sem Cert.Hand
open Cert.Kernel4Ideal.Hand (heads mergeRow tokenRow)

variable (x0 : FVec Ideal S8x2048x1024 .f32) (x1 : FVec Ideal S8x4x2048x64 .f32) (x2 : FVec Ideal S8x4x2048x64 .f32) (x3 : FVec Ideal S8x2048x256 .f32) (x4 : FVec Ideal S8x4x2048x64 .f32) (x5 : FVec Ideal S16384x1536 .f32) (x6 : FVec Ideal S16384x1280 .f32) (x7 : FVec Ideal S16384x1280 .f32) (x8 : FVec Ideal S256 .f32) (x9 : FVec Ideal S256 .f32) (x10 : FVec Ideal S256 .f32) (x11 : FVec Ideal S1024 .f32) (x12 : FVec Ideal S1024x7448 .f32) (x13 : FVec Ideal S4x256x1024 .f32) (x14 : FVec Ideal S1024x1024 .f32)

/-- The normalised rows. -/
theorem v12_apply (b : Fin 8) (l : Fin 2048) (d : Fin 1024) :
    val_main_v12 (F := Ideal) x0 x11 (ix3 b l d) = rms (fun k => x0 (ix3 b l k)) (fun k => x11 (ix1 k)) d := by
  pointwise [val_main_v12, val_main_v11, val_main_v10, val_main_v9, val_main_v8, val_main_v7, val_main_v6, val_main_v5, val_main_cst_1,
    val_main_v4, val_main_v3, val_main_cst_0, val_main_v2, val_main_v1, val_main_cst, val_main_v0, rms]

/-- A group of 64 columns, taken apart into head and coordinate. -/
theorem heads_group (x : FVec Ideal S8x4x2048x64 .f32) (b : Fin 8) (l : Fin 2048) (c : Fin 256) (k : Fin 64) :
    heads x b l ⟨c.val / 64 * 64 + k.val, by omega⟩ = x (ix4 b ⟨c.val / 64, by omega⟩ l k) := by
  have e1 : (⟨(c.val / 64 * 64 + k.val) / 64, by omega⟩ : Fin 4) = ⟨c.val / 64, by omega⟩ := Fin.ext (by dsimp only; omega)
  have e2 : (⟨(c.val / 64 * 64 + k.val) % 64, by omega⟩ : Fin 64) = k := Fin.ext (by dsimp only; omega)
  show x (ix4 b ⟨(c.val / 64 * 64 + k.val) / 64, _⟩ l ⟨(c.val / 64 * 64 + k.val) % 64, _⟩) = _
  rw [e1, e2]

/-- A branch's normed and gated columns. -/
theorem v32_apply (b : Fin 8) (l : Fin 2048) (c : Fin 256) (R : Fin 16384) (hR : R.val = b.val * 2048 + l.val) :
    val_main_v32 (F := Ideal) x1 x5 x8 (ix3 b l c) =
      hng (heads x1 b l) (fun c => x8 (ix1 c)) (fun c => x5 (ix2 R ⟨768 + c.val, by omega⟩)) c := by
  obtain rfl : (⟨b.val * 2048 + l.val, by clear hR; omega⟩ : Fin 16384) = R := Fin.ext hR.symm
  unfold hng
  simp only [heads_group]
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_cst_2, val_main_cst_3, val_main_cst_4, heads]
/-- A branch's normed and gated columns. -/
theorem v50_apply (b : Fin 8) (l : Fin 2048) (c : Fin 256) (R : Fin 16384) (hR : R.val = b.val * 2048 + l.val) :
    val_main_v50 (F := Ideal) x2 x6 x9 (ix3 b l c) =
      hng (heads x2 b l) (fun c => x9 (ix1 c)) (fun c => x6 (ix2 R ⟨768 + c.val, by omega⟩)) c := by
  obtain rfl : (⟨b.val * 2048 + l.val, by clear hR; omega⟩ : Fin 16384) = R := Fin.ext hR.symm
  unfold hng
  simp only [heads_group]
  pointwise [val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_cst_5, val_main_cst_6, val_main_cst_7, heads]
/-- A branch's normed and gated columns. -/
theorem v68_apply (b : Fin 8) (l : Fin 2048) (c : Fin 256) (R : Fin 16384) (hR : R.val = b.val * 2048 + l.val) :
    val_main_v68 (F := Ideal) x4 x7 x10 (ix3 b l c) =
      hng (heads x4 b l) (fun c => x10 (ix1 c)) (fun c => x7 (ix2 R ⟨768 + c.val, by omega⟩)) c := by
  obtain rfl : (⟨b.val * 2048 + l.val, by clear hR; omega⟩ : Fin 16384) = R := Fin.ext hR.symm
  unfold hng
  simp only [heads_group]
  pointwise [val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_cst_8, val_main_cst_9, val_main_cst_10, heads]

/-- The gate products. -/
theorem v76_apply (b : Fin 8) (l : Fin 2048) (k : Fin 4) (i : Fin 1024) :
    val_main_v76 (F := Ideal) x0 x11 x12 (ix4 b l k i) =
      ∑ d, rms (fun k => x0 (ix3 b l k)) (fun k => x11 (ix1 k)) d * x12 (ix2 d ⟨3352 + (k.val * 1024 + i.val), by omega⟩) := by
  pointwise [val_main_v76, val_main_v14, val_main_v13]
  simp only [v12_apply]

/-- The gates. -/
theorem v82_apply (b : Fin 8) (l : Fin 2048) (k : Fin 4) (i : Fin 1024) :
    val_main_v82 (F := Ideal) x0 x11 x12 (ix4 b l k i) =
      lgs (∑ d, rms (fun k => x0 (ix3 b l k)) (fun k => x11 (ix1 k)) d * x12 (ix2 d ⟨3352 + (k.val * 1024 + i.val), by omega⟩)) := by
  rw [lgs_eq, ← v76_apply]
  pointwise [val_main_v82, val_main_v81, val_main_cst_12, val_main_v80, val_main_v79, val_main_cst_11, val_main_v78, val_main_v77]
  rfl

/-- The stacked branches. -/
theorem v73_apply (b : Fin 8) (l : Fin 2048) (k : Fin 4) (c : Fin 256) :
    val_main_v73 (F := Ideal) x1 x2 x3 x4 x5 x6 x7 x8 x9 x10 (ix4 b l k c) =
      (match k with
        | ⟨0, _⟩ => val_main_v32 (F := Ideal) x1 x5 x8 (ix3 b l c)
        | ⟨1, _⟩ => val_main_v50 (F := Ideal) x2 x6 x9 (ix3 b l c)
        | ⟨2, _⟩ => x3 (ix3 b l c)
        | ⟨3, _⟩ => val_main_v68 (F := Ideal) x4 x7 x10 (ix3 b l c)) := by
  match k with
  | ⟨0, _⟩ => pointwise [val_main_v73, val_main_v69]
  | ⟨1, _⟩ => pointwise [val_main_v73, val_main_v70]
  | ⟨2, _⟩ => pointwise [val_main_v73, val_main_v71]
  | ⟨3, _⟩ => pointwise [val_main_v73, val_main_v72]

/-- The branches' projections. -/
theorem v75_apply (b : Fin 8) (l : Fin 2048) (k : Fin 4) (i : Fin 1024) :
    val_main_v75 (F := Ideal) x1 x2 x3 x4 x5 x6 x7 x8 x9 x10 x13 (ix4 b l k i) =
      ∑ c : Fin 256, val_main_v73 (F := Ideal) x1 x2 x3 x4 x5 x6 x7 x8 x9 x10 (ix4 b l k c) * x13 (ix3 k c i) := by
  pointwise [val_main_v75, val_main_v74]
  exact Finset.sum_congr rfl fun _ _ => mul_comm _ _

/-- The result at row `R`. -/
theorem ref_y (R : Fin 16384) (j : Fin 1024) :
    val_main_v87 (F := Ideal) x0 x1 x2 x3 x4 x5 x6 x7 x8 x9 x10 x11 x12 x13 x14 (ix2 R j) =
      tokenRow x0 x1 x2 x3 x4 x5 x6 x7 x8 x9 x10 x11 x12 x13 x14 ⟨R.val / 2048, by omega⟩ ⟨R.val % 2048, by omega⟩ R j := by
  have hR : R.val = (⟨R.val / 2048, by omega⟩ : Fin 8).val * 2048 + (⟨R.val % 2048, by omega⟩ : Fin 2048).val := by dsimp only; omega
  pointwise [val_main_v87, val_main_v86, val_main_v85, val_main_v84, val_main_cst_13, val_main_v83]
  simp only [v82_apply, v75_apply, v73_apply, Fin.sum_univ_four]
  simp only [v32_apply _ _ _ _ _ _ R hR, v50_apply _ _ _ _ _ _ R hR, v68_apply _ _ _ _ _ _ R hR]
  have e0 : ∀ x : Fin 1024, (⟨3352 + ((0 : Fin 4).val * 1024 + x.val), by have := x.isLt; show 3352 + (_ + x.val) < 7448; simp; omega⟩ : Fin 7448) = ⟨3352 + x.val, by omega⟩ :=
    fun x => Fin.ext (by simp)
  have e1 : ∀ x : Fin 1024, (⟨3352 + ((1 : Fin 4).val * 1024 + x.val), by have := x.isLt; show 3352 + (_ + x.val) < 7448; simp; omega⟩ : Fin 7448) = ⟨3352 + (1024 + x.val), by omega⟩ :=
    fun x => Fin.ext (by simp)
  have e2 : ∀ x : Fin 1024, (⟨3352 + ((2 : Fin 4).val * 1024 + x.val), by have := x.isLt; show 3352 + (_ + x.val) < 7448; simp; omega⟩ : Fin 7448) = ⟨3352 + (2048 + x.val), by omega⟩ :=
    fun x => Fin.ext (by simp)
  have e3 : ∀ x : Fin 1024, (⟨3352 + ((3 : Fin 4).val * 1024 + x.val), by have := x.isLt; show 3352 + (_ + x.val) < 7448; simp; omega⟩ : Fin 7448) = ⟨3352 + (3072 + x.val), by omega⟩ :=
    fun x => Fin.ext (by simp)
  simp only [e0, e1, e2, e3]
  unfold tokenRow mergeRow branch
  rfl

end Cert.Reference4Ideal.Hand

namespace Cert.Kernel4Ideal.Hand

open Cert.Kernel4Ideal Cert.Kernel4Ideal.Gen Idealize.ShloMosaic Idealize.ShloMosaic.TcCoe Idealize.SL.Sem Cert.Hand

/-- Mixer outputs that pass the finiteness test are arrays of real numbers. -/
theorem reals (x0 : FVec Ideal S8x2048x1024 .f32) (x1 : FVec Ideal S8x4x2048x64 .f32) (x2 : FVec Ideal S8x4x2048x64 .f32) (x3 : FVec Ideal S8x2048x256 .f32) (x4 : FVec Ideal S8x4x2048x64 .f32) (x5 : FVec Ideal S16384x1536 .f32) (x6 : FVec Ideal S16384x1280 .f32) (x7 : FVec Ideal S16384x1280 .f32) (x8 : FVec Ideal S256 .f32) (x9 : FVec Ideal S256 .f32) (x10 : FVec Ideal S256 .f32) (x11 : FVec Ideal S1024 .f32) (x12 : FVec Ideal S1024x7448 .f32) (x13 : FVec Ideal S4x256x1024 .f32) (x14 : FVec Ideal S1024x1024 .f32)
    (h : Cert.Pre_merge_finite.fn (F := Ideal) x0 x1 x2 x3 x4 x5 x6 x7 x8 x9 x10 x11 x12 x13 x14 = fun _ => 1#1) :
    (∃ r : S8x4x2048x64.Idx → ℝ, x1 = fun i => (r i : EReal)) ∧ (∃ r : S8x4x2048x64.Idx → ℝ, x2 = fun i => (r i : EReal))
    ∧ (∃ r : S8x4x2048x64.Idx → ℝ, x4 = fun i => (r i : EReal)) := by
  have h0 := congrFun h (fun a => a.elim0)
  pointwise [Cert.Pre_merge_finite.fn] at h0
  obtain ⟨h0, h4⟩ := and_one h0
  obtain ⟨h1, h2⟩ := and_one h0
  exact ⟨reals_of_fold h1 fun _ => funext fun a => a.elim0, reals_of_fold h2 fun _ => funext fun a => a.elim0,
    reals_of_fold h4 fun _ => funext fun a => a.elim0⟩

/-- The kernel's result is the reference's. -/
theorem merge_equal : Cert.algebraic_Kernel4Ideal_Reference4Ideal_pre_merge_finite
    (hKernel4Ideal := Cert.Kernel4Ideal.Gen.facts) (hReference4Ideal := Cert.Reference4Ideal.Gen.facts)
    (hPre_merge_finite := Cert.Pre_merge_finite.Gen.facts) := by
  intro m ρ m' ρ' hpre hag
  refine ⟨fun c => (dats m 0 c).arrAt 15 cfg0.N, Value.run_blocks m ρ, ?_⟩
  refine (θ_run _ _ _).mono (fun r h c => ?_) (Cert.Reference4Ideal.Value.run m' ρ')
  obtain ⟨hy, hkeep⟩ := h c
  obtain ⟨a0, a1, a2, a3, a4, a5, a6, a7, a8, a9, a10, a11, a12, a13, a14⟩ := hag c
  obtain ⟨⟨q1, h1⟩, ⟨q2, h2⟩, ⟨q4, h4⟩⟩ := reals _ _ _ _ _ _ _ _ _ _ _ _ _ _ _ (hpre c)
  refine ⟨hy.trans ?_, hkeep⟩
  refine (Cert.Reference4Ideal.Read.val_main_v87_eq _ _).trans ?_
  rw [a0, a1, a2, a3, a4, a5, a6, a7, a8, a9, a10, a11, a12, a13, a14]
  funext i
  idx_vars i
  refine Eq.trans ?_ (final_y m c q1 q2 q4 h1 h2 h4 i0 i1).symm
  exact Cert.Reference4Ideal.Hand.ref_y _ _ _ _ _ _ _ _ _ _ _ _ _ _ _ i0 i1

end Cert.Kernel4Ideal.Hand
end
-- ==== Proof.Inp.Spec.lean ====
module

public import proofs.«01_k».proof.Proof.Dec.Norms
@[expose] public section

set_option maxRecDepth 16384
noncomputable section

namespace Cert.Hand

open Idealize.ShloMosaic

/-- `x` times its logistic value. -/
def silu (x : EReal) : EReal := x * lgs x

/-- `log (1 + exp x)`, taken without overflow. -/
def soft (x : EReal) : EReal := max x 0 + Ideal.log (1 + Ideal.exp (-(max x (-x))))

/-- The logarithm of the logistic value. -/
def lsg (x : EReal) : EReal := -soft (-x)

/-- The logarithm of the sum of two exponentials, taken without overflow. -/
def lae (x y : EReal) : EReal := max x y + Ideal.log (1 + Ideal.exp (-(max (x - y) (-(x - y)))))

/-- One product of a normalised row with a column. -/
def proj (x nw w : Fin 1024 → EReal) : EReal := ∑ k, rms x nw k * w k

/-- A column divided by the root of the sum of squares of its head. -/
def l2 (u : Fin 256 → EReal) (c : Fin 256) : EReal :=
  u c * Ideal.rsqrt (∑ k : Fin 64, u ⟨c.val / 64 * 64 + k.val, by omega⟩ * u ⟨c.val / 64 * 64 + k.val, by omega⟩ + Ideal.ofBits FTy.f32 897988541#32)

/-- Four rows weighed and passed through `silu`. -/
def conv4 (t : Fin 4 → EReal) (w : Fin 4 → EReal) : EReal := silu (t 0 * w 0 + t 1 * w 1 + t 2 * w 2 + t 3 * w 3)

/-- The logarithm of a forget gate with a lower bound. -/
def lfg (f lb : EReal) : EReal :=
  if 0 < lb then lsg f + soft (Ideal.log lb - f) else lsg f

/-- The larger of two real numbers, as an extended real. -/
theorem max_coe (a b : ℝ) : ((max a b : ℝ) : EReal) = max (a : EReal) (b : EReal) := EReal.coe_strictMono.monotone.map_max

/-- The bit pattern of 1024. -/
theorem ofBits_1024 : Ideal.ofBits FTy.f32 1149239296#32 = ((1024 : ℝ) : EReal) := by
  simp [Ideal.ofBits, Ideal.ieee]
  rw [← EReal.coe_mul]
  norm_num

/-- The bit pattern of the small constant is a positive real number. -/
theorem ofBits_eps : ∃ e : ℝ, 0 < e ∧ Ideal.ofBits FTy.f32 897988541#32 = (e : EReal) := by
  refine ⟨8796093 / 8796093022208, by norm_num, ?_⟩
  simp [Ideal.ofBits, Ideal.ieee]
  rw [← EReal.coe_mul]
  norm_num

/-- Adding zero to the difference's other side changes nothing. -/
theorem lae_zero (x : EReal) : lae x 0 = soft x := by
  unfold lae soft
  rw [sub_zero]

/-- The value of `log (1 + exp x)` at a real number. -/
theorem soft_coe (r : ℝ) : soft (r : EReal) = ((max r 0 + Real.log (1 + Real.exp (-|r|)) : ℝ) : EReal) := by
  have h1 : max (r : EReal) (-(r : EReal)) = ((|r| : ℝ) : EReal) := by
    rw [← EReal.coe_neg, ← max_coe]; rfl
  have h2 : max (r : EReal) 0 = ((max r 0 : ℝ) : EReal) := by
    rw [← EReal.coe_zero, ← max_coe]
  have h3 : (1 : EReal) + ((Real.exp (-|r|) : ℝ) : EReal) = ((1 + Real.exp (-|r|) : ℝ) : EReal) := by
    rw [EReal.coe_add, EReal.coe_one]
  have h4 : ¬ (1 + Real.exp (-|r|) ≤ 0) := by have := Real.exp_pos (-|r|); linarith
  unfold soft
  rw [h1, h2, ← EReal.coe_neg]
  show _ + Ideal.log (1 + ((Real.exp (-|r|) : ℝ) : EReal)) = _
  rw [h3]
  show _ + (if 1 + Real.exp (-|r|) ≤ 0 then ⊥ else ((Real.log (1 + Real.exp (-|r|)) : ℝ) : EReal)) = _
  rw [if_neg h4, ← EReal.coe_add]

/-- `log (1 + exp x)` is `x` more than `log (1 + exp (-x))`. -/
theorem soft_neg (r : ℝ) : soft (r : EReal) = (r : EReal) + soft (-(r : EReal)) := by
  rw [← EReal.coe_neg, soft_coe, soft_coe, ← EReal.coe_add, abs_neg]
  congr 1
  have : max r 0 = r + max (-r) 0 := by
    rcases le_total r 0 with h | h
    · rw [max_eq_right h, max_eq_left (by linarith)]; ring
    · rw [max_eq_left h, max_eq_right (by linarith)]; ring
  linarith

/-- The logarithm of a sum of exponentials is the first exponent more than the difference's. -/
theorem lae_add (a : ℝ) (u : EReal) (hu : u ≠ ⊥) : lae (a : EReal) (u + (a : EReal)) = (a : EReal) + soft u := by
  induction u using EReal.rec with
  | bot => exact absurd rfl hu
  | coe u =>
    unfold lae soft
    have h1 : (a : EReal) - ((u : EReal) + (a : EReal)) = -(u : EReal) := by
      rw [← EReal.coe_add, ← EReal.coe_sub, ← EReal.coe_neg]; congr 1; ring
    have h2 : max (a : EReal) ((u : EReal) + (a : EReal)) = (a : EReal) + max (u : EReal) 0 := by
      rw [← EReal.coe_add, ← EReal.coe_zero, ← max_coe, ← max_coe, ← EReal.coe_add]
      congr 1
      rcases le_total u 0 with h | h
      · rw [max_eq_right h, max_eq_left (by linarith)]; ring
      · rw [max_eq_left h, max_eq_right (by linarith)]; ring
    rw [h1, h2, neg_neg, max_comm (-(u : EReal)) (u : EReal), add_assoc]
  | top =>
    unfold lae soft
    have h1 : (⊤ : EReal) + (a : EReal) = ⊤ := EReal.top_add_coe a
    have h2 : (a : EReal) - ⊤ = ⊥ := by simp
    have h3 : (a : EReal) + ⊤ = ⊤ := EReal.coe_add_top a
    have h4 : Ideal.log (1 + Ideal.exp ⊥) = ((0 : ℝ) : EReal) := by
      show Ideal.log (1 + 0) = _
      rw [add_zero]
      show (if (1 : ℝ) ≤ 0 then ⊥ else ((Real.log 1 : ℝ) : EReal)) = _
      rw [if_neg (by norm_num), Real.log_one]
    have h5 : max (⊥ : EReal) (-⊥) = ⊤ := by simp
    have h6 : max (⊤ : EReal) (-⊤) = ⊤ := by simp
    have h7 : -(⊤ : EReal) = ⊥ := rfl
    have h8 : max (a : EReal) ⊤ = ⊤ := by simp
    have h9 : max (⊤ : EReal) 0 = ⊤ := by simp
    rw [h1, h2, h5, h6, h7, h4, h8, h9, EReal.top_add_coe, h3]

/-- The logarithm of a positive number is not minus infinity. -/
theorem log_ne_bot {x : EReal} (h : 0 < x) : Ideal.log x ≠ ⊥ := by
  induction x using EReal.rec with
  | bot => exact absurd h (by simp)
  | coe r =>
    have hr : ¬ r ≤ 0 := not_le.mpr (EReal.coe_pos.mp h)
    show (if r ≤ 0 then (⊥ : EReal) else ((Real.log r : ℝ) : EReal)) ≠ ⊥
    rw [if_neg hr]
    exact EReal.coe_ne_bot _
  | top => exact fun h => absurd h (by show (⊤ : EReal) ≠ ⊥; simp)

/-- The forget gate's logarithm as a sum of exponentials: for a real argument the two forms are equal. -/
theorem lfg_eq (r : ℝ) (lb : EReal) :
    (if 0 < lb then lae (lsg (r : EReal)) (Ideal.log lb + lsg (-(r : EReal))) else lsg (r : EReal)) = lfg (r : EReal) lb := by
  unfold lfg
  by_cases h : 0 < lb
  · rw [if_pos h, if_pos h]
    have hs : soft (-(r : EReal)) = ((max (-r) 0 + Real.log (1 + Real.exp (-|(-r)|)) : ℝ) : EReal) := by
      rw [← EReal.coe_neg, soft_coe]
    have e1 : lsg (r : EReal) = ((-(max (-r) 0 + Real.log (1 + Real.exp (-|(-r)|))) : ℝ) : EReal) := by
      unfold lsg; rw [hs, EReal.coe_neg]
    have e2 : lsg (-(r : EReal)) = -(r : EReal) + lsg (r : EReal) := by
      rw [e1]
      unfold lsg
      rw [neg_neg, soft_neg, hs, ← EReal.coe_add, ← EReal.coe_neg, ← EReal.coe_neg, ← EReal.coe_add]
      congr 1; ring
    rw [e2, ← add_assoc, ← sub_eq_add_neg, e1]
    refine lae_add _ _ ?_
    rw [sub_eq_add_neg, ← EReal.coe_neg]
    intro hb
    rcases EReal.add_eq_bot_iff.mp hb with h' | h'
    · exact log_ne_bot h h'
    · exact EReal.coe_ne_bot _ h'
  · rw [if_neg h, if_neg h]

/-- The root mean square norm of a row of real numbers is real. -/
theorem rms_real (x w : Fin 1024 → EReal) (hx : ∀ k, ∃ r : ℝ, x k = r) (hw : ∀ k, ∃ r : ℝ, w k = r) (j : Fin 1024) :
    ∃ r : ℝ, rms x w j = (r : EReal) := by
  choose q hq using hx
  choose v hv using hw
  obtain ⟨e, he, hE⟩ := ofBits_eps
  have h1 : (∑ k, x k * x k) = ((∑ k, q k * q k : ℝ) : EReal) := by
    rw [coe_sum]
    exact Finset.sum_congr rfl fun k _ => by rw [hq, EReal.coe_mul]
  have h2 : 0 ≤ ∑ k, q k * q k := Finset.sum_nonneg fun k _ => mul_self_nonneg _
  have h3 : 0 < (∑ k, q k * q k) * (1 / 1024) + e := by positivity
  unfold rms
  rw [h1, ofBits_1024, Ideal.div_coe (by norm_num), hE, hq, hv, ← EReal.coe_mul, ← EReal.coe_add]
  refine ⟨q j * (Real.sqrt ((∑ k, q k * q k) * (1 / 1024) + e))⁻¹ * v j, ?_⟩
  rw [EReal.coe_mul, EReal.coe_mul]
  congr 2
  show (if _ then _ else if _ then _ else _) = _
  rw [if_neg (not_lt.mpr h3.le), if_neg h3.ne']

/-- A product of a row of real numbers with a real column is real. -/
theorem proj_real (x nw w : Fin 1024 → EReal) (hx : ∀ k, ∃ r : ℝ, x k = r) (hn : ∀ k, ∃ r : ℝ, nw k = r) (hw : ∀ k, ∃ r : ℝ, w k = r) :
    ∃ r : ℝ, proj x nw w = (r : EReal) := by
  choose q hq using rms_real x nw hx hn
  choose v hv using hw
  refine ⟨∑ k, q k * v k, ?_⟩
  unfold proj
  rw [coe_sum]
  exact Finset.sum_congr rfl fun k _ => by rw [hq, hv, EReal.coe_mul]

/-- The logistic value of a real number is real. -/
theorem silu_real (r : ℝ) : ∃ s : ℝ, silu (r : EReal) = (s : EReal) := by
  refine ⟨r * (1 / 2 * (1 + Real.tanh (1 / 2 * r))), ?_⟩
  unfold silu lgs
  rw [ofBits_half, ← EReal.coe_mul, Ideal.tanh_coe, ← EReal.coe_one, ← EReal.coe_add, ← EReal.coe_mul, ← EReal.coe_mul]

end Cert.Hand
end
-- ==== Proof.Inp.Body.lean ====
module

public import proofs.«01_k».proof.Proof.Gen.Kernel5Ideal.Value
public import proofs.«01_k».proof.Proof.Merge.Body
public import proofs.«01_k».proof.Proof.Inp.Spec
@[expose] public section

set_option maxRecDepth 16384
noncomputable section

namespace Cert.Kernel5Ideal.Hand

open Cert.Kernel5Ideal Cert.Kernel5Ideal.Gen Idealize.ShloMosaic Idealize.ShloMosaic.TcCoe Idealize.SL.Sem Cert.Hand
open Idealize.ShloMosaic.Pipeline (Dat)

/-- An index list of zeros is the constant zero. -/
theorem hz2 : (![0, 0] : Fin 2 → Nat) = fun _ => 0 := funext fun a => by fin_cases a <;> rfl
/-- An index list of three zeros is the constant zero. -/
theorem hz3 : (![0, 0, 0] : Fin 3 → Nat) = fun _ => 0 := funext fun a => by fin_cases a <;> rfl

variable (i : grid0.Coords) (x0 : Vec Ideal S512x1024 .f32) (x1 : Vec Ideal S8x1024 .f32) (x2 : Vec Ideal S1x1024 .f32)
  (x3 : Vec Ideal S1024x3584 .bf16) (x4 : Vec Ideal S4x768 .f32) (x5 : Vec Ideal S1x256 .f32) (x6 : Vec Ideal S1x256 .f32)
  (x7 : Vec Ideal S128x256 .f32) (x8 : Vec Ideal S1x256 .f32) (x9 : Vec Ideal S1x256 .f32)

/-- Column `n` of the packed weights. -/
def wcol (x3 : Vec Ideal S1024x3584 .bf16) (n : Fin 3584) (k : Fin 1024) : EReal := x3 (ix2 k n)

/-- Column `n` of the products of the block's row `r`. -/
def pr (x0 : Vec Ideal S512x1024 .f32) (x2 : Vec Ideal S1x1024 .f32) (x3 : Vec Ideal S1024x3584 .bf16) (r : Fin 512) (n : Fin 3584) : EReal :=
  proj (fun k => x0 (ix2 r k)) (fun k => x2 (ix2 0 k)) (wcol x3 n)

/-- The first segment's products. -/
theorem pa_apply (r : Fin 512) (n : Fin 1152) :
    k0_pay3 (View.ld x0 r0_0) (View.ld x2 r0_1) (View.ld x3 r0_3) (ix2 r n) = pr x0 x2 x3 r ⟨n.val, by omega⟩ := by
  rw [View.ld_unit_zero (S := S512x1024) hz2, View.ld_unit_zero (S := S1x1024) hz2]
  simp only [View.ld_unit]
  pointwise [k0_pay3, k0_pay1]
  rfl

/-- The second segment's products. -/
theorem pb_apply (r : Fin 512) (n : Fin 1152) :
    k0_pay14 (k0_pay1 (View.ld x0 r0_0) (View.ld x2 r0_1)) (View.ld x3 r0_12) (ix2 r n) = pr x0 x2 x3 r ⟨1152 + n.val, by omega⟩ := by
  rw [View.ld_unit_zero (S := S512x1024) hz2, View.ld_unit_zero (S := S1x1024) hz2]
  simp only [View.ld_unit]
  pointwise [k0_pay14, k0_pay1]
  rfl

/-- The fourth segment's products. -/
theorem pd_apply (r : Fin 512) (n : Fin 1024) :
    k0_pay2 (View.ld x0 r0_0) (View.ld x2 r0_1) (View.ld x3 r0_2) (ix2 r n) = pr x0 x2 x3 r ⟨2560 + n.val, by omega⟩ := by
  rw [View.ld_unit_zero (S := S512x1024) hz2, View.ld_unit_zero (S := S1x1024) hz2]
  simp only [View.ld_unit]
  pointwise [k0_pay2, k0_pay1]
  rfl

/-- Column `n` of the products of row `r` of the rows before the block. -/
def ph (x1 : Vec Ideal S8x1024 .f32) (x2 : Vec Ideal S1x1024 .f32) (x3 : Vec Ideal S1024x3584 .bf16) (r : Fin 8) (n : Fin 3584) : EReal :=
  proj (fun k => x1 (ix2 r k)) (fun k => x2 (ix2 0 k)) (wcol x3 n)

/-- The products of the rows before the block. -/
theorem ph_apply (r : Fin 8) (n : Fin 768) :
    k0_pay5 (k0_pay4 (View.ld x1 r0_4) (View.ld x2 r0_1)) (View.ld x3 r0_5) (ix2 r n) = ph x1 x2 x3 r ⟨n.val, by omega⟩ := by
  rw [View.ld_unit_zero (S := S8x1024) hz2, View.ld_unit_zero (S := S1x1024) hz2]
  simp only [View.ld_unit]
  pointwise [k0_pay4, k0_pay5]
  rfl

/-- The third segment's products. -/
theorem pc_apply (r : Fin 512) (n : Fin 256) :
    out0_12 i x0 x1 x2 x3 x4 x5 x6 x7 x8 x9 (ix2 r n) = pr x0 x2 x3 r ⟨2304 + n.val, by omega⟩ := by
  unfold_out out0_12
  rw [View.canon_unit_zero hz2]
  rw [View.ld_unit_zero (S := S512x1024) hz2, View.ld_unit_zero (S := S1x1024) hz2]
  simp only [View.ld_unit]
  pointwise [k0_pay42, k0_pay1]
  rfl

/-- The last three rows before the convolution. -/
theorem conv_apply (a : Fin 1) (r : Fin 3) (n : Fin 768) :
    out0_14 i x0 x1 x2 x3 x4 x5 x6 x7 x8 x9 (ix3 a r n) = pr x0 x2 x3 ⟨509 + r.val, by omega⟩ ⟨n.val, by omega⟩ := by
  unfold_out out0_14
  rw [View.canon_unit_zero hz3]
  pointwise [k0_pay16, k0_pay15, pa_apply]

/-- Whether a point begins a sequence, as the kernel computes it. -/
def firstBit (b : BitVec 32) : BitVec 1 :=
  Scalar.cmpi CmpIPredicate.eq
    (Scalar.select
      (Scalar.andi
        (Scalar.xori
          (Scalar.cmpi CmpIPredicate.slt (Scalar.remsi b (Scalar.select (Scalar.cmpi CmpIPredicate.eq 4#32 0#32) 1#32 4#32)) 0#32)
          (Scalar.cmpi CmpIPredicate.slt (Scalar.select (Scalar.cmpi CmpIPredicate.eq 4#32 0#32) 1#32 4#32) 0#32))
        (Scalar.cmpi CmpIPredicate.ne (Scalar.remsi b (Scalar.select (Scalar.cmpi CmpIPredicate.eq 4#32 0#32) 1#32 4#32)) 0#32))
      (Scalar.addi (Scalar.remsi b (Scalar.select (Scalar.cmpi CmpIPredicate.eq 4#32 0#32) 1#32 4#32))
        (Scalar.select (Scalar.cmpi CmpIPredicate.eq 4#32 0#32) 1#32 4#32))
      (Scalar.remsi b (Scalar.select (Scalar.cmpi CmpIPredicate.eq 4#32 0#32) 1#32 4#32)))
    0#32

/-- Every fourth point begins a sequence. -/
theorem firstBit_eq : ∀ n : Fin 32, firstBit (BitVec.ofNat 32 n.val) = if n.val % 4 = 0 then 1#1 else 0#1 := by decide

/-- The row `3 - j` rows above row `r`, before the convolution. -/
def tap (p : ℕ) (x0 : Vec Ideal S512x1024 .f32) (x1 : Vec Ideal S8x1024 .f32) (x2 : Vec Ideal S1x1024 .f32) (x3 : Vec Ideal S1024x3584 .bf16)
    (r : Fin 512) (n : Fin 3584) (j : Fin 4) : EReal :=
  if h : r.val + j.val < 3 then (if p % 4 = 0 then 0 else ph x1 x2 x3 ⟨5 + r.val + j.val, by omega⟩ n)
  else pr x0 x2 x3 ⟨r.val + j.val - 3, by omega⟩ n

/-- The rows the convolution reads above the block's own. -/
theorem xp_apply (r : Fin 512) (n : Fin 768) (j : Fin 3) (q : Fin 520) (hq : q.val = 5 + r.val + j.val) :
    k0_pay17 (BitVec.ofNat 32 (i 0).val) (k0_pay3 (View.ld x0 r0_0) (View.ld x2 r0_1) (View.ld x3 r0_3))
      (k0_pay5 (k0_pay4 (View.ld x1 r0_4) (View.ld x2 r0_1)) (View.ld x3 r0_5)) (ix2 q n)
      = tap (i 0).val x0 x1 x2 x3 r ⟨n.val, by omega⟩ ⟨j.val, by omega⟩ := by
  obtain rfl : (⟨5 + r.val + j.val, by clear hq; omega⟩ : Fin 520) = q := Fin.ext hq.symm
  pointwise [k0_pay17, k0_pay15, pa_apply, ph_apply]
  have hb := firstBit_eq (i 0)
  unfold firstBit at hb
  rw [hb]
  unfold tap Scalar.select
  by_cases h : r.val + j.val < 3
  · rw [dif_pos (by omega), dif_pos h]
    by_cases h4 : (i 0).val % 4 = 0
    · simp [h4]
    · simp [h4]
  · rw [dif_neg (by omega), dif_neg h]
    congr 1
    exact Fin.ext (by show 5 + r.val + j.val - 8 = r.val + j.val - 3; omega)

/-- The convolved columns of the block's rows. -/
def cv (p : ℕ) (x0 : Vec Ideal S512x1024 .f32) (x1 : Vec Ideal S8x1024 .f32) (x2 : Vec Ideal S1x1024 .f32) (x3 : Vec Ideal S1024x3584 .bf16)
    (x4 : Vec Ideal S4x768 .f32) (r : Fin 512) (n : Fin 768) : EReal :=
  conv4 (tap p x0 x1 x2 x3 r ⟨n.val, by omega⟩) (fun j => x4 (ix2 j n))

/-- The convolution at an element. -/
theorem cv_apply (r : Fin 512) (n : Fin 768) :
    k0_pay20 (k0_pay18 (BitVec.ofNat 32 (i 0).val) (k0_pay3 (View.ld x0 r0_0) (View.ld x2 r0_1) (View.ld x3 r0_3))
        (k0_pay5 (k0_pay4 (View.ld x1 r0_4) (View.ld x2 r0_1)) (View.ld x3 r0_5)) (View.ld x4 r0_14) (View.ld x4 r0_15) (View.ld x4 r0_16))
      (k0_pay19 (BitVec.ofNat 32 (i 0).val) (k0_pay3 (View.ld x0 r0_0) (View.ld x2 r0_1) (View.ld x3 r0_3))
        (k0_pay5 (k0_pay4 (View.ld x1 r0_4) (View.ld x2 r0_1)) (View.ld x3 r0_5))) (View.ld x4 r0_17) (ix2 r n)
      = cv (i 0).val x0 x1 x2 x3 x4 r n := by
  simp only [View.ld_unit (X := x4)]
  pointwise [k0_pay20, k0_pay18, k0_pay19, k0_pay15, pa_apply]
  rw [xp_apply i x0 x1 x2 x3 r n 0 ⟨5 + r.val, by omega⟩ (by show 5 + r.val = 5 + r.val + 0; omega),
    xp_apply i x0 x1 x2 x3 r n 1 ⟨6 + r.val, by omega⟩ (by show 6 + r.val = 5 + r.val + 1; omega),
    xp_apply i x0 x1 x2 x3 r n 2 ⟨7 + r.val, by omega⟩ (by show 7 + r.val = 5 + r.val + 2; omega)]
  have e3 : tap (i 0).val x0 x1 x2 x3 r ⟨n.val, by omega⟩ 3 = pr x0 x2 x3 r ⟨n.val, by omega⟩ := by
    unfold tap
    rw [dif_neg (by show ¬ (r.val + 3 < 3); omega)]
    congr 1
  have eo : ∀ a b c d : EReal, a + b + c + d = b + c + d + a := fun a b c d => by rw [add_assoc, add_assoc, add_comm, ← add_assoc]
  rw [eo, ← e3]
  rfl

/-- The zero-one matrix of the heads' columns. -/
theorem ones_apply (r c : Fin 256) : k0_pay21 (F := Ideal) (ix2 r c) = if r.val / 64 = c.val / 64 then 1 else 0 := by
  pointwise [k0_pay21]
  rw [shift_six _ (by omega), shift_six _ (by omega), bit_eq _ _ (by omega) (by omega)]
  unfold Scalar.select
  by_cases h : r.val / 64 = c.val / 64 <;> simp [h]

/-- The sum of squares as the kernel takes it, for a row of real numbers. -/
theorem ss_eq (o : Fin 256 → EReal) (ho : ∀ c, ∃ q : ℝ, o c = (q : EReal)) (c : Fin 256) :
    ∑ x, o x * o x * (if x.val / 64 = c.val / 64 then (1 : EReal) else 0) +
      ∑ x, (o x * o x - o x * o x) * (if x.val / 64 = c.val / 64 then (1 : EReal) else 0)
      = ∑ k : Fin 64, o ⟨c.val / 64 * 64 + k.val, by omega⟩ * o ⟨c.val / 64 * 64 + k.val, by omega⟩ := by
  have h : ∀ x, o x * o x - o x * o x = 0 := by
    intro x
    obtain ⟨q, hq⟩ := ho x
    rw [hq, ← EReal.coe_mul]
    exact coe_sub_self _
  simp only [h, zero_mul, Finset.sum_const_zero, add_zero]
  exact sum_group (fun x => o x * o x) c

/-- The first normed columns of the delta rule. -/
theorem q_apply (v154 v155 : FVec Ideal S512x768 .f32) (v156 : FVec Ideal S1x768 .f32) (r : Fin 512) (c : Fin 256) (u : Fin 768 → EReal)
    (hu : ∀ n, k0_pay20 v154 v155 v156 (ix2 r n) = u n) (hr : ∀ n, ∃ q : ℝ, u n = (q : EReal)) :
    k0_pay22 v154 v155 v156 (ix2 r c) = l2 (fun c => u ⟨c.val, by omega⟩) c * Ideal.ofBits FTy.f32 1040187392#32 := by
  pointwise [k0_pay22, ones_apply, hu]
  rw [ss_eq (fun c => u ⟨c.val, by omega⟩) (fun c => hr _) c]
  rfl

/-- The second normed columns of the delta rule. -/
theorem k_apply (v154 v155 : FVec Ideal S512x768 .f32) (v156 : FVec Ideal S1x768 .f32) (r : Fin 512) (c : Fin 256) (u : Fin 768 → EReal)
    (hu : ∀ n, k0_pay20 v154 v155 v156 (ix2 r n) = u n) (hr : ∀ n, ∃ q : ℝ, u n = (q : EReal)) :
    k0_pay27 (k0_pay21 (F := Ideal)) (k0_pay23 v154 v155 v156) (k0_pay25 v154 v155 v156) (k0_pay26 v154 v155 v156) (ix2 r c)
      = l2 (fun c => u ⟨256 + c.val, by omega⟩) c := by
  pointwise [k0_pay27, k0_pay23, k0_pay25, k0_pay26, k0_pay24, ones_apply, hu]
  rw [ss_eq (fun c => u ⟨256 + c.val, by omega⟩) (fun c => hr _) c]
  rfl

/-- A sum kept at one index of 128. -/
theorem sum_sel (f : Fin 128 → EReal) (a : ℕ) (ha : a < 128) :
    ∑ x : Fin 128, Scalar.select (IntOp.cmpi CmpIPredicate.eq (BitVec.ofNat 32 x.val) (BitVec.ofNat 32 a)) (f x) 0 = f ⟨a, ha⟩ := by
  rw [Finset.sum_eq_single (⟨a, ha⟩ : Fin 128)]
  · rw [bit_eq _ _ (by show a < _; omega) (by omega), if_pos rfl]; rfl
  · intro b _ hb
    rw [bit_eq _ _ (by omega) (by omega), if_neg fun e => hb (Fin.ext e)]; rfl
  · intro h; exact absurd (Finset.mem_univ _) h

/-- The three parts a real number is split into add up to it. -/
theorem three_parts (x : EReal) (h : ∃ q : ℝ, x = (q : EReal)) : x + (x - x) + (x - x - (x - x)) = x := by
  obtain ⟨q, rfl⟩ := h
  rw [coe_sub_self, sub_zero, add_zero, add_zero]

/-- The kernel's absolute value. -/
theorem absf_max (x : EReal) : FloatOps.absf (F := Ideal) (φ := .f32) x = max x (-x) := rfl

/-- Four more than a head's number. -/
theorem add_four (a : ℕ) : IntOp.addi (BitVec.ofNat 32 a) 4#32 = BitVec.ofNat 32 (a + 4) := by
  unfold IntOp.addi
  rw [BitVec.ofNat_add]

/-- The update gate, repeated over a head's columns. -/
theorem beta_apply (v : FVec Ideal S512x1152 .f32) (r : Fin 512) (c : Fin 256) (h : ∃ q : ℝ, v (ix2 r ⟨1024 + (c.val / 64 + 4), by omega⟩) = (q : EReal)) :
    k0_pay37 (k0_pay31 (F := Ideal)) (k0_pay33 v) (k0_pay34 v) (k0_pay35 v) (k0_pay36 v) (ix2 r c)
      = lgs (v (ix2 r ⟨1024 + (c.val / 64 + 4), by omega⟩)) := by
  pointwise [k0_pay37, k0_pay31, k0_pay30, k0_pay33, k0_pay34, k0_pay35, k0_pay36, k0_pay29]
  rw [shift_six _ (by omega), add_four]
  rw [sum_sel (fun x => v (ix2 r ⟨1024 + x.val, by omega⟩)) _ (by omega),
    sum_sel (fun x => v (ix2 r ⟨1024 + x.val, by omega⟩) - v (ix2 r ⟨1024 + x.val, by omega⟩)) _ (by omega),
    sum_sel (fun x => v (ix2 r ⟨1024 + x.val, by omega⟩) - v (ix2 r ⟨1024 + x.val, by omega⟩) - (v (ix2 r ⟨1024 + x.val, by omega⟩) - v (ix2 r ⟨1024 + x.val, by omega⟩))) _ (by omega)]
  rw [three_parts _ h]
  rfl

/-- The decay's logarithm, repeated over a head's columns. -/
theorem g_apply (v : FVec Ideal S512x1152 .f32) (r : Fin 512) (c : Fin 256) (h : ∃ q : ℝ, v (ix2 r ⟨1024 + c.val / 64, by omega⟩) = (q : EReal)) :
    k0_pay38 (k0_pay32 v) (View.ld x5 r0_6) (View.ld x6 r0_6) (ix2 r c)
      = -(Ideal.exp (x5 (ix2 0 c))) * soft (v (ix2 r ⟨1024 + c.val / 64, by omega⟩) + x6 (ix2 0 c)) := by
  rw [View.ld_unit_zero (S := S1x256) hz2, View.ld_unit_zero (S := S1x256) hz2 _ x6]
  pointwise [k0_pay38, k0_pay32, k0_pay30, k0_pay29]
  rw [shift_six _ (by omega)]
  rw [sum_sel (fun x => v (ix2 r ⟨1024 + x.val, by omega⟩)) _ (by omega),
    sum_sel (fun x => v (ix2 r ⟨1024 + x.val, by omega⟩) - v (ix2 r ⟨1024 + x.val, by omega⟩)) _ (by omega),
    sum_sel (fun x => v (ix2 r ⟨1024 + x.val, by omega⟩) - v (ix2 r ⟨1024 + x.val, by omega⟩) - (v (ix2 r ⟨1024 + x.val, by omega⟩) - v (ix2 r ⟨1024 + x.val, by omega⟩))) _ (by omega)]
  rw [three_parts _ h, absf_max, zero_sub, zero_sub]
  rfl

/-- A column outside a tile of 256 columns is not in its rectangle. -/
theorem colb_not_mem (o : ℕ) (inb : ∀ a, (![0, o] : Fin 2 → ℕ) a + S512x256.size a ≤ S512x1280.size a) (r : Fin 512) (j : Fin 1280)
    (h : j.val < o ∨ o + 256 ≤ j.val) : (ix2 r j : S512x1280.Idx) ∉ (Rect.unit (s := S512x1280) ![0, o] S512x256.size inb).set := by
  intro hm
  have h1 := Rect.mem_set_unit.mp hm (1 : Fin 2)
  have h2 : o ≤ j.val ∧ j.val < o + 256 := h1
  omega

/-- A column of a tile of 256 columns, by its place in the tile. -/
theorem colb_emb (o : ℕ) (inb : ∀ a, (![0, o] : Fin 2 → ℕ) a + S512x256.size a ≤ S512x1280.size a) (r : Fin 512) (c : Fin 256) (j : Fin 1280)
    (h : j.val = o + c.val) : (Rect.unit (s := S512x1280) ![0, o] S512x256.size inb).emb (ix2 r c) = (ix2 r j : S512x1280.Idx) := by
  refine funext fun a => Fin.ext ?_
  refine (Rect.emb_apply _ _ _).trans ?_
  match a with
  | ⟨0, _⟩ => show 0 + 1 * r.val = r.val; omega
  | ⟨1, _⟩ => show o + 1 * c.val = j.val; omega

/-- Off a tile of columns, the contents are those of the earlier writes. -/
theorem skipb (o : ℕ) (inb : ∀ a, (![0, o] : Fin 2 → ℕ) a + S512x256.size a ≤ S512x1280.size a) (w : Vec Ideal S512x256 .f32)
    (L : List (View.Piece (Elt Ideal) S512x1280 .f32)) (r : Fin 512) (j : Fin 1280) (h : j.val < o ∨ o + 256 ≤ j.val) :
    View.canon ((⟨Rect.unit (s := S512x1280) ![0, o] S512x256.size inb, w⟩ : View.Piece (Elt Ideal) S512x1280 .f32) :: L) (ix2 r j) = View.canon L (ix2 r j) :=
  View.canon_cons_of_not_mem _ _ (colb_not_mem o inb r j h)

/-- On a tile of columns written last, the contents are the write's. -/
theorem hitb (o : ℕ) (inb : ∀ a, (![0, o] : Fin 2 → ℕ) a + S512x256.size a ≤ S512x1280.size a) (w : Vec Ideal S512x256 .f32)
    (L : List (View.Piece (Elt Ideal) S512x1280 .f32)) (r : Fin 512) (c : Fin 256) (j : Fin 1280) (h : j.val = o + c.val) :
    View.canon ((⟨Rect.unit (s := S512x1280) ![0, o] S512x256.size inb, w⟩ : View.Piece (Elt Ideal) S512x1280 .f32) :: L) (ix2 r j) = w (ix2 r c) := by
  have e := View.canon_cons_emb (Val := Elt Ideal) (Rect.unit (s := S512x1280) ![0, o] S512x256.size inb) w L (ix2 r c)
  rw [colb_emb o inb r c j h] at e
  exact e

/-- A column outside a tile of 256 columns is not in its rectangle. -/
theorem cola_not_mem (o : ℕ) (inb : ∀ a, (![0, o] : Fin 2 → ℕ) a + S512x256.size a ≤ S512x1536.size a) (r : Fin 512) (j : Fin 1536)
    (h : j.val < o ∨ o + 256 ≤ j.val) : (ix2 r j : S512x1536.Idx) ∉ (Rect.unit (s := S512x1536) ![0, o] S512x256.size inb).set := by
  intro hm
  have h1 := Rect.mem_set_unit.mp hm (1 : Fin 2)
  have h2 : o ≤ j.val ∧ j.val < o + 256 := h1
  omega

/-- A column of a tile of 256 columns, by its place in the tile. -/
theorem cola_emb (o : ℕ) (inb : ∀ a, (![0, o] : Fin 2 → ℕ) a + S512x256.size a ≤ S512x1536.size a) (r : Fin 512) (c : Fin 256) (j : Fin 1536)
    (h : j.val = o + c.val) : (Rect.unit (s := S512x1536) ![0, o] S512x256.size inb).emb (ix2 r c) = (ix2 r j : S512x1536.Idx) := by
  refine funext fun a => Fin.ext ?_
  refine (Rect.emb_apply _ _ _).trans ?_
  match a with
  | ⟨0, _⟩ => show 0 + 1 * r.val = r.val; omega
  | ⟨1, _⟩ => show o + 1 * c.val = j.val; omega

/-- Off a tile of columns, the contents are those of the earlier writes. -/
theorem skipa (o : ℕ) (inb : ∀ a, (![0, o] : Fin 2 → ℕ) a + S512x256.size a ≤ S512x1536.size a) (w : Vec Ideal S512x256 .f32)
    (L : List (View.Piece (Elt Ideal) S512x1536 .f32)) (r : Fin 512) (j : Fin 1536) (h : j.val < o ∨ o + 256 ≤ j.val) :
    View.canon ((⟨Rect.unit (s := S512x1536) ![0, o] S512x256.size inb, w⟩ : View.Piece (Elt Ideal) S512x1536 .f32) :: L) (ix2 r j) = View.canon L (ix2 r j) :=
  View.canon_cons_of_not_mem _ _ (cola_not_mem o inb r j h)

/-- On a tile of columns written last, the contents are the write's. -/
theorem hita (o : ℕ) (inb : ∀ a, (![0, o] : Fin 2 → ℕ) a + S512x256.size a ≤ S512x1536.size a) (w : Vec Ideal S512x256 .f32)
    (L : List (View.Piece (Elt Ideal) S512x1536 .f32)) (r : Fin 512) (c : Fin 256) (j : Fin 1536) (h : j.val = o + c.val) :
    View.canon ((⟨Rect.unit (s := S512x1536) ![0, o] S512x256.size inb, w⟩ : View.Piece (Elt Ideal) S512x1536 .f32) :: L) (ix2 r j) = w (ix2 r c) := by
  have e := View.canon_cons_emb (Val := Elt Ideal) (Rect.unit (s := S512x1536) ![0, o] S512x256.size inb) w L (ix2 r c)
  rw [cola_emb o inb r c j h] at e
  exact e

/-- The queries of the delta rule. -/
theorem ga_q (r : Fin 512) (c : Fin 256) (hr : ∀ n, ∃ q : ℝ, cv (i 0).val x0 x1 x2 x3 x4 r n = (q : EReal)) :
    out0_10 i x0 x1 x2 x3 x4 x5 x6 x7 x8 x9 (ix2 r ⟨0 + c.val, by omega⟩) = l2 (fun c => cv (i 0).val x0 x1 x2 x3 x4 r ⟨c.val, by omega⟩) c * Ideal.ofBits FTy.f32 1040187392#32 := by
  unfold_out out0_10
  refine (skipa 1280 _ _ _ r _ (by show 0 + c.val < 1280 ∨ _; omega)).trans ?_
  refine (skipa 1024 _ _ _ r _ (by show 0 + c.val < 1024 ∨ _; omega)).trans ?_
  refine (skipa 768 _ _ _ r _ (by show 0 + c.val < 768 ∨ _; omega)).trans ?_
  refine (skipa 512 _ _ _ r _ (by show 0 + c.val < 512 ∨ _; omega)).trans ?_
  refine (skipa 256 _ _ _ r _ (by show 0 + c.val < 256 ∨ _; omega)).trans ?_
  refine (hita 0 _ _ _ r c _ rfl).trans ?_
  exact q_apply _ _ _ r c (cv (i 0).val x0 x1 x2 x3 x4 r) (cv_apply i x0 x1 x2 x3 x4 r) hr

/-- The keys of the delta rule. -/
theorem ga_k (r : Fin 512) (c : Fin 256) (hr : ∀ n, ∃ q : ℝ, cv (i 0).val x0 x1 x2 x3 x4 r n = (q : EReal)) :
    out0_10 i x0 x1 x2 x3 x4 x5 x6 x7 x8 x9 (ix2 r ⟨256 + c.val, by omega⟩) = l2 (fun c => cv (i 0).val x0 x1 x2 x3 x4 r ⟨256 + c.val, by omega⟩) c := by
  unfold_out out0_10
  refine (skipa 1280 _ _ _ r _ (by show 256 + c.val < 1280 ∨ _; omega)).trans ?_
  refine (skipa 1024 _ _ _ r _ (by show 256 + c.val < 1024 ∨ _; omega)).trans ?_
  refine (skipa 768 _ _ _ r _ (by show 256 + c.val < 768 ∨ _; omega)).trans ?_
  refine (skipa 512 _ _ _ r _ (by show 256 + c.val < 512 ∨ _; omega)).trans ?_
  refine (hita 256 _ _ _ r c _ rfl).trans ?_
  exact k_apply _ _ _ r c (cv (i 0).val x0 x1 x2 x3 x4 r) (cv_apply i x0 x1 x2 x3 x4 r) hr

/-- The values of the delta rule. -/
theorem ga_v (r : Fin 512) (c : Fin 256) :
    out0_10 i x0 x1 x2 x3 x4 x5 x6 x7 x8 x9 (ix2 r ⟨512 + c.val, by omega⟩) = cv (i 0).val x0 x1 x2 x3 x4 r ⟨512 + c.val, by omega⟩ := by
  unfold_out out0_10
  refine (skipa 1280 _ _ _ r _ (by show 512 + c.val < 1280 ∨ _; omega)).trans ?_
  refine (skipa 1024 _ _ _ r _ (by show 512 + c.val < 1024 ∨ _; omega)).trans ?_
  refine (skipa 768 _ _ _ r _ (by show 512 + c.val < 768 ∨ _; omega)).trans ?_
  refine (hita 512 _ _ _ r c _ rfl).trans ?_
  pointwise [k0_pay28]
  exact cv_apply i x0 x1 x2 x3 x4 r _

/-- The gate of the delta rule. -/
theorem ga_s (r : Fin 512) (c : Fin 256) :
    out0_10 i x0 x1 x2 x3 x4 x5 x6 x7 x8 x9 (ix2 r ⟨768 + c.val, by omega⟩) = silu (pr x0 x2 x3 r ⟨768 + c.val, by omega⟩) := by
  unfold_out out0_10
  refine (skipa 1280 _ _ _ r _ (by show 768 + c.val < 1280 ∨ _; omega)).trans ?_
  refine (skipa 1024 _ _ _ r _ (by show 768 + c.val < 1024 ∨ _; omega)).trans ?_
  refine (hita 768 _ _ _ r c _ rfl).trans ?_
  pointwise [k0_pay41, k0_pay40, k0_pay39, pa_apply]
  rfl

/-- The decay's logarithm of the delta rule. -/
theorem ga_g (r : Fin 512) (c : Fin 256) (hr : ∃ q : ℝ, pr x0 x2 x3 r ⟨1024 + c.val / 64, by omega⟩ = (q : EReal)) :
    out0_10 i x0 x1 x2 x3 x4 x5 x6 x7 x8 x9 (ix2 r ⟨1024 + c.val, by omega⟩) = -(Ideal.exp (x5 (ix2 0 c))) * soft ((pr x0 x2 x3 r ⟨1024 + c.val / 64, by omega⟩) + x6 (ix2 0 c)) := by
  unfold_out out0_10
  refine (skipa 1280 _ _ _ r _ (by show 1024 + c.val < 1280 ∨ _; omega)).trans ?_
  refine (hita 1024 _ _ _ r c _ rfl).trans ?_
  rw [g_apply x5 x6 _ r c (by rw [pa_apply]; exact hr), pa_apply]

/-- The update gate of the delta rule. -/
theorem ga_b (r : Fin 512) (c : Fin 256) (hr : ∃ q : ℝ, pr x0 x2 x3 r ⟨1024 + (c.val / 64 + 4), by omega⟩ = (q : EReal)) :
    out0_10 i x0 x1 x2 x3 x4 x5 x6 x7 x8 x9 (ix2 r ⟨1280 + c.val, by omega⟩) = lgs (pr x0 x2 x3 r ⟨1024 + (c.val / 64 + 4), by omega⟩) := by
  unfold_out out0_10
  refine (hita 1280 _ _ _ r c _ rfl).trans ?_
  rw [beta_apply _ r c (by rw [pa_apply]; exact hr), pa_apply]

/-- The queries of gated linear attention. -/
theorem gb_q (r : Fin 512) (c : Fin 256) :
    out0_11 i x0 x1 x2 x3 x4 x5 x6 x7 x8 x9 (ix2 r ⟨0 + c.val, by omega⟩) = (pr x0 x2 x3 r ⟨1152 + c.val, by omega⟩) * Ideal.ofBits FTy.f32 1040187392#32 := by
  unfold_out out0_11
  refine (skipb 1024 _ _ _ r _ (by show 0 + c.val < 1024 ∨ _; omega)).trans ?_
  refine (skipb 768 _ _ _ r _ (by show 0 + c.val < 768 ∨ _; omega)).trans ?_
  refine (skipb 512 _ _ _ r _ (by show 0 + c.val < 512 ∨ _; omega)).trans ?_
  refine (skipb 256 _ _ _ r _ (by show 0 + c.val < 256 ∨ _; omega)).trans ?_
  refine (hitb 0 _ _ _ r c _ rfl).trans ?_
  pointwise [k0_pay47, pb_apply]

/-- The keys of gated linear attention. -/
theorem gb_k (r : Fin 512) (c : Fin 256) :
    out0_11 i x0 x1 x2 x3 x4 x5 x6 x7 x8 x9 (ix2 r ⟨256 + c.val, by omega⟩) = (pr x0 x2 x3 r ⟨1152 + (256 + c.val), by omega⟩) := by
  unfold_out out0_11
  refine (skipb 1024 _ _ _ r _ (by show 256 + c.val < 1024 ∨ _; omega)).trans ?_
  refine (skipb 768 _ _ _ r _ (by show 256 + c.val < 768 ∨ _; omega)).trans ?_
  refine (skipb 512 _ _ _ r _ (by show 256 + c.val < 512 ∨ _; omega)).trans ?_
  refine (hitb 256 _ _ _ r c _ rfl).trans ?_
  pointwise [k0_pay48, pb_apply]

/-- The values of gated linear attention. -/
theorem gb_v (r : Fin 512) (c : Fin 256) :
    out0_11 i x0 x1 x2 x3 x4 x5 x6 x7 x8 x9 (ix2 r ⟨512 + c.val, by omega⟩) = (pr x0 x2 x3 r ⟨1152 + (512 + c.val), by omega⟩) := by
  unfold_out out0_11
  refine (skipb 1024 _ _ _ r _ (by show 512 + c.val < 1024 ∨ _; omega)).trans ?_
  refine (skipb 768 _ _ _ r _ (by show 512 + c.val < 768 ∨ _; omega)).trans ?_
  refine (hitb 512 _ _ _ r c _ rfl).trans ?_
  pointwise [k0_pay49, pb_apply]

/-- The gate of gated linear attention. -/
theorem gb_s (r : Fin 512) (c : Fin 256) :
    out0_11 i x0 x1 x2 x3 x4 x5 x6 x7 x8 x9 (ix2 r ⟨768 + c.val, by omega⟩) = silu (pr x0 x2 x3 r ⟨1152 + (768 + c.val), by omega⟩) := by
  unfold_out out0_11
  refine (skipb 1024 _ _ _ r _ (by show 768 + c.val < 1024 ∨ _; omega)).trans ?_
  refine (hitb 768 _ _ _ r c _ rfl).trans ?_
  pointwise [k0_pay50, pb_apply]
  rfl

/-- The forget gate's logarithm of gated linear attention. -/
theorem gb_f (r : Fin 512) (c : Fin 256) :
    out0_11 i x0 x1 x2 x3 x4 x5 x6 x7 x8 x9 (ix2 r ⟨1024 + c.val, by omega⟩) = lsg (∑ k : Fin 128, pr x0 x2 x3 r ⟨1152 + (1024 + k.val), by omega⟩ * x7 (ix2 k c) + x8 (ix2 0 c)) * Ideal.ofBits FTy.f32 1031798784#32 := by
  unfold_out out0_11
  refine (hitb 1024 _ _ _ r c _ rfl).trans ?_
  rw [View.ld_unit_zero (S := S1x256) hz2, View.ld_unit_zero (S := S128x256) hz2]
  pointwise [k0_pay46, k0_pay45, k0_pay44, k0_pay43, pb_apply]
  rw [absf_max]
  simp only [zero_sub]
  rfl

/-- The queries of the third mixer. -/
theorem gd_q (r : Fin 512) (c : Fin 256) :
    out0_13 i x0 x1 x2 x3 x4 x5 x6 x7 x8 x9 (ix2 r ⟨0 + c.val, by omega⟩) = silu (pr x0 x2 x3 r ⟨2560 + c.val, by omega⟩) * Ideal.ofBits FTy.f32 1040187392#32 := by
  unfold_out out0_13
  refine (skipb 1024 _ _ _ r _ (by show 0 + c.val < 1024 ∨ _; omega)).trans ?_
  refine (skipb 768 _ _ _ r _ (by show 0 + c.val < 768 ∨ _; omega)).trans ?_
  refine (skipb 512 _ _ _ r _ (by show 0 + c.val < 512 ∨ _; omega)).trans ?_
  refine (skipb 256 _ _ _ r _ (by show 0 + c.val < 256 ∨ _; omega)).trans ?_
  refine (hitb 0 _ _ _ r c _ rfl).trans ?_
  pointwise [k0_pay8, pd_apply]
  rfl

/-- The keys of the third mixer. -/
theorem gd_k (r : Fin 512) (c : Fin 256) :
    out0_13 i x0 x1 x2 x3 x4 x5 x6 x7 x8 x9 (ix2 r ⟨256 + c.val, by omega⟩) = (1 - x9 (ix2 0 c)) * lgs (-(pr x0 x2 x3 r ⟨2560 + (256 + c.val), by omega⟩)) := by
  unfold_out out0_13
  refine (skipb 1024 _ _ _ r _ (by show 256 + c.val < 1024 ∨ _; omega)).trans ?_
  refine (skipb 768 _ _ _ r _ (by show 256 + c.val < 768 ∨ _; omega)).trans ?_
  refine (skipb 512 _ _ _ r _ (by show 256 + c.val < 512 ∨ _; omega)).trans ?_
  refine (hitb 256 _ _ _ r c _ rfl).trans ?_
  rw [View.ld_unit_zero (S := S1x256) hz2]
  pointwise [k0_pay9, k0_pay7, k0_pay6, pd_apply]
  simp only [zero_sub]
  rfl

/-- The values of the third mixer. -/
theorem gd_v (r : Fin 512) (c : Fin 256) :
    out0_13 i x0 x1 x2 x3 x4 x5 x6 x7 x8 x9 (ix2 r ⟨512 + c.val, by omega⟩) = (pr x0 x2 x3 r ⟨2560 + (512 + c.val), by omega⟩) := by
  unfold_out out0_13
  refine (skipb 1024 _ _ _ r _ (by show 512 + c.val < 1024 ∨ _; omega)).trans ?_
  refine (skipb 768 _ _ _ r _ (by show 512 + c.val < 768 ∨ _; omega)).trans ?_
  refine (hitb 512 _ _ _ r c _ rfl).trans ?_
  pointwise [k0_pay10, pd_apply]

/-- The gate of the third mixer. -/
theorem gd_s (r : Fin 512) (c : Fin 256) :
    out0_13 i x0 x1 x2 x3 x4 x5 x6 x7 x8 x9 (ix2 r ⟨768 + c.val, by omega⟩) = silu (pr x0 x2 x3 r ⟨2560 + (768 + c.val), by omega⟩) := by
  unfold_out out0_13
  refine (skipb 1024 _ _ _ r _ (by show 768 + c.val < 1024 ∨ _; omega)).trans ?_
  refine (hitb 768 _ _ _ r c _ rfl).trans ?_
  pointwise [k0_pay11, pd_apply]
  rfl

/-- The forget gate's logarithm of the third mixer. -/
theorem gd_f (r : Fin 512) (c : Fin 256) :
    out0_13 i x0 x1 x2 x3 x4 x5 x6 x7 x8 x9 (ix2 r ⟨1024 + c.val, by omega⟩) = lfg (pr x0 x2 x3 r ⟨2560 + (256 + c.val), by omega⟩) (x9 (ix2 0 c)) := by
  unfold_out out0_13
  refine (hitb 1024 _ _ _ r c _ rfl).trans ?_
  rw [View.ld_unit_zero (S := S1x256) hz2]
  pointwise [k0_pay13, k0_pay12, k0_pay7, k0_pay6, pd_apply]
  simp only [zero_sub, absf_max]
  unfold lfg lsg
  by_cases h : 0 < x9 (ix2 0 c)
  · simp only [if_pos h]; rfl
  · simp only [if_neg h]; rfl

end Cert.Kernel5Ideal.Hand
end
-- ==== Proof.Inp.Pack.lean ====
module

public import proofs.«01_k».proof.Proof.Inp.Body
@[expose] public section

set_option maxRecDepth 16384
set_option maxHeartbeats 1000000
noncomputable section

namespace Cert.Kernel5Ideal.Hand

open Cert.Kernel5Ideal Cert.Kernel5Ideal.Gen Idealize.ShloMosaic Idealize.ShloMosaic.TcCoe Idealize.SL.Sem Cert.Hand
open Idealize.ShloMosaic.Pipeline (Dat)

/-- The packed weights: the mixers' segments side by side, each padded with zero columns to whole lanes. -/
def wmix (w : Vec Ideal S1024x7448 .f32) : Vec Ideal S1024x3584 .bf16 :=
  concatenate S1024x3584 1 [
    ⟨S1024x768, (extractStridedSlice S1024x768 ![0, 0] (w : Vec Ideal S1024x7448 .bf16) slices_S1024x7448_S1024x768_0_0 : Vec Ideal S1024x768 .bf16)⟩,
    ⟨S1024x256, (extractStridedSlice S1024x256 ![0, 776] (w : Vec Ideal S1024x7448 .bf16) slices_S1024x7448_S1024x256_0_776 : Vec Ideal S1024x256 .bf16)⟩,
    ⟨S1024x4, (extractStridedSlice S1024x4 ![0, 768] (w : Vec Ideal S1024x7448 .bf16) slices_S1024x7448_S1024x4_0_768 : Vec Ideal S1024x4 .bf16)⟩,
    ⟨S1024x4, (extractStridedSlice S1024x4 ![0, 772] (w : Vec Ideal S1024x7448 .bf16) slices_S1024x7448_S1024x4_0_772 : Vec Ideal S1024x4 .bf16)⟩,
    ⟨S1024x120, (broadcastInDim S1024x120 ![] bcast_S_S1024x120 (constant (F := Ideal) S_ .bf16 0x0000#16) : Vec Ideal S1024x120 .bf16)⟩,
    ⟨S1024x256, (extractStridedSlice S1024x256 ![0, 1032] (w : Vec Ideal S1024x7448 .bf16) slices_S1024x7448_S1024x256_0_1032 : Vec Ideal S1024x256 .bf16)⟩,
    ⟨S1024x256, (extractStridedSlice S1024x256 ![0, 1288] (w : Vec Ideal S1024x7448 .bf16) slices_S1024x7448_S1024x256_0_1288 : Vec Ideal S1024x256 .bf16)⟩,
    ⟨S1024x256, (extractStridedSlice S1024x256 ![0, 1544] (w : Vec Ideal S1024x7448 .bf16) slices_S1024x7448_S1024x256_0_1544 : Vec Ideal S1024x256 .bf16)⟩,
    ⟨S1024x256, (extractStridedSlice S1024x256 ![0, 1816] (w : Vec Ideal S1024x7448 .bf16) slices_S1024x7448_S1024x256_0_1816 : Vec Ideal S1024x256 .bf16)⟩,
    ⟨S1024x16, (extractStridedSlice S1024x16 ![0, 1800] (w : Vec Ideal S1024x7448 .bf16) slices_S1024x7448_S1024x16_0_1800 : Vec Ideal S1024x16 .bf16)⟩,
    ⟨S1024x112, (broadcastInDim S1024x112 ![] bcast_S_S1024x112 (constant (F := Ideal) S_ .bf16 0x0000#16) : Vec Ideal S1024x112 .bf16)⟩,
    ⟨S1024x256, (extractStridedSlice S1024x256 ![0, 2072] (w : Vec Ideal S1024x7448 .bf16) slices_S1024x7448_S1024x256_0_2072 : Vec Ideal S1024x256 .bf16)⟩,
    ⟨S1024x256, (extractStridedSlice S1024x256 ![0, 2328] (w : Vec Ideal S1024x7448 .bf16) slices_S1024x7448_S1024x256_0_2328 : Vec Ideal S1024x256 .bf16)⟩,
    ⟨S1024x256, (extractStridedSlice S1024x256 ![0, 2584] (w : Vec Ideal S1024x7448 .bf16) slices_S1024x7448_S1024x256_0_2584 : Vec Ideal S1024x256 .bf16)⟩,
    ⟨S1024x256, (extractStridedSlice S1024x256 ![0, 2840] (w : Vec Ideal S1024x7448 .bf16) slices_S1024x7448_S1024x256_0_2840 : Vec Ideal S1024x256 .bf16)⟩,
    ⟨S1024x256, (extractStridedSlice S1024x256 ![0, 3096] (w : Vec Ideal S1024x7448 .bf16) slices_S1024x7448_S1024x256_0_3096 : Vec Ideal S1024x256 .bf16)⟩]
    concatenates_S1024x768_S1024x256_S1024x4_S1024x4_S1024x120_S1024x256_S1024x256_S1024x256_S1024x256_S1024x16_S1024x112_S1024x256_S1024x256_S1024x256_S1024x256_S1024x256_S1024x3584_d1

/-- The width of the segments before column 0. -/
theorem pre_0 : (([] : List Shape).map fun s => if h : s.rank = S1024x3584.rank then s.size ((1 : Fin S1024x3584.rank).cast h.symm) else 0).sum = 0 := by decide +kernel
/-- Columns 0 to 767 of the packed weights. -/
theorem wmix_0 (w : Vec Ideal S1024x7448 .f32) (k : Fin 1024) (c : Fin 768) (n : Fin 3584) (n' : Fin 7448)
    (hn : n.val = 0 + c.val) (hn' : n'.val = 0 + c.val) : wmix w (ix2 k n) = w (ix2 k n') := by
  obtain rfl : (⟨0 + c.val, by clear hn'; omega⟩ : Fin 7448) = n' := Fin.ext hn'.symm
  refine (concatenate_apply_piece (t := S1024x3584) 1 _ _ (ix2 k n) 0 (Nat.lt_of_sub_eq_succ rfl) S1024x768 _ rfl rfl 0 ?_ (ix2 k c) ?_ ?_).trans ?_
  · exact pre_0
  · intro b hb
    match b, hb with
    | ⟨0, _⟩, _ => rfl
    | ⟨1, _⟩, hb => exact absurd rfl hb
  · exact hn.symm
  · pointwise
/-- The width of the segments before column 768. -/
theorem pre_768 : (([S1024x768] : List Shape).map fun s => if h : s.rank = S1024x3584.rank then s.size ((1 : Fin S1024x3584.rank).cast h.symm) else 0).sum = 768 := by decide +kernel
/-- Columns 768 to 1023 of the packed weights. -/
theorem wmix_768 (w : Vec Ideal S1024x7448 .f32) (k : Fin 1024) (c : Fin 256) (n : Fin 3584) (n' : Fin 7448)
    (hn : n.val = 768 + c.val) (hn' : n'.val = 776 + c.val) : wmix w (ix2 k n) = w (ix2 k n') := by
  obtain rfl : (⟨776 + c.val, by clear hn'; omega⟩ : Fin 7448) = n' := Fin.ext hn'.symm
  refine (concatenate_apply_piece (t := S1024x3584) 1 _ _ (ix2 k n) 1 (Nat.lt_of_sub_eq_succ rfl) S1024x256 _ rfl rfl 768 ?_ (ix2 k c) ?_ ?_).trans ?_
  · exact pre_768
  · intro b hb
    match b, hb with
    | ⟨0, _⟩, _ => rfl
    | ⟨1, _⟩, hb => exact absurd rfl hb
  · exact hn.symm
  · pointwise
/-- The width of the segments before column 1024. -/
theorem pre_1024 : (([S1024x768, S1024x256] : List Shape).map fun s => if h : s.rank = S1024x3584.rank then s.size ((1 : Fin S1024x3584.rank).cast h.symm) else 0).sum = 1024 := by decide +kernel
/-- Columns 1024 to 1027 of the packed weights. -/
theorem wmix_1024 (w : Vec Ideal S1024x7448 .f32) (k : Fin 1024) (c : Fin 4) (n : Fin 3584) (n' : Fin 7448)
    (hn : n.val = 1024 + c.val) (hn' : n'.val = 768 + c.val) : wmix w (ix2 k n) = w (ix2 k n') := by
  obtain rfl : (⟨768 + c.val, by clear hn'; omega⟩ : Fin 7448) = n' := Fin.ext hn'.symm
  refine (concatenate_apply_piece (t := S1024x3584) 1 _ _ (ix2 k n) 2 (Nat.lt_of_sub_eq_succ rfl) S1024x4 _ rfl rfl 1024 ?_ (ix2 k c) ?_ ?_).trans ?_
  · exact pre_1024
  · intro b hb
    match b, hb with
    | ⟨0, _⟩, _ => rfl
    | ⟨1, _⟩, hb => exact absurd rfl hb
  · exact hn.symm
  · pointwise
/-- The width of the segments before column 1028. -/
theorem pre_1028 : (([S1024x768, S1024x256, S1024x4] : List Shape).map fun s => if h : s.rank = S1024x3584.rank then s.size ((1 : Fin S1024x3584.rank).cast h.symm) else 0).sum = 1028 := by decide +kernel
/-- Columns 1028 to 1031 of the packed weights. -/
theorem wmix_1028 (w : Vec Ideal S1024x7448 .f32) (k : Fin 1024) (c : Fin 4) (n : Fin 3584) (n' : Fin 7448)
    (hn : n.val = 1028 + c.val) (hn' : n'.val = 772 + c.val) : wmix w (ix2 k n) = w (ix2 k n') := by
  obtain rfl : (⟨772 + c.val, by clear hn'; omega⟩ : Fin 7448) = n' := Fin.ext hn'.symm
  refine (concatenate_apply_piece (t := S1024x3584) 1 _ _ (ix2 k n) 3 (Nat.lt_of_sub_eq_succ rfl) S1024x4 _ rfl rfl 1028 ?_ (ix2 k c) ?_ ?_).trans ?_
  · exact pre_1028
  · intro b hb
    match b, hb with
    | ⟨0, _⟩, _ => rfl
    | ⟨1, _⟩, hb => exact absurd rfl hb
  · exact hn.symm
  · pointwise
/-- The width of the segments before column 1152. -/
theorem pre_1152 : (([S1024x768, S1024x256, S1024x4, S1024x4, S1024x120] : List Shape).map fun s => if h : s.rank = S1024x3584.rank then s.size ((1 : Fin S1024x3584.rank).cast h.symm) else 0).sum = 1152 := by decide +kernel
/-- Columns 1152 to 1407 of the packed weights. -/
theorem wmix_1152 (w : Vec Ideal S1024x7448 .f32) (k : Fin 1024) (c : Fin 256) (n : Fin 3584) (n' : Fin 7448)
    (hn : n.val = 1152 + c.val) (hn' : n'.val = 1032 + c.val) : wmix w (ix2 k n) = w (ix2 k n') := by
  obtain rfl : (⟨1032 + c.val, by clear hn'; omega⟩ : Fin 7448) = n' := Fin.ext hn'.symm
  refine (concatenate_apply_piece (t := S1024x3584) 1 _ _ (ix2 k n) 5 (Nat.lt_of_sub_eq_succ rfl) S1024x256 _ rfl rfl 1152 ?_ (ix2 k c) ?_ ?_).trans ?_
  · exact pre_1152
  · intro b hb
    match b, hb with
    | ⟨0, _⟩, _ => rfl
    | ⟨1, _⟩, hb => exact absurd rfl hb
  · exact hn.symm
  · pointwise
/-- The width of the segments before column 1408. -/
theorem pre_1408 : (([S1024x768, S1024x256, S1024x4, S1024x4, S1024x120, S1024x256] : List Shape).map fun s => if h : s.rank = S1024x3584.rank then s.size ((1 : Fin S1024x3584.rank).cast h.symm) else 0).sum = 1408 := by decide +kernel
/-- Columns 1408 to 1663 of the packed weights. -/
theorem wmix_1408 (w : Vec Ideal S1024x7448 .f32) (k : Fin 1024) (c : Fin 256) (n : Fin 3584) (n' : Fin 7448)
    (hn : n.val = 1408 + c.val) (hn' : n'.val = 1288 + c.val) : wmix w (ix2 k n) = w (ix2 k n') := by
  obtain rfl : (⟨1288 + c.val, by clear hn'; omega⟩ : Fin 7448) = n' := Fin.ext hn'.symm
  refine (concatenate_apply_piece (t := S1024x3584) 1 _ _ (ix2 k n) 6 (Nat.lt_of_sub_eq_succ rfl) S1024x256 _ rfl rfl 1408 ?_ (ix2 k c) ?_ ?_).trans ?_
  · exact pre_1408
  · intro b hb
    match b, hb with
    | ⟨0, _⟩, _ => rfl
    | ⟨1, _⟩, hb => exact absurd rfl hb
  · exact hn.symm
  · pointwise
/-- The width of the segments before column 1664. -/
theorem pre_1664 : (([S1024x768, S1024x256, S1024x4, S1024x4, S1024x120, S1024x256, S1024x256] : List Shape).map fun s => if h : s.rank = S1024x3584.rank then s.size ((1 : Fin S1024x3584.rank).cast h.symm) else 0).sum = 1664 := by decide +kernel
/-- Columns 1664 to 1919 of the packed weights. -/
theorem wmix_1664 (w : Vec Ideal S1024x7448 .f32) (k : Fin 1024) (c : Fin 256) (n : Fin 3584) (n' : Fin 7448)
    (hn : n.val = 1664 + c.val) (hn' : n'.val = 1544 + c.val) : wmix w (ix2 k n) = w (ix2 k n') := by
  obtain rfl : (⟨1544 + c.val, by clear hn'; omega⟩ : Fin 7448) = n' := Fin.ext hn'.symm
  refine (concatenate_apply_piece (t := S1024x3584) 1 _ _ (ix2 k n) 7 (Nat.lt_of_sub_eq_succ rfl) S1024x256 _ rfl rfl 1664 ?_ (ix2 k c) ?_ ?_).trans ?_
  · exact pre_1664
  · intro b hb
    match b, hb with
    | ⟨0, _⟩, _ => rfl
    | ⟨1, _⟩, hb => exact absurd rfl hb
  · exact hn.symm
  · pointwise
/-- The width of the segments before column 1920. -/
theorem pre_1920 : (([S1024x768, S1024x256, S1024x4, S1024x4, S1024x120, S1024x256, S1024x256, S1024x256] : List Shape).map fun s => if h : s.rank = S1024x3584.rank then s.size ((1 : Fin S1024x3584.rank).cast h.symm) else 0).sum = 1920 := by decide +kernel
/-- Columns 1920 to 2175 of the packed weights. -/
theorem wmix_1920 (w : Vec Ideal S1024x7448 .f32) (k : Fin 1024) (c : Fin 256) (n : Fin 3584) (n' : Fin 7448)
    (hn : n.val = 1920 + c.val) (hn' : n'.val = 1816 + c.val) : wmix w (ix2 k n) = w (ix2 k n') := by
  obtain rfl : (⟨1816 + c.val, by clear hn'; omega⟩ : Fin 7448) = n' := Fin.ext hn'.symm
  refine (concatenate_apply_piece (t := S1024x3584) 1 _ _ (ix2 k n) 8 (Nat.lt_of_sub_eq_succ rfl) S1024x256 _ rfl rfl 1920 ?_ (ix2 k c) ?_ ?_).trans ?_
  · exact pre_1920
  · intro b hb
    match b, hb with
    | ⟨0, _⟩, _ => rfl
    | ⟨1, _⟩, hb => exact absurd rfl hb
  · exact hn.symm
  · pointwise
/-- The width of the segments before column 2176. -/
theorem pre_2176 : (([S1024x768, S1024x256, S1024x4, S1024x4, S1024x120, S1024x256, S1024x256, S1024x256, S1024x256] : List Shape).map fun s => if h : s.rank = S1024x3584.rank then s.size ((1 : Fin S1024x3584.rank).cast h.symm) else 0).sum = 2176 := by decide +kernel
/-- Columns 2176 to 2191 of the packed weights. -/
theorem wmix_2176 (w : Vec Ideal S1024x7448 .f32) (k : Fin 1024) (c : Fin 16) (n : Fin 3584) (n' : Fin 7448)
    (hn : n.val = 2176 + c.val) (hn' : n'.val = 1800 + c.val) : wmix w (ix2 k n) = w (ix2 k n') := by
  obtain rfl : (⟨1800 + c.val, by clear hn'; omega⟩ : Fin 7448) = n' := Fin.ext hn'.symm
  refine (concatenate_apply_piece (t := S1024x3584) 1 _ _ (ix2 k n) 9 (Nat.lt_of_sub_eq_succ rfl) S1024x16 _ rfl rfl 2176 ?_ (ix2 k c) ?_ ?_).trans ?_
  · exact pre_2176
  · intro b hb
    match b, hb with
    | ⟨0, _⟩, _ => rfl
    | ⟨1, _⟩, hb => exact absurd rfl hb
  · exact hn.symm
  · pointwise
/-- The width of the segments before column 2304. -/
theorem pre_2304 : (([S1024x768, S1024x256, S1024x4, S1024x4, S1024x120, S1024x256, S1024x256, S1024x256, S1024x256, S1024x16, S1024x112] : List Shape).map fun s => if h : s.rank = S1024x3584.rank then s.size ((1 : Fin S1024x3584.rank).cast h.symm) else 0).sum = 2304 := by decide +kernel
/-- Columns 2304 to 2559 of the packed weights. -/
theorem wmix_2304 (w : Vec Ideal S1024x7448 .f32) (k : Fin 1024) (c : Fin 256) (n : Fin 3584) (n' : Fin 7448)
    (hn : n.val = 2304 + c.val) (hn' : n'.val = 2072 + c.val) : wmix w (ix2 k n) = w (ix2 k n') := by
  obtain rfl : (⟨2072 + c.val, by clear hn'; omega⟩ : Fin 7448) = n' := Fin.ext hn'.symm
  refine (concatenate_apply_piece (t := S1024x3584) 1 _ _ (ix2 k n) 11 (Nat.lt_of_sub_eq_succ rfl) S1024x256 _ rfl rfl 2304 ?_ (ix2 k c) ?_ ?_).trans ?_
  · exact pre_2304
  · intro b hb
    match b, hb with
    | ⟨0, _⟩, _ => rfl
    | ⟨1, _⟩, hb => exact absurd rfl hb
  · exact hn.symm
  · pointwise
/-- The width of the segments before column 2560. -/
theorem pre_2560 : (([S1024x768, S1024x256, S1024x4, S1024x4, S1024x120, S1024x256, S1024x256, S1024x256, S1024x256, S1024x16, S1024x112, S1024x256] : List Shape).map fun s => if h : s.rank = S1024x3584.rank then s.size ((1 : Fin S1024x3584.rank).cast h.symm) else 0).sum = 2560 := by decide +kernel
/-- Columns 2560 to 2815 of the packed weights. -/
theorem wmix_2560 (w : Vec Ideal S1024x7448 .f32) (k : Fin 1024) (c : Fin 256) (n : Fin 3584) (n' : Fin 7448)
    (hn : n.val = 2560 + c.val) (hn' : n'.val = 2328 + c.val) : wmix w (ix2 k n) = w (ix2 k n') := by
  obtain rfl : (⟨2328 + c.val, by clear hn'; omega⟩ : Fin 7448) = n' := Fin.ext hn'.symm
  refine (concatenate_apply_piece (t := S1024x3584) 1 _ _ (ix2 k n) 12 (Nat.lt_of_sub_eq_succ rfl) S1024x256 _ rfl rfl 2560 ?_ (ix2 k c) ?_ ?_).trans ?_
  · exact pre_2560
  · intro b hb
    match b, hb with
    | ⟨0, _⟩, _ => rfl
    | ⟨1, _⟩, hb => exact absurd rfl hb
  · exact hn.symm
  · pointwise
/-- The width of the segments before column 2816. -/
theorem pre_2816 : (([S1024x768, S1024x256, S1024x4, S1024x4, S1024x120, S1024x256, S1024x256, S1024x256, S1024x256, S1024x16, S1024x112, S1024x256, S1024x256] : List Shape).map fun s => if h : s.rank = S1024x3584.rank then s.size ((1 : Fin S1024x3584.rank).cast h.symm) else 0).sum = 2816 := by decide +kernel
/-- Columns 2816 to 3071 of the packed weights. -/
theorem wmix_2816 (w : Vec Ideal S1024x7448 .f32) (k : Fin 1024) (c : Fin 256) (n : Fin 3584) (n' : Fin 7448)
    (hn : n.val = 2816 + c.val) (hn' : n'.val = 2584 + c.val) : wmix w (ix2 k n) = w (ix2 k n') := by
  obtain rfl : (⟨2584 + c.val, by clear hn'; omega⟩ : Fin 7448) = n' := Fin.ext hn'.symm
  refine (concatenate_apply_piece (t := S1024x3584) 1 _ _ (ix2 k n) 13 (Nat.lt_of_sub_eq_succ rfl) S1024x256 _ rfl rfl 2816 ?_ (ix2 k c) ?_ ?_).trans ?_
  · exact pre_2816
  · intro b hb
    match b, hb with
    | ⟨0, _⟩, _ => rfl
    | ⟨1, _⟩, hb => exact absurd rfl hb
  · exact hn.symm
  · pointwise
/-- The width of the segments before column 3072. -/
theorem pre_3072 : (([S1024x768, S1024x256, S1024x4, S1024x4, S1024x120, S1024x256, S1024x256, S1024x256, S1024x256, S1024x16, S1024x112, S1024x256, S1024x256, S1024x256] : List Shape).map fun s => if h : s.rank = S1024x3584.rank then s.size ((1 : Fin S1024x3584.rank).cast h.symm) else 0).sum = 3072 := by decide +kernel
/-- Columns 3072 to 3327 of the packed weights. -/
theorem wmix_3072 (w : Vec Ideal S1024x7448 .f32) (k : Fin 1024) (c : Fin 256) (n : Fin 3584) (n' : Fin 7448)
    (hn : n.val = 3072 + c.val) (hn' : n'.val = 2840 + c.val) : wmix w (ix2 k n) = w (ix2 k n') := by
  obtain rfl : (⟨2840 + c.val, by clear hn'; omega⟩ : Fin 7448) = n' := Fin.ext hn'.symm
  refine (concatenate_apply_piece (t := S1024x3584) 1 _ _ (ix2 k n) 14 (Nat.lt_of_sub_eq_succ rfl) S1024x256 _ rfl rfl 3072 ?_ (ix2 k c) ?_ ?_).trans ?_
  · exact pre_3072
  · intro b hb
    match b, hb with
    | ⟨0, _⟩, _ => rfl
    | ⟨1, _⟩, hb => exact absurd rfl hb
  · exact hn.symm
  · pointwise
/-- The width of the segments before column 3328. -/
theorem pre_3328 : (([S1024x768, S1024x256, S1024x4, S1024x4, S1024x120, S1024x256, S1024x256, S1024x256, S1024x256, S1024x16, S1024x112, S1024x256, S1024x256, S1024x256, S1024x256] : List Shape).map fun s => if h : s.rank = S1024x3584.rank then s.size ((1 : Fin S1024x3584.rank).cast h.symm) else 0).sum = 3328 := by decide +kernel
/-- Columns 3328 to 3583 of the packed weights. -/
theorem wmix_3328 (w : Vec Ideal S1024x7448 .f32) (k : Fin 1024) (c : Fin 256) (n : Fin 3584) (n' : Fin 7448)
    (hn : n.val = 3328 + c.val) (hn' : n'.val = 3096 + c.val) : wmix w (ix2 k n) = w (ix2 k n') := by
  obtain rfl : (⟨3096 + c.val, by clear hn'; omega⟩ : Fin 7448) = n' := Fin.ext hn'.symm
  refine (concatenate_apply_piece (t := S1024x3584) 1 _ _ (ix2 k n) 15 (Nat.lt_of_sub_eq_succ rfl) S1024x256 _ rfl rfl 3328 ?_ (ix2 k c) ?_ ?_).trans ?_
  · exact pre_3328
  · intro b hb
    match b, hb with
    | ⟨0, _⟩, _ => rfl
    | ⟨1, _⟩, hb => exact absurd rfl hb
  · exact hn.symm
  · pointwise

/-- The gate's low-rank weights with zero rows below. -/
def gpad (g : Vec Ideal S16x256 .f32) : Vec Ideal S128x256 .f32 :=
  concatenate S128x256 0 [⟨S16x256, g⟩, ⟨S112x256, broadcastInDim S112x256 ![] bcast_S_S112x256 (constant (F := Ideal) S_ .f32 0x00000000#32)⟩]
    concatenates_S16x256_S112x256_S128x256_d0

/-- The padded weights, at an element. -/
theorem gpad_apply (g : Vec Ideal S16x256 .f32) (k : Fin 128) (c : Fin 256) :
    gpad g (ix2 k c) = if h : k.val < 16 then g (ix2 ⟨k.val, h⟩ c) else 0 := by
  pointwise [gpad]

/-- Of a product with the padded weights the first sixteen terms are left. -/
theorem gpad_sum (f : Fin 128 → EReal) (g : Vec Ideal S16x256 .f32) (c : Fin 256) :
    ∑ k, f k * gpad g (ix2 k c) = ∑ k : Fin 16, f ⟨k.val, by omega⟩ * g (ix2 k c) := by
  simp only [gpad_apply]
  refine (Finset.sum_of_injOn (fun k : Fin 16 => (⟨k.val, by omega⟩ : Fin 128)) ?_ ?_ ?_ ?_).symm
  · intro a _ b _ h
    exact Fin.ext (by simpa using h)
  · intro a _; exact Finset.mem_coe.mpr (Finset.mem_univ _)
  · intro k _ hk
    have h : ¬ k.val < 16 := fun h => hk ⟨⟨k.val, h⟩, by simp, rfl⟩
    simp only [dif_neg h, mul_zero]
  · intro a _
    have h : a.val < 16 := a.isLt
    simp only [dif_pos h]

/-- Row `R` of the flattened rows is token `R % 2048` of sequence `R / 2048`. -/
theorem flat_x (x : Vec Ideal S8x2048x1024 .f32) (R : Fin 16384) (d : Fin 1024) :
    shapeCast S16384x1024 x shapeCasts_S8x2048x1024_S16384x1024 (ix2 R d) = x (ix3 ⟨R.val / 2048, by omega⟩ ⟨R.val % 2048, by omega⟩ d) := by
  pointwise
/-- The norm's gain as a row. -/
theorem flat_n (x : Vec Ideal S1024 .f32) (d : Fin 1024) : shapeCast S1x1024 x shapeCasts_S1024_S1x1024 (ix2 0 d) = x (ix1 d) := by
  pointwise
/-- A vector of 256 as a row. -/
theorem flat_g (x : Vec Ideal S256 .f32) (d : Fin 256) : shapeCast S1x256 x shapeCasts_S256_S1x256 (ix2 0 d) = x (ix1 d) := by
  pointwise
/-- A vector of four repeated over the heads' columns, as a row. -/
theorem flat_r (x : Vec Ideal S4 .f32) (d : Fin 256) :
    shapeCast S1x256 (shapeCast S256 (broadcastInDim S4x64 ![0] bcast_S4_S4x64_0 x) shapeCasts_S4x64_S256) shapeCasts_S256_S1x256 (ix2 0 d) = x (ix1 ⟨d.val / 64, by omega⟩) := by
  pointwise

variable (m : (ℓ : Loc nD τ sig) → Buf (Elt Ideal) ℓ)

/-- The array window 0 reads, from the argument. -/
theorem V_0 (c : Dev nD) : V m c main_v29 = shapeCast S16384x1024 (m (c.tc.loc main_arg0) : Vec Ideal S8x2048x1024 .f32) shapeCasts_S8x2048x1024_S16384x1024 := by
  unfold V
  after_results <;> rfl
/-- The array window 2 reads, from the argument. -/
theorem V_2 (c : Dev nD) : V m c main_v30 = shapeCast S1x1024 (m (c.tc.loc main_arg1) : Vec Ideal S1024 .f32) shapeCasts_S1024_S1x1024 := by
  unfold V
  after_results <;> rfl
/-- The array window 3 reads, from the argument. -/
theorem V_3 (c : Dev nD) : V m c main_v18 = wmix (m (c.tc.loc main_arg2) : Vec Ideal S1024x7448 .f32) := by
  unfold V
  after_results <;> rfl
/-- The array window 5 reads, from the argument. -/
theorem V_5 (c : Dev nD) : V m c main_v23 = shapeCast S1x256 (shapeCast S256 (broadcastInDim S4x64 ![0] bcast_S4_S4x64_0 (m (c.tc.loc main_arg4) : Vec Ideal S4 .f32)) shapeCasts_S4x64_S256) shapeCasts_S256_S1x256 := by
  unfold V
  after_results <;> rfl
/-- The array window 6 reads, from the argument. -/
theorem V_6 (c : Dev nD) : V m c main_v26 = shapeCast S1x256 (shapeCast S256 (broadcastInDim S4x64 ![0] bcast_S4_S4x64_0 (m (c.tc.loc main_arg5) : Vec Ideal S4 .f32)) shapeCasts_S4x64_S256) shapeCasts_S256_S1x256 := by
  unfold V
  after_results <;> rfl
/-- The array window 7 reads, from the argument. -/
theorem V_7 (c : Dev nD) : V m c main_v20 = gpad (m (c.tc.loc main_arg6) : Vec Ideal S16x256 .f32) := by
  unfold V
  after_results <;> rfl
/-- The array window 8 reads, from the argument. -/
theorem V_8 (c : Dev nD) : V m c main_v27 = shapeCast S1x256 (m (c.tc.loc main_arg7) : Vec Ideal S256 .f32) shapeCasts_S256_S1x256 := by
  unfold V
  after_results <;> rfl
/-- The array window 9 reads, from the argument. -/
theorem V_9 (c : Dev nD) : V m c main_v28 = shapeCast S1x256 (m (c.tc.loc main_arg8) : Vec Ideal S256 .f32) shapeCasts_S256_S1x256 := by
  unfold V
  after_results <;> rfl

end Cert.Kernel5Ideal.Hand
end
-- ==== Proof.Inp.Final.lean ====
module

public import proofs.«01_k».proof.Proof.Inp.Pack
@[expose] public section

set_option maxRecDepth 16384
noncomputable section

namespace Cert.Kernel5Ideal.Hand

open Cert.Kernel5Ideal Cert.Kernel5Ideal.Gen Idealize.ShloMosaic Idealize.ShloMosaic.TcCoe Idealize.SL.Sem Cert.Hand
open Idealize.ShloMosaic.Pipeline (Dat)

/-- Column `n` of the input projection of token `l` of sequence `b`. -/
def P (x : Vec Ideal S8x2048x1024 .f32) (nw : Vec Ideal S1024 .f32) (w : Vec Ideal S1024x7448 .f32) (b : Fin 8) (l : Fin 2048) (n : Fin 7448) : EReal :=
  proj (fun k => x (ix3 b l k)) (fun k => nw (ix1 k)) (fun k => w (ix2 k n))

/-- The row `3 - j` tokens before token `l`, zero before the sequence's start. -/
def Tap (x : Vec Ideal S8x2048x1024 .f32) (nw : Vec Ideal S1024 .f32) (w : Vec Ideal S1024x7448 .f32) (b : Fin 8) (l : Fin 2048) (n : Fin 7448) (j : Fin 4) : EReal :=
  if h : l.val + j.val < 3 then 0 else P x nw w b ⟨l.val + j.val - 3, by omega⟩ n

/-- The causal depthwise convolution's output, column `n`. -/
def CV (x : Vec Ideal S8x2048x1024 .f32) (nw : Vec Ideal S1024 .f32) (w : Vec Ideal S1024x7448 .f32) (cw : Vec Ideal S4x768 .f32) (b : Fin 8) (l : Fin 2048) (n : Fin 768) : EReal :=
  conv4 (Tap x nw w b l ⟨n.val, by omega⟩) (fun j => cw (ix2 j n))

/-- The third mixer's key from its lower bound and its forget gate's logit. -/
def kf (lb f : EReal) : EReal := (1 - lb) * lgs (-f)

/-- Real inputs have real projections. -/
theorem P_real (x : Vec Ideal S8x2048x1024 .f32) (nw : Vec Ideal S1024 .f32) (w : Vec Ideal S1024x7448 .f32)
    (hx : ∀ i, ∃ r : ℝ, x i = (r : EReal)) (hn : ∀ i, ∃ r : ℝ, nw i = (r : EReal)) (hw : ∀ i, ∃ r : ℝ, w i = (r : EReal)) (b : Fin 8) (l : Fin 2048) (n : Fin 7448) :
    ∃ r : ℝ, P x nw w b l n = (r : EReal) :=
  proj_real _ _ _ (fun _ => hx _) (fun _ => hn _) (fun _ => hw _)

/-- Real inputs have a real convolution. -/
theorem CV_real (x : Vec Ideal S8x2048x1024 .f32) (nw : Vec Ideal S1024 .f32) (w : Vec Ideal S1024x7448 .f32) (cw : Vec Ideal S4x768 .f32)
    (hx : ∀ i, ∃ r : ℝ, x i = (r : EReal)) (hn : ∀ i, ∃ r : ℝ, nw i = (r : EReal)) (hw : ∀ i, ∃ r : ℝ, w i = (r : EReal)) (hc : ∀ i, ∃ r : ℝ, cw i = (r : EReal))
    (b : Fin 8) (l : Fin 2048) (n : Fin 768) : ∃ r : ℝ, CV x nw w cw b l n = (r : EReal) := by
  have hT : ∀ j, ∃ r : ℝ, Tap x nw w b l ⟨n.val, by omega⟩ j = (r : EReal) := by
    intro j
    unfold Tap
    split
    · exact ⟨0, rfl⟩
    · exact P_real x nw w hx hn hw _ _ _
  choose t ht using hT
  choose v hv using hc
  unfold CV conv4
  simp only [ht, hv, ← EReal.coe_mul, ← EReal.coe_add]
  exact silu_real _

/-- A flattened row, with the sequence and the token given. -/
theorem flat_x' (x : Vec Ideal S8x2048x1024 .f32) (R : Fin 16384) (d : Fin 1024) (b : Fin 8) (l : Fin 2048) (hR : b.val * 2048 + l.val = R.val) :
    shapeCast S16384x1024 x shapeCasts_S8x2048x1024_S16384x1024 (ix2 R d) = x (ix3 b l d) := by
  have e1 : (⟨R.val / 2048, by omega⟩ : Fin 8) = b := Fin.ext (by dsimp only; omega)
  have e2 : (⟨R.val % 2048, by omega⟩ : Fin 2048) = l := Fin.ext (by dsimp only; omega)
  rw [flat_x, e1, e2]

variable (m : (ℓ : Loc nD τ sig) → Buf (Elt Ideal) ℓ)

/-- Which block window 0 takes at point `t`. -/
theorem idx0 : ∀ t : Fin cfg0.N, win0_0.index t 0 = t.val ∧ win0_0.index t 1 = 0 :=
  (by decide +kernel : ∀ t : Fin grid0.N, win0_0.index t 0 = t.val ∧ win0_0.index t 1 = 0)
/-- Which block window 1 takes at point `t`. -/
theorem idx1 : ∀ t : Fin cfg0.N, win0_1.index t 0 = t.val * 64 - 1 ∧ win0_1.index t 1 = 0 :=
  (by decide +kernel : ∀ t : Fin grid0.N, win0_1.index t 0 = t.val * 64 - 1 ∧ win0_1.index t 1 = 0)
/-- Which block window 2 takes at point `t`. -/
theorem idx2 : ∀ t : Fin cfg0.N, win0_2.index t 0 = 0 ∧ win0_2.index t 1 = 0 :=
  (by decide +kernel : ∀ t : Fin grid0.N, win0_2.index t 0 = 0 ∧ win0_2.index t 1 = 0)
/-- Which block window 3 takes at point `t`. -/
theorem idx3 : ∀ t : Fin cfg0.N, win0_3.index t 0 = 0 ∧ win0_3.index t 1 = 0 :=
  (by decide +kernel : ∀ t : Fin grid0.N, win0_3.index t 0 = 0 ∧ win0_3.index t 1 = 0)
/-- Which block window 4 takes at point `t`. -/
theorem idx4 : ∀ t : Fin cfg0.N, win0_4.index t 0 = 0 ∧ win0_4.index t 1 = 0 :=
  (by decide +kernel : ∀ t : Fin grid0.N, win0_4.index t 0 = 0 ∧ win0_4.index t 1 = 0)
/-- Which block window 5 takes at point `t`. -/
theorem idx5 : ∀ t : Fin cfg0.N, win0_5.index t 0 = 0 ∧ win0_5.index t 1 = 0 :=
  (by decide +kernel : ∀ t : Fin grid0.N, win0_5.index t 0 = 0 ∧ win0_5.index t 1 = 0)
/-- Which block window 6 takes at point `t`. -/
theorem idx6 : ∀ t : Fin cfg0.N, win0_6.index t 0 = 0 ∧ win0_6.index t 1 = 0 :=
  (by decide +kernel : ∀ t : Fin grid0.N, win0_6.index t 0 = 0 ∧ win0_6.index t 1 = 0)
/-- Which block window 7 takes at point `t`. -/
theorem idx7 : ∀ t : Fin cfg0.N, win0_7.index t 0 = 0 ∧ win0_7.index t 1 = 0 :=
  (by decide +kernel : ∀ t : Fin grid0.N, win0_7.index t 0 = 0 ∧ win0_7.index t 1 = 0)
/-- Which block window 8 takes at point `t`. -/
theorem idx8 : ∀ t : Fin cfg0.N, win0_8.index t 0 = 0 ∧ win0_8.index t 1 = 0 :=
  (by decide +kernel : ∀ t : Fin grid0.N, win0_8.index t 0 = 0 ∧ win0_8.index t 1 = 0)
/-- Which block window 9 takes at point `t`. -/
theorem idx9 : ∀ t : Fin cfg0.N, win0_9.index t 0 = 0 ∧ win0_9.index t 1 = 0 :=
  (by decide +kernel : ∀ t : Fin grid0.N, win0_9.index t 0 = 0 ∧ win0_9.index t 1 = 0)
/-- Which block window 10 takes at point `t`. -/
theorem idx10 : ∀ t : Fin cfg0.N, win0_10.index t 0 = t.val ∧ win0_10.index t 1 = 0 :=
  (by decide +kernel : ∀ t : Fin grid0.N, win0_10.index t 0 = t.val ∧ win0_10.index t 1 = 0)
/-- Which block window 11 takes at point `t`. -/
theorem idx11 : ∀ t : Fin cfg0.N, win0_11.index t 0 = t.val ∧ win0_11.index t 1 = 0 :=
  (by decide +kernel : ∀ t : Fin grid0.N, win0_11.index t 0 = t.val ∧ win0_11.index t 1 = 0)
/-- Which block window 12 takes at point `t`. -/
theorem idx12 : ∀ t : Fin cfg0.N, win0_12.index t 0 = t.val % 4 ∧ win0_12.index t 1 = t.val / 4 :=
  (by decide +kernel : ∀ t : Fin grid0.N, win0_12.index t 0 = t.val % 4 ∧ win0_12.index t 1 = t.val / 4)
/-- Which block window 13 takes at point `t`. -/
theorem idx13 : ∀ t : Fin cfg0.N, win0_13.index t 0 = t.val ∧ win0_13.index t 1 = 0 :=
  (by decide +kernel : ∀ t : Fin grid0.N, win0_13.index t 0 = t.val ∧ win0_13.index t 1 = 0)
/-- Which block window 14 takes at point `t`. -/
theorem idx14 : ∀ t : Fin cfg0.N, win0_14.index t 0 = t.val / 4 ∧ win0_14.index t 1 = 0 ∧ win0_14.index t 2 = 0 :=
  (by decide +kernel : ∀ t : Fin grid0.N, win0_14.index t 0 = t.val / 4 ∧ win0_14.index t 1 = 0 ∧ win0_14.index t 2 = 0)
/-- The point's coordinate on the grid. -/
theorem co : ∀ t : Fin cfg0.N, (grid0.coords t 0).val = t.val :=
  (by decide +kernel : ∀ t : Fin grid0.N, (grid0.coords t 0).val = t.val)

/-- The block window 0 reads at point `t`, at an element. -/
theorem blk0 (c : Dev nD) (t : Fin cfg0.N) (r : Fin 512) (b : Fin 8) (l : Fin 2048) (hR : b.val * 2048 + l.val = t.val * 512 + r.val) (d : Fin 1024) :
    iblk m c 0 t (ix2 r d) = (m (c.tc.loc main_arg0)) (ix3 b l d) := by
  refine Eq.trans ?_ ((congrFun (V_0 m c) (ix2 (⟨b.val * 2048 + l.val, by clear hR; omega⟩ : Fin 16384) d)).trans (flat_x' _ _ d b l rfl))
  show V m c main_v29 ((win0_0.rect t).emb (ix2 r d)) = _
  refine congrArg (V m c main_v29) (funext fun a => Fin.ext ?_)
  obtain ⟨e0, e1⟩ := idx0 t
  refine (Pipeline.Window.rect_emb_val win0_0 t _ a).trans ?_
  match a with
  | ⟨0, _⟩ => show win0_0.index t 0 * 512 + r.val = b.val * 2048 + l.val; omega
  | ⟨1, _⟩ => show win0_0.index t 1 * 1024 + d.val = d.val; omega

/-- The block window 1 reads at point `t`, at an element. -/
theorem blk1 (c : Dev nD) (t : Fin cfg0.N) (r : Fin 8) (b : Fin 8) (l : Fin 2048) (hR : b.val * 2048 + l.val = (t.val * 64 - 1) * 8 + r.val) (d : Fin 1024) :
    iblk m c 1 t (ix2 r d) = (m (c.tc.loc main_arg0)) (ix3 b l d) := by
  refine Eq.trans ?_ ((congrFun (V_0 m c) (ix2 (⟨b.val * 2048 + l.val, by clear hR; omega⟩ : Fin 16384) d)).trans (flat_x' _ _ d b l rfl))
  show V m c main_v29 ((win0_1.rect t).emb (ix2 r d)) = _
  refine congrArg (V m c main_v29) (funext fun a => Fin.ext ?_)
  obtain ⟨e0, e1⟩ := idx1 t
  refine (Pipeline.Window.rect_emb_val win0_1 t _ a).trans ?_
  match a with
  | ⟨0, _⟩ => show win0_1.index t 0 * 8 + r.val = b.val * 2048 + l.val; omega
  | ⟨1, _⟩ => show win0_1.index t 1 * 1024 + d.val = d.val; omega

/-- The block window 2 reads at point `t`, at an element. -/
theorem blk2 (c : Dev nD) (t : Fin cfg0.N) (d : Fin 1024) :
    iblk m c 2 t (ix2 0 d) = (m (c.tc.loc main_arg1)) (ix1 d) := by
  refine Eq.trans ?_ ((congrFun (V_2 m c) (ix2 0 d)).trans (flat_n _ d))
  show V m c main_v30 ((win0_2.rect t).emb (ix2 0 d)) = _
  refine congrArg (V m c main_v30) (funext fun a => Fin.ext ?_)
  obtain ⟨e0, e1⟩ := idx2 t
  refine (Pipeline.Window.rect_emb_val win0_2 t _ a).trans ?_
  match a with
  | ⟨0, _⟩ => show win0_2.index t 0 * 1 + 0 = 0; omega
  | ⟨1, _⟩ => show win0_2.index t 1 * 1024 + d.val = d.val; omega

/-- The block window 3 reads at point `t`, at an element. -/
theorem blk3 (c : Dev nD) (t : Fin cfg0.N) (k : Fin 1024) (n : Fin 3584) :
    iblk m c 3 t (ix2 k n) = wmix (m (c.tc.loc main_arg2)) (ix2 k n) := by
  refine Eq.trans ?_ ((congrFun (V_3 m c) (ix2 k n)))
  show V m c main_v18 ((win0_3.rect t).emb (ix2 k n)) = _
  refine congrArg (V m c main_v18) (funext fun a => Fin.ext ?_)
  obtain ⟨e0, e1⟩ := idx3 t
  refine (Pipeline.Window.rect_emb_val win0_3 t _ a).trans ?_
  match a with
  | ⟨0, _⟩ => show win0_3.index t 0 * 1024 + k.val = k.val; omega
  | ⟨1, _⟩ => show win0_3.index t 1 * 3584 + n.val = n.val; omega

/-- The block window 4 reads at point `t`, at an element. -/
theorem blk4 (c : Dev nD) (t : Fin cfg0.N) (j : Fin 4) (n : Fin 768) :
    iblk m c 4 t (ix2 j n) = (m (c.tc.loc main_arg3)) (ix2 j n) := by
  refine Eq.trans ?_ (congrFun (V_main_arg3 m c) (ix2 j n))
  show V m c main_arg3 ((win0_4.rect t).emb (ix2 j n)) = _
  refine congrArg (V m c main_arg3) (funext fun a => Fin.ext ?_)
  obtain ⟨e0, e1⟩ := idx4 t
  refine (Pipeline.Window.rect_emb_val win0_4 t _ a).trans ?_
  match a with
  | ⟨0, _⟩ => show win0_4.index t 0 * 4 + j.val = j.val; omega
  | ⟨1, _⟩ => show win0_4.index t 1 * 768 + n.val = n.val; omega

/-- The block window 5 reads at point `t`, at an element. -/
theorem blk5 (c : Dev nD) (t : Fin cfg0.N) (d : Fin 256) :
    iblk m c 5 t (ix2 0 d) = (m (c.tc.loc main_arg4)) (ix1 ⟨d.val / 64, by omega⟩) := by
  refine Eq.trans ?_ ((congrFun (V_5 m c) (ix2 0 d)).trans (flat_r _ d))
  show V m c main_v23 ((win0_5.rect t).emb (ix2 0 d)) = _
  refine congrArg (V m c main_v23) (funext fun a => Fin.ext ?_)
  obtain ⟨e0, e1⟩ := idx5 t
  refine (Pipeline.Window.rect_emb_val win0_5 t _ a).trans ?_
  match a with
  | ⟨0, _⟩ => show win0_5.index t 0 * 1 + 0 = 0; omega
  | ⟨1, _⟩ => show win0_5.index t 1 * 256 + d.val = d.val; omega

/-- The block window 6 reads at point `t`, at an element. -/
theorem blk6 (c : Dev nD) (t : Fin cfg0.N) (d : Fin 256) :
    iblk m c 6 t (ix2 0 d) = (m (c.tc.loc main_arg5)) (ix1 ⟨d.val / 64, by omega⟩) := by
  refine Eq.trans ?_ ((congrFun (V_6 m c) (ix2 0 d)).trans (flat_r _ d))
  show V m c main_v26 ((win0_6.rect t).emb (ix2 0 d)) = _
  refine congrArg (V m c main_v26) (funext fun a => Fin.ext ?_)
  obtain ⟨e0, e1⟩ := idx6 t
  refine (Pipeline.Window.rect_emb_val win0_6 t _ a).trans ?_
  match a with
  | ⟨0, _⟩ => show win0_6.index t 0 * 1 + 0 = 0; omega
  | ⟨1, _⟩ => show win0_6.index t 1 * 256 + d.val = d.val; omega

/-- The block window 7 reads at point `t`, at an element. -/
theorem blk7 (c : Dev nD) (t : Fin cfg0.N) (k : Fin 128) (n : Fin 256) :
    iblk m c 7 t (ix2 k n) = gpad (m (c.tc.loc main_arg6)) (ix2 k n) := by
  refine Eq.trans ?_ ((congrFun (V_7 m c) (ix2 k n)))
  show V m c main_v20 ((win0_7.rect t).emb (ix2 k n)) = _
  refine congrArg (V m c main_v20) (funext fun a => Fin.ext ?_)
  obtain ⟨e0, e1⟩ := idx7 t
  refine (Pipeline.Window.rect_emb_val win0_7 t _ a).trans ?_
  match a with
  | ⟨0, _⟩ => show win0_7.index t 0 * 128 + k.val = k.val; omega
  | ⟨1, _⟩ => show win0_7.index t 1 * 256 + n.val = n.val; omega

/-- The block window 8 reads at point `t`, at an element. -/
theorem blk8 (c : Dev nD) (t : Fin cfg0.N) (d : Fin 256) :
    iblk m c 8 t (ix2 0 d) = (m (c.tc.loc main_arg7)) (ix1 d) := by
  refine Eq.trans ?_ ((congrFun (V_8 m c) (ix2 0 d)).trans (flat_g _ d))
  show V m c main_v27 ((win0_8.rect t).emb (ix2 0 d)) = _
  refine congrArg (V m c main_v27) (funext fun a => Fin.ext ?_)
  obtain ⟨e0, e1⟩ := idx8 t
  refine (Pipeline.Window.rect_emb_val win0_8 t _ a).trans ?_
  match a with
  | ⟨0, _⟩ => show win0_8.index t 0 * 1 + 0 = 0; omega
  | ⟨1, _⟩ => show win0_8.index t 1 * 256 + d.val = d.val; omega

/-- The block window 9 reads at point `t`, at an element. -/
theorem blk9 (c : Dev nD) (t : Fin cfg0.N) (d : Fin 256) :
    iblk m c 9 t (ix2 0 d) = (m (c.tc.loc main_arg8)) (ix1 d) := by
  refine Eq.trans ?_ ((congrFun (V_9 m c) (ix2 0 d)).trans (flat_g _ d))
  show V m c main_v28 ((win0_9.rect t).emb (ix2 0 d)) = _
  refine congrArg (V m c main_v28) (funext fun a => Fin.ext ?_)
  obtain ⟨e0, e1⟩ := idx9 t
  refine (Pipeline.Window.rect_emb_val win0_9 t _ a).trans ?_
  match a with
  | ⟨0, _⟩ => show win0_9.index t 0 * 1 + 0 = 0; omega
  | ⟨1, _⟩ => show win0_9.index t 1 * 256 + d.val = d.val; omega

/-- A column of the packed weights that is a column of the weights has its products. -/
theorem pr_eq (c : Dev nD) (t : Fin cfg0.N) (r : Fin 512) (b : Fin 8) (l : Fin 2048) (hR : b.val * 2048 + l.val = t.val * 512 + r.val)
    (n : Fin 3584) (n' : Fin 7448) (hw : ∀ (w : Vec Ideal S1024x7448 .f32) (k : Fin 1024), wmix w (ix2 k n) = w (ix2 k n')) :
    pr (iblk m c 0 t) (iblk m c 2 t) (iblk m c 3 t) r n = P (m (c.tc.loc main_arg0)) (m (c.tc.loc main_arg1)) (m (c.tc.loc main_arg2)) b l n' := by
  unfold pr P wcol
  simp only [blk0 m c t r b l hR, blk2 m c t, blk3 m c t, hw]

/-- The same of a row before the block. -/
theorem ph_eq (c : Dev nD) (t : Fin cfg0.N) (r : Fin 8) (b : Fin 8) (l : Fin 2048) (hR : b.val * 2048 + l.val = (t.val * 64 - 1) * 8 + r.val)
    (n : Fin 3584) (n' : Fin 7448) (hw : ∀ (w : Vec Ideal S1024x7448 .f32) (k : Fin 1024), wmix w (ix2 k n) = w (ix2 k n')) :
    ph (iblk m c 1 t) (iblk m c 2 t) (iblk m c 3 t) r n = P (m (c.tc.loc main_arg0)) (m (c.tc.loc main_arg1)) (m (c.tc.loc main_arg2)) b l n' := by
  unfold ph P wcol
  simp only [blk1 m c t r b l hR, blk2 m c t, blk3 m c t, hw]

/-- The rows the convolution reads. -/
theorem tap_eq (c : Dev nD) (t : Fin cfg0.N) (r : Fin 512) (b : Fin 8) (l : Fin 2048) (hR : b.val * 2048 + l.val = t.val * 512 + r.val)
    (n : Fin 3584) (n' : Fin 7448) (hw : ∀ (w : Vec Ideal S1024x7448 .f32) (k : Fin 1024), wmix w (ix2 k n) = w (ix2 k n')) (j : Fin 4) :
    tap (grid0.coords t 0).val (iblk m c 0 t) (iblk m c 1 t) (iblk m c 2 t) (iblk m c 3 t) r n j = Tap (m (c.tc.loc main_arg0)) (m (c.tc.loc main_arg1)) (m (c.tc.loc main_arg2)) b l n' j := by
  have hN : cfg0.N = 32 := N_0
  have ht : t.val < 32 := hN ▸ t.isLt
  unfold tap Tap
  rw [co t]
  by_cases h1 : r.val + j.val < 3
  · rw [dif_pos h1]
    by_cases h2 : t.val % 4 = 0
    · rw [if_pos h2, dif_pos (show l.val + j.val < 3 by omega)]
    · rw [if_neg h2, dif_neg (show ¬ l.val + j.val < 3 by omega)]
      exact ph_eq m c t _ b _ (by dsimp only; omega) n n' hw
  · rw [dif_neg h1, dif_neg (show ¬ l.val + j.val < 3 by omega)]
    exact pr_eq m c t _ b _ (by dsimp only; omega) n n' hw

/-- The convolution's columns. -/
theorem cv_eq (c : Dev nD) (t : Fin cfg0.N) (r : Fin 512) (b : Fin 8) (l : Fin 2048) (hR : b.val * 2048 + l.val = t.val * 512 + r.val) (n : Fin 768) :
    cv (grid0.coords t 0).val (iblk m c 0 t) (iblk m c 1 t) (iblk m c 2 t) (iblk m c 3 t) (iblk m c 4 t) r n = CV (m (c.tc.loc main_arg0)) (m (c.tc.loc main_arg1)) (m (c.tc.loc main_arg2)) (m (c.tc.loc main_arg3)) b l n := by
  unfold cv CV
  refine congrArg₂ conv4 (funext fun j => ?_) (funext fun j => blk4 m c t j n)
  exact tap_eq m c t r b l hR _ _ (fun w k => wmix_0 w k n _ _ (by show n.val = 0 + n.val; omega) (by show n.val = 0 + n.val; omega)) j

/-- Element `(R, j)` of result array 10 is the body's result at its point. -/
theorem arr10 (c : Dev nD) (t : Fin cfg0.N) (R : Fin 16384) (r : Fin 512) (hR : R.val = t.val * 512 + r.val) (j : Fin 1536) :
    (dats m 0 c).arrAt 10 cfg0.N (ix2 R j) = out0_10 (grid0.coords t) (iblk m c 0 t) (iblk m c 1 t) (iblk m c 2 t) (iblk m c 3 t) (iblk m c 4 t) (iblk m c 5 t) (iblk m c 6 t) (iblk m c 7 t) (iblk m c 8 t) (iblk m c 9 t) (ix2 r j) := by
  have e := congrFun (Value.blocks10 m c t (flush0_10 _)) (ix2 r j)
  rw [Value.flushed10] at e
  have e' : (dats m 0 c).arrAt 10 cfg0.N ((win0_10.rect t).emb (ix2 r j)) =
    out0_10 (grid0.coords t) (iblk m c 0 t) (iblk m c 1 t) (iblk m c 2 t) (iblk m c 3 t) (iblk m c 4 t) (iblk m c 5 t) (iblk m c 6 t) (iblk m c 7 t) (iblk m c 8 t) (iblk m c 9 t) (ix2 r j) := e
  have he : (win0_10.rect t).emb (ix2 r j) = (ix2 R j : S16384x1536.Idx) := by
    refine funext fun a => Fin.ext ?_
    obtain ⟨e0, e1⟩ := idx10 t
    refine (Pipeline.Window.rect_emb_val win0_10 t _ a).trans ?_
    match a with
    | ⟨0, _⟩ => show win0_10.index t 0 * 512 + r.val = R.val; rw [e0, hR]
    | ⟨1, _⟩ => show win0_10.index t 1 * 1536 + j.val = j.val; rw [e1]; omega
  rw [he] at e'
  exact e'

/-- Element `(R, j)` of result array 11 is the body's result at its point. -/
theorem arr11 (c : Dev nD) (t : Fin cfg0.N) (R : Fin 16384) (r : Fin 512) (hR : R.val = t.val * 512 + r.val) (j : Fin 1280) :
    (dats m 0 c).arrAt 11 cfg0.N (ix2 R j) = out0_11 (grid0.coords t) (iblk m c 0 t) (iblk m c 1 t) (iblk m c 2 t) (iblk m c 3 t) (iblk m c 4 t) (iblk m c 5 t) (iblk m c 6 t) (iblk m c 7 t) (iblk m c 8 t) (iblk m c 9 t) (ix2 r j) := by
  have e := congrFun (Value.blocks11 m c t (flush0_11 _)) (ix2 r j)
  rw [Value.flushed11] at e
  have e' : (dats m 0 c).arrAt 11 cfg0.N ((win0_11.rect t).emb (ix2 r j)) =
    out0_11 (grid0.coords t) (iblk m c 0 t) (iblk m c 1 t) (iblk m c 2 t) (iblk m c 3 t) (iblk m c 4 t) (iblk m c 5 t) (iblk m c 6 t) (iblk m c 7 t) (iblk m c 8 t) (iblk m c 9 t) (ix2 r j) := e
  have he : (win0_11.rect t).emb (ix2 r j) = (ix2 R j : S16384x1280.Idx) := by
    refine funext fun a => Fin.ext ?_
    obtain ⟨e0, e1⟩ := idx11 t
    refine (Pipeline.Window.rect_emb_val win0_11 t _ a).trans ?_
    match a with
    | ⟨0, _⟩ => show win0_11.index t 0 * 512 + r.val = R.val; rw [e0, hR]
    | ⟨1, _⟩ => show win0_11.index t 1 * 1280 + j.val = j.val; rw [e1]; omega
  rw [he] at e'
  exact e'

/-- Element `(R, j)` of result array 13 is the body's result at its point. -/
theorem arr13 (c : Dev nD) (t : Fin cfg0.N) (R : Fin 16384) (r : Fin 512) (hR : R.val = t.val * 512 + r.val) (j : Fin 1280) :
    (dats m 0 c).arrAt 13 cfg0.N (ix2 R j) = out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (ix2 r j) := by
  have e := congrFun (Value.blocks13 m c t (flush0_13 _)) (ix2 r j)
  rw [Value.flushed13] at e
  have e' : (dats m 0 c).arrAt 13 cfg0.N ((win0_13.rect t).emb (ix2 r j)) =
    out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (ix2 r j) := e
  have he : (win0_13.rect t).emb (ix2 r j) = (ix2 R j : S16384x1280.Idx) := by
    refine funext fun a => Fin.ext ?_
    obtain ⟨e0, e1⟩ := idx13 t
    refine (Pipeline.Window.rect_emb_val win0_13 t _ a).trans ?_
    match a with
    | ⟨0, _⟩ => show win0_13.index t 0 * 512 + r.val = R.val; rw [e0, hR]
    | ⟨1, _⟩ => show win0_13.index t 1 * 1280 + j.val = j.val; rw [e1]; omega
  rw [he] at e'
  exact e'

/-- Element `(l, b * 256 + n)` of result array 12 is the body's result at its point. -/
theorem arr12 (c : Dev nD) (t : Fin cfg0.N) (b : Fin 8) (l : Fin 2048) (r : Fin 512) (hR : b.val * 2048 + l.val = t.val * 512 + r.val) (n : Fin 256) :
    (dats m 0 c).arrAt 12 cfg0.N (ix2 l (⟨b.val * 256 + n.val, by omega⟩ : Fin 2048)) = out0_12 (grid0.coords t) (iblk m c 0 t) (iblk m c 1 t) (iblk m c 2 t) (iblk m c 3 t) (iblk m c 4 t) (iblk m c 5 t) (iblk m c 6 t) (iblk m c 7 t) (iblk m c 8 t) (iblk m c 9 t) (ix2 r n) := by
  have e := congrFun (Value.blocks12 m c t (flush0_12 _)) (ix2 r n)
  rw [Value.flushed12] at e
  have e' : (dats m 0 c).arrAt 12 cfg0.N ((win0_12.rect t).emb (ix2 r n)) = out0_12 (grid0.coords t) (iblk m c 0 t) (iblk m c 1 t) (iblk m c 2 t) (iblk m c 3 t) (iblk m c 4 t) (iblk m c 5 t) (iblk m c 6 t) (iblk m c 7 t) (iblk m c 8 t) (iblk m c 9 t) (ix2 r n) := e
  have he : (win0_12.rect t).emb (ix2 r n) = (ix2 l (⟨b.val * 256 + n.val, by omega⟩ : Fin 2048) : S2048x2048.Idx) := by
    refine funext fun a => Fin.ext ?_
    obtain ⟨e0, e1⟩ := idx12 t
    refine (Pipeline.Window.rect_emb_val win0_12 t _ a).trans ?_
    match a with
    | ⟨0, _⟩ => show win0_12.index t 0 * 512 + r.val = l.val; omega
    | ⟨1, _⟩ => show win0_12.index t 1 * 256 + n.val = b.val * 256 + n.val; omega
  rw [he] at e'
  exact e'

/-- Points that write back the last rows write back to different blocks. -/
theorem inj14 : ∀ t t' : Fin cfg0.N, t.val % 4 = 3 → t'.val % 4 = 3 → win0_14.index t = win0_14.index t' → t = t' := by
  intro t t' h h' e
  have e0 := (idx14 t).1
  have e1 := (idx14 t').1
  rw [e] at e0
  exact Fin.ext (by omega)

/-- So their blocks share no index. -/
theorem disjoint14 : ∀ t t' : Fin cfg0.N, (cfg0.win 14).flush t = true → (cfg0.win 14).flush t' = true → t ≠ t' →
    Disjoint ((cfg0.win 14).blk t).view.set ((cfg0.win 14).blk t').view.set :=
  fun t t' h h' hne => (cfg0.win 14).disjoint_blk fun e => hne (inj14 t t' ((flush0_14 t).1 h) ((flush0_14 t').1 h') e)

/-- Element `(b, r, n)` of result array 14 is the body's result at the sequence's last point. -/
theorem arr14 (c : Dev nD) (t : Fin cfg0.N) (b : Fin 8) (ht : t.val = b.val * 4 + 3) (r : Fin 3) (n : Fin 768) :
    (dats m 0 c).arrAt 14 cfg0.N (ix3 b r n) = out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (ix3 0 r n) := by
  have e := congrFun ((dats m 0 c).read_blk_arrAt_eq_flushed 14 disjoint14 cfg0.N t t.isLt ((flush0_14 t).2 (by omega))) (ix3 0 r n)
  rw [Value.flushed14] at e
  have e' : (dats m 0 c).arrAt 14 cfg0.N ((win0_14.rect t).emb (ix3 0 r n)) = out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (ix3 0 r n) := e
  have he : (win0_14.rect t).emb (ix3 0 r n) = (ix3 b r n : S8x3x768.Idx) := by
    refine funext fun a => Fin.ext ?_
    obtain ⟨e0, e1, e2⟩ := idx14 t
    refine (Pipeline.Window.rect_emb_val win0_14 t _ a).trans ?_
    match a with
    | ⟨0, _⟩ => show win0_14.index t 0 * 1 + 0 = b.val; omega
    | ⟨1, _⟩ => show win0_14.index t 1 * 3 + r.val = r.val; omega
    | ⟨2, _⟩ => show win0_14.index t 2 * 768 + n.val = n.val; omega
  rw [he] at e'
  exact e'

/-- The delta rule's queries. -/
theorem fin_ga_q (c : Dev nD) (hx : ∀ i, ∃ r : ℝ, (m (c.tc.loc main_arg0)) i = (r : EReal)) (hn : ∀ i, ∃ r : ℝ, (m (c.tc.loc main_arg1)) i = (r : EReal)) (hw : ∀ i, ∃ r : ℝ, (m (c.tc.loc main_arg2)) i = (r : EReal)) (hc : ∀ i, ∃ r : ℝ, (m (c.tc.loc main_arg3)) i = (r : EReal)) (b : Fin 8) (l : Fin 2048) (R : Fin 16384) (hR : R.val = b.val * 2048 + l.val) (n : Fin 256) :
    (dats m 0 c).arrAt 10 cfg0.N (ix2 R ⟨0 + n.val, by omega⟩) = l2 (fun q : Fin 256 => CV (m (c.tc.loc main_arg0)) (m (c.tc.loc main_arg1)) (m (c.tc.loc main_arg2)) (m (c.tc.loc main_arg3)) b l ⟨q.val, by omega⟩) n * Ideal.ofBits FTy.f32 1040187392#32 := by
  have hN : cfg0.N = 32 := N_0
  obtain ⟨t, ht⟩ : ∃ t : Fin cfg0.N, t.val = R.val / 512 := ⟨⟨R.val / 512, by omega⟩, rfl⟩
  obtain ⟨r, hr⟩ : ∃ r : Fin 512, r.val = R.val % 512 := ⟨⟨R.val % 512, by omega⟩, rfl⟩
  have hbl : b.val * 2048 + l.val = t.val * 512 + r.val := by omega
  rw [arr10 m c t R r (by omega), ga_q _ _ _ _ _ _ _ _ _ _ _ r n (fun n => by rw [cv_eq m c t r b l hbl]; exact CV_real _ _ _ _ hx hn hw hc b l n)]
  simp only [cv_eq m c t r b l hbl]

/-- The delta rule's keys. -/
theorem fin_ga_k (c : Dev nD) (hx : ∀ i, ∃ r : ℝ, (m (c.tc.loc main_arg0)) i = (r : EReal)) (hn : ∀ i, ∃ r : ℝ, (m (c.tc.loc main_arg1)) i = (r : EReal)) (hw : ∀ i, ∃ r : ℝ, (m (c.tc.loc main_arg2)) i = (r : EReal)) (hc : ∀ i, ∃ r : ℝ, (m (c.tc.loc main_arg3)) i = (r : EReal)) (b : Fin 8) (l : Fin 2048) (R : Fin 16384) (hR : R.val = b.val * 2048 + l.val) (n : Fin 256) :
    (dats m 0 c).arrAt 10 cfg0.N (ix2 R ⟨256 + n.val, by omega⟩) = l2 (fun q : Fin 256 => CV (m (c.tc.loc main_arg0)) (m (c.tc.loc main_arg1)) (m (c.tc.loc main_arg2)) (m (c.tc.loc main_arg3)) b l ⟨256 + q.val, by omega⟩) n := by
  have hN : cfg0.N = 32 := N_0
  obtain ⟨t, ht⟩ : ∃ t : Fin cfg0.N, t.val = R.val / 512 := ⟨⟨R.val / 512, by omega⟩, rfl⟩
  obtain ⟨r, hr⟩ : ∃ r : Fin 512, r.val = R.val % 512 := ⟨⟨R.val % 512, by omega⟩, rfl⟩
  have hbl : b.val * 2048 + l.val = t.val * 512 + r.val := by omega
  rw [arr10 m c t R r (by omega), ga_k _ _ _ _ _ _ _ _ _ _ _ r n (fun n => by rw [cv_eq m c t r b l hbl]; exact CV_real _ _ _ _ hx hn hw hc b l n)]
  simp only [cv_eq m c t r b l hbl]

/-- The delta rule's values. -/
theorem fin_ga_v (c : Dev nD)  (b : Fin 8) (l : Fin 2048) (R : Fin 16384) (hR : R.val = b.val * 2048 + l.val) (n : Fin 256) :
    (dats m 0 c).arrAt 10 cfg0.N (ix2 R ⟨512 + n.val, by omega⟩) = CV (m (c.tc.loc main_arg0)) (m (c.tc.loc main_arg1)) (m (c.tc.loc main_arg2)) (m (c.tc.loc main_arg3)) b l ⟨512 + n.val, by omega⟩ := by
  have hN : cfg0.N = 32 := N_0
  obtain ⟨t, ht⟩ : ∃ t : Fin cfg0.N, t.val = R.val / 512 := ⟨⟨R.val / 512, by omega⟩, rfl⟩
  obtain ⟨r, hr⟩ : ∃ r : Fin 512, r.val = R.val % 512 := ⟨⟨R.val % 512, by omega⟩, rfl⟩
  have hbl : b.val * 2048 + l.val = t.val * 512 + r.val := by omega
  rw [arr10 m c t R r (by omega), ga_v _ _ _ _ _ _ _ _ _ _ _ r n]
  rw [cv_eq m c t r b l hbl]

/-- The delta rule's output gate. -/
theorem fin_ga_s (c : Dev nD)  (b : Fin 8) (l : Fin 2048) (R : Fin 16384) (hR : R.val = b.val * 2048 + l.val) (n : Fin 256) :
    (dats m 0 c).arrAt 10 cfg0.N (ix2 R ⟨768 + n.val, by omega⟩) = silu (P (m (c.tc.loc main_arg0)) (m (c.tc.loc main_arg1)) (m (c.tc.loc main_arg2)) b l ⟨776 + n.val, by omega⟩) := by
  have hN : cfg0.N = 32 := N_0
  obtain ⟨t, ht⟩ : ∃ t : Fin cfg0.N, t.val = R.val / 512 := ⟨⟨R.val / 512, by omega⟩, rfl⟩
  obtain ⟨r, hr⟩ : ∃ r : Fin 512, r.val = R.val % 512 := ⟨⟨R.val % 512, by omega⟩, rfl⟩
  have hbl : b.val * 2048 + l.val = t.val * 512 + r.val := by omega
  have hg : ∀ (w : Vec Ideal S1024x7448 .f32) (k : Fin 1024), wmix w (ix2 k ⟨768 + n.val, by omega⟩) = w (ix2 k ⟨776 + n.val, by omega⟩) :=
    fun w k => wmix_768 w k n _ _ (by first | rfl | (dsimp only; omega)) rfl
  rw [arr10 m c t R r (by omega), ga_s _ _ _ _ _ _ _ _ _ _ _ r n]
  rw [pr_eq m c t r b l hbl _ _ hg]

/-- The delta rule's log decay. -/
theorem fin_ga_g (c : Dev nD) (hx : ∀ i, ∃ r : ℝ, (m (c.tc.loc main_arg0)) i = (r : EReal)) (hn : ∀ i, ∃ r : ℝ, (m (c.tc.loc main_arg1)) i = (r : EReal)) (hw : ∀ i, ∃ r : ℝ, (m (c.tc.loc main_arg2)) i = (r : EReal)) (hc : ∀ i, ∃ r : ℝ, (m (c.tc.loc main_arg3)) i = (r : EReal)) (b : Fin 8) (l : Fin 2048) (R : Fin 16384) (hR : R.val = b.val * 2048 + l.val) (n : Fin 256) :
    (dats m 0 c).arrAt 10 cfg0.N (ix2 R ⟨1024 + n.val, by omega⟩) = -(Ideal.exp ((m (c.tc.loc main_arg4)) (ix1 ⟨n.val / 64, by omega⟩))) * soft (P (m (c.tc.loc main_arg0)) (m (c.tc.loc main_arg1)) (m (c.tc.loc main_arg2)) b l ⟨768 + n.val / 64, by omega⟩ + (m (c.tc.loc main_arg5)) (ix1 ⟨n.val / 64, by omega⟩)) := by
  have hN : cfg0.N = 32 := N_0
  obtain ⟨t, ht⟩ : ∃ t : Fin cfg0.N, t.val = R.val / 512 := ⟨⟨R.val / 512, by omega⟩, rfl⟩
  obtain ⟨r, hr⟩ : ∃ r : Fin 512, r.val = R.val % 512 := ⟨⟨R.val % 512, by omega⟩, rfl⟩
  have hbl : b.val * 2048 + l.val = t.val * 512 + r.val := by omega
  have hg : ∀ (w : Vec Ideal S1024x7448 .f32) (k : Fin 1024), wmix w (ix2 k ⟨1024 + n.val / 64, by omega⟩) = w (ix2 k ⟨768 + n.val / 64, by omega⟩) :=
    fun w k => wmix_1024 w k ⟨n.val / 64, by omega⟩ _ _ (by first | rfl | (dsimp only; omega)) rfl
  rw [arr10 m c t R r (by omega), ga_g _ _ _ _ _ _ _ _ _ _ _ r n (by rw [pr_eq m c t r b l hbl _ _ hg]; exact P_real _ _ _ hx hn hw b l _)]
  rw [pr_eq m c t r b l hbl _ _ hg, blk5 m c t, blk6 m c t]

/-- The delta rule's update gate. -/
theorem fin_ga_b (c : Dev nD) (hx : ∀ i, ∃ r : ℝ, (m (c.tc.loc main_arg0)) i = (r : EReal)) (hn : ∀ i, ∃ r : ℝ, (m (c.tc.loc main_arg1)) i = (r : EReal)) (hw : ∀ i, ∃ r : ℝ, (m (c.tc.loc main_arg2)) i = (r : EReal)) (hc : ∀ i, ∃ r : ℝ, (m (c.tc.loc main_arg3)) i = (r : EReal)) (b : Fin 8) (l : Fin 2048) (R : Fin 16384) (hR : R.val = b.val * 2048 + l.val) (n : Fin 256) :
    (dats m 0 c).arrAt 10 cfg0.N (ix2 R ⟨1280 + n.val, by omega⟩) = lgs (P (m (c.tc.loc main_arg0)) (m (c.tc.loc main_arg1)) (m (c.tc.loc main_arg2)) b l ⟨772 + n.val / 64, by omega⟩) := by
  have hN : cfg0.N = 32 := N_0
  obtain ⟨t, ht⟩ : ∃ t : Fin cfg0.N, t.val = R.val / 512 := ⟨⟨R.val / 512, by omega⟩, rfl⟩
  obtain ⟨r, hr⟩ : ∃ r : Fin 512, r.val = R.val % 512 := ⟨⟨R.val % 512, by omega⟩, rfl⟩
  have hbl : b.val * 2048 + l.val = t.val * 512 + r.val := by omega
  have hg : ∀ (w : Vec Ideal S1024x7448 .f32) (k : Fin 1024), wmix w (ix2 k ⟨1024 + (n.val / 64 + 4), by omega⟩) = w (ix2 k ⟨772 + n.val / 64, by omega⟩) :=
    fun w k => wmix_1028 w k ⟨n.val / 64, by omega⟩ _ _ (by first | rfl | (dsimp only; omega)) rfl
  rw [arr10 m c t R r (by omega), ga_b _ _ _ _ _ _ _ _ _ _ _ r n (by rw [pr_eq m c t r b l hbl _ _ hg]; exact P_real _ _ _ hx hn hw b l _)]
  rw [pr_eq m c t r b l hbl _ _ hg]

/-- Gated linear attention's queries. -/
theorem fin_gb_q (c : Dev nD)  (b : Fin 8) (l : Fin 2048) (R : Fin 16384) (hR : R.val = b.val * 2048 + l.val) (n : Fin 256) :
    (dats m 0 c).arrAt 11 cfg0.N (ix2 R ⟨0 + n.val, by omega⟩) = P (m (c.tc.loc main_arg0)) (m (c.tc.loc main_arg1)) (m (c.tc.loc main_arg2)) b l ⟨1032 + n.val, by omega⟩ * Ideal.ofBits FTy.f32 1040187392#32 := by
  have hN : cfg0.N = 32 := N_0
  obtain ⟨t, ht⟩ : ∃ t : Fin cfg0.N, t.val = R.val / 512 := ⟨⟨R.val / 512, by omega⟩, rfl⟩
  obtain ⟨r, hr⟩ : ∃ r : Fin 512, r.val = R.val % 512 := ⟨⟨R.val % 512, by omega⟩, rfl⟩
  have hbl : b.val * 2048 + l.val = t.val * 512 + r.val := by omega
  have hg : ∀ (w : Vec Ideal S1024x7448 .f32) (k : Fin 1024), wmix w (ix2 k ⟨1152 + n.val, by omega⟩) = w (ix2 k ⟨1032 + n.val, by omega⟩) :=
    fun w k => wmix_1152 w k n _ _ (by first | rfl | (dsimp only; omega)) rfl
  rw [arr11 m c t R r (by omega), gb_q _ _ _ _ _ _ _ _ _ _ _ r n]
  rw [pr_eq m c t r b l hbl _ _ hg]

/-- Gated linear attention's keys. -/
theorem fin_gb_k (c : Dev nD)  (b : Fin 8) (l : Fin 2048) (R : Fin 16384) (hR : R.val = b.val * 2048 + l.val) (n : Fin 256) :
    (dats m 0 c).arrAt 11 cfg0.N (ix2 R ⟨256 + n.val, by omega⟩) = P (m (c.tc.loc main_arg0)) (m (c.tc.loc main_arg1)) (m (c.tc.loc main_arg2)) b l ⟨1288 + n.val, by omega⟩ := by
  have hN : cfg0.N = 32 := N_0
  obtain ⟨t, ht⟩ : ∃ t : Fin cfg0.N, t.val = R.val / 512 := ⟨⟨R.val / 512, by omega⟩, rfl⟩
  obtain ⟨r, hr⟩ : ∃ r : Fin 512, r.val = R.val % 512 := ⟨⟨R.val % 512, by omega⟩, rfl⟩
  have hbl : b.val * 2048 + l.val = t.val * 512 + r.val := by omega
  have hg : ∀ (w : Vec Ideal S1024x7448 .f32) (k : Fin 1024), wmix w (ix2 k ⟨1152 + (256 + n.val), by omega⟩) = w (ix2 k ⟨1288 + n.val, by omega⟩) :=
    fun w k => wmix_1408 w k n _ _ (by first | rfl | (dsimp only; omega)) rfl
  rw [arr11 m c t R r (by omega), gb_k _ _ _ _ _ _ _ _ _ _ _ r n]
  rw [pr_eq m c t r b l hbl _ _ hg]

/-- Gated linear attention's values. -/
theorem fin_gb_v (c : Dev nD)  (b : Fin 8) (l : Fin 2048) (R : Fin 16384) (hR : R.val = b.val * 2048 + l.val) (n : Fin 256) :
    (dats m 0 c).arrAt 11 cfg0.N (ix2 R ⟨512 + n.val, by omega⟩) = P (m (c.tc.loc main_arg0)) (m (c.tc.loc main_arg1)) (m (c.tc.loc main_arg2)) b l ⟨1544 + n.val, by omega⟩ := by
  have hN : cfg0.N = 32 := N_0
  obtain ⟨t, ht⟩ : ∃ t : Fin cfg0.N, t.val = R.val / 512 := ⟨⟨R.val / 512, by omega⟩, rfl⟩
  obtain ⟨r, hr⟩ : ∃ r : Fin 512, r.val = R.val % 512 := ⟨⟨R.val % 512, by omega⟩, rfl⟩
  have hbl : b.val * 2048 + l.val = t.val * 512 + r.val := by omega
  have hg : ∀ (w : Vec Ideal S1024x7448 .f32) (k : Fin 1024), wmix w (ix2 k ⟨1152 + (512 + n.val), by omega⟩) = w (ix2 k ⟨1544 + n.val, by omega⟩) :=
    fun w k => wmix_1664 w k n _ _ (by first | rfl | (dsimp only; omega)) rfl
  rw [arr11 m c t R r (by omega), gb_v _ _ _ _ _ _ _ _ _ _ _ r n]
  rw [pr_eq m c t r b l hbl _ _ hg]

/-- Gated linear attention's output gate. -/
theorem fin_gb_s (c : Dev nD)  (b : Fin 8) (l : Fin 2048) (R : Fin 16384) (hR : R.val = b.val * 2048 + l.val) (n : Fin 256) :
    (dats m 0 c).arrAt 11 cfg0.N (ix2 R ⟨768 + n.val, by omega⟩) = silu (P (m (c.tc.loc main_arg0)) (m (c.tc.loc main_arg1)) (m (c.tc.loc main_arg2)) b l ⟨1816 + n.val, by omega⟩) := by
  have hN : cfg0.N = 32 := N_0
  obtain ⟨t, ht⟩ : ∃ t : Fin cfg0.N, t.val = R.val / 512 := ⟨⟨R.val / 512, by omega⟩, rfl⟩
  obtain ⟨r, hr⟩ : ∃ r : Fin 512, r.val = R.val % 512 := ⟨⟨R.val % 512, by omega⟩, rfl⟩
  have hbl : b.val * 2048 + l.val = t.val * 512 + r.val := by omega
  have hg : ∀ (w : Vec Ideal S1024x7448 .f32) (k : Fin 1024), wmix w (ix2 k ⟨1152 + (768 + n.val), by omega⟩) = w (ix2 k ⟨1816 + n.val, by omega⟩) :=
    fun w k => wmix_1920 w k n _ _ (by first | rfl | (dsimp only; omega)) rfl
  rw [arr11 m c t R r (by omega), gb_s _ _ _ _ _ _ _ _ _ _ _ r n]
  rw [pr_eq m c t r b l hbl _ _ hg]

/-- Gated linear attention's log forget gate. -/
theorem fin_gb_f (c : Dev nD)  (b : Fin 8) (l : Fin 2048) (R : Fin 16384) (hR : R.val = b.val * 2048 + l.val) (n : Fin 256) :
    (dats m 0 c).arrAt 11 cfg0.N (ix2 R ⟨1024 + n.val, by omega⟩) = lsg (∑ k : Fin 16, P (m (c.tc.loc main_arg0)) (m (c.tc.loc main_arg1)) (m (c.tc.loc main_arg2)) b l ⟨1800 + k.val, by omega⟩ * (m (c.tc.loc main_arg6)) (ix2 k n) + (m (c.tc.loc main_arg7)) (ix1 n)) * Ideal.ofBits FTy.f32 1031798784#32 := by
  have hN : cfg0.N = 32 := N_0
  obtain ⟨t, ht⟩ : ∃ t : Fin cfg0.N, t.val = R.val / 512 := ⟨⟨R.val / 512, by omega⟩, rfl⟩
  obtain ⟨r, hr⟩ : ∃ r : Fin 512, r.val = R.val % 512 := ⟨⟨R.val % 512, by omega⟩, rfl⟩
  have hbl : b.val * 2048 + l.val = t.val * 512 + r.val := by omega
  rw [arr11 m c t R r (by omega), gb_f _ _ _ _ _ _ _ _ _ _ _ r n]
  have hg : ∀ (q : Fin 16) (w : Vec Ideal S1024x7448 .f32) (k : Fin 1024), wmix w (ix2 k ⟨1152 + (1024 + q.val), by omega⟩) = w (ix2 k ⟨1800 + q.val, by omega⟩) :=
    fun q w k => wmix_2176 w k q _ _ (by dsimp only; omega) (by dsimp only)
  have hs := gpad_sum (fun k : Fin 128 => pr (iblk m c 0 t) (iblk m c 2 t) (iblk m c 3 t) r ⟨1152 + (1024 + k.val), by omega⟩) (m (c.tc.loc main_arg6)) n
  simp only [blk7 m c t, blk8 m c t]
  rw [hs]
  simp only [fun q => pr_eq m c t r b l hbl _ _ (hg q)]

/-- The third mixer's queries. -/
theorem fin_gd_q (c : Dev nD)  (b : Fin 8) (l : Fin 2048) (R : Fin 16384) (hR : R.val = b.val * 2048 + l.val) (n : Fin 256) :
    (dats m 0 c).arrAt 13 cfg0.N (ix2 R ⟨0 + n.val, by omega⟩) = silu (P (m (c.tc.loc main_arg0)) (m (c.tc.loc main_arg1)) (m (c.tc.loc main_arg2)) b l ⟨2328 + n.val, by omega⟩) * Ideal.ofBits FTy.f32 1040187392#32 := by
  have hN : cfg0.N = 32 := N_0
  obtain ⟨t, ht⟩ : ∃ t : Fin cfg0.N, t.val = R.val / 512 := ⟨⟨R.val / 512, by omega⟩, rfl⟩
  obtain ⟨r, hr⟩ : ∃ r : Fin 512, r.val = R.val % 512 := ⟨⟨R.val % 512, by omega⟩, rfl⟩
  have hbl : b.val * 2048 + l.val = t.val * 512 + r.val := by omega
  have hg : ∀ (w : Vec Ideal S1024x7448 .f32) (k : Fin 1024), wmix w (ix2 k ⟨2560 + n.val, by omega⟩) = w (ix2 k ⟨2328 + n.val, by omega⟩) :=
    fun w k => wmix_2560 w k n _ _ (by first | rfl | (dsimp only; omega)) rfl
  rw [arr13 m c t R r (by omega), gd_q _ _ _ _ _ _ _ _ _ _ _ r n]
  rw [pr_eq m c t r b l hbl _ _ hg]

/-- The third mixer's keys. -/
theorem fin_gd_k (c : Dev nD)  (b : Fin 8) (l : Fin 2048) (R : Fin 16384) (hR : R.val = b.val * 2048 + l.val) (n : Fin 256) :
    (dats m 0 c).arrAt 13 cfg0.N (ix2 R ⟨256 + n.val, by omega⟩) = kf ((m (c.tc.loc main_arg8)) (ix1 n)) (P (m (c.tc.loc main_arg0)) (m (c.tc.loc main_arg1)) (m (c.tc.loc main_arg2)) b l ⟨2584 + n.val, by omega⟩) := by
  have hN : cfg0.N = 32 := N_0
  obtain ⟨t, ht⟩ : ∃ t : Fin cfg0.N, t.val = R.val / 512 := ⟨⟨R.val / 512, by omega⟩, rfl⟩
  obtain ⟨r, hr⟩ : ∃ r : Fin 512, r.val = R.val % 512 := ⟨⟨R.val % 512, by omega⟩, rfl⟩
  have hbl : b.val * 2048 + l.val = t.val * 512 + r.val := by omega
  have hg : ∀ (w : Vec Ideal S1024x7448 .f32) (k : Fin 1024), wmix w (ix2 k ⟨2560 + (256 + n.val), by omega⟩) = w (ix2 k ⟨2584 + n.val, by omega⟩) :=
    fun w k => wmix_2816 w k n _ _ (by first | rfl | (dsimp only; omega)) rfl
  rw [arr13 m c t R r (by omega), gd_k _ _ _ _ _ _ _ _ _ _ _ r n]
  rw [pr_eq m c t r b l hbl _ _ hg, blk9 m c t]
  rfl

/-- The third mixer's values. -/
theorem fin_gd_v (c : Dev nD)  (b : Fin 8) (l : Fin 2048) (R : Fin 16384) (hR : R.val = b.val * 2048 + l.val) (n : Fin 256) :
    (dats m 0 c).arrAt 13 cfg0.N (ix2 R ⟨512 + n.val, by omega⟩) = P (m (c.tc.loc main_arg0)) (m (c.tc.loc main_arg1)) (m (c.tc.loc main_arg2)) b l ⟨2840 + n.val, by omega⟩ := by
  have hN : cfg0.N = 32 := N_0
  obtain ⟨t, ht⟩ : ∃ t : Fin cfg0.N, t.val = R.val / 512 := ⟨⟨R.val / 512, by omega⟩, rfl⟩
  obtain ⟨r, hr⟩ : ∃ r : Fin 512, r.val = R.val % 512 := ⟨⟨R.val % 512, by omega⟩, rfl⟩
  have hbl : b.val * 2048 + l.val = t.val * 512 + r.val := by omega
  have hg : ∀ (w : Vec Ideal S1024x7448 .f32) (k : Fin 1024), wmix w (ix2 k ⟨2560 + (512 + n.val), by omega⟩) = w (ix2 k ⟨2840 + n.val, by omega⟩) :=
    fun w k => wmix_3072 w k n _ _ (by first | rfl | (dsimp only; omega)) rfl
  rw [arr13 m c t R r (by omega), gd_v _ _ _ _ _ _ _ _ _ _ _ r n]
  rw [pr_eq m c t r b l hbl _ _ hg]

/-- The third mixer's output gate. -/
theorem fin_gd_s (c : Dev nD)  (b : Fin 8) (l : Fin 2048) (R : Fin 16384) (hR : R.val = b.val * 2048 + l.val) (n : Fin 256) :
    (dats m 0 c).arrAt 13 cfg0.N (ix2 R ⟨768 + n.val, by omega⟩) = silu (P (m (c.tc.loc main_arg0)) (m (c.tc.loc main_arg1)) (m (c.tc.loc main_arg2)) b l ⟨3096 + n.val, by omega⟩) := by
  have hN : cfg0.N = 32 := N_0
  obtain ⟨t, ht⟩ : ∃ t : Fin cfg0.N, t.val = R.val / 512 := ⟨⟨R.val / 512, by omega⟩, rfl⟩
  obtain ⟨r, hr⟩ : ∃ r : Fin 512, r.val = R.val % 512 := ⟨⟨R.val % 512, by omega⟩, rfl⟩
  have hbl : b.val * 2048 + l.val = t.val * 512 + r.val := by omega
  have hg : ∀ (w : Vec Ideal S1024x7448 .f32) (k : Fin 1024), wmix w (ix2 k ⟨2560 + (768 + n.val), by omega⟩) = w (ix2 k ⟨3096 + n.val, by omega⟩) :=
    fun w k => wmix_3328 w k n _ _ (by first | rfl | (dsimp only; omega)) rfl
  rw [arr13 m c t R r (by omega), gd_s _ _ _ _ _ _ _ _ _ _ _ r n]
  rw [pr_eq m c t r b l hbl _ _ hg]

/-- The third mixer's log forget gate. -/
theorem fin_gd_f (c : Dev nD)  (b : Fin 8) (l : Fin 2048) (R : Fin 16384) (hR : R.val = b.val * 2048 + l.val) (n : Fin 256) :
    (dats m 0 c).arrAt 13 cfg0.N (ix2 R ⟨1024 + n.val, by omega⟩) = lfg (P (m (c.tc.loc main_arg0)) (m (c.tc.loc main_arg1)) (m (c.tc.loc main_arg2)) b l ⟨2584 + n.val, by omega⟩) ((m (c.tc.loc main_arg8)) (ix1 n)) := by
  have hN : cfg0.N = 32 := N_0
  obtain ⟨t, ht⟩ : ∃ t : Fin cfg0.N, t.val = R.val / 512 := ⟨⟨R.val / 512, by omega⟩, rfl⟩
  obtain ⟨r, hr⟩ : ∃ r : Fin 512, r.val = R.val % 512 := ⟨⟨R.val % 512, by omega⟩, rfl⟩
  have hbl : b.val * 2048 + l.val = t.val * 512 + r.val := by omega
  have hg : ∀ (w : Vec Ideal S1024x7448 .f32) (k : Fin 1024), wmix w (ix2 k ⟨2560 + (256 + n.val), by omega⟩) = w (ix2 k ⟨2584 + n.val, by omega⟩) :=
    fun w k => wmix_2816 w k n _ _ (by first | rfl | (dsimp only; omega)) rfl
  rw [arr13 m c t R r (by omega), gd_f _ _ _ _ _ _ _ _ _ _ _ r n]
  rw [pr_eq m c t r b l hbl _ _ hg, blk9 m c t]

/-- The state-space branch's inputs. -/
theorem fin_pc (c : Dev nD) (b : Fin 8) (l : Fin 2048) (n : Fin 256) :
    (dats m 0 c).arrAt 12 cfg0.N (ix2 l (⟨b.val * 256 + n.val, by omega⟩ : Fin 2048)) = P (m (c.tc.loc main_arg0)) (m (c.tc.loc main_arg1)) (m (c.tc.loc main_arg2)) b l ⟨2072 + n.val, by omega⟩ := by
  have hN : cfg0.N = 32 := N_0
  obtain ⟨t, ht⟩ : ∃ t : Fin cfg0.N, t.val = b.val * 4 + l.val / 512 := ⟨⟨b.val * 4 + l.val / 512, by omega⟩, rfl⟩
  obtain ⟨r, hr⟩ : ∃ r : Fin 512, r.val = l.val % 512 := ⟨⟨l.val % 512, by omega⟩, rfl⟩
  have hbl : b.val * 2048 + l.val = t.val * 512 + r.val := by omega
  have hg : ∀ (w : Vec Ideal S1024x7448 .f32) (k : Fin 1024), wmix w (ix2 k ⟨2304 + n.val, by omega⟩) = w (ix2 k ⟨2072 + n.val, by omega⟩) :=
    fun w k => wmix_2304 w k n _ _ (by first | rfl | (dsimp only; omega)) rfl
  rw [arr12 m c t b l r hbl n, pc_apply _ _ _ _ _ _ _ _ _ _ _ r n, pr_eq m c t r b l hbl _ _ hg]

/-- The last three rows before the convolution. -/
theorem fin_cs (c : Dev nD) (b : Fin 8) (q : Fin 3) (n : Fin 768) :
    (dats m 0 c).arrAt 14 cfg0.N (ix3 b q n) = P (m (c.tc.loc main_arg0)) (m (c.tc.loc main_arg1)) (m (c.tc.loc main_arg2)) b ⟨2045 + q.val, by omega⟩ ⟨n.val, by omega⟩ := by
  have hN : cfg0.N = 32 := N_0
  obtain ⟨t, ht⟩ : ∃ t : Fin cfg0.N, t.val = b.val * 4 + 3 := ⟨⟨b.val * 4 + 3, by omega⟩, rfl⟩
  rw [arr14 m c t b ht q n, conv_apply _ _ _ _ _ _ _ _ _ _ _ 0 q n]
  exact pr_eq m c t _ b _ (by dsimp only; omega) _ _ (fun w k => wmix_0 w k n _ _ (by show n.val = 0 + n.val; omega) (by show n.val = 0 + n.val; omega))

end Cert.Kernel5Ideal.Hand
end
-- ==== Proof.Inp.Ref.lean ====
module

public import proofs.«01_k».proof.Proof.Inp.Final
public import proofs.«01_k».proof.Proof.Gen.Reference5Ideal.Read
@[expose] public section

set_option maxRecDepth 16384
noncomputable section

namespace Cert.Reference5Ideal.Hand

open Cert.Reference5Ideal Cert.Reference5Ideal.Gen Cert.Reference5Ideal.Read Idealize.ShloMosaic Idealize.ShloMosaic.TcCoe Idealize.SL.Sem Cert.Hand
open Cert.Kernel5Ideal.Hand (P Tap CV kf P_real)

/-- The logistic value as a quotient. -/
theorem quot_eq (x : EReal) : Ideal.div 1 (1 + Ideal.exp (-x)) = lgs x := (lgs_eq x).symm
/-- `silu` with the logistic value as a quotient. -/
theorem quot_silu (x : EReal) : x * Ideal.div 1 (1 + Ideal.exp (-x)) = silu x := by
  rw [quot_eq]; rfl

/-- The compiled `log (1 + exp x)`. -/
theorem soft_if (x : EReal) : (if x ≠ x then x else max x 0 + Ideal.log1p (Ideal.exp (-(FloatOps.absf (F := Ideal) (φ := FTy.f32) x)))) = soft x := by
  rw [if_neg (fun h => h rfl)]; rfl
/-- The compiled logarithm of a sum of exponentials. -/
theorem lae_if (x y : EReal) : (if x - y ≠ x - y then x + y else max x y + Ideal.log1p (Ideal.exp (-(FloatOps.absf (F := Ideal) (φ := FTy.f32) (x - y))))) = lae x y := by
  rw [if_neg (fun h => h rfl)]; rfl

/-- A quotient by sixteen. -/
theorem div_16 (x : EReal) : Ideal.div x (Ideal.ofBits FTy.f32 1098907648#32) = x * Ideal.ofBits FTy.f32 1031798784#32 := by
  have h1 : Ideal.ofBits FTy.f32 1098907648#32 = ((16 : ℝ) : EReal) := by
    simp [Ideal.ofBits, Ideal.ieee]
    rw [← EReal.coe_mul]
    norm_num
  have h2 : Ideal.ofBits FTy.f32 1031798784#32 = ((1 / 16 : ℝ) : EReal) := by
    simp [Ideal.ofBits, Ideal.ieee]
    rw [← EReal.coe_mul]
    norm_num
  rw [h1, h2, Ideal.div_coe (by norm_num)]

variable (x0 : FVec Ideal S8x2048x1024 .f32) (x1 : FVec Ideal S1024 .f32) (x2 : FVec Ideal S1024x7448 .f32) (x3 : FVec Ideal S4x768 .f32) (x4 : FVec Ideal S4 .f32) (x5 : FVec Ideal S4 .f32) (x6 : FVec Ideal S16x256 .f32) (x7 : FVec Ideal S256 .f32) (x8 : FVec Ideal S256 .f32)

/-- The normalised rows. -/
theorem v12_apply (b : Fin 8) (l : Fin 2048) (d : Fin 1024) :
    val_main_v12 (F := Ideal) x0 x1 (ix3 b l d) = rms (fun k => x0 (ix3 b l k)) (fun k => x1 (ix1 k)) d := by
  pointwise [val_main_v12, val_main_v11, val_main_v10, val_main_v9, val_main_v8, val_main_v7, val_main_v6, val_main_v5, val_main_cst_1, val_main_v4, val_main_v3, val_main_cst_0, val_main_v2, val_main_v1, val_main_cst, val_main_v0, rms]

/-- The input projection. -/
theorem v13_apply (b : Fin 8) (l : Fin 2048) (n : Fin 7448) : val_main_v13 (F := Ideal) x0 x1 x2 (ix3 b l n) = P x0 x1 x2 b l n := by
  pointwise [val_main_v13]
  simp only [v12_apply]
  rfl

/-- The padded rows before the convolution. -/
theorem v30_apply (b : Fin 8) (l : Fin 2048) (n : Fin 768) (j : Fin 4) (q : Fin 2051) (hq : q.val = l.val + j.val) :
    val_main_v30 (F := Ideal) x0 x1 x2 (ix3 b q n) = Tap x0 x1 x2 b l ⟨n.val, by omega⟩ j := by
  obtain rfl : (⟨l.val + j.val, by clear hq; omega⟩ : Fin 2051) = q := Fin.ext hq.symm
  pointwise [val_main_v30, val_main_v31, val_main_v14, val_main_v29, val_main_cst_2, v13_apply, Tap]

/-- The convolution's output. -/
theorem v60_apply (b : Fin 8) (l : Fin 2048) (n : Fin 768) : val_main_v60 (F := Ideal) x0 x1 x2 x3 (ix3 b l n) = CV x0 x1 x2 x3 b l n := by
  have h : val_main_v59 (F := Ideal) x0 x1 x2 x3 (ix3 b l n) = Tap x0 x1 x2 b l ⟨n.val, by omega⟩ 0 * x3 (ix2 0 n) + Tap x0 x1 x2 b l ⟨n.val, by omega⟩ 1 * x3 (ix2 1 n)
      + Tap x0 x1 x2 b l ⟨n.val, by omega⟩ 2 * x3 (ix2 2 n) + Tap x0 x1 x2 b l ⟨n.val, by omega⟩ 3 * x3 (ix2 3 n) := by
    rw [← v30_apply x0 x1 x2 b l n 0 ⟨l.val, by omega⟩ rfl, ← v30_apply x0 x1 x2 b l n 1 ⟨1 + l.val, by omega⟩ (by show 1 + l.val = l.val + 1; omega),
      ← v30_apply x0 x1 x2 b l n 2 ⟨2 + l.val, by omega⟩ (by show 2 + l.val = l.val + 2; omega), ← v30_apply x0 x1 x2 b l n 3 ⟨3 + l.val, by omega⟩ (by show 3 + l.val = l.val + 3; omega)]
    pointwise [val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v36, val_main_v35, val_main_v34, val_main_v33, val_main_v32, val_main_v31, val_main_v37, val_main_cst_3]
  unfold CV conv4
  rw [← h, ← quot_silu]
  pointwise [val_main_v60, val_main_call0_v5, val_main_call0_v3, val_main_call0_v1, val_main_call0_v0, val_main_call0_v2, val_main_call0_cst, val_main_call0_v4, val_main_call0_cst_0]

/-- The last three rows before the convolution. -/
theorem v61_apply (b : Fin 8) (q : Fin 3) (n : Fin 768) : val_main_v61 (F := Ideal) x0 x1 x2 (ix3 b q n) = P x0 x1 x2 b ⟨2045 + q.val, by omega⟩ ⟨n.val, by omega⟩ := by
  pointwise [val_main_v61, val_main_v30, val_main_v31, val_main_v14, val_main_v29, val_main_cst_2, v13_apply]
  rw [dif_neg (show ¬ 2048 + q.val < 3 by omega)]
  exact congrArg (fun l => P x0 x1 x2 b l ⟨n.val, by omega⟩) (Fin.ext (by dsimp only; omega))

/-- The state-space branch's inputs. -/
theorem v162_apply (b : Fin 8) (l : Fin 2048) (n : Fin 256) : val_main_v162 (F := Ideal) x0 x1 x2 (ix2 l (⟨b.val * 256 + n.val, by omega⟩ : Fin 2048)) = P x0 x1 x2 b l ⟨2072 + n.val, by omega⟩ := by
  pointwise [val_main_v162, val_main_v161, val_main_v23, v13_apply]

/-- The softplus of the delta rule's decay. -/
theorem v76_apply (b : Fin 8) (l : Fin 2048) (h : Fin 4) : val_main_v76 (F := Ideal) x0 x1 x2 x5 (ix3 b l h) = soft (P x0 x1 x2 b l ⟨768 + h.val, by omega⟩ + x5 (ix1 h)) := by
  pointwise [val_main_v76, val_main_call1_v11, val_main_call1_v10, val_main_call1_v9, val_main_call1_v8, val_main_call1_v7, val_main_call1_v3, val_main_call1_v2, val_main_call1_cst, val_main_v75, val_main_v74, val_main_v73, val_main_v15, val_main_call1_v1, val_main_call1_v0, val_main_call1_v6, val_main_call1_v5, val_main_call1_v4, v13_apply]
  exact soft_if _

/-- The low-rank forget gate's logit. -/
theorem v83_apply (b : Fin 8) (l : Fin 2048) (n : Fin 256) : val_main_v83 (F := Ideal) x0 x1 x2 x6 x7 (ix3 b l n) = ∑ k : Fin 16, P x0 x1 x2 b l ⟨1800 + k.val, by omega⟩ * x6 (ix2 k n) + x7 (ix1 n) := by
  pointwise [val_main_v83, val_main_v82, val_main_v81, val_main_v80, val_main_v21, v13_apply]

/-- The compiled logistic logarithm of the low-rank gate. -/
theorem v84_apply (b : Fin 8) (l : Fin 2048) (n : Fin 256) : val_main_v84 (F := Ideal) x0 x1 x2 x6 x7 (ix3 b l n) = lsg (val_main_v83 (F := Ideal) x0 x1 x2 x6 x7 (ix3 b l n)) := by
  pointwise [val_main_v84, val_main_call2_v1, val_main_call2_call0_v11, val_main_call2_call0_v10, val_main_call2_call0_v9, val_main_call2_call0_v8, val_main_call2_call0_v7, val_main_call2_call0_v3, val_main_call2_call0_v2, val_main_call2_call0_cst, val_main_call2_v0, val_main_call2_call0_v1, val_main_call2_call0_v0, val_main_call2_call0_v6, val_main_call2_call0_v5, val_main_call2_call0_v4]
  rw [soft_if]
  rfl

/-- The third mixer's unbounded log forget gate. -/
theorem v87_apply (b : Fin 8) (l : Fin 2048) (n : Fin 256) : val_main_v87 (F := Ideal) x0 x1 x2 (ix3 b l n) = lsg (P x0 x1 x2 b l ⟨2584 + n.val, by omega⟩) := by
  pointwise [val_main_v87, val_main_call3_v1, val_main_call3_call0_v11, val_main_call3_call0_v10, val_main_call3_call0_v9, val_main_call3_call0_v8, val_main_call3_call0_v7, val_main_call3_call0_v3, val_main_call3_call0_v2, val_main_call3_call0_cst, val_main_call3_v0, val_main_v25, val_main_call3_call0_v1, val_main_call3_call0_v0, val_main_call3_call0_v6, val_main_call3_call0_v5, val_main_call3_call0_v4, v13_apply]
  rw [soft_if]
  rfl

/-- The logistic logarithm of the negated logit. -/
theorem v93_apply (b : Fin 8) (l : Fin 2048) (n : Fin 256) : val_main_v93 (F := Ideal) x0 x1 x2 (ix3 b l n) = lsg (-(P x0 x1 x2 b l ⟨2584 + n.val, by omega⟩)) := by
  pointwise [val_main_v93, val_main_call5_v1, val_main_call5_call0_v11, val_main_call5_call0_v10, val_main_call5_call0_v9, val_main_call5_call0_v8, val_main_call5_call0_v7, val_main_call5_call0_v3, val_main_call5_call0_v2, val_main_call5_call0_cst, val_main_call5_v0, val_main_v92, val_main_v25, val_main_call5_call0_v1, val_main_call5_call0_v0, val_main_call5_call0_v6, val_main_call5_call0_v5, val_main_call5_call0_v4, v13_apply]
  rw [soft_if]
  rfl

/-- The third mixer's log forget gate. -/
theorem v107_apply (b : Fin 8) (l : Fin 2048) (n : Fin 256) (hr : ∃ q : ℝ, P x0 x1 x2 b l ⟨2584 + n.val, by omega⟩ = (q : EReal)) : val_main_v107 (F := Ideal) x0 x1 x2 x8 (ix3 b l n) = lfg (P x0 x1 x2 b l ⟨2584 + n.val, by omega⟩) (x8 (ix1 n)) := by
  obtain ⟨q, hq⟩ := hr
  rw [hq, ← lfg_eq, ← hq]
  pointwise [val_main_v107, val_main_v106, val_main_v105, val_main_v104, val_main_v103, val_main_v102, val_main_v101, val_main_v98, val_main_v96, val_main_v95, val_main_v94, val_main_v91, val_main_v90, val_main_call4_v1, val_main_call4_v0, val_main_cst_8, val_main_v89, val_main_v88, val_main_cst_7, val_main_v97, val_main_v100, val_main_v99, val_main_call6_v0, v87_apply, v93_apply]
  simp only [lae_if]
  by_cases h : 0 < x8 (ix1 n)
  · simp only [if_pos h]
  · simp only [if_neg h]

/-- The delta rule's queries. -/
theorem ga_q (b : Fin 8) (l : Fin 2048) (R : Fin 16384) (hR : R.val = b.val * 2048 + l.val) (n : Fin 256) :
    val_main_v131 (F := Ideal) x0 x1 x2 x3 (ix2 R n) = l2 (fun q : Fin 256 => CV x0 x1 x2 x3 b l ⟨q.val, by omega⟩) n * Ideal.ofBits FTy.f32 1040187392#32 := by
  obtain rfl : (⟨b.val * 2048 + l.val, by clear hR; omega⟩ : Fin 16384) = R := Fin.ext hR.symm
  unfold l2
  pointwise [val_main_v131, val_main_v130, val_main_v129, val_main_cst_14, val_main_v128, val_main_v127, val_main_v126, val_main_v125, val_main_v124, val_main_cst_13, val_main_v123, val_main_v122, val_main_cst_12, val_main_v121, val_main_v120, val_main_v62, v60_apply]

/-- The delta rule's keys. -/
theorem ga_k (b : Fin 8) (l : Fin 2048) (R : Fin 16384) (hR : R.val = b.val * 2048 + l.val) (n : Fin 256) :
    val_main_v141 (F := Ideal) x0 x1 x2 x3 (ix2 R n) = l2 (fun q : Fin 256 => CV x0 x1 x2 x3 b l ⟨256 + q.val, by omega⟩) n := by
  obtain rfl : (⟨b.val * 2048 + l.val, by clear hR; omega⟩ : Fin 16384) = R := Fin.ext hR.symm
  unfold l2
  pointwise [val_main_v141, val_main_v140, val_main_v139, val_main_v138, val_main_v137, val_main_v136, val_main_cst_16, val_main_v135, val_main_v134, val_main_cst_15, val_main_v133, val_main_v132, val_main_v63, v60_apply]

/-- The delta rule's values. -/
theorem ga_v (b : Fin 8) (l : Fin 2048) (R : Fin 16384) (hR : R.val = b.val * 2048 + l.val) (n : Fin 256) :
    val_main_v142 (F := Ideal) x0 x1 x2 x3 (ix2 R n) = CV x0 x1 x2 x3 b l ⟨512 + n.val, by omega⟩ := by
  obtain rfl : (⟨b.val * 2048 + l.val, by clear hR; omega⟩ : Fin 16384) = R := Fin.ext hR.symm
  pointwise [val_main_v142, val_main_v64, v60_apply]

/-- The delta rule's output gate. -/
theorem ga_s (b : Fin 8) (l : Fin 2048) (R : Fin 16384) (hR : R.val = b.val * 2048 + l.val) (n : Fin 256) :
    val_main_v144 (F := Ideal) x0 x1 x2 (ix2 R n) = silu (P x0 x1 x2 b l ⟨776 + n.val, by omega⟩) := by
  obtain rfl : (⟨b.val * 2048 + l.val, by clear hR; omega⟩ : Fin 16384) = R := Fin.ext hR.symm
  rw [← quot_silu]
  pointwise [val_main_v144, val_main_v143, val_main_call7_v5, val_main_call7_v3, val_main_call7_v1, val_main_call7_v0, val_main_v17, val_main_call7_v2, val_main_call7_cst, val_main_call7_v4, val_main_call7_cst_0, v13_apply]

/-- The delta rule's log decay. -/
theorem ga_g (b : Fin 8) (l : Fin 2048) (R : Fin 16384) (hR : R.val = b.val * 2048 + l.val) (n : Fin 256) :
    val_main_v147 (F := Ideal) x0 x1 x2 x4 x5 (ix2 R n) = -(Ideal.exp (x4 (ix1 ⟨n.val / 64, by omega⟩))) * soft (P x0 x1 x2 b l ⟨768 + n.val / 64, by omega⟩ + x5 (ix1 ⟨n.val / 64, by omega⟩)) := by
  obtain rfl : (⟨b.val * 2048 + l.val, by clear hR; omega⟩ : Fin 16384) = R := Fin.ext hR.symm
  pointwise [val_main_v147, val_main_v146, val_main_v145, val_main_v79, val_main_v78, val_main_v77, val_main_v72, val_main_v71, v76_apply]

/-- The delta rule's update gate. -/
theorem ga_b (b : Fin 8) (l : Fin 2048) (R : Fin 16384) (hR : R.val = b.val * 2048 + l.val) (n : Fin 256) :
    val_main_v150 (F := Ideal) x0 x1 x2 (ix2 R n) = lgs (P x0 x1 x2 b l ⟨772 + n.val / 64, by omega⟩) := by
  obtain rfl : (⟨b.val * 2048 + l.val, by clear hR; omega⟩ : Fin 16384) = R := Fin.ext hR.symm
  rw [← quot_eq]
  pointwise [val_main_v150, val_main_v149, val_main_v148, val_main_v70, val_main_v68, val_main_v66, val_main_v65, val_main_v16, val_main_v67, val_main_cst_4, val_main_v69, val_main_cst_5, v13_apply]

/-- Gated linear attention's queries. -/
theorem gb_q (b : Fin 8) (l : Fin 2048) (R : Fin 16384) (hR : R.val = b.val * 2048 + l.val) (n : Fin 256) :
    val_main_v154 (F := Ideal) x0 x1 x2 (ix2 R n) = P x0 x1 x2 b l ⟨1032 + n.val, by omega⟩ * Ideal.ofBits FTy.f32 1040187392#32 := by
  obtain rfl : (⟨b.val * 2048 + l.val, by clear hR; omega⟩ : Fin 16384) = R := Fin.ext hR.symm
  pointwise [val_main_v154, val_main_v153, val_main_v152, val_main_cst_17, val_main_v18, v13_apply]

/-- Gated linear attention's keys. -/
theorem gb_k (b : Fin 8) (l : Fin 2048) (R : Fin 16384) (hR : R.val = b.val * 2048 + l.val) (n : Fin 256) :
    val_main_v155 (F := Ideal) x0 x1 x2 (ix2 R n) = P x0 x1 x2 b l ⟨1288 + n.val, by omega⟩ := by
  obtain rfl : (⟨b.val * 2048 + l.val, by clear hR; omega⟩ : Fin 16384) = R := Fin.ext hR.symm
  pointwise [val_main_v155, val_main_v19, v13_apply]

/-- Gated linear attention's values. -/
theorem gb_v (b : Fin 8) (l : Fin 2048) (R : Fin 16384) (hR : R.val = b.val * 2048 + l.val) (n : Fin 256) :
    val_main_v156 (F := Ideal) x0 x1 x2 (ix2 R n) = P x0 x1 x2 b l ⟨1544 + n.val, by omega⟩ := by
  obtain rfl : (⟨b.val * 2048 + l.val, by clear hR; omega⟩ : Fin 16384) = R := Fin.ext hR.symm
  pointwise [val_main_v156, val_main_v20, v13_apply]

/-- Gated linear attention's output gate. -/
theorem gb_s (b : Fin 8) (l : Fin 2048) (R : Fin 16384) (hR : R.val = b.val * 2048 + l.val) (n : Fin 256) :
    val_main_v158 (F := Ideal) x0 x1 x2 (ix2 R n) = silu (P x0 x1 x2 b l ⟨1816 + n.val, by omega⟩) := by
  obtain rfl : (⟨b.val * 2048 + l.val, by clear hR; omega⟩ : Fin 16384) = R := Fin.ext hR.symm
  rw [← quot_silu]
  pointwise [val_main_v158, val_main_v157, val_main_call8_v5, val_main_call8_v3, val_main_call8_v1, val_main_call8_v0, val_main_v22, val_main_call8_v2, val_main_call8_cst, val_main_call8_v4, val_main_call8_cst_0, v13_apply]

/-- Gated linear attention's log forget gate. -/
theorem gb_f (b : Fin 8) (l : Fin 2048) (R : Fin 16384) (hR : R.val = b.val * 2048 + l.val) (n : Fin 256) :
    val_main_v159 (F := Ideal) x0 x1 x2 x6 x7 (ix2 R n) = lsg (∑ k : Fin 16, P x0 x1 x2 b l ⟨1800 + k.val, by omega⟩ * x6 (ix2 k n) + x7 (ix1 n)) * Ideal.ofBits FTy.f32 1031798784#32 := by
  obtain rfl : (⟨b.val * 2048 + l.val, by clear hR; omega⟩ : Fin 16384) = R := Fin.ext hR.symm
  pointwise [val_main_v159, val_main_v86, val_main_v85, val_main_cst_6]
  rw [v84_apply, v83_apply]
  exact div_16 _

/-- The third mixer's queries. -/
theorem gd_q (b : Fin 8) (l : Fin 2048) (R : Fin 16384) (hR : R.val = b.val * 2048 + l.val) (n : Fin 256) :
    val_main_v166 (F := Ideal) x0 x1 x2 (ix2 R n) = silu (P x0 x1 x2 b l ⟨2328 + n.val, by omega⟩) * Ideal.ofBits FTy.f32 1040187392#32 := by
  obtain rfl : (⟨b.val * 2048 + l.val, by clear hR; omega⟩ : Fin 16384) = R := Fin.ext hR.symm
  rw [← quot_silu]
  pointwise [val_main_v166, val_main_v165, val_main_v164, val_main_cst_18, val_main_v163, val_main_call9_v5, val_main_call9_v3, val_main_call9_v1, val_main_call9_v0, val_main_v24, val_main_call9_v2, val_main_call9_cst, val_main_call9_v4, val_main_call9_cst_0, v13_apply]

/-- The third mixer's keys. -/
theorem gd_k (b : Fin 8) (l : Fin 2048) (R : Fin 16384) (hR : R.val = b.val * 2048 + l.val) (n : Fin 256) :
    val_main_v167 (F := Ideal) x0 x1 x2 x8 (ix2 R n) = kf (x8 (ix1 n)) (P x0 x1 x2 b l ⟨2584 + n.val, by omega⟩) := by
  obtain rfl : (⟨b.val * 2048 + l.val, by clear hR; omega⟩ : Fin 16384) = R := Fin.ext hR.symm
  unfold kf
  rw [← quot_eq]
  pointwise [val_main_v167, val_main_v119, val_main_v116, val_main_v114, val_main_v112, val_main_v111, val_main_v110, val_main_v25, val_main_v113, val_main_cst_10, val_main_v115, val_main_cst_11, val_main_v118, val_main_v117, val_main_v109, val_main_v108, val_main_cst_9, v13_apply]

/-- The third mixer's values. -/
theorem gd_v (b : Fin 8) (l : Fin 2048) (R : Fin 16384) (hR : R.val = b.val * 2048 + l.val) (n : Fin 256) :
    val_main_v168 (F := Ideal) x0 x1 x2 (ix2 R n) = P x0 x1 x2 b l ⟨2840 + n.val, by omega⟩ := by
  obtain rfl : (⟨b.val * 2048 + l.val, by clear hR; omega⟩ : Fin 16384) = R := Fin.ext hR.symm
  pointwise [val_main_v168, val_main_v26, v13_apply]

/-- The third mixer's output gate. -/
theorem gd_s (b : Fin 8) (l : Fin 2048) (R : Fin 16384) (hR : R.val = b.val * 2048 + l.val) (n : Fin 256) :
    val_main_v170 (F := Ideal) x0 x1 x2 (ix2 R n) = silu (P x0 x1 x2 b l ⟨3096 + n.val, by omega⟩) := by
  obtain rfl : (⟨b.val * 2048 + l.val, by clear hR; omega⟩ : Fin 16384) = R := Fin.ext hR.symm
  rw [← quot_silu]
  pointwise [val_main_v170, val_main_v169, val_main_call10_v5, val_main_call10_v3, val_main_call10_v1, val_main_call10_v0, val_main_v27, val_main_call10_v2, val_main_call10_cst, val_main_call10_v4, val_main_call10_cst_0, v13_apply]

/-- The third mixer's log forget gate. -/
theorem gd_f (b : Fin 8) (l : Fin 2048) (R : Fin 16384) (hR : R.val = b.val * 2048 + l.val) (n : Fin 256) (hr : ∃ q : ℝ, P x0 x1 x2 b l ⟨2584 + n.val, by omega⟩ = (q : EReal)) :
    val_main_v171 (F := Ideal) x0 x1 x2 x8 (ix2 R n) = lfg (P x0 x1 x2 b l ⟨2584 + n.val, by omega⟩) (x8 (ix1 n)) := by
  obtain rfl : (⟨b.val * 2048 + l.val, by clear hR; omega⟩ : Fin 16384) = R := Fin.ext hR.symm
  pointwise [val_main_v171]
  exact v107_apply x0 x1 x2 x8 b l n hr

end Cert.Reference5Ideal.Hand
end
-- ==== Proof.Inp.Equal.lean ====
module

public import proofs.«01_k».proof.Defs
public import proofs.«01_k».proof.Proof.Inp.Ref
public import proofs.«01_k».proof.Proof.Gen.Reference5Ideal.Run
public import proofs.«01_k».proof.Proof.Gen.Pre_in_proj_finite
@[expose] public section

set_option maxRecDepth 16384
noncomputable section

namespace Cert.Reference5Ideal.Hand

open Cert.Reference5Ideal Cert.Reference5Ideal.Gen Cert.Reference5Ideal.Read Idealize.ShloMosaic Idealize.ShloMosaic.TcCoe Idealize.SL.Sem Cert.Hand

variable (x0 : FVec Ideal S8x2048x1024 .f32) (x1 : FVec Ideal S1024 .f32) (x2 : FVec Ideal S1024x7448 .f32) (x3 : FVec Ideal S4x768 .f32) (x4 : FVec Ideal S4 .f32) (x5 : FVec Ideal S4 .f32) (x6 : FVec Ideal S16x256 .f32) (x7 : FVec Ideal S256 .f32) (x8 : FVec Ideal S256 .f32)

/-- Columns 0 to 255 of the concatenation. -/
theorem v151_0 (R : Fin 16384) (n : Fin 256) (j : Fin 1536) (hj : j.val = 0 + n.val) : val_main_v151 (F := Ideal) x0 x1 x2 x3 x4 x5 (ix2 R j) = val_main_v131 (F := Ideal) x0 x1 x2 x3 (ix2 R n) := by
  unfold val_main_v151
  refine (concatenate_apply_piece (t := S16384x1536) 1 _ _ (ix2 R j) 0 (Nat.lt_of_sub_eq_succ rfl) S16384x256 _ rfl rfl 0 rfl (ix2 R n) ?_ ?_).trans ?_
  · intro b hb
    match b, hb with
    | ⟨0, _⟩, _ => rfl
    | ⟨1, _⟩, hb => exact absurd rfl hb
  · exact hj.symm
  · rfl
/-- Columns 256 to 511 of the concatenation. -/
theorem v151_1 (R : Fin 16384) (n : Fin 256) (j : Fin 1536) (hj : j.val = 256 + n.val) : val_main_v151 (F := Ideal) x0 x1 x2 x3 x4 x5 (ix2 R j) = val_main_v141 (F := Ideal) x0 x1 x2 x3 (ix2 R n) := by
  unfold val_main_v151
  refine (concatenate_apply_piece (t := S16384x1536) 1 _ _ (ix2 R j) 1 (Nat.lt_of_sub_eq_succ rfl) S16384x256 _ rfl rfl 256 rfl (ix2 R n) ?_ ?_).trans ?_
  · intro b hb
    match b, hb with
    | ⟨0, _⟩, _ => rfl
    | ⟨1, _⟩, hb => exact absurd rfl hb
  · exact hj.symm
  · rfl
/-- Columns 512 to 767 of the concatenation. -/
theorem v151_2 (R : Fin 16384) (n : Fin 256) (j : Fin 1536) (hj : j.val = 512 + n.val) : val_main_v151 (F := Ideal) x0 x1 x2 x3 x4 x5 (ix2 R j) = val_main_v142 (F := Ideal) x0 x1 x2 x3 (ix2 R n) := by
  unfold val_main_v151
  refine (concatenate_apply_piece (t := S16384x1536) 1 _ _ (ix2 R j) 2 (Nat.lt_of_sub_eq_succ rfl) S16384x256 _ rfl rfl 512 rfl (ix2 R n) ?_ ?_).trans ?_
  · intro b hb
    match b, hb with
    | ⟨0, _⟩, _ => rfl
    | ⟨1, _⟩, hb => exact absurd rfl hb
  · exact hj.symm
  · rfl
/-- Columns 768 to 1023 of the concatenation. -/
theorem v151_3 (R : Fin 16384) (n : Fin 256) (j : Fin 1536) (hj : j.val = 768 + n.val) : val_main_v151 (F := Ideal) x0 x1 x2 x3 x4 x5 (ix2 R j) = val_main_v144 (F := Ideal) x0 x1 x2 (ix2 R n) := by
  unfold val_main_v151
  refine (concatenate_apply_piece (t := S16384x1536) 1 _ _ (ix2 R j) 3 (Nat.lt_of_sub_eq_succ rfl) S16384x256 _ rfl rfl 768 rfl (ix2 R n) ?_ ?_).trans ?_
  · intro b hb
    match b, hb with
    | ⟨0, _⟩, _ => rfl
    | ⟨1, _⟩, hb => exact absurd rfl hb
  · exact hj.symm
  · rfl
/-- Columns 1024 to 1279 of the concatenation. -/
theorem v151_4 (R : Fin 16384) (n : Fin 256) (j : Fin 1536) (hj : j.val = 1024 + n.val) : val_main_v151 (F := Ideal) x0 x1 x2 x3 x4 x5 (ix2 R j) = val_main_v147 (F := Ideal) x0 x1 x2 x4 x5 (ix2 R n) := by
  unfold val_main_v151
  refine (concatenate_apply_piece (t := S16384x1536) 1 _ _ (ix2 R j) 4 (Nat.lt_of_sub_eq_succ rfl) S16384x256 _ rfl rfl 1024 rfl (ix2 R n) ?_ ?_).trans ?_
  · intro b hb
    match b, hb with
    | ⟨0, _⟩, _ => rfl
    | ⟨1, _⟩, hb => exact absurd rfl hb
  · exact hj.symm
  · rfl
/-- Columns 1280 to 1535 of the concatenation. -/
theorem v151_5 (R : Fin 16384) (n : Fin 256) (j : Fin 1536) (hj : j.val = 1280 + n.val) : val_main_v151 (F := Ideal) x0 x1 x2 x3 x4 x5 (ix2 R j) = val_main_v150 (F := Ideal) x0 x1 x2 (ix2 R n) := by
  unfold val_main_v151
  refine (concatenate_apply_piece (t := S16384x1536) 1 _ _ (ix2 R j) 5 (Nat.lt_of_sub_eq_succ rfl) S16384x256 _ rfl rfl 1280 rfl (ix2 R n) ?_ ?_).trans ?_
  · intro b hb
    match b, hb with
    | ⟨0, _⟩, _ => rfl
    | ⟨1, _⟩, hb => exact absurd rfl hb
  · exact hj.symm
  · rfl
/-- Columns 0 to 255 of the concatenation. -/
theorem v160_0 (R : Fin 16384) (n : Fin 256) (j : Fin 1280) (hj : j.val = 0 + n.val) : val_main_v160 (F := Ideal) x0 x1 x2 x6 x7 (ix2 R j) = val_main_v154 (F := Ideal) x0 x1 x2 (ix2 R n) := by
  unfold val_main_v160
  refine (concatenate_apply_piece (t := S16384x1280) 1 _ _ (ix2 R j) 0 (Nat.lt_of_sub_eq_succ rfl) S16384x256 _ rfl rfl 0 rfl (ix2 R n) ?_ ?_).trans ?_
  · intro b hb
    match b, hb with
    | ⟨0, _⟩, _ => rfl
    | ⟨1, _⟩, hb => exact absurd rfl hb
  · exact hj.symm
  · rfl
/-- Columns 256 to 511 of the concatenation. -/
theorem v160_1 (R : Fin 16384) (n : Fin 256) (j : Fin 1280) (hj : j.val = 256 + n.val) : val_main_v160 (F := Ideal) x0 x1 x2 x6 x7 (ix2 R j) = val_main_v155 (F := Ideal) x0 x1 x2 (ix2 R n) := by
  unfold val_main_v160
  refine (concatenate_apply_piece (t := S16384x1280) 1 _ _ (ix2 R j) 1 (Nat.lt_of_sub_eq_succ rfl) S16384x256 _ rfl rfl 256 rfl (ix2 R n) ?_ ?_).trans ?_
  · intro b hb
    match b, hb with
    | ⟨0, _⟩, _ => rfl
    | ⟨1, _⟩, hb => exact absurd rfl hb
  · exact hj.symm
  · rfl
/-- Columns 512 to 767 of the concatenation. -/
theorem v160_2 (R : Fin 16384) (n : Fin 256) (j : Fin 1280) (hj : j.val = 512 + n.val) : val_main_v160 (F := Ideal) x0 x1 x2 x6 x7 (ix2 R j) = val_main_v156 (F := Ideal) x0 x1 x2 (ix2 R n) := by
  unfold val_main_v160
  refine (concatenate_apply_piece (t := S16384x1280) 1 _ _ (ix2 R j) 2 (Nat.lt_of_sub_eq_succ rfl) S16384x256 _ rfl rfl 512 rfl (ix2 R n) ?_ ?_).trans ?_
  · intro b hb
    match b, hb with
    | ⟨0, _⟩, _ => rfl
    | ⟨1, _⟩, hb => exact absurd rfl hb
  · exact hj.symm
  · rfl
/-- Columns 768 to 1023 of the concatenation. -/
theorem v160_3 (R : Fin 16384) (n : Fin 256) (j : Fin 1280) (hj : j.val = 768 + n.val) : val_main_v160 (F := Ideal) x0 x1 x2 x6 x7 (ix2 R j) = val_main_v158 (F := Ideal) x0 x1 x2 (ix2 R n) := by
  unfold val_main_v160
  refine (concatenate_apply_piece (t := S16384x1280) 1 _ _ (ix2 R j) 3 (Nat.lt_of_sub_eq_succ rfl) S16384x256 _ rfl rfl 768 rfl (ix2 R n) ?_ ?_).trans ?_
  · intro b hb
    match b, hb with
    | ⟨0, _⟩, _ => rfl
    | ⟨1, _⟩, hb => exact absurd rfl hb
  · exact hj.symm
  · rfl
/-- Columns 1024 to 1279 of the concatenation. -/
theorem v160_4 (R : Fin 16384) (n : Fin 256) (j : Fin 1280) (hj : j.val = 1024 + n.val) : val_main_v160 (F := Ideal) x0 x1 x2 x6 x7 (ix2 R j) = val_main_v159 (F := Ideal) x0 x1 x2 x6 x7 (ix2 R n) := by
  unfold val_main_v160
  refine (concatenate_apply_piece (t := S16384x1280) 1 _ _ (ix2 R j) 4 (Nat.lt_of_sub_eq_succ rfl) S16384x256 _ rfl rfl 1024 rfl (ix2 R n) ?_ ?_).trans ?_
  · intro b hb
    match b, hb with
    | ⟨0, _⟩, _ => rfl
    | ⟨1, _⟩, hb => exact absurd rfl hb
  · exact hj.symm
  · rfl
/-- Columns 0 to 255 of the concatenation. -/
theorem v172_0 (R : Fin 16384) (n : Fin 256) (j : Fin 1280) (hj : j.val = 0 + n.val) : val_main_v172 (F := Ideal) x0 x1 x2 x8 (ix2 R j) = val_main_v166 (F := Ideal) x0 x1 x2 (ix2 R n) := by
  unfold val_main_v172
  refine (concatenate_apply_piece (t := S16384x1280) 1 _ _ (ix2 R j) 0 (Nat.lt_of_sub_eq_succ rfl) S16384x256 _ rfl rfl 0 rfl (ix2 R n) ?_ ?_).trans ?_
  · intro b hb
    match b, hb with
    | ⟨0, _⟩, _ => rfl
    | ⟨1, _⟩, hb => exact absurd rfl hb
  · exact hj.symm
  · rfl
/-- Columns 256 to 511 of the concatenation. -/
theorem v172_1 (R : Fin 16384) (n : Fin 256) (j : Fin 1280) (hj : j.val = 256 + n.val) : val_main_v172 (F := Ideal) x0 x1 x2 x8 (ix2 R j) = val_main_v167 (F := Ideal) x0 x1 x2 x8 (ix2 R n) := by
  unfold val_main_v172
  refine (concatenate_apply_piece (t := S16384x1280) 1 _ _ (ix2 R j) 1 (Nat.lt_of_sub_eq_succ rfl) S16384x256 _ rfl rfl 256 rfl (ix2 R n) ?_ ?_).trans ?_
  · intro b hb
    match b, hb with
    | ⟨0, _⟩, _ => rfl
    | ⟨1, _⟩, hb => exact absurd rfl hb
  · exact hj.symm
  · rfl
/-- Columns 512 to 767 of the concatenation. -/
theorem v172_2 (R : Fin 16384) (n : Fin 256) (j : Fin 1280) (hj : j.val = 512 + n.val) : val_main_v172 (F := Ideal) x0 x1 x2 x8 (ix2 R j) = val_main_v168 (F := Ideal) x0 x1 x2 (ix2 R n) := by
  unfold val_main_v172
  refine (concatenate_apply_piece (t := S16384x1280) 1 _ _ (ix2 R j) 2 (Nat.lt_of_sub_eq_succ rfl) S16384x256 _ rfl rfl 512 rfl (ix2 R n) ?_ ?_).trans ?_
  · intro b hb
    match b, hb with
    | ⟨0, _⟩, _ => rfl
    | ⟨1, _⟩, hb => exact absurd rfl hb
  · exact hj.symm
  · rfl
/-- Columns 768 to 1023 of the concatenation. -/
theorem v172_3 (R : Fin 16384) (n : Fin 256) (j : Fin 1280) (hj : j.val = 768 + n.val) : val_main_v172 (F := Ideal) x0 x1 x2 x8 (ix2 R j) = val_main_v170 (F := Ideal) x0 x1 x2 (ix2 R n) := by
  unfold val_main_v172
  refine (concatenate_apply_piece (t := S16384x1280) 1 _ _ (ix2 R j) 3 (Nat.lt_of_sub_eq_succ rfl) S16384x256 _ rfl rfl 768 rfl (ix2 R n) ?_ ?_).trans ?_
  · intro b hb
    match b, hb with
    | ⟨0, _⟩, _ => rfl
    | ⟨1, _⟩, hb => exact absurd rfl hb
  · exact hj.symm
  · rfl
/-- Columns 1024 to 1279 of the concatenation. -/
theorem v172_4 (R : Fin 16384) (n : Fin 256) (j : Fin 1280) (hj : j.val = 1024 + n.val) : val_main_v172 (F := Ideal) x0 x1 x2 x8 (ix2 R j) = val_main_v171 (F := Ideal) x0 x1 x2 x8 (ix2 R n) := by
  unfold val_main_v172
  refine (concatenate_apply_piece (t := S16384x1280) 1 _ _ (ix2 R j) 4 (Nat.lt_of_sub_eq_succ rfl) S16384x256 _ rfl rfl 1024 rfl (ix2 R n) ?_ ?_).trans ?_
  · intro b hb
    match b, hb with
    | ⟨0, _⟩, _ => rfl
    | ⟨1, _⟩, hb => exact absurd rfl hb
  · exact hj.symm
  · rfl

end Cert.Reference5Ideal.Hand

namespace Cert.Kernel5Ideal.Hand

open Cert.Kernel5Ideal Cert.Kernel5Ideal.Gen Idealize.ShloMosaic Idealize.ShloMosaic.TcCoe Idealize.SL.Sem Cert.Hand

/-- Rows of weights that pass the finiteness test are real. -/
theorem reals_of_fold1 {a : ℕ} {x : (⟨1, ![a]⟩ : Shape).Idx → EReal}
    (h : Finset.fold IntOp.andi (1#1)
      (fun k : Fin a => BitVec.ofBool (decide (FloatOps.absf (F := Ideal) (φ := .f32) (x (ix1 k)) < Ideal.ofBits FTy.f32 2139095040#32)))
      Finset.univ = 1#1) (i : (⟨1, ![a]⟩ : Shape).Idx) : ∃ r : ℝ, x i = (r : EReal) := by
  have e : i = ix1 (i 0) := by
    funext d
    match d with
    | ⟨0, _⟩ => rfl
  rw [e]
  exact real_of_bit (fold_and_one _ _ h (i 0) (Finset.mem_univ _))

/-- Matrices of weights that pass the finiteness test are real. -/
theorem reals_of_fold2 {a b : ℕ} {x : (⟨2, ![a, b]⟩ : Shape).Idx → EReal}
    (h : Finset.fold IntOp.andi (1#1)
      (fun k : Fin a × Fin b => BitVec.ofBool (decide (FloatOps.absf (F := Ideal) (φ := .f32) (x (ix2 k.1 k.2)) < Ideal.ofBits FTy.f32 2139095040#32)))
      Finset.univ = 1#1) (i : (⟨2, ![a, b]⟩ : Shape).Idx) : ∃ r : ℝ, x i = (r : EReal) := by
  have e : i = ix2 (i 0) (i 1) := by
    funext d
    match d with
    | ⟨0, _⟩ => rfl
    | ⟨1, _⟩ => rfl
  rw [e]
  exact real_of_bit (fold_and_one _ _ h (i 0, i 1) (Finset.mem_univ _))

/-- Inputs that pass the finiteness test are arrays of real numbers. -/
theorem reals (x0 : FVec Ideal S8x2048x1024 .f32) (x1 : FVec Ideal S1024 .f32) (x2 : FVec Ideal S1024x7448 .f32) (x3 : FVec Ideal S4x768 .f32) (x4 : FVec Ideal S4 .f32) (x5 : FVec Ideal S4 .f32) (x6 : FVec Ideal S16x256 .f32) (x7 : FVec Ideal S256 .f32) (x8 : FVec Ideal S256 .f32)
    (h : Cert.Pre_in_proj_finite.fn (F := Ideal) x0 x1 x2 x3 x4 x5 x6 x7 x8 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) := by
  have h0 := congrFun h (fun a => a.elim0)
  pointwise [Cert.Pre_in_proj_finite.fn, Cert.Pre_in_proj_finite.fn_part1] at h0
  obtain ⟨h0, h3⟩ := and_one h0
  obtain ⟨h0, h2⟩ := and_one h0
  obtain ⟨h0, h1⟩ := and_one h0
  obtain ⟨r0, e0⟩ := reals_of_fold3 h0
  exact ⟨fun i => ⟨r0 i, congrFun e0 i⟩, reals_of_fold1 h1, reals_of_fold2 h2, reals_of_fold2 h3⟩

/-- Result array 10 is the reference's. -/
theorem join10 (m : (ℓ : Loc nD τ sig) → Buf (Elt Ideal) ℓ) (c : Dev nD) (hx : ∀ i, ∃ r : ℝ, (m (c.tc.loc main_arg0)) i = (r : EReal)) (hn : ∀ i, ∃ r : ℝ, (m (c.tc.loc main_arg1)) i = (r : EReal)) (hw : ∀ i, ∃ r : ℝ, (m (c.tc.loc main_arg2)) i = (r : EReal)) (hc : ∀ i, ∃ r : ℝ, (m (c.tc.loc main_arg3)) i = (r : EReal)) (R : Fin 16384) (j : Fin 1536) :
    Cert.Reference5Ideal.Read.val_main_v151 (F := Ideal) (m (c.tc.loc main_arg0)) (m (c.tc.loc main_arg1)) (m (c.tc.loc main_arg2)) (m (c.tc.loc main_arg3)) (m (c.tc.loc main_arg4)) (m (c.tc.loc main_arg5)) (ix2 R j) = (dats m 0 c).arrAt 10 cfg0.N (ix2 R j) := by
  have hR : R.val = (⟨R.val / 2048, by omega⟩ : Fin 8).val * 2048 + (⟨R.val % 2048, by omega⟩ : Fin 2048).val := by dsimp only; omega
  have hq : j.val / 256 < 6 := by omega
  obtain ⟨n, hn'⟩ : ∃ n : Fin 256, n.val = j.val % 256 := ⟨⟨j.val % 256, by omega⟩, rfl⟩
  match e : j.val / 256, hq with
  | 0, _ =>
    have ej : j.val = 0 + n.val := by omega
    clear hn' hq e
    obtain rfl : (⟨0 + n.val, by clear ej; omega⟩ : Fin 1536) = j := Fin.ext ej.symm
    refine (Cert.Reference5Ideal.Hand.v151_0 _ _ _ _ _ _ R n _ rfl).trans ?_
    exact (Cert.Reference5Ideal.Hand.ga_q _ _ _ _ _ _ R hR n).trans (fin_ga_q m c hx hn hw hc _ _ R hR n).symm
  | 1, _ =>
    have ej : j.val = 256 + n.val := by omega
    clear hn' hq e
    obtain rfl : (⟨256 + n.val, by clear ej; omega⟩ : Fin 1536) = j := Fin.ext ej.symm
    refine (Cert.Reference5Ideal.Hand.v151_1 _ _ _ _ _ _ R n _ rfl).trans ?_
    exact (Cert.Reference5Ideal.Hand.ga_k _ _ _ _ _ _ R hR n).trans (fin_ga_k m c hx hn hw hc _ _ R hR n).symm
  | 2, _ =>
    have ej : j.val = 512 + n.val := by omega
    clear hn' hq e
    obtain rfl : (⟨512 + n.val, by clear ej; omega⟩ : Fin 1536) = j := Fin.ext ej.symm
    refine (Cert.Reference5Ideal.Hand.v151_2 _ _ _ _ _ _ R n _ rfl).trans ?_
    exact (Cert.Reference5Ideal.Hand.ga_v _ _ _ _ _ _ R hR n).trans (fin_ga_v m c _ _ R hR n).symm
  | 3, _ =>
    have ej : j.val = 768 + n.val := by omega
    clear hn' hq e
    obtain rfl : (⟨768 + n.val, by clear ej; omega⟩ : Fin 1536) = j := Fin.ext ej.symm
    refine (Cert.Reference5Ideal.Hand.v151_3 _ _ _ _ _ _ R n _ rfl).trans ?_
    exact (Cert.Reference5Ideal.Hand.ga_s _ _ _ _ _ R hR n).trans (fin_ga_s m c _ _ R hR n).symm
  | 4, _ =>
    have ej : j.val = 1024 + n.val := by omega
    clear hn' hq e
    obtain rfl : (⟨1024 + n.val, by clear ej; omega⟩ : Fin 1536) = j := Fin.ext ej.symm
    refine (Cert.Reference5Ideal.Hand.v151_4 _ _ _ _ _ _ R n _ rfl).trans ?_
    exact (Cert.Reference5Ideal.Hand.ga_g _ _ _ _ _ _ _ R hR n).trans (fin_ga_g m c hx hn hw hc _ _ R hR n).symm
  | 5, _ =>
    have ej : j.val = 1280 + n.val := by omega
    clear hn' hq e
    obtain rfl : (⟨1280 + n.val, by clear ej; omega⟩ : Fin 1536) = j := Fin.ext ej.symm
    refine (Cert.Reference5Ideal.Hand.v151_5 _ _ _ _ _ _ R n _ rfl).trans ?_
    exact (Cert.Reference5Ideal.Hand.ga_b _ _ _ _ _ R hR n).trans (fin_ga_b m c hx hn hw hc _ _ R hR n).symm

/-- Result array 11 is the reference's. -/
theorem join11 (m : (ℓ : Loc nD τ sig) → Buf (Elt Ideal) ℓ) (c : Dev nD) (hx : ∀ i, ∃ r : ℝ, (m (c.tc.loc main_arg0)) i = (r : EReal)) (hn : ∀ i, ∃ r : ℝ, (m (c.tc.loc main_arg1)) i = (r : EReal)) (hw : ∀ i, ∃ r : ℝ, (m (c.tc.loc main_arg2)) i = (r : EReal)) (hc : ∀ i, ∃ r : ℝ, (m (c.tc.loc main_arg3)) i = (r : EReal)) (R : Fin 16384) (j : Fin 1280) :
    Cert.Reference5Ideal.Read.val_main_v160 (F := Ideal) (m (c.tc.loc main_arg0)) (m (c.tc.loc main_arg1)) (m (c.tc.loc main_arg2)) (m (c.tc.loc main_arg6)) (m (c.tc.loc main_arg7)) (ix2 R j) = (dats m 0 c).arrAt 11 cfg0.N (ix2 R j) := by
  have hR : R.val = (⟨R.val / 2048, by omega⟩ : Fin 8).val * 2048 + (⟨R.val % 2048, by omega⟩ : Fin 2048).val := by dsimp only; omega
  have hq : j.val / 256 < 5 := by omega
  obtain ⟨n, hn'⟩ : ∃ n : Fin 256, n.val = j.val % 256 := ⟨⟨j.val % 256, by omega⟩, rfl⟩
  match e : j.val / 256, hq with
  | 0, _ =>
    have ej : j.val = 0 + n.val := by omega
    clear hn' hq e
    obtain rfl : (⟨0 + n.val, by clear ej; omega⟩ : Fin 1280) = j := Fin.ext ej.symm
    refine (Cert.Reference5Ideal.Hand.v160_0 _ _ _ _ _ R n _ rfl).trans ?_
    exact (Cert.Reference5Ideal.Hand.gb_q _ _ _ _ _ R hR n).trans (fin_gb_q m c _ _ R hR n).symm
  | 1, _ =>
    have ej : j.val = 256 + n.val := by omega
    clear hn' hq e
    obtain rfl : (⟨256 + n.val, by clear ej; omega⟩ : Fin 1280) = j := Fin.ext ej.symm
    refine (Cert.Reference5Ideal.Hand.v160_1 _ _ _ _ _ R n _ rfl).trans ?_
    exact (Cert.Reference5Ideal.Hand.gb_k _ _ _ _ _ R hR n).trans (fin_gb_k m c _ _ R hR n).symm
  | 2, _ =>
    have ej : j.val = 512 + n.val := by omega
    clear hn' hq e
    obtain rfl : (⟨512 + n.val, by clear ej; omega⟩ : Fin 1280) = j := Fin.ext ej.symm
    refine (Cert.Reference5Ideal.Hand.v160_2 _ _ _ _ _ R n _ rfl).trans ?_
    exact (Cert.Reference5Ideal.Hand.gb_v _ _ _ _ _ R hR n).trans (fin_gb_v m c _ _ R hR n).symm
  | 3, _ =>
    have ej : j.val = 768 + n.val := by omega
    clear hn' hq e
    obtain rfl : (⟨768 + n.val, by clear ej; omega⟩ : Fin 1280) = j := Fin.ext ej.symm
    refine (Cert.Reference5Ideal.Hand.v160_3 _ _ _ _ _ R n _ rfl).trans ?_
    exact (Cert.Reference5Ideal.Hand.gb_s _ _ _ _ _ R hR n).trans (fin_gb_s m c _ _ R hR n).symm
  | 4, _ =>
    have ej : j.val = 1024 + n.val := by omega
    clear hn' hq e
    obtain rfl : (⟨1024 + n.val, by clear ej; omega⟩ : Fin 1280) = j := Fin.ext ej.symm
    refine (Cert.Reference5Ideal.Hand.v160_4 _ _ _ _ _ R n _ rfl).trans ?_
    exact (Cert.Reference5Ideal.Hand.gb_f _ _ _ _ _ _ _ R hR n).trans (fin_gb_f m c _ _ R hR n).symm

/-- Result array 13 is the reference's. -/
theorem join13 (m : (ℓ : Loc nD τ sig) → Buf (Elt Ideal) ℓ) (c : Dev nD) (hx : ∀ i, ∃ r : ℝ, (m (c.tc.loc main_arg0)) i = (r : EReal)) (hn : ∀ i, ∃ r : ℝ, (m (c.tc.loc main_arg1)) i = (r : EReal)) (hw : ∀ i, ∃ r : ℝ, (m (c.tc.loc main_arg2)) i = (r : EReal)) (hc : ∀ i, ∃ r : ℝ, (m (c.tc.loc main_arg3)) i = (r : EReal)) (R : Fin 16384) (j : Fin 1280) :
    Cert.Reference5Ideal.Read.val_main_v172 (F := Ideal) (m (c.tc.loc main_arg0)) (m (c.tc.loc main_arg1)) (m (c.tc.loc main_arg2)) (m (c.tc.loc main_arg8)) (ix2 R j) = (dats m 0 c).arrAt 13 cfg0.N (ix2 R j) := by
  have hR : R.val = (⟨R.val / 2048, by omega⟩ : Fin 8).val * 2048 + (⟨R.val % 2048, by omega⟩ : Fin 2048).val := by dsimp only; omega
  have hq : j.val / 256 < 5 := by omega
  obtain ⟨n, hn'⟩ : ∃ n : Fin 256, n.val = j.val % 256 := ⟨⟨j.val % 256, by omega⟩, rfl⟩
  match e : j.val / 256, hq with
  | 0, _ =>
    have ej : j.val = 0 + n.val := by omega
    clear hn' hq e
    obtain rfl : (⟨0 + n.val, by clear ej; omega⟩ : Fin 1280) = j := Fin.ext ej.symm
    refine (Cert.Reference5Ideal.Hand.v172_0 _ _ _ _ R n _ rfl).trans ?_
    exact (Cert.Reference5Ideal.Hand.gd_q _ _ _ _ _ R hR n).trans (fin_gd_q m c _ _ R hR n).symm
  | 1, _ =>
    have ej : j.val = 256 + n.val := by omega
    clear hn' hq e
    obtain rfl : (⟨256 + n.val, by clear ej; omega⟩ : Fin 1280) = j := Fin.ext ej.symm
    refine (Cert.Reference5Ideal.Hand.v172_1 _ _ _ _ R n _ rfl).trans ?_
    exact (Cert.Reference5Ideal.Hand.gd_k _ _ _ _ _ _ R hR n).trans (fin_gd_k m c _ _ R hR n).symm
  | 2, _ =>
    have ej : j.val = 512 + n.val := by omega
    clear hn' hq e
    obtain rfl : (⟨512 + n.val, by clear ej; omega⟩ : Fin 1280) = j := Fin.ext ej.symm
    refine (Cert.Reference5Ideal.Hand.v172_2 _ _ _ _ R n _ rfl).trans ?_
    exact (Cert.Reference5Ideal.Hand.gd_v _ _ _ _ _ R hR n).trans (fin_gd_v m c _ _ R hR n).symm
  | 3, _ =>
    have ej : j.val = 768 + n.val := by omega
    clear hn' hq e
    obtain rfl : (⟨768 + n.val, by clear ej; omega⟩ : Fin 1280) = j := Fin.ext ej.symm
    refine (Cert.Reference5Ideal.Hand.v172_3 _ _ _ _ R n _ rfl).trans ?_
    exact (Cert.Reference5Ideal.Hand.gd_s _ _ _ _ _ R hR n).trans (fin_gd_s m c _ _ R hR n).symm
  | 4, _ =>
    have ej : j.val = 1024 + n.val := by omega
    clear hn' hq e
    obtain rfl : (⟨1024 + n.val, by clear ej; omega⟩ : Fin 1280) = j := Fin.ext ej.symm
    refine (Cert.Reference5Ideal.Hand.v172_4 _ _ _ _ R n _ rfl).trans ?_
    exact (Cert.Reference5Ideal.Hand.gd_f _ _ _ _ _ _ R hR n (P_real _ _ _ hx hn hw _ _ _)).trans (fin_gd_f m c _ _ R hR n).symm

/-- The kernel's results are the reference's. -/
theorem in_proj_equal : Cert.algebraic_Kernel5Ideal_Reference5Ideal_pre_in_proj_finite
    (hKernel5Ideal := Cert.Kernel5Ideal.Gen.facts) (hReference5Ideal := Cert.Reference5Ideal.Gen.facts)
    (hPre_in_proj_finite := Cert.Pre_in_proj_finite.Gen.facts) := by
  intro m ρ m' ρ' hpre hag
  refine ⟨fun c => (dats m 0 c).arrAt 10 cfg0.N, fun c => (dats m 0 c).arrAt 11 cfg0.N, fun c => (dats m 0 c).arrAt 12 cfg0.N,
    fun c => (dats m 0 c).arrAt 13 cfg0.N, fun c => (dats m 0 c).arrAt 14 cfg0.N, Value.run_blocks m ρ, ?_⟩
  refine (θ_run _ _ _).mono (fun r h c => ?_) (Cert.Reference5Ideal.Value.run m' ρ')
  obtain ⟨y0, y1, y2, y3, y4, hkeep⟩ := h c
  obtain ⟨a0, a1, a2, a3, a4, a5, a6, a7, a8⟩ := hag c
  have b0 : StableHlo.launchContents m' c (Proc.tc.devRef Cert.Reference5Ideal.main_arg0) = m ((c.tc : Thread nD τ).loc main_arg0) := a0
  have b1 : StableHlo.launchContents m' c (Proc.tc.devRef Cert.Reference5Ideal.main_arg1) = m ((c.tc : Thread nD τ).loc main_arg1) := a1
  have b2 : StableHlo.launchContents m' c (Proc.tc.devRef Cert.Reference5Ideal.main_arg2) = m ((c.tc : Thread nD τ).loc main_arg2) := a2
  have b3 : StableHlo.launchContents m' c (Proc.tc.devRef Cert.Reference5Ideal.main_arg3) = m ((c.tc : Thread nD τ).loc main_arg3) := a3
  have b4 : StableHlo.launchContents m' c (Proc.tc.devRef Cert.Reference5Ideal.main_arg4) = m ((c.tc : Thread nD τ).loc main_arg4) := a4
  have b5 : StableHlo.launchContents m' c (Proc.tc.devRef Cert.Reference5Ideal.main_arg5) = m ((c.tc : Thread nD τ).loc main_arg5) := a5
  have b6 : StableHlo.launchContents m' c (Proc.tc.devRef Cert.Reference5Ideal.main_arg6) = m ((c.tc : Thread nD τ).loc main_arg6) := a6
  have b7 : StableHlo.launchContents m' c (Proc.tc.devRef Cert.Reference5Ideal.main_arg7) = m ((c.tc : Thread nD τ).loc main_arg7) := a7
  have b8 : StableHlo.launchContents m' c (Proc.tc.devRef Cert.Reference5Ideal.main_arg8) = m ((c.tc : Thread nD τ).loc main_arg8) := a8
  obtain ⟨hx, hn, hw, hc⟩ := reals _ _ _ _ _ _ _ _ _ (hpre c)
  refine ⟨y0.trans ?_, y1.trans ?_, y2.trans ?_, y3.trans ?_, y4.trans ?_, hkeep⟩ <;> clear y0 y1 y2 y3 y4 hkeep h hag hpre a0 a1 a2 a3 a4 a5 a6 a7 a8
  · refine (Cert.Reference5Ideal.Read.val_main_v151_eq _).trans ?_
    rw [b0, b1, b2, b3, b4, b5]
    funext i
    idx_vars i
    exact join10 m c hx hn hw hc i0 i1
  · refine (Cert.Reference5Ideal.Read.val_main_v160_eq _).trans ?_
    rw [b0, b1, b2, b6, b7]
    funext i
    idx_vars i
    exact join11 m c hx hn hw hc i0 i1
  · refine (Cert.Reference5Ideal.Read.val_main_v162_eq _).trans ?_
    rw [b0, b1, b2]
    funext i
    idx_vars i
    obtain ⟨b, n, hbn⟩ : ∃ (b : Fin 8) (n : Fin 256), i1.val = b.val * 256 + n.val := ⟨⟨i1.val / 256, by omega⟩, ⟨i1.val % 256, by omega⟩, by dsimp only; omega⟩
    obtain rfl : (⟨b.val * 256 + n.val, by clear hbn; omega⟩ : Fin 2048) = i1 := Fin.ext hbn.symm
    exact (Cert.Reference5Ideal.Hand.v162_apply _ _ _ _ _ _).trans (fin_pc m c _ _ _).symm
  · refine (Cert.Reference5Ideal.Read.val_main_v172_eq _).trans ?_
    rw [b0, b1, b2, b8]
    funext i
    idx_vars i
    exact join13 m c hx hn hw hc i0 i1
  · refine (Cert.Reference5Ideal.Read.val_main_v61_eq _).trans ?_
    rw [b0, b1, b2]
    funext i
    idx_vars i
    exact (Cert.Reference5Ideal.Hand.v61_apply _ _ _ _ _ _).trans (fin_cs m c _ _ _).symm

end Cert.Kernel5Ideal.Hand
end
-- ==== Proof.Ffns.Body.lean ====
module

public import proofs.«01_k».proof.Proof.Gen.Kernel6Ideal.Value
public import proofs.«01_k».proof.Proof.Dec.Norms
@[expose] public section

set_option maxRecDepth 16384
noncomputable section

namespace Cert.Kernel6Ideal.Hand

open Cert.Kernel6Ideal Cert.Kernel6Ideal.Gen Idealize.ShloMosaic Idealize.ShloMosaic.TcCoe Idealize.SL.Sem Cert.Hand
open Idealize.ShloMosaic.Pipeline (Dat)

/-- An index list of zeros is the constant zero. -/
theorem hz2 : (![0, 0] : Fin 2 → Nat) = fun _ => 0 := funext fun a => by fin_cases a <;> rfl

/-- The last payload is the row norm of the block's new rows. -/
theorem last_apply (v1 : FVec Ideal S128x1024 .f32) (v206 v209 : FVec Ideal S128x256 .f32) (v223 : FVec Ideal S128x1024 .f32)
    (v233 : Vec Ideal S256x1024 .bf16) (v239 : Vec Ideal S1x1024 .f32) (r : Fin 128) (j : Fin 1024) :
    k0_pay1 v1 v206 v209 v223 (Scalar.ofBits .f32 0x3F000000#32) v233 v239 (ix2 r j)
      = rms (fun k => v1 (ix2 r k) + (v223 (ix2 r k) + ∑ i : Fin 256, v206 (ix2 r i) * lgs (v206 (ix2 r i)) * v209 (ix2 r i) * v233 (ix2 i k)))
          (fun k => v239 (ix2 0 k)) j := by
  pointwise [k0_pay1]
  rfl

/-- The normed rows the two up projections read. -/
theorem hn_apply (x0 : Vec Ideal S128x1024 .f32) (x1 : Vec Ideal S1x1024 .f32) (r : Fin 128) (d : Fin 1024) :
    k0_pay3 x0 x1 (ix2 r d) = rms (fun k => x0 (ix2 r k)) (fun k => x1 (ix2 0 k)) d := by
  pointwise [k0_pay3, k0_pay2]
  rfl

/-- The result block of a point, at an element. -/
theorem out_apply (x0 : Vec Ideal S128x1024 .f32) (x1 : Vec Ideal S1x1024 .f32) (x2 x3 : Vec Ideal S1024x2816 .bf16)
    (x4 : Vec Ideal S2816x1024 .bf16) (x5 : Vec Ideal S1x1024 .f32) (r : Fin 128) (j : Fin 1024) :
    out0_6 x0 x1 x2 x3 x4 x5 (ix2 r j)
      = rms (ffnRow (fun k => x0 (ix2 r k)) (fun k => x1 (ix2 0 k)) (fun d i => x2 (ix2 d i)) (fun d i => x3 (ix2 d i)) (fun i k => x4 (ix2 i k)))
          (fun k => x5 (ix2 0 k)) j := by
  unfold_out out0_6
  rw [View.canon_unit_zero hz2, last_apply, View.ld_unit_zero (S := S1x1024) hz2 _ x5]
  simp only [View.ld_unit_zero (S := S128x1024) hz2, View.ld_unit_zero (S := S1x1024) hz2]
  refine congrFun (congrArg₂ rms (funext fun k => ?_) rfl) j
  unfold ffnRow
  rw [← tiles]
  simp only [View.ld_unit]
  pointwise [k0_pay2, k0_pay4, k0_pay5, k0_pay6, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay25, k0_pay26, k0_pay27, k0_pay28,
    k0_pay29, k0_pay30, k0_pay31, k0_pay32]
  simp only [hn_apply]
  simp only [tile, lgs, zero_add]

end Cert.Kernel6Ideal.Hand
end
-- ==== Proof.Ffns.Final.lean ====
module

public import proofs.«01_k».proof.Proof.Ffns.Body
@[expose] public section

set_option maxRecDepth 16384
noncomputable section

namespace Cert.Kernel6Ideal.Hand

open Cert.Kernel6Ideal Cert.Kernel6Ideal.Gen Idealize.ShloMosaic Idealize.ShloMosaic.TcCoe Idealize.SL.Sem Cert.Hand
open Idealize.ShloMosaic.Pipeline (Dat)

variable (m : (ℓ : Loc nD τ sig) → Buf (Elt Ideal) ℓ)

/-- The rows the call is given: the tokens' rows one after another. -/
theorem V_h (c : Dev nD) : V m c main_v3 = shapeCast S128x1024 (m (c.tc.loc main_arg0) : Vec Ideal S128x1x1024 .f32) shapeCasts_S128x1x1024_S128x1024 := by
  unfold V
  after_results <;> rfl
/-- The first gain as a row. -/
theorem V_n (c : Dev nD) : V m c main_v4 = shapeCast S1x1024 (m (c.tc.loc main_arg1) : Vec Ideal S1024 .f32) shapeCasts_S1024_S1x1024 := by
  unfold V
  after_results <;> rfl
/-- The last gain as a row. -/
theorem V_f (c : Dev nD) : V m c main_v5 = shapeCast S1x1024 (m (c.tc.loc main_arg5) : Vec Ideal S1024 .f32) shapeCasts_S1024_S1x1024 := by
  unfold V
  after_results <;> rfl
/-- The gate weights. -/
theorem V_g (c : Dev nD) : V m c main_v0 = (m (c.tc.loc main_arg2) : Vec Ideal S1024x2816 .f32) := by
  unfold V
  after_results <;> rfl
/-- The up weights. -/
theorem V_u (c : Dev nD) : V m c main_v1 = (m (c.tc.loc main_arg3) : Vec Ideal S1024x2816 .f32) := by
  unfold V
  after_results <;> rfl
/-- The down weights. -/
theorem V_d (c : Dev nD) : V m c main_v2 = (m (c.tc.loc main_arg4) : Vec Ideal S2816x1024 .f32) := by
  unfold V
  after_results <;> rfl

/-- Row `R` of the flattened rows is sequence `R`'s only token. -/
theorem flat_h (x : Vec Ideal S128x1x1024 .f32) (R : Fin 128) (d : Fin 1024) :
    shapeCast S128x1024 x shapeCasts_S128x1x1024_S128x1024 (ix2 R d) = x (ix3 R 0 d) := by
  pointwise
/-- A gain's row. -/
theorem flat_w (x : Vec Ideal S1024 .f32) (d : Fin 1024) :
    shapeCast S1x1024 x shapeCasts_S1024_S1x1024 (ix2 0 d) = x (ix1 d) := by
  pointwise

/-- Point `t` reads the rows. -/
theorem idx0 : ∀ t : Fin cfg0.N, win0_0.index t 0 = t.val ∧ win0_0.index t 1 = 0 :=
  (by decide +kernel : ∀ t : Fin grid0.N, win0_0.index t 0 = t.val ∧ win0_0.index t 1 = 0)
/-- Every point reads the whole first gain. -/
theorem idx1 : ∀ t : Fin cfg0.N, win0_1.index t 0 = 0 ∧ win0_1.index t 1 = 0 :=
  (by decide +kernel : ∀ t : Fin grid0.N, win0_1.index t 0 = 0 ∧ win0_1.index t 1 = 0)
/-- Every point reads the whole gate weights. -/
theorem idx2 : ∀ t : Fin cfg0.N, win0_2.index t 0 = 0 ∧ win0_2.index t 1 = 0 :=
  (by decide +kernel : ∀ t : Fin grid0.N, win0_2.index t 0 = 0 ∧ win0_2.index t 1 = 0)
/-- Every point reads the whole up weights. -/
theorem idx3 : ∀ t : Fin cfg0.N, win0_3.index t 0 = 0 ∧ win0_3.index t 1 = 0 :=
  (by decide +kernel : ∀ t : Fin grid0.N, win0_3.index t 0 = 0 ∧ win0_3.index t 1 = 0)
/-- Every point reads the whole down weights. -/
theorem idx4 : ∀ t : Fin cfg0.N, win0_4.index t 0 = 0 ∧ win0_4.index t 1 = 0 :=
  (by decide +kernel : ∀ t : Fin grid0.N, win0_4.index t 0 = 0 ∧ win0_4.index t 1 = 0)
/-- Every point reads the whole last gain. -/
theorem idx5 : ∀ t : Fin cfg0.N, win0_5.index t 0 = 0 ∧ win0_5.index t 1 = 0 :=
  (by decide +kernel : ∀ t : Fin grid0.N, win0_5.index t 0 = 0 ∧ win0_5.index t 1 = 0)
/-- Point `t` writes the rows. -/
theorem idx6 : ∀ t : Fin cfg0.N, win0_6.index t 0 = t.val ∧ win0_6.index t 1 = 0 :=
  (by decide +kernel : ∀ t : Fin grid0.N, win0_6.index t 0 = t.val ∧ win0_6.index t 1 = 0)

/-- The rows read at point `t`. -/
theorem blk0 (c : Dev nD) (t : Fin cfg0.N) (R : Fin 128) (r : Fin 128) (hR : R.val = t.val * 128 + r.val) (d : Fin 1024) :
    iblk m c 0 t (ix2 r d) = (m (c.tc.loc main_arg0) : Vec Ideal S128x1x1024 .f32) (ix3 R 0 d) := by
  refine Eq.trans ?_ ((congrFun (V_h m c) (ix2 R d)).trans (flat_h _ R d))
  show V m c main_v3 ((win0_0.rect t).emb (ix2 r d)) = _
  refine congrArg (V m c main_v3) (funext fun a => Fin.ext ?_)
  obtain ⟨e0, e1⟩ := idx0 t
  refine (Pipeline.Window.rect_emb_val win0_0 t _ a).trans ?_
  match a with
  | ⟨0, _⟩ => show win0_0.index t 0 * 128 + r.val = R.val; rw [e0, hR]
  | ⟨1, _⟩ => show win0_0.index t 1 * 1024 + d.val = d.val; rw [e1]; omega

/-- The first gain read at point `t`. -/
theorem blk1 (c : Dev nD) (t : Fin cfg0.N) (d : Fin 1024) :
    iblk m c 1 t (ix2 0 d) = (m (c.tc.loc main_arg1) : Vec Ideal S1024 .f32) (ix1 d) := by
  refine Eq.trans ?_ ((congrFun (V_n m c) (ix2 0 d)).trans (flat_w _ d))
  show V m c main_v4 ((win0_1.rect t).emb (ix2 0 d)) = _
  refine congrArg (V m c main_v4) (funext fun a => Fin.ext ?_)
  obtain ⟨e0, e1⟩ := idx1 t
  refine (Pipeline.Window.rect_emb_val win0_1 t _ a).trans ?_
  match a with
  | ⟨0, _⟩ => show win0_1.index t 0 * 1 + 0 = 0; rw [e0]
  | ⟨1, _⟩ => show win0_1.index t 1 * 1024 + d.val = d.val; rw [e1]; omega

/-- The last gain read at point `t`. -/
theorem blk5 (c : Dev nD) (t : Fin cfg0.N) (d : Fin 1024) :
    iblk m c 5 t (ix2 0 d) = (m (c.tc.loc main_arg5) : Vec Ideal S1024 .f32) (ix1 d) := by
  refine Eq.trans ?_ ((congrFun (V_f m c) (ix2 0 d)).trans (flat_w _ d))
  show V m c main_v5 ((win0_5.rect t).emb (ix2 0 d)) = _
  refine congrArg (V m c main_v5) (funext fun a => Fin.ext ?_)
  obtain ⟨e0, e1⟩ := idx5 t
  refine (Pipeline.Window.rect_emb_val win0_5 t _ a).trans ?_
  match a with
  | ⟨0, _⟩ => show win0_5.index t 0 * 1 + 0 = 0; rw [e0]
  | ⟨1, _⟩ => show win0_5.index t 1 * 1024 + d.val = d.val; rw [e1]; omega

/-- The gate weights read at point `t`. -/
theorem blk2 (c : Dev nD) (t : Fin cfg0.N) (d : Fin 1024) (i : Fin 2816) :
    iblk m c 2 t (ix2 d i) = (m (c.tc.loc main_arg2) : Vec Ideal S1024x2816 .f32) (ix2 d i) := by
  refine Eq.trans ?_ (congrFun (V_g m c) (ix2 d i))
  show V m c main_v0 ((win0_2.rect t).emb (ix2 d i)) = _
  refine congrArg (V m c main_v0) (funext fun a => Fin.ext ?_)
  obtain ⟨e0, e1⟩ := idx2 t
  refine (Pipeline.Window.rect_emb_val win0_2 t _ a).trans ?_
  match a with
  | ⟨0, _⟩ => show win0_2.index t 0 * 1024 + d.val = d.val; rw [e0]; omega
  | ⟨1, _⟩ => show win0_2.index t 1 * 2816 + i.val = i.val; rw [e1]; omega

/-- The up weights read at point `t`. -/
theorem blk3 (c : Dev nD) (t : Fin cfg0.N) (d : Fin 1024) (i : Fin 2816) :
    iblk m c 3 t (ix2 d i) = (m (c.tc.loc main_arg3) : Vec Ideal S1024x2816 .f32) (ix2 d i) := by
  refine Eq.trans ?_ (congrFun (V_u m c) (ix2 d i))
  show V m c main_v1 ((win0_3.rect t).emb (ix2 d i)) = _
  refine congrArg (V m c main_v1) (funext fun a => Fin.ext ?_)
  obtain ⟨e0, e1⟩ := idx3 t
  refine (Pipeline.Window.rect_emb_val win0_3 t _ a).trans ?_
  match a with
  | ⟨0, _⟩ => show win0_3.index t 0 * 1024 + d.val = d.val; rw [e0]; omega
  | ⟨1, _⟩ => show win0_3.index t 1 * 2816 + i.val = i.val; rw [e1]; omega

/-- The down weights read at point `t`. -/
theorem blk4 (c : Dev nD) (t : Fin cfg0.N) (i : Fin 2816) (k : Fin 1024) :
    iblk m c 4 t (ix2 i k) = (m (c.tc.loc main_arg4) : Vec Ideal S2816x1024 .f32) (ix2 i k) := by
  refine Eq.trans ?_ (congrFun (V_d m c) (ix2 i k))
  show V m c main_v2 ((win0_4.rect t).emb (ix2 i k)) = _
  refine congrArg (V m c main_v2) (funext fun a => Fin.ext ?_)
  obtain ⟨e0, e1⟩ := idx4 t
  refine (Pipeline.Window.rect_emb_val win0_4 t _ a).trans ?_
  match a with
  | ⟨0, _⟩ => show win0_4.index t 0 * 2816 + i.val = i.val; rw [e0]; omega
  | ⟨1, _⟩ => show win0_4.index t 1 * 1024 + k.val = k.val; rw [e1]; omega

/-- Where element `(r, j)` of point `t`'s rows lies in the result array. -/
theorem emb6 (t : Fin cfg0.N) (R : Fin 128) (r : Fin 128) (hR : R.val = t.val * 128 + r.val) (j : Fin 1024) :
    (win0_6.rect t).emb (ix2 r j) = (ix2 R j : S128x1024.Idx) := by
  refine funext fun a => Fin.ext ?_
  obtain ⟨e0, e1⟩ := idx6 t
  refine (Pipeline.Window.rect_emb_val win0_6 t _ a).trans ?_
  match a with
  | ⟨0, _⟩ => show win0_6.index t 0 * 128 + r.val = R.val; rw [e0, hR]
  | ⟨1, _⟩ => show win0_6.index t 1 * 1024 + j.val = j.val; rw [e1]; omega

/-- The result of the whole block for a row, from the argument arrays. -/
def sampRow (x0 : Vec Ideal S128x1x1024 .f32) (x1 : Vec Ideal S1024 .f32) (x2 x3 : Vec Ideal S1024x2816 .f32)
    (x4 : Vec Ideal S2816x1024 .f32) (x5 : Vec Ideal S1024 .f32) (b : Fin 128) (j : Fin 1024) : EReal :=
  rms (ffnRow (fun k => x0 (ix3 b 0 k)) (fun k => x1 (ix1 k)) (fun d i => x2 (ix2 d i)) (fun d i => x3 (ix2 d i)) (fun i k => x4 (ix2 i k)))
    (fun k => x5 (ix1 k)) j

/-- The result array after the run. -/
theorem final_y (c : Dev nD) (R : Fin 128) (j : Fin 1024) :
    (dats m 0 c).arrAt 6 cfg0.N (ix2 R j) = sampRow (m (c.tc.loc main_arg0)) (m (c.tc.loc main_arg1))
      (m (c.tc.loc main_arg2)) (m (c.tc.loc main_arg3)) (m (c.tc.loc main_arg4))
      (m (c.tc.loc main_arg5)) R j := by
  have hN : cfg0.N = 1 := N_0
  obtain ⟨t, ht⟩ : ∃ t : Fin cfg0.N, t.val = R.val / 128 := ⟨⟨R.val / 128, by omega⟩, rfl⟩
  obtain ⟨r, hr⟩ : ∃ r : Fin 128, r.val = R.val % 128 := ⟨⟨R.val % 128, by omega⟩, rfl⟩
  have hR : R.val = t.val * 128 + r.val := by omega
  have e := congrFun (Value.blocks6 m c t (flush0_6 _)) (ix2 r j)
  rw [Value.flushed6] at e
  have e' : (dats m 0 c).arrAt 6 cfg0.N ((win0_6.rect t).emb (ix2 r j)) =
    out0_6 (iblk m c 0 t) (iblk m c 1 t) (iblk m c 2 t) (iblk m c 3 t) (iblk m c 4 t) (iblk m c 5 t) (ix2 r j) := e
  rw [emb6 t R r hR] at e'
  rw [e', out_apply]
  unfold sampRow
  simp only [blk0 m c t R r hR, blk1 m c t, blk2 m c t, blk3 m c t, blk4 m c t, blk5 m c t]

end Cert.Kernel6Ideal.Hand
end
-- ==== Proof.Ffns.Equal.lean ====
module

public import proofs.«01_k».proof.Defs
public import proofs.«01_k».proof.Proof.Ffns.Final
public import proofs.«01_k».proof.Proof.Gen.Reference6Ideal.Run
public import proofs.«01_k».proof.Proof.Gen.Reference6Ideal.Read
@[expose] public section

set_option maxRecDepth 16384
noncomputable section

namespace Cert.Reference6Ideal.Hand

open Cert.Reference6Ideal Cert.Reference6Ideal.Gen Cert.Reference6Ideal.Read Idealize.ShloMosaic Idealize.ShloMosaic.TcCoe Idealize.SL.Sem Cert.Hand

variable (x0 : FVec Ideal S128x1x1024 .f32) (x1 : FVec Ideal S1024 .f32) (x2 x3 : FVec Ideal S1024x2816 .f32)
  (x4 : FVec Ideal S2816x1024 .f32) (x5 : FVec Ideal S1024 .f32)

/-- The normalised rows. -/
theorem v12_apply (b : Fin 128) (d : Fin 1024) :
    val_main_v12 (F := Ideal) x0 x1 (ix3 b 0 d) = rms (fun k => x0 (ix3 b 0 k)) (fun k => x1 (ix1 k)) d := by
  pointwise [val_main_v12, val_main_v11, val_main_v10, val_main_v9, val_main_v8, val_main_v7, val_main_v6, val_main_v5, val_main_cst_1,
    val_main_v4, val_main_v3, val_main_cst_0, val_main_v2, val_main_v1, val_main_cst, val_main_v0, rms]

/-- The hidden columns: the gate's product times its logistic value, times the up product. -/
theorem v16_apply (b : Fin 128) (i : Fin 2816) :
    val_main_v16 (F := Ideal) x0 x1 x2 x3 (ix3 b 0 i) =
      (∑ d, rms (fun k => x0 (ix3 b 0 k)) (fun k => x1 (ix1 k)) d * x2 (ix2 d i)) *
        Ideal.logistic (∑ d, rms (fun k => x0 (ix3 b 0 k)) (fun k => x1 (ix1 k)) d * x2 (ix2 d i)) *
        (∑ d, rms (fun k => x0 (ix3 b 0 k)) (fun k => x1 (ix1 k)) d * x3 (ix2 d i)) := by
  pointwise [val_main_v16, val_main_v15, val_main_v14, val_main_call0_v5, val_main_call0_v4, val_main_call0_cst_0, val_main_call0_v3,
    val_main_call0_v2, val_main_call0_cst, val_main_call0_v1, val_main_call0_v0, val_main_v13]
  simp only [v12_apply]
  rfl

/-- The rows after the feed-forward block. -/
theorem v18_apply (b : Fin 128) (k : Fin 1024) :
    val_main_v18 (F := Ideal) x0 x1 x2 x3 x4 (ix3 b 0 k) =
      ffnRow (fun k => x0 (ix3 b 0 k)) (fun k => x1 (ix1 k)) (fun d i => x2 (ix2 d i)) (fun d i => x3 (ix2 d i)) (fun i k => x4 (ix2 i k)) k := by
  pointwise [val_main_v18, val_main_v17]
  simp only [v16_apply, ffnRow, lgs_eq]

/-- The result at row `R`. -/
theorem ref_y (R : Fin 128) (j : Fin 1024) :
    val_main_v32 (F := Ideal) x0 x1 x2 x3 x4 x5 (ix2 R j) =
      rms (ffnRow (fun k => x0 (ix3 R 0 k)) (fun k => x1 (ix1 k)) (fun d i => x2 (ix2 d i))
        (fun d i => x3 (ix2 d i)) (fun i k => x4 (ix2 i k))) (fun k => x5 (ix1 k)) j := by
  pointwise [val_main_v32, val_main_v31, val_main_v30, val_main_v29, val_main_v28, val_main_v27, val_main_v26, val_main_v25, val_main_v24,
    val_main_cst_4, val_main_v23, val_main_v22, val_main_cst_3, val_main_v21, val_main_v20, val_main_cst_2, val_main_v19]
  simp only [v18_apply]
  rfl

end Cert.Reference6Ideal.Hand

namespace Cert.Kernel6Ideal.Hand

open Cert.Kernel6Ideal Cert.Kernel6Ideal.Gen Idealize.ShloMosaic Idealize.ShloMosaic.TcCoe Idealize.SL.Sem Cert.Hand

/-- The kernel's result is the reference's. -/
theorem ffn_sample_equal : Cert.algebraic_Kernel6Ideal_Reference6Ideal
    (hKernel6Ideal := Cert.Kernel6Ideal.Gen.facts) (hReference6Ideal := Cert.Reference6Ideal.Gen.facts) := by
  intro m ρ m' ρ' _ hag
  refine ⟨fun c => (dats m 0 c).arrAt 6 cfg0.N, Value.run_blocks m ρ, ?_⟩
  refine (θ_run _ _ _).mono (fun r h c => ?_) (Cert.Reference6Ideal.Value.run m' ρ')
  obtain ⟨hy, hkeep⟩ := h c
  obtain ⟨a0, a1, a2, a3, a4, a5⟩ := hag c
  refine ⟨hy.trans ?_, hkeep⟩
  refine (Cert.Reference6Ideal.Read.val_main_v32_eq _ _).trans ?_
  rw [a0, a1, a2, a3, a4, a5]
  funext i
  idx_vars i
  refine Eq.trans ?_ (final_y m c i0 i1).symm
  exact Cert.Reference6Ideal.Hand.ref_y _ _ _ _ _ _ i0 i1

end Cert.Kernel6Ideal.Hand
end
-- ==== Proof.Ssm.Spec.lean ====
module

public import proofs.«01_k».proof.Proof.Dec.Norms
@[expose] public section

noncomputable section

namespace Cert.Hand

open Idealize.ShloMosaic

/-! The state-space branch at scalars: `lam` and `li` the two parts of the poles, `ldt` the log of the step, by group and state. -/

variable (lam li : Fin 16 → Fin 64 → EReal) (ldt : Fin 16 → EReal)

/-- The pole's real part, kept below zero. -/
def poleRe (g : Fin 16) (p : Fin 64) : EReal := min (lam g p) (Ideal.ofBits FTy.f32 3100751639#32)
/-- The discrete pole's size. -/
def poleMag (g : Fin 16) (p : Fin 64) : EReal := Ideal.exp (poleRe lam g p * Ideal.exp (ldt g))
/-- The discrete pole's real part. -/
def barRe (g : Fin 16) (p : Fin 64) : EReal := poleMag lam ldt g p * Ideal.cos (li g p * Ideal.exp (ldt g))
/-- The discrete pole's imaginary part. -/
def barIm (g : Fin 16) (p : Fin 64) : EReal := poleMag lam ldt g p * Ideal.sin (li g p * Ideal.exp (ldt g))
/-- The pole's squared size. -/
def poleSq (g : Fin 16) (p : Fin 64) : EReal := poleRe lam g p * poleRe lam g p + li g p * li g p
/-- The input factor's real part. -/
def facRe (g : Fin 16) (p : Fin 64) : EReal :=
  Ideal.div ((barRe lam li ldt g p - 1) * poleRe lam g p + barIm lam li ldt g p * li g p) (poleSq lam li g p)
/-- The input factor's imaginary part. -/
def facIm (g : Fin 16) (p : Fin 64) : EReal :=
  Ideal.div (barIm lam li ldt g p * poleRe lam g p - (barRe lam li ldt g p - 1) * li g p) (poleSq lam li g p)

variable (br bi : Fin 16 → Fin 64 → Fin 16 → EReal)

/-- The input matrix's real part. -/
def inRe (g : Fin 16) (p : Fin 64) (h : Fin 16) : EReal := facRe lam li ldt g p * br g p h - facIm lam li ldt g p * bi g p h
/-- The input matrix's imaginary part. -/
def inIm (g : Fin 16) (p : Fin 64) (h : Fin 16) : EReal := facRe lam li ldt g p * bi g p h + facIm lam li ldt g p * br g p h

/-- The smooth gate of the branch's output. -/
def gelu (y : EReal) : EReal :=
  Ideal.ofBits FTy.f32 1056964608#32 * y * (1 + Ideal.tanh (Ideal.ofBits FTy.f32 1061962282#32 * (y + Ideal.ofBits FTy.f32 1027024659#32 * y * y * y)))

variable (u : Fin 256 → EReal) (xr xi : Fin 16 → Fin 64 → EReal)

/-- The new state's real part. -/
def newRe (g : Fin 16) (p : Fin 64) : EReal :=
  (∑ h : Fin 16, u ⟨16 * g.val + h.val, by omega⟩ * inRe lam li ldt br bi g p h) + barRe lam li ldt g p * xr g p - barIm lam li ldt g p * xi g p
/-- The new state's imaginary part. -/
def newIm (g : Fin 16) (p : Fin 64) : EReal :=
  (∑ h : Fin 16, u ⟨16 * g.val + h.val, by omega⟩ * inIm lam li ldt br bi g p h) + barRe lam li ldt g p * xi g p + barIm lam li ldt g p * xr g p
/-- The branch's column `q` before its gate, from the two parts of a state. -/
def ssmY (a b : Fin 16 → Fin 64 → EReal) (cr ci : Fin 16 → Fin 16 → Fin 64 → EReal) (d : Fin 256 → EReal) (q : Fin 256) : EReal :=
  (∑ p : Fin 64, a ⟨q.val / 16, by omega⟩ p * cr ⟨q.val / 16, by omega⟩ ⟨q.val % 16, by omega⟩ p)
    - (∑ p : Fin 64, b ⟨q.val / 16, by omega⟩ p * ci ⟨q.val / 16, by omega⟩ ⟨q.val % 16, by omega⟩ p) + d q * u q
/-- The branch's output column `j`, from its columns before the gate. -/
def ssmO (y : Fin 256 → EReal) (w : Fin 256 → Fin 512 → EReal) (j : Fin 256) : EReal :=
  (∑ q, gelu (y q) * w q ⟨j.val, by omega⟩) * lgs (∑ q, gelu (y q) * w q ⟨256 + j.val, by omega⟩)

/-- A sum over `m` groups of `n` that keeps one group only. -/
theorem sum_blocks (m n : ℕ) (f : Fin (m * n) → EReal) (g : Fin m) :
    (∑ q : Fin (m * n), f q * (if q.val / n = g.val then 1 else 0)) = ∑ h : Fin n, f (finProdFinEquiv (g, h)) := by
  rw [← Equiv.sum_comp finProdFinEquiv, Fintype.sum_prod_type, Finset.sum_eq_single g]
  · refine Finset.sum_congr rfl fun h _ => ?_
    have hn : 0 < n := by have := h.isLt; omega
    have e : (finProdFinEquiv (g, h)).val / n = g.val := by
      show (h.val + n * g.val) / n = g.val
      rw [Nat.add_mul_div_left _ _ hn, Nat.div_eq_of_lt h.isLt, Nat.zero_add]
    rw [if_pos e, mul_one]
  · intro k _ hk
    refine Finset.sum_eq_zero fun h _ => ?_
    have hn : 0 < n := by have := h.isLt; omega
    have e : ¬ (finProdFinEquiv (k, h)).val / n = g.val := by
      show ¬ (h.val + n * k.val) / n = g.val
      rw [Nat.add_mul_div_left _ _ hn, Nat.div_eq_of_lt h.isLt, Nat.zero_add]
      exact fun h => hk (Fin.ext h)
    rw [if_neg e, mul_zero]
  · intro h; exact absurd (Finset.mem_univ _) h
/-- A sum over the branch's columns that keeps one group only. -/
theorem sum_in (f : Fin 256 → EReal) (g : ℕ) (hg : g < 16) :
    (∑ q : Fin 256, f q * (if q.val / 16 = g then 1 else 0)) = ∑ h : Fin 16, f ⟨16 * g + h.val, by omega⟩ :=
  (sum_blocks 16 16 f ⟨g, hg⟩).trans (Finset.sum_congr rfl fun h _ => congrArg f (Fin.ext (by show h.val + 16 * g = 16 * g + h.val; omega)))
/-- A sum over the states that keeps one group only. -/
theorem sum_out (f : Fin 1024 → EReal) (g : ℕ) (hg : g < 16) :
    (∑ n : Fin 1024, f n * (if n.val / 64 = g then 1 else 0)) = ∑ p : Fin 64, f ⟨64 * g + p.val, by omega⟩ :=
  (sum_blocks 16 64 f ⟨g, hg⟩).trans (Finset.sum_congr rfl fun h _ => congrArg f (Fin.ext (by show h.val + 64 * g = 64 * g + h.val; omega)))

end Cert.Hand
end
-- ==== Proof.Ssm.Host.lean ====
module

public import proofs.«01_k».proof.Proof.Gen.Kernel7Ideal.Value
public import proofs.«01_k».proof.Proof.Ssm.Spec
@[expose] public section

set_option maxRecDepth 16384
noncomputable section

namespace Cert.Kernel7Ideal.Hand

open Cert.Kernel7Ideal Cert.Kernel7Ideal.Gen Idealize.ShloMosaic Idealize.ShloMosaic.TcCoe Idealize.SL.Sem Cert.Hand
open Idealize.ShloMosaic.Pipeline (Dat)

/-! What the host prepares for the call, as functions of the argument arrays. -/

variable (lam li : FVec Ideal S16x64 .f32) (ldt : FVec Ideal S16 .f32) (b b' : FVec Ideal S16x64x16 .f32) (e : FVec Ideal S16x16x64 .f32)

/-- The poles' real parts, kept below zero. -/
def lrA : FVec Ideal S16x64 .f32 := minimumf lam (broadcastInDim S16x64 ![] bcast_S_S16x64 (constant (F := Ideal) S_ .f32 0xB8D1B717#32))
/-- The step sizes as a column. -/
def dtA : FVec Ideal S16x1 .f32 := broadcastInDim S16x1 ![0] bcast_S16_S16x1_0 (Host.exp ldt)
/-- The step sizes at every state. -/
def dtB : FVec Ideal S16x64 .f32 := broadcastInDim S16x64 ![0, 1] bcast_S16x1_S16x64_0_1 (dtA ldt)
/-- The discrete poles' sizes. -/
def magA : FVec Ideal S16x64 .f32 := Host.exp (mulf (lrA lam) (dtB ldt))
/-- The discrete poles' real parts. -/
def areA : FVec Ideal S16x64 .f32 := mulf (magA lam ldt) (Host.cos (mulf li (dtB ldt)))
/-- The discrete poles' imaginary parts. -/
def aimA : FVec Ideal S16x64 .f32 := mulf (magA lam ldt) (Host.sin (mulf li (dtB ldt)))
/-- The poles' squared sizes. -/
def denA : FVec Ideal S16x64 .f32 := addf (mulf (lrA lam) (lrA lam)) (mulf li li)
/-- The discrete poles' real parts less one. -/
def armA : FVec Ideal S16x64 .f32 := subf (areA lam li ldt) (broadcastInDim S16x64 ![] bcast_S_S16x64 (constant (F := Ideal) S_ .f32 0x3F800000#32))
/-- The input factors' real parts. -/
def zreA : FVec Ideal S16x64 .f32 := Host.divf (addf (mulf (armA lam li ldt) (lrA lam)) (mulf (aimA lam li ldt) li)) (denA lam li)
/-- The input factors' imaginary parts. -/
def zimA : FVec Ideal S16x64 .f32 := Host.divf (subf (mulf (aimA lam li ldt) (lrA lam)) (mulf (armA lam li ldt) li)) (denA lam li)
/-- An array over groups and states at every channel. -/
def chan (z : FVec Ideal S16x64 .f32) : FVec Ideal S16x64x16 .f32 :=
  broadcastInDim S16x64x16 ![0, 1, 2] bcast_S16x64x1_S16x64x16_0_1_2 (broadcastInDim S16x64x1 ![0, 1] bcast_S16x64_S16x64x1_0_1 z)
/-- The input matrices' real parts. -/
def bbrA : FVec Ideal S16x64x16 .f32 := subf (mulf (chan (zreA lam li ldt)) b) (mulf (chan (zimA lam li ldt)) b')
/-- The input matrices' imaginary parts. -/
def bbiA : FVec Ideal S16x64x16 .f32 := addf (mulf (chan (zreA lam li ldt)) b') (mulf (chan (zimA lam li ldt)) b)
/-- One where two groups are the same, zero elsewhere. -/
def eyeA : FVec Ideal S16x16 .f32 :=
  uitofp .f32 (cmpi .eq (addi (iotaInDim S16x16 32 0) (broadcastInDim S16x16 ![] bcast_S_S16x16 (constantI S_ 32 0#32))) (iotaInDim S16x16 32 1))
/-- The input matrices of the groups on the diagonal of one matrix. -/
def packIn : FVec Ideal S256x1024 .bf16 :=
  truncf .bf16 (shapeCast S256x1024 (mulf
    (broadcastInDim S16x16x16x64 ![0, 1, 2, 3] bcast_S16x16x1x64_S16x16x16x64_0_1_2_3 (broadcastInDim S16x16x1x64 ![0, 1, 3] bcast_S16x16x64_S16x16x1x64_0_1_3
      (transpose S16x16x64 [0, 2, 1] b transposes_S16x64x16_S16x16x64_0_2_1)))
    (broadcastInDim S16x16x16x64 ![0, 1, 2, 3] bcast_S16x1x16x1_S16x16x16x64_0_1_2_3 (broadcastInDim S16x1x16x1 ![0, 2] bcast_S16x16_S16x1x16x1_0_2 eyeA)))
    shapeCasts_S16x16x16x64_S256x1024) bitsLt_bf16_f32
/-- The output matrices of the groups on the diagonal of one matrix. -/
def packOut : FVec Ideal S1024x256 .bf16 :=
  truncf .bf16 (shapeCast S1024x256 (mulf
    (broadcastInDim S16x64x16x16 ![0, 1, 2, 3] bcast_S16x64x1x16_S16x64x16x16_0_1_2_3 (broadcastInDim S16x64x1x16 ![0, 1, 3] bcast_S16x64x16_S16x64x1x16_0_1_3
      (transpose S16x64x16 [0, 2, 1] e transposes_S16x16x64_S16x64x16_0_2_1)))
    (broadcastInDim S16x64x16x16 ![0, 1, 2, 3] bcast_S16x1x16x1_S16x64x16x16_0_1_2_3 (broadcastInDim S16x1x16x1 ![0, 2] bcast_S16x16_S16x1x16x1_0_2 eyeA)))
    shapeCasts_S16x64x16x16_S1024x256) bitsLt_bf16_f32

/-- The discrete pole's real part at a state. -/
theorem areA_apply (g : Fin 16) (p : Fin 64) : areA lam li ldt (ix2 g p) = barRe (fun g p => lam (ix2 g p)) (fun g p => li (ix2 g p)) (fun g => ldt (ix1 g)) g p := by
  pointwise [areA, magA, lrA, dtA, dtB, barRe, poleMag, poleRe]
/-- The discrete pole's imaginary part at a state. -/
theorem aimA_apply (g : Fin 16) (p : Fin 64) : aimA lam li ldt (ix2 g p) = barIm (fun g p => lam (ix2 g p)) (fun g p => li (ix2 g p)) (fun g => ldt (ix1 g)) g p := by
  pointwise [aimA, magA, lrA, dtA, dtB, barIm, poleMag, poleRe]
/-- The input factor's real part at a state. -/
theorem zreA_apply (g : Fin 16) (p : Fin 64) : zreA lam li ldt (ix2 g p) = facRe (fun g p => lam (ix2 g p)) (fun g p => li (ix2 g p)) (fun g => ldt (ix1 g)) g p := by
  pointwise [zreA, armA, denA, lrA]
  simp only [areA_apply, aimA_apply, facRe, poleSq, poleRe]
/-- The input factor's imaginary part at a state. -/
theorem zimA_apply (g : Fin 16) (p : Fin 64) : zimA lam li ldt (ix2 g p) = facIm (fun g p => lam (ix2 g p)) (fun g p => li (ix2 g p)) (fun g => ldt (ix1 g)) g p := by
  pointwise [zimA, armA, denA, lrA]
  simp only [areA_apply, aimA_apply, facIm, poleSq, poleRe]
/-- The input matrix's real part at an element. -/
theorem bbrA_apply (g : Fin 16) (p : Fin 64) (h : Fin 16) : bbrA lam li ldt b b' (ix3 g p h)
    = inRe (fun g p => lam (ix2 g p)) (fun g p => li (ix2 g p)) (fun g => ldt (ix1 g)) (fun g p h => b (ix3 g p h)) (fun g p h => b' (ix3 g p h)) g p h := by
  pointwise [bbrA, chan]
  simp only [zreA_apply, zimA_apply, inRe]
/-- The input matrix's imaginary part at an element. -/
theorem bbiA_apply (g : Fin 16) (p : Fin 64) (h : Fin 16) : bbiA lam li ldt b b' (ix3 g p h)
    = inIm (fun g p => lam (ix2 g p)) (fun g p => li (ix2 g p)) (fun g => ldt (ix1 g)) (fun g p h => b (ix3 g p h)) (fun g p h => b' (ix3 g p h)) g p h := by
  pointwise [bbiA, chan]
  simp only [zreA_apply, zimA_apply, inIm]
/-- The set bit as a number. -/
theorem one_bit : (FloatOps.uitofp FTy.f32 (1#1 : BitVec 1) : Ideal FTy.f32) = (1 : EReal) := by
  show (((1#1 : BitVec 1).toNat : ℝ) : EReal) = 1
  norm_num
/-- The clear bit as a number. -/
theorem zero_bit : (FloatOps.uitofp FTy.f32 (0#1 : BitVec 1) : Ideal FTy.f32) = (0 : EReal) := by
  show (((0#1 : BitVec 1).toNat : ℝ) : EReal) = 0
  norm_num
/-- The diagonal at an element. -/
theorem eyeA_apply (g k : Fin 16) : eyeA (ix2 g k) = if g = k then 1 else 0 := by
  pointwise [eyeA]
  by_cases h : g = k
  · subst h
    have e : IntOp.cmpi CmpIPredicate.eq (IntOp.addi (BitVec.ofNat 32 g.val) 0#32) (BitVec.ofNat 32 g.val) = 1#1 := by revert g; decide +kernel
    rw [e, if_pos rfl]
    exact one_bit
  · have e : IntOp.cmpi CmpIPredicate.eq (IntOp.addi (BitVec.ofNat 32 g.val) 0#32) (BitVec.ofNat 32 k.val) = 0#1 := by revert g k; decide +kernel
    rw [e, if_neg h]
    exact zero_bit
/-- The packed input matrix at an element. -/
theorem packIn_apply (q : Fin 256) (n : Fin 1024) : packIn b (ix2 q n)
    = b (ix3 ⟨q.val / 16, by omega⟩ ⟨n.val % 64, by omega⟩ ⟨q.val % 16, by omega⟩) * (if q.val / 16 = n.val / 64 then 1 else 0) := by
  pointwise [packIn]
  rw [eyeA_apply]
  simp only [Fin.mk.injEq]
/-- The packed output matrix at an element. -/
theorem packOut_apply (n : Fin 1024) (q : Fin 256) : packOut e (ix2 n q)
    = e (ix3 ⟨n.val / 64, by omega⟩ ⟨q.val % 16, by omega⟩ ⟨n.val % 64, by omega⟩) * (if n.val / 64 = q.val / 16 then 1 else 0) := by
  pointwise [packOut]
  rw [eyeA_apply]
  simp only [Fin.mk.injEq]

variable (m : (ℓ : Loc nD τ sig) → Buf (Elt Ideal) ℓ)

/-- The branch's input rows, as the call is given them. -/
theorem V_u (c : Dev nD) : V m c main_v86 = shapeCast S128x256 (m (c.tc.loc main_arg0) : FVec Ideal S128x1x256 .f32) shapeCasts_S128x1x256_S128x256 := by
  unfold V
  after_results <;> rfl
/-- The state's real parts, flat, as the call is given them. -/
theorem V_xr (c : Dev nD) : V m c main_v87 = shapeCast S128x1024 (m (c.tc.loc main_arg1) : FVec Ideal S128x16x64 .f32) shapeCasts_S128x16x64_S128x1024 := by
  unfold V
  after_results <;> rfl
/-- The state's imaginary parts, flat, as the call is given them. -/
theorem V_xi (c : Dev nD) : V m c main_v88 = shapeCast S128x1024 (m (c.tc.loc main_arg2) : FVec Ideal S128x16x64 .f32) shapeCasts_S128x16x64_S128x1024 := by
  unfold V
  after_results <;> rfl
/-- The discrete poles' real parts as a row, as the call is given them. -/
theorem V_ar (c : Dev nD) : V m c main_v50 = shapeCast S1x1024 (areA (m (c.tc.loc main_arg3) : FVec Ideal S16x64 .f32) (m (c.tc.loc main_arg4) : FVec Ideal S16x64 .f32) (m (c.tc.loc main_arg10) : FVec Ideal S16 .f32)) shapeCasts_S16x64_S1x1024 := by
  unfold V
  after_results <;> rfl
/-- The discrete poles' imaginary parts as a row, as the call is given them. -/
theorem V_ai (c : Dev nD) : V m c main_v51 = shapeCast S1x1024 (aimA (m (c.tc.loc main_arg3) : FVec Ideal S16x64 .f32) (m (c.tc.loc main_arg4) : FVec Ideal S16x64 .f32) (m (c.tc.loc main_arg10) : FVec Ideal S16 .f32)) shapeCasts_S16x64_S1x1024 := by
  unfold V
  after_results <;> rfl
/-- The packed input matrix, real, as the call is given them. -/
theorem V_br (c : Dev nD) : V m c main_v59 = packIn (bbrA (m (c.tc.loc main_arg3) : FVec Ideal S16x64 .f32) (m (c.tc.loc main_arg4) : FVec Ideal S16x64 .f32) (m (c.tc.loc main_arg10) : FVec Ideal S16 .f32) (m (c.tc.loc main_arg5) : FVec Ideal S16x64x16 .f32) (m (c.tc.loc main_arg6) : FVec Ideal S16x64x16 .f32)) := by
  unfold V
  after_results <;> rfl
/-- The packed input matrix, imaginary, as the call is given them. -/
theorem V_bi (c : Dev nD) : V m c main_v67 = packIn (bbiA (m (c.tc.loc main_arg3) : FVec Ideal S16x64 .f32) (m (c.tc.loc main_arg4) : FVec Ideal S16x64 .f32) (m (c.tc.loc main_arg10) : FVec Ideal S16 .f32) (m (c.tc.loc main_arg5) : FVec Ideal S16x64x16 .f32) (m (c.tc.loc main_arg6) : FVec Ideal S16x64x16 .f32)) := by
  unfold V
  after_results <;> rfl
/-- The packed output matrix, real, as the call is given them. -/
theorem V_cr (c : Dev nD) : V m c main_v75 = packOut (m (c.tc.loc main_arg7) : FVec Ideal S16x16x64 .f32) := by
  unfold V
  after_results <;> rfl
/-- The packed output matrix, imaginary, as the call is given them. -/
theorem V_ci (c : Dev nD) : V m c main_v83 = packOut (m (c.tc.loc main_arg8) : FVec Ideal S16x16x64 .f32) := by
  unfold V
  after_results <;> rfl
/-- The direct gains as a row, as the call is given them. -/
theorem V_d (c : Dev nD) : V m c main_v84 = shapeCast S1x256 (m (c.tc.loc main_arg9) : FVec Ideal S256 .f32) shapeCasts_S256_S1x256 := by
  unfold V
  after_results <;> rfl
/-- The gate's weights, as the call is given them. -/
theorem V_g (c : Dev nD) : V m c main_v85 = (m (c.tc.loc main_arg11) : FVec Ideal S256x512 .f32) := by
  unfold V
  after_results <;> rfl

end Cert.Kernel7Ideal.Hand
end
-- ==== Proof.Ssm.Body.lean ====
module

public import Idealize.ShloMosaic.Lib.VecWindow
public import proofs.«01_k».proof.Proof.Ssm.Host
@[expose] public section

set_option maxRecDepth 16384
noncomputable section

namespace Cert.Kernel7Ideal.Hand

open Cert.Kernel7Ideal Cert.Kernel7Ideal.Gen Idealize.ShloMosaic Idealize.ShloMosaic.TcCoe Idealize.SL.Sem Cert.Hand

variable (m : (ℓ : Loc nD τ sig) → Buf (Elt Ideal) ℓ)

/-- A load of a whole block reads the block. -/
theorem whole_ld {S : Shape} {e : EltTy} {a : Memref sig .tc .vmem S e} (h : a.IsWhole) (x : Vec Ideal S e) {off : Fin S.rank → ℕ}
    (inb : ∀ k, off k + S.size k ≤ S.size k) : a.view.readAt (Elt Ideal) (Rect.unit off S.size inb).toLoadRect (h.unread x) = x :=
  (View.readAt_full ..).trans (h.read_unread x)

/-- The new state's real parts over the point's blocks. -/
def stRe (c : Dev nD) (t : Fin cfg0.N) : FVec Ideal S128x1024 .f32 :=
  k0_pay12 (k0_pay8 (iblk m c 3 t)) (k0_pay9 (iblk m c 4 t)) (k0_pay10 (k0_pay2 (iblk m c 1 t))) (k0_pay11 (k0_pay3 (iblk m c 2 t))) (k0_pay6 (iblk m c 0 t) (iblk m c 5 t))
/-- The new state's imaginary parts over the point's blocks. -/
def stIm (c : Dev nD) (t : Fin cfg0.N) : FVec Ideal S128x1024 .f32 :=
  k0_pay13 (k0_pay8 (iblk m c 3 t)) (k0_pay9 (iblk m c 4 t)) (k0_pay10 (k0_pay2 (iblk m c 1 t))) (k0_pay11 (k0_pay3 (iblk m c 2 t))) (k0_pay7 (iblk m c 0 t) (iblk m c 6 t))

/-- Equal arguments give equal real parts. -/
theorem congr12 {a a' b b' x x' y y' z z' : FVec Ideal S128x1024 .f32} (h1 : a = a') (h2 : b = b') (h3 : x = x') (h4 : y = y') (h5 : z = z') :
    k0_pay12 (F := Ideal) a b x y z = k0_pay12 a' b' x' y' z' := by subst h1 h2 h3 h4 h5; rfl
/-- Equal arguments give equal imaginary parts. -/
theorem congr13 {a a' b b' x x' y y' z z' : FVec Ideal S128x1024 .f32} (h1 : a = a') (h2 : b = b') (h3 : x = x') (h4 : y = y') (h5 : z = z') :
    k0_pay13 (F := Ideal) a b x y z = k0_pay13 a' b' x' y' z' := by subst h1 h2 h3 h4 h5; rfl

/-- Equal arguments give equal stored real parts. -/
theorem congr14 {a a' b b' x x' y y' z z' : FVec Ideal S128x1024 .f32} (h1 : a = a') (h2 : b = b') (h3 : x = x') (h4 : y = y') (h5 : z = z') :
    k0_pay14 (F := Ideal) a b x y z = k0_pay12 a' b' x' y' z' := by
  subst h1 h2 h3 h4 h5
  funext i
  idx_vars i
  pointwise [k0_pay14]
/-- Equal arguments give equal stored imaginary parts. -/
theorem congr15 {a a' b b' x x' y y' z z' : FVec Ideal S128x1024 .f32} (h1 : a = a') (h2 : b = b') (h3 : x = x') (h4 : y = y') (h5 : z = z') :
    k0_pay15 (F := Ideal) a b x y z = k0_pay13 a' b' x' y' z' := by
  subst h1 h2 h3 h4 h5
  funext i
  idx_vars i
  pointwise [k0_pay15]
/-- Equal arguments give equal products with the output matrices. -/
theorem congr16 {x x' y y' : FVec Ideal S128x1024 .f32} {w w' v v' : FVec Ideal S1024x256 .bf16} (h1 : x = x') (h2 : w = w') (h3 : y = y') (h4 : v = v') :
    k0_pay16 (F := Ideal) x w y v = k0_pay16 x' w' y' v' := by subst h1 h2 h3 h4; rfl
/-- Equal arguments give equal outputs. -/
theorem congr1 {x x' y y' : FVec Ideal S128x256 .f32} {d d' : FVec Ideal S1x256 .f32} {w w' : FVec Ideal S256x512 .bf16} (h1 : x = x') (h2 : y = y') (h3 : d = d') (h4 : w = w') :
    k0_pay1 (F := Ideal) x y d w = k0_pay1 x' y' d' w' := by subst h1 h2 h3 h4; rfl

/-- What the point leaves of the state's real parts. -/
theorem out12 (c : Dev nD) (t : Fin cfg0.N) : (outsAt0 m c t).2.1 = stRe m c t := by
  unfold outsAt0 stRe
  dsimp only
  unfold out0_A_12 kernelRun0_A
  dsimp only
  rw [View.read_writes_full]
  refine congr12 (congrArg k0_pay8 (whole_ld ..)) (congrArg k0_pay9 (whole_ld ..))
    (congrArg k0_pay10 ((View.readCov_full ..).trans (congrArg k0_pay2 (whole_ld ..))))
    (congrArg k0_pay11 ((View.readCov_full ..).trans (congrArg k0_pay3 (whole_ld ..))))
    ((View.readCov_full ..).trans ?_)
  exact congr (congrArg k0_pay6 (whole_ld ..)) (whole_ld ..)
/-- What the point leaves of the state's imaginary parts. -/
theorem out13 (c : Dev nD) (t : Fin cfg0.N) : (outsAt0 m c t).2.2 = stIm m c t := by
  unfold outsAt0 stIm
  dsimp only
  unfold out0_A_13 kernelRun0_A
  dsimp only
  rw [View.read_writes_full]
  refine congr13 (congrArg k0_pay8 (whole_ld ..)) (congrArg k0_pay9 (whole_ld ..))
    (congrArg k0_pay10 ((View.readCov_full ..).trans (congrArg k0_pay2 (whole_ld ..))))
    (congrArg k0_pay11 ((View.readCov_full ..).trans (congrArg k0_pay3 (whole_ld ..))))
    ((View.readCov_full ..).trans ?_)
  exact congr (congrArg k0_pay7 (whole_ld ..)) (whole_ld ..)
/-- What the point leaves of the branch's output. -/
theorem out11 (c : Dev nD) (t : Fin cfg0.N) : (outsAt0 m c t).1 =
    k0_pay1 (k0_pay4 (iblk m c 0 t)) (k0_pay16 (stRe m c t) (iblk m c 7 t) (stIm m c t) (iblk m c 8 t)) (k0_pay17 (iblk m c 9 t)) (iblk m c 10 t) := by
  unfold outsAt0 stRe stIm
  dsimp only
  unfold out0_A_11 kernelRun0_A
  dsimp only
  rw [View.read_writes_full]
  refine congr1 (congrArg k0_pay4 (whole_ld ..)) (congr16 ((View.readCov_full ..).trans (congr14 (congrArg k0_pay8 (whole_ld ..)) (congrArg k0_pay9 (whole_ld ..))
    (congrArg k0_pay10 ((View.readCov_full ..).trans (congrArg k0_pay2 (whole_ld ..))))
    (congrArg k0_pay11 ((View.readCov_full ..).trans (congrArg k0_pay3 (whole_ld ..))))
    ((View.readCov_full ..).trans ?_))) (whole_ld ..) ((View.readCov_full ..).trans (congr15 (congrArg k0_pay8 (whole_ld ..)) (congrArg k0_pay9 (whole_ld ..))
    (congrArg k0_pay10 ((View.readCov_full ..).trans (congrArg k0_pay2 (whole_ld ..))))
    (congrArg k0_pay11 ((View.readCov_full ..).trans (congrArg k0_pay3 (whole_ld ..))))
    ((View.readCov_full ..).trans ?_))) (whole_ld ..)) (congrArg k0_pay17 (whole_ld ..)) (whole_ld ..)
  · exact congr (congrArg k0_pay6 (whole_ld ..)) (whole_ld ..)
  · exact congr (congrArg k0_pay7 (whole_ld ..)) (whole_ld ..)

/-- The new state's real part at an element. -/
theorem re_apply (x0 : FVec Ideal S128x256 .f32) (x1 x2 : FVec Ideal S128x1024 .f32) (x3 x4 : FVec Ideal S1x1024 .f32) (x5 : FVec Ideal S256x1024 .bf16) (s : Fin 128) (n : Fin 1024) :
    k0_pay12 (F := Ideal) (k0_pay8 (F := Ideal) x3) (k0_pay9 (F := Ideal) x4) (k0_pay10 (F := Ideal) (k0_pay2 (F := Ideal) x1)) (k0_pay11 (F := Ideal) (k0_pay3 (F := Ideal) x2)) (k0_pay6 (F := Ideal) x0 x5) (ix2 s n) =
    (∑ q : Fin 256, x0 (ix2 s q) * x5 (ix2 q n)) + x3 (ix2 0 n) * x1 (ix2 s n) - x4 (ix2 0 n) * x2 (ix2 s n) := by
  pointwise [k0_pay12, k0_pay8, k0_pay9, k0_pay10, k0_pay2, k0_pay11, k0_pay3, k0_pay6, k0_pay5, k0_pay4]
/-- The new state's imaginary part at an element. -/
theorem im_apply (x0 : FVec Ideal S128x256 .f32) (x1 x2 : FVec Ideal S128x1024 .f32) (x3 x4 : FVec Ideal S1x1024 .f32) (x6 : FVec Ideal S256x1024 .bf16) (s : Fin 128) (n : Fin 1024) :
    k0_pay13 (F := Ideal) (k0_pay8 (F := Ideal) x3) (k0_pay9 (F := Ideal) x4) (k0_pay10 (F := Ideal) (k0_pay2 (F := Ideal) x1)) (k0_pay11 (F := Ideal) (k0_pay3 (F := Ideal) x2)) (k0_pay7 (F := Ideal) x0 x6) (ix2 s n) =
    (∑ q : Fin 256, x0 (ix2 s q) * x6 (ix2 q n)) + x3 (ix2 0 n) * x2 (ix2 s n) + x4 (ix2 0 n) * x1 (ix2 s n) := by
  pointwise [k0_pay13, k0_pay8, k0_pay9, k0_pay10, k0_pay2, k0_pay11, k0_pay3, k0_pay7, k0_pay5, k0_pay4]
/-- The branch's output at an element, from the new state. -/
theorem pay1_apply (x0 : FVec Ideal S128x256 .f32) (a b : FVec Ideal S128x1024 .f32) (x7 x8 : FVec Ideal S1024x256 .bf16) (x9 : FVec Ideal S1x256 .f32) (x10 : FVec Ideal S256x512 .bf16)
    (s : Fin 128) (j : Fin 256) :
    k0_pay1 (F := Ideal) (k0_pay4 x0) (k0_pay16 a x7 b x8) (k0_pay17 x9) x10 (ix2 s j) =
      ssmO (fun q => (∑ n : Fin 1024, a (ix2 s n) * x7 (ix2 n q)) - (∑ n : Fin 1024, b (ix2 s n) * x8 (ix2 n q)) + x9 (ix2 0 q) * x0 (ix2 s q)) (fun q j => x10 (ix2 q j)) j := by
  pointwise [k0_pay1, k0_pay16, k0_pay17, k0_pay4, ssmO, gelu, lgs]

end Cert.Kernel7Ideal.Hand
end
-- ==== Proof.Ssm.Final.lean ====
module

public import proofs.«01_k».proof.Proof.Ssm.Body
@[expose] public section

set_option maxRecDepth 16384
noncomputable section

namespace Cert.Kernel7Ideal.Hand

open Cert.Kernel7Ideal Cert.Kernel7Ideal.Gen Idealize.ShloMosaic Idealize.ShloMosaic.TcCoe Idealize.SL.Sem Cert.Hand
open Idealize.ShloMosaic.Pipeline (Dat)

variable (m : (ℓ : Loc nD τ sig) → Buf (Elt Ideal) ℓ)

/-- Every point reads the same block of the input rows. -/
theorem idx0 : ∀ t : Fin cfg0.N, win0_0.index t 0 = 0 ∧ win0_0.index t 1 = 0 :=
  (by decide +kernel : ∀ t : Fin grid0.N, win0_0.index t 0 = 0 ∧ win0_0.index t 1 = 0)
/-- The block of the input rows is the whole array. -/
theorem blk0 (c : Dev nD) (t : Fin cfg0.N) : (iblk m c 0 t : FVec Ideal S128x256 .f32) = (V m c main_v86 : FVec Ideal S128x256 .f32) := by
  funext i
  show V m c main_v86 ((win0_0.rect t).emb i) = _
  refine congrArg (V m c main_v86) (funext fun a => Fin.ext ?_)
  obtain ⟨e0, e1⟩ := idx0 t
  refine (Pipeline.Window.rect_emb_val win0_0 t _ a).trans ?_
  match a with
  | ⟨0, _⟩ => show win0_0.index t 0 * 128 + (i 0).val = (i 0).val; rw [e0]; omega
  | ⟨1, _⟩ => show win0_0.index t 1 * 256 + (i 1).val = (i 1).val; rw [e1]; omega
/-- Every point reads the same block of the state, real. -/
theorem idx1 : ∀ t : Fin cfg0.N, win0_1.index t 0 = 0 ∧ win0_1.index t 1 = 0 :=
  (by decide +kernel : ∀ t : Fin grid0.N, win0_1.index t 0 = 0 ∧ win0_1.index t 1 = 0)
/-- The block of the state, real is the whole array. -/
theorem blk1 (c : Dev nD) (t : Fin cfg0.N) : (iblk m c 1 t : FVec Ideal S128x1024 .f32) = (V m c main_v87 : FVec Ideal S128x1024 .f32) := by
  funext i
  show V m c main_v87 ((win0_1.rect t).emb i) = _
  refine congrArg (V m c main_v87) (funext fun a => Fin.ext ?_)
  obtain ⟨e0, e1⟩ := idx1 t
  refine (Pipeline.Window.rect_emb_val win0_1 t _ a).trans ?_
  match a with
  | ⟨0, _⟩ => show win0_1.index t 0 * 128 + (i 0).val = (i 0).val; rw [e0]; omega
  | ⟨1, _⟩ => show win0_1.index t 1 * 1024 + (i 1).val = (i 1).val; rw [e1]; omega
/-- Every point reads the same block of the state, imaginary. -/
theorem idx2 : ∀ t : Fin cfg0.N, win0_2.index t 0 = 0 ∧ win0_2.index t 1 = 0 :=
  (by decide +kernel : ∀ t : Fin grid0.N, win0_2.index t 0 = 0 ∧ win0_2.index t 1 = 0)
/-- The block of the state, imaginary is the whole array. -/
theorem blk2 (c : Dev nD) (t : Fin cfg0.N) : (iblk m c 2 t : FVec Ideal S128x1024 .f32) = (V m c main_v88 : FVec Ideal S128x1024 .f32) := by
  funext i
  show V m c main_v88 ((win0_2.rect t).emb i) = _
  refine congrArg (V m c main_v88) (funext fun a => Fin.ext ?_)
  obtain ⟨e0, e1⟩ := idx2 t
  refine (Pipeline.Window.rect_emb_val win0_2 t _ a).trans ?_
  match a with
  | ⟨0, _⟩ => show win0_2.index t 0 * 128 + (i 0).val = (i 0).val; rw [e0]; omega
  | ⟨1, _⟩ => show win0_2.index t 1 * 1024 + (i 1).val = (i 1).val; rw [e1]; omega
/-- Every point reads the same block of the poles, real. -/
theorem idx3 : ∀ t : Fin cfg0.N, win0_3.index t 0 = 0 ∧ win0_3.index t 1 = 0 :=
  (by decide +kernel : ∀ t : Fin grid0.N, win0_3.index t 0 = 0 ∧ win0_3.index t 1 = 0)
/-- The block of the poles, real is the whole array. -/
theorem blk3 (c : Dev nD) (t : Fin cfg0.N) : (iblk m c 3 t : FVec Ideal S1x1024 .f32) = (V m c main_v50 : FVec Ideal S1x1024 .f32) := by
  funext i
  show V m c main_v50 ((win0_3.rect t).emb i) = _
  refine congrArg (V m c main_v50) (funext fun a => Fin.ext ?_)
  obtain ⟨e0, e1⟩ := idx3 t
  refine (Pipeline.Window.rect_emb_val win0_3 t _ a).trans ?_
  match a with
  | ⟨0, _⟩ => show win0_3.index t 0 * 1 + (i 0).val = (i 0).val; rw [e0]; omega
  | ⟨1, _⟩ => show win0_3.index t 1 * 1024 + (i 1).val = (i 1).val; rw [e1]; omega
/-- Every point reads the same block of the poles, imaginary. -/
theorem idx4 : ∀ t : Fin cfg0.N, win0_4.index t 0 = 0 ∧ win0_4.index t 1 = 0 :=
  (by decide +kernel : ∀ t : Fin grid0.N, win0_4.index t 0 = 0 ∧ win0_4.index t 1 = 0)
/-- The block of the poles, imaginary is the whole array. -/
theorem blk4 (c : Dev nD) (t : Fin cfg0.N) : (iblk m c 4 t : FVec Ideal S1x1024 .f32) = (V m c main_v51 : FVec Ideal S1x1024 .f32) := by
  funext i
  show V m c main_v51 ((win0_4.rect t).emb i) = _
  refine congrArg (V m c main_v51) (funext fun a => Fin.ext ?_)
  obtain ⟨e0, e1⟩ := idx4 t
  refine (Pipeline.Window.rect_emb_val win0_4 t _ a).trans ?_
  match a with
  | ⟨0, _⟩ => show win0_4.index t 0 * 1 + (i 0).val = (i 0).val; rw [e0]; omega
  | ⟨1, _⟩ => show win0_4.index t 1 * 1024 + (i 1).val = (i 1).val; rw [e1]; omega
/-- Every point reads the same block of the input matrix, real. -/
theorem idx5 : ∀ t : Fin cfg0.N, win0_5.index t 0 = 0 ∧ win0_5.index t 1 = 0 :=
  (by decide +kernel : ∀ t : Fin grid0.N, win0_5.index t 0 = 0 ∧ win0_5.index t 1 = 0)
/-- The block of the input matrix, real is the whole array. -/
theorem blk5 (c : Dev nD) (t : Fin cfg0.N) : (iblk m c 5 t : FVec Ideal S256x1024 .bf16) = (V m c main_v59 : FVec Ideal S256x1024 .bf16) := by
  funext i
  show V m c main_v59 ((win0_5.rect t).emb i) = _
  refine congrArg (V m c main_v59) (funext fun a => Fin.ext ?_)
  obtain ⟨e0, e1⟩ := idx5 t
  refine (Pipeline.Window.rect_emb_val win0_5 t _ a).trans ?_
  match a with
  | ⟨0, _⟩ => show win0_5.index t 0 * 256 + (i 0).val = (i 0).val; rw [e0]; omega
  | ⟨1, _⟩ => show win0_5.index t 1 * 1024 + (i 1).val = (i 1).val; rw [e1]; omega
/-- Every point reads the same block of the input matrix, imaginary. -/
theorem idx6 : ∀ t : Fin cfg0.N, win0_6.index t 0 = 0 ∧ win0_6.index t 1 = 0 :=
  (by decide +kernel : ∀ t : Fin grid0.N, win0_6.index t 0 = 0 ∧ win0_6.index t 1 = 0)
/-- The block of the input matrix, imaginary is the whole array. -/
theorem blk6 (c : Dev nD) (t : Fin cfg0.N) : (iblk m c 6 t : FVec Ideal S256x1024 .bf16) = (V m c main_v67 : FVec Ideal S256x1024 .bf16) := by
  funext i
  show V m c main_v67 ((win0_6.rect t).emb i) = _
  refine congrArg (V m c main_v67) (funext fun a => Fin.ext ?_)
  obtain ⟨e0, e1⟩ := idx6 t
  refine (Pipeline.Window.rect_emb_val win0_6 t _ a).trans ?_
  match a with
  | ⟨0, _⟩ => show win0_6.index t 0 * 256 + (i 0).val = (i 0).val; rw [e0]; omega
  | ⟨1, _⟩ => show win0_6.index t 1 * 1024 + (i 1).val = (i 1).val; rw [e1]; omega
/-- Every point reads the same block of the output matrix, real. -/
theorem idx7 : ∀ t : Fin cfg0.N, win0_7.index t 0 = 0 ∧ win0_7.index t 1 = 0 :=
  (by decide +kernel : ∀ t : Fin grid0.N, win0_7.index t 0 = 0 ∧ win0_7.index t 1 = 0)
/-- The block of the output matrix, real is the whole array. -/
theorem blk7 (c : Dev nD) (t : Fin cfg0.N) : (iblk m c 7 t : FVec Ideal S1024x256 .bf16) = (V m c main_v75 : FVec Ideal S1024x256 .bf16) := by
  funext i
  show V m c main_v75 ((win0_7.rect t).emb i) = _
  refine congrArg (V m c main_v75) (funext fun a => Fin.ext ?_)
  obtain ⟨e0, e1⟩ := idx7 t
  refine (Pipeline.Window.rect_emb_val win0_7 t _ a).trans ?_
  match a with
  | ⟨0, _⟩ => show win0_7.index t 0 * 1024 + (i 0).val = (i 0).val; rw [e0]; omega
  | ⟨1, _⟩ => show win0_7.index t 1 * 256 + (i 1).val = (i 1).val; rw [e1]; omega
/-- Every point reads the same block of the output matrix, imaginary. -/
theorem idx8 : ∀ t : Fin cfg0.N, win0_8.index t 0 = 0 ∧ win0_8.index t 1 = 0 :=
  (by decide +kernel : ∀ t : Fin grid0.N, win0_8.index t 0 = 0 ∧ win0_8.index t 1 = 0)
/-- The block of the output matrix, imaginary is the whole array. -/
theorem blk8 (c : Dev nD) (t : Fin cfg0.N) : (iblk m c 8 t : FVec Ideal S1024x256 .bf16) = (V m c main_v83 : FVec Ideal S1024x256 .bf16) := by
  funext i
  show V m c main_v83 ((win0_8.rect t).emb i) = _
  refine congrArg (V m c main_v83) (funext fun a => Fin.ext ?_)
  obtain ⟨e0, e1⟩ := idx8 t
  refine (Pipeline.Window.rect_emb_val win0_8 t _ a).trans ?_
  match a with
  | ⟨0, _⟩ => show win0_8.index t 0 * 1024 + (i 0).val = (i 0).val; rw [e0]; omega
  | ⟨1, _⟩ => show win0_8.index t 1 * 256 + (i 1).val = (i 1).val; rw [e1]; omega
/-- Every point reads the same block of the direct gains. -/
theorem idx9 : ∀ t : Fin cfg0.N, win0_9.index t 0 = 0 ∧ win0_9.index t 1 = 0 :=
  (by decide +kernel : ∀ t : Fin grid0.N, win0_9.index t 0 = 0 ∧ win0_9.index t 1 = 0)
/-- The block of the direct gains is the whole array. -/
theorem blk9 (c : Dev nD) (t : Fin cfg0.N) : (iblk m c 9 t : FVec Ideal S1x256 .f32) = (V m c main_v84 : FVec Ideal S1x256 .f32) := by
  funext i
  show V m c main_v84 ((win0_9.rect t).emb i) = _
  refine congrArg (V m c main_v84) (funext fun a => Fin.ext ?_)
  obtain ⟨e0, e1⟩ := idx9 t
  refine (Pipeline.Window.rect_emb_val win0_9 t _ a).trans ?_
  match a with
  | ⟨0, _⟩ => show win0_9.index t 0 * 1 + (i 0).val = (i 0).val; rw [e0]; omega
  | ⟨1, _⟩ => show win0_9.index t 1 * 256 + (i 1).val = (i 1).val; rw [e1]; omega
/-- Every point reads the same block of the gate's weights. -/
theorem idx10 : ∀ t : Fin cfg0.N, win0_10.index t 0 = 0 ∧ win0_10.index t 1 = 0 :=
  (by decide +kernel : ∀ t : Fin grid0.N, win0_10.index t 0 = 0 ∧ win0_10.index t 1 = 0)
/-- The block of the gate's weights is the whole array. -/
theorem blk10 (c : Dev nD) (t : Fin cfg0.N) : (iblk m c 10 t : FVec Ideal S256x512 .bf16) = (V m c main_v85 : FVec Ideal S256x512 .bf16) := by
  funext i
  show V m c main_v85 ((win0_10.rect t).emb i) = _
  refine congrArg (V m c main_v85) (funext fun a => Fin.ext ?_)
  obtain ⟨e0, e1⟩ := idx10 t
  refine (Pipeline.Window.rect_emb_val win0_10 t _ a).trans ?_
  match a with
  | ⟨0, _⟩ => show win0_10.index t 0 * 256 + (i 0).val = (i 0).val; rw [e0]; omega
  | ⟨1, _⟩ => show win0_10.index t 1 * 512 + (i 1).val = (i 1).val; rw [e1]; omega
/-- The point writes result 0's only block. -/
theorem idx11 : ∀ t : Fin cfg0.N, win0_11.index t 0 = 0 ∧ win0_11.index t 1 = 0 :=
  (by decide +kernel : ∀ t : Fin grid0.N, win0_11.index t 0 = 0 ∧ win0_11.index t 1 = 0)
/-- Result 0 after the run is what the point left. -/
theorem arr11 (c : Dev nD) (t : Fin cfg0.N) (s : Fin 128) (j : Fin 256) : (dats m 0 c).arrAt 11 cfg0.N (ix2 s j) = (outsAt0 m c t).1 (ix2 s j) := by
  have e := congrFun (Value.blocks11 m c t (flush0_11 _)) (ix2 s j)
  rw [Value.flushed11] at e
  have e' : (dats m 0 c).arrAt 11 cfg0.N ((win0_11.rect t).emb (ix2 s j)) = (outsAt0 m c t).1 (ix2 s j) := e
  have h : (win0_11.rect t).emb (ix2 s j) = (ix2 s j : S128x256.Idx) := by
    refine funext fun a => Fin.ext ?_
    obtain ⟨e0, e1⟩ := idx11 t
    refine (Pipeline.Window.rect_emb_val win0_11 t _ a).trans ?_
    match a with
    | ⟨0, _⟩ => show win0_11.index t 0 * 128 + s.val = s.val; rw [e0]; omega
    | ⟨1, _⟩ => show win0_11.index t 1 * 256 + j.val = j.val; rw [e1]; omega
  rw [h] at e'
  exact e'
/-- The point writes result 1's only block. -/
theorem idx12 : ∀ t : Fin cfg0.N, win0_12.index t 0 = 0 ∧ win0_12.index t 1 = 0 :=
  (by decide +kernel : ∀ t : Fin grid0.N, win0_12.index t 0 = 0 ∧ win0_12.index t 1 = 0)
/-- Result 1 after the run is what the point left. -/
theorem arr12 (c : Dev nD) (t : Fin cfg0.N) (s : Fin 128) (j : Fin 1024) : (dats m 0 c).arrAt 12 cfg0.N (ix2 s j) = (outsAt0 m c t).2.1 (ix2 s j) := by
  have e := congrFun (Value.blocks12 m c t (flush0_12 _)) (ix2 s j)
  rw [Value.flushed12] at e
  have e' : (dats m 0 c).arrAt 12 cfg0.N ((win0_12.rect t).emb (ix2 s j)) = (outsAt0 m c t).2.1 (ix2 s j) := e
  have h : (win0_12.rect t).emb (ix2 s j) = (ix2 s j : S128x1024.Idx) := by
    refine funext fun a => Fin.ext ?_
    obtain ⟨e0, e1⟩ := idx12 t
    refine (Pipeline.Window.rect_emb_val win0_12 t _ a).trans ?_
    match a with
    | ⟨0, _⟩ => show win0_12.index t 0 * 128 + s.val = s.val; rw [e0]; omega
    | ⟨1, _⟩ => show win0_12.index t 1 * 1024 + j.val = j.val; rw [e1]; omega
  rw [h] at e'
  exact e'
/-- The point writes result 2's only block. -/
theorem idx13 : ∀ t : Fin cfg0.N, win0_13.index t 0 = 0 ∧ win0_13.index t 1 = 0 :=
  (by decide +kernel : ∀ t : Fin grid0.N, win0_13.index t 0 = 0 ∧ win0_13.index t 1 = 0)
/-- Result 2 after the run is what the point left. -/
theorem arr13 (c : Dev nD) (t : Fin cfg0.N) (s : Fin 128) (j : Fin 1024) : (dats m 0 c).arrAt 13 cfg0.N (ix2 s j) = (outsAt0 m c t).2.2 (ix2 s j) := by
  have e := congrFun (Value.blocks13 m c t (flush0_13 _)) (ix2 s j)
  rw [Value.flushed13] at e
  have e' : (dats m 0 c).arrAt 13 cfg0.N ((win0_13.rect t).emb (ix2 s j)) = (outsAt0 m c t).2.2 (ix2 s j) := e
  have h : (win0_13.rect t).emb (ix2 s j) = (ix2 s j : S128x1024.Idx) := by
    refine funext fun a => Fin.ext ?_
    obtain ⟨e0, e1⟩ := idx13 t
    refine (Pipeline.Window.rect_emb_val win0_13 t _ a).trans ?_
    match a with
    | ⟨0, _⟩ => show win0_13.index t 0 * 128 + s.val = s.val; rw [e0]; omega
    | ⟨1, _⟩ => show win0_13.index t 1 * 1024 + j.val = j.val; rw [e1]; omega
  rw [h] at e'
  exact e'

variable (x0 : FVec Ideal S128x1x256 .f32) (x1 x2 : FVec Ideal S128x16x64 .f32) (lam li : FVec Ideal S16x64 .f32) (br bi : FVec Ideal S16x64x16 .f32)
  (cr ci : FVec Ideal S16x16x64 .f32) (d : FVec Ideal S256 .f32) (ldt : FVec Ideal S16 .f32) (w : FVec Ideal S256x512 .f32)

/-- The new state's real part, from the argument arrays. -/
def resRe (s : Fin 128) (g : Fin 16) (p : Fin 64) : EReal :=
  newRe (fun g p => lam (ix2 g p)) (fun g p => li (ix2 g p)) (fun g => ldt (ix1 g)) (fun g p h => br (ix3 g p h)) (fun g p h => bi (ix3 g p h))
    (fun q => x0 (ix3 s 0 q)) (fun g p => x1 (ix3 s g p)) (fun g p => x2 (ix3 s g p)) g p
/-- The new state's imaginary part, from the argument arrays. -/
def resIm (s : Fin 128) (g : Fin 16) (p : Fin 64) : EReal :=
  newIm (fun g p => lam (ix2 g p)) (fun g p => li (ix2 g p)) (fun g => ldt (ix1 g)) (fun g p h => br (ix3 g p h)) (fun g p h => bi (ix3 g p h))
    (fun q => x0 (ix3 s 0 q)) (fun g p => x1 (ix3 s g p)) (fun g p => x2 (ix3 s g p)) g p
/-- The branch's output, from the argument arrays. -/
def resO (s : Fin 128) (j : Fin 256) : EReal :=
  ssmO (ssmY (fun q => x0 (ix3 s 0 q)) (resRe x0 x1 x2 lam li br bi ldt s) (resIm x0 x1 x2 lam li br bi ldt s) (fun g h p => cr (ix3 g h p)) (fun g h p => ci (ix3 g h p))
    (fun q => d (ix1 q))) (fun q j => w (ix2 q j)) j

/-- The kernel's arithmetic on the prepared arrays gives the new state's real part. -/
theorem re_prep (s : Fin 128) (n : Fin 1024) :
    k0_pay12 (F := Ideal) (k0_pay8 (F := Ideal) (shapeCast S1x1024 (areA lam li ldt) shapeCasts_S16x64_S1x1024)) (k0_pay9 (F := Ideal) (shapeCast S1x1024 (aimA lam li ldt) shapeCasts_S16x64_S1x1024))
      (k0_pay10 (F := Ideal) (k0_pay2 (F := Ideal) (shapeCast S128x1024 x1 shapeCasts_S128x16x64_S128x1024))) (k0_pay11 (F := Ideal) (k0_pay3 (F := Ideal) (shapeCast S128x1024 x2 shapeCasts_S128x16x64_S128x1024)))
      (k0_pay6 (F := Ideal) (shapeCast S128x256 x0 shapeCasts_S128x1x256_S128x256) (packIn (bbrA lam li ldt br bi))) (ix2 s n) =
    resRe x0 x1 x2 lam li br bi ldt s ⟨n.val / 64, by omega⟩ ⟨n.val % 64, by omega⟩ := by
  rw [re_apply]
  pointwise
  simp only [packIn_apply, bbrA_apply, areA_apply, aimA_apply, ← mul_assoc]
  rw [sum_in (fun q => _) (n.val / 64) (by omega)]
  unfold resRe newRe
  congr 4
  funext h
  exact congrArg₂ (fun a b => x0 (ix3 s 0 ⟨16 * (n.val / 64) + h.val, by omega⟩) * inRe (fun g p => lam (ix2 g p)) (fun g p => li (ix2 g p)) (fun g => ldt (ix1 g))
    (fun g p h => br (ix3 g p h)) (fun g p h => bi (ix3 g p h)) a ⟨n.val % 64, by omega⟩ b)
    (Fin.ext (by show (16 * (n.val / 64) + h.val) / 16 = n.val / 64; omega)) (Fin.ext (by show (16 * (n.val / 64) + h.val) % 16 = h.val; omega))
/-- The kernel's arithmetic on the prepared arrays gives the new state's imaginary part. -/
theorem im_prep (s : Fin 128) (n : Fin 1024) :
    k0_pay13 (F := Ideal) (k0_pay8 (F := Ideal) (shapeCast S1x1024 (areA lam li ldt) shapeCasts_S16x64_S1x1024)) (k0_pay9 (F := Ideal) (shapeCast S1x1024 (aimA lam li ldt) shapeCasts_S16x64_S1x1024))
      (k0_pay10 (F := Ideal) (k0_pay2 (F := Ideal) (shapeCast S128x1024 x1 shapeCasts_S128x16x64_S128x1024))) (k0_pay11 (F := Ideal) (k0_pay3 (F := Ideal) (shapeCast S128x1024 x2 shapeCasts_S128x16x64_S128x1024)))
      (k0_pay7 (F := Ideal) (shapeCast S128x256 x0 shapeCasts_S128x1x256_S128x256) (packIn (bbiA lam li ldt br bi))) (ix2 s n) =
    resIm x0 x1 x2 lam li br bi ldt s ⟨n.val / 64, by omega⟩ ⟨n.val % 64, by omega⟩ := by
  rw [im_apply]
  pointwise
  simp only [packIn_apply, bbiA_apply, areA_apply, aimA_apply, ← mul_assoc]
  rw [sum_in (fun q => _) (n.val / 64) (by omega)]
  unfold resIm newIm
  congr 4
  funext h
  exact congrArg₂ (fun a b => x0 (ix3 s 0 ⟨16 * (n.val / 64) + h.val, by omega⟩) * inIm (fun g p => lam (ix2 g p)) (fun g p => li (ix2 g p)) (fun g => ldt (ix1 g))
    (fun g p h => br (ix3 g p h)) (fun g p h => bi (ix3 g p h)) a ⟨n.val % 64, by omega⟩ b)
    (Fin.ext (by show (16 * (n.val / 64) + h.val) / 16 = n.val / 64; omega)) (Fin.ext (by show (16 * (n.val / 64) + h.val) % 16 = h.val; omega))

/-- A row times the packed output matrix keeps the column's group. -/
theorem out_prep (A : Fin 1024 → EReal) (q : Fin 256) :
    (∑ n, A n * packOut cr (ix2 n q)) = ∑ p : Fin 64, A ⟨64 * (q.val / 16) + p.val, by omega⟩ * cr (ix3 ⟨q.val / 16, by omega⟩ ⟨q.val % 16, by omega⟩ p) := by
  simp only [packOut_apply, ← mul_assoc]
  rw [sum_out (fun n => _) (q.val / 16) (by omega)]
  refine Finset.sum_congr rfl fun p _ => ?_
  exact congrArg₂ (fun a b => A ⟨64 * (q.val / 16) + p.val, by omega⟩ * cr (ix3 a ⟨q.val % 16, by omega⟩ b))
    (Fin.ext (by show (64 * (q.val / 16) + p.val) / 64 = q.val / 16; omega)) (Fin.ext (by show (64 * (q.val / 16) + p.val) % 64 = p.val; omega))

/-- The new state's real part over the point's blocks. -/
theorem stRe_val (c : Dev nD) (t : Fin cfg0.N) (s : Fin 128) (n : Fin 1024) :
    stRe m c t (ix2 s n) = resRe (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg10)) s ⟨n.val / 64, by omega⟩ ⟨n.val % 64, by omega⟩ := by
  unfold stRe
  rw [blk0, blk1, blk2, blk3, blk4, blk5, V_u, V_xr, V_xi, V_ar, V_ai, V_br]
  exact re_prep _ _ _ _ _ _ _ _ s n
/-- The new state's imaginary part over the point's blocks. -/
theorem stIm_val (c : Dev nD) (t : Fin cfg0.N) (s : Fin 128) (n : Fin 1024) :
    stIm m c t (ix2 s n) = resIm (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg10)) s ⟨n.val / 64, by omega⟩ ⟨n.val % 64, by omega⟩ := by
  unfold stIm
  rw [blk0, blk1, blk2, blk3, blk4, blk6, V_u, V_xr, V_xi, V_ar, V_ai, V_bi]
  exact im_prep _ _ _ _ _ _ _ _ s n
/-- The first point. -/
def pt0 : Fin cfg0.N := ⟨0, by have h : cfg0.N = 1 := N_0; omega⟩
/-- The state's real parts after the run. -/
theorem fin_re (c : Dev nD) (s : Fin 128) (n : Fin 1024) :
    (dats m 0 c).arrAt 12 cfg0.N (ix2 s n) = resRe (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg10)) s ⟨n.val / 64, by omega⟩ ⟨n.val % 64, by omega⟩ :=
  (arr12 m c pt0 s n).trans ((congrFun (out12 m c pt0) (ix2 s n)).trans (stRe_val m c pt0 s n))
/-- The state's imaginary parts after the run. -/
theorem fin_im (c : Dev nD) (s : Fin 128) (n : Fin 1024) :
    (dats m 0 c).arrAt 13 cfg0.N (ix2 s n) = resIm (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg10)) s ⟨n.val / 64, by omega⟩ ⟨n.val % 64, by omega⟩ :=
  (arr13 m c pt0 s n).trans ((congrFun (out13 m c pt0) (ix2 s n)).trans (stIm_val m c pt0 s n))
/-- A gain's row. -/
theorem flat_d (x : FVec Ideal S256 .f32) (q : Fin 256) : shapeCast S1x256 x shapeCasts_S256_S1x256 (ix2 0 q) = x (ix1 q) := by
  pointwise
/-- The input's rows, flat. -/
theorem flat_u (x : FVec Ideal S128x1x256 .f32) (s : Fin 128) (q : Fin 256) : shapeCast S128x256 x shapeCasts_S128x1x256_S128x256 (ix2 s q) = x (ix3 s 0 q) := by
  pointwise
/-- The branch's output after the run. -/
theorem fin_y (c : Dev nD) (s : Fin 128) (j : Fin 256) :
    (dats m 0 c).arrAt 11 cfg0.N (ix2 s j) = resO (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) s j := by
  refine (arr11 m c pt0 s j).trans ((congrFun (out11 m c pt0) (ix2 s j)).trans ?_)
  rw [blk0, blk7, blk8, blk9, blk10, V_u, V_cr, V_ci, V_d, V_g]
  refine (pay1_apply _ _ _ _ _ _ _ s j).trans ?_
  unfold resO
  refine congrArg (fun y => ssmO y _ j) (funext fun q => ?_)
  rw [out_prep _ (fun n => stRe m c pt0 (ix2 s n)) q, out_prep _ (fun n => stIm m c pt0 (ix2 s n)) q, flat_d, flat_u]
  simp only [stRe_val, stIm_val]
  unfold ssmY
  refine congrArg (· + _) (congrArg₂ (· - ·) (Finset.sum_congr rfl fun p _ => ?_) (Finset.sum_congr rfl fun p _ => ?_))
  · exact congrArg₂ (fun a b => resRe (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg10)) s a b * _)
      (Fin.ext (by show (64 * (q.val / 16) + p.val) / 64 = q.val / 16; omega)) (Fin.ext (by show (64 * (q.val / 16) + p.val) % 64 = p.val; omega))
  · exact congrArg₂ (fun a b => resIm (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg10)) s a b * _)
      (Fin.ext (by show (64 * (q.val / 16) + p.val) / 64 = q.val / 16; omega)) (Fin.ext (by show (64 * (q.val / 16) + p.val) % 64 = p.val; omega))

end Cert.Kernel7Ideal.Hand
end
-- ==== Proof.Ssm.Ref.lean ====
module

public import proofs.«01_k».proof.Proof.Ssm.Spec
public import Idealize.ShloMosaic.Lib.Routing.OpsOrder
public import proofs.«01_k».proof.Proof.Gen.Reference7Ideal.Run
public import proofs.«01_k».proof.Proof.Gen.Reference7Ideal.Read
@[expose] public section

set_option maxRecDepth 16384
noncomputable section

namespace Cert.Reference7Ideal.Hand

open Cert.Reference7Ideal Cert.Reference7Ideal.Gen Cert.Reference7Ideal.Read Idealize.ShloMosaic Idealize.ShloMosaic.TcCoe Idealize.SL.Sem Cert.Hand

/-- A fold over distinct elements of which exactly one is taken. -/
theorem fold_one {α β γ : Type} (f : α → β → α) (P : γ → Prop) [DecidablePred P] (u : γ → β) (n0 : γ) (hP : ∀ n, P n ↔ n = n0) :
    ∀ (L : List γ) (x : α), L.Nodup → n0 ∈ L → L.foldl (fun a n => if P n then f a (u n) else a) x = f x (u n0)
  | [], _, _, h => absurd h List.not_mem_nil
  | n :: L, x, hd, h => by
    rw [List.foldl_cons]
    by_cases e : n = n0
    · subst e
      rw [if_pos ((hP n).2 rfl)]
      have hn := (List.nodup_cons.1 hd).1
      have : ∀ (M : List γ) (y : α), n ∉ M → M.foldl (fun a k => if P k then f a (u k) else a) y = y := by
        intro M
        induction M with
        | nil => intro y _; rfl
        | cons k M ih =>
          intro y hk
          simp only [List.mem_cons, not_or] at hk
          rw [List.foldl_cons, if_neg (fun q => hk.1 ((hP k).1 q).symm)]
          exact ih y hk.2
      exact this L _ hn
    · rw [if_neg fun q => e ((hP n).1 q)]
      refine fold_one f P u n0 hP L x (List.nodup_cons.1 hd).2 ?_
      exact (List.mem_cons.1 h).resolve_left fun q => e q.symm

/-- Update `(a, g, p)` lands at the only row of sequence `a`, group `g`, state `p`. -/
theorem lands (idx : IVec S1 32) (h0 : ∀ i, idx i = 0#32) (a s : Fin 128) (g g' : Fin 16) (p p' : Fin 64) :
    scatter_S128x1x16x64_S1_S128x16x64_012_1_1_0.resultIdx? (ix3 a g p) idx = some (ix4 s 0 g' p') ↔ a = s ∧ g = g' ∧ p = p' := by
  have hs : ∀ k, scatter_S128x1x16x64_S1_S128x16x64_012_1_1_0.start (ix3 a g p) idx k = 0 := by
    intro k
    unfold ScatterDims.start
    split
    · rw [h0]; rfl
    · rfl
  have w0 : scatter_S128x1x16x64_S1_S128x16x64_012_1_1_0.window (ix3 a g p) 0 = a.val := rfl
  have w1 : scatter_S128x1x16x64_S1_S128x16x64_012_1_1_0.window (ix3 a g p) 1 = 0 := rfl
  have w2 : scatter_S128x1x16x64_S1_S128x16x64_012_1_1_0.window (ix3 a g p) 2 = g.val := rfl
  have w3 : scatter_S128x1x16x64_S1_S128x16x64_012_1_1_0.window (ix3 a g p) 3 = p.val := rfl
  rw [Routing.resultIdx?_eq_some]
  constructor
  · intro h
    have e0 := h 0
    have e2 := h 2
    have e3 := h 3
    rw [hs, w0] at e0
    rw [hs, w2] at e2
    rw [hs, w3] at e3
    have e0' : (0 : Int) + (a.val : Int) = (s.val : Int) := e0
    have e2' : (0 : Int) + (g.val : Int) = (g'.val : Int) := e2
    have e3' : (0 : Int) + (p.val : Int) = (p'.val : Int) := e3
    exact ⟨Fin.ext (by omega), Fin.ext (by omega), Fin.ext (by omega)⟩
  · rintro ⟨rfl, rfl, rfl⟩ k
    rw [hs]
    match k with
    | ⟨0, _⟩ => exact (congrArg (fun n : ℕ => (0 : Int) + (n : Int)) w0).trans (zero_add _)
    | ⟨1, _⟩ => exact (congrArg (fun n : ℕ => (0 : Int) + (n : Int)) w1).trans (zero_add _)
    | ⟨2, _⟩ => exact (congrArg (fun n : ℕ => (0 : Int) + (n : Int)) w2).trans (zero_add _)
    | ⟨3, _⟩ => exact (congrArg (fun n : ℕ => (0 : Int) + (n : Int)) w3).trans (zero_add _)

/-- Adding an array over sequences into the only row adds it at every element. -/
theorem scatter_row (x : FVec Ideal S128x1x16x64 .f32) (idx : IVec S1 32) (h0 : ∀ i, idx i = 0#32) (u : FVec Ideal S128x16x64 .f32) (s : Fin 128) (g : Fin 16) (p : Fin 64) :
    Host.scatter scatter_S128x1x16x64_S1_S128x16x64_012_1_1_0 (FloatOps.addf (F := Ideal) (φ := .f32)) x idx u (ix4 s 0 g p) = x (ix4 s 0 g p) + u (ix3 s g p) := by
  rw [← Routing.scatterIn_finRange, Routing.scatterIn_at]
  refine (fold_one (FloatOps.addf (F := Ideal) (φ := .f32)) _ (fun n => u (S128x16x64.rowMajor.symm n)) (S128x16x64.rowMajor (ix3 s g p)) (fun n => ?_) _ _ (List.nodup_finRange _) (List.mem_finRange _)).trans ?_
  · obtain ⟨i, rfl⟩ := S128x16x64.rowMajor.surjective n
    rw [Equiv.symm_apply_apply]
    idx_vars i
    rw [lands idx h0]
    constructor
    · rintro ⟨rfl, rfl, rfl⟩; rfl
    · intro h
      have h' := S128x16x64.rowMajor.injective h
      exact ⟨congrFun h' 0, congrFun h' 1, congrFun h' 2⟩
  · rw [Equiv.symm_apply_apply]; rfl

variable (x0 : FVec Ideal S128x1x256 .f32) (x1 x2 : FVec Ideal S128x16x64 .f32) (x3 x4 : FVec Ideal S16x64 .f32) (x5 x6 : FVec Ideal S16x64x16 .f32)
  (x7 x8 : FVec Ideal S16x16x64 .f32) (x9 : FVec Ideal S256 .f32) (x10 : FVec Ideal S16 .f32) (x11 : FVec Ideal S256x512 .f32)

/-- The discrete pole's real part. -/
theorem v11_apply (g : Fin 16) (p : Fin 64) : val_main_v11 (F := Ideal) x3 x4 x10 (ix2 g p) = barRe (fun g p => x3 (ix2 g p)) (fun g p => x4 (ix2 g p)) (fun g => x10 (ix1 g)) g p := by
  pointwise [val_main_v11, val_main_v10, val_main_v9, val_main_v8, val_main_v7, val_main_v6, val_main_v5, val_main_v4, val_main_v3, val_main_v2, val_main_v1, val_main_cst, barRe, poleMag, poleRe]
/-- The discrete pole's imaginary part. -/
theorem v15_apply (g : Fin 16) (p : Fin 64) : val_main_v15 (F := Ideal) x3 x4 x10 (ix2 g p) = barIm (fun g p => x3 (ix2 g p)) (fun g p => x4 (ix2 g p)) (fun g => x10 (ix1 g)) g p := by
  pointwise [val_main_v15, val_main_v14, val_main_v13, val_main_v12, val_main_v7, val_main_v6, val_main_v5, val_main_v4, val_main_v3, val_main_v2, val_main_v1, val_main_cst, barIm, poleMag, poleRe]
/-- The input factor's real part. -/
theorem v24_apply (g : Fin 16) (p : Fin 64) : val_main_v24 (F := Ideal) x3 x4 x10 (ix2 g p) = facRe (fun g p => x3 (ix2 g p)) (fun g p => x4 (ix2 g p)) (fun g => x10 (ix1 g)) g p := by
  pointwise [val_main_v24, val_main_v23, val_main_v22, val_main_v21, val_main_v20, val_main_v19, val_main_cst_0, val_main_v18, val_main_v17, val_main_v16, val_main_v2, val_main_v1, val_main_cst]
  simp only [v11_apply, v15_apply, facRe, poleSq, poleRe]
/-- The input factor's imaginary part. -/
theorem v30_apply (g : Fin 16) (p : Fin 64) : val_main_v30 (F := Ideal) x3 x4 x10 (ix2 g p) = facIm (fun g p => x3 (ix2 g p)) (fun g p => x4 (ix2 g p)) (fun g => x10 (ix1 g)) g p := by
  pointwise [val_main_v30, val_main_v29, val_main_v28, val_main_v27, val_main_v26, val_main_v25, val_main_cst_1, val_main_v18, val_main_v17, val_main_v16, val_main_v2, val_main_v1, val_main_cst]
  simp only [v11_apply, v15_apply, facIm, poleSq, poleRe]
/-- The input matrix's real part. -/
theorem v37_apply (g : Fin 16) (p : Fin 64) (h : Fin 16) : val_main_v37 (F := Ideal) x3 x4 x5 x6 x10 (ix3 g p h)
    = inRe (fun g p => x3 (ix2 g p)) (fun g p => x4 (ix2 g p)) (fun g => x10 (ix1 g)) (fun g p h => x5 (ix3 g p h)) (fun g p h => x6 (ix3 g p h)) g p h := by
  pointwise [val_main_v37, val_main_v36, val_main_v35, val_main_v34, val_main_v33, val_main_v32, val_main_v31]
  simp only [v24_apply, v30_apply, inRe]
/-- The input matrix's imaginary part. -/
theorem v44_apply (g : Fin 16) (p : Fin 64) (h : Fin 16) : val_main_v44 (F := Ideal) x3 x4 x5 x6 x10 (ix3 g p h)
    = inIm (fun g p => x3 (ix2 g p)) (fun g p => x4 (ix2 g p)) (fun g => x10 (ix1 g)) (fun g p h => x5 (ix3 g p h)) (fun g p h => x6 (ix3 g p h)) g p h := by
  pointwise [val_main_v44, val_main_v43, val_main_v42, val_main_v41, val_main_v40, val_main_v39, val_main_v38]
  simp only [v24_apply, v30_apply, inIm]
/-- The input's contribution to the state, real. -/
theorem v46_apply (s : Fin 128) (g : Fin 16) (p : Fin 64) : val_main_v46 (F := Ideal) x0 x3 x4 x5 x6 x10 (ix4 s 0 g p)
    = ∑ h : Fin 16, x0 (ix3 s 0 ⟨16 * g.val + h.val, by omega⟩) * inRe (fun g p => x3 (ix2 g p)) (fun g p => x4 (ix2 g p)) (fun g => x10 (ix1 g)) (fun g p h => x5 (ix3 g p h)) (fun g p h => x6 (ix3 g p h)) g p h := by
  pointwise [val_main_v46, val_main_v45, val_main_v0]
  simp only [v37_apply]
  exact Finset.sum_congr rfl fun h _ => (mul_comm _ _).trans (congrArg (fun a => x0 (ix3 s 0 a) * _) (Fin.ext (by show g.val * 16 + h.val = 16 * g.val + h.val; omega)))
/-- The input's contribution to the state, imaginary. -/
theorem v48_apply (s : Fin 128) (g : Fin 16) (p : Fin 64) : val_main_v48 (F := Ideal) x0 x3 x4 x5 x6 x10 (ix4 s 0 g p)
    = ∑ h : Fin 16, x0 (ix3 s 0 ⟨16 * g.val + h.val, by omega⟩) * inIm (fun g p => x3 (ix2 g p)) (fun g p => x4 (ix2 g p)) (fun g => x10 (ix1 g)) (fun g p h => x5 (ix3 g p h)) (fun g p h => x6 (ix3 g p h)) g p h := by
  pointwise [val_main_v48, val_main_v47, val_main_v0]
  simp only [v44_apply]
  exact Finset.sum_congr rfl fun h _ => (mul_comm _ _).trans (congrArg (fun a => x0 (ix3 s 0 a) * _) (Fin.ext (by show g.val * 16 + h.val = 16 * g.val + h.val; omega)))
/-- The new state's real part. -/
theorem v57_apply (s : Fin 128) (g : Fin 16) (p : Fin 64) : val_main_v57 (F := Ideal) x0 x1 x2 x3 x4 x5 x6 x10 (ix4 s 0 g p)
    = newRe (fun g p => x3 (ix2 g p)) (fun g p => x4 (ix2 g p)) (fun g => x10 (ix1 g)) (fun g p h => x5 (ix3 g p h)) (fun g p h => x6 (ix3 g p h))
      (fun q => x0 (ix3 s 0 q)) (fun g p => x1 (ix3 s g p)) (fun g p => x2 (ix3 s g p)) g p := by
  unfold val_main_v57
  refine (scatter_row _ _ (fun i => by pointwise [val_main_v56, val_main_c]) _ s g p).trans ?_
  rw [v46_apply]
  pointwise [val_main_v55, val_main_v54, val_main_v53, val_main_v52, val_main_v51, val_main_v50, val_main_v49]
  simp only [v11_apply, v15_apply, newRe, sub_eq_add_neg, add_assoc]
/-- The new state's imaginary part. -/
theorem v66_apply (s : Fin 128) (g : Fin 16) (p : Fin 64) : val_main_v66 (F := Ideal) x0 x1 x2 x3 x4 x5 x6 x10 (ix4 s 0 g p)
    = newIm (fun g p => x3 (ix2 g p)) (fun g p => x4 (ix2 g p)) (fun g => x10 (ix1 g)) (fun g p h => x5 (ix3 g p h)) (fun g p h => x6 (ix3 g p h))
      (fun q => x0 (ix3 s 0 q)) (fun g p => x1 (ix3 s g p)) (fun g p => x2 (ix3 s g p)) g p := by
  unfold val_main_v66
  refine (scatter_row _ _ (fun i => by pointwise [val_main_v65, val_main_c_2]) _ s g p).trans ?_
  rw [v48_apply]
  pointwise [val_main_v64, val_main_v63, val_main_v62, val_main_v61, val_main_v60, val_main_v59, val_main_v58]
  simp only [v11_apply, v15_apply, newIm, add_assoc]
/-- The branch's columns before the gate. -/
theorem v79_apply (s : Fin 128) (q : Fin 256) : val_main_v79 (F := Ideal) x0 x1 x2 x3 x4 x5 x6 x7 x8 x9 x10 (ix3 s 0 q)
    = ssmY (fun q => x0 (ix3 s 0 q))
      (newRe (fun g p => x3 (ix2 g p)) (fun g p => x4 (ix2 g p)) (fun g => x10 (ix1 g)) (fun g p h => x5 (ix3 g p h)) (fun g p h => x6 (ix3 g p h))
        (fun q => x0 (ix3 s 0 q)) (fun g p => x1 (ix3 s g p)) (fun g p => x2 (ix3 s g p)))
      (newIm (fun g p => x3 (ix2 g p)) (fun g p => x4 (ix2 g p)) (fun g => x10 (ix1 g)) (fun g p h => x5 (ix3 g p h)) (fun g p h => x6 (ix3 g p h))
        (fun q => x0 (ix3 s 0 q)) (fun g p => x1 (ix3 s g p)) (fun g p => x2 (ix3 s g p)))
      (fun g h p => x7 (ix3 g h p)) (fun g h p => x8 (ix3 g h p)) (fun q => x9 (ix1 q)) q := by
  pointwise [val_main_v79, val_main_v78, val_main_v77, val_main_v76, val_main_v75, val_main_v74, val_main_v73, val_main_v72, val_main_v71, val_main_v70, val_main_v69, val_main_v0]
  simp only [v57_apply, v66_apply, ssmY, mul_comm (x7 _), mul_comm (x8 _)]
/-- The branch's gated columns. -/
theorem v92_apply (s : Fin 128) (q : Fin 256) : val_main_v92 (F := Ideal) x0 x1 x2 x3 x4 x5 x6 x7 x8 x9 x10 (ix3 s 0 q)
    = gelu (val_main_v79 (F := Ideal) x0 x1 x2 x3 x4 x5 x6 x7 x8 x9 x10 (ix3 s 0 q)) := by
  pointwise [val_main_v92, val_main_v91, val_main_v90, val_main_cst_6, val_main_v89, val_main_v88, val_main_cst_5, val_main_v87, val_main_v86, val_main_v85, val_main_cst_4, val_main_v84,
    val_main_v83, val_main_v82, val_main_cst_3, val_main_v81, val_main_v80]
  generalize val_main_v79 (F := Ideal) x0 x1 x2 x3 x4 x5 x6 x7 x8 x9 x10 (ix3 s 0 q) = y
  unfold gelu
  simp only [mul_assoc, mul_left_comm, mul_comm]
/-- The branch's output. -/
theorem v103_apply (s : Fin 128) (j : Fin 256) : val_main_v103 (F := Ideal) x0 x1 x2 x3 x4 x5 x6 x7 x8 x9 x10 x11 (ix2 s j)
    = ssmO (fun q => val_main_v79 (F := Ideal) x0 x1 x2 x3 x4 x5 x6 x7 x8 x9 x10 (ix3 s 0 q)) (fun q j => x11 (ix2 q j)) j := by
  pointwise [val_main_v103, val_main_v102, val_main_v101, val_main_v100, val_main_cst_8, val_main_v99, val_main_v98, val_main_cst_7, val_main_v97, val_main_v96, val_main_v95, val_main_v94, val_main_v93]
  simp only [v92_apply, ssmO, lgs_eq]
  rfl
/-- The state's real parts, flat. -/
theorem v105_apply (s : Fin 128) (n : Fin 1024) : val_main_v105 (F := Ideal) x0 x1 x2 x3 x4 x5 x6 x10 (ix2 s n)
    = val_main_v57 (F := Ideal) x0 x1 x2 x3 x4 x5 x6 x10 (ix4 s 0 ⟨n.val / 64, by omega⟩ ⟨n.val % 64, by omega⟩) := by
  pointwise [val_main_v105, val_main_v104]
/-- The state's imaginary parts, flat. -/
theorem v107_apply (s : Fin 128) (n : Fin 1024) : val_main_v107 (F := Ideal) x0 x1 x2 x3 x4 x5 x6 x10 (ix2 s n)
    = val_main_v66 (F := Ideal) x0 x1 x2 x3 x4 x5 x6 x10 (ix4 s 0 ⟨n.val / 64, by omega⟩ ⟨n.val % 64, by omega⟩) := by
  pointwise [val_main_v107, val_main_v106]

end Cert.Reference7Ideal.Hand
end
-- ==== Proof.Ssm.Equal.lean ====
module

public import proofs.«01_k».proof.Defs
public import proofs.«01_k».proof.Proof.Ssm.Final
public import proofs.«01_k».proof.Proof.Ssm.Ref
@[expose] public section

set_option maxRecDepth 16384
noncomputable section

namespace Cert.Kernel7Ideal.Hand

open Cert.Kernel7Ideal Cert.Kernel7Ideal.Gen Idealize.ShloMosaic Idealize.ShloMosaic.TcCoe Idealize.SL.Sem Cert.Hand

/-- The gated output, from the same arguments. -/
theorem equal_y (m : (ℓ : Loc nD τ sig) → Buf (Elt Ideal) ℓ) (c : Dev nD) :
    Cert.Reference7Ideal.Read.val_main_v103 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) = (dats m 0 c).arrAt 11 cfg0.N := by
  funext i
  idx_vars i
  refine Eq.trans ?_ (fin_y m c i0 i1).symm
  refine (Cert.Reference7Ideal.Hand.v103_apply _ _ _ _ _ _ _ _ _ _ _ _ i0 i1).trans ?_
  unfold resO
  exact congrArg (fun y => ssmO y _ i1) (funext fun q => Cert.Reference7Ideal.Hand.v79_apply _ _ _ _ _ _ _ _ _ _ _ i0 q)

/-- The real parts of the state, from the same arguments. -/
theorem equal_re (m : (ℓ : Loc nD τ sig) → Buf (Elt Ideal) ℓ) (c : Dev nD) :
    Cert.Reference7Ideal.Read.val_main_v105 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg10)) = (dats m 0 c).arrAt 12 cfg0.N := by
  funext i
  idx_vars i
  refine Eq.trans ?_ (fin_re m c i0 i1).symm
  exact (Cert.Reference7Ideal.Hand.v105_apply _ _ _ _ _ _ _ _ i0 i1).trans (Cert.Reference7Ideal.Hand.v57_apply _ _ _ _ _ _ _ _ i0 _ _)

/-- The imaginary parts of the state, from the same arguments. -/
theorem equal_im (m : (ℓ : Loc nD τ sig) → Buf (Elt Ideal) ℓ) (c : Dev nD) :
    Cert.Reference7Ideal.Read.val_main_v107 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg10)) = (dats m 0 c).arrAt 13 cfg0.N := by
  funext i
  idx_vars i
  refine Eq.trans ?_ (fin_im m c i0 i1).symm
  exact (Cert.Reference7Ideal.Hand.v107_apply _ _ _ _ _ _ _ _ i0 i1).trans (Cert.Reference7Ideal.Hand.v66_apply _ _ _ _ _ _ _ _ i0 _ _)

set_option maxHeartbeats 2000000 in
/-- The kernel's three results are the reference's. -/
theorem s5_sample_equal : Cert.algebraic_Kernel7Ideal_Reference7Ideal
    (hKernel7Ideal := Cert.Kernel7Ideal.Gen.facts) (hReference7Ideal := Cert.Reference7Ideal.Gen.facts) := by
  intro m ρ m' ρ' _ hag
  refine ⟨fun c => (dats m 0 c).arrAt 11 cfg0.N, fun c => (dats m 0 c).arrAt 12 cfg0.N, fun c => (dats m 0 c).arrAt 13 cfg0.N, Value.run_blocks m ρ, ?_⟩
  refine (θ_run _ _ _).mono (fun r h c => ?_) (Cert.Reference7Ideal.Value.run m' ρ')
  obtain ⟨hy, hr, hi, hkeep⟩ := h c
  obtain ⟨a0, a1, a2, a3, a4, a5, a6, a7, a8, a9, a10, a11⟩ := hag c
  have b0 : StableHlo.launchContents m' c (Proc.tc.devRef Cert.Reference7Ideal.main_arg0) = m (c.tc.loc main_arg0) := a0
  have b1 : StableHlo.launchContents m' c (Proc.tc.devRef Cert.Reference7Ideal.main_arg1) = m (c.tc.loc main_arg1) := a1
  have b2 : StableHlo.launchContents m' c (Proc.tc.devRef Cert.Reference7Ideal.main_arg2) = m (c.tc.loc main_arg2) := a2
  have b3 : StableHlo.launchContents m' c (Proc.tc.devRef Cert.Reference7Ideal.main_arg3) = m (c.tc.loc main_arg3) := a3
  have b4 : StableHlo.launchContents m' c (Proc.tc.devRef Cert.Reference7Ideal.main_arg4) = m (c.tc.loc main_arg4) := a4
  have b5 : StableHlo.launchContents m' c (Proc.tc.devRef Cert.Reference7Ideal.main_arg5) = m (c.tc.loc main_arg5) := a5
  have b6 : StableHlo.launchContents m' c (Proc.tc.devRef Cert.Reference7Ideal.main_arg6) = m (c.tc.loc main_arg6) := a6
  have b7 : StableHlo.launchContents m' c (Proc.tc.devRef Cert.Reference7Ideal.main_arg7) = m (c.tc.loc main_arg7) := a7
  have b8 : StableHlo.launchContents m' c (Proc.tc.devRef Cert.Reference7Ideal.main_arg8) = m (c.tc.loc main_arg8) := a8
  have b9 : StableHlo.launchContents m' c (Proc.tc.devRef Cert.Reference7Ideal.main_arg9) = m (c.tc.loc main_arg9) := a9
  have b10 : StableHlo.launchContents m' c (Proc.tc.devRef Cert.Reference7Ideal.main_arg10) = m (c.tc.loc main_arg10) := a10
  have b11 : StableHlo.launchContents m' c (Proc.tc.devRef Cert.Reference7Ideal.main_arg11) = m (c.tc.loc main_arg11) := a11
  refine ⟨hy.trans ?_, hr.trans ?_, hi.trans ?_, hkeep⟩
  · refine (Cert.Reference7Ideal.Read.val_main_v103_eq _).trans ?_
    clear hy hr hi hkeep
    rw [b0, b1, b2, b3, b4, b5, b6, b7, b8, b9, b10, b11]
    exact equal_y m c
  · refine (Cert.Reference7Ideal.Read.val_main_v105_eq _).trans ?_
    clear hy hr hi hkeep
    rw [b0, b1, b2, b3, b4, b5, b6, b10]
    exact equal_re m c
  · refine (Cert.Reference7Ideal.Read.val_main_v107_eq _).trans ?_
    clear hy hr hi hkeep
    rw [b0, b1, b2, b3, b4, b5, b6, b10]
    exact equal_im m c

end Cert.Kernel7Ideal.Hand
end
-- ==== Proof.Prep.Pay.lean ====
module

public import Idealize.ShloMosaic.Lib.VecWindow
public import proofs.«01_k».proof.Proof.Gen.Kernel8Ideal.Value
public import proofs.«01_k».proof.Proof.Inp.Final
@[expose] public section

set_option maxRecDepth 16384
noncomputable section

namespace Cert.Kernel8Ideal.Hand

open Cert.Kernel8Ideal Cert.Kernel8Ideal.Gen Idealize.ShloMosaic Idealize.ShloMosaic.TcCoe Idealize.SL.Sem Cert.Hand
open Cert.Kernel5Ideal.Hand (ss_eq sum_sel three_parts absf_max add_four kf)

/-- A load of a whole block reads the block. -/
theorem whole_ld {S : Shape} {e : EltTy} {a : Memref sig .tc .vmem S e} (h : a.IsWhole) (x : Vec Ideal S e) {off : Fin S.rank → ℕ}
    (inb : ∀ k, off k + S.size k ≤ S.size k) : a.view.readAt (Elt Ideal) (Rect.unit off S.size inb).toLoadRect (h.unread x) = x :=
  (View.readAt_full ..).trans (h.read_unread x)

/-- A load of a part of a block reads that part. -/
theorem part_ld {S : Shape} {e : EltTy} {a : Memref sig .tc .vmem S e} (h : a.IsWhole) (x : Vec Ideal S e) {off size : Fin S.rank → ℕ}
    (inb : ∀ k, off k + size k ≤ S.size k) (y : (Rect.unit off size inb).shape.Idx) :
    a.view.readAt (Elt Ideal) (Rect.unit off size inb).toLoadRect (h.unread x) y = x ((Rect.unit off size inb).emb y) :=
  congrFun (h.read_unread x) _

/-- The zero-one matrix of the heads' columns. -/
theorem ones_apply (r c : Fin 256) : k0_pay6 (F := Ideal) (ix2 r c) = if r.val / 64 = c.val / 64 then 1 else 0 := by
  pointwise [k0_pay6]
  rw [shift_six _ (by omega), shift_six _ (by omega), bit_eq _ _ (by omega) (by omega)]
  unfold Scalar.select
  by_cases h : r.val / 64 = c.val / 64 <;> simp [h]

/-- Passing through `silu`, at an element. -/
theorem act_apply (v : FVec Ideal S128x768 .f32) (s : Fin 128) (n : Fin 768) : k0_pay10 (F := Ideal) v (ix2 s n) = silu (v (ix2 s n)) := by
  pointwise [k0_pay10]
  rfl

/-- The queries of the delta rule. -/
theorem qa_apply (v : FVec Ideal S128x768 .f32) (s : Fin 128) (c : Fin 256) (hr : ∀ n, ∃ q : ℝ, silu (v (ix2 s n)) = (q : EReal)) :
    k0_pay11 (F := Ideal) (k0_pay6 (F := Ideal)) v (ix2 s c) = l2 (fun c => silu (v (ix2 s ⟨c.val, by omega⟩))) c * Ideal.ofBits FTy.f32 1040187392#32 := by
  pointwise [k0_pay11, ones_apply, act_apply]
  rw [ss_eq (fun c => silu (v (ix2 s ⟨c.val, by omega⟩))) (fun c => hr _) c]
  rfl

/-- The keys of the delta rule. -/
theorem ka_apply (v : FVec Ideal S128x768 .f32) (s : Fin 128) (c : Fin 256) (hr : ∀ n, ∃ q : ℝ, silu (v (ix2 s n)) = (q : EReal)) :
    k0_pay17 (F := Ideal) (k0_pay6 (F := Ideal)) (k0_pay10 (F := Ideal) v) (ix2 s c) = l2 (fun c => silu (v (ix2 s ⟨256 + c.val, by omega⟩))) c := by
  pointwise [k0_pay17, ones_apply, act_apply]
  rw [ss_eq (fun c => silu (v (ix2 s ⟨256 + c.val, by omega⟩))) (fun c => hr _) c]
  rfl

/-- The update gate, repeated over a head's columns. -/
theorem beta_apply (v : FVec Ideal S128x128 .f32) (s : Fin 128) (c : Fin 256) (h : ∃ q : ℝ, v (ix2 s ⟨c.val / 64 + 4, by omega⟩) = (q : EReal)) :
    k0_pay32 (F := Ideal) v (iota .tc S128x256 32 [0] iota_S128x256_d0_w32) k0_pay29 (ix2 s c) = lgs (v (ix2 s ⟨c.val / 64 + 4, by omega⟩)) := by
  pointwise [k0_pay32, k0_pay29]
  rw [shift_six _ (by omega), add_four]
  rw [sum_sel (fun x => v (ix2 s x)) _ (by omega),
    sum_sel (fun x => v (ix2 s x) - v (ix2 s x)) _ (by omega),
    sum_sel (fun x => v (ix2 s x) - v (ix2 s x) - (v (ix2 s x) - v (ix2 s x))) _ (by omega)]
  rw [three_parts _ h]
  rfl

/-- The decay's logarithm, repeated over a head's columns. -/
theorem g_apply (v : FVec Ideal S128x128 .f32) (x5 x6 : FVec Ideal S1x256 .f32) (s : Fin 128) (c : Fin 256) (h : ∃ q : ℝ, v (ix2 s ⟨c.val / 64, by omega⟩) = (q : EReal)) :
    k0_pay33 (F := Ideal) (k0_pay31 (F := Ideal) v k0_pay30 (Ideal.ofBits .f32 0x3F800000#32) (Ideal.ofBits .f32 0x00000000#32)) x5 x6 (ix2 s c)
      = -(Ideal.exp (x5 (ix2 0 c))) * soft (v (ix2 s ⟨c.val / 64, by omega⟩) + x6 (ix2 0 c)) := by
  pointwise [k0_pay33, k0_pay31, k0_pay30, k0_pay29]
  rw [shift_six _ (by omega)]
  rw [sum_sel (fun x => v (ix2 s x)) _ (by omega),
    sum_sel (fun x => v (ix2 s x) - v (ix2 s x)) _ (by omega),
    sum_sel (fun x => v (ix2 s x) - v (ix2 s x) - (v (ix2 s x) - v (ix2 s x))) _ (by omega)]
  rw [three_parts _ h, absf_max, zero_sub, zero_sub]
  rfl

/-- The forget gate's logarithm of gated linear attention. -/
theorem fb_apply (x1 : FVec Ideal S128x1152 .f32) (x7 : FVec Ideal S128x256 .f32) (x8 : FVec Ideal S1x256 .f32) (s : Fin 128) (c : Fin 256) :
    k0_pay45 (F := Ideal) (k0_pay44 (F := Ideal) x1 x7 x8) (ix2 s c)
      = lsg (∑ k : Fin 128, x1 (ix2 s ⟨1024 + k.val, by omega⟩) * x7 (ix2 k c) + x8 (ix2 0 c)) * Ideal.ofBits FTy.f32 1031798784#32 := by
  pointwise [k0_pay45, k0_pay44, k0_pay43]
  rw [absf_max]
  simp only [zero_sub]
  rfl

/-- The queries of the third mixer. -/
theorem qd_apply (x2 : FVec Ideal S128x1024 .f32) (s : Fin 128) (c : Fin 256) :
    k0_pay52 (F := Ideal) x2 (ix2 s c) = silu (x2 (ix2 s ⟨c.val, by omega⟩)) * Ideal.ofBits FTy.f32 1040187392#32 := by
  pointwise [k0_pay52, k0_pay49]
  rfl

/-- The keys of the third mixer. -/
theorem kd_apply (x2 : FVec Ideal S128x1024 .f32) (x9 : FVec Ideal S1x256 .f32) (s : Fin 128) (c : Fin 256) :
    k0_pay56 (F := Ideal) (k0_pay53 (F := Ideal) x9) (k0_pay54 (F := Ideal) x2) (k0_pay55 (F := Ideal)) (ix2 s c) = kf (x9 (ix2 0 c)) (x2 (ix2 s ⟨256 + c.val, by omega⟩)) := by
  pointwise [k0_pay56, k0_pay53, k0_pay54, k0_pay55, k0_pay51, k0_pay50, k0_pay49]
  simp only [zero_sub]
  rfl

/-- The forget gate's logarithm of the third mixer. -/
theorem fd_apply (x2 : FVec Ideal S128x1024 .f32) (x9 : FVec Ideal S1x256 .f32) (s : Fin 128) (c : Fin 256) :
    k0_pay58 (F := Ideal) (k0_pay50 (F := Ideal) x9) (k0_pay51 (F := Ideal) x2) (ix2 s c) = lfg (x2 (ix2 s ⟨256 + c.val, by omega⟩)) (x9 (ix2 0 c)) := by
  pointwise [k0_pay58, k0_pay50, k0_pay51, k0_pay49]
  simp only [zero_sub, absf_max]
  unfold lfg lsg
  by_cases h : 0 < x9 (ix2 0 c)
  · simp only [if_pos h]; rfl
  · simp only [if_neg h]; rfl

end Cert.Kernel8Ideal.Hand
end
-- ==== Proof.Prep.Body.lean ====
module

public import proofs.«01_k».proof.Proof.Prep.Pay
@[expose] public section

set_option maxRecDepth 16384
noncomputable section

namespace Cert.Kernel8Ideal.Hand

open Cert.Kernel8Ideal Cert.Kernel8Ideal.Gen Idealize.ShloMosaic Idealize.ShloMosaic.TcCoe Idealize.SL.Sem Cert.Hand
open Cert.Kernel5Ideal.Hand (ss_eq sum_sel three_parts absf_max add_four kf)

/-- A part of a block's columns, loaded: width 768 of 1152. -/
theorem ld_a (a : Memref sig .tc .vmem S128x1152 .f32) (h : a.IsWhole) (x : Vec Ideal S128x1152 .f32) (inb : ∀ k, (![0, 0] : Fin 2 → ℕ) k + S128x768.size k ≤ S128x1152.size k)
    (s : Fin 128) (n : Fin 768) : a.view.readAt (Elt Ideal) (Rect.unit (s := S128x1152) ![0, 0] S128x768.size inb).toLoadRect (h.unread x) (ix2 s n) = x (ix2 s ⟨n.val, by omega⟩) := by
  refine (part_ld h x inb (ix2 s n)).trans (congrArg x (funext fun k => Fin.ext ?_))
  refine (Rect.emb_apply _ _ _).trans ?_
  match k with
  | ⟨0, _⟩ => show 0 + 1 * s.val = s.val; omega
  | ⟨1, _⟩ => show 0 + 1 * n.val = n.val; omega

/-- A part of a block's columns, loaded: the last 128 of 1152. -/
theorem ld_g (a : Memref sig .tc .vmem S128x1152 .f32) (h : a.IsWhole) (x : Vec Ideal S128x1152 .f32) (inb : ∀ k, (![0, 1024] : Fin 2 → ℕ) k + S128x128.size k ≤ S128x1152.size k)
    (s : Fin 128) (n : Fin 128) : a.view.readAt (Elt Ideal) (Rect.unit (s := S128x1152) ![0, 1024] S128x128.size inb).toLoadRect (h.unread x) (ix2 s n) = x (ix2 s ⟨1024 + n.val, by omega⟩) := by
  refine (part_ld h x inb (ix2 s n)).trans (congrArg x (funext fun k => Fin.ext ?_))
  refine (Rect.emb_apply _ _ _).trans ?_
  match k with
  | ⟨0, _⟩ => show 0 + 1 * s.val = s.val; omega
  | ⟨1, _⟩ => show 1024 + 1 * n.val = 1024 + n.val; omega

/-- A part of the earlier rows, loaded: 768 columns from 0 on. -/
theorem ld_c0 (a : Memref sig .tc .vmem S128x2304 .f32) (h : a.IsWhole) (x : Vec Ideal S128x2304 .f32) (inb : ∀ k, (![0, 0] : Fin 2 → ℕ) k + S128x768.size k ≤ S128x2304.size k)
    (s : Fin 128) (n : Fin 768) : a.view.readAt (Elt Ideal) (Rect.unit (s := S128x2304) ![0, 0] S128x768.size inb).toLoadRect (h.unread x) (ix2 s n) = x (ix2 s ⟨n.val, by omega⟩) := by
  refine (part_ld h x inb (ix2 s n)).trans (congrArg x (funext fun k => Fin.ext ?_))
  refine (Rect.emb_apply _ _ _).trans ?_
  match k with
  | ⟨0, _⟩ => show 0 + 1 * s.val = s.val; omega
  | ⟨1, _⟩ => show 0 + 1 * n.val = n.val; omega

/-- A part of the earlier rows, loaded: 768 columns from 768 on. -/
theorem ld_c1 (a : Memref sig .tc .vmem S128x2304 .f32) (h : a.IsWhole) (x : Vec Ideal S128x2304 .f32) (inb : ∀ k, (![0, 768] : Fin 2 → ℕ) k + S128x768.size k ≤ S128x2304.size k)
    (s : Fin 128) (n : Fin 768) : a.view.readAt (Elt Ideal) (Rect.unit (s := S128x2304) ![0, 768] S128x768.size inb).toLoadRect (h.unread x) (ix2 s n) = x (ix2 s ⟨768 + n.val, by omega⟩) := by
  refine (part_ld h x inb (ix2 s n)).trans (congrArg x (funext fun k => Fin.ext ?_))
  refine (Rect.emb_apply _ _ _).trans ?_
  match k with
  | ⟨0, _⟩ => show 0 + 1 * s.val = s.val; omega
  | ⟨1, _⟩ => show 768 + 1 * n.val = 768 + n.val; omega

/-- A part of the earlier rows, loaded: 768 columns from 1536 on. -/
theorem ld_c2 (a : Memref sig .tc .vmem S128x2304 .f32) (h : a.IsWhole) (x : Vec Ideal S128x2304 .f32) (inb : ∀ k, (![0, 1536] : Fin 2 → ℕ) k + S128x768.size k ≤ S128x2304.size k)
    (s : Fin 128) (n : Fin 768) : a.view.readAt (Elt Ideal) (Rect.unit (s := S128x2304) ![0, 1536] S128x768.size inb).toLoadRect (h.unread x) (ix2 s n) = x (ix2 s ⟨1536 + n.val, by omega⟩) := by
  refine (part_ld h x inb (ix2 s n)).trans (congrArg x (funext fun k => Fin.ext ?_))
  refine (Rect.emb_apply _ _ _).trans ?_
  match k with
  | ⟨0, _⟩ => show 0 + 1 * s.val = s.val; omega
  | ⟨1, _⟩ => show 1536 + 1 * n.val = 1536 + n.val; omega

/-- A part of the earlier rows, loaded: 1536 columns from 768 on. -/
theorem ld_c3 (a : Memref sig .tc .vmem S128x2304 .f32) (h : a.IsWhole) (x : Vec Ideal S128x2304 .f32) (inb : ∀ k, (![0, 768] : Fin 2 → ℕ) k + S128x1536.size k ≤ S128x2304.size k)
    (s : Fin 128) (n : Fin 1536) : a.view.readAt (Elt Ideal) (Rect.unit (s := S128x2304) ![0, 768] S128x1536.size inb).toLoadRect (h.unread x) (ix2 s n) = x (ix2 s ⟨768 + n.val, by omega⟩) := by
  refine (part_ld h x inb (ix2 s n)).trans (congrArg x (funext fun k => Fin.ext ?_))
  refine (Rect.emb_apply _ _ _).trans ?_
  match k with
  | ⟨0, _⟩ => show 0 + 1 * s.val = s.val; omega
  | ⟨1, _⟩ => show 768 + 1 * n.val = 768 + n.val; omega

/-- A row of the convolution's weights, loaded: row 0. -/
theorem ld_w0 (a : Memref sig .tc .vmem S4x768 .f32) (h : a.IsWhole) (x : Vec Ideal S4x768 .f32) (inb : ∀ k, (![0, 0] : Fin 2 → ℕ) k + S1x768.size k ≤ S4x768.size k)
    (z : Fin 1) (n : Fin 768) : a.view.readAt (Elt Ideal) (Rect.unit (s := S4x768) ![0, 0] S1x768.size inb).toLoadRect (h.unread x) (ix2 z n) = x (ix2 0 n) := by
  refine (part_ld h x inb (ix2 z n)).trans (congrArg x (funext fun k => Fin.ext ?_))
  refine (Rect.emb_apply _ _ _).trans ?_
  match k with
  | ⟨0, _⟩ => show 0 + 1 * z.val = 0; omega
  | ⟨1, _⟩ => show 0 + 1 * n.val = n.val; omega

/-- A row of the convolution's weights, loaded: row 1. -/
theorem ld_w1 (a : Memref sig .tc .vmem S4x768 .f32) (h : a.IsWhole) (x : Vec Ideal S4x768 .f32) (inb : ∀ k, (![1, 0] : Fin 2 → ℕ) k + S1x768.size k ≤ S4x768.size k)
    (z : Fin 1) (n : Fin 768) : a.view.readAt (Elt Ideal) (Rect.unit (s := S4x768) ![1, 0] S1x768.size inb).toLoadRect (h.unread x) (ix2 z n) = x (ix2 1 n) := by
  refine (part_ld h x inb (ix2 z n)).trans (congrArg x (funext fun k => Fin.ext ?_))
  refine (Rect.emb_apply _ _ _).trans ?_
  match k with
  | ⟨0, _⟩ => show 1 + 1 * z.val = 1; omega
  | ⟨1, _⟩ => show 0 + 1 * n.val = n.val; omega

/-- A row of the convolution's weights, loaded: row 2. -/
theorem ld_w2 (a : Memref sig .tc .vmem S4x768 .f32) (h : a.IsWhole) (x : Vec Ideal S4x768 .f32) (inb : ∀ k, (![2, 0] : Fin 2 → ℕ) k + S1x768.size k ≤ S4x768.size k)
    (z : Fin 1) (n : Fin 768) : a.view.readAt (Elt Ideal) (Rect.unit (s := S4x768) ![2, 0] S1x768.size inb).toLoadRect (h.unread x) (ix2 z n) = x (ix2 2 n) := by
  refine (part_ld h x inb (ix2 z n)).trans (congrArg x (funext fun k => Fin.ext ?_))
  refine (Rect.emb_apply _ _ _).trans ?_
  match k with
  | ⟨0, _⟩ => show 2 + 1 * z.val = 2; omega
  | ⟨1, _⟩ => show 0 + 1 * n.val = n.val; omega

/-- A row of the convolution's weights, loaded: row 3. -/
theorem ld_w3 (a : Memref sig .tc .vmem S4x768 .f32) (h : a.IsWhole) (x : Vec Ideal S4x768 .f32) (inb : ∀ k, (![3, 0] : Fin 2 → ℕ) k + S1x768.size k ≤ S4x768.size k)
    (z : Fin 1) (n : Fin 768) : a.view.readAt (Elt Ideal) (Rect.unit (s := S4x768) ![3, 0] S1x768.size inb).toLoadRect (h.unread x) (ix2 z n) = x (ix2 3 n) := by
  refine (part_ld h x inb (ix2 z n)).trans (congrArg x (funext fun k => Fin.ext ?_))
  refine (Rect.emb_apply _ _ _).trans ?_
  match k with
  | ⟨0, _⟩ => show 3 + 1 * z.val = 3; omega
  | ⟨1, _⟩ => show 0 + 1 * n.val = n.val; omega

variable (c : Dev nD) (a0 a1 : Memref sig .tc .vmem S128x1152 .f32) (h0 : a0.IsWhole) (h1 : a1.IsWhole) (a2 : Memref sig .tc .vmem S128x1024 .f32) (h2 : a2.IsWhole)
  (a3 : Memref sig .tc .vmem S128x2304 .f32) (h3 : a3.IsWhole) (a4 : Memref sig .tc .vmem S4x768 .f32) (h4 : a4.IsWhole)
  (a5 a6 a8 a9 : Memref sig .tc .vmem S1x256 .f32) (h5 : a5.IsWhole) (h6 : a6.IsWhole) (h8 : a8.IsWhole) (h9 : a9.IsWhole)
  (a7 : Memref sig .tc .vmem S128x256 .f32) (h7 : a7.IsWhole)
  (x0 x1 : Vec Ideal S128x1152 .f32) (x2 : Vec Ideal S128x1024 .f32) (x3 : Vec Ideal S128x2304 .f32) (x4 : Vec Ideal S4x768 .f32)
  (x5 x6 x8 x9 : Vec Ideal S1x256 .f32) (x7 : Vec Ideal S128x256 .f32)

/-- The three earlier rows and the new one, at a column. -/
def taps (x0 : Vec Ideal S128x1152 .f32) (x3 : Vec Ideal S128x2304 .f32) (s : Fin 128) (n : Fin 768) : Fin 4 → EReal :=
  ![x3 (ix2 s ⟨n.val, by omega⟩), x3 (ix2 s ⟨768 + n.val, by omega⟩), x3 (ix2 s ⟨1536 + n.val, by omega⟩), x0 (ix2 s ⟨n.val, by omega⟩)]

/-- The convolved column, over the blocks. -/
def cy (x0 : Vec Ideal S128x1152 .f32) (x3 : Vec Ideal S128x2304 .f32) (x4 : Vec Ideal S4x768 .f32) (s : Fin 128) (n : Fin 768) : EReal :=
  conv4 (taps x0 x3 s n) (fun j => x4 (ix2 j n))

/-- The convolution's sum, over the loaded rows. -/
theorem pay8_apply (v0 v2 v4 v6 : FVec Ideal S128x768 .f32) (v1 v3 v5 v7 : FVec Ideal S1x768 .f32) (s : Fin 128) (n : Fin 768) :
    k0_pay8 (F := Ideal) v0 v1 v2 v3 v4 v5 v6 v7 (ix2 s n)
      = v0 (ix2 s n) * v1 (ix2 0 n) + v2 (ix2 s n) * v3 (ix2 0 n) + v4 (ix2 s n) * v5 (ix2 0 n) + v6 (ix2 s n) * v7 (ix2 0 n) := by
  pointwise [k0_pay8, k0_pay7]

/-- The convolution at an element. -/
theorem r1_at (s : Fin 128) (n : Fin 768) : silu (kernelRun0_A.sl.r_1 (F := Ideal) c a0 h0 a3 h3 a4 h4 x0 x3 x4 (ix2 s n)) = cy x0 x3 x4 s n := by
  unfold kernelRun0_A.sl.r_1 cy conv4
  refine congrArg silu ((pay8_apply ..).trans ?_)
  have eo : ∀ a b c d : EReal, a + b + c + d = b + c + d + a := fun a b c d => by rw [add_assoc, add_assoc, add_comm, ← add_assoc]
  refine (eo _ _ _ _).trans ?_
  exact congrArg₂ (· + ·) (congrArg₂ (· + ·) (congrArg₂ (· + ·) (congrArg₂ (· * ·) (ld_c0 a3 h3 x3 _ s n) (ld_w0 a4 h4 x4 _ 0 n))
    (congrArg₂ (· * ·) (ld_c1 a3 h3 x3 _ s n) (ld_w1 a4 h4 x4 _ 0 n))) (congrArg₂ (· * ·) (ld_c2 a3 h3 x3 _ s n) (ld_w2 a4 h4 x4 _ 0 n)))
    (congrArg₂ (· * ·) (ld_a a0 h0 x0 _ s n) (ld_w3 a4 h4 x4 _ 0 n))

/-- The queries of the delta rule, over the blocks. -/
theorem a0_at (s : Fin 128) (q : Fin 256) (hr : ∀ n, ∃ r : ℝ, cy x0 x3 x4 s n = (r : EReal)) :
    k0_pay11 (F := Ideal) (k0_pay6 (F := Ideal)) (kernelRun0_A.sl.r_1 (F := Ideal) c a0 h0 a3 h3 a4 h4 x0 x3 x4) (ix2 s q)
      = l2 (fun c => cy x0 x3 x4 s ⟨c.val, by omega⟩) q * Ideal.ofBits FTy.f32 1040187392#32 := by
  rw [qa_apply _ s q (fun n => by rw [r1_at]; exact hr n)]
  simp only [r1_at]

/-- The keys of the delta rule, over the blocks. -/
theorem a1_at (s : Fin 128) (q : Fin 256) (hr : ∀ n, ∃ r : ℝ, cy x0 x3 x4 s n = (r : EReal)) :
    k0_pay17 (F := Ideal) (k0_pay6 (F := Ideal)) (kernelRun0_A.sl.r_3 (F := Ideal) c a0 h0 a3 h3 a4 h4 x0 x3 x4) (ix2 s q)
      = l2 (fun c => cy x0 x3 x4 s ⟨256 + c.val, by omega⟩) q := by
  unfold kernelRun0_A.sl.r_3
  rw [ka_apply _ s q (fun n => by rw [r1_at]; exact hr n)]
  simp only [r1_at]

/-- The convolved columns, over the blocks. -/
theorem r3_at (s : Fin 128) (n : Fin 768) : kernelRun0_A.sl.r_3 (F := Ideal) c a0 h0 a3 h3 a4 h4 x0 x3 x4 (ix2 s n) = cy x0 x3 x4 s n := by
  unfold kernelRun0_A.sl.r_3
  rw [act_apply, r1_at]

/-- The decay's logarithm, over the blocks. -/
theorem g0_at (s : Fin 128) (q : Fin 256) (h : ∃ r : ℝ, x0 (ix2 s ⟨1024 + q.val / 64, by omega⟩) = (r : EReal)) :
    kernelRun0_A.sl.r_11 (F := Ideal) c a0 h0 a5 h5 a6 h6 x0 x5 x6 (ix2 s q)
      = -(Ideal.exp (x5 (ix2 0 q))) * soft (x0 (ix2 s ⟨1024 + q.val / 64, by omega⟩) + x6 (ix2 0 q)) := by
  unfold kernelRun0_A.sl.r_11 kernelRun0_A.sl.r_9
  rw [whole_ld, whole_ld]
  have e : ∀ n, kernelRun0_A.sl.r_8 (F := Ideal) c a0 h0 x0 (ix2 s n) = x0 (ix2 s ⟨1024 + n.val, by omega⟩) := fun n => by
    unfold kernelRun0_A.sl.r_8
    pointwise [k0_pay28]
    exact ld_g a0 h0 x0 _ s n
  refine (g_apply _ x5 x6 s q (by rw [e]; exact h)).trans ?_
  rw [e]

/-- The update gate, over the blocks. -/
theorem g1_at (s : Fin 128) (q : Fin 256) (h : ∃ r : ℝ, x0 (ix2 s ⟨1024 + (q.val / 64 + 4), by omega⟩) = (r : EReal)) :
    kernelRun0_A.sl.r_10 (F := Ideal) c a0 h0 x0 (ix2 s q) = lgs (x0 (ix2 s ⟨1024 + (q.val / 64 + 4), by omega⟩)) := by
  unfold kernelRun0_A.sl.r_10 kernelRun0_A.sl.v129
  have e : ∀ n, kernelRun0_A.sl.r_8 (F := Ideal) c a0 h0 x0 (ix2 s n) = x0 (ix2 s ⟨1024 + n.val, by omega⟩) := fun n => by
    unfold kernelRun0_A.sl.r_8
    pointwise [k0_pay28]
    exact ld_g a0 h0 x0 _ s n
  refine (beta_apply _ s q (by rw [e]; exact h)).trans ?_
  rw [e]

/-- The queries of gated linear attention, over the blocks. -/
theorem b0_at (s : Fin 128) (q : Fin 256) : kernelRun0_A.sl.r_16 (F := Ideal) c a1 h1 x1 (ix2 s q) = x1 (ix2 s ⟨q.val, by omega⟩) * Ideal.ofBits FTy.f32 1040187392#32 := by
  unfold kernelRun0_A.sl.r_16 kernelRun0_A.sl.r_13
  rw [whole_ld]
  pointwise [k0_pay46, k0_pay43]

/-- The keys of gated linear attention, over the blocks. -/
theorem b1_at (s : Fin 128) (q : Fin 256) : kernelRun0_A.sl.r_17 (F := Ideal) c a1 h1 x1 (ix2 s q) = x1 (ix2 s ⟨256 + q.val, by omega⟩) := by
  unfold kernelRun0_A.sl.r_17 kernelRun0_A.sl.r_13
  rw [whole_ld]
  pointwise [k0_pay47, k0_pay43]

/-- The values of gated linear attention, over the blocks. -/
theorem b2_at (s : Fin 128) (q : Fin 256) : kernelRun0_A.sl.r_18 (F := Ideal) c a1 h1 x1 (ix2 s q) = x1 (ix2 s ⟨512 + q.val, by omega⟩) := by
  unfold kernelRun0_A.sl.r_18 kernelRun0_A.sl.r_13
  rw [whole_ld]
  pointwise [k0_pay48, k0_pay43]

/-- The forget gate's logarithm of gated linear attention, over the blocks. -/
theorem b3_at (s : Fin 128) (q : Fin 256) : kernelRun0_A.sl.r_15 (F := Ideal) c a1 h1 a7 h7 a8 h8 x1 x7 x8 (ix2 s q)
    = lsg (∑ k : Fin 128, x1 (ix2 s ⟨1024 + k.val, by omega⟩) * x7 (ix2 k q) + x8 (ix2 0 q)) * Ideal.ofBits FTy.f32 1031798784#32 := by
  unfold kernelRun0_A.sl.r_15 kernelRun0_A.sl.r_14
  rw [whole_ld, whole_ld, whole_ld]
  exact fb_apply x1 x7 x8 s q

/-- The queries of the third mixer, over the blocks. -/
theorem d0_at (s : Fin 128) (q : Fin 256) : kernelRun0_A.sl.r_22 (F := Ideal) c a2 h2 x2 (ix2 s q) = silu (x2 (ix2 s ⟨q.val, by omega⟩)) * Ideal.ofBits FTy.f32 1040187392#32 := by
  unfold kernelRun0_A.sl.r_22
  rw [whole_ld]
  exact qd_apply x2 s q

/-- The keys of the third mixer, over the blocks. -/
theorem d1_at (s : Fin 128) (q : Fin 256) : kernelRun0_A.sl.r_25 (F := Ideal) c a2 h2 a9 h9 x2 x9 (ix2 s q) = kf (x9 (ix2 0 q)) (x2 (ix2 s ⟨256 + q.val, by omega⟩)) := by
  unfold kernelRun0_A.sl.r_25 kernelRun0_A.sl.r_23 kernelRun0_A.sl.r_24
  rw [whole_ld, whole_ld]
  exact kd_apply x2 x9 s q

/-- The values of the third mixer, over the blocks. -/
theorem d2_at (s : Fin 128) (q : Fin 256) : kernelRun0_A.sl.r_26 (F := Ideal) c a2 h2 x2 (ix2 s q) = x2 (ix2 s ⟨512 + q.val, by omega⟩) := by
  unfold kernelRun0_A.sl.r_26 kernelRun0_A.sl.r_19
  rw [whole_ld]
  pointwise [k0_pay57, k0_pay49]

/-- The forget gate's logarithm of the third mixer, over the blocks. -/
theorem d3_at (s : Fin 128) (q : Fin 256) : kernelRun0_A.sl.r_27 (F := Ideal) c a2 h2 a9 h9 x2 x9 (ix2 s q) = lfg (x2 (ix2 s ⟨256 + q.val, by omega⟩)) (x9 (ix2 0 q)) := by
  unfold kernelRun0_A.sl.r_27 kernelRun0_A.sl.r_20 kernelRun0_A.sl.r_21
  rw [whole_ld, whole_ld]
  exact fd_apply x2 x9 s q

/-- The earlier rows' last two, over the blocks. -/
theorem c0_at (s : Fin 128) (n : Fin 1536) : kernelRun0_A.sl.r_2 (F := Ideal) c a3 h3 x3 (ix2 s n) = x3 (ix2 s ⟨768 + n.val, by omega⟩) := by
  unfold kernelRun0_A.sl.r_2
  pointwise [k0_pay9]
  exact ld_c3 a3 h3 x3 _ s n

/-- The new row before the convolution, over the blocks. -/
theorem c1_at (s : Fin 128) (n : Fin 768) : kernelRun0_A.sl.r (F := Ideal) c a0 h0 x0 (ix2 s n) = x0 (ix2 s ⟨n.val, by omega⟩) := by
  unfold kernelRun0_A.sl.r
  pointwise [k0_pay7]
  exact ld_a a0 h0 x0 _ s n

end Cert.Kernel8Ideal.Hand
end
-- ==== Proof.Prep.Defs.lean ====
module

public import proofs.«01_k».proof.Proof.Prep.Body
@[expose] public section

set_option maxRecDepth 16384
noncomputable section

namespace Cert.Kernel8Ideal.Hand

open Cert.Kernel8Ideal Cert.Kernel8Ideal.Gen Idealize.ShloMosaic Idealize.ShloMosaic.TcCoe Idealize.SL.Sem Cert.Hand
open Cert.Kernel5Ideal.Hand (ss_eq sum_sel three_parts absf_max add_four kf)

/-- The queries of the delta rule, from the blocks. -/
def fa0 (x0 : Vec Ideal S128x1152 .f32) (x3 : Vec Ideal S128x2304 .f32) (x4 : Vec Ideal S4x768 .f32) (s : Fin 128) (q : Fin 256) : EReal :=
  l2 (fun c => cy x0 x3 x4 s ⟨c.val, by omega⟩) q * Ideal.ofBits FTy.f32 1040187392#32
/-- The keys of the delta rule, from the blocks. -/
def fa1 (x0 : Vec Ideal S128x1152 .f32) (x3 : Vec Ideal S128x2304 .f32) (x4 : Vec Ideal S4x768 .f32) (s : Fin 128) (q : Fin 256) : EReal :=
  l2 (fun c => cy x0 x3 x4 s ⟨256 + c.val, by omega⟩) q
/-- The values of the delta rule, from the blocks. -/
def fa2 (x0 : Vec Ideal S128x1152 .f32) (x3 : Vec Ideal S128x2304 .f32) (x4 : Vec Ideal S4x768 .f32) (s : Fin 128) (q : Fin 256) : EReal :=
  cy x0 x3 x4 s ⟨512 + q.val, by omega⟩
/-- The decay's logarithm, from the blocks. -/
def fg0 (x0 : Vec Ideal S128x1152 .f32) (x5 x6 : Vec Ideal S1x256 .f32) (s : Fin 128) (q : Fin 256) : EReal :=
  -(Ideal.exp (x5 (ix2 0 q))) * soft (x0 (ix2 s ⟨1024 + q.val / 64, by omega⟩) + x6 (ix2 0 q))
/-- The update gate, from the blocks. -/
def fg1 (x0 : Vec Ideal S128x1152 .f32) (s : Fin 128) (q : Fin 256) : EReal := lgs (x0 (ix2 s ⟨1024 + (q.val / 64 + 4), by omega⟩))
/-- The queries of gated linear attention, from the blocks. -/
def fb0 (x1 : Vec Ideal S128x1152 .f32) (s : Fin 128) (q : Fin 256) : EReal := x1 (ix2 s ⟨q.val, by omega⟩) * Ideal.ofBits FTy.f32 1040187392#32
/-- The keys of gated linear attention, from the blocks. -/
def fb1 (x1 : Vec Ideal S128x1152 .f32) (s : Fin 128) (q : Fin 256) : EReal := x1 (ix2 s ⟨256 + q.val, by omega⟩)
/-- The values of gated linear attention, from the blocks. -/
def fb2 (x1 : Vec Ideal S128x1152 .f32) (s : Fin 128) (q : Fin 256) : EReal := x1 (ix2 s ⟨512 + q.val, by omega⟩)
/-- The forget gate's logarithm of gated linear attention, from the blocks. -/
def fb3 (x1 : Vec Ideal S128x1152 .f32) (x7 : Vec Ideal S128x256 .f32) (x8 : Vec Ideal S1x256 .f32) (s : Fin 128) (q : Fin 256) : EReal :=
  lsg (∑ k : Fin 128, x1 (ix2 s ⟨1024 + k.val, by omega⟩) * x7 (ix2 k q) + x8 (ix2 0 q)) * Ideal.ofBits FTy.f32 1031798784#32
/-- The queries of the third mixer, from the blocks. -/
def fd0 (x2 : Vec Ideal S128x1024 .f32) (s : Fin 128) (q : Fin 256) : EReal := silu (x2 (ix2 s ⟨q.val, by omega⟩)) * Ideal.ofBits FTy.f32 1040187392#32
/-- The keys of the third mixer, from the blocks. -/
def fd1 (x2 : Vec Ideal S128x1024 .f32) (x9 : Vec Ideal S1x256 .f32) (s : Fin 128) (q : Fin 256) : EReal := kf (x9 (ix2 0 q)) (x2 (ix2 s ⟨256 + q.val, by omega⟩))
/-- The values of the third mixer, from the blocks. -/
def fd2 (x2 : Vec Ideal S128x1024 .f32) (s : Fin 128) (q : Fin 256) : EReal := x2 (ix2 s ⟨512 + q.val, by omega⟩)
/-- The forget gate's logarithm of the third mixer, from the blocks. -/
def fd3 (x2 : Vec Ideal S128x1024 .f32) (x9 : Vec Ideal S1x256 .f32) (s : Fin 128) (q : Fin 256) : EReal := lfg (x2 (ix2 s ⟨256 + q.val, by omega⟩)) (x9 (ix2 0 q))

end Cert.Kernel8Ideal.Hand
end
-- ==== Proof.Prep.Host.lean ====
module

public import proofs.«01_k».proof.Proof.Prep.Defs
@[expose] public section

set_option maxRecDepth 16384
noncomputable section

namespace Cert.Kernel8Ideal.Hand

open Cert.Kernel8Ideal Cert.Kernel8Ideal.Gen Idealize.ShloMosaic Idealize.ShloMosaic.TcCoe Idealize.SL.Sem Cert.Hand
open Cert.Kernel5Ideal.Hand (ss_eq sum_sel three_parts absf_max add_four kf)

/-- The columns of the first segment, side by side. -/
def pa (x0 : FVec Ideal S128x1x768 .f32) (x3 : FVec Ideal S128x1x256 .f32) (x1 : FVec Ideal S128x1x4 .f32) (x2 : FVec Ideal S128x1x4 .f32) : FVec Ideal S128x1152 .f32 :=
  concatenate S128x1152 1 [⟨S128x768, (shapeCast S128x768 x0 shapeCasts_S128x1x768_S128x768 : FVec Ideal S128x768 .f32)⟩, ⟨S128x256, (shapeCast S128x256 x3 shapeCasts_S128x1x256_S128x256 : FVec Ideal S128x256 .f32)⟩, ⟨S128x4, (shapeCast S128x4 x1 shapeCasts_S128x1x4_S128x4 : FVec Ideal S128x4 .f32)⟩, ⟨S128x4, (shapeCast S128x4 x2 shapeCasts_S128x1x4_S128x4 : FVec Ideal S128x4 .f32)⟩, ⟨S128x120, (broadcastInDim S128x120 ![] bcast_S_S128x120 (constant (F := Ideal) S_ .f32 0x00000000#32) : FVec Ideal S128x120 .f32)⟩] concatenates_S128x768_S128x256_S128x4_S128x4_S128x120_S128x1152_d1

/-- Columns 0 to 767 of the first segment. -/
theorem pa_0 (x0 : FVec Ideal S128x1x768 .f32) (x3 : FVec Ideal S128x1x256 .f32) (x1 : FVec Ideal S128x1x4 .f32) (x2 : FVec Ideal S128x1x4 .f32) (s : Fin 128) (q : Fin 768) (n : Fin 1152) (hn : n.val = 0 + q.val) : pa x0 x3 x1 x2 (ix2 s n) = x0 (ix3 s 0 q) := by
  refine (concatenate_apply_piece (t := S128x1152) 1 _ _ (ix2 s n) 0 (Nat.lt_of_sub_eq_succ rfl) S128x768 _ rfl rfl 0 ?_ (ix2 s q) ?_ ?_).trans ?_
  · exact (by decide +kernel : (([] : List Shape).map fun s => if h : s.rank = S128x1152.rank then s.size ((1 : Fin S128x1152.rank).cast h.symm) else 0).sum = 0)
  · intro b hb
    match b, hb with
    | ⟨0, _⟩, _ => rfl
    | ⟨1, _⟩, hb => exact absurd rfl hb
  · exact hn.symm
  · pointwise

/-- Columns 768 to 1023 of the first segment. -/
theorem pa_768 (x0 : FVec Ideal S128x1x768 .f32) (x3 : FVec Ideal S128x1x256 .f32) (x1 : FVec Ideal S128x1x4 .f32) (x2 : FVec Ideal S128x1x4 .f32) (s : Fin 128) (q : Fin 256) (n : Fin 1152) (hn : n.val = 768 + q.val) : pa x0 x3 x1 x2 (ix2 s n) = x3 (ix3 s 0 q) := by
  refine (concatenate_apply_piece (t := S128x1152) 1 _ _ (ix2 s n) 1 (Nat.lt_of_sub_eq_succ rfl) S128x256 _ rfl rfl 768 ?_ (ix2 s q) ?_ ?_).trans ?_
  · exact (by decide +kernel : (([S128x768] : List Shape).map fun s => if h : s.rank = S128x1152.rank then s.size ((1 : Fin S128x1152.rank).cast h.symm) else 0).sum = 768)
  · intro b hb
    match b, hb with
    | ⟨0, _⟩, _ => rfl
    | ⟨1, _⟩, hb => exact absurd rfl hb
  · exact hn.symm
  · pointwise

/-- Columns 1024 to 1027 of the first segment. -/
theorem pa_1024 (x0 : FVec Ideal S128x1x768 .f32) (x3 : FVec Ideal S128x1x256 .f32) (x1 : FVec Ideal S128x1x4 .f32) (x2 : FVec Ideal S128x1x4 .f32) (s : Fin 128) (q : Fin 4) (n : Fin 1152) (hn : n.val = 1024 + q.val) : pa x0 x3 x1 x2 (ix2 s n) = x1 (ix3 s 0 q) := by
  refine (concatenate_apply_piece (t := S128x1152) 1 _ _ (ix2 s n) 2 (Nat.lt_of_sub_eq_succ rfl) S128x4 _ rfl rfl 1024 ?_ (ix2 s q) ?_ ?_).trans ?_
  · exact (by decide +kernel : (([S128x768, S128x256] : List Shape).map fun s => if h : s.rank = S128x1152.rank then s.size ((1 : Fin S128x1152.rank).cast h.symm) else 0).sum = 1024)
  · intro b hb
    match b, hb with
    | ⟨0, _⟩, _ => rfl
    | ⟨1, _⟩, hb => exact absurd rfl hb
  · exact hn.symm
  · pointwise

/-- Columns 1028 to 1031 of the first segment. -/
theorem pa_1028 (x0 : FVec Ideal S128x1x768 .f32) (x3 : FVec Ideal S128x1x256 .f32) (x1 : FVec Ideal S128x1x4 .f32) (x2 : FVec Ideal S128x1x4 .f32) (s : Fin 128) (q : Fin 4) (n : Fin 1152) (hn : n.val = 1028 + q.val) : pa x0 x3 x1 x2 (ix2 s n) = x2 (ix3 s 0 q) := by
  refine (concatenate_apply_piece (t := S128x1152) 1 _ _ (ix2 s n) 3 (Nat.lt_of_sub_eq_succ rfl) S128x4 _ rfl rfl 1028 ?_ (ix2 s q) ?_ ?_).trans ?_
  · exact (by decide +kernel : (([S128x768, S128x256, S128x4] : List Shape).map fun s => if h : s.rank = S128x1152.rank then s.size ((1 : Fin S128x1152.rank).cast h.symm) else 0).sum = 1028)
  · intro b hb
    match b, hb with
    | ⟨0, _⟩, _ => rfl
    | ⟨1, _⟩, hb => exact absurd rfl hb
  · exact hn.symm
  · pointwise

/-- The columns of the second segment, side by side. -/
def pb (x4 : FVec Ideal S128x1x256 .f32) (x5 : FVec Ideal S128x1x256 .f32) (x6 : FVec Ideal S128x1x256 .f32) (x8 : FVec Ideal S128x1x256 .f32) (x7 : FVec Ideal S128x1x16 .f32) : FVec Ideal S128x1152 .f32 :=
  concatenate S128x1152 1 [⟨S128x256, (shapeCast S128x256 x4 shapeCasts_S128x1x256_S128x256 : FVec Ideal S128x256 .f32)⟩, ⟨S128x256, (shapeCast S128x256 x5 shapeCasts_S128x1x256_S128x256 : FVec Ideal S128x256 .f32)⟩, ⟨S128x256, (shapeCast S128x256 x6 shapeCasts_S128x1x256_S128x256 : FVec Ideal S128x256 .f32)⟩, ⟨S128x256, (shapeCast S128x256 x8 shapeCasts_S128x1x256_S128x256 : FVec Ideal S128x256 .f32)⟩, ⟨S128x16, (shapeCast S128x16 x7 shapeCasts_S128x1x16_S128x16 : FVec Ideal S128x16 .f32)⟩, ⟨S128x112, (broadcastInDim S128x112 ![] bcast_S_S128x112 (constant (F := Ideal) S_ .f32 0x00000000#32) : FVec Ideal S128x112 .f32)⟩] concatenates_S128x256_S128x256_S128x256_S128x256_S128x16_S128x112_S128x1152_d1

/-- Columns 0 to 255 of the second segment. -/
theorem pb_0 (x4 : FVec Ideal S128x1x256 .f32) (x5 : FVec Ideal S128x1x256 .f32) (x6 : FVec Ideal S128x1x256 .f32) (x8 : FVec Ideal S128x1x256 .f32) (x7 : FVec Ideal S128x1x16 .f32) (s : Fin 128) (q : Fin 256) (n : Fin 1152) (hn : n.val = 0 + q.val) : pb x4 x5 x6 x8 x7 (ix2 s n) = x4 (ix3 s 0 q) := by
  refine (concatenate_apply_piece (t := S128x1152) 1 _ _ (ix2 s n) 0 (Nat.lt_of_sub_eq_succ rfl) S128x256 _ rfl rfl 0 ?_ (ix2 s q) ?_ ?_).trans ?_
  · exact (by decide +kernel : (([] : List Shape).map fun s => if h : s.rank = S128x1152.rank then s.size ((1 : Fin S128x1152.rank).cast h.symm) else 0).sum = 0)
  · intro b hb
    match b, hb with
    | ⟨0, _⟩, _ => rfl
    | ⟨1, _⟩, hb => exact absurd rfl hb
  · exact hn.symm
  · pointwise

/-- Columns 256 to 511 of the second segment. -/
theorem pb_256 (x4 : FVec Ideal S128x1x256 .f32) (x5 : FVec Ideal S128x1x256 .f32) (x6 : FVec Ideal S128x1x256 .f32) (x8 : FVec Ideal S128x1x256 .f32) (x7 : FVec Ideal S128x1x16 .f32) (s : Fin 128) (q : Fin 256) (n : Fin 1152) (hn : n.val = 256 + q.val) : pb x4 x5 x6 x8 x7 (ix2 s n) = x5 (ix3 s 0 q) := by
  refine (concatenate_apply_piece (t := S128x1152) 1 _ _ (ix2 s n) 1 (Nat.lt_of_sub_eq_succ rfl) S128x256 _ rfl rfl 256 ?_ (ix2 s q) ?_ ?_).trans ?_
  · exact (by decide +kernel : (([S128x256] : List Shape).map fun s => if h : s.rank = S128x1152.rank then s.size ((1 : Fin S128x1152.rank).cast h.symm) else 0).sum = 256)
  · intro b hb
    match b, hb with
    | ⟨0, _⟩, _ => rfl
    | ⟨1, _⟩, hb => exact absurd rfl hb
  · exact hn.symm
  · pointwise

/-- Columns 512 to 767 of the second segment. -/
theorem pb_512 (x4 : FVec Ideal S128x1x256 .f32) (x5 : FVec Ideal S128x1x256 .f32) (x6 : FVec Ideal S128x1x256 .f32) (x8 : FVec Ideal S128x1x256 .f32) (x7 : FVec Ideal S128x1x16 .f32) (s : Fin 128) (q : Fin 256) (n : Fin 1152) (hn : n.val = 512 + q.val) : pb x4 x5 x6 x8 x7 (ix2 s n) = x6 (ix3 s 0 q) := by
  refine (concatenate_apply_piece (t := S128x1152) 1 _ _ (ix2 s n) 2 (Nat.lt_of_sub_eq_succ rfl) S128x256 _ rfl rfl 512 ?_ (ix2 s q) ?_ ?_).trans ?_
  · exact (by decide +kernel : (([S128x256, S128x256] : List Shape).map fun s => if h : s.rank = S128x1152.rank then s.size ((1 : Fin S128x1152.rank).cast h.symm) else 0).sum = 512)
  · intro b hb
    match b, hb with
    | ⟨0, _⟩, _ => rfl
    | ⟨1, _⟩, hb => exact absurd rfl hb
  · exact hn.symm
  · pointwise

/-- Columns 768 to 1023 of the second segment. -/
theorem pb_768 (x4 : FVec Ideal S128x1x256 .f32) (x5 : FVec Ideal S128x1x256 .f32) (x6 : FVec Ideal S128x1x256 .f32) (x8 : FVec Ideal S128x1x256 .f32) (x7 : FVec Ideal S128x1x16 .f32) (s : Fin 128) (q : Fin 256) (n : Fin 1152) (hn : n.val = 768 + q.val) : pb x4 x5 x6 x8 x7 (ix2 s n) = x8 (ix3 s 0 q) := by
  refine (concatenate_apply_piece (t := S128x1152) 1 _ _ (ix2 s n) 3 (Nat.lt_of_sub_eq_succ rfl) S128x256 _ rfl rfl 768 ?_ (ix2 s q) ?_ ?_).trans ?_
  · exact (by decide +kernel : (([S128x256, S128x256, S128x256] : List Shape).map fun s => if h : s.rank = S128x1152.rank then s.size ((1 : Fin S128x1152.rank).cast h.symm) else 0).sum = 768)
  · intro b hb
    match b, hb with
    | ⟨0, _⟩, _ => rfl
    | ⟨1, _⟩, hb => exact absurd rfl hb
  · exact hn.symm
  · pointwise

/-- Columns 1024 to 1039 of the second segment. -/
theorem pb_1024 (x4 : FVec Ideal S128x1x256 .f32) (x5 : FVec Ideal S128x1x256 .f32) (x6 : FVec Ideal S128x1x256 .f32) (x8 : FVec Ideal S128x1x256 .f32) (x7 : FVec Ideal S128x1x16 .f32) (s : Fin 128) (q : Fin 16) (n : Fin 1152) (hn : n.val = 1024 + q.val) : pb x4 x5 x6 x8 x7 (ix2 s n) = x7 (ix3 s 0 q) := by
  refine (concatenate_apply_piece (t := S128x1152) 1 _ _ (ix2 s n) 4 (Nat.lt_of_sub_eq_succ rfl) S128x16 _ rfl rfl 1024 ?_ (ix2 s q) ?_ ?_).trans ?_
  · exact (by decide +kernel : (([S128x256, S128x256, S128x256, S128x256] : List Shape).map fun s => if h : s.rank = S128x1152.rank then s.size ((1 : Fin S128x1152.rank).cast h.symm) else 0).sum = 1024)
  · intro b hb
    match b, hb with
    | ⟨0, _⟩, _ => rfl
    | ⟨1, _⟩, hb => exact absurd rfl hb
  · exact hn.symm
  · pointwise

/-- The columns of the fourth segment, side by side. -/
def pd (x9 : FVec Ideal S128x1x256 .f32) (x10 : FVec Ideal S128x1x256 .f32) (x11 : FVec Ideal S128x1x256 .f32) (x12 : FVec Ideal S128x1x256 .f32) : FVec Ideal S128x1024 .f32 :=
  concatenate S128x1024 1 [⟨S128x256, (shapeCast S128x256 x9 shapeCasts_S128x1x256_S128x256 : FVec Ideal S128x256 .f32)⟩, ⟨S128x256, (shapeCast S128x256 x10 shapeCasts_S128x1x256_S128x256 : FVec Ideal S128x256 .f32)⟩, ⟨S128x256, (shapeCast S128x256 x11 shapeCasts_S128x1x256_S128x256 : FVec Ideal S128x256 .f32)⟩, ⟨S128x256, (shapeCast S128x256 x12 shapeCasts_S128x1x256_S128x256 : FVec Ideal S128x256 .f32)⟩] concatenates_S128x256_S128x256_S128x256_S128x256_S128x1024_d1

/-- Columns 0 to 255 of the fourth segment. -/
theorem pd_0 (x9 : FVec Ideal S128x1x256 .f32) (x10 : FVec Ideal S128x1x256 .f32) (x11 : FVec Ideal S128x1x256 .f32) (x12 : FVec Ideal S128x1x256 .f32) (s : Fin 128) (q : Fin 256) (n : Fin 1024) (hn : n.val = 0 + q.val) : pd x9 x10 x11 x12 (ix2 s n) = x9 (ix3 s 0 q) := by
  refine (concatenate_apply_piece (t := S128x1024) 1 _ _ (ix2 s n) 0 (Nat.lt_of_sub_eq_succ rfl) S128x256 _ rfl rfl 0 ?_ (ix2 s q) ?_ ?_).trans ?_
  · exact (by decide +kernel : (([] : List Shape).map fun s => if h : s.rank = S128x1024.rank then s.size ((1 : Fin S128x1024.rank).cast h.symm) else 0).sum = 0)
  · intro b hb
    match b, hb with
    | ⟨0, _⟩, _ => rfl
    | ⟨1, _⟩, hb => exact absurd rfl hb
  · exact hn.symm
  · pointwise

/-- Columns 256 to 511 of the fourth segment. -/
theorem pd_256 (x9 : FVec Ideal S128x1x256 .f32) (x10 : FVec Ideal S128x1x256 .f32) (x11 : FVec Ideal S128x1x256 .f32) (x12 : FVec Ideal S128x1x256 .f32) (s : Fin 128) (q : Fin 256) (n : Fin 1024) (hn : n.val = 256 + q.val) : pd x9 x10 x11 x12 (ix2 s n) = x10 (ix3 s 0 q) := by
  refine (concatenate_apply_piece (t := S128x1024) 1 _ _ (ix2 s n) 1 (Nat.lt_of_sub_eq_succ rfl) S128x256 _ rfl rfl 256 ?_ (ix2 s q) ?_ ?_).trans ?_
  · exact (by decide +kernel : (([S128x256] : List Shape).map fun s => if h : s.rank = S128x1024.rank then s.size ((1 : Fin S128x1024.rank).cast h.symm) else 0).sum = 256)
  · intro b hb
    match b, hb with
    | ⟨0, _⟩, _ => rfl
    | ⟨1, _⟩, hb => exact absurd rfl hb
  · exact hn.symm
  · pointwise

/-- Columns 512 to 767 of the fourth segment. -/
theorem pd_512 (x9 : FVec Ideal S128x1x256 .f32) (x10 : FVec Ideal S128x1x256 .f32) (x11 : FVec Ideal S128x1x256 .f32) (x12 : FVec Ideal S128x1x256 .f32) (s : Fin 128) (q : Fin 256) (n : Fin 1024) (hn : n.val = 512 + q.val) : pd x9 x10 x11 x12 (ix2 s n) = x11 (ix3 s 0 q) := by
  refine (concatenate_apply_piece (t := S128x1024) 1 _ _ (ix2 s n) 2 (Nat.lt_of_sub_eq_succ rfl) S128x256 _ rfl rfl 512 ?_ (ix2 s q) ?_ ?_).trans ?_
  · exact (by decide +kernel : (([S128x256, S128x256] : List Shape).map fun s => if h : s.rank = S128x1024.rank then s.size ((1 : Fin S128x1024.rank).cast h.symm) else 0).sum = 512)
  · intro b hb
    match b, hb with
    | ⟨0, _⟩, _ => rfl
    | ⟨1, _⟩, hb => exact absurd rfl hb
  · exact hn.symm
  · pointwise

/-- Columns 768 to 1023 of the fourth segment. -/
theorem pd_768 (x9 : FVec Ideal S128x1x256 .f32) (x10 : FVec Ideal S128x1x256 .f32) (x11 : FVec Ideal S128x1x256 .f32) (x12 : FVec Ideal S128x1x256 .f32) (s : Fin 128) (q : Fin 256) (n : Fin 1024) (hn : n.val = 768 + q.val) : pd x9 x10 x11 x12 (ix2 s n) = x12 (ix3 s 0 q) := by
  refine (concatenate_apply_piece (t := S128x1024) 1 _ _ (ix2 s n) 3 (Nat.lt_of_sub_eq_succ rfl) S128x256 _ rfl rfl 768 ?_ (ix2 s q) ?_ ?_).trans ?_
  · exact (by decide +kernel : (([S128x256, S128x256, S128x256] : List Shape).map fun s => if h : s.rank = S128x1024.rank then s.size ((1 : Fin S128x1024.rank).cast h.symm) else 0).sum = 768)
  · intro b hb
    match b, hb with
    | ⟨0, _⟩, _ => rfl
    | ⟨1, _⟩, hb => exact absurd rfl hb
  · exact hn.symm
  · pointwise

/-- The low-rank gate's weights under zero rows. -/
def pw (x17 : FVec Ideal S16x256 .f32) : FVec Ideal S128x256 .f32 :=
  concatenate S128x256 0 [⟨S16x256, x17⟩, ⟨S112x256, (broadcastInDim S112x256 ![] bcast_S_S112x256 (constant (F := Ideal) S_ .f32 0x00000000#32) : FVec Ideal S112x256 .f32)⟩] concatenates_S16x256_S112x256_S128x256_d0

/-- The weights' own rows. -/
theorem pw_lo (x17 : FVec Ideal S16x256 .f32) (k : Fin 16) (q : Fin 256) (r : Fin 128) (hr : r.val = k.val) : pw x17 (ix2 r q) = x17 (ix2 k q) := by
  obtain rfl : (⟨k.val, by clear hr; omega⟩ : Fin 128) = r := Fin.ext hr.symm
  pointwise [pw]

/-- The zero rows. -/
theorem pw_hi (x17 : FVec Ideal S16x256 .f32) (k : Fin 112) (q : Fin 256) (r : Fin 128) (hr : r.val = 16 + k.val) : pw x17 (ix2 r q) = 0 := by
  obtain rfl : (⟨16 + k.val, by clear hr; omega⟩ : Fin 128) = r := Fin.ext hr.symm
  pointwise [pw]

/-- A parameter of a head, repeated over the head's columns. -/
def rep (x : FVec Ideal S4 .f32) : FVec Ideal S1x256 .f32 :=
  shapeCast S1x256 (shapeCast S256 (broadcastInDim S4x64 ![0] bcast_S4_S4x64_0 x) shapeCasts_S4x64_S256) shapeCasts_S256_S1x256

/-- A repeated parameter at a column. -/
theorem rep_apply (x : FVec Ideal S4 .f32) (q : Fin 256) : rep x (ix2 0 q) = x (ix1 ⟨q.val / 64, by omega⟩) := by
  pointwise [rep]

/-- A parameter's row. -/
theorem row_apply (x : FVec Ideal S256 .f32) (q : Fin 256) : shapeCast S1x256 x shapeCasts_S256_S1x256 (ix2 0 q) = x (ix1 q) := by
  pointwise

/-- The earlier rows, flat. -/
theorem rows_apply (x : FVec Ideal S128x3x768 .f32) (s : Fin 128) (j : Fin 3) (n : Fin 768) (p : Fin 2304) (hp : p.val = 768 * j.val + n.val) :
    shapeCast S128x2304 x shapeCasts_S128x3x768_S128x2304 (ix2 s p) = x (ix3 s j n) := by
  pointwise
  refine congrArg x ?_
  have e1 : p.val / 768 = j.val := by omega
  have e2 : p.val % 768 = n.val := by omega
  simp only [e1, e2]

variable (m : (ℓ : Loc nD τ sig) → Buf (Elt Ideal) ℓ)

/-- The columns of the first segment, as the call is given them. -/
theorem V_pa (c : Dev nD) : V m c main_v5 = pa (m (c.tc.loc main_arg0)) (m (c.tc.loc main_arg3)) (m (c.tc.loc main_arg1)) (m (c.tc.loc main_arg2)) := by
  unfold V
  after_results <;> rfl

/-- The columns of the second segment, as the call is given them. -/
theorem V_pb (c : Dev nD) : V m c main_v12 = pb (m (c.tc.loc main_arg4)) (m (c.tc.loc main_arg5)) (m (c.tc.loc main_arg6)) (m (c.tc.loc main_arg8)) (m (c.tc.loc main_arg7)) := by
  unfold V
  after_results <;> rfl

/-- The columns of the fourth segment, as the call is given them. -/
theorem V_pd (c : Dev nD) : V m c main_v17 = pd (m (c.tc.loc main_arg9)) (m (c.tc.loc main_arg10)) (m (c.tc.loc main_arg11)) (m (c.tc.loc main_arg12)) := by
  unfold V
  after_results <;> rfl

/-- The low-rank gate's weights, as the call is given them. -/
theorem V_pw (c : Dev nD) : V m c main_v19 = pw (m (c.tc.loc main_arg17)) := by
  unfold V
  after_results <;> rfl

/-- The decay's logarithms, as the call is given them. -/
theorem V_al (c : Dev nD) : V m c main_v22 = rep (m (c.tc.loc main_arg15)) := by
  unfold V
  after_results <;> rfl

/-- The decay's offsets, as the call is given them. -/
theorem V_dt (c : Dev nD) : V m c main_v25 = rep (m (c.tc.loc main_arg16)) := by
  unfold V
  after_results <;> rfl

/-- The low-rank gate's offsets, as the call is given them. -/
theorem V_gb (c : Dev nD) : V m c main_v26 = shapeCast S1x256 ((m (c.tc.loc main_arg18)) : FVec Ideal S256 .f32) shapeCasts_S256_S1x256 := by
  unfold V
  after_results <;> rfl

/-- The lower bounds, as the call is given them. -/
theorem V_lb (c : Dev nD) : V m c main_v27 = shapeCast S1x256 ((m (c.tc.loc main_arg19)) : FVec Ideal S256 .f32) shapeCasts_S256_S1x256 := by
  unfold V
  after_results <;> rfl

/-- The earlier rows, as the call is given them. -/
theorem V_cv (c : Dev nD) : V m c main_v28 = shapeCast S128x2304 ((m (c.tc.loc main_arg13)) : FVec Ideal S128x3x768 .f32) shapeCasts_S128x3x768_S128x2304 := by
  unfold V
  after_results <;> rfl

/-- The convolution's weights, as the call is given them. -/
theorem V_cw (c : Dev nD) : V m c main_arg14 = ((m (c.tc.loc main_arg14)) : FVec Ideal S4x768 .f32) := by
  unfold V
  after_results <;> rfl

end Cert.Kernel8Ideal.Hand
end
-- ==== Proof.Prep.Blocks.lean ====
module

public import proofs.«01_k».proof.Proof.Prep.Host
@[expose] public section

set_option maxRecDepth 16384
noncomputable section

namespace Cert.Kernel8Ideal.Hand

open Cert.Kernel8Ideal Cert.Kernel8Ideal.Gen Idealize.ShloMosaic Idealize.ShloMosaic.TcCoe Idealize.SL.Sem Cert.Hand
open Cert.Kernel5Ideal.Hand (ss_eq sum_sel three_parts absf_max add_four kf)

/-- The convolved column, from the call's arguments. -/
def CVP (x0 : FVec Ideal S128x1x768 .f32) (x13 : FVec Ideal S128x3x768 .f32) (x14 : FVec Ideal S4x768 .f32) (s : Fin 128) (n : Fin 768) : EReal :=
  conv4 ![x13 (ix3 s 0 n), x13 (ix3 s 1 n), x13 (ix3 s 2 n), x0 (ix3 s 0 n)] (fun j => x14 (ix2 j n))

/-- Real inputs give real convolved columns. -/
theorem CVP_real (x0 : FVec Ideal S128x1x768 .f32) (x13 : FVec Ideal S128x3x768 .f32) (x14 : FVec Ideal S4x768 .f32) (h0 : ∀ i, ∃ r : ℝ, x0 i = (r : EReal)) (h13 : ∀ i, ∃ r : ℝ, x13 i = (r : EReal))
    (h14 : ∀ i, ∃ r : ℝ, x14 i = (r : EReal)) (s : Fin 128) (n : Fin 768) : ∃ r : ℝ, CVP x0 x13 x14 s n = (r : EReal) := by
  choose a ha using h0
  choose b hb using h13
  choose v hv using h14
  unfold CVP conv4
  show ∃ r : ℝ, silu (x13 (ix3 s 0 n) * x14 (ix2 0 n) + x13 (ix3 s 1 n) * x14 (ix2 1 n) + x13 (ix3 s 2 n) * x14 (ix2 2 n) + x0 (ix3 s 0 n) * x14 (ix2 3 n)) = (r : EReal)
  simp only [ha, hb, hv, ← EReal.coe_mul, ← EReal.coe_add]
  exact silu_real _
/-- The queries of the delta rule. -/
def sa0 (x0 : FVec Ideal S128x1x768 .f32) (x13 : FVec Ideal S128x3x768 .f32) (x14 : FVec Ideal S4x768 .f32) (s : Fin 128) (q : Fin 256) : EReal := l2 (fun c => CVP x0 x13 x14 s ⟨c.val, by omega⟩) q * Ideal.ofBits FTy.f32 1040187392#32
/-- The keys of the delta rule. -/
def sa1 (x0 : FVec Ideal S128x1x768 .f32) (x13 : FVec Ideal S128x3x768 .f32) (x14 : FVec Ideal S4x768 .f32) (s : Fin 128) (q : Fin 256) : EReal := l2 (fun c => CVP x0 x13 x14 s ⟨256 + c.val, by omega⟩) q
/-- The values of the delta rule. -/
def sa2 (x0 : FVec Ideal S128x1x768 .f32) (x13 : FVec Ideal S128x3x768 .f32) (x14 : FVec Ideal S4x768 .f32) (s : Fin 128) (q : Fin 256) : EReal := CVP x0 x13 x14 s ⟨512 + q.val, by omega⟩
/-- The queries of gated linear attention. -/
def sb0 (x4 : FVec Ideal S128x1x256 .f32) (s : Fin 128) (q : Fin 256) : EReal := x4 (ix3 s 0 q) * Ideal.ofBits FTy.f32 1040187392#32
/-- The keys of gated linear attention. -/
def sb1 (x5 : FVec Ideal S128x1x256 .f32) (s : Fin 128) (q : Fin 256) : EReal := x5 (ix3 s 0 q)
/-- The values of gated linear attention. -/
def sb2 (x6 : FVec Ideal S128x1x256 .f32) (s : Fin 128) (q : Fin 256) : EReal := x6 (ix3 s 0 q)
/-- The forget gate's logarithm of gated linear attention. -/
def sb3 (x7 : FVec Ideal S128x1x16 .f32) (x17 : FVec Ideal S16x256 .f32) (x18 : FVec Ideal S256 .f32) (s : Fin 128) (q : Fin 256) : EReal := lsg (∑ k : Fin 16, x7 (ix3 s 0 k) * x17 (ix2 k q) + x18 (ix1 q)) * Ideal.ofBits FTy.f32 1031798784#32
/-- The queries of the third mixer. -/
def sd0 (x9 : FVec Ideal S128x1x256 .f32) (s : Fin 128) (q : Fin 256) : EReal := silu (x9 (ix3 s 0 q)) * Ideal.ofBits FTy.f32 1040187392#32
/-- The keys of the third mixer. -/
def sd1 (x10 : FVec Ideal S128x1x256 .f32) (x19 : FVec Ideal S256 .f32) (s : Fin 128) (q : Fin 256) : EReal := kf (x19 (ix1 q)) (x10 (ix3 s 0 q))
/-- The values of the third mixer. -/
def sd2 (x11 : FVec Ideal S128x1x256 .f32) (s : Fin 128) (q : Fin 256) : EReal := x11 (ix3 s 0 q)
/-- The forget gate's logarithm of the third mixer. -/
def sd3 (x10 : FVec Ideal S128x1x256 .f32) (x19 : FVec Ideal S256 .f32) (s : Fin 128) (q : Fin 256) : EReal := lfg (x10 (ix3 s 0 q)) (x19 (ix1 q))
/-- The decay's logarithm of the delta rule. -/
def sg0 (x1 : FVec Ideal S128x1x4 .f32) (x15 : FVec Ideal S4 .f32) (x16 : FVec Ideal S4 .f32) (s : Fin 128) (h : Fin 4) : EReal := -(Ideal.exp (x15 (ix1 h))) * soft (x1 (ix3 s 0 h) + x16 (ix1 h))
/-- The update gate of the delta rule. -/
def sg1 (x2 : FVec Ideal S128x1x4 .f32) (s : Fin 128) (h : Fin 4) : EReal := lgs (x2 (ix3 s 0 h))
/-- The rows before the convolution that the next token reads, flat. -/
def sc (x0 : FVec Ideal S128x1x768 .f32) (x13 : FVec Ideal S128x3x768 .f32) (s : Fin 128) (p : Fin 2304) : EReal :=
  if h : p.val < 1536 then x13 (ix3 s ⟨1 + p.val / 768, by omega⟩ ⟨p.val % 768, by omega⟩) else x0 (ix3 s 0 ⟨p.val - 1536, by omega⟩)

variable (m : (ℓ : Loc nD τ sig) → Buf (Elt Ideal) ℓ)

/-- Every point reads the same block of the first segment. -/
theorem idx0 : ∀ t : Fin cfg0.N, win0_0.index t 0 = 0 ∧ win0_0.index t 1 = 0 :=
  (by decide +kernel : ∀ t : Fin grid0.N, win0_0.index t 0 = 0 ∧ win0_0.index t 1 = 0)
/-- The block of the first segment is the whole array. -/
theorem blk0 (c : Dev nD) (t : Fin cfg0.N) : (iblk m c 0 t : FVec Ideal S128x1152 .f32) = (V m c main_v5 : FVec Ideal S128x1152 .f32) := by
  funext i
  show V m c main_v5 ((win0_0.rect t).emb i) = _
  refine congrArg (V m c main_v5) (funext fun a => Fin.ext ?_)
  obtain ⟨e0, e1⟩ := idx0 t
  refine (Pipeline.Window.rect_emb_val win0_0 t _ a).trans ?_
  match a with
  | ⟨0, _⟩ => show win0_0.index t 0 * 128 + (i 0).val = (i 0).val; rw [e0]; omega
  | ⟨1, _⟩ => show win0_0.index t 1 * 1152 + (i 1).val = (i 1).val; rw [e1]; omega

/-- Every point reads the same block of the second segment. -/
theorem idx1 : ∀ t : Fin cfg0.N, win0_1.index t 0 = 0 ∧ win0_1.index t 1 = 0 :=
  (by decide +kernel : ∀ t : Fin grid0.N, win0_1.index t 0 = 0 ∧ win0_1.index t 1 = 0)
/-- The block of the second segment is the whole array. -/
theorem blk1 (c : Dev nD) (t : Fin cfg0.N) : (iblk m c 1 t : FVec Ideal S128x1152 .f32) = (V m c main_v12 : FVec Ideal S128x1152 .f32) := by
  funext i
  show V m c main_v12 ((win0_1.rect t).emb i) = _
  refine congrArg (V m c main_v12) (funext fun a => Fin.ext ?_)
  obtain ⟨e0, e1⟩ := idx1 t
  refine (Pipeline.Window.rect_emb_val win0_1 t _ a).trans ?_
  match a with
  | ⟨0, _⟩ => show win0_1.index t 0 * 128 + (i 0).val = (i 0).val; rw [e0]; omega
  | ⟨1, _⟩ => show win0_1.index t 1 * 1152 + (i 1).val = (i 1).val; rw [e1]; omega

/-- Every point reads the same block of the fourth segment. -/
theorem idx2 : ∀ t : Fin cfg0.N, win0_2.index t 0 = 0 ∧ win0_2.index t 1 = 0 :=
  (by decide +kernel : ∀ t : Fin grid0.N, win0_2.index t 0 = 0 ∧ win0_2.index t 1 = 0)
/-- The block of the fourth segment is the whole array. -/
theorem blk2 (c : Dev nD) (t : Fin cfg0.N) : (iblk m c 2 t : FVec Ideal S128x1024 .f32) = (V m c main_v17 : FVec Ideal S128x1024 .f32) := by
  funext i
  show V m c main_v17 ((win0_2.rect t).emb i) = _
  refine congrArg (V m c main_v17) (funext fun a => Fin.ext ?_)
  obtain ⟨e0, e1⟩ := idx2 t
  refine (Pipeline.Window.rect_emb_val win0_2 t _ a).trans ?_
  match a with
  | ⟨0, _⟩ => show win0_2.index t 0 * 128 + (i 0).val = (i 0).val; rw [e0]; omega
  | ⟨1, _⟩ => show win0_2.index t 1 * 1024 + (i 1).val = (i 1).val; rw [e1]; omega

/-- Every point reads the same block of the earlier rows. -/
theorem idx3 : ∀ t : Fin cfg0.N, win0_3.index t 0 = 0 ∧ win0_3.index t 1 = 0 :=
  (by decide +kernel : ∀ t : Fin grid0.N, win0_3.index t 0 = 0 ∧ win0_3.index t 1 = 0)
/-- The block of the earlier rows is the whole array. -/
theorem blk3 (c : Dev nD) (t : Fin cfg0.N) : (iblk m c 3 t : FVec Ideal S128x2304 .f32) = (V m c main_v28 : FVec Ideal S128x2304 .f32) := by
  funext i
  show V m c main_v28 ((win0_3.rect t).emb i) = _
  refine congrArg (V m c main_v28) (funext fun a => Fin.ext ?_)
  obtain ⟨e0, e1⟩ := idx3 t
  refine (Pipeline.Window.rect_emb_val win0_3 t _ a).trans ?_
  match a with
  | ⟨0, _⟩ => show win0_3.index t 0 * 128 + (i 0).val = (i 0).val; rw [e0]; omega
  | ⟨1, _⟩ => show win0_3.index t 1 * 2304 + (i 1).val = (i 1).val; rw [e1]; omega

/-- Every point reads the same block of the convolution's weights. -/
theorem idx4 : ∀ t : Fin cfg0.N, win0_4.index t 0 = 0 ∧ win0_4.index t 1 = 0 :=
  (by decide +kernel : ∀ t : Fin grid0.N, win0_4.index t 0 = 0 ∧ win0_4.index t 1 = 0)
/-- The block of the convolution's weights is the whole array. -/
theorem blk4 (c : Dev nD) (t : Fin cfg0.N) : (iblk m c 4 t : FVec Ideal S4x768 .f32) = (V m c main_arg14 : FVec Ideal S4x768 .f32) := by
  funext i
  show V m c main_arg14 ((win0_4.rect t).emb i) = _
  refine congrArg (V m c main_arg14) (funext fun a => Fin.ext ?_)
  obtain ⟨e0, e1⟩ := idx4 t
  refine (Pipeline.Window.rect_emb_val win0_4 t _ a).trans ?_
  match a with
  | ⟨0, _⟩ => show win0_4.index t 0 * 4 + (i 0).val = (i 0).val; rw [e0]; omega
  | ⟨1, _⟩ => show win0_4.index t 1 * 768 + (i 1).val = (i 1).val; rw [e1]; omega

/-- Every point reads the same block of the decay's logarithms. -/
theorem idx5 : ∀ t : Fin cfg0.N, win0_5.index t 0 = 0 ∧ win0_5.index t 1 = 0 :=
  (by decide +kernel : ∀ t : Fin grid0.N, win0_5.index t 0 = 0 ∧ win0_5.index t 1 = 0)
/-- The block of the decay's logarithms is the whole array. -/
theorem blk5 (c : Dev nD) (t : Fin cfg0.N) : (iblk m c 5 t : FVec Ideal S1x256 .f32) = (V m c main_v22 : FVec Ideal S1x256 .f32) := by
  funext i
  show V m c main_v22 ((win0_5.rect t).emb i) = _
  refine congrArg (V m c main_v22) (funext fun a => Fin.ext ?_)
  obtain ⟨e0, e1⟩ := idx5 t
  refine (Pipeline.Window.rect_emb_val win0_5 t _ a).trans ?_
  match a with
  | ⟨0, _⟩ => show win0_5.index t 0 * 1 + (i 0).val = (i 0).val; rw [e0]; omega
  | ⟨1, _⟩ => show win0_5.index t 1 * 256 + (i 1).val = (i 1).val; rw [e1]; omega

/-- Every point reads the same block of the decay's offsets. -/
theorem idx6 : ∀ t : Fin cfg0.N, win0_6.index t 0 = 0 ∧ win0_6.index t 1 = 0 :=
  (by decide +kernel : ∀ t : Fin grid0.N, win0_6.index t 0 = 0 ∧ win0_6.index t 1 = 0)
/-- The block of the decay's offsets is the whole array. -/
theorem blk6 (c : Dev nD) (t : Fin cfg0.N) : (iblk m c 6 t : FVec Ideal S1x256 .f32) = (V m c main_v25 : FVec Ideal S1x256 .f32) := by
  funext i
  show V m c main_v25 ((win0_6.rect t).emb i) = _
  refine congrArg (V m c main_v25) (funext fun a => Fin.ext ?_)
  obtain ⟨e0, e1⟩ := idx6 t
  refine (Pipeline.Window.rect_emb_val win0_6 t _ a).trans ?_
  match a with
  | ⟨0, _⟩ => show win0_6.index t 0 * 1 + (i 0).val = (i 0).val; rw [e0]; omega
  | ⟨1, _⟩ => show win0_6.index t 1 * 256 + (i 1).val = (i 1).val; rw [e1]; omega

/-- Every point reads the same block of the low-rank gate's weights. -/
theorem idx7 : ∀ t : Fin cfg0.N, win0_7.index t 0 = 0 ∧ win0_7.index t 1 = 0 :=
  (by decide +kernel : ∀ t : Fin grid0.N, win0_7.index t 0 = 0 ∧ win0_7.index t 1 = 0)
/-- The block of the low-rank gate's weights is the whole array. -/
theorem blk7 (c : Dev nD) (t : Fin cfg0.N) : (iblk m c 7 t : FVec Ideal S128x256 .f32) = (V m c main_v19 : FVec Ideal S128x256 .f32) := by
  funext i
  show V m c main_v19 ((win0_7.rect t).emb i) = _
  refine congrArg (V m c main_v19) (funext fun a => Fin.ext ?_)
  obtain ⟨e0, e1⟩ := idx7 t
  refine (Pipeline.Window.rect_emb_val win0_7 t _ a).trans ?_
  match a with
  | ⟨0, _⟩ => show win0_7.index t 0 * 128 + (i 0).val = (i 0).val; rw [e0]; omega
  | ⟨1, _⟩ => show win0_7.index t 1 * 256 + (i 1).val = (i 1).val; rw [e1]; omega

/-- Every point reads the same block of the low-rank gate's offsets. -/
theorem idx8 : ∀ t : Fin cfg0.N, win0_8.index t 0 = 0 ∧ win0_8.index t 1 = 0 :=
  (by decide +kernel : ∀ t : Fin grid0.N, win0_8.index t 0 = 0 ∧ win0_8.index t 1 = 0)
/-- The block of the low-rank gate's offsets is the whole array. -/
theorem blk8 (c : Dev nD) (t : Fin cfg0.N) : (iblk m c 8 t : FVec Ideal S1x256 .f32) = (V m c main_v26 : FVec Ideal S1x256 .f32) := by
  funext i
  show V m c main_v26 ((win0_8.rect t).emb i) = _
  refine congrArg (V m c main_v26) (funext fun a => Fin.ext ?_)
  obtain ⟨e0, e1⟩ := idx8 t
  refine (Pipeline.Window.rect_emb_val win0_8 t _ a).trans ?_
  match a with
  | ⟨0, _⟩ => show win0_8.index t 0 * 1 + (i 0).val = (i 0).val; rw [e0]; omega
  | ⟨1, _⟩ => show win0_8.index t 1 * 256 + (i 1).val = (i 1).val; rw [e1]; omega

/-- Every point reads the same block of the lower bounds. -/
theorem idx9 : ∀ t : Fin cfg0.N, win0_9.index t 0 = 0 ∧ win0_9.index t 1 = 0 :=
  (by decide +kernel : ∀ t : Fin grid0.N, win0_9.index t 0 = 0 ∧ win0_9.index t 1 = 0)
/-- The block of the lower bounds is the whole array. -/
theorem blk9 (c : Dev nD) (t : Fin cfg0.N) : (iblk m c 9 t : FVec Ideal S1x256 .f32) = (V m c main_v27 : FVec Ideal S1x256 .f32) := by
  funext i
  show V m c main_v27 ((win0_9.rect t).emb i) = _
  refine congrArg (V m c main_v27) (funext fun a => Fin.ext ?_)
  obtain ⟨e0, e1⟩ := idx9 t
  refine (Pipeline.Window.rect_emb_val win0_9 t _ a).trans ?_
  match a with
  | ⟨0, _⟩ => show win0_9.index t 0 * 1 + (i 0).val = (i 0).val; rw [e0]; omega
  | ⟨1, _⟩ => show win0_9.index t 1 * 256 + (i 1).val = (i 1).val; rw [e1]; omega

/-- The point writes result 0's only block. -/
theorem idx10 : ∀ t : Fin cfg0.N, win0_10.index t 0 = 0 ∧ win0_10.index t 1 = 0 ∧ win0_10.index t 2 = 0 ∧ win0_10.index t 3 = 0 :=
  (by decide +kernel : ∀ t : Fin grid0.N, win0_10.index t 0 = 0 ∧ win0_10.index t 1 = 0 ∧ win0_10.index t 2 = 0 ∧ win0_10.index t 3 = 0)
/-- Result 0 after the run is what the point left. -/
theorem arr10 (c : Dev nD) (t : Fin cfg0.N) (j : Fin 3) (h : Fin 4) (s : Fin 128) (n : Fin 64) : (dats m 0 c).arrAt 10 cfg0.N (ix4 j h s n) = (outsAt0 m c t).1 (ix4 j h s n) := by
  have e := congrFun (Value.blocks10 m c t (flush0_10 _)) (ix4 j h s n)
  rw [Value.flushed10] at e
  have e' : (dats m 0 c).arrAt 10 cfg0.N ((win0_10.rect t).emb (ix4 j h s n)) = (outsAt0 m c t).1 (ix4 j h s n) := e
  have h : (win0_10.rect t).emb (ix4 j h s n) = (ix4 j h s n : S3x4x128x64.Idx) := by
    refine funext fun a => Fin.ext ?_
    obtain ⟨e0, e1, e2, e3⟩ := idx10 t
    refine (Pipeline.Window.rect_emb_val win0_10 t _ a).trans ?_
    match a with
    | ⟨0, _⟩ => show win0_10.index t 0 * 3 + j.val = j.val; rw [e0]; omega
    | ⟨1, _⟩ => show win0_10.index t 1 * 4 + h.val = h.val; rw [e1]; omega
    | ⟨2, _⟩ => show win0_10.index t 2 * 128 + s.val = s.val; rw [e2]; omega
    | ⟨3, _⟩ => show win0_10.index t 3 * 64 + n.val = n.val; rw [e3]; omega
  rw [h] at e'
  exact e'

/-- The point writes result 1's only block. -/
theorem idx11 : ∀ t : Fin cfg0.N, win0_11.index t 0 = 0 ∧ win0_11.index t 1 = 0 ∧ win0_11.index t 2 = 0 ∧ win0_11.index t 3 = 0 :=
  (by decide +kernel : ∀ t : Fin grid0.N, win0_11.index t 0 = 0 ∧ win0_11.index t 1 = 0 ∧ win0_11.index t 2 = 0 ∧ win0_11.index t 3 = 0)
/-- Result 1 after the run is what the point left. -/
theorem arr11 (c : Dev nD) (t : Fin cfg0.N) (j : Fin 2) (h : Fin 4) (s : Fin 128) (n : Fin 1) : (dats m 0 c).arrAt 11 cfg0.N (ix4 j h s n) = (outsAt0 m c t).2.1 (ix4 j h s n) := by
  have e := congrFun (Value.blocks11 m c t (flush0_11 _)) (ix4 j h s n)
  rw [Value.flushed11] at e
  have e' : (dats m 0 c).arrAt 11 cfg0.N ((win0_11.rect t).emb (ix4 j h s n)) = (outsAt0 m c t).2.1 (ix4 j h s n) := e
  have h : (win0_11.rect t).emb (ix4 j h s n) = (ix4 j h s n : S2x4x128x1.Idx) := by
    refine funext fun a => Fin.ext ?_
    obtain ⟨e0, e1, e2, e3⟩ := idx11 t
    refine (Pipeline.Window.rect_emb_val win0_11 t _ a).trans ?_
    match a with
    | ⟨0, _⟩ => show win0_11.index t 0 * 2 + j.val = j.val; rw [e0]; omega
    | ⟨1, _⟩ => show win0_11.index t 1 * 4 + h.val = h.val; rw [e1]; omega
    | ⟨2, _⟩ => show win0_11.index t 2 * 128 + s.val = s.val; rw [e2]; omega
    | ⟨3, _⟩ => show win0_11.index t 3 * 1 + n.val = n.val; rw [e3]; omega
  rw [h] at e'
  exact e'

/-- The point writes result 2's only block. -/
theorem idx12 : ∀ t : Fin cfg0.N, win0_12.index t 0 = 0 ∧ win0_12.index t 1 = 0 ∧ win0_12.index t 2 = 0 ∧ win0_12.index t 3 = 0 :=
  (by decide +kernel : ∀ t : Fin grid0.N, win0_12.index t 0 = 0 ∧ win0_12.index t 1 = 0 ∧ win0_12.index t 2 = 0 ∧ win0_12.index t 3 = 0)
/-- Result 2 after the run is what the point left. -/
theorem arr12 (c : Dev nD) (t : Fin cfg0.N) (j : Fin 4) (h : Fin 4) (s : Fin 128) (n : Fin 64) : (dats m 0 c).arrAt 12 cfg0.N (ix4 j h s n) = (outsAt0 m c t).2.2.1 (ix4 j h s n) := by
  have e := congrFun (Value.blocks12 m c t (flush0_12 _)) (ix4 j h s n)
  rw [Value.flushed12] at e
  have e' : (dats m 0 c).arrAt 12 cfg0.N ((win0_12.rect t).emb (ix4 j h s n)) = (outsAt0 m c t).2.2.1 (ix4 j h s n) := e
  have h : (win0_12.rect t).emb (ix4 j h s n) = (ix4 j h s n : S4x4x128x64.Idx) := by
    refine funext fun a => Fin.ext ?_
    obtain ⟨e0, e1, e2, e3⟩ := idx12 t
    refine (Pipeline.Window.rect_emb_val win0_12 t _ a).trans ?_
    match a with
    | ⟨0, _⟩ => show win0_12.index t 0 * 4 + j.val = j.val; rw [e0]; omega
    | ⟨1, _⟩ => show win0_12.index t 1 * 4 + h.val = h.val; rw [e1]; omega
    | ⟨2, _⟩ => show win0_12.index t 2 * 128 + s.val = s.val; rw [e2]; omega
    | ⟨3, _⟩ => show win0_12.index t 3 * 64 + n.val = n.val; rw [e3]; omega
  rw [h] at e'
  exact e'

/-- The point writes result 3's only block. -/
theorem idx13 : ∀ t : Fin cfg0.N, win0_13.index t 0 = 0 ∧ win0_13.index t 1 = 0 ∧ win0_13.index t 2 = 0 ∧ win0_13.index t 3 = 0 :=
  (by decide +kernel : ∀ t : Fin grid0.N, win0_13.index t 0 = 0 ∧ win0_13.index t 1 = 0 ∧ win0_13.index t 2 = 0 ∧ win0_13.index t 3 = 0)
/-- Result 3 after the run is what the point left. -/
theorem arr13 (c : Dev nD) (t : Fin cfg0.N) (j : Fin 4) (h : Fin 4) (s : Fin 128) (n : Fin 64) : (dats m 0 c).arrAt 13 cfg0.N (ix4 j h s n) = (outsAt0 m c t).2.2.2.1 (ix4 j h s n) := by
  have e := congrFun (Value.blocks13 m c t (flush0_13 _)) (ix4 j h s n)
  rw [Value.flushed13] at e
  have e' : (dats m 0 c).arrAt 13 cfg0.N ((win0_13.rect t).emb (ix4 j h s n)) = (outsAt0 m c t).2.2.2.1 (ix4 j h s n) := e
  have h : (win0_13.rect t).emb (ix4 j h s n) = (ix4 j h s n : S4x4x128x64.Idx) := by
    refine funext fun a => Fin.ext ?_
    obtain ⟨e0, e1, e2, e3⟩ := idx13 t
    refine (Pipeline.Window.rect_emb_val win0_13 t _ a).trans ?_
    match a with
    | ⟨0, _⟩ => show win0_13.index t 0 * 4 + j.val = j.val; rw [e0]; omega
    | ⟨1, _⟩ => show win0_13.index t 1 * 4 + h.val = h.val; rw [e1]; omega
    | ⟨2, _⟩ => show win0_13.index t 2 * 128 + s.val = s.val; rw [e2]; omega
    | ⟨3, _⟩ => show win0_13.index t 3 * 64 + n.val = n.val; rw [e3]; omega
  rw [h] at e'
  exact e'

/-- The point writes result 4's only block. -/
theorem idx14 : ∀ t : Fin cfg0.N, win0_14.index t 0 = 0 ∧ win0_14.index t 1 = 0 :=
  (by decide +kernel : ∀ t : Fin grid0.N, win0_14.index t 0 = 0 ∧ win0_14.index t 1 = 0)
/-- Result 4 after the run is what the point left. -/
theorem arr14 (c : Dev nD) (t : Fin cfg0.N) (s : Fin 128) (n : Fin 2304) : (dats m 0 c).arrAt 14 cfg0.N (ix2 s n) = (outsAt0 m c t).2.2.2.2 (ix2 s n) := by
  have e := congrFun (Value.blocks14 m c t (flush0_14 _)) (ix2 s n)
  rw [Value.flushed14] at e
  have e' : (dats m 0 c).arrAt 14 cfg0.N ((win0_14.rect t).emb (ix2 s n)) = (outsAt0 m c t).2.2.2.2 (ix2 s n) := e
  have h : (win0_14.rect t).emb (ix2 s n) = (ix2 s n : S128x2304.Idx) := by
    refine funext fun a => Fin.ext ?_
    obtain ⟨e0, e1⟩ := idx14 t
    refine (Pipeline.Window.rect_emb_val win0_14 t _ a).trans ?_
    match a with
    | ⟨0, _⟩ => show win0_14.index t 0 * 128 + s.val = s.val; rw [e0]; omega
    | ⟨1, _⟩ => show win0_14.index t 1 * 2304 + n.val = n.val; rw [e1]; omega
  rw [h] at e'
  exact e'

/-- The one grid point. -/
def pt0 : Fin cfg0.N := ⟨0, by have h : cfg0.N = 1 := N_0; omega⟩

end Cert.Kernel8Ideal.Hand
end
-- ==== Proof.Prep.OutA.lean ====
module

public import proofs.«01_k».proof.Proof.Prep.Defs
@[expose] public section

set_option maxRecDepth 16384
noncomputable section

namespace Cert.Kernel8Ideal.Hand

open Cert.Kernel8Ideal Cert.Kernel8Ideal.Gen Idealize.ShloMosaic Idealize.ShloMosaic.TcCoe Idealize.SL.Sem Cert.Hand
open Cert.Kernel5Ideal.Hand (ss_eq sum_sel three_parts absf_max add_four kf)

variable (m : (ℓ : Loc nD τ sig) → Buf (Elt Ideal) ℓ)

/-- Head 0 of the queries of the delta rule, as the body leaves it. -/
theorem outa_0_0 (c : Dev nD) (t : Fin cfg0.N) (s : Fin 128) (hr : ∀ n, ∃ r : ℝ, cy (iblk m c 0 t) (iblk m c 3 t) (iblk m c 4 t) s n = (r : EReal)) (n : Fin 64) :
    (outsAt0 m c t).1 (ix4 0 0 s n) = fa0 (iblk m c 0 t) (iblk m c 3 t) (iblk m c 4 t) s ⟨64 * 0 + n.val, by omega⟩ := by
  unfold outsAt0
  dsimp only
  unfold out0_A_10 kernelRun0_A
  dsimp only
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 1 (Or.inl (by show 0 < 3; omega))).trans ?_
  refine (View.read_writes_cons_unit_of_not_mem _ _ _ _ _ _ rfl 1 (Or.inl (by show 0 < 2; omega))).trans ?_
  refine (View.read_writes_cons_unit_of_not_mem _ _ _ _ _ _ rfl 1 (Or.inl (by show 0 < 1; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay12]
  refine (a0_at (hr := hr) ..).trans (congrArg (fa0 (iblk m c 0 t) (iblk m c 3 t) (iblk m c 4 t) s) (Fin.ext ?_))
  first | rfl | (simp; done) | omega

/-- Head 1 of the queries of the delta rule, as the body leaves it. -/
theorem outa_0_1 (c : Dev nD) (t : Fin cfg0.N) (s : Fin 128) (hr : ∀ n, ∃ r : ℝ, cy (iblk m c 0 t) (iblk m c 3 t) (iblk m c 4 t) s n = (r : EReal)) (n : Fin 64) :
    (outsAt0 m c t).1 (ix4 0 1 s n) = fa0 (iblk m c 0 t) (iblk m c 3 t) (iblk m c 4 t) s ⟨64 * 1 + n.val, by omega⟩ := by
  unfold outsAt0
  dsimp only
  unfold out0_A_10 kernelRun0_A
  dsimp only
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 1 (Or.inl (by show 1 < 3; omega))).trans ?_
  refine (View.read_writes_cons_unit_of_not_mem _ _ _ _ _ _ rfl 1 (Or.inl (by show 1 < 2; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay13]
  refine (a0_at (hr := hr) ..).trans (congrArg (fa0 (iblk m c 0 t) (iblk m c 3 t) (iblk m c 4 t) s) (Fin.ext ?_))
  first | rfl | (simp; done) | omega

/-- Head 2 of the queries of the delta rule, as the body leaves it. -/
theorem outa_0_2 (c : Dev nD) (t : Fin cfg0.N) (s : Fin 128) (hr : ∀ n, ∃ r : ℝ, cy (iblk m c 0 t) (iblk m c 3 t) (iblk m c 4 t) s n = (r : EReal)) (n : Fin 64) :
    (outsAt0 m c t).1 (ix4 0 2 s n) = fa0 (iblk m c 0 t) (iblk m c 3 t) (iblk m c 4 t) s ⟨64 * 2 + n.val, by omega⟩ := by
  unfold outsAt0
  dsimp only
  unfold out0_A_10 kernelRun0_A
  dsimp only
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 1 (Or.inl (by show 2 < 3; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  unfold kernelRun0_A.sl.r_5
  pointwise [k0_pay14, k0_pay15]
  refine (a0_at (hr := hr) ..).trans (congrArg (fa0 (iblk m c 0 t) (iblk m c 3 t) (iblk m c 4 t) s) (Fin.ext ?_))
  first | rfl | (simp; done) | omega

/-- Head 3 of the queries of the delta rule, as the body leaves it. -/
theorem outa_0_3 (c : Dev nD) (t : Fin cfg0.N) (s : Fin 128) (hr : ∀ n, ∃ r : ℝ, cy (iblk m c 0 t) (iblk m c 3 t) (iblk m c 4 t) s n = (r : EReal)) (n : Fin 64) :
    (outsAt0 m c t).1 (ix4 0 3 s n) = fa0 (iblk m c 0 t) (iblk m c 3 t) (iblk m c 4 t) s ⟨64 * 3 + n.val, by omega⟩ := by
  unfold outsAt0
  dsimp only
  unfold out0_A_10 kernelRun0_A
  dsimp only
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  unfold kernelRun0_A.sl.r_4
  pointwise [k0_pay16]
  refine (a0_at (hr := hr) ..).trans (congrArg (fa0 (iblk m c 0 t) (iblk m c 3 t) (iblk m c 4 t) s) (Fin.ext ?_))
  first | rfl | (simp; done) | omega

/-- All heads of the queries of the delta rule. -/
theorem outa_0 (c : Dev nD) (t : Fin cfg0.N) (s : Fin 128) (hr : ∀ n, ∃ r : ℝ, cy (iblk m c 0 t) (iblk m c 3 t) (iblk m c 4 t) s n = (r : EReal)) (h : Fin 4) (n : Fin 64) :
    (outsAt0 m c t).1 (ix4 0 h s n) = fa0 (iblk m c 0 t) (iblk m c 3 t) (iblk m c 4 t) s ⟨64 * h.val + n.val, by omega⟩ := by
  match h with
  | ⟨0, _⟩ => exact outa_0_0 m c t s hr n
  | ⟨1, _⟩ => exact outa_0_1 m c t s hr n
  | ⟨2, _⟩ => exact outa_0_2 m c t s hr n
  | ⟨3, _⟩ => exact outa_0_3 m c t s hr n

/-- Head 0 of the keys of the delta rule, as the body leaves it. -/
theorem outa_1_0 (c : Dev nD) (t : Fin cfg0.N) (s : Fin 128) (hr : ∀ n, ∃ r : ℝ, cy (iblk m c 0 t) (iblk m c 3 t) (iblk m c 4 t) s n = (r : EReal)) (n : Fin 64) :
    (outsAt0 m c t).1 (ix4 1 0 s n) = fa1 (iblk m c 0 t) (iblk m c 3 t) (iblk m c 4 t) s ⟨64 * 0 + n.val, by omega⟩ := by
  unfold outsAt0
  dsimp only
  unfold out0_A_10 kernelRun0_A
  dsimp only
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 1 (Or.inl (by show 0 < 3; omega))).trans ?_
  refine (View.read_writes_cons_unit_of_not_mem _ _ _ _ _ _ rfl 1 (Or.inl (by show 0 < 2; omega))).trans ?_
  refine (View.read_writes_cons_unit_of_not_mem _ _ _ _ _ _ rfl 1 (Or.inl (by show 0 < 1; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay18]
  refine (a1_at (hr := hr) ..).trans (congrArg (fa1 (iblk m c 0 t) (iblk m c 3 t) (iblk m c 4 t) s) (Fin.ext ?_))
  first | rfl | (simp; done) | omega

/-- Head 1 of the keys of the delta rule, as the body leaves it. -/
theorem outa_1_1 (c : Dev nD) (t : Fin cfg0.N) (s : Fin 128) (hr : ∀ n, ∃ r : ℝ, cy (iblk m c 0 t) (iblk m c 3 t) (iblk m c 4 t) s n = (r : EReal)) (n : Fin 64) :
    (outsAt0 m c t).1 (ix4 1 1 s n) = fa1 (iblk m c 0 t) (iblk m c 3 t) (iblk m c 4 t) s ⟨64 * 1 + n.val, by omega⟩ := by
  unfold outsAt0
  dsimp only
  unfold out0_A_10 kernelRun0_A
  dsimp only
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 1 (Or.inl (by show 1 < 3; omega))).trans ?_
  refine (View.read_writes_cons_unit_of_not_mem _ _ _ _ _ _ rfl 1 (Or.inl (by show 1 < 2; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay19]
  refine (a1_at (hr := hr) ..).trans (congrArg (fa1 (iblk m c 0 t) (iblk m c 3 t) (iblk m c 4 t) s) (Fin.ext ?_))
  first | rfl | (simp; done) | omega

/-- Head 2 of the keys of the delta rule, as the body leaves it. -/
theorem outa_1_2 (c : Dev nD) (t : Fin cfg0.N) (s : Fin 128) (hr : ∀ n, ∃ r : ℝ, cy (iblk m c 0 t) (iblk m c 3 t) (iblk m c 4 t) s n = (r : EReal)) (n : Fin 64) :
    (outsAt0 m c t).1 (ix4 1 2 s n) = fa1 (iblk m c 0 t) (iblk m c 3 t) (iblk m c 4 t) s ⟨64 * 2 + n.val, by omega⟩ := by
  unfold outsAt0
  dsimp only
  unfold out0_A_10 kernelRun0_A
  dsimp only
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 1 (Or.inl (by show 2 < 3; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  unfold kernelRun0_A.sl.r_7
  pointwise [k0_pay20, k0_pay21]
  refine (a1_at (hr := hr) ..).trans (congrArg (fa1 (iblk m c 0 t) (iblk m c 3 t) (iblk m c 4 t) s) (Fin.ext ?_))
  first | rfl | (simp; done) | omega

/-- Head 3 of the keys of the delta rule, as the body leaves it. -/
theorem outa_1_3 (c : Dev nD) (t : Fin cfg0.N) (s : Fin 128) (hr : ∀ n, ∃ r : ℝ, cy (iblk m c 0 t) (iblk m c 3 t) (iblk m c 4 t) s n = (r : EReal)) (n : Fin 64) :
    (outsAt0 m c t).1 (ix4 1 3 s n) = fa1 (iblk m c 0 t) (iblk m c 3 t) (iblk m c 4 t) s ⟨64 * 3 + n.val, by omega⟩ := by
  unfold outsAt0
  dsimp only
  unfold out0_A_10 kernelRun0_A
  dsimp only
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  unfold kernelRun0_A.sl.r_6
  pointwise [k0_pay22]
  refine (a1_at (hr := hr) ..).trans (congrArg (fa1 (iblk m c 0 t) (iblk m c 3 t) (iblk m c 4 t) s) (Fin.ext ?_))
  first | rfl | (simp; done) | omega

/-- All heads of the keys of the delta rule. -/
theorem outa_1 (c : Dev nD) (t : Fin cfg0.N) (s : Fin 128) (hr : ∀ n, ∃ r : ℝ, cy (iblk m c 0 t) (iblk m c 3 t) (iblk m c 4 t) s n = (r : EReal)) (h : Fin 4) (n : Fin 64) :
    (outsAt0 m c t).1 (ix4 1 h s n) = fa1 (iblk m c 0 t) (iblk m c 3 t) (iblk m c 4 t) s ⟨64 * h.val + n.val, by omega⟩ := by
  match h with
  | ⟨0, _⟩ => exact outa_1_0 m c t s hr n
  | ⟨1, _⟩ => exact outa_1_1 m c t s hr n
  | ⟨2, _⟩ => exact outa_1_2 m c t s hr n
  | ⟨3, _⟩ => exact outa_1_3 m c t s hr n

/-- Head 0 of the values of the delta rule, as the body leaves it. -/
theorem outa_2_0 (c : Dev nD) (t : Fin cfg0.N) (s : Fin 128) (n : Fin 64) :
    (outsAt0 m c t).1 (ix4 2 0 s n) = fa2 (iblk m c 0 t) (iblk m c 3 t) (iblk m c 4 t) s ⟨64 * 0 + n.val, by omega⟩ := by
  unfold outsAt0
  dsimp only
  unfold out0_A_10 kernelRun0_A
  dsimp only
  refine (View.read_writes_cons_unit_of_not_mem _ _ _ _ _ _ rfl 1 (Or.inl (by show 0 < 3; omega))).trans ?_
  refine (View.read_writes_cons_unit_of_not_mem _ _ _ _ _ _ rfl 1 (Or.inl (by show 0 < 2; omega))).trans ?_
  refine (View.read_writes_cons_unit_of_not_mem _ _ _ _ _ _ rfl 1 (Or.inl (by show 0 < 1; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay24, k0_pay23]
  refine (r3_at ..).trans (congrArg (cy (iblk m c 0 t) (iblk m c 3 t) (iblk m c 4 t) s) (Fin.ext ?_))
  first | rfl | (simp; done) | omega

/-- Head 1 of the values of the delta rule, as the body leaves it. -/
theorem outa_2_1 (c : Dev nD) (t : Fin cfg0.N) (s : Fin 128) (n : Fin 64) :
    (outsAt0 m c t).1 (ix4 2 1 s n) = fa2 (iblk m c 0 t) (iblk m c 3 t) (iblk m c 4 t) s ⟨64 * 1 + n.val, by omega⟩ := by
  unfold outsAt0
  dsimp only
  unfold out0_A_10 kernelRun0_A
  dsimp only
  refine (View.read_writes_cons_unit_of_not_mem _ _ _ _ _ _ rfl 1 (Or.inl (by show 1 < 3; omega))).trans ?_
  refine (View.read_writes_cons_unit_of_not_mem _ _ _ _ _ _ rfl 1 (Or.inl (by show 1 < 2; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay25, k0_pay23]
  refine (r3_at ..).trans (congrArg (cy (iblk m c 0 t) (iblk m c 3 t) (iblk m c 4 t) s) (Fin.ext ?_))
  first | rfl | (simp; done) | omega

/-- Head 2 of the values of the delta rule, as the body leaves it. -/
theorem outa_2_2 (c : Dev nD) (t : Fin cfg0.N) (s : Fin 128) (n : Fin 64) :
    (outsAt0 m c t).1 (ix4 2 2 s n) = fa2 (iblk m c 0 t) (iblk m c 3 t) (iblk m c 4 t) s ⟨64 * 2 + n.val, by omega⟩ := by
  unfold outsAt0
  dsimp only
  unfold out0_A_10 kernelRun0_A
  dsimp only
  refine (View.read_writes_cons_unit_of_not_mem _ _ _ _ _ _ rfl 1 (Or.inl (by show 2 < 3; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay26, k0_pay23]
  refine (r3_at ..).trans (congrArg (cy (iblk m c 0 t) (iblk m c 3 t) (iblk m c 4 t) s) (Fin.ext ?_))
  first | rfl | (simp; done) | omega

/-- Head 3 of the values of the delta rule, as the body leaves it. -/
theorem outa_2_3 (c : Dev nD) (t : Fin cfg0.N) (s : Fin 128) (n : Fin 64) :
    (outsAt0 m c t).1 (ix4 2 3 s n) = fa2 (iblk m c 0 t) (iblk m c 3 t) (iblk m c 4 t) s ⟨64 * 3 + n.val, by omega⟩ := by
  unfold outsAt0
  dsimp only
  unfold out0_A_10 kernelRun0_A
  dsimp only
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay27, k0_pay23]
  refine (r3_at ..).trans (congrArg (cy (iblk m c 0 t) (iblk m c 3 t) (iblk m c 4 t) s) (Fin.ext ?_))
  first | rfl | (simp; done) | omega

/-- All heads of the values of the delta rule. -/
theorem outa_2 (c : Dev nD) (t : Fin cfg0.N) (s : Fin 128) (h : Fin 4) (n : Fin 64) :
    (outsAt0 m c t).1 (ix4 2 h s n) = fa2 (iblk m c 0 t) (iblk m c 3 t) (iblk m c 4 t) s ⟨64 * h.val + n.val, by omega⟩ := by
  match h with
  | ⟨0, _⟩ => exact outa_2_0 m c t s n
  | ⟨1, _⟩ => exact outa_2_1 m c t s n
  | ⟨2, _⟩ => exact outa_2_2 m c t s n
  | ⟨3, _⟩ => exact outa_2_3 m c t s n

end Cert.Kernel8Ideal.Hand
end
-- ==== Proof.Prep.OutG.lean ====
module

public import proofs.«01_k».proof.Proof.Prep.Defs
@[expose] public section

set_option maxRecDepth 16384
noncomputable section

namespace Cert.Kernel8Ideal.Hand

open Cert.Kernel8Ideal Cert.Kernel8Ideal.Gen Idealize.ShloMosaic Idealize.ShloMosaic.TcCoe Idealize.SL.Sem Cert.Hand
open Cert.Kernel5Ideal.Hand (ss_eq sum_sel three_parts absf_max add_four kf)

variable (m : (ℓ : Loc nD τ sig) → Buf (Elt Ideal) ℓ)

/-- Head 0 of the decay's logarithm of the delta rule, as the body leaves it. -/
theorem outg_0_0 (c : Dev nD) (t : Fin cfg0.N) (s : Fin 128) (hr : ∀ q : Fin 256, ∃ r : ℝ, (iblk m c 0 t : Vec Ideal S128x1152 .f32) (ix2 s ⟨1024 + q.val / 64, by omega⟩) = (r : EReal)) (n : Fin 1) :
    (outsAt0 m c t).2.1 (ix4 0 0 s n) = fg0 (iblk m c 0 t) (iblk m c 5 t) (iblk m c 6 t) s ⟨64 * 0, by omega⟩ := by
  unfold outsAt0
  dsimp only
  unfold out0_A_11 kernelRun0_A
  dsimp only
  refine (View.read_writes_cons_unit_of_not_mem _ _ _ _ _ _ rfl 0 (Or.inl (by show 0 < 1; omega))).trans ?_
  refine (View.read_writes_cons_unit_of_not_mem _ _ _ _ _ _ rfl 1 (Or.inl (by show 0 < 3; omega))).trans ?_
  refine (View.read_writes_cons_unit_of_not_mem _ _ _ _ _ _ rfl 0 (Or.inl (by show 0 < 1; omega))).trans ?_
  refine (View.read_writes_cons_unit_of_not_mem _ _ _ _ _ _ rfl 1 (Or.inl (by show 0 < 2; omega))).trans ?_
  refine (View.read_writes_cons_unit_of_not_mem _ _ _ _ _ _ rfl 0 (Or.inl (by show 0 < 1; omega))).trans ?_
  refine (View.read_writes_cons_unit_of_not_mem _ _ _ _ _ _ rfl 1 (Or.inl (by show 0 < 1; omega))).trans ?_
  refine (View.read_writes_cons_unit_of_not_mem _ _ _ _ _ _ rfl 0 (Or.inl (by show 0 < 1; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay34]
  refine (g0_at (h := hr _) ..).trans (congrArg (fg0 (iblk m c 0 t) (iblk m c 5 t) (iblk m c 6 t) s) (Fin.ext ?_))
  first | rfl | (simp; done) | omega

/-- Head 1 of the decay's logarithm of the delta rule, as the body leaves it. -/
theorem outg_0_1 (c : Dev nD) (t : Fin cfg0.N) (s : Fin 128) (hr : ∀ q : Fin 256, ∃ r : ℝ, (iblk m c 0 t : Vec Ideal S128x1152 .f32) (ix2 s ⟨1024 + q.val / 64, by omega⟩) = (r : EReal)) (n : Fin 1) :
    (outsAt0 m c t).2.1 (ix4 0 1 s n) = fg0 (iblk m c 0 t) (iblk m c 5 t) (iblk m c 6 t) s ⟨64 * 1, by omega⟩ := by
  unfold outsAt0
  dsimp only
  unfold out0_A_11 kernelRun0_A
  dsimp only
  refine (View.read_writes_cons_unit_of_not_mem _ _ _ _ _ _ rfl 0 (Or.inl (by show 0 < 1; omega))).trans ?_
  refine (View.read_writes_cons_unit_of_not_mem _ _ _ _ _ _ rfl 1 (Or.inl (by show 1 < 3; omega))).trans ?_
  refine (View.read_writes_cons_unit_of_not_mem _ _ _ _ _ _ rfl 0 (Or.inl (by show 0 < 1; omega))).trans ?_
  refine (View.read_writes_cons_unit_of_not_mem _ _ _ _ _ _ rfl 1 (Or.inl (by show 1 < 2; omega))).trans ?_
  refine (View.read_writes_cons_unit_of_not_mem _ _ _ _ _ _ rfl 0 (Or.inl (by show 0 < 1; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay36]
  refine (g0_at (h := hr _) ..).trans (congrArg (fg0 (iblk m c 0 t) (iblk m c 5 t) (iblk m c 6 t) s) (Fin.ext ?_))
  first | rfl | (simp; done) | omega

/-- Head 2 of the decay's logarithm of the delta rule, as the body leaves it. -/
theorem outg_0_2 (c : Dev nD) (t : Fin cfg0.N) (s : Fin 128) (hr : ∀ q : Fin 256, ∃ r : ℝ, (iblk m c 0 t : Vec Ideal S128x1152 .f32) (ix2 s ⟨1024 + q.val / 64, by omega⟩) = (r : EReal)) (n : Fin 1) :
    (outsAt0 m c t).2.1 (ix4 0 2 s n) = fg0 (iblk m c 0 t) (iblk m c 5 t) (iblk m c 6 t) s ⟨64 * 2, by omega⟩ := by
  unfold outsAt0
  dsimp only
  unfold out0_A_11 kernelRun0_A
  dsimp only
  refine (View.read_writes_cons_unit_of_not_mem _ _ _ _ _ _ rfl 0 (Or.inl (by show 0 < 1; omega))).trans ?_
  refine (View.read_writes_cons_unit_of_not_mem _ _ _ _ _ _ rfl 1 (Or.inl (by show 2 < 3; omega))).trans ?_
  refine (View.read_writes_cons_unit_of_not_mem _ _ _ _ _ _ rfl 0 (Or.inl (by show 0 < 1; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay39]
  refine (g0_at (h := hr _) ..).trans (congrArg (fg0 (iblk m c 0 t) (iblk m c 5 t) (iblk m c 6 t) s) (Fin.ext ?_))
  first | rfl | (simp; done) | omega

/-- Head 3 of the decay's logarithm of the delta rule, as the body leaves it. -/
theorem outg_0_3 (c : Dev nD) (t : Fin cfg0.N) (s : Fin 128) (hr : ∀ q : Fin 256, ∃ r : ℝ, (iblk m c 0 t : Vec Ideal S128x1152 .f32) (ix2 s ⟨1024 + q.val / 64, by omega⟩) = (r : EReal)) (n : Fin 1) :
    (outsAt0 m c t).2.1 (ix4 0 3 s n) = fg0 (iblk m c 0 t) (iblk m c 5 t) (iblk m c 6 t) s ⟨64 * 3, by omega⟩ := by
  unfold outsAt0
  dsimp only
  unfold out0_A_11 kernelRun0_A
  dsimp only
  refine (View.read_writes_cons_unit_of_not_mem _ _ _ _ _ _ rfl 0 (Or.inl (by show 0 < 1; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay41]
  refine (g0_at (h := hr _) ..).trans (congrArg (fg0 (iblk m c 0 t) (iblk m c 5 t) (iblk m c 6 t) s) (Fin.ext ?_))
  first | rfl | (simp; done) | omega

/-- All heads of the decay's logarithm of the delta rule. -/
theorem outg_0 (c : Dev nD) (t : Fin cfg0.N) (s : Fin 128) (hr : ∀ q : Fin 256, ∃ r : ℝ, (iblk m c 0 t : Vec Ideal S128x1152 .f32) (ix2 s ⟨1024 + q.val / 64, by omega⟩) = (r : EReal)) (h : Fin 4) (n : Fin 1) :
    (outsAt0 m c t).2.1 (ix4 0 h s n) = fg0 (iblk m c 0 t) (iblk m c 5 t) (iblk m c 6 t) s ⟨64 * h.val, by omega⟩ := by
  match h with
  | ⟨0, _⟩ => exact outg_0_0 m c t s hr n
  | ⟨1, _⟩ => exact outg_0_1 m c t s hr n
  | ⟨2, _⟩ => exact outg_0_2 m c t s hr n
  | ⟨3, _⟩ => exact outg_0_3 m c t s hr n

/-- Head 0 of the update gate of the delta rule, as the body leaves it. -/
theorem outg_1_0 (c : Dev nD) (t : Fin cfg0.N) (s : Fin 128) (hr : ∀ q : Fin 256, ∃ r : ℝ, (iblk m c 0 t : Vec Ideal S128x1152 .f32) (ix2 s ⟨1024 + (q.val / 64 + 4), by omega⟩) = (r : EReal)) (n : Fin 1) :
    (outsAt0 m c t).2.1 (ix4 1 0 s n) = fg1 (iblk m c 0 t) s ⟨64 * 0, by omega⟩ := by
  unfold outsAt0
  dsimp only
  unfold out0_A_11 kernelRun0_A
  dsimp only
  refine (View.read_writes_cons_unit_of_not_mem _ _ _ _ _ _ rfl 1 (Or.inl (by show 0 < 3; omega))).trans ?_
  refine (View.read_writes_cons_unit_of_not_mem _ _ _ _ _ _ rfl 0 (Or.inr (by show 0 + 1 ≤ 1; omega))).trans ?_
  refine (View.read_writes_cons_unit_of_not_mem _ _ _ _ _ _ rfl 1 (Or.inl (by show 0 < 2; omega))).trans ?_
  refine (View.read_writes_cons_unit_of_not_mem _ _ _ _ _ _ rfl 0 (Or.inr (by show 0 + 1 ≤ 1; omega))).trans ?_
  refine (View.read_writes_cons_unit_of_not_mem _ _ _ _ _ _ rfl 1 (Or.inl (by show 0 < 1; omega))).trans ?_
  refine (View.read_writes_cons_unit_of_not_mem _ _ _ _ _ _ rfl 0 (Or.inr (by show 0 + 1 ≤ 1; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay35]
  refine (g1_at (h := hr _) ..).trans (congrArg (fg1 (iblk m c 0 t) s) (Fin.ext ?_))
  first | rfl | (simp; done) | omega

/-- Head 1 of the update gate of the delta rule, as the body leaves it. -/
theorem outg_1_1 (c : Dev nD) (t : Fin cfg0.N) (s : Fin 128) (hr : ∀ q : Fin 256, ∃ r : ℝ, (iblk m c 0 t : Vec Ideal S128x1152 .f32) (ix2 s ⟨1024 + (q.val / 64 + 4), by omega⟩) = (r : EReal)) (n : Fin 1) :
    (outsAt0 m c t).2.1 (ix4 1 1 s n) = fg1 (iblk m c 0 t) s ⟨64 * 1, by omega⟩ := by
  unfold outsAt0
  dsimp only
  unfold out0_A_11 kernelRun0_A
  dsimp only
  refine (View.read_writes_cons_unit_of_not_mem _ _ _ _ _ _ rfl 1 (Or.inl (by show 1 < 3; omega))).trans ?_
  refine (View.read_writes_cons_unit_of_not_mem _ _ _ _ _ _ rfl 0 (Or.inr (by show 0 + 1 ≤ 1; omega))).trans ?_
  refine (View.read_writes_cons_unit_of_not_mem _ _ _ _ _ _ rfl 1 (Or.inl (by show 1 < 2; omega))).trans ?_
  refine (View.read_writes_cons_unit_of_not_mem _ _ _ _ _ _ rfl 0 (Or.inr (by show 0 + 1 ≤ 1; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  unfold kernelRun0_A.sl.r_12
  pointwise [k0_pay37, k0_pay38]
  refine (g1_at (h := hr _) ..).trans (congrArg (fg1 (iblk m c 0 t) s) (Fin.ext ?_))
  first | rfl | (simp; done) | omega

/-- Head 2 of the update gate of the delta rule, as the body leaves it. -/
theorem outg_1_2 (c : Dev nD) (t : Fin cfg0.N) (s : Fin 128) (hr : ∀ q : Fin 256, ∃ r : ℝ, (iblk m c 0 t : Vec Ideal S128x1152 .f32) (ix2 s ⟨1024 + (q.val / 64 + 4), by omega⟩) = (r : EReal)) (n : Fin 1) :
    (outsAt0 m c t).2.1 (ix4 1 2 s n) = fg1 (iblk m c 0 t) s ⟨64 * 2, by omega⟩ := by
  unfold outsAt0
  dsimp only
  unfold out0_A_11 kernelRun0_A
  dsimp only
  refine (View.read_writes_cons_unit_of_not_mem _ _ _ _ _ _ rfl 1 (Or.inl (by show 2 < 3; omega))).trans ?_
  refine (View.read_writes_cons_unit_of_not_mem _ _ _ _ _ _ rfl 0 (Or.inr (by show 0 + 1 ≤ 1; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay40]
  refine (g1_at (h := hr _) ..).trans (congrArg (fg1 (iblk m c 0 t) s) (Fin.ext ?_))
  first | rfl | (simp; done) | omega

/-- Head 3 of the update gate of the delta rule, as the body leaves it. -/
theorem outg_1_3 (c : Dev nD) (t : Fin cfg0.N) (s : Fin 128) (hr : ∀ q : Fin 256, ∃ r : ℝ, (iblk m c 0 t : Vec Ideal S128x1152 .f32) (ix2 s ⟨1024 + (q.val / 64 + 4), by omega⟩) = (r : EReal)) (n : Fin 1) :
    (outsAt0 m c t).2.1 (ix4 1 3 s n) = fg1 (iblk m c 0 t) s ⟨64 * 3, by omega⟩ := by
  unfold outsAt0
  dsimp only
  unfold out0_A_11 kernelRun0_A
  dsimp only
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay42]
  refine (g1_at (h := hr _) ..).trans (congrArg (fg1 (iblk m c 0 t) s) (Fin.ext ?_))
  first | rfl | (simp; done) | omega

/-- All heads of the update gate of the delta rule. -/
theorem outg_1 (c : Dev nD) (t : Fin cfg0.N) (s : Fin 128) (hr : ∀ q : Fin 256, ∃ r : ℝ, (iblk m c 0 t : Vec Ideal S128x1152 .f32) (ix2 s ⟨1024 + (q.val / 64 + 4), by omega⟩) = (r : EReal)) (h : Fin 4) (n : Fin 1) :
    (outsAt0 m c t).2.1 (ix4 1 h s n) = fg1 (iblk m c 0 t) s ⟨64 * h.val, by omega⟩ := by
  match h with
  | ⟨0, _⟩ => exact outg_1_0 m c t s hr n
  | ⟨1, _⟩ => exact outg_1_1 m c t s hr n
  | ⟨2, _⟩ => exact outg_1_2 m c t s hr n
  | ⟨3, _⟩ => exact outg_1_3 m c t s hr n

end Cert.Kernel8Ideal.Hand
end
-- ==== Proof.Prep.OutB.lean ====
module

public import proofs.«01_k».proof.Proof.Prep.Defs
@[expose] public section

set_option maxRecDepth 16384
noncomputable section

namespace Cert.Kernel8Ideal.Hand

open Cert.Kernel8Ideal Cert.Kernel8Ideal.Gen Idealize.ShloMosaic Idealize.ShloMosaic.TcCoe Idealize.SL.Sem Cert.Hand
open Cert.Kernel5Ideal.Hand (ss_eq sum_sel three_parts absf_max add_four kf)

variable (m : (ℓ : Loc nD τ sig) → Buf (Elt Ideal) ℓ)

/-- Head 0 of the queries of gated linear attention, as the body leaves it. -/
theorem outb_0_0 (c : Dev nD) (t : Fin cfg0.N) (s : Fin 128) (n : Fin 64) :
    (outsAt0 m c t).2.2.1 (ix4 0 0 s n) = fb0 (iblk m c 1 t) s ⟨64 * 0 + n.val, by omega⟩ := by
  unfold outsAt0
  dsimp only
  unfold out0_A_12 kernelRun0_A
  dsimp only
  refine (View.read_writes_cons_unit_of_not_mem _ _ _ _ _ _ rfl 0 (Or.inl (by show 0 < 3; omega))).trans ?_
  refine (View.read_writes_cons_unit_of_not_mem _ _ _ _ _ _ rfl 0 (Or.inl (by show 0 < 3; omega))).trans ?_
  refine (View.read_writes_cons_unit_of_not_mem _ _ _ _ _ _ rfl 0 (Or.inl (by show 0 < 3; omega))).trans ?_
  refine (View.read_writes_cons_unit_of_not_mem _ _ _ _ _ _ rfl 0 (Or.inl (by show 0 < 3; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 1 (Or.inl (by show 0 < 3; omega))).trans ?_
  refine (View.read_writes_cons_unit_of_not_mem _ _ _ _ _ _ rfl 1 (Or.inl (by show 0 < 2; omega))).trans ?_
  refine (View.read_writes_cons_unit_of_not_mem _ _ _ _ _ _ rfl 1 (Or.inl (by show 0 < 1; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  unfold kernelRun0_A.sl.r_28
  pointwise [k0_pay59, k0_pay60]
  refine (b0_at ..).trans (congrArg (fb0 (iblk m c 1 t) s) (Fin.ext ?_))
  first | rfl | (simp; done) | omega

/-- Head 1 of the queries of gated linear attention, as the body leaves it. -/
theorem outb_0_1 (c : Dev nD) (t : Fin cfg0.N) (s : Fin 128) (n : Fin 64) :
    (outsAt0 m c t).2.2.1 (ix4 0 1 s n) = fb0 (iblk m c 1 t) s ⟨64 * 1 + n.val, by omega⟩ := by
  unfold outsAt0
  dsimp only
  unfold out0_A_12 kernelRun0_A
  dsimp only
  refine (View.read_writes_cons_unit_of_not_mem _ _ _ _ _ _ rfl 0 (Or.inl (by show 0 < 3; omega))).trans ?_
  refine (View.read_writes_cons_unit_of_not_mem _ _ _ _ _ _ rfl 0 (Or.inl (by show 0 < 3; omega))).trans ?_
  refine (View.read_writes_cons_unit_of_not_mem _ _ _ _ _ _ rfl 0 (Or.inl (by show 0 < 3; omega))).trans ?_
  refine (View.read_writes_cons_unit_of_not_mem _ _ _ _ _ _ rfl 0 (Or.inl (by show 0 < 3; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 1 (Or.inl (by show 1 < 3; omega))).trans ?_
  refine (View.read_writes_cons_unit_of_not_mem _ _ _ _ _ _ rfl 1 (Or.inl (by show 1 < 2; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay61]
  refine (b0_at ..).trans (congrArg (fb0 (iblk m c 1 t) s) (Fin.ext ?_))
  first | rfl | (simp; done) | omega

/-- Head 2 of the queries of gated linear attention, as the body leaves it. -/
theorem outb_0_2 (c : Dev nD) (t : Fin cfg0.N) (s : Fin 128) (n : Fin 64) :
    (outsAt0 m c t).2.2.1 (ix4 0 2 s n) = fb0 (iblk m c 1 t) s ⟨64 * 2 + n.val, by omega⟩ := by
  unfold outsAt0
  dsimp only
  unfold out0_A_12 kernelRun0_A
  dsimp only
  refine (View.read_writes_cons_unit_of_not_mem _ _ _ _ _ _ rfl 0 (Or.inl (by show 0 < 3; omega))).trans ?_
  refine (View.read_writes_cons_unit_of_not_mem _ _ _ _ _ _ rfl 0 (Or.inl (by show 0 < 3; omega))).trans ?_
  refine (View.read_writes_cons_unit_of_not_mem _ _ _ _ _ _ rfl 0 (Or.inl (by show 0 < 3; omega))).trans ?_
  refine (View.read_writes_cons_unit_of_not_mem _ _ _ _ _ _ rfl 0 (Or.inl (by show 0 < 3; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 1 (Or.inl (by show 2 < 3; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay62]
  refine (b0_at ..).trans (congrArg (fb0 (iblk m c 1 t) s) (Fin.ext ?_))
  first | rfl | (simp; done) | omega

/-- Head 3 of the queries of gated linear attention, as the body leaves it. -/
theorem outb_0_3 (c : Dev nD) (t : Fin cfg0.N) (s : Fin 128) (n : Fin 64) :
    (outsAt0 m c t).2.2.1 (ix4 0 3 s n) = fb0 (iblk m c 1 t) s ⟨64 * 3 + n.val, by omega⟩ := by
  unfold outsAt0
  dsimp only
  unfold out0_A_12 kernelRun0_A
  dsimp only
  refine (View.read_writes_cons_unit_of_not_mem _ _ _ _ _ _ rfl 0 (Or.inl (by show 0 < 3; omega))).trans ?_
  refine (View.read_writes_cons_unit_of_not_mem _ _ _ _ _ _ rfl 0 (Or.inl (by show 0 < 3; omega))).trans ?_
  refine (View.read_writes_cons_unit_of_not_mem _ _ _ _ _ _ rfl 0 (Or.inl (by show 0 < 3; omega))).trans ?_
  refine (View.read_writes_cons_unit_of_not_mem _ _ _ _ _ _ rfl 0 (Or.inl (by show 0 < 3; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay63]
  refine (b0_at ..).trans (congrArg (fb0 (iblk m c 1 t) s) (Fin.ext ?_))
  first | rfl | (simp; done) | omega

/-- All heads of the queries of gated linear attention. -/
theorem outb_0 (c : Dev nD) (t : Fin cfg0.N) (s : Fin 128) (h : Fin 4) (n : Fin 64) :
    (outsAt0 m c t).2.2.1 (ix4 0 h s n) = fb0 (iblk m c 1 t) s ⟨64 * h.val + n.val, by omega⟩ := by
  match h with
  | ⟨0, _⟩ => exact outb_0_0 m c t s n
  | ⟨1, _⟩ => exact outb_0_1 m c t s n
  | ⟨2, _⟩ => exact outb_0_2 m c t s n
  | ⟨3, _⟩ => exact outb_0_3 m c t s n

/-- Head 0 of the keys of gated linear attention, as the body leaves it. -/
theorem outb_1_0 (c : Dev nD) (t : Fin cfg0.N) (s : Fin 128) (n : Fin 64) :
    (outsAt0 m c t).2.2.1 (ix4 1 0 s n) = fb1 (iblk m c 1 t) s ⟨64 * 0 + n.val, by omega⟩ := by
  unfold outsAt0
  dsimp only
  unfold out0_A_12 kernelRun0_A
  dsimp only
  refine (View.read_writes_cons_unit_of_not_mem _ _ _ _ _ _ rfl 0 (Or.inl (by show 1 < 3; omega))).trans ?_
  refine (View.read_writes_cons_unit_of_not_mem _ _ _ _ _ _ rfl 0 (Or.inl (by show 1 < 3; omega))).trans ?_
  refine (View.read_writes_cons_unit_of_not_mem _ _ _ _ _ _ rfl 0 (Or.inl (by show 1 < 3; omega))).trans ?_
  refine (View.read_writes_cons_unit_of_not_mem _ _ _ _ _ _ rfl 0 (Or.inl (by show 1 < 3; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 1 (Or.inl (by show 0 < 3; omega))).trans ?_
  refine (View.read_writes_cons_unit_of_not_mem _ _ _ _ _ _ rfl 1 (Or.inl (by show 0 < 2; omega))).trans ?_
  refine (View.read_writes_cons_unit_of_not_mem _ _ _ _ _ _ rfl 1 (Or.inl (by show 0 < 1; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay64]
  refine (b1_at ..).trans (congrArg (fb1 (iblk m c 1 t) s) (Fin.ext ?_))
  first | rfl | (simp; done) | omega

/-- Head 1 of the keys of gated linear attention, as the body leaves it. -/
theorem outb_1_1 (c : Dev nD) (t : Fin cfg0.N) (s : Fin 128) (n : Fin 64) :
    (outsAt0 m c t).2.2.1 (ix4 1 1 s n) = fb1 (iblk m c 1 t) s ⟨64 * 1 + n.val, by omega⟩ := by
  unfold outsAt0
  dsimp only
  unfold out0_A_12 kernelRun0_A
  dsimp only
  refine (View.read_writes_cons_unit_of_not_mem _ _ _ _ _ _ rfl 0 (Or.inl (by show 1 < 3; omega))).trans ?_
  refine (View.read_writes_cons_unit_of_not_mem _ _ _ _ _ _ rfl 0 (Or.inl (by show 1 < 3; omega))).trans ?_
  refine (View.read_writes_cons_unit_of_not_mem _ _ _ _ _ _ rfl 0 (Or.inl (by show 1 < 3; omega))).trans ?_
  refine (View.read_writes_cons_unit_of_not_mem _ _ _ _ _ _ rfl 0 (Or.inl (by show 1 < 3; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 1 (Or.inl (by show 1 < 3; omega))).trans ?_
  refine (View.read_writes_cons_unit_of_not_mem _ _ _ _ _ _ rfl 1 (Or.inl (by show 1 < 2; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay65]
  refine (b1_at ..).trans (congrArg (fb1 (iblk m c 1 t) s) (Fin.ext ?_))
  first | rfl | (simp; done) | omega

/-- Head 2 of the keys of gated linear attention, as the body leaves it. -/
theorem outb_1_2 (c : Dev nD) (t : Fin cfg0.N) (s : Fin 128) (n : Fin 64) :
    (outsAt0 m c t).2.2.1 (ix4 1 2 s n) = fb1 (iblk m c 1 t) s ⟨64 * 2 + n.val, by omega⟩ := by
  unfold outsAt0
  dsimp only
  unfold out0_A_12 kernelRun0_A
  dsimp only
  refine (View.read_writes_cons_unit_of_not_mem _ _ _ _ _ _ rfl 0 (Or.inl (by show 1 < 3; omega))).trans ?_
  refine (View.read_writes_cons_unit_of_not_mem _ _ _ _ _ _ rfl 0 (Or.inl (by show 1 < 3; omega))).trans ?_
  refine (View.read_writes_cons_unit_of_not_mem _ _ _ _ _ _ rfl 0 (Or.inl (by show 1 < 3; omega))).trans ?_
  refine (View.read_writes_cons_unit_of_not_mem _ _ _ _ _ _ rfl 0 (Or.inl (by show 1 < 3; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 1 (Or.inl (by show 2 < 3; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay66]
  refine (b1_at ..).trans (congrArg (fb1 (iblk m c 1 t) s) (Fin.ext ?_))
  first | rfl | (simp; done) | omega

/-- Head 3 of the keys of gated linear attention, as the body leaves it. -/
theorem outb_1_3 (c : Dev nD) (t : Fin cfg0.N) (s : Fin 128) (n : Fin 64) :
    (outsAt0 m c t).2.2.1 (ix4 1 3 s n) = fb1 (iblk m c 1 t) s ⟨64 * 3 + n.val, by omega⟩ := by
  unfold outsAt0
  dsimp only
  unfold out0_A_12 kernelRun0_A
  dsimp only
  refine (View.read_writes_cons_unit_of_not_mem _ _ _ _ _ _ rfl 0 (Or.inl (by show 1 < 3; omega))).trans ?_
  refine (View.read_writes_cons_unit_of_not_mem _ _ _ _ _ _ rfl 0 (Or.inl (by show 1 < 3; omega))).trans ?_
  refine (View.read_writes_cons_unit_of_not_mem _ _ _ _ _ _ rfl 0 (Or.inl (by show 1 < 3; omega))).trans ?_
  refine (View.read_writes_cons_unit_of_not_mem _ _ _ _ _ _ rfl 0 (Or.inl (by show 1 < 3; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  unfold kernelRun0_A.sl.r_29
  pointwise [k0_pay67, k0_pay68]
  refine (b1_at ..).trans (congrArg (fb1 (iblk m c 1 t) s) (Fin.ext ?_))
  first | rfl | (simp; done) | omega

/-- All heads of the keys of gated linear attention. -/
theorem outb_1 (c : Dev nD) (t : Fin cfg0.N) (s : Fin 128) (h : Fin 4) (n : Fin 64) :
    (outsAt0 m c t).2.2.1 (ix4 1 h s n) = fb1 (iblk m c 1 t) s ⟨64 * h.val + n.val, by omega⟩ := by
  match h with
  | ⟨0, _⟩ => exact outb_1_0 m c t s n
  | ⟨1, _⟩ => exact outb_1_1 m c t s n
  | ⟨2, _⟩ => exact outb_1_2 m c t s n
  | ⟨3, _⟩ => exact outb_1_3 m c t s n

/-- Head 0 of the values of gated linear attention, as the body leaves it. -/
theorem outb_2_0 (c : Dev nD) (t : Fin cfg0.N) (s : Fin 128) (n : Fin 64) :
    (outsAt0 m c t).2.2.1 (ix4 2 0 s n) = fb2 (iblk m c 1 t) s ⟨64 * 0 + n.val, by omega⟩ := by
  unfold outsAt0
  dsimp only
  unfold out0_A_12 kernelRun0_A
  dsimp only
  refine (View.read_writes_cons_unit_of_not_mem _ _ _ _ _ _ rfl 0 (Or.inl (by show 2 < 3; omega))).trans ?_
  refine (View.read_writes_cons_unit_of_not_mem _ _ _ _ _ _ rfl 0 (Or.inl (by show 2 < 3; omega))).trans ?_
  refine (View.read_writes_cons_unit_of_not_mem _ _ _ _ _ _ rfl 0 (Or.inl (by show 2 < 3; omega))).trans ?_
  refine (View.read_writes_cons_unit_of_not_mem _ _ _ _ _ _ rfl 0 (Or.inl (by show 2 < 3; omega))).trans ?_
  refine (View.read_writes_cons_unit_of_not_mem _ _ _ _ _ _ rfl 1 (Or.inl (by show 0 < 3; omega))).trans ?_
  refine (View.read_writes_cons_unit_of_not_mem _ _ _ _ _ _ rfl 1 (Or.inl (by show 0 < 2; omega))).trans ?_
  refine (View.read_writes_cons_unit_of_not_mem _ _ _ _ _ _ rfl 1 (Or.inl (by show 0 < 1; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay69]
  refine (b2_at ..).trans (congrArg (fb2 (iblk m c 1 t) s) (Fin.ext ?_))
  first | rfl | (simp; done) | omega

/-- Head 1 of the values of gated linear attention, as the body leaves it. -/
theorem outb_2_1 (c : Dev nD) (t : Fin cfg0.N) (s : Fin 128) (n : Fin 64) :
    (outsAt0 m c t).2.2.1 (ix4 2 1 s n) = fb2 (iblk m c 1 t) s ⟨64 * 1 + n.val, by omega⟩ := by
  unfold outsAt0
  dsimp only
  unfold out0_A_12 kernelRun0_A
  dsimp only
  refine (View.read_writes_cons_unit_of_not_mem _ _ _ _ _ _ rfl 0 (Or.inl (by show 2 < 3; omega))).trans ?_
  refine (View.read_writes_cons_unit_of_not_mem _ _ _ _ _ _ rfl 0 (Or.inl (by show 2 < 3; omega))).trans ?_
  refine (View.read_writes_cons_unit_of_not_mem _ _ _ _ _ _ rfl 0 (Or.inl (by show 2 < 3; omega))).trans ?_
  refine (View.read_writes_cons_unit_of_not_mem _ _ _ _ _ _ rfl 0 (Or.inl (by show 2 < 3; omega))).trans ?_
  refine (View.read_writes_cons_unit_of_not_mem _ _ _ _ _ _ rfl 1 (Or.inl (by show 1 < 3; omega))).trans ?_
  refine (View.read_writes_cons_unit_of_not_mem _ _ _ _ _ _ rfl 1 (Or.inl (by show 1 < 2; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay70]
  refine (b2_at ..).trans (congrArg (fb2 (iblk m c 1 t) s) (Fin.ext ?_))
  first | rfl | (simp; done) | omega

/-- Head 2 of the values of gated linear attention, as the body leaves it. -/
theorem outb_2_2 (c : Dev nD) (t : Fin cfg0.N) (s : Fin 128) (n : Fin 64) :
    (outsAt0 m c t).2.2.1 (ix4 2 2 s n) = fb2 (iblk m c 1 t) s ⟨64 * 2 + n.val, by omega⟩ := by
  unfold outsAt0
  dsimp only
  unfold out0_A_12 kernelRun0_A
  dsimp only
  refine (View.read_writes_cons_unit_of_not_mem _ _ _ _ _ _ rfl 0 (Or.inl (by show 2 < 3; omega))).trans ?_
  refine (View.read_writes_cons_unit_of_not_mem _ _ _ _ _ _ rfl 0 (Or.inl (by show 2 < 3; omega))).trans ?_
  refine (View.read_writes_cons_unit_of_not_mem _ _ _ _ _ _ rfl 0 (Or.inl (by show 2 < 3; omega))).trans ?_
  refine (View.read_writes_cons_unit_of_not_mem _ _ _ _ _ _ rfl 0 (Or.inl (by show 2 < 3; omega))).trans ?_
  refine (View.read_writes_cons_unit_of_not_mem _ _ _ _ _ _ rfl 1 (Or.inl (by show 2 < 3; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay71]
  refine (b2_at ..).trans (congrArg (fb2 (iblk m c 1 t) s) (Fin.ext ?_))
  first | rfl | (simp; done) | omega

/-- Head 3 of the values of gated linear attention, as the body leaves it. -/
theorem outb_2_3 (c : Dev nD) (t : Fin cfg0.N) (s : Fin 128) (n : Fin 64) :
    (outsAt0 m c t).2.2.1 (ix4 2 3 s n) = fb2 (iblk m c 1 t) s ⟨64 * 3 + n.val, by omega⟩ := by
  unfold outsAt0
  dsimp only
  unfold out0_A_12 kernelRun0_A
  dsimp only
  refine (View.read_writes_cons_unit_of_not_mem _ _ _ _ _ _ rfl 0 (Or.inl (by show 2 < 3; omega))).trans ?_
  refine (View.read_writes_cons_unit_of_not_mem _ _ _ _ _ _ rfl 0 (Or.inl (by show 2 < 3; omega))).trans ?_
  refine (View.read_writes_cons_unit_of_not_mem _ _ _ _ _ _ rfl 0 (Or.inl (by show 2 < 3; omega))).trans ?_
  refine (View.read_writes_cons_unit_of_not_mem _ _ _ _ _ _ rfl 0 (Or.inl (by show 2 < 3; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay72]
  refine (b2_at ..).trans (congrArg (fb2 (iblk m c 1 t) s) (Fin.ext ?_))
  first | rfl | (simp; done) | omega

/-- All heads of the values of gated linear attention. -/
theorem outb_2 (c : Dev nD) (t : Fin cfg0.N) (s : Fin 128) (h : Fin 4) (n : Fin 64) :
    (outsAt0 m c t).2.2.1 (ix4 2 h s n) = fb2 (iblk m c 1 t) s ⟨64 * h.val + n.val, by omega⟩ := by
  match h with
  | ⟨0, _⟩ => exact outb_2_0 m c t s n
  | ⟨1, _⟩ => exact outb_2_1 m c t s n
  | ⟨2, _⟩ => exact outb_2_2 m c t s n
  | ⟨3, _⟩ => exact outb_2_3 m c t s n

/-- Head 0 of the forget gate's logarithm of gated linear attention, as the body leaves it. -/
theorem outb_3_0 (c : Dev nD) (t : Fin cfg0.N) (s : Fin 128) (n : Fin 64) :
    (outsAt0 m c t).2.2.1 (ix4 3 0 s n) = fb3 (iblk m c 1 t) (iblk m c 7 t) (iblk m c 8 t) s ⟨64 * 0 + n.val, by omega⟩ := by
  unfold outsAt0
  dsimp only
  unfold out0_A_12 kernelRun0_A
  dsimp only
  refine (View.read_writes_cons_unit_of_not_mem _ _ _ _ _ _ rfl 1 (Or.inl (by show 0 < 3; omega))).trans ?_
  refine (View.read_writes_cons_unit_of_not_mem _ _ _ _ _ _ rfl 1 (Or.inl (by show 0 < 2; omega))).trans ?_
  refine (View.read_writes_cons_unit_of_not_mem _ _ _ _ _ _ rfl 1 (Or.inl (by show 0 < 1; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay73]
  refine (b3_at ..).trans (congrArg (fb3 (iblk m c 1 t) (iblk m c 7 t) (iblk m c 8 t) s) (Fin.ext ?_))
  first | rfl | (simp; done) | omega

/-- Head 1 of the forget gate's logarithm of gated linear attention, as the body leaves it. -/
theorem outb_3_1 (c : Dev nD) (t : Fin cfg0.N) (s : Fin 128) (n : Fin 64) :
    (outsAt0 m c t).2.2.1 (ix4 3 1 s n) = fb3 (iblk m c 1 t) (iblk m c 7 t) (iblk m c 8 t) s ⟨64 * 1 + n.val, by omega⟩ := by
  unfold outsAt0
  dsimp only
  unfold out0_A_12 kernelRun0_A
  dsimp only
  refine (View.read_writes_cons_unit_of_not_mem _ _ _ _ _ _ rfl 1 (Or.inl (by show 1 < 3; omega))).trans ?_
  refine (View.read_writes_cons_unit_of_not_mem _ _ _ _ _ _ rfl 1 (Or.inl (by show 1 < 2; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  unfold kernelRun0_A.sl.r_30
  pointwise [k0_pay74, k0_pay75]
  refine (b3_at ..).trans (congrArg (fb3 (iblk m c 1 t) (iblk m c 7 t) (iblk m c 8 t) s) (Fin.ext ?_))
  first | rfl | (simp; done) | omega

/-- Head 2 of the forget gate's logarithm of gated linear attention, as the body leaves it. -/
theorem outb_3_2 (c : Dev nD) (t : Fin cfg0.N) (s : Fin 128) (n : Fin 64) :
    (outsAt0 m c t).2.2.1 (ix4 3 2 s n) = fb3 (iblk m c 1 t) (iblk m c 7 t) (iblk m c 8 t) s ⟨64 * 2 + n.val, by omega⟩ := by
  unfold outsAt0
  dsimp only
  unfold out0_A_12 kernelRun0_A
  dsimp only
  refine (View.read_writes_cons_unit_of_not_mem _ _ _ _ _ _ rfl 1 (Or.inl (by show 2 < 3; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay76]
  refine (b3_at ..).trans (congrArg (fb3 (iblk m c 1 t) (iblk m c 7 t) (iblk m c 8 t) s) (Fin.ext ?_))
  first | rfl | (simp; done) | omega

/-- Head 3 of the forget gate's logarithm of gated linear attention, as the body leaves it. -/
theorem outb_3_3 (c : Dev nD) (t : Fin cfg0.N) (s : Fin 128) (n : Fin 64) :
    (outsAt0 m c t).2.2.1 (ix4 3 3 s n) = fb3 (iblk m c 1 t) (iblk m c 7 t) (iblk m c 8 t) s ⟨64 * 3 + n.val, by omega⟩ := by
  unfold outsAt0
  dsimp only
  unfold out0_A_12 kernelRun0_A
  dsimp only
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay77]
  refine (b3_at ..).trans (congrArg (fb3 (iblk m c 1 t) (iblk m c 7 t) (iblk m c 8 t) s) (Fin.ext ?_))
  first | rfl | (simp; done) | omega

/-- All heads of the forget gate's logarithm of gated linear attention. -/
theorem outb_3 (c : Dev nD) (t : Fin cfg0.N) (s : Fin 128) (h : Fin 4) (n : Fin 64) :
    (outsAt0 m c t).2.2.1 (ix4 3 h s n) = fb3 (iblk m c 1 t) (iblk m c 7 t) (iblk m c 8 t) s ⟨64 * h.val + n.val, by omega⟩ := by
  match h with
  | ⟨0, _⟩ => exact outb_3_0 m c t s n
  | ⟨1, _⟩ => exact outb_3_1 m c t s n
  | ⟨2, _⟩ => exact outb_3_2 m c t s n
  | ⟨3, _⟩ => exact outb_3_3 m c t s n

end Cert.Kernel8Ideal.Hand
end
-- ==== Proof.Prep.OutD.lean ====
module

public import proofs.«01_k».proof.Proof.Prep.Defs
@[expose] public section

set_option maxRecDepth 16384
noncomputable section

namespace Cert.Kernel8Ideal.Hand

open Cert.Kernel8Ideal Cert.Kernel8Ideal.Gen Idealize.ShloMosaic Idealize.ShloMosaic.TcCoe Idealize.SL.Sem Cert.Hand
open Cert.Kernel5Ideal.Hand (ss_eq sum_sel three_parts absf_max add_four kf)

variable (m : (ℓ : Loc nD τ sig) → Buf (Elt Ideal) ℓ)

/-- Head 0 of the queries of the third mixer, as the body leaves it. -/
theorem outd_0_0 (c : Dev nD) (t : Fin cfg0.N) (s : Fin 128) (n : Fin 64) :
    (outsAt0 m c t).2.2.2.1 (ix4 0 0 s n) = fd0 (iblk m c 2 t) s ⟨64 * 0 + n.val, by omega⟩ := by
  unfold outsAt0
  dsimp only
  unfold out0_A_13 kernelRun0_A
  dsimp only
  refine (View.read_writes_cons_unit_of_not_mem _ _ _ _ _ _ rfl 0 (Or.inl (by show 0 < 3; omega))).trans ?_
  refine (View.read_writes_cons_unit_of_not_mem _ _ _ _ _ _ rfl 0 (Or.inl (by show 0 < 3; omega))).trans ?_
  refine (View.read_writes_cons_unit_of_not_mem _ _ _ _ _ _ rfl 0 (Or.inl (by show 0 < 3; omega))).trans ?_
  refine (View.read_writes_cons_unit_of_not_mem _ _ _ _ _ _ rfl 0 (Or.inl (by show 0 < 3; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 1 (Or.inl (by show 0 < 3; omega))).trans ?_
  refine (View.read_writes_cons_unit_of_not_mem _ _ _ _ _ _ rfl 1 (Or.inl (by show 0 < 2; omega))).trans ?_
  refine (View.read_writes_cons_unit_of_not_mem _ _ _ _ _ _ rfl 1 (Or.inl (by show 0 < 1; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay78]
  refine (d0_at ..).trans (congrArg (fd0 (iblk m c 2 t) s) (Fin.ext ?_))
  first | rfl | (simp; done) | omega

/-- Head 1 of the queries of the third mixer, as the body leaves it. -/
theorem outd_0_1 (c : Dev nD) (t : Fin cfg0.N) (s : Fin 128) (n : Fin 64) :
    (outsAt0 m c t).2.2.2.1 (ix4 0 1 s n) = fd0 (iblk m c 2 t) s ⟨64 * 1 + n.val, by omega⟩ := by
  unfold outsAt0
  dsimp only
  unfold out0_A_13 kernelRun0_A
  dsimp only
  refine (View.read_writes_cons_unit_of_not_mem _ _ _ _ _ _ rfl 0 (Or.inl (by show 0 < 3; omega))).trans ?_
  refine (View.read_writes_cons_unit_of_not_mem _ _ _ _ _ _ rfl 0 (Or.inl (by show 0 < 3; omega))).trans ?_
  refine (View.read_writes_cons_unit_of_not_mem _ _ _ _ _ _ rfl 0 (Or.inl (by show 0 < 3; omega))).trans ?_
  refine (View.read_writes_cons_unit_of_not_mem _ _ _ _ _ _ rfl 0 (Or.inl (by show 0 < 3; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 1 (Or.inl (by show 1 < 3; omega))).trans ?_
  refine (View.read_writes_cons_unit_of_not_mem _ _ _ _ _ _ rfl 1 (Or.inl (by show 1 < 2; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay79]
  refine (d0_at ..).trans (congrArg (fd0 (iblk m c 2 t) s) (Fin.ext ?_))
  first | rfl | (simp; done) | omega

/-- Head 2 of the queries of the third mixer, as the body leaves it. -/
theorem outd_0_2 (c : Dev nD) (t : Fin cfg0.N) (s : Fin 128) (n : Fin 64) :
    (outsAt0 m c t).2.2.2.1 (ix4 0 2 s n) = fd0 (iblk m c 2 t) s ⟨64 * 2 + n.val, by omega⟩ := by
  unfold outsAt0
  dsimp only
  unfold out0_A_13 kernelRun0_A
  dsimp only
  refine (View.read_writes_cons_unit_of_not_mem _ _ _ _ _ _ rfl 0 (Or.inl (by show 0 < 3; omega))).trans ?_
  refine (View.read_writes_cons_unit_of_not_mem _ _ _ _ _ _ rfl 0 (Or.inl (by show 0 < 3; omega))).trans ?_
  refine (View.read_writes_cons_unit_of_not_mem _ _ _ _ _ _ rfl 0 (Or.inl (by show 0 < 3; omega))).trans ?_
  refine (View.read_writes_cons_unit_of_not_mem _ _ _ _ _ _ rfl 0 (Or.inl (by show 0 < 3; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 1 (Or.inl (by show 2 < 3; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay80]
  refine (d0_at ..).trans (congrArg (fd0 (iblk m c 2 t) s) (Fin.ext ?_))
  first | rfl | (simp; done) | omega

/-- Head 3 of the queries of the third mixer, as the body leaves it. -/
theorem outd_0_3 (c : Dev nD) (t : Fin cfg0.N) (s : Fin 128) (n : Fin 64) :
    (outsAt0 m c t).2.2.2.1 (ix4 0 3 s n) = fd0 (iblk m c 2 t) s ⟨64 * 3 + n.val, by omega⟩ := by
  unfold outsAt0
  dsimp only
  unfold out0_A_13 kernelRun0_A
  dsimp only
  refine (View.read_writes_cons_unit_of_not_mem _ _ _ _ _ _ rfl 0 (Or.inl (by show 0 < 3; omega))).trans ?_
  refine (View.read_writes_cons_unit_of_not_mem _ _ _ _ _ _ rfl 0 (Or.inl (by show 0 < 3; omega))).trans ?_
  refine (View.read_writes_cons_unit_of_not_mem _ _ _ _ _ _ rfl 0 (Or.inl (by show 0 < 3; omega))).trans ?_
  refine (View.read_writes_cons_unit_of_not_mem _ _ _ _ _ _ rfl 0 (Or.inl (by show 0 < 3; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 2; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_not_mem _ _ _ _ _ _ rfl 0 (Or.inl (by show 0 < 1; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay81]
  refine (d0_at ..).trans (congrArg (fd0 (iblk m c 2 t) s) (Fin.ext ?_))
  first | rfl | (simp; done) | omega

/-- All heads of the queries of the third mixer. -/
theorem outd_0 (c : Dev nD) (t : Fin cfg0.N) (s : Fin 128) (h : Fin 4) (n : Fin 64) :
    (outsAt0 m c t).2.2.2.1 (ix4 0 h s n) = fd0 (iblk m c 2 t) s ⟨64 * h.val + n.val, by omega⟩ := by
  match h with
  | ⟨0, _⟩ => exact outd_0_0 m c t s n
  | ⟨1, _⟩ => exact outd_0_1 m c t s n
  | ⟨2, _⟩ => exact outd_0_2 m c t s n
  | ⟨3, _⟩ => exact outd_0_3 m c t s n

/-- Head 0 of the keys of the third mixer, as the body leaves it. -/
theorem outd_1_0 (c : Dev nD) (t : Fin cfg0.N) (s : Fin 128) (n : Fin 64) :
    (outsAt0 m c t).2.2.2.1 (ix4 1 0 s n) = fd1 (iblk m c 2 t) (iblk m c 9 t) s ⟨64 * 0 + n.val, by omega⟩ := by
  unfold outsAt0
  dsimp only
  unfold out0_A_13 kernelRun0_A
  dsimp only
  refine (View.read_writes_cons_unit_of_not_mem _ _ _ _ _ _ rfl 0 (Or.inl (by show 1 < 3; omega))).trans ?_
  refine (View.read_writes_cons_unit_of_not_mem _ _ _ _ _ _ rfl 0 (Or.inl (by show 1 < 3; omega))).trans ?_
  refine (View.read_writes_cons_unit_of_not_mem _ _ _ _ _ _ rfl 0 (Or.inl (by show 1 < 3; omega))).trans ?_
  refine (View.read_writes_cons_unit_of_not_mem _ _ _ _ _ _ rfl 0 (Or.inl (by show 1 < 3; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 1 (Or.inl (by show 0 < 3; omega))).trans ?_
  refine (View.read_writes_cons_unit_of_not_mem _ _ _ _ _ _ rfl 1 (Or.inl (by show 0 < 2; omega))).trans ?_
  refine (View.read_writes_cons_unit_of_not_mem _ _ _ _ _ _ rfl 1 (Or.inl (by show 0 < 1; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  unfold kernelRun0_A.sl.r_31
  pointwise [k0_pay82, k0_pay83]
  refine (d1_at ..).trans (congrArg (fd1 (iblk m c 2 t) (iblk m c 9 t) s) (Fin.ext ?_))
  first | rfl | (simp; done) | omega

/-- Head 1 of the keys of the third mixer, as the body leaves it. -/
theorem outd_1_1 (c : Dev nD) (t : Fin cfg0.N) (s : Fin 128) (n : Fin 64) :
    (outsAt0 m c t).2.2.2.1 (ix4 1 1 s n) = fd1 (iblk m c 2 t) (iblk m c 9 t) s ⟨64 * 1 + n.val, by omega⟩ := by
  unfold outsAt0
  dsimp only
  unfold out0_A_13 kernelRun0_A
  dsimp only
  refine (View.read_writes_cons_unit_of_not_mem _ _ _ _ _ _ rfl 0 (Or.inl (by show 1 < 3; omega))).trans ?_
  refine (View.read_writes_cons_unit_of_not_mem _ _ _ _ _ _ rfl 0 (Or.inl (by show 1 < 3; omega))).trans ?_
  refine (View.read_writes_cons_unit_of_not_mem _ _ _ _ _ _ rfl 0 (Or.inl (by show 1 < 3; omega))).trans ?_
  refine (View.read_writes_cons_unit_of_not_mem _ _ _ _ _ _ rfl 0 (Or.inl (by show 1 < 3; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 1 (Or.inl (by show 1 < 3; omega))).trans ?_
  refine (View.read_writes_cons_unit_of_not_mem _ _ _ _ _ _ rfl 1 (Or.inl (by show 1 < 2; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay84]
  refine (d1_at ..).trans (congrArg (fd1 (iblk m c 2 t) (iblk m c 9 t) s) (Fin.ext ?_))
  first | rfl | (simp; done) | omega

/-- Head 2 of the keys of the third mixer, as the body leaves it. -/
theorem outd_1_2 (c : Dev nD) (t : Fin cfg0.N) (s : Fin 128) (n : Fin 64) :
    (outsAt0 m c t).2.2.2.1 (ix4 1 2 s n) = fd1 (iblk m c 2 t) (iblk m c 9 t) s ⟨64 * 2 + n.val, by omega⟩ := by
  unfold outsAt0
  dsimp only
  unfold out0_A_13 kernelRun0_A
  dsimp only
  refine (View.read_writes_cons_unit_of_not_mem _ _ _ _ _ _ rfl 0 (Or.inl (by show 1 < 3; omega))).trans ?_
  refine (View.read_writes_cons_unit_of_not_mem _ _ _ _ _ _ rfl 0 (Or.inl (by show 1 < 3; omega))).trans ?_
  refine (View.read_writes_cons_unit_of_not_mem _ _ _ _ _ _ rfl 0 (Or.inl (by show 1 < 3; omega))).trans ?_
  refine (View.read_writes_cons_unit_of_not_mem _ _ _ _ _ _ rfl 0 (Or.inl (by show 1 < 3; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 1 (Or.inl (by show 2 < 3; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay85]
  refine (d1_at ..).trans (congrArg (fd1 (iblk m c 2 t) (iblk m c 9 t) s) (Fin.ext ?_))
  first | rfl | (simp; done) | omega

/-- Head 3 of the keys of the third mixer, as the body leaves it. -/
theorem outd_1_3 (c : Dev nD) (t : Fin cfg0.N) (s : Fin 128) (n : Fin 64) :
    (outsAt0 m c t).2.2.2.1 (ix4 1 3 s n) = fd1 (iblk m c 2 t) (iblk m c 9 t) s ⟨64 * 3 + n.val, by omega⟩ := by
  unfold outsAt0
  dsimp only
  unfold out0_A_13 kernelRun0_A
  dsimp only
  refine (View.read_writes_cons_unit_of_not_mem _ _ _ _ _ _ rfl 0 (Or.inl (by show 1 < 3; omega))).trans ?_
  refine (View.read_writes_cons_unit_of_not_mem _ _ _ _ _ _ rfl 0 (Or.inl (by show 1 < 3; omega))).trans ?_
  refine (View.read_writes_cons_unit_of_not_mem _ _ _ _ _ _ rfl 0 (Or.inl (by show 1 < 3; omega))).trans ?_
  refine (View.read_writes_cons_unit_of_not_mem _ _ _ _ _ _ rfl 0 (Or.inl (by show 1 < 3; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_not_mem _ _ _ _ _ _ rfl 0 (Or.inl (by show 1 < 2; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay86]
  refine (d1_at ..).trans (congrArg (fd1 (iblk m c 2 t) (iblk m c 9 t) s) (Fin.ext ?_))
  first | rfl | (simp; done) | omega

/-- All heads of the keys of the third mixer. -/
theorem outd_1 (c : Dev nD) (t : Fin cfg0.N) (s : Fin 128) (h : Fin 4) (n : Fin 64) :
    (outsAt0 m c t).2.2.2.1 (ix4 1 h s n) = fd1 (iblk m c 2 t) (iblk m c 9 t) s ⟨64 * h.val + n.val, by omega⟩ := by
  match h with
  | ⟨0, _⟩ => exact outd_1_0 m c t s n
  | ⟨1, _⟩ => exact outd_1_1 m c t s n
  | ⟨2, _⟩ => exact outd_1_2 m c t s n
  | ⟨3, _⟩ => exact outd_1_3 m c t s n

/-- Head 0 of the values of the third mixer, as the body leaves it. -/
theorem outd_2_0 (c : Dev nD) (t : Fin cfg0.N) (s : Fin 128) (n : Fin 64) :
    (outsAt0 m c t).2.2.2.1 (ix4 2 0 s n) = fd2 (iblk m c 2 t) s ⟨64 * 0 + n.val, by omega⟩ := by
  unfold outsAt0
  dsimp only
  unfold out0_A_13 kernelRun0_A
  dsimp only
  refine (View.read_writes_cons_unit_of_not_mem _ _ _ _ _ _ rfl 0 (Or.inl (by show 2 < 3; omega))).trans ?_
  refine (View.read_writes_cons_unit_of_not_mem _ _ _ _ _ _ rfl 0 (Or.inl (by show 2 < 3; omega))).trans ?_
  refine (View.read_writes_cons_unit_of_not_mem _ _ _ _ _ _ rfl 0 (Or.inl (by show 2 < 3; omega))).trans ?_
  refine (View.read_writes_cons_unit_of_not_mem _ _ _ _ _ _ rfl 0 (Or.inl (by show 2 < 3; omega))).trans ?_
  refine (View.read_writes_cons_unit_of_not_mem _ _ _ _ _ _ rfl 1 (Or.inl (by show 0 < 3; omega))).trans ?_
  refine (View.read_writes_cons_unit_of_not_mem _ _ _ _ _ _ rfl 1 (Or.inl (by show 0 < 2; omega))).trans ?_
  refine (View.read_writes_cons_unit_of_not_mem _ _ _ _ _ _ rfl 1 (Or.inl (by show 0 < 1; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay87]
  refine (d2_at ..).trans (congrArg (fd2 (iblk m c 2 t) s) (Fin.ext ?_))
  first | rfl | (simp; done) | omega

/-- Head 1 of the values of the third mixer, as the body leaves it. -/
theorem outd_2_1 (c : Dev nD) (t : Fin cfg0.N) (s : Fin 128) (n : Fin 64) :
    (outsAt0 m c t).2.2.2.1 (ix4 2 1 s n) = fd2 (iblk m c 2 t) s ⟨64 * 1 + n.val, by omega⟩ := by
  unfold outsAt0
  dsimp only
  unfold out0_A_13 kernelRun0_A
  dsimp only
  refine (View.read_writes_cons_unit_of_not_mem _ _ _ _ _ _ rfl 0 (Or.inl (by show 2 < 3; omega))).trans ?_
  refine (View.read_writes_cons_unit_of_not_mem _ _ _ _ _ _ rfl 0 (Or.inl (by show 2 < 3; omega))).trans ?_
  refine (View.read_writes_cons_unit_of_not_mem _ _ _ _ _ _ rfl 0 (Or.inl (by show 2 < 3; omega))).trans ?_
  refine (View.read_writes_cons_unit_of_not_mem _ _ _ _ _ _ rfl 0 (Or.inl (by show 2 < 3; omega))).trans ?_
  refine (View.read_writes_cons_unit_of_not_mem _ _ _ _ _ _ rfl 1 (Or.inl (by show 1 < 3; omega))).trans ?_
  refine (View.read_writes_cons_unit_of_not_mem _ _ _ _ _ _ rfl 1 (Or.inl (by show 1 < 2; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay88]
  refine (d2_at ..).trans (congrArg (fd2 (iblk m c 2 t) s) (Fin.ext ?_))
  first | rfl | (simp; done) | omega

/-- Head 2 of the values of the third mixer, as the body leaves it. -/
theorem outd_2_2 (c : Dev nD) (t : Fin cfg0.N) (s : Fin 128) (n : Fin 64) :
    (outsAt0 m c t).2.2.2.1 (ix4 2 2 s n) = fd2 (iblk m c 2 t) s ⟨64 * 2 + n.val, by omega⟩ := by
  unfold outsAt0
  dsimp only
  unfold out0_A_13 kernelRun0_A
  dsimp only
  refine (View.read_writes_cons_unit_of_not_mem _ _ _ _ _ _ rfl 0 (Or.inl (by show 2 < 3; omega))).trans ?_
  refine (View.read_writes_cons_unit_of_not_mem _ _ _ _ _ _ rfl 0 (Or.inl (by show 2 < 3; omega))).trans ?_
  refine (View.read_writes_cons_unit_of_not_mem _ _ _ _ _ _ rfl 0 (Or.inl (by show 2 < 3; omega))).trans ?_
  refine (View.read_writes_cons_unit_of_not_mem _ _ _ _ _ _ rfl 0 (Or.inl (by show 2 < 3; omega))).trans ?_
  refine (View.read_writes_cons_unit_of_not_mem _ _ _ _ _ _ rfl 1 (Or.inl (by show 2 < 3; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay89]
  refine (d2_at ..).trans (congrArg (fd2 (iblk m c 2 t) s) (Fin.ext ?_))
  first | rfl | (simp; done) | omega

/-- Head 3 of the values of the third mixer, as the body leaves it. -/
theorem outd_2_3 (c : Dev nD) (t : Fin cfg0.N) (s : Fin 128) (n : Fin 64) :
    (outsAt0 m c t).2.2.2.1 (ix4 2 3 s n) = fd2 (iblk m c 2 t) s ⟨64 * 3 + n.val, by omega⟩ := by
  unfold outsAt0
  dsimp only
  unfold out0_A_13 kernelRun0_A
  dsimp only
  refine (View.read_writes_cons_unit_of_not_mem _ _ _ _ _ _ rfl 0 (Or.inl (by show 2 < 3; omega))).trans ?_
  refine (View.read_writes_cons_unit_of_not_mem _ _ _ _ _ _ rfl 0 (Or.inl (by show 2 < 3; omega))).trans ?_
  refine (View.read_writes_cons_unit_of_not_mem _ _ _ _ _ _ rfl 0 (Or.inl (by show 2 < 3; omega))).trans ?_
  refine (View.read_writes_cons_unit_of_not_mem _ _ _ _ _ _ rfl 0 (Or.inl (by show 2 < 3; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  unfold kernelRun0_A.sl.r_32
  pointwise [k0_pay90, k0_pay1]
  refine (d2_at ..).trans (congrArg (fd2 (iblk m c 2 t) s) (Fin.ext ?_))
  first | rfl | (simp; done) | omega

/-- All heads of the values of the third mixer. -/
theorem outd_2 (c : Dev nD) (t : Fin cfg0.N) (s : Fin 128) (h : Fin 4) (n : Fin 64) :
    (outsAt0 m c t).2.2.2.1 (ix4 2 h s n) = fd2 (iblk m c 2 t) s ⟨64 * h.val + n.val, by omega⟩ := by
  match h with
  | ⟨0, _⟩ => exact outd_2_0 m c t s n
  | ⟨1, _⟩ => exact outd_2_1 m c t s n
  | ⟨2, _⟩ => exact outd_2_2 m c t s n
  | ⟨3, _⟩ => exact outd_2_3 m c t s n

/-- Head 0 of the forget gate's logarithm of the third mixer, as the body leaves it. -/
theorem outd_3_0 (c : Dev nD) (t : Fin cfg0.N) (s : Fin 128) (n : Fin 64) :
    (outsAt0 m c t).2.2.2.1 (ix4 3 0 s n) = fd3 (iblk m c 2 t) (iblk m c 9 t) s ⟨64 * 0 + n.val, by omega⟩ := by
  unfold outsAt0
  dsimp only
  unfold out0_A_13 kernelRun0_A
  dsimp only
  refine (View.read_writes_cons_unit_of_not_mem _ _ _ _ _ _ rfl 1 (Or.inl (by show 0 < 3; omega))).trans ?_
  refine (View.read_writes_cons_unit_of_not_mem _ _ _ _ _ _ rfl 1 (Or.inl (by show 0 < 2; omega))).trans ?_
  refine (View.read_writes_cons_unit_of_not_mem _ _ _ _ _ _ rfl 1 (Or.inl (by show 0 < 1; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay2]
  refine (d3_at ..).trans (congrArg (fd3 (iblk m c 2 t) (iblk m c 9 t) s) (Fin.ext ?_))
  first | rfl | (simp; done) | omega

/-- Head 1 of the forget gate's logarithm of the third mixer, as the body leaves it. -/
theorem outd_3_1 (c : Dev nD) (t : Fin cfg0.N) (s : Fin 128) (n : Fin 64) :
    (outsAt0 m c t).2.2.2.1 (ix4 3 1 s n) = fd3 (iblk m c 2 t) (iblk m c 9 t) s ⟨64 * 1 + n.val, by omega⟩ := by
  unfold outsAt0
  dsimp only
  unfold out0_A_13 kernelRun0_A
  dsimp only
  refine (View.read_writes_cons_unit_of_not_mem _ _ _ _ _ _ rfl 1 (Or.inl (by show 1 < 3; omega))).trans ?_
  refine (View.read_writes_cons_unit_of_not_mem _ _ _ _ _ _ rfl 1 (Or.inl (by show 1 < 2; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay3]
  refine (d3_at ..).trans (congrArg (fd3 (iblk m c 2 t) (iblk m c 9 t) s) (Fin.ext ?_))
  first | rfl | (simp; done) | omega

/-- Head 2 of the forget gate's logarithm of the third mixer, as the body leaves it. -/
theorem outd_3_2 (c : Dev nD) (t : Fin cfg0.N) (s : Fin 128) (n : Fin 64) :
    (outsAt0 m c t).2.2.2.1 (ix4 3 2 s n) = fd3 (iblk m c 2 t) (iblk m c 9 t) s ⟨64 * 2 + n.val, by omega⟩ := by
  unfold outsAt0
  dsimp only
  unfold out0_A_13 kernelRun0_A
  dsimp only
  refine (View.read_writes_cons_unit_of_not_mem _ _ _ _ _ _ rfl 1 (Or.inl (by show 2 < 3; omega))).trans ?_
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay4]
  refine (d3_at ..).trans (congrArg (fd3 (iblk m c 2 t) (iblk m c 9 t) s) (Fin.ext ?_))
  first | rfl | (simp; done) | omega

/-- Head 3 of the forget gate's logarithm of the third mixer, as the body leaves it. -/
theorem outd_3_3 (c : Dev nD) (t : Fin cfg0.N) (s : Fin 128) (n : Fin 64) :
    (outsAt0 m c t).2.2.2.1 (ix4 3 3 s n) = fd3 (iblk m c 2 t) (iblk m c 9 t) s ⟨64 * 3 + n.val, by omega⟩ := by
  unfold outsAt0
  dsimp only
  unfold out0_A_13 kernelRun0_A
  dsimp only
  refine (View.read_writes_cons_unit_of_mem _ _ _ _ _ _ (ix4 0 0 s n) rfl (fun k => ?_)).trans ?_
  · match k with
    | ⟨0, _⟩ => rfl
    | ⟨1, _⟩ => rfl
    | ⟨2, _⟩ => exact (Nat.zero_add _).symm
    | ⟨3, _⟩ => exact (Nat.zero_add _).symm
  pointwise [k0_pay5]
  refine (d3_at ..).trans (congrArg (fd3 (iblk m c 2 t) (iblk m c 9 t) s) (Fin.ext ?_))
  first | rfl | (simp; done) | omega

/-- All heads of the forget gate's logarithm of the third mixer. -/
theorem outd_3 (c : Dev nD) (t : Fin cfg0.N) (s : Fin 128) (h : Fin 4) (n : Fin 64) :
    (outsAt0 m c t).2.2.2.1 (ix4 3 h s n) = fd3 (iblk m c 2 t) (iblk m c 9 t) s ⟨64 * h.val + n.val, by omega⟩ := by
  match h with
  | ⟨0, _⟩ => exact outd_3_0 m c t s n
  | ⟨1, _⟩ => exact outd_3_1 m c t s n
  | ⟨2, _⟩ => exact outd_3_2 m c t s n
  | ⟨3, _⟩ => exact outd_3_3 m c t s n

end Cert.Kernel8Ideal.Hand
end
-- ==== Proof.Prep.Final.lean ====
module

public import proofs.«01_k».proof.Proof.Prep.Blocks
public import proofs.«01_k».proof.Proof.Prep.OutA
public import proofs.«01_k».proof.Proof.Prep.OutG
public import proofs.«01_k».proof.Proof.Prep.OutB
public import proofs.«01_k».proof.Proof.Prep.OutD
@[expose] public section

set_option maxRecDepth 16384
noncomputable section

namespace Cert.Kernel8Ideal.Hand

open Cert.Kernel8Ideal Cert.Kernel8Ideal.Gen Idealize.ShloMosaic Idealize.ShloMosaic.TcCoe Idealize.SL.Sem Cert.Hand
open Cert.Kernel5Ideal.Hand (ss_eq sum_sel three_parts absf_max add_four kf)

variable (m : (ℓ : Loc nD τ sig) → Buf (Elt Ideal) ℓ)

/-- The earlier rows that stay, as the body leaves them. -/
theorem outc_lo (c : Dev nD) (t : Fin cfg0.N) (s : Fin 128) (p : Fin 2304) (n : Fin 1536) (hp : p.val = n.val) :
    (outsAt0 m c t).2.2.2.2 (ix2 s p) = (iblk m c 3 t : Vec Ideal S128x2304 .f32) (ix2 s ⟨768 + n.val, by omega⟩) := by
  unfold outsAt0
  dsimp only
  unfold out0_A_14 kernelRun0_A
  dsimp only
  refine (View.read_writes_cons_unit_of_not_mem _ _ _ _ _ _ rfl 1 (Or.inl (by show p.val < 1536; omega))).trans ?_
  refine (View.read_writes_cons_unit_of_mem _ _ _ _ _ _ (ix2 s n) rfl (fun k => ?_)).trans ?_
  · match k with
    | ⟨0, _⟩ => exact (Nat.zero_add _).symm
    | ⟨1, _⟩ => exact hp.trans (Nat.zero_add _).symm
  exact c0_at ..

/-- The new row, as the body leaves it. -/
theorem outc_hi (c : Dev nD) (t : Fin cfg0.N) (s : Fin 128) (p : Fin 2304) (n : Fin 768) (hp : p.val = 1536 + n.val) :
    (outsAt0 m c t).2.2.2.2 (ix2 s p) = (iblk m c 0 t : Vec Ideal S128x1152 .f32) (ix2 s ⟨n.val, by omega⟩) := by
  unfold outsAt0
  dsimp only
  unfold out0_A_14 kernelRun0_A
  dsimp only
  refine (View.read_writes_cons_unit_of_mem _ _ _ _ _ _ (ix2 s n) rfl (fun k => ?_)).trans ?_
  · match k with
    | ⟨0, _⟩ => exact (Nat.zero_add _).symm
    | ⟨1, _⟩ => exact hp
  exact c1_at ..

/-- The convolved columns of the blocks are those of the arguments. -/
theorem cy_eq (c : Dev nD) (t : Fin cfg0.N) (s : Fin 128) (n : Fin 768) : cy (iblk m c 0 t) (iblk m c 3 t) (iblk m c 4 t) s n = CVP (m (c.tc.loc main_arg0)) (m (c.tc.loc main_arg13)) (m (c.tc.loc main_arg14)) s n := by
  rw [blk0, blk3, blk4, V_pa, V_cv, V_cw]
  unfold cy CVP taps
  rw [pa_0 _ _ _ _ s n _ (by show n.val = 0 + n.val; omega), rows_apply _ s 0 n _ (by show n.val = 768 * 0 + n.val; omega),
    rows_apply _ s 1 n _ (by show 768 + n.val = 768 * 1 + n.val; omega), rows_apply _ s 2 n _ (by show 1536 + n.val = 768 * 2 + n.val; omega)]

/-- The queries of gated linear attention, from the blocks and from the arguments. -/
theorem fb0_eq (c : Dev nD) (t : Fin cfg0.N) (s : Fin 128) (q : Fin 256) : fb0 (iblk m c 1 t) s q = sb0 (m (c.tc.loc main_arg4)) s q := by
  unfold fb0 sb0
  rw [blk1, V_pb, pb_0 _ _ _ _ _ s _ _ (Nat.zero_add _).symm]

/-- The keys of gated linear attention, from the blocks and from the arguments. -/
theorem fb1_eq (c : Dev nD) (t : Fin cfg0.N) (s : Fin 128) (q : Fin 256) : fb1 (iblk m c 1 t) s q = sb1 (m (c.tc.loc main_arg5)) s q := by
  unfold fb1 sb1
  rw [blk1, V_pb, pb_256 _ _ _ _ _ s _ _ rfl]

/-- The values of gated linear attention, from the blocks and from the arguments. -/
theorem fb2_eq (c : Dev nD) (t : Fin cfg0.N) (s : Fin 128) (q : Fin 256) : fb2 (iblk m c 1 t) s q = sb2 (m (c.tc.loc main_arg6)) s q := by
  unfold fb2 sb2
  rw [blk1, V_pb, pb_512 _ _ _ _ _ s _ _ rfl]

/-- The queries of the third mixer, from the blocks and from the arguments. -/
theorem fd0_eq (c : Dev nD) (t : Fin cfg0.N) (s : Fin 128) (q : Fin 256) : fd0 (iblk m c 2 t) s q = sd0 (m (c.tc.loc main_arg9)) s q := by
  unfold fd0 sd0
  rw [blk2, V_pd, pd_0 _ _ _ _ s _ _ (Nat.zero_add _).symm]

/-- The keys of the third mixer, from the blocks and from the arguments. -/
theorem fd1_eq (c : Dev nD) (t : Fin cfg0.N) (s : Fin 128) (q : Fin 256) : fd1 (iblk m c 2 t) (iblk m c 9 t) s q = sd1 (m (c.tc.loc main_arg10)) (m (c.tc.loc main_arg19)) s q := by
  unfold fd1 sd1
  rw [blk2, blk9, V_pd, V_lb, row_apply, pd_256 _ _ _ _ s _ _ rfl]

/-- The values of the third mixer, from the blocks and from the arguments. -/
theorem fd2_eq (c : Dev nD) (t : Fin cfg0.N) (s : Fin 128) (q : Fin 256) : fd2 (iblk m c 2 t) s q = sd2 (m (c.tc.loc main_arg11)) s q := by
  unfold fd2 sd2
  rw [blk2, V_pd, pd_512 _ _ _ _ s _ _ rfl]

/-- The forget gate's logarithm of the third mixer, from the blocks and from the arguments. -/
theorem fd3_eq (c : Dev nD) (t : Fin cfg0.N) (s : Fin 128) (q : Fin 256) : fd3 (iblk m c 2 t) (iblk m c 9 t) s q = sd3 (m (c.tc.loc main_arg10)) (m (c.tc.loc main_arg19)) s q := by
  unfold fd3 sd3
  rw [blk2, blk9, V_pd, V_lb, row_apply, pd_256 _ _ _ _ s _ _ rfl]

/-- The queries of the delta rule, from the blocks and from the arguments. -/
theorem fa0_eq (c : Dev nD) (t : Fin cfg0.N) (s : Fin 128) (q : Fin 256) : fa0 (iblk m c 0 t) (iblk m c 3 t) (iblk m c 4 t) s q = sa0 (m (c.tc.loc main_arg0)) (m (c.tc.loc main_arg13)) (m (c.tc.loc main_arg14)) s q := by
  unfold fa0 sa0
  simp only [cy_eq]

/-- The keys of the delta rule, from the blocks and from the arguments. -/
theorem fa1_eq (c : Dev nD) (t : Fin cfg0.N) (s : Fin 128) (q : Fin 256) : fa1 (iblk m c 0 t) (iblk m c 3 t) (iblk m c 4 t) s q = sa1 (m (c.tc.loc main_arg0)) (m (c.tc.loc main_arg13)) (m (c.tc.loc main_arg14)) s q := by
  unfold fa1 sa1
  simp only [cy_eq]

/-- The values of the delta rule, from the blocks and from the arguments. -/
theorem fa2_eq (c : Dev nD) (t : Fin cfg0.N) (s : Fin 128) (q : Fin 256) : fa2 (iblk m c 0 t) (iblk m c 3 t) (iblk m c 4 t) s q = sa2 (m (c.tc.loc main_arg0)) (m (c.tc.loc main_arg13)) (m (c.tc.loc main_arg14)) s q := by
  unfold fa2 sa2
  simp only [cy_eq]

/-- The forget gate's logarithm of gated linear attention, from the blocks and from the arguments. -/
theorem fb3_eq (c : Dev nD) (t : Fin cfg0.N) (s : Fin 128) (q : Fin 256) : fb3 (iblk m c 1 t) (iblk m c 7 t) (iblk m c 8 t) s q = sb3 (m (c.tc.loc main_arg7)) (m (c.tc.loc main_arg17)) (m (c.tc.loc main_arg18)) s q := by
  unfold fb3 sb3
  rw [blk1, blk7, blk8, V_pb, V_pw, V_gb, row_apply]
  refine congrArg (fun z => lsg (z + _) * _) ?_
  refine (Fin.sum_univ_add (a := 16) (b := 112) _).trans ?_
  refine (congrArg₂ (· + ·) (Finset.sum_congr rfl fun k _ => ?_) (Finset.sum_eq_zero fun k _ => ?_)).trans (add_zero _)
  · rw [pw_lo _ k q _ rfl, pb_1024 _ _ _ _ _ s k _ rfl]
  · rw [pw_hi _ k q _ rfl, mul_zero]

/-- The decay's logarithm at a head, from the blocks and from the arguments. -/
theorem fg0_eq (c : Dev nD) (t : Fin cfg0.N) (s : Fin 128) (h : Fin 4) (q : Fin 256) (hq : q.val = 64 * h.val) : fg0 (iblk m c 0 t) (iblk m c 5 t) (iblk m c 6 t) s q = sg0 (m (c.tc.loc main_arg1)) (m (c.tc.loc main_arg15)) (m (c.tc.loc main_arg16)) s h := by
  have e : (⟨q.val / 64, by omega⟩ : Fin 4) = h := Fin.ext (by show q.val / 64 = h.val; omega)
  unfold fg0 sg0
  rw [blk0, blk5, blk6, V_pa, V_al, V_dt, rep_apply, rep_apply, e, pa_1024 _ _ _ _ s h _ (by show 1024 + q.val / 64 = 1024 + h.val; omega)]

/-- The update gate at a head, from the blocks and from the arguments. -/
theorem fg1_eq (c : Dev nD) (t : Fin cfg0.N) (s : Fin 128) (h : Fin 4) (q : Fin 256) (hq : q.val = 64 * h.val) : fg1 (iblk m c 0 t) s q = sg1 (m (c.tc.loc main_arg2)) s h := by
  unfold fg1 sg1
  rw [blk0, V_pa, pa_1028 _ _ _ _ s h _ (by show 1024 + (q.val / 64 + 4) = 1028 + h.val; omega)]

/-- The queries of the delta rule, after the run. -/
theorem fin_a0 (c : Dev nD) (h0 : ∀ i, ∃ r : ℝ, (m (c.tc.loc main_arg0)) i = (r : EReal)) (h13 : ∀ i, ∃ r : ℝ, (m (c.tc.loc main_arg13)) i = (r : EReal)) (h14 : ∀ i, ∃ r : ℝ, (m (c.tc.loc main_arg14)) i = (r : EReal)) (h : Fin 4) (s : Fin 128) (n : Fin 64) :
    (dats m 0 c).arrAt 10 cfg0.N (ix4 0 h s n) = sa0 (m (c.tc.loc main_arg0)) (m (c.tc.loc main_arg13)) (m (c.tc.loc main_arg14)) s ⟨h.val * 64 + n.val, by omega⟩ :=
  (arr10 m c pt0 0 h s n).trans ((outa_0 m c pt0 s (fun n => by rw [cy_eq]; exact CVP_real _ _ _ h0 h13 h14 s n) h n).trans ((fa0_eq m c pt0 s _).trans
    (congrArg (sa0 (m (c.tc.loc main_arg0)) (m (c.tc.loc main_arg13)) (m (c.tc.loc main_arg14)) s) (Fin.ext (by show 64 * h.val + n.val = h.val * 64 + n.val; omega)))))

/-- The keys of the delta rule, after the run. -/
theorem fin_a1 (c : Dev nD) (h0 : ∀ i, ∃ r : ℝ, (m (c.tc.loc main_arg0)) i = (r : EReal)) (h13 : ∀ i, ∃ r : ℝ, (m (c.tc.loc main_arg13)) i = (r : EReal)) (h14 : ∀ i, ∃ r : ℝ, (m (c.tc.loc main_arg14)) i = (r : EReal)) (h : Fin 4) (s : Fin 128) (n : Fin 64) :
    (dats m 0 c).arrAt 10 cfg0.N (ix4 1 h s n) = sa1 (m (c.tc.loc main_arg0)) (m (c.tc.loc main_arg13)) (m (c.tc.loc main_arg14)) s ⟨h.val * 64 + n.val, by omega⟩ :=
  (arr10 m c pt0 1 h s n).trans ((outa_1 m c pt0 s (fun n => by rw [cy_eq]; exact CVP_real _ _ _ h0 h13 h14 s n) h n).trans ((fa1_eq m c pt0 s _).trans
    (congrArg (sa1 (m (c.tc.loc main_arg0)) (m (c.tc.loc main_arg13)) (m (c.tc.loc main_arg14)) s) (Fin.ext (by show 64 * h.val + n.val = h.val * 64 + n.val; omega)))))

/-- The values of the delta rule, after the run. -/
theorem fin_a2 (c : Dev nD) (h : Fin 4) (s : Fin 128) (n : Fin 64) :
    (dats m 0 c).arrAt 10 cfg0.N (ix4 2 h s n) = sa2 (m (c.tc.loc main_arg0)) (m (c.tc.loc main_arg13)) (m (c.tc.loc main_arg14)) s ⟨h.val * 64 + n.val, by omega⟩ :=
  (arr10 m c pt0 2 h s n).trans ((outa_2 m c pt0 s h n).trans ((fa2_eq m c pt0 s _).trans
    (congrArg (sa2 (m (c.tc.loc main_arg0)) (m (c.tc.loc main_arg13)) (m (c.tc.loc main_arg14)) s) (Fin.ext (by show 64 * h.val + n.val = h.val * 64 + n.val; omega)))))

/-- The queries of gated linear attention, after the run. -/
theorem fin_b0 (c : Dev nD) (h : Fin 4) (s : Fin 128) (n : Fin 64) :
    (dats m 0 c).arrAt 12 cfg0.N (ix4 0 h s n) = sb0 (m (c.tc.loc main_arg4)) s ⟨h.val * 64 + n.val, by omega⟩ :=
  (arr12 m c pt0 0 h s n).trans ((outb_0 m c pt0 s h n).trans ((fb0_eq m c pt0 s _).trans
    (congrArg (sb0 (m (c.tc.loc main_arg4)) s) (Fin.ext (by show 64 * h.val + n.val = h.val * 64 + n.val; omega)))))

/-- The keys of gated linear attention, after the run. -/
theorem fin_b1 (c : Dev nD) (h : Fin 4) (s : Fin 128) (n : Fin 64) :
    (dats m 0 c).arrAt 12 cfg0.N (ix4 1 h s n) = sb1 (m (c.tc.loc main_arg5)) s ⟨h.val * 64 + n.val, by omega⟩ :=
  (arr12 m c pt0 1 h s n).trans ((outb_1 m c pt0 s h n).trans ((fb1_eq m c pt0 s _).trans
    (congrArg (sb1 (m (c.tc.loc main_arg5)) s) (Fin.ext (by show 64 * h.val + n.val = h.val * 64 + n.val; omega)))))

/-- The values of gated linear attention, after the run. -/
theorem fin_b2 (c : Dev nD) (h : Fin 4) (s : Fin 128) (n : Fin 64) :
    (dats m 0 c).arrAt 12 cfg0.N (ix4 2 h s n) = sb2 (m (c.tc.loc main_arg6)) s ⟨h.val * 64 + n.val, by omega⟩ :=
  (arr12 m c pt0 2 h s n).trans ((outb_2 m c pt0 s h n).trans ((fb2_eq m c pt0 s _).trans
    (congrArg (sb2 (m (c.tc.loc main_arg6)) s) (Fin.ext (by show 64 * h.val + n.val = h.val * 64 + n.val; omega)))))

/-- The forget gate's logarithm of gated linear attention, after the run. -/
theorem fin_b3 (c : Dev nD) (h : Fin 4) (s : Fin 128) (n : Fin 64) :
    (dats m 0 c).arrAt 12 cfg0.N (ix4 3 h s n) = sb3 (m (c.tc.loc main_arg7)) (m (c.tc.loc main_arg17)) (m (c.tc.loc main_arg18)) s ⟨h.val * 64 + n.val, by omega⟩ :=
  (arr12 m c pt0 3 h s n).trans ((outb_3 m c pt0 s h n).trans ((fb3_eq m c pt0 s _).trans
    (congrArg (sb3 (m (c.tc.loc main_arg7)) (m (c.tc.loc main_arg17)) (m (c.tc.loc main_arg18)) s) (Fin.ext (by show 64 * h.val + n.val = h.val * 64 + n.val; omega)))))

/-- The queries of the third mixer, after the run. -/
theorem fin_d0 (c : Dev nD) (h : Fin 4) (s : Fin 128) (n : Fin 64) :
    (dats m 0 c).arrAt 13 cfg0.N (ix4 0 h s n) = sd0 (m (c.tc.loc main_arg9)) s ⟨h.val * 64 + n.val, by omega⟩ :=
  (arr13 m c pt0 0 h s n).trans ((outd_0 m c pt0 s h n).trans ((fd0_eq m c pt0 s _).trans
    (congrArg (sd0 (m (c.tc.loc main_arg9)) s) (Fin.ext (by show 64 * h.val + n.val = h.val * 64 + n.val; omega)))))

/-- The keys of the third mixer, after the run. -/
theorem fin_d1 (c : Dev nD) (h : Fin 4) (s : Fin 128) (n : Fin 64) :
    (dats m 0 c).arrAt 13 cfg0.N (ix4 1 h s n) = sd1 (m (c.tc.loc main_arg10)) (m (c.tc.loc main_arg19)) s ⟨h.val * 64 + n.val, by omega⟩ :=
  (arr13 m c pt0 1 h s n).trans ((outd_1 m c pt0 s h n).trans ((fd1_eq m c pt0 s _).trans
    (congrArg (sd1 (m (c.tc.loc main_arg10)) (m (c.tc.loc main_arg19)) s) (Fin.ext (by show 64 * h.val + n.val = h.val * 64 + n.val; omega)))))

/-- The values of the third mixer, after the run. -/
theorem fin_d2 (c : Dev nD) (h : Fin 4) (s : Fin 128) (n : Fin 64) :
    (dats m 0 c).arrAt 13 cfg0.N (ix4 2 h s n) = sd2 (m (c.tc.loc main_arg11)) s ⟨h.val * 64 + n.val, by omega⟩ :=
  (arr13 m c pt0 2 h s n).trans ((outd_2 m c pt0 s h n).trans ((fd2_eq m c pt0 s _).trans
    (congrArg (sd2 (m (c.tc.loc main_arg11)) s) (Fin.ext (by show 64 * h.val + n.val = h.val * 64 + n.val; omega)))))

/-- The forget gate's logarithm of the third mixer, after the run. -/
theorem fin_d3 (c : Dev nD) (h : Fin 4) (s : Fin 128) (n : Fin 64) :
    (dats m 0 c).arrAt 13 cfg0.N (ix4 3 h s n) = sd3 (m (c.tc.loc main_arg10)) (m (c.tc.loc main_arg19)) s ⟨h.val * 64 + n.val, by omega⟩ :=
  (arr13 m c pt0 3 h s n).trans ((outd_3 m c pt0 s h n).trans ((fd3_eq m c pt0 s _).trans
    (congrArg (sd3 (m (c.tc.loc main_arg10)) (m (c.tc.loc main_arg19)) s) (Fin.ext (by show 64 * h.val + n.val = h.val * 64 + n.val; omega)))))

/-- The decay's logarithm of the delta rule, after the run. -/
theorem fin_g0 (c : Dev nD) (hr : ∀ i, ∃ r : ℝ, (m (c.tc.loc main_arg1)) i = (r : EReal)) (h : Fin 4) (s : Fin 128) (n : Fin 1) :
    (dats m 0 c).arrAt 11 cfg0.N (ix4 0 h s n) = sg0 (m (c.tc.loc main_arg1)) (m (c.tc.loc main_arg15)) (m (c.tc.loc main_arg16)) s h :=
  (arr11 m c pt0 0 h s n).trans ((outg_0 m c pt0 s (fun q => by
    rw [blk0, V_pa, pa_1024 _ _ _ _ s ⟨q.val / 64, by omega⟩ _ (by show 1024 + q.val / 64 = 1024 + q.val / 64; omega)]
    exact hr _) h n).trans (fg0_eq m c pt0 s h _ rfl))

/-- The update gate of the delta rule, after the run. -/
theorem fin_g1 (c : Dev nD) (hr : ∀ i, ∃ r : ℝ, (m (c.tc.loc main_arg2)) i = (r : EReal)) (h : Fin 4) (s : Fin 128) (n : Fin 1) :
    (dats m 0 c).arrAt 11 cfg0.N (ix4 1 h s n) = sg1 (m (c.tc.loc main_arg2)) s h :=
  (arr11 m c pt0 1 h s n).trans ((outg_1 m c pt0 s (fun q => by
    rw [blk0, V_pa, pa_1028 _ _ _ _ s ⟨q.val / 64, by omega⟩ _ (by show 1024 + (q.val / 64 + 4) = 1028 + q.val / 64; omega)]
    exact hr _) h n).trans (fg1_eq m c pt0 s h _ rfl))

/-- The rows before the convolution, after the run. -/
theorem fin_c (c : Dev nD) (s : Fin 128) (p : Fin 2304) :
    (dats m 0 c).arrAt 14 cfg0.N (ix2 s p) = sc (m (c.tc.loc main_arg0)) (m (c.tc.loc main_arg13)) s p := by
  refine (arr14 m c pt0 s p).trans ?_
  unfold sc
  by_cases h : p.val < 1536
  · rw [dif_pos h, outc_lo m c pt0 s p ⟨p.val, h⟩ rfl, blk3, V_cv]
    exact rows_apply _ s _ _ _ (by show 768 + p.val = 768 * (1 + p.val / 768) + p.val % 768; omega)
  · rw [dif_neg h, outc_hi m c pt0 s p ⟨p.val - 1536, by omega⟩ (by show p.val = 1536 + (p.val - 1536); omega), blk0, V_pa]
    exact pa_0 _ _ _ _ s _ _ (Nat.zero_add _).symm

end Cert.Kernel8Ideal.Hand
end
-- ==== Proof.Prep.Ref.lean ====
module

public import proofs.«01_k».proof.Proof.Prep.Blocks
public import proofs.«01_k».proof.Proof.Inp.Ref
public import proofs.«01_k».proof.Proof.Gen.Reference8Ideal.Read
@[expose] public section

set_option maxRecDepth 16384
noncomputable section

namespace Cert.Reference8Ideal.Hand

open Cert.Reference8Ideal Cert.Reference8Ideal.Gen Cert.Reference8Ideal.Read Idealize.ShloMosaic Idealize.ShloMosaic.TcCoe Idealize.SL.Sem Cert.Hand
open Cert.Kernel5Ideal.Hand (kf)
open Cert.Reference5Ideal.Hand (quot_eq quot_silu soft_if lae_if div_16)
open Cert.Kernel8Ideal.Hand (CVP sa0 sa1 sa2 sg0 sg1 sb0 sb1 sb2 sb3 sd0 sd1 sd2 sd3 sc)

/-- The normed column of a head, with the head and the column in it given. -/
theorem l2_head (u : Fin 256 → EReal) (h : Fin 4) (n : Fin 64) : l2 u ⟨h.val * 64 + n.val, by omega⟩
    = u ⟨h.val * 64 + n.val, by omega⟩ * Ideal.rsqrt (∑ k : Fin 64, u ⟨h.val * 64 + k.val, by omega⟩ * u ⟨h.val * 64 + k.val, by omega⟩ + Ideal.ofBits FTy.f32 897988541#32) := by
  unfold l2
  have e : ∀ k : Fin 64, (⟨(h.val * 64 + n.val) / 64 * 64 + k.val, by omega⟩ : Fin 256) = ⟨h.val * 64 + k.val, by omega⟩ := fun k => Fin.ext (by dsimp only; omega)
  simp only [e]

/-- The convolution before `silu`. -/
theorem v29_apply (x0 : FVec Ideal S128x1x768 .f32) (x13 : FVec Ideal S128x3x768 .f32) (x14 : FVec Ideal S4x768 .f32) (s : Fin 128) (n : Fin 768) :
    val_main_v29 (F := Ideal) x0 x13 x14 (ix3 s 0 n) = x13 (ix3 s 0 n) * x14 (ix2 0 n) + x13 (ix3 s 1 n) * x14 (ix2 1 n) + x13 (ix3 s 2 n) * x14 (ix2 2 n) + x0 (ix3 s 0 n) * x14 (ix2 3 n) := by
  pointwise [val_main_v29, val_main_v28, val_main_v27, val_main_v26, val_main_v25, val_main_v24, val_main_v23, val_main_v0, val_main_v22, val_main_v21, val_main_v20, val_main_v19, val_main_v18, val_main_v17, val_main_v16, val_main_v15, val_main_v14, val_main_v13, val_main_v12, val_main_v11, val_main_v10, val_main_v9, val_main_v8, val_main_v6, val_main_v5, val_main_v4, val_main_v3, val_main_v2, val_main_v1, val_main_v7, val_main_cst]

/-- The convolved columns. -/
theorem v30_apply (x0 : FVec Ideal S128x1x768 .f32) (x13 : FVec Ideal S128x3x768 .f32) (x14 : FVec Ideal S4x768 .f32) (s : Fin 128) (n : Fin 768) : val_main_v30 (F := Ideal) x0 x13 x14 (ix3 s 0 n) = CVP x0 x13 x14 s n := by
  unfold CVP conv4
  rw [← quot_silu]
  pointwise [val_main_v30, val_main_call0_v5, val_main_call0_v3, val_main_call0_v1, val_main_call0_v0, val_main_call0_v2, val_main_call0_cst, val_main_call0_v4, val_main_call0_cst_0]
  simp only [v29_apply]

/-- The rows that the next token reads. -/
theorem vc_apply (x0 : FVec Ideal S128x1x768 .f32) (x13 : FVec Ideal S128x3x768 .f32) (s : Fin 128) (p : Fin 2304) : val_main_v158 (F := Ideal) x0 x13 (ix2 s p) = sc x0 x13 s p := by
  unfold sc
  pointwise [val_main_v158, val_main_v31, val_main_v0]
  by_cases h : p.val < 1536
  · rw [dif_pos h, dif_pos (by omega)]
  · rw [dif_neg h, dif_neg (by omega)]
    have e : ∀ (a : Fin 1) (b b' : Fin 768), b.val = b'.val → (ix3 s a b : S128x1x768.Idx) = ix3 s 0 b' := fun a b b' hb => by
      rw [Subsingleton.elim a 0, Fin.ext hb]
    exact congrArg x0 (e _ _ _ (by show p.val % 768 = p.val - 1536; omega))

/-- The logistic logarithm of the low-rank gate. -/
theorem v54_apply (x7 : FVec Ideal S128x1x16 .f32) (x17 : FVec Ideal S16x256 .f32) (x18 : FVec Ideal S256 .f32) (s : Fin 128) (n : Fin 256) : val_main_v54 (F := Ideal) x7 x17 x18 (ix3 s 0 n) = lsg (∑ k : Fin 16, x7 (ix3 s 0 k) * x17 (ix2 k n) + x18 (ix1 n)) := by
  pointwise [val_main_v54, val_main_call2_v1, val_main_call2_call0_v11, val_main_call2_call0_v10, val_main_call2_call0_v9, val_main_call2_call0_v8, val_main_call2_call0_v7, val_main_call2_call0_v3, val_main_call2_call0_v2, val_main_call2_call0_cst, val_main_call2_v0, val_main_v53, val_main_v52, val_main_v51, val_main_v50, val_main_call2_call0_v1, val_main_call2_call0_v0, val_main_call2_call0_v6, val_main_call2_call0_v5, val_main_call2_call0_v4]
  rw [soft_if]
  rfl

/-- The logistic logarithm of the forget gate's logit. -/
theorem v57_apply (x10 : FVec Ideal S128x1x256 .f32) (s : Fin 128) (n : Fin 256) : val_main_v57 (F := Ideal) x10 (ix3 s 0 n) = lsg (x10 (ix3 s 0 n)) := by
  pointwise [val_main_v57, val_main_call3_v1, val_main_call3_call0_v11, val_main_call3_call0_v10, val_main_call3_call0_v9, val_main_call3_call0_v8, val_main_call3_call0_v7, val_main_call3_call0_v3, val_main_call3_call0_v2, val_main_call3_call0_cst, val_main_call3_v0, val_main_call3_call0_v1, val_main_call3_call0_v0, val_main_call3_call0_v6, val_main_call3_call0_v5, val_main_call3_call0_v4]
  rw [soft_if]
  rfl

/-- The logistic logarithm of the negated logit. -/
theorem v63_apply (x10 : FVec Ideal S128x1x256 .f32) (s : Fin 128) (n : Fin 256) : val_main_v63 (F := Ideal) x10 (ix3 s 0 n) = lsg (-(x10 (ix3 s 0 n))) := by
  pointwise [val_main_v63, val_main_call5_v1, val_main_call5_call0_v11, val_main_call5_call0_v10, val_main_call5_call0_v9, val_main_call5_call0_v8, val_main_call5_call0_v7, val_main_call5_call0_v3, val_main_call5_call0_v2, val_main_call5_call0_cst, val_main_call5_v0, val_main_v62, val_main_call5_call0_v1, val_main_call5_call0_v0, val_main_call5_call0_v6, val_main_call5_call0_v5, val_main_call5_call0_v4]
  rw [soft_if]
  rfl

/-- The third mixer's log forget gate. -/
theorem v77_apply (x10 : FVec Ideal S128x1x256 .f32) (x19 : FVec Ideal S256 .f32) (s : Fin 128) (n : Fin 256) (hr : ∀ i, ∃ r : ℝ, x10 i = (r : EReal)) : val_main_v77 (F := Ideal) x10 x19 (ix3 s 0 n) = lfg (x10 (ix3 s 0 n)) (x19 (ix1 n)) := by
  obtain ⟨q, hq⟩ := hr (ix3 s 0 n)
  rw [hq, ← lfg_eq, ← hq]
  pointwise [val_main_v77, val_main_v76, val_main_v75, val_main_v74, val_main_v73, val_main_v72, val_main_v71, val_main_v68, val_main_v66, val_main_v65, val_main_v64, val_main_v61, val_main_v60, val_main_call4_v1, val_main_call4_v0, val_main_cst_4, val_main_v59, val_main_v58, val_main_cst_3, val_main_v67, val_main_v70, val_main_v69, val_main_call6_v0]
  simp only [v57_apply, v63_apply, lae_if]
  by_cases h : 0 < x19 (ix1 n)
  · simp only [if_pos h]
  · simp only [if_neg h]

/-- The third mixer's keys, before the heads. -/
theorem v89_apply (x10 : FVec Ideal S128x1x256 .f32) (x19 : FVec Ideal S256 .f32) (s : Fin 128) (n : Fin 256) : val_main_v89 (F := Ideal) x10 x19 (ix3 s 0 n) = kf (x19 (ix1 n)) (x10 (ix3 s 0 n)) := by
  unfold kf
  rw [← quot_eq]
  pointwise [val_main_v89, val_main_v86, val_main_v84, val_main_v82, val_main_v81, val_main_v80, val_main_v83, val_main_cst_6, val_main_v85, val_main_cst_7, val_main_v88, val_main_v87, val_main_v79, val_main_v78, val_main_cst_5]

/-- The softplus of the decay's logit. -/
theorem v46_apply (x1 : FVec Ideal S128x1x4 .f32) (x16 : FVec Ideal S4 .f32) (s : Fin 128) (h : Fin 4) : val_main_v46 (F := Ideal) x1 x16 (ix3 s 0 h) = soft (x1 (ix3 s 0 h) + x16 (ix1 h)) := by
  pointwise [val_main_v46, val_main_call1_v11, val_main_call1_v10, val_main_call1_v9, val_main_call1_v8, val_main_call1_v7, val_main_call1_v3, val_main_call1_v2, val_main_call1_cst, val_main_v45, val_main_v44, val_main_v43, val_main_call1_v1, val_main_call1_v0, val_main_call1_v6, val_main_call1_v5, val_main_call1_v4]
  rw [soft_if]

/-- The queries of the delta rule. -/
theorem ref_a0 (x0 : FVec Ideal S128x1x768 .f32) (x13 : FVec Ideal S128x3x768 .f32) (x14 : FVec Ideal S4x768 .f32) (h : Fin 4) (s : Fin 128) (n : Fin 64) : val_main_v119 (F := Ideal) x0 x13 x14 (ix4 0 h s n) = sa0 x0 x13 x14 s ⟨h.val * 64 + n.val, by omega⟩ := by
  unfold sa0
  rw [l2_head]
  pointwise [val_main_v119, val_main_v118, val_main_v115, val_main_v114, val_main_v34, val_main_v117, val_main_v113, val_main_v112, val_main_v109, val_main_v108, val_main_v107, val_main_v106, val_main_v105, val_main_cst_12, val_main_v104, val_main_v103, val_main_cst_11, val_main_v102, val_main_v101, val_main_v33, val_main_v116, val_main_v111, val_main_v110, val_main_v100, val_main_v99, val_main_cst_10, val_main_v98, val_main_v97, val_main_v96, val_main_v95, val_main_v94, val_main_cst_9, val_main_v93, val_main_v92, val_main_cst_8, val_main_v91, val_main_v90, val_main_v32]
  simp only [v30_apply]

/-- The keys of the delta rule. -/
theorem ref_a1 (x0 : FVec Ideal S128x1x768 .f32) (x13 : FVec Ideal S128x3x768 .f32) (x14 : FVec Ideal S4x768 .f32) (h : Fin 4) (s : Fin 128) (n : Fin 64) : val_main_v119 (F := Ideal) x0 x13 x14 (ix4 1 h s n) = sa1 x0 x13 x14 s ⟨h.val * 64 + n.val, by omega⟩ := by
  unfold sa1
  rw [l2_head]
  pointwise [val_main_v119, val_main_v118, val_main_v115, val_main_v114, val_main_v34, val_main_v117, val_main_v113, val_main_v112, val_main_v109, val_main_v108, val_main_v107, val_main_v106, val_main_v105, val_main_cst_12, val_main_v104, val_main_v103, val_main_cst_11, val_main_v102, val_main_v101, val_main_v33, val_main_v116, val_main_v111, val_main_v110, val_main_v100, val_main_v99, val_main_cst_10, val_main_v98, val_main_v97, val_main_v96, val_main_v95, val_main_v94, val_main_cst_9, val_main_v93, val_main_v92, val_main_cst_8, val_main_v91, val_main_v90, val_main_v32]
  simp only [v30_apply]

/-- The values of the delta rule. -/
theorem ref_a2 (x0 : FVec Ideal S128x1x768 .f32) (x13 : FVec Ideal S128x3x768 .f32) (x14 : FVec Ideal S4x768 .f32) (h : Fin 4) (s : Fin 128) (n : Fin 64) : val_main_v119 (F := Ideal) x0 x13 x14 (ix4 2 h s n) = sa2 x0 x13 x14 s ⟨h.val * 64 + n.val, by omega⟩ := by
  unfold sa2
  pointwise [val_main_v119, val_main_v118, val_main_v115, val_main_v114, val_main_v34, val_main_v117, val_main_v113, val_main_v112, val_main_v109, val_main_v108, val_main_v107, val_main_v106, val_main_v105, val_main_cst_12, val_main_v104, val_main_v103, val_main_cst_11, val_main_v102, val_main_v101, val_main_v33, val_main_v116, val_main_v111, val_main_v110, val_main_v100, val_main_v99, val_main_cst_10, val_main_v98, val_main_v97, val_main_v96, val_main_v95, val_main_v94, val_main_cst_9, val_main_v93, val_main_v92, val_main_cst_8, val_main_v91, val_main_v90, val_main_v32]
  simp only [v30_apply]

/-- The queries of gated linear attention. -/
theorem ref_b0 (x4 : FVec Ideal S128x1x256 .f32) (x5 : FVec Ideal S128x1x256 .f32) (x6 : FVec Ideal S128x1x256 .f32) (x7 : FVec Ideal S128x1x16 .f32) (x17 : FVec Ideal S16x256 .f32) (x18 : FVec Ideal S256 .f32) (h : Fin 4) (s : Fin 128) (n : Fin 64) : val_main_v141 (F := Ideal) x4 x5 x6 x7 x17 x18 (ix4 0 h s n) = sb0 x4 s ⟨h.val * 64 + n.val, by omega⟩ := by
  unfold sb0
  pointwise [val_main_v141, val_main_v140, val_main_v136, val_main_v135, val_main_v56, val_main_v55, val_main_cst_2, val_main_v139, val_main_v134, val_main_v133, val_main_v138, val_main_v132, val_main_v131, val_main_v137, val_main_v130, val_main_v129, val_main_v128, val_main_v127, val_main_cst_13]

/-- The keys of gated linear attention. -/
theorem ref_b1 (x4 : FVec Ideal S128x1x256 .f32) (x5 : FVec Ideal S128x1x256 .f32) (x6 : FVec Ideal S128x1x256 .f32) (x7 : FVec Ideal S128x1x16 .f32) (x17 : FVec Ideal S16x256 .f32) (x18 : FVec Ideal S256 .f32) (h : Fin 4) (s : Fin 128) (n : Fin 64) : val_main_v141 (F := Ideal) x4 x5 x6 x7 x17 x18 (ix4 1 h s n) = sb1 x5 s ⟨h.val * 64 + n.val, by omega⟩ := by
  unfold sb1
  pointwise [val_main_v141, val_main_v140, val_main_v136, val_main_v135, val_main_v56, val_main_v55, val_main_cst_2, val_main_v139, val_main_v134, val_main_v133, val_main_v138, val_main_v132, val_main_v131, val_main_v137, val_main_v130, val_main_v129, val_main_v128, val_main_v127, val_main_cst_13]

/-- The values of gated linear attention. -/
theorem ref_b2 (x4 : FVec Ideal S128x1x256 .f32) (x5 : FVec Ideal S128x1x256 .f32) (x6 : FVec Ideal S128x1x256 .f32) (x7 : FVec Ideal S128x1x16 .f32) (x17 : FVec Ideal S16x256 .f32) (x18 : FVec Ideal S256 .f32) (h : Fin 4) (s : Fin 128) (n : Fin 64) : val_main_v141 (F := Ideal) x4 x5 x6 x7 x17 x18 (ix4 2 h s n) = sb2 x6 s ⟨h.val * 64 + n.val, by omega⟩ := by
  unfold sb2
  pointwise [val_main_v141, val_main_v140, val_main_v136, val_main_v135, val_main_v56, val_main_v55, val_main_cst_2, val_main_v139, val_main_v134, val_main_v133, val_main_v138, val_main_v132, val_main_v131, val_main_v137, val_main_v130, val_main_v129, val_main_v128, val_main_v127, val_main_cst_13]

/-- The forget gate's logarithm of gated linear attention. -/
theorem ref_b3 (x4 : FVec Ideal S128x1x256 .f32) (x5 : FVec Ideal S128x1x256 .f32) (x6 : FVec Ideal S128x1x256 .f32) (x7 : FVec Ideal S128x1x16 .f32) (x17 : FVec Ideal S16x256 .f32) (x18 : FVec Ideal S256 .f32) (h : Fin 4) (s : Fin 128) (n : Fin 64) : val_main_v141 (F := Ideal) x4 x5 x6 x7 x17 x18 (ix4 3 h s n) = sb3 x7 x17 x18 s ⟨h.val * 64 + n.val, by omega⟩ := by
  unfold sb3
  rw [← div_16]
  pointwise [val_main_v141, val_main_v140, val_main_v136, val_main_v135, val_main_v56, val_main_v55, val_main_cst_2, val_main_v139, val_main_v134, val_main_v133, val_main_v138, val_main_v132, val_main_v131, val_main_v137, val_main_v130, val_main_v129, val_main_v128, val_main_v127, val_main_cst_13]
  simp only [v54_apply]

/-- The queries of the third mixer. -/
theorem ref_d0 (x9 : FVec Ideal S128x1x256 .f32) (x10 : FVec Ideal S128x1x256 .f32) (x11 : FVec Ideal S128x1x256 .f32) (x19 : FVec Ideal S256 .f32) (h : Fin 4) (s : Fin 128) (n : Fin 64) : val_main_v157 (F := Ideal) x9 x10 x11 x19 (ix4 0 h s n) = sd0 x9 s ⟨h.val * 64 + n.val, by omega⟩ := by
  unfold sd0
  rw [← quot_silu]
  pointwise [val_main_v157, val_main_v156, val_main_v152, val_main_v151, val_main_v155, val_main_v150, val_main_v149, val_main_v154, val_main_v148, val_main_v147, val_main_v153, val_main_v146, val_main_v145, val_main_v144, val_main_v143, val_main_cst_14, val_main_v142, val_main_call7_v5, val_main_call7_v3, val_main_call7_v1, val_main_call7_v0, val_main_call7_v2, val_main_call7_cst, val_main_call7_v4, val_main_call7_cst_0]

/-- The keys of the third mixer. -/
theorem ref_d1 (x9 : FVec Ideal S128x1x256 .f32) (x10 : FVec Ideal S128x1x256 .f32) (x11 : FVec Ideal S128x1x256 .f32) (x19 : FVec Ideal S256 .f32) (h : Fin 4) (s : Fin 128) (n : Fin 64) : val_main_v157 (F := Ideal) x9 x10 x11 x19 (ix4 1 h s n) = sd1 x10 x19 s ⟨h.val * 64 + n.val, by omega⟩ := by
  unfold sd1
  pointwise [val_main_v157, val_main_v156, val_main_v152, val_main_v151, val_main_v155, val_main_v150, val_main_v149, val_main_v154, val_main_v148, val_main_v147, val_main_v153, val_main_v146, val_main_v145, val_main_v144, val_main_v143, val_main_cst_14, val_main_v142, val_main_call7_v5, val_main_call7_v3, val_main_call7_v1, val_main_call7_v0, val_main_call7_v2, val_main_call7_cst, val_main_call7_v4, val_main_call7_cst_0]
  simp only [v89_apply]

/-- The values of the third mixer. -/
theorem ref_d2 (x9 : FVec Ideal S128x1x256 .f32) (x10 : FVec Ideal S128x1x256 .f32) (x11 : FVec Ideal S128x1x256 .f32) (x19 : FVec Ideal S256 .f32) (h : Fin 4) (s : Fin 128) (n : Fin 64) : val_main_v157 (F := Ideal) x9 x10 x11 x19 (ix4 2 h s n) = sd2 x11 s ⟨h.val * 64 + n.val, by omega⟩ := by
  unfold sd2
  pointwise [val_main_v157, val_main_v156, val_main_v152, val_main_v151, val_main_v155, val_main_v150, val_main_v149, val_main_v154, val_main_v148, val_main_v147, val_main_v153, val_main_v146, val_main_v145, val_main_v144, val_main_v143, val_main_cst_14, val_main_v142, val_main_call7_v5, val_main_call7_v3, val_main_call7_v1, val_main_call7_v0, val_main_call7_v2, val_main_call7_cst, val_main_call7_v4, val_main_call7_cst_0]

/-- The forget gate's logarithm of the third mixer. -/
theorem ref_d3 (x9 : FVec Ideal S128x1x256 .f32) (x10 : FVec Ideal S128x1x256 .f32) (x11 : FVec Ideal S128x1x256 .f32) (x19 : FVec Ideal S256 .f32) (hr : ∀ i, ∃ r : ℝ, x10 i = (r : EReal)) (h : Fin 4) (s : Fin 128) (n : Fin 64) : val_main_v157 (F := Ideal) x9 x10 x11 x19 (ix4 3 h s n) = sd3 x10 x19 s ⟨h.val * 64 + n.val, by omega⟩ := by
  unfold sd3
  pointwise [val_main_v157, val_main_v156, val_main_v152, val_main_v151, val_main_v155, val_main_v150, val_main_v149, val_main_v154, val_main_v148, val_main_v147, val_main_v153, val_main_v146, val_main_v145, val_main_v144, val_main_v143, val_main_cst_14, val_main_v142, val_main_call7_v5, val_main_call7_v3, val_main_call7_v1, val_main_call7_v0, val_main_call7_v2, val_main_call7_cst, val_main_call7_v4, val_main_call7_cst_0]
  exact v77_apply _ _ s _ hr

/-- The decay's logarithm of the delta rule. -/
theorem ref_g0 (x1 : FVec Ideal S128x1x4 .f32) (x2 : FVec Ideal S128x1x4 .f32) (x15 : FVec Ideal S4 .f32) (x16 : FVec Ideal S4 .f32) (h : Fin 4) (s : Fin 128) (n : Fin 1) : val_main_v126 (F := Ideal) x1 x2 x15 x16 (ix4 0 h s n) = sg0 x1 x15 x16 s h := by
  unfold sg0
  pointwise [val_main_v126, val_main_v125, val_main_v123, val_main_v122, val_main_v40, val_main_v38, val_main_v36, val_main_v35, val_main_v37, val_main_cst_0, val_main_v39, val_main_cst_1, val_main_v124, val_main_v121, val_main_v120, val_main_v49, val_main_v48, val_main_v47, val_main_v42, val_main_v41]
  simp only [v46_apply]

/-- The update gate of the delta rule. -/
theorem ref_g1 (x1 : FVec Ideal S128x1x4 .f32) (x2 : FVec Ideal S128x1x4 .f32) (x15 : FVec Ideal S4 .f32) (x16 : FVec Ideal S4 .f32) (h : Fin 4) (s : Fin 128) (n : Fin 1) : val_main_v126 (F := Ideal) x1 x2 x15 x16 (ix4 1 h s n) = sg1 x2 s h := by
  unfold sg1
  rw [← quot_eq]
  pointwise [val_main_v126, val_main_v125, val_main_v123, val_main_v122, val_main_v40, val_main_v38, val_main_v36, val_main_v35, val_main_v37, val_main_cst_0, val_main_v39, val_main_cst_1, val_main_v124, val_main_v121, val_main_v120, val_main_v49, val_main_v48, val_main_v47, val_main_v42, val_main_v41]

end Cert.Reference8Ideal.Hand
end
-- ==== Proof.Prep.Equal.lean ====
module

public import proofs.«01_k».proof.Defs
public import proofs.«01_k».proof.Proof.Inp.Equal
public import proofs.«01_k».proof.Proof.Prep.Final
public import proofs.«01_k».proof.Proof.Prep.Ref
public import proofs.«01_k».proof.Proof.Gen.Reference8Ideal.Run
public import proofs.«01_k».proof.Proof.Gen.Pre_prep_finite
@[expose] public section

set_option maxRecDepth 16384
noncomputable section

namespace Cert.Kernel8Ideal.Hand

open Cert.Kernel8Ideal Cert.Kernel8Ideal.Gen Idealize.ShloMosaic Idealize.ShloMosaic.TcCoe Idealize.SL.Sem Cert.Hand
open Cert.Kernel5Ideal.Hand (reals_of_fold2)

/-- Inputs that pass the finiteness test are arrays of real numbers. -/
theorem reals (x0 : FVec Ideal S128x1x768 .f32) (x1 : FVec Ideal S128x1x4 .f32) (x2 : FVec Ideal S128x1x4 .f32) (x3 : FVec Ideal S128x1x256 .f32) (x4 : FVec Ideal S128x1x256 .f32) (x5 : FVec Ideal S128x1x256 .f32) (x6 : FVec Ideal S128x1x256 .f32) (x7 : FVec Ideal S128x1x16 .f32) (x8 : FVec Ideal S128x1x256 .f32) (x9 : FVec Ideal S128x1x256 .f32) (x10 : FVec Ideal S128x1x256 .f32) (x11 : FVec Ideal S128x1x256 .f32) (x12 : FVec Ideal S128x1x256 .f32) (x13 : FVec Ideal S128x3x768 .f32) (x14 : FVec Ideal S4x768 .f32) (x15 : FVec Ideal S4 .f32) (x16 : FVec Ideal S4 .f32) (x17 : FVec Ideal S16x256 .f32) (x18 : FVec Ideal S256 .f32) (x19 : FVec Ideal S256 .f32)
    (h : Cert.Pre_prep_finite.fn (F := Ideal) x0 x1 x2 x3 x4 x5 x6 x7 x8 x9 x10 x11 x12 x13 x14 x15 x16 x17 x18 x19 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x10 i = (r : EReal)) ∧ (∀ i, ∃ r : ℝ, x13 i = (r : EReal)) ∧ (∀ i, ∃ r : ℝ, x14 i = (r : EReal)) := by
  have h0 := congrFun h (fun a => a.elim0)
  pointwise [Cert.Pre_prep_finite.fn, Cert.Pre_prep_finite.fn_part1] at h0
  obtain ⟨h0, h14⟩ := and_one h0
  obtain ⟨h0, h13⟩ := and_one h0
  obtain ⟨h0, h10⟩ := and_one h0
  obtain ⟨h0, h2⟩ := and_one h0
  obtain ⟨h0, h1⟩ := and_one h0
  obtain ⟨r0, e0⟩ := reals_of_fold3 h0
  obtain ⟨r1, e1⟩ := reals_of_fold3 h1
  obtain ⟨r2, e2⟩ := reals_of_fold3 h2
  obtain ⟨r10, e10⟩ := reals_of_fold3 h10
  obtain ⟨r13, e13⟩ := reals_of_fold3 h13
  exact ⟨fun i => ⟨r0 i, congrFun e0 i⟩, fun i => ⟨r1 i, congrFun e1 i⟩, fun i => ⟨r2 i, congrFun e2 i⟩, fun i => ⟨r10 i, congrFun e10 i⟩, fun i => ⟨r13 i, congrFun e13 i⟩, reals_of_fold2 h14⟩

/-- The stacked arrays of the delta rule, from the same arguments. -/
theorem equal_a (m : (ℓ : Loc nD τ sig) → Buf (Elt Ideal) ℓ) (c : Dev nD) (h0 : ∀ i, ∃ r : ℝ, (m (c.tc.loc main_arg0)) i = (r : EReal)) (h13 : ∀ i, ∃ r : ℝ, (m (c.tc.loc main_arg13)) i = (r : EReal)) (h14 : ∀ i, ∃ r : ℝ, (m (c.tc.loc main_arg14)) i = (r : EReal)) :
    Cert.Reference8Ideal.Read.val_main_v119 (F := Ideal) (m (c.tc.loc main_arg0)) (m (c.tc.loc main_arg13)) (m (c.tc.loc main_arg14)) = (dats m 0 c).arrAt 10 cfg0.N := by
  funext i
  idx_vars i
  match i0 with
  | ⟨0, _⟩ => exact (Cert.Reference8Ideal.Hand.ref_a0 _ _ _ i1 i2 i3).trans (fin_a0 m c h0 h13 h14 i1 i2 i3).symm
  | ⟨1, _⟩ => exact (Cert.Reference8Ideal.Hand.ref_a1 _ _ _ i1 i2 i3).trans (fin_a1 m c h0 h13 h14 i1 i2 i3).symm
  | ⟨2, _⟩ => exact (Cert.Reference8Ideal.Hand.ref_a2 _ _ _ i1 i2 i3).trans (fin_a2 m c i1 i2 i3).symm

/-- The stacked gates of the delta rule, from the same arguments. -/
theorem equal_g (m : (ℓ : Loc nD τ sig) → Buf (Elt Ideal) ℓ) (c : Dev nD) (h1 : ∀ i, ∃ r : ℝ, (m (c.tc.loc main_arg1)) i = (r : EReal)) (h2 : ∀ i, ∃ r : ℝ, (m (c.tc.loc main_arg2)) i = (r : EReal)) :
    Cert.Reference8Ideal.Read.val_main_v126 (F := Ideal) (m (c.tc.loc main_arg1)) (m (c.tc.loc main_arg2)) (m (c.tc.loc main_arg15)) (m (c.tc.loc main_arg16)) = (dats m 0 c).arrAt 11 cfg0.N := by
  funext i
  idx_vars i
  match i0 with
  | ⟨0, _⟩ => exact (Cert.Reference8Ideal.Hand.ref_g0 _ _ _ _ i1 i2 i3).trans (fin_g0 m c h1 i1 i2 i3).symm
  | ⟨1, _⟩ => exact (Cert.Reference8Ideal.Hand.ref_g1 _ _ _ _ i1 i2 i3).trans (fin_g1 m c h2 i1 i2 i3).symm

/-- The stacked arrays of gated linear attention, from the same arguments. -/
theorem equal_b (m : (ℓ : Loc nD τ sig) → Buf (Elt Ideal) ℓ) (c : Dev nD) :
    Cert.Reference8Ideal.Read.val_main_v141 (F := Ideal) (m (c.tc.loc main_arg4)) (m (c.tc.loc main_arg5)) (m (c.tc.loc main_arg6)) (m (c.tc.loc main_arg7)) (m (c.tc.loc main_arg17)) (m (c.tc.loc main_arg18)) = (dats m 0 c).arrAt 12 cfg0.N := by
  funext i
  idx_vars i
  match i0 with
  | ⟨0, _⟩ => exact (Cert.Reference8Ideal.Hand.ref_b0 _ _ _ _ _ _ i1 i2 i3).trans (fin_b0 m c i1 i2 i3).symm
  | ⟨1, _⟩ => exact (Cert.Reference8Ideal.Hand.ref_b1 _ _ _ _ _ _ i1 i2 i3).trans (fin_b1 m c i1 i2 i3).symm
  | ⟨2, _⟩ => exact (Cert.Reference8Ideal.Hand.ref_b2 _ _ _ _ _ _ i1 i2 i3).trans (fin_b2 m c i1 i2 i3).symm
  | ⟨3, _⟩ => exact (Cert.Reference8Ideal.Hand.ref_b3 _ _ _ _ _ _ i1 i2 i3).trans (fin_b3 m c i1 i2 i3).symm

/-- The stacked arrays of the third mixer, from the same arguments. -/
theorem equal_d (m : (ℓ : Loc nD τ sig) → Buf (Elt Ideal) ℓ) (c : Dev nD) (h10 : ∀ i, ∃ r : ℝ, (m (c.tc.loc main_arg10)) i = (r : EReal)) :
    Cert.Reference8Ideal.Read.val_main_v157 (F := Ideal) (m (c.tc.loc main_arg9)) (m (c.tc.loc main_arg10)) (m (c.tc.loc main_arg11)) (m (c.tc.loc main_arg19)) = (dats m 0 c).arrAt 13 cfg0.N := by
  funext i
  idx_vars i
  match i0 with
  | ⟨0, _⟩ => exact (Cert.Reference8Ideal.Hand.ref_d0 _ _ _ _ i1 i2 i3).trans (fin_d0 m c i1 i2 i3).symm
  | ⟨1, _⟩ => exact (Cert.Reference8Ideal.Hand.ref_d1 _ _ _ _ i1 i2 i3).trans (fin_d1 m c i1 i2 i3).symm
  | ⟨2, _⟩ => exact (Cert.Reference8Ideal.Hand.ref_d2 _ _ _ _ i1 i2 i3).trans (fin_d2 m c i1 i2 i3).symm
  | ⟨3, _⟩ => exact (Cert.Reference8Ideal.Hand.ref_d3 _ _ _ _ h10 i1 i2 i3).trans (fin_d3 m c i1 i2 i3).symm

/-- The rows that the next token reads, from the same arguments. -/
theorem equal_c (m : (ℓ : Loc nD τ sig) → Buf (Elt Ideal) ℓ) (c : Dev nD) :
    Cert.Reference8Ideal.Read.val_main_v158 (F := Ideal) (m (c.tc.loc main_arg0)) (m (c.tc.loc main_arg13)) = (dats m 0 c).arrAt 14 cfg0.N := by
  funext i
  idx_vars i
  exact (Cert.Reference8Ideal.Hand.vc_apply _ _ i0 i1).trans (fin_c m c i0 i1).symm

set_option maxHeartbeats 2000000 in
/-- The kernel's five results are the reference's. -/
theorem prep_equal : Cert.algebraic_Kernel8Ideal_Reference8Ideal_pre_prep_finite
    (hKernel8Ideal := Cert.Kernel8Ideal.Gen.facts) (hReference8Ideal := Cert.Reference8Ideal.Gen.facts)
    (hPre_prep_finite := Cert.Pre_prep_finite.Gen.facts) := by
  intro m ρ m' ρ' hpre hag
  refine ⟨fun c => (dats m 0 c).arrAt 10 cfg0.N, fun c => (dats m 0 c).arrAt 11 cfg0.N, fun c => (dats m 0 c).arrAt 12 cfg0.N,
    fun c => (dats m 0 c).arrAt 13 cfg0.N, fun c => (dats m 0 c).arrAt 14 cfg0.N, Value.run_blocks m ρ, ?_⟩
  refine (θ_run _ _ _).mono (fun r h c => ?_) (Cert.Reference8Ideal.Value.run m' ρ')
  obtain ⟨y0, y1, y2, y3, y4, hkeep⟩ := h c
  obtain ⟨a0, a1, a2, a3, a4, a5, a6, a7, a8, a9, a10, a11, a12, a13, a14, a15, a16, a17, a18, a19⟩ := hag c
  have b0 : StableHlo.launchContents m' c (Proc.tc.devRef Cert.Reference8Ideal.main_arg0) = m ((c.tc : Thread nD τ).loc main_arg0) := a0
  have b1 : StableHlo.launchContents m' c (Proc.tc.devRef Cert.Reference8Ideal.main_arg1) = m ((c.tc : Thread nD τ).loc main_arg1) := a1
  have b2 : StableHlo.launchContents m' c (Proc.tc.devRef Cert.Reference8Ideal.main_arg2) = m ((c.tc : Thread nD τ).loc main_arg2) := a2
  have b3 : StableHlo.launchContents m' c (Proc.tc.devRef Cert.Reference8Ideal.main_arg3) = m ((c.tc : Thread nD τ).loc main_arg3) := a3
  have b4 : StableHlo.launchContents m' c (Proc.tc.devRef Cert.Reference8Ideal.main_arg4) = m ((c.tc : Thread nD τ).loc main_arg4) := a4
  have b5 : StableHlo.launchContents m' c (Proc.tc.devRef Cert.Reference8Ideal.main_arg5) = m ((c.tc : Thread nD τ).loc main_arg5) := a5
  have b6 : StableHlo.launchContents m' c (Proc.tc.devRef Cert.Reference8Ideal.main_arg6) = m ((c.tc : Thread nD τ).loc main_arg6) := a6
  have b7 : StableHlo.launchContents m' c (Proc.tc.devRef Cert.Reference8Ideal.main_arg7) = m ((c.tc : Thread nD τ).loc main_arg7) := a7
  have b8 : StableHlo.launchContents m' c (Proc.tc.devRef Cert.Reference8Ideal.main_arg8) = m ((c.tc : Thread nD τ).loc main_arg8) := a8
  have b9 : StableHlo.launchContents m' c (Proc.tc.devRef Cert.Reference8Ideal.main_arg9) = m ((c.tc : Thread nD τ).loc main_arg9) := a9
  have b10 : StableHlo.launchContents m' c (Proc.tc.devRef Cert.Reference8Ideal.main_arg10) = m ((c.tc : Thread nD τ).loc main_arg10) := a10
  have b11 : StableHlo.launchContents m' c (Proc.tc.devRef Cert.Reference8Ideal.main_arg11) = m ((c.tc : Thread nD τ).loc main_arg11) := a11
  have b12 : StableHlo.launchContents m' c (Proc.tc.devRef Cert.Reference8Ideal.main_arg12) = m ((c.tc : Thread nD τ).loc main_arg12) := a12
  have b13 : StableHlo.launchContents m' c (Proc.tc.devRef Cert.Reference8Ideal.main_arg13) = m ((c.tc : Thread nD τ).loc main_arg13) := a13
  have b14 : StableHlo.launchContents m' c (Proc.tc.devRef Cert.Reference8Ideal.main_arg14) = m ((c.tc : Thread nD τ).loc main_arg14) := a14
  have b15 : StableHlo.launchContents m' c (Proc.tc.devRef Cert.Reference8Ideal.main_arg15) = m ((c.tc : Thread nD τ).loc main_arg15) := a15
  have b16 : StableHlo.launchContents m' c (Proc.tc.devRef Cert.Reference8Ideal.main_arg16) = m ((c.tc : Thread nD τ).loc main_arg16) := a16
  have b17 : StableHlo.launchContents m' c (Proc.tc.devRef Cert.Reference8Ideal.main_arg17) = m ((c.tc : Thread nD τ).loc main_arg17) := a17
  have b18 : StableHlo.launchContents m' c (Proc.tc.devRef Cert.Reference8Ideal.main_arg18) = m ((c.tc : Thread nD τ).loc main_arg18) := a18
  have b19 : StableHlo.launchContents m' c (Proc.tc.devRef Cert.Reference8Ideal.main_arg19) = m ((c.tc : Thread nD τ).loc main_arg19) := a19
  obtain ⟨h0, h1, h2, h10, h13, h14⟩ := reals _ _ _ _ _ _ _ _ _ _ _ _ _ _ _ _ _ _ _ _ (hpre c)
  refine ⟨y0.trans ?_, y1.trans ?_, y2.trans ?_, y3.trans ?_, y4.trans ?_, hkeep⟩ <;> clear y0 y1 y2 y3 y4 hkeep h hag hpre a0 a1 a2 a3 a4 a5 a6 a7 a8 a9 a10 a11 a12 a13 a14 a15 a16 a17 a18 a19
  · refine (Cert.Reference8Ideal.Read.val_main_v119_eq _).trans ?_
    rw [b0, b13, b14]
    exact equal_a m c h0 h13 h14
  · refine (Cert.Reference8Ideal.Read.val_main_v126_eq _).trans ?_
    rw [b1, b2, b15, b16]
    exact equal_g m c h1 h2
  · refine (Cert.Reference8Ideal.Read.val_main_v141_eq _).trans ?_
    rw [b4, b5, b6, b7, b17, b18]
    exact equal_b m c
  · refine (Cert.Reference8Ideal.Read.val_main_v157_eq _).trans ?_
    rw [b9, b10, b11, b19]
    exact equal_d m c h10
  · refine (Cert.Reference8Ideal.Read.val_main_v158_eq _).trans ?_
    rw [b0, b13]
    exact equal_c m c

end Cert.Kernel8Ideal.Hand
end
-- ==== Proof.Ssp.Spec.lean ====
module

public import proofs.«01_k».proof.Proof.Ssm.Spec
@[expose] public section

noncomputable section

namespace Cert.Hand

/-- A complex diagonal recurrence, its real and imaginary parts: the state after `k` steps from `p`, multiplied by `a + b i` and driven by `f` and `g`. -/
def recur (a b : EReal) (p : EReal × EReal) (f g : ℕ → EReal) : ℕ → EReal × EReal
  | 0 => p
  | k + 1 => (f k + a * (recur a b p f g k).1 - b * (recur a b p f g k).2, g k + a * (recur a b p f g k).2 + b * (recur a b p f g k).1)

/-- Driving terms that agree below `k` give the same state after `k` steps. -/
theorem recur_congr (a b : EReal) (p : EReal × EReal) (f g f' g' : ℕ → EReal) (k : ℕ) (hf : ∀ j < k, f j = f' j) (hg : ∀ j < k, g j = g' j) :
    recur a b p f g k = recur a b p f' g' k := by
  induction k with
  | zero => rfl
  | succ k ih =>
    have h := ih (fun j hj => hf j (by omega)) (fun j hj => hg j (by omega))
    show (_, _) = (_, _)
    rw [h, hf k (by omega), hg k (by omega)]

/-- Going `j` steps on from the state after `k` gives the state after `k + j`. -/
theorem recur_add (a b : EReal) (p : EReal × EReal) (f g : ℕ → EReal) (k j : ℕ) :
    recur a b (recur a b p f g k) (fun i => f (k + i)) (fun i => g (k + i)) j = recur a b p f g (k + j) := by
  induction j with
  | zero => rfl
  | succ j ih =>
    show (_, _) = (_, _)
    rw [ih]
    rfl

/-- The step written with the driving term last. -/
theorem step_comm (x y z : EReal) : x - y + z = z + x - y := by
  rw [sub_eq_add_neg, sub_eq_add_neg, add_comm, add_assoc]
/-- The step written with the driving term last. -/
theorem step_comm' (x y z : EReal) : x + y + z = z + x + y := by
  rw [add_comm, add_assoc]

end Cert.Hand
-- ==== Proof.Ssp.Loop.lean ====
module

public import proofs.«01_k».proof.Proof.Gen.Kernel9Ideal.Loops
public import proofs.«01_k».proof.Proof.Ssp.Spec
public import Idealize.ShloMosaic.Lib.VecWindow
public import Idealize.ShloMosaic.Lib.WritesUnit
@[expose] public section

set_option maxRecDepth 16384
noncomputable section

namespace Cert.Kernel9Ideal.Hand

open Cert.Kernel9Ideal Cert.Kernel9Ideal.Gen Idealize.ShloMosaic Idealize.ShloMosaic.TcCoe Idealize.SL.Sem Cert.Hand

/-- A trip's new real parts at an element. -/
theorem re_step (a b x y z : FVec Ideal S8x1024 .f32) (i : Fin 8) (n : Fin 1024) :
    k0_pay12 (F := Ideal) a b x y z (ix2 i n) = z (ix2 i n) + a (ix2 i n) * x (ix2 i n) - b (ix2 i n) * y (ix2 i n) := by
  pointwise [k0_pay12]
/-- A trip's new imaginary parts at an element. -/
theorem im_step (a b x y z : FVec Ideal S8x1024 .f32) (i : Fin 8) (n : Fin 1024) :
    k0_pay13 (F := Ideal) a b x y z (ix2 i n) = z (ix2 i n) + a (ix2 i n) * y (ix2 i n) + b (ix2 i n) * x (ix2 i n) := by
  pointwise [k0_pay13]

/-- The loop's trip `k` works on rows `8 k` to `8 k + 7`. -/
theorem off_eq : ∀ k : Fin k0_t1_loop.trips, k0_off1 k = ![8 * k.val, 0] := by decide +kernel

/-- The states before the loop's trips: the carried pair and the rows written so far. -/
abbrev LoopState : Type := (FVec Ideal S8x1024 .f32 × FVec Ideal S8x1024 .f32) × List (View.Piece (Elt Ideal) S1024x1024 .f32) × List (View.Piece (Elt Ideal) S1024x1024 .f32)

/-- A trip's rectangle. -/
abbrev rowRect (k : Fin k0_t1_loop.trips) : Rect S1024x1024 := Rect.unit (s := S1024x1024) (k0_off1 k) S8x1024.size (k0_off1_inb k)

/-- A sequence of states that goes from trip to trip as the kernel's loop does. -/
def Steps (S : ℕ → LoopState) (v21 v25 : FVec Ideal S8x1024 .f32) (a15 a16 : Memref sig .tc .vmem S1024x1024 .f32)
    (G15 : BufTy.Contents (Elt Ideal) a15.view.ty) (G16 : BufTy.Contents (Elt Ideal) a16.view.ty) : Prop :=
  ∀ k : Fin k0_t1_loop.trips, S (k.val + 1) =
    ((k0_pay12 v21 v25 (S k.val).1.1 (S k.val).1.2 (a15.view.readAt (Elt Ideal) (rowRect k).toLoadRect (a15.view.writes (Elt Ideal) G15 (S k.val).2.1)),
      k0_pay13 v21 v25 (S k.val).1.1 (S k.val).1.2 (a16.view.readAt (Elt Ideal) (rowRect k).toLoadRect (a16.view.writes (Elt Ideal) G16 (S k.val).2.2))),
     (⟨rowRect k, k0_pay14 v21 v25 (S k.val).1.1 (S k.val).1.2 (a15.view.readAt (Elt Ideal) (rowRect k).toLoadRect (a15.view.writes (Elt Ideal) G15 (S k.val).2.1))⟩ : View.Piece (Elt Ideal) S1024x1024 .f32) :: (S k.val).2.1,
     (⟨rowRect k, k0_pay15 v21 v25 (S k.val).1.1 (S k.val).1.2 (a16.view.readAt (Elt Ideal) (rowRect k).toLoadRect (a16.view.writes (Elt Ideal) G16 (S k.val).2.2))⟩ : View.Piece (Elt Ideal) S1024x1024 .f32) :: (S k.val).2.2)

/-- A load of a trip's rows reads them. -/
theorem row_ld (a : Memref sig .tc .vmem S1024x1024 .f32) (f : BufTy.Contents (Elt Ideal) a.view.ty) (k : Fin k0_t1_loop.trips) (hk : k.val < 128) (b : Fin 8) (n : Fin 1024) :
    a.view.readAt (Elt Ideal) (rowRect k).toLoadRect f (ix2 b n) = a.view.read (Elt Ideal) f (ix2 ⟨8 * k.val + b.val, by omega⟩ n) := by
  rw [View.readAt_unit a.view f (k0_off1_inb k) (off_eq k) (off_eq k ▸ k0_off1_inb k)]
  refine congrArg (a.view.read (Elt Ideal) f) ?_
  funext x
  fin_cases x <;> apply Fin.ext <;> simp [VecWindow.window]

/-- The carried pair before trip `k` is the recurrence's state after `k` steps over the rows found, and the rows from `8 k` on are still those found. -/
theorem loop_val (S : ℕ → LoopState) (v21 v25 : FVec Ideal S8x1024 .f32) (a15 a16 : Memref sig .tc .vmem S1024x1024 .f32)
    (G15 : BufTy.Contents (Elt Ideal) a15.view.ty) (G16 : BufTy.Contents (Elt Ideal) a16.view.ty) (init : FVec Ideal S8x1024 .f32 × FVec Ideal S8x1024 .f32)
    (h0 : S 0 = (init, [], [])) (hS : Steps S v21 v25 a15 a16 G15 G16) (k : ℕ) (hk : k ≤ 128) :
    (∀ (b : Fin 8) (n : Fin 1024), ((S k).1.1 (ix2 b n), (S k).1.2 (ix2 b n)) =
      recur (v21 (ix2 b n)) (v25 (ix2 b n)) (init.1 (ix2 b n), init.2 (ix2 b n))
        (fun j => a15.view.read (Elt Ideal) G15 (ix2 (Fin.ofNat 1024 (8 * j + b.val)) n)) (fun j => a16.view.read (Elt Ideal) G16 (ix2 (Fin.ofNat 1024 (8 * j + b.val)) n)) k) ∧
    (∀ (r n : Fin 1024), 8 * k ≤ r.val → a15.view.read (Elt Ideal) (a15.view.writes (Elt Ideal) G15 (S k).2.1) (ix2 r n) = a15.view.read (Elt Ideal) G15 (ix2 r n)) ∧
    (∀ (r n : Fin 1024), 8 * k ≤ r.val → a16.view.read (Elt Ideal) (a16.view.writes (Elt Ideal) G16 (S k).2.2) (ix2 r n) = a16.view.read (Elt Ideal) G16 (ix2 r n)) := by
  induction k with
  | zero => rw [h0]; exact ⟨fun _ _ => rfl, fun _ _ _ => rfl, fun _ _ _ => rfl⟩
  | succ k ih =>
    obtain ⟨i1, i2, i3⟩ := ih (by omega)
    have hs := hS ⟨k, hk⟩
    dsimp only at hs
    rw [hs]
    refine ⟨fun b n => ?_, fun r n hr => ?_, fun r n hr => ?_⟩
    · have e := i1 b n
      have e1 : (S k).1.1 (ix2 b n) = _ := congrArg Prod.fst e
      have e2 : (S k).1.2 (ix2 b n) = _ := congrArg Prod.snd e
      have hf : Fin.ofNat 1024 (8 * k + b.val) = ⟨8 * k + b.val, by omega⟩ := Fin.ext (Nat.mod_eq_of_lt (by omega))
      have l1 := (row_ld a15 (a15.view.writes (Elt Ideal) G15 (S k).2.1) ⟨k, hk⟩ hk b n).trans (i2 _ n (by dsimp only; omega))
      have l2 := (row_ld a16 (a16.view.writes (Elt Ideal) G16 (S k).2.2) ⟨k, hk⟩ hk b n).trans (i3 _ n (by dsimp only; omega))
      refine Prod.ext ?_ ?_
      · refine (re_step ..).trans ?_
        rw [l1, e1, e2, ← hf]
        rfl
      · refine (im_step ..).trans ?_
        rw [l2, e1, e2, ← hf]
        rfl
    · refine (View.read_writes_cons_rows_of_not_mem (o := 8 * k) (W := 8) a15.view G15 (k0_off1_inb ⟨k, hk⟩) _ _ (ix2 r n) (off_eq ⟨k, hk⟩) rfl (Or.inr ?_)).trans (i2 r n (by omega))
      exact hr
    · refine (View.read_writes_cons_rows_of_not_mem (o := 8 * k) (W := 8) a16.view G16 (k0_off1_inb ⟨k, hk⟩) _ _ (ix2 r n) (off_eq ⟨k, hk⟩) rfl (Or.inr ?_)).trans (i3 r n (by omega))
      exact hr

end Cert.Kernel9Ideal.Hand
-- ==== Proof.Ssp.Host.lean ====
module

public import proofs.«01_k».proof.Proof.Gen.Kernel9Ideal.Value
public import proofs.«01_k».proof.Proof.Ssm.Host
public import proofs.«01_k».proof.Proof.Ssp.Spec
@[expose] public section

set_option maxRecDepth 16384
noncomputable section

namespace Cert.Kernel9Ideal.Hand

open Cert.Kernel9Ideal Cert.Kernel9Ideal.Gen Idealize.ShloMosaic Idealize.ShloMosaic.TcCoe Idealize.SL.Sem Cert.Hand
open Cert.Kernel7Ideal.Hand (areA aimA bbrA bbiA packIn)

/-! What the host prepares for the call, as functions of the argument arrays: as for a single step. -/

variable (m : (ℓ : Loc nD τ sig) → Buf (Elt Ideal) ℓ)

/-- The branch's input rows, a step's rows together, as the call is given them. -/
theorem V_u (c : Dev nD) : V m c main_v87 = shapeCast S16384x256 (transpose S2048x8x256 [1, 0, 2] (m (c.tc.loc main_arg0)) transposes_S8x2048x256_S2048x8x256_1_0_2) shapeCasts_S2048x8x256_S16384x256 := by
  unfold V
  after_results <;> rfl
/-- The state's real parts, flat, as the call is given them. -/
theorem V_xr (c : Dev nD) : V m c main_v88 = shapeCast S8x1024 (m (c.tc.loc main_arg1)) shapeCasts_S8x16x64_S8x1024 := by
  unfold V
  after_results <;> rfl
/-- The state's imaginary parts, flat, as the call is given them. -/
theorem V_xi (c : Dev nD) : V m c main_v89 = shapeCast S8x1024 (m (c.tc.loc main_arg2)) shapeCasts_S8x16x64_S8x1024 := by
  unfold V
  after_results <;> rfl
/-- The discrete poles' real parts as a row, as the call is given them. -/
theorem V_ar (c : Dev nD) : V m c main_v50 = shapeCast S1x1024 (areA (m (c.tc.loc main_arg3)) (m (c.tc.loc main_arg4)) (m (c.tc.loc main_arg10))) shapeCasts_S16x64_S1x1024 := by
  unfold V
  after_results <;> rfl
/-- The discrete poles' imaginary parts as a row, as the call is given them. -/
theorem V_ai (c : Dev nD) : V m c main_v51 = shapeCast S1x1024 (aimA (m (c.tc.loc main_arg3)) (m (c.tc.loc main_arg4)) (m (c.tc.loc main_arg10))) shapeCasts_S16x64_S1x1024 := by
  unfold V
  after_results <;> rfl
/-- The packed input matrix, real, as the call is given them. -/
theorem V_br (c : Dev nD) : V m c main_v59 = packIn (bbrA (m (c.tc.loc main_arg3)) (m (c.tc.loc main_arg4)) (m (c.tc.loc main_arg10)) (m (c.tc.loc main_arg5)) (m (c.tc.loc main_arg6))) := by
  unfold V
  after_results <;> rfl
/-- The packed input matrix, imaginary, as the call is given them. -/
theorem V_bi (c : Dev nD) : V m c main_v67 = packIn (bbiA (m (c.tc.loc main_arg3)) (m (c.tc.loc main_arg4)) (m (c.tc.loc main_arg10)) (m (c.tc.loc main_arg5)) (m (c.tc.loc main_arg6))) := by
  unfold V
  after_results <;> rfl
end Cert.Kernel9Ideal.Hand
end
-- ==== Proof.Ssp.Body.lean ====
module

public import proofs.«01_k».proof.Proof.Ssp.Loop
public import proofs.«01_k».proof.Proof.Ssp.Host
@[expose] public section

set_option maxRecDepth 16384
noncomputable section

namespace Cert.Kernel9Ideal.Hand

open Cert.Kernel9Ideal Cert.Kernel9Ideal.Gen Idealize.ShloMosaic Idealize.ShloMosaic.TcCoe Idealize.SL.Sem Cert.Hand

/-- A load of a whole block reads the block. -/
theorem whole_ld {S : Shape} {e : EltTy} {a : Memref sig .tc .vmem S e} (h : a.IsWhole) (x : Vec Ideal S e) {off : Fin S.rank → ℕ}
    (inb : ∀ k, off k + S.size k ≤ S.size k) : a.view.readAt (Elt Ideal) (Rect.unit off S.size inb).toLoadRect (h.unread x) = x :=
  (View.readAt_full ..).trans (h.read_unread x)

set_option maxHeartbeats 2000000 in
/-- The pair the kernel's loop ends with, at an element, is the recurrence's state after the block's 128 steps. -/
theorem loop_end {𝒱 : Variants} {c : Dev nD} {bd : Option 𝒱.V} {i : grid0.Coords} {arg1 arg12 : Memref sig .tc .vmem S1024x256 .f32} {arg2 arg3 arg13 arg14 : Memref sig .tc .vmem S8x1024 .f32} {arg4 arg5 : Memref sig .tc .vmem S1x1024 .f32} {arg6 arg7 : Memref sig .tc .vmem S256x1024 .bf16} {arg8 arg9 : Memref sig .tc .vmem S1024x256 .bf16} {arg10 : Memref sig .tc .vmem S1x256 .f32} {arg11 : Memref sig .tc .vmem S256x512 .bf16} {arg15 arg16 : Memref sig .tc .vmem S1024x1024 .f32} {v4 : FVec Ideal S1024x256 .f32} {v21 v25 v27 v29 : FVec Ideal S8x1024 .f32} {c0_i32_19 c1_i32 : BitVec 32} {init : FVec Ideal S8x1024 .f32 × FVec Ideal S8x1024 .f32} {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole} {G_arg15 : BufTy.Contents (Elt Ideal) arg15.view.ty} {G_arg16 : BufTy.Contents (Elt Ideal) arg16.view.ty} (N : ℕ) (hN : N = 128) (b : Fin 8) (n : Fin 1024)
    {A B p q : FVec Ideal S8x1024 .f32} {f g : FVec Ideal S1024x1024 .f32} (e21 : v21 = A) (e25 : v25 = B) (ep : init.1 = p) (eq : init.2 = q)
    (e15 : arg15.view.read (Elt Ideal) G_arg15 = f) (e16 : arg16.view.read (Elt Ideal) G_arg16 = g) :
    ((st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v21 v25 v27 v29 c0_i32_19 c1_i32 G_arg15 G_arg16 init N).1.1 (ix2 b n), (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v21 v25 v27 v29 c0_i32_19 c1_i32 G_arg15 G_arg16 init N).1.2 (ix2 b n)) =
      recur (A (ix2 b n)) (B (ix2 b n)) (p (ix2 b n), q (ix2 b n)) (fun j => f (ix2 (Fin.ofNat 1024 (8 * j + b.val)) n)) (fun j => g (ix2 (Fin.ofNat 1024 (8 * j + b.val)) n)) 128 := by
  subst hN e21 e25 ep eq e15 e16
  have hS : Steps (fun k => st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v21 v25 v27 v29 c0_i32_19 c1_i32 G_arg15 G_arg16 init k) v21 v25 arg15 arg16 G_arg15 G_arg16 := by
    intro k
    dsimp only
    rw [st_k0_t1_succ]
    unfold tripR_k0_t1 tripL_k0_t1 trip_k0_t1
    rfl
  exact (loop_val _ v21 v25 arg15 arg16 G_arg15 G_arg16 init rfl hS 128 (Nat.le_refl _)).1 b n

variable (m : (ℓ : Loc nD τ sig) → Buf (Elt Ideal) ℓ)

set_option maxHeartbeats 1000000 in
/-- What the first point leaves of the states, over the point's blocks. -/
theorem pt_A (c : Dev nD) (t : Fin cfg0.N) (h0 : t.val % 16 = 0) (b : Fin 8) (n : Fin 1024) :
    ((outsAt0 m c t.val t.isLt).2.1 (ix2 b n), (outsAt0 m c t.val t.isLt).2.2 (ix2 b n)) =
      recur (k0_pay8 (F := Ideal) (iblk m c 3 t) (ix2 b n)) (k0_pay9 (F := Ideal) (iblk m c 4 t) (ix2 b n)) (k0_pay10 (F := Ideal) (k0_pay2 (F := Ideal) (iblk m c 1 t)) (ix2 b n), k0_pay11 (F := Ideal) (k0_pay3 (F := Ideal) (iblk m c 2 t)) (ix2 b n))
        (fun j => k0_pay6 (F := Ideal) (iblk m c 0 t) (iblk m c 5 t) (ix2 (Fin.ofNat 1024 (8 * j + b.val)) n))
        (fun j => k0_pay7 (F := Ideal) (iblk m c 0 t) (iblk m c 6 t) (ix2 (Fin.ofNat 1024 (8 * j + b.val)) n)) 128 := by
  rw [outsAt0_A m c t h0]
  dsimp only
  unfold out0_A_12 out0_A_13 kernelRun0_A
  dsimp only
  rw [View.read_writes_full, View.read_writes_full]
  refine loop_end _ (by decide +kernel) b n (congrArg k0_pay8 (whole_ld ..)) (congrArg k0_pay9 (whole_ld ..)) ?_ ?_
    ((View.read_writes_full ..).trans (congr (congrArg k0_pay6 (whole_ld ..)) (whole_ld ..)))
    ((View.read_writes_full ..).trans (congr (congrArg k0_pay7 (whole_ld ..)) (whole_ld ..)))
  · dsimp only
    unfold kernelRun0_A.sl.r_3
    exact congrArg (k0_pay10 (F := Ideal)) ((View.readCov_full ..).trans (congrArg (k0_pay2 (F := Ideal)) (whole_ld ..)))
  · dsimp only
    unfold kernelRun0_A.sl.r_4
    exact congrArg (k0_pay11 (F := Ideal)) ((View.readCov_full ..).trans (congrArg (k0_pay3 (F := Ideal)) (whole_ld ..)))
set_option maxHeartbeats 1000000 in
/-- What a later point leaves of the states, over the point's blocks and what the point before left. -/
theorem pt_B (c : Dev nD) (t : Fin cfg0.N) (h0 : ¬t.val % 16 = 0) (b : Fin 8) (n : Fin 1024) :
    ((outsAt0 m c t.val t.isLt).2.1 (ix2 b n), (outsAt0 m c t.val t.isLt).2.2 (ix2 b n)) =
      recur (k0_pay8 (F := Ideal) (iblk m c 3 t) (ix2 b n)) (k0_pay9 (F := Ideal) (iblk m c 4 t) (ix2 b n)) (k0_pay10 (F := Ideal) (outsAt0 m c (t.val - 1) (Nat.lt_of_le_of_lt (Nat.sub_le _ _) t.isLt)).2.1 (ix2 b n), k0_pay11 (F := Ideal) (outsAt0 m c (t.val - 1) (Nat.lt_of_le_of_lt (Nat.sub_le _ _) t.isLt)).2.2 (ix2 b n))
        (fun j => k0_pay6 (F := Ideal) (iblk m c 0 t) (iblk m c 5 t) (ix2 (Fin.ofNat 1024 (8 * j + b.val)) n))
        (fun j => k0_pay7 (F := Ideal) (iblk m c 0 t) (iblk m c 6 t) (ix2 (Fin.ofNat 1024 (8 * j + b.val)) n)) 128 := by
  rw [outsAt0_B m c t h0]
  dsimp only
  unfold out0_B_12 out0_B_13 kernelRun0_B
  dsimp only
  rw [View.read_writes_full, View.read_writes_full]
  refine loop_end _ (by decide +kernel) b n (congrArg k0_pay8 (whole_ld ..)) (congrArg k0_pay9 (whole_ld ..)) ?_ ?_
    ((View.read_writes_full ..).trans (congr (congrArg k0_pay6 (whole_ld ..)) (whole_ld ..)))
    ((View.read_writes_full ..).trans (congr (congrArg k0_pay7 (whole_ld ..)) (whole_ld ..)))
  · dsimp only
    unfold kernelRun0_B.sl.r_3
    exact congrArg (k0_pay10 (F := Ideal)) (whole_ld ..)
  · dsimp only
    unfold kernelRun0_B.sl.r_4
    exact congrArg (k0_pay11 (F := Ideal)) (whole_ld ..)

/-- A pole's row at an element. -/
theorem pay8_apply (x : FVec Ideal S1x1024 .f32) (b : Fin 8) (n : Fin 1024) : k0_pay8 (F := Ideal) x (ix2 b n) = x (ix2 0 n) := by
  pointwise [k0_pay8]
/-- A pole's row at an element. -/
theorem pay9_apply (x : FVec Ideal S1x1024 .f32) (b : Fin 8) (n : Fin 1024) : k0_pay9 (F := Ideal) x (ix2 b n) = x (ix2 0 n) := by
  pointwise [k0_pay9]
/-- A driving term's real part is the input's row times the packed matrix's column. -/
theorem pay6_apply (x : FVec Ideal S1024x256 .f32) (w : FVec Ideal S256x1024 .bf16) (r n : Fin 1024) :
    k0_pay6 (F := Ideal) x w (ix2 r n) = ∑ q : Fin 256, x (ix2 r q) * w (ix2 q n) := by
  pointwise [k0_pay6, k0_pay5, k0_pay4]
/-- A driving term's imaginary part is the input's row times the packed matrix's column. -/
theorem pay7_apply (x : FVec Ideal S1024x256 .f32) (w : FVec Ideal S256x1024 .bf16) (r n : Fin 1024) :
    k0_pay7 (F := Ideal) x w (ix2 r n) = ∑ q : Fin 256, x (ix2 r q) * w (ix2 q n) := by
  pointwise [k0_pay7, k0_pay5, k0_pay4]
/-- The carried real parts are taken as they are. -/
theorem pay10_apply (x : FVec Ideal S8x1024 .f32) (b : Fin 8) (n : Fin 1024) : k0_pay10 (F := Ideal) x (ix2 b n) = x (ix2 b n) := by
  pointwise [k0_pay10]
/-- The carried imaginary parts are taken as they are. -/
theorem pay11_apply (x : FVec Ideal S8x1024 .f32) (b : Fin 8) (n : Fin 1024) : k0_pay11 (F := Ideal) x (ix2 b n) = x (ix2 b n) := by
  pointwise [k0_pay11]
/-- The first real parts are taken as they are. -/
theorem pay2_apply (x : FVec Ideal S8x1024 .f32) (b : Fin 8) (n : Fin 1024) : k0_pay2 (F := Ideal) x (ix2 b n) = x (ix2 b n) := by
  pointwise [k0_pay2]
/-- The first imaginary parts are taken as they are. -/
theorem pay3_apply (x : FVec Ideal S8x1024 .f32) (b : Fin 8) (n : Fin 1024) : k0_pay3 (F := Ideal) x (ix2 b n) = x (ix2 b n) := by
  pointwise [k0_pay3]

end Cert.Kernel9Ideal.Hand
end
-- ==== Proof.Ssp.Final.lean ====
module

public import Idealize.ShloMosaic.Lib.Pipeline.ValueKit.Geometry
public import proofs.«01_k».proof.Proof.Ssp.Body
@[expose] public section

set_option maxRecDepth 16384
noncomputable section

namespace Cert.Kernel9Ideal.Hand

open Cert.Kernel9Ideal Cert.Kernel9Ideal.Gen Idealize.ShloMosaic Idealize.ShloMosaic.TcCoe Idealize.SL.Sem Cert.Hand
open Idealize.ShloMosaic.Pipeline (Dat)

variable (m : (ℓ : Loc nD τ sig) → Buf (Elt Ideal) ℓ)

/-- Point `t` reads block `t` of the input's rows. -/
theorem idx0 : ∀ t : Fin cfg0.N, win0_0.index t 0 = t.val ∧ win0_0.index t 1 = 0 :=
  (by decide +kernel : ∀ t : Fin grid0.N, win0_0.index t 0 = t.val ∧ win0_0.index t 1 = 0)
/-- The block of the input's rows. -/
theorem blk0 (c : Dev nD) (t : Fin cfg0.N) (ht : t.val < 16) (r : Fin 1024) (q : Fin 256) :
    (iblk m c 0 t : FVec Ideal S1024x256 .f32) (ix2 r q) = (V m c main_v87 : FVec Ideal S16384x256 .f32) (ix2 ⟨1024 * t.val + r.val, by omega⟩ q) := by
  show V m c main_v87 ((win0_0.rect t).emb (ix2 r q)) = _
  refine congrArg (V m c main_v87) (funext fun a => Fin.ext ?_)
  obtain ⟨e0, e1⟩ := idx0 t
  refine (Pipeline.Window.rect_emb_val win0_0 t _ a).trans ?_
  match a with
  | ⟨0, _⟩ => show win0_0.index t 0 * 1024 + r.val = 1024 * t.val + r.val; rw [e0]; omega
  | ⟨1, _⟩ => show win0_0.index t 1 * 256 + q.val = q.val; rw [e1]; omega
/-- The block of the first states' real parts is the whole array. -/
theorem blk1 (c : Dev nD) (t : Fin cfg0.N) : (iblk m c 1 t : FVec Ideal S8x1024 .f32) = (V m c main_v88 : FVec Ideal S8x1024 .f32) := by
  funext i
  show V m c main_v88 ((win0_1.rect t).emb i) = _
  exact congrArg (V m c main_v88) (funext fun a => Fin.ext (Pipeline.Window.rect_emb_val_of_index_zero win0_1 t _ ((by decide +kernel : ∀ t : Fin grid0.N, ∀ a, win0_1.index t a = 0) t a) i))
/-- The block of the first states' imaginary parts is the whole array. -/
theorem blk2 (c : Dev nD) (t : Fin cfg0.N) : (iblk m c 2 t : FVec Ideal S8x1024 .f32) = (V m c main_v89 : FVec Ideal S8x1024 .f32) := by
  funext i
  show V m c main_v89 ((win0_2.rect t).emb i) = _
  exact congrArg (V m c main_v89) (funext fun a => Fin.ext (Pipeline.Window.rect_emb_val_of_index_zero win0_2 t _ ((by decide +kernel : ∀ t : Fin grid0.N, ∀ a, win0_2.index t a = 0) t a) i))
/-- The block of the poles' real parts is the whole array. -/
theorem blk3 (c : Dev nD) (t : Fin cfg0.N) : (iblk m c 3 t : FVec Ideal S1x1024 .f32) = (V m c main_v50 : FVec Ideal S1x1024 .f32) := by
  funext i
  show V m c main_v50 ((win0_3.rect t).emb i) = _
  exact congrArg (V m c main_v50) (funext fun a => Fin.ext (Pipeline.Window.rect_emb_val_of_index_zero win0_3 t _ ((by decide +kernel : ∀ t : Fin grid0.N, ∀ a, win0_3.index t a = 0) t a) i))
/-- The block of the poles' imaginary parts is the whole array. -/
theorem blk4 (c : Dev nD) (t : Fin cfg0.N) : (iblk m c 4 t : FVec Ideal S1x1024 .f32) = (V m c main_v51 : FVec Ideal S1x1024 .f32) := by
  funext i
  show V m c main_v51 ((win0_4.rect t).emb i) = _
  exact congrArg (V m c main_v51) (funext fun a => Fin.ext (Pipeline.Window.rect_emb_val_of_index_zero win0_4 t _ ((by decide +kernel : ∀ t : Fin grid0.N, ∀ a, win0_4.index t a = 0) t a) i))
/-- The block of the packed input matrix, real is the whole array. -/
theorem blk5 (c : Dev nD) (t : Fin cfg0.N) : (iblk m c 5 t : FVec Ideal S256x1024 .bf16) = (V m c main_v59 : FVec Ideal S256x1024 .bf16) := by
  funext i
  show V m c main_v59 ((win0_5.rect t).emb i) = _
  exact congrArg (V m c main_v59) (funext fun a => Fin.ext (Pipeline.Window.rect_emb_val_of_index_zero win0_5 t _ ((by decide +kernel : ∀ t : Fin grid0.N, ∀ a, win0_5.index t a = 0) t a) i))
/-- The block of the packed input matrix, imaginary is the whole array. -/
theorem blk6 (c : Dev nD) (t : Fin cfg0.N) : (iblk m c 6 t : FVec Ideal S256x1024 .bf16) = (V m c main_v67 : FVec Ideal S256x1024 .bf16) := by
  funext i
  show V m c main_v67 ((win0_6.rect t).emb i) = _
  exact congrArg (V m c main_v67) (funext fun a => Fin.ext (Pipeline.Window.rect_emb_val_of_index_zero win0_6 t _ ((by decide +kernel : ∀ t : Fin grid0.N, ∀ a, win0_6.index t a = 0) t a) i))

/-- A step's driving term, from the input's rows and a packed matrix: the step's row times the matrix's column. -/
def term (u : FVec Ideal S16384x256 .f32) (w : FVec Ideal S256x1024 .bf16) (b : Fin 8) (n : Fin 1024) (k : ℕ) : EReal :=
  ∑ q : Fin 256, u (ix2 (Fin.ofNat 16384 (8 * k + b.val)) q) * w (ix2 q n)
/-- A block's driving term is the term of the step it holds. -/
theorem term_eq (u : FVec Ideal S16384x256 .f32) (x : FVec Ideal S1024x256 .f32) (t : ℕ) (ht : t < 16)
    (hx : ∀ (r : Fin 1024) (q : Fin 256), x (ix2 r q) = u (ix2 ⟨1024 * t + r.val, by omega⟩ q)) (w : FVec Ideal S256x1024 .bf16) (b : Fin 8) (n : Fin 1024) (j : ℕ) (hj : j < 128) :
    (∑ q : Fin 256, x (ix2 (Fin.ofNat 1024 (8 * j + b.val)) q) * w (ix2 q n)) = term u w b n (128 * t + j) := by
  refine Finset.sum_congr rfl fun q _ => ?_
  rw [hx]
  refine congrArg (fun k => u (ix2 k q) * w (ix2 q n)) (Fin.ext ?_)
  show 1024 * t + (8 * j + b.val) % 1024 = (8 * (128 * t + j) + b.val) % 16384
  omega

/-- The recurrence's state after `k` steps over the arrays the call is given. -/
def run (c : Dev nD) (b : Fin 8) (n : Fin 1024) (k : ℕ) : EReal × EReal :=
  recur ((V m c main_v50 : FVec Ideal S1x1024 .f32) (ix2 0 n)) ((V m c main_v51 : FVec Ideal S1x1024 .f32) (ix2 0 n))
    ((V m c main_v88 : FVec Ideal S8x1024 .f32) (ix2 b n), (V m c main_v89 : FVec Ideal S8x1024 .f32) (ix2 b n))
    (term (V m c main_v87) (V m c main_v59) b n) (term (V m c main_v87) (V m c main_v67) b n) k

/-- What the first point leaves is the state after its 128 steps. -/
theorem run_A (c : Dev nD) (t : Fin cfg0.N) (h0 : t.val = 0) (b : Fin 8) (n : Fin 1024) :
    ((outsAt0 m c t.val t.isLt).2.1 (ix2 b n), (outsAt0 m c t.val t.isLt).2.2 (ix2 b n)) = run m c b n 128 := by
  refine (pt_A m c t (by omega) b n).trans ?_
  simp only [pay8_apply, pay9_apply, pay10_apply, pay11_apply, pay2_apply, pay3_apply, pay6_apply, pay7_apply, blk1, blk2, blk3, blk4, blk5, blk6]
  refine recur_congr _ _ _ _ _ _ _ _ (fun j hj => ?_) (fun j hj => ?_)
  · refine (term_eq _ _ t.val (by omega) (blk0 m c t (by omega)) _ b n j hj).trans (congrArg (term _ _ b n) (by omega))
  · refine (term_eq _ _ t.val (by omega) (blk0 m c t (by omega)) _ b n j hj).trans (congrArg (term _ _ b n) (by omega))
/-- What a later point leaves is the state 128 steps after what the point before left. -/
theorem run_B (c : Dev nD) (t : Fin cfg0.N) (h0 : ¬t.val % 16 = 0) (ht : t.val < 16) (b : Fin 8) (n : Fin 1024)
    (ih : ((outsAt0 m c (t.val - 1) (Nat.lt_of_le_of_lt (Nat.sub_le _ _) t.isLt)).2.1 (ix2 b n), (outsAt0 m c (t.val - 1) (Nat.lt_of_le_of_lt (Nat.sub_le _ _) t.isLt)).2.2 (ix2 b n)) = run m c b n (128 * t.val)) :
    ((outsAt0 m c t.val t.isLt).2.1 (ix2 b n), (outsAt0 m c t.val t.isLt).2.2 (ix2 b n)) = run m c b n (128 * t.val + 128) := by
  refine (pt_B m c t h0 b n).trans ?_
  simp only [pay8_apply, pay9_apply, pay10_apply, pay11_apply, pay6_apply, pay7_apply, blk3, blk4, blk5, blk6]
  rw [ih]
  refine (recur_congr _ _ _ _ _ _ _ _ (fun j hj => term_eq _ _ t.val ht (blk0 m c t ht) _ b n j hj) (fun j hj => term_eq _ _ t.val ht (blk0 m c t ht) _ b n j hj)).trans ?_
  exact recur_add ..
/-- What point `k` leaves is the state after `128 (k + 1)` steps. -/
theorem run_at (c : Dev nD) (b : Fin 8) (n : Fin 1024) (k : ℕ) (hk : k < cfg0.N) (hk' : k < 16) :
    ((outsAt0 m c k hk).2.1 (ix2 b n), (outsAt0 m c k hk).2.2 (ix2 b n)) = run m c b n (128 * k + 128) := by
  induction k with
  | zero => exact run_A m c ⟨0, hk⟩ rfl b n
  | succ k ih => exact run_B m c ⟨k + 1, hk⟩ (by show ¬(k + 1) % 16 = 0; omega) hk' b n (ih (by omega) (by omega))

/-- The call's last point. -/
def last : Fin cfg0.N := ⟨15, by decide +kernel⟩
/-- The states' real parts after the run are what the last point left. -/
theorem arr12 (c : Dev nD) : (dats m 0 c).arrAt 12 cfg0.N = ((outsAt0 m c last.val last.isLt).2.1 : FVec Ideal S8x1024 .f32) := by
  funext i
  refine ((dats m 0 c).arrAt_emb_eq_after_last 12 last (by decide +kernel) i).trans ?_
  show (dats m 0 c).after 12 last _ = _
  rw [after0_12]
  rfl
/-- The states' imaginary parts after the run are what the last point left. -/
theorem arr13 (c : Dev nD) : (dats m 0 c).arrAt 13 cfg0.N = ((outsAt0 m c last.val last.isLt).2.2 : FVec Ideal S8x1024 .f32) := by
  funext i
  refine ((dats m 0 c).arrAt_emb_eq_after_last 13 last (by decide +kernel) i).trans ?_
  show (dats m 0 c).after 13 last _ = _
  rw [after0_13]
  rfl
/-- The states after the run are the recurrence's after 2048 steps. -/
theorem fin_val (c : Dev nD) (b : Fin 8) (n : Fin 1024) :
    ((dats m 0 c).arrAt 12 cfg0.N (ix2 b n), (dats m 0 c).arrAt 13 cfg0.N (ix2 b n)) = run m c b n 2048 := by
  rw [arr12, arr13]
  exact run_at m c b n 15 last.isLt (by omega)

end Cert.Kernel9Ideal.Hand
end
-- ==== Proof.Ssp.RefHost.lean ====
module

public import proofs.«01_k».proof.Proof.Gen.Reference9Ideal.Value
public import proofs.«01_k».proof.Proof.Ssm.Host
public import proofs.«01_k».proof.Proof.Ssp.Spec
@[expose] public section

set_option maxRecDepth 16384
noncomputable section

namespace Cert.Reference9Ideal.Hand

open Cert.Reference9Ideal Cert.Reference9Ideal.Gen Idealize.ShloMosaic Idealize.ShloMosaic.TcCoe Idealize.SL.Sem Cert.Hand
open Cert.Kernel7Ideal.Hand (areA aimA bbrA bbiA areA_apply aimA_apply bbrA_apply bbiA_apply)

/-- A step's driving terms, the steps first, from an input matrix and the input. -/
def drive (w : FVec Ideal S16x64x16 .f32) (u : FVec Ideal S8x2048x256 .f32) : FVec Ideal S2048x8x1024 .f32 :=
  shapeCast S2048x8x1024 (transpose S2048x8x16x64 [1, 0, 2, 3] (transpose S8x2048x16x64 [2, 3, 0, 1]
    (Host.dotGeneral dot_S16x64x16_S8x2048x16x16_S16x64x8x2048_2_3_1_01_0_2 none w (shapeCast S8x2048x16x16 u shapeCasts_S8x2048x256_S8x2048x16x16))
    transposes_S16x64x8x2048_S8x2048x16x64_2_3_0_1) transposes_S8x2048x16x64_S2048x8x16x64_1_0_2_3) shapeCasts_S2048x8x16x64_S2048x8x1024
/-- A row over groups and states at every sequence. -/
def rows (z : FVec Ideal S16x64 .f32) : FVec Ideal S8x1024 .f32 := broadcastInDim S8x1024 ![0, 1] bcast_S1x1024_S8x1024_0_1 (shapeCast S1x1024 z shapeCasts_S16x64_S1x1024)

/-- A driving term is the group's part of the input against the input matrix's row. -/
theorem drive_apply (w : FVec Ideal S16x64x16 .f32) (u : FVec Ideal S8x2048x256 .f32) (t : Fin 2048) (b : Fin 8) (n : Fin 1024) :
    drive w u (ix3 t b n) = ∑ h : Fin 16, w (ix3 ⟨n.val / 64, by omega⟩ ⟨n.val % 64, by omega⟩ h) * u (ix3 b t ⟨16 * (n.val / 64) + h.val, by omega⟩) := by
  pointwise [drive]
  exact Finset.sum_congr rfl fun h _ => congrArg (fun k => w (ix3 ⟨n.val / 64, by omega⟩ ⟨n.val % 64, by omega⟩ h) * u (ix3 b t k)) (Fin.ext (by show n.val / 64 * 16 + h.val = 16 * (n.val / 64) + h.val; omega))
/-- A row at an element. -/
theorem rows_apply (z : FVec Ideal S16x64 .f32) (b : Fin 8) (n : Fin 1024) : rows z (ix2 b n) = z (ix2 ⟨n.val / 64, by omega⟩ ⟨n.val % 64, by omega⟩) := by
  pointwise [rows]

/-- The states after 2048 steps at an element, from the argument arrays. -/
def soln (u : FVec Ideal S8x2048x256 .f32) (x y : FVec Ideal S8x16x64 .f32) (lam li : FVec Ideal S16x64 .f32) (br bi : FVec Ideal S16x64x16 .f32) (ldt : FVec Ideal S16 .f32) (b : Fin 8) (n : Fin 1024) : EReal × EReal :=
  recur (areA lam li ldt (ix2 ⟨n.val / 64, by omega⟩ ⟨n.val % 64, by omega⟩)) (aimA lam li ldt (ix2 ⟨n.val / 64, by omega⟩ ⟨n.val % 64, by omega⟩))
    (x (ix3 b ⟨n.val / 64, by omega⟩ ⟨n.val % 64, by omega⟩), y (ix3 b ⟨n.val / 64, by omega⟩ ⟨n.val % 64, by omega⟩))
    (fun k => ∑ h : Fin 16, bbrA lam li ldt br bi (ix3 ⟨n.val / 64, by omega⟩ ⟨n.val % 64, by omega⟩ h) * u (ix3 b (Fin.ofNat 2048 k) ⟨16 * (n.val / 64) + h.val, by omega⟩))
    (fun k => ∑ h : Fin 16, bbiA lam li ldt br bi (ix3 ⟨n.val / 64, by omega⟩ ⟨n.val % 64, by omega⟩ h) * u (ix3 b (Fin.ofNat 2048 k) ⟨16 * (n.val / 64) + h.val, by omega⟩)) 2048
/-- A state, flat, at an element. -/
theorem flat_x (x : FVec Ideal S8x16x64 .f32) (b : Fin 8) (n : Fin 1024) :
    shapeCast S8x1024 x shapeCasts_S8x16x64_S8x1024 (ix2 b n) = x (ix3 b ⟨n.val / 64, by omega⟩ ⟨n.val % 64, by omega⟩) := by
  pointwise

variable (m : (ℓ : Loc nD τ sig) → Buf (Elt Ideal) ℓ)

/-- The driving terms' real parts, as the recurrence is given them. -/
theorem V_br (c : Dev nD) : V m c main_v50 = drive (bbrA (m (c.tc.loc main_arg3)) (m (c.tc.loc main_arg4)) (m (c.tc.loc main_arg10)) (m (c.tc.loc main_arg5)) (m (c.tc.loc main_arg6))) (m (c.tc.loc main_arg0)) := by
  unfold V
  after_results <;> rfl
/-- The driving terms' imaginary parts, as the recurrence is given them. -/
theorem V_bi (c : Dev nD) : V m c main_v52 = drive (bbiA (m (c.tc.loc main_arg3)) (m (c.tc.loc main_arg4)) (m (c.tc.loc main_arg10)) (m (c.tc.loc main_arg5)) (m (c.tc.loc main_arg6))) (m (c.tc.loc main_arg0)) := by
  unfold V
  after_results <;> rfl
/-- The first states' real parts, as the recurrence is given them. -/
theorem V_xr (c : Dev nD) : V m c main_v53 = shapeCast S8x1024 (m (c.tc.loc main_arg1)) shapeCasts_S8x16x64_S8x1024 := by
  unfold V
  after_results <;> rfl
/-- The first states' imaginary parts, as the recurrence is given them. -/
theorem V_xi (c : Dev nD) : V m c main_v54 = shapeCast S8x1024 (m (c.tc.loc main_arg2)) shapeCasts_S8x16x64_S8x1024 := by
  unfold V
  after_results <;> rfl
/-- The discrete poles' real parts, as the recurrence is given them. -/
theorem V_ar (c : Dev nD) : V m c main_v56 = rows (areA (m (c.tc.loc main_arg3)) (m (c.tc.loc main_arg4)) (m (c.tc.loc main_arg10))) := by
  unfold V
  after_results <;> rfl
/-- The discrete poles' imaginary parts, as the recurrence is given them. -/
theorem V_ai (c : Dev nD) : V m c main_v58 = rows (aimA (m (c.tc.loc main_arg3)) (m (c.tc.loc main_arg4)) (m (c.tc.loc main_arg10))) := by
  unfold V
  after_results <;> rfl

end Cert.Reference9Ideal.Hand
end
-- ==== Proof.Ssp.RefLoop.lean ====
module

public import proofs.«01_k».proof.Proof.Ssp.RefHost
public import Idealize.ShloMosaic.Lib.VecWindow
public import Idealize.ShloMosaic.Lib.Pipeline.ValueKit.Geometry
@[expose] public section

set_option maxRecDepth 16384
noncomputable section

namespace Cert.Reference9Ideal.Hand

open Cert.Reference9Ideal Cert.Reference9Ideal.Gen Idealize.ShloMosaic Idealize.ShloMosaic.TcCoe Idealize.SL.Sem Cert.Hand

/-- A trip's new real parts at an element. -/
theorem re_step (a b x y : FVec Ideal S8x1024 .f32) (z : FVec Ideal S1x8x1024 .f32) (i : Fin 8) (n : Fin 1024) :
    k0_pay5 (F := Ideal) a b x y z (ix2 i n) = a (ix2 i n) * x (ix2 i n) - b (ix2 i n) * y (ix2 i n) + z (ix3 0 i n) := by
  pointwise [k0_pay5, k0_pay1, k0_pay2]
/-- A trip's new imaginary parts at an element. -/
theorem im_step (a b x y : FVec Ideal S8x1024 .f32) (z : FVec Ideal S1x8x1024 .f32) (i : Fin 8) (n : Fin 1024) :
    k0_pay6 (F := Ideal) a b x y z (ix2 i n) = a (ix2 i n) * y (ix2 i n) + b (ix2 i n) * x (ix2 i n) + z (ix3 0 i n) := by
  pointwise [k0_pay6, k0_pay1, k0_pay2]
/-- The first states are taken as they are. -/
theorem first_eq (x y : FVec Ideal S8x1024 .f32) (i : Fin 8) (n : Fin 1024) :
    (k0_pay3 (F := Ideal) x (ix2 i n), k0_pay4 (F := Ideal) y (ix2 i n)) = (x (ix2 i n), y (ix2 i n)) := by
  refine Prod.ext ?_ ?_
  · pointwise [k0_pay3]
  · pointwise [k0_pay4]

/-- The loop's trip `k` reads step `k`. -/
theorem off_eq : ∀ k : Fin k0_t1_loop.trips, k0_off1 k = ![k.val, 0, 0] := by decide +kernel

/-- A load of a trip's step reads it. -/
theorem row_ld (a : Memref sig .tc .vmem S2048x8x1024 .f32) (f : BufTy.Contents (Elt Ideal) a.view.ty) (k : Fin k0_t1_loop.trips) (hk : k.val < 2048) (b : Fin 8) (n : Fin 1024) :
    a.view.readAt (Elt Ideal) (Rect.unit (s := S2048x8x1024) (k0_off1 k) S1x8x1024.size (k0_off1_inb k)).toLoadRect f (ix3 0 b n) = a.view.read (Elt Ideal) f (ix3 (Fin.ofNat 2048 k.val) b n) := by
  rw [View.readAt_unit a.view f (k0_off1_inb k) (off_eq k) (off_eq k ▸ k0_off1_inb k)]
  refine congrArg (a.view.read (Elt Ideal) f) ?_
  funext x
  have e : k.val % 2048 = k.val := Nat.mod_eq_of_lt hk
  fin_cases x <;> apply Fin.ext <;> simp [VecWindow.window, e]

set_option maxHeartbeats 2000000 in
/-- The pair before the loop's trip `N`, at an element, is the recurrence's state after `N` steps. -/
theorem loop_val {𝒱 : Variants} {c : Dev nD} {bd : Option 𝒱.V} {arg0 arg1 : Memref sig .tc .vmem S2048x8x1024 .f32} {arg2 arg3 arg4 arg5 arg6 arg7 : Memref sig .tc .vmem S8x1024 .f32} {v0 v2 : Vec Ideal S8x1024 .f32} {init : FVec Ideal S8x1024 .f32 × FVec Ideal S8x1024 .f32} {harg0 : arg0.IsWhole} {harg1 : arg1.IsWhole} {harg2 : arg2.IsWhole} {harg3 : arg3.IsWhole} {harg4 : arg4.IsWhole} {harg5 : arg5.IsWhole} {harg6 : arg6.IsWhole} {harg7 : arg7.IsWhole} {X_arg0 : BufTy.Contents (Elt Ideal) arg0.view.ty} {X_arg1 : BufTy.Contents (Elt Ideal) arg1.view.ty} (N : ℕ) (hN : N ≤ 2048) (b : Fin 8) (n : Fin 1024)
    {A B p q : FVec Ideal S8x1024 .f32} {f g : FVec Ideal S2048x8x1024 .f32} (e0 : v0 = A) (e2 : v2 = B) (ep : init.1 = p) (eq : init.2 = q)
    (ef : arg0.view.read (Elt Ideal) X_arg0 = f) (eg : arg1.view.read (Elt Ideal) X_arg1 = g) :
    ((st_k0_t1 (F := Ideal) 𝒱 c bd arg0 harg0 arg1 harg1 arg2 harg2 arg3 harg3 arg4 harg4 arg5 harg5 arg6 harg6 arg7 harg7 v0 v2 X_arg0 X_arg1 init N).1 (ix2 b n), (st_k0_t1 (F := Ideal) 𝒱 c bd arg0 harg0 arg1 harg1 arg2 harg2 arg3 harg3 arg4 harg4 arg5 harg5 arg6 harg6 arg7 harg7 v0 v2 X_arg0 X_arg1 init N).2 (ix2 b n)) =
      recur (A (ix2 b n)) (B (ix2 b n)) (p (ix2 b n), q (ix2 b n)) (fun k => f (ix3 (Fin.ofNat 2048 k) b n)) (fun k => g (ix3 (Fin.ofNat 2048 k) b n)) N := by
  subst e0 e2 ep eq ef eg
  induction N with
  | zero => rfl
  | succ k ih =>
    have e := ih (by omega)
    have e1 := congrArg Prod.fst e
    have e2 := congrArg Prod.snd e
    dsimp only at e1 e2
    have hk : k < k0_t1_loop.trips := hN
    have hs := st_k0_t1_succ (F := Ideal) 𝒱 c bd arg0 harg0 arg1 harg1 arg2 harg2 arg3 harg3 arg4 harg4 arg5 harg5 arg6 harg6 arg7 harg7 v0 v2 X_arg0 X_arg1 init ⟨k, hk⟩
    unfold tripR_k0_t1 trip_k0_t1 at hs
    dsimp only at hs
    rw [hs]
    refine Prod.ext ?_ ?_
    · refine (re_step ..).trans ?_
      rw [e1, e2, row_ld arg0 X_arg0 ⟨k, hk⟩ hN b n]
      exact step_comm ..
    · refine (im_step ..).trans ?_
      rw [e1, e2, row_ld arg1 X_arg1 ⟨k, hk⟩ hN b n]
      exact step_comm' ..

variable (m : (ℓ : Loc nD τ sig) → Buf (Elt Ideal) ℓ)

/-- A load of a whole block reads the block. -/
theorem whole_ld {S : Shape} {e : EltTy} {a : Memref sig .tc .vmem S e} (h : a.IsWhole) (x : Vec Ideal S e) {off : Fin S.rank → ℕ}
    (inb : ∀ k, off k + S.size k ≤ S.size k) : a.view.readAt (Elt Ideal) (Rect.unit off S.size inb).toLoadRect (h.unread x) = x :=
  (View.readAt_full ..).trans (h.read_unread x)

set_option maxHeartbeats 1000000 in
/-- What the recurrence leaves of the states. -/
theorem pt (c : Dev nD) (t : Fin cfg0.N) (b : Fin 8) (n : Fin 1024) :
    ((outsAt0 m c t).1 (ix2 b n), (outsAt0 m c t).2 (ix2 b n)) =
      recur ((iblk m c 4 t : FVec Ideal S8x1024 .f32) (ix2 b n)) ((iblk m c 5 t : FVec Ideal S8x1024 .f32) (ix2 b n))
        ((iblk m c 2 t : FVec Ideal S8x1024 .f32) (ix2 b n), (iblk m c 3 t : FVec Ideal S8x1024 .f32) (ix2 b n))
        (fun k => (iblk m c 0 t : FVec Ideal S2048x8x1024 .f32) (ix3 (Fin.ofNat 2048 k) b n)) (fun k => (iblk m c 1 t : FVec Ideal S2048x8x1024 .f32) (ix3 (Fin.ofNat 2048 k) b n)) 2048 := by
  refine Eq.trans ?_ (congrArg (fun p => recur _ _ p _ _ 2048) (first_eq (iblk m c 2 t) (iblk m c 3 t) b n))
  unfold outsAt0
  dsimp only
  unfold out0_A_6 out0_A_7 kernelRun0_A
  dsimp only
  rw [View.read_writes_full, View.read_writes_full]
  refine (loop_val (Scf.trips 0#32 (Scalar.addi 0#32 2048#32) 1#32) (by decide +kernel) b n (whole_ld ..) (whole_ld ..) ?_ ?_ (Memref.IsWhole.read_unread _ _) (Memref.IsWhole.read_unread _ _)).trans (congrArg (recur _ _ _ _ _) (by decide +kernel))
  · exact congrArg (k0_pay3 (F := Ideal)) (whole_ld (hs0_2 t) ..)
  · exact congrArg (k0_pay4 (F := Ideal)) (whole_ld (hs0_3 t) ..)

/-- The block of the driving terms' real parts is the whole array. -/
theorem blk0 (c : Dev nD) (t : Fin cfg0.N) : (iblk m c 0 t : FVec Ideal S2048x8x1024 .f32) = (V m c main_v50 : FVec Ideal S2048x8x1024 .f32) := by
  funext i
  show V m c main_v50 ((win0_0.rect t).emb i) = _
  exact congrArg (V m c main_v50) (funext fun a => Fin.ext (Pipeline.Window.rect_emb_val_of_index_zero win0_0 t _ rfl i))
/-- The block of the driving terms' imaginary parts is the whole array. -/
theorem blk1 (c : Dev nD) (t : Fin cfg0.N) : (iblk m c 1 t : FVec Ideal S2048x8x1024 .f32) = (V m c main_v52 : FVec Ideal S2048x8x1024 .f32) := by
  funext i
  show V m c main_v52 ((win0_1.rect t).emb i) = _
  exact congrArg (V m c main_v52) (funext fun a => Fin.ext (Pipeline.Window.rect_emb_val_of_index_zero win0_1 t _ rfl i))
/-- The block of the first states' real parts is the whole array. -/
theorem blk2 (c : Dev nD) (t : Fin cfg0.N) : (iblk m c 2 t : FVec Ideal S8x1024 .f32) = (V m c main_v53 : FVec Ideal S8x1024 .f32) := by
  funext i
  show V m c main_v53 ((win0_2.rect t).emb i) = _
  exact congrArg (V m c main_v53) (funext fun a => Fin.ext (Pipeline.Window.rect_emb_val_of_index_zero win0_2 t _ rfl i))
/-- The block of the first states' imaginary parts is the whole array. -/
theorem blk3 (c : Dev nD) (t : Fin cfg0.N) : (iblk m c 3 t : FVec Ideal S8x1024 .f32) = (V m c main_v54 : FVec Ideal S8x1024 .f32) := by
  funext i
  show V m c main_v54 ((win0_3.rect t).emb i) = _
  exact congrArg (V m c main_v54) (funext fun a => Fin.ext (Pipeline.Window.rect_emb_val_of_index_zero win0_3 t _ rfl i))
/-- The block of the poles' real parts is the whole array. -/
theorem blk4 (c : Dev nD) (t : Fin cfg0.N) : (iblk m c 4 t : FVec Ideal S8x1024 .f32) = (V m c main_v56 : FVec Ideal S8x1024 .f32) := by
  funext i
  show V m c main_v56 ((win0_4.rect t).emb i) = _
  exact congrArg (V m c main_v56) (funext fun a => Fin.ext (Pipeline.Window.rect_emb_val_of_index_zero win0_4 t _ rfl i))
/-- The block of the poles' imaginary parts is the whole array. -/
theorem blk5 (c : Dev nD) (t : Fin cfg0.N) : (iblk m c 5 t : FVec Ideal S8x1024 .f32) = (V m c main_v58 : FVec Ideal S8x1024 .f32) := by
  funext i
  show V m c main_v58 ((win0_5.rect t).emb i) = _
  exact congrArg (V m c main_v58) (funext fun a => Fin.ext (Pipeline.Window.rect_emb_val_of_index_zero win0_5 t _ rfl i))
/-- The recurrence's one point. -/
def pt0 : Fin cfg0.N := ⟨0, by decide⟩
/-- The states' real parts after the run are what the point left. -/
theorem arr6 (c : Dev nD) : (dats m 0 c).arrAt 6 cfg0.N = ((outsAt0 m c pt0).1 : FVec Ideal S8x1024 .f32) := by
  funext i
  refine ((dats m 0 c).arrAt_emb_eq_after_last 6 pt0 (by decide +kernel) i).trans ?_
  show (dats m 0 c).after 6 pt0 _ = _
  rw [after0_6]
/-- The states' imaginary parts after the run are what the point left. -/
theorem arr7 (c : Dev nD) : (dats m 0 c).arrAt 7 cfg0.N = ((outsAt0 m c pt0).2 : FVec Ideal S8x1024 .f32) := by
  funext i
  refine ((dats m 0 c).arrAt_emb_eq_after_last 7 pt0 (by decide +kernel) i).trans ?_
  show (dats m 0 c).after 7 pt0 _ = _
  rw [after0_7]
/-- The states after the run, from the argument arrays. -/
theorem fin_val (c : Dev nD) (b : Fin 8) (n : Fin 1024) :
    ((dats m 0 c).arrAt 6 cfg0.N (ix2 b n), (dats m 0 c).arrAt 7 cfg0.N (ix2 b n)) = soln (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg10)) b n := by
  rw [arr6, arr7]
  refine (pt m c pt0 b n).trans ?_
  rw [blk0, blk1, blk2, blk3, blk4, blk5, V_br, V_bi, V_xr, V_xi, V_ar, V_ai]
  simp only [drive_apply, rows_apply]
  exact congrArg (fun p => recur _ _ p _ _ 2048) (congrArg₂ Prod.mk (flat_x ..) (flat_x ..))

end Cert.Reference9Ideal.Hand
end
-- ==== Proof.Ssp.Equal.lean ====
module

public import proofs.«01_k».proof.Defs
public import proofs.«01_k».proof.Proof.Ssp.Final
public import proofs.«01_k».proof.Proof.Ssp.RefLoop
@[expose] public section

set_option maxRecDepth 16384
noncomputable section

namespace Cert.Kernel9Ideal.Hand

open Cert.Kernel9Ideal Cert.Kernel9Ideal.Gen Idealize.ShloMosaic Idealize.ShloMosaic.TcCoe Idealize.SL.Sem Cert.Hand
open Cert.Kernel7Ideal.Hand (areA aimA bbrA bbiA packIn packIn_apply)
open Cert.Reference9Ideal.Hand (soln flat_x)

/-- The input's rows, a step's rows together, at an element. -/
theorem flat_u (x : FVec Ideal S8x2048x256 .f32) (b : Fin 8) (k : ℕ) (hk : k < 2048) (q : Fin 256) :
    shapeCast S16384x256 (transpose S2048x8x256 [1, 0, 2] x transposes_S8x2048x256_S2048x8x256_1_0_2) shapeCasts_S2048x8x256_S16384x256 (ix2 (Fin.ofNat 16384 (8 * k + b.val)) q) =
      x (ix3 b (Fin.ofNat 2048 k) q) := by
  have e : Fin.ofNat 16384 (8 * k + b.val) = ⟨8 * k + b.val, by omega⟩ := Fin.ext (Nat.mod_eq_of_lt (by omega))
  have e' : Fin.ofNat 2048 k = ⟨k, hk⟩ := Fin.ext (Nat.mod_eq_of_lt hk)
  rw [e, e']
  pointwise
  exact congrArg₂ (fun i j => x (ix3 i j q)) rfl (Fin.ext (by show (8 * k + b.val) / 8 = k; omega))
/-- A row times a packed input matrix keeps the column's group. -/
theorem term_val (u : FVec Ideal S8x2048x256 .f32) (w : FVec Ideal S16x64x16 .f32) (b : Fin 8) (n : Fin 1024) (k : ℕ) (hk : k < 2048) :
    term (shapeCast S16384x256 (transpose S2048x8x256 [1, 0, 2] u transposes_S8x2048x256_S2048x8x256_1_0_2) shapeCasts_S2048x8x256_S16384x256) (packIn w) b n k =
      ∑ h : Fin 16, w (ix3 ⟨n.val / 64, by omega⟩ ⟨n.val % 64, by omega⟩ h) * u (ix3 b (Fin.ofNat 2048 k) ⟨16 * (n.val / 64) + h.val, by omega⟩) := by
  unfold term
  simp only [packIn_apply, flat_u u b k hk, ← mul_assoc]
  rw [sum_in (fun q => _) (n.val / 64) (by omega)]
  refine Finset.sum_congr rfl fun h _ => (mul_comm _ _).trans ?_
  exact congrArg₂ (fun i j => w (ix3 i ⟨n.val % 64, by omega⟩ j) * u (ix3 b (Fin.ofNat 2048 k) ⟨16 * (n.val / 64) + h.val, by omega⟩))
    (Fin.ext (by show (16 * (n.val / 64) + h.val) / 16 = n.val / 64; omega)) (Fin.ext (by show (16 * (n.val / 64) + h.val) % 16 = h.val; omega))
/-- A pole's row, flat, at an element. -/
theorem flat_a (x : FVec Ideal S16x64 .f32) (n : Fin 1024) :
    shapeCast S1x1024 x shapeCasts_S16x64_S1x1024 (ix2 0 n) = x (ix2 ⟨n.val / 64, by omega⟩ ⟨n.val % 64, by omega⟩) := by
  pointwise

/-- The states after the run, from the argument arrays. -/
theorem run_soln (m : (ℓ : Loc nD τ sig) → Buf (Elt Ideal) ℓ) (c : Dev nD) (b : Fin 8) (n : Fin 1024) :
    ((dats m 0 c).arrAt 12 cfg0.N (ix2 b n), (dats m 0 c).arrAt 13 cfg0.N (ix2 b n)) = soln (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg10)) b n := by
  refine (fin_val m c b n).trans ?_
  unfold run soln
  rw [V_u, V_xr, V_xi, V_ar, V_ai, V_br, V_bi, flat_a, flat_a]
  refine (recur_congr _ _ _ _ _ _ _ _ (fun k hk => term_val _ _ b n k hk) (fun k hk => term_val _ _ b n k hk)).trans ?_
  exact congrArg (fun p => recur _ _ p _ _ 2048) (congrArg₂ Prod.mk (flat_x ..) (flat_x ..))

set_option maxHeartbeats 2000000 in
/-- The kernel's two states are the reference's. -/
theorem s5_prompt_equal : Cert.algebraic_Kernel9Ideal_Reference9Ideal
    (hKernel9Ideal := Cert.Kernel9Ideal.Gen.facts) (hReference9Ideal := Cert.Reference9Ideal.Gen.facts) := by
  intro m ρ m' ρ' _ hag
  refine ⟨fun c => (dats m 0 c).arrAt 12 cfg0.N, fun c => (dats m 0 c).arrAt 13 cfg0.N, (θ_run _ _ _).mono (fun r h c => (h c).2) (Value.run_blocks m ρ), ?_⟩
  refine (θ_run _ _ _).mono (fun r h c => ?_) (Cert.Reference9Ideal.Value.run_blocks m' ρ')
  obtain ⟨hr, hi, hkeep⟩ := h c
  obtain ⟨a0, a1, a2, a3, a4, a5, a6, a7, a8, a9, a10, a11⟩ := hag c
  have e : ∀ (b : Fin 8) (n : Fin 1024), ((Cert.Reference9Ideal.Gen.dats m' 0 c).arrAt 6 Cert.Reference9Ideal.cfg0.N (ix2 b n), (Cert.Reference9Ideal.Gen.dats m' 0 c).arrAt 7 Cert.Reference9Ideal.cfg0.N (ix2 b n)) =
      ((dats m 0 c).arrAt 12 cfg0.N (ix2 b n), (dats m 0 c).arrAt 13 cfg0.N (ix2 b n)) := fun b n => by
    refine (Cert.Reference9Ideal.Hand.fin_val m' c b n).trans (Eq.trans ?_ (run_soln m c b n).symm)
    rw [a0, a1, a2, a3, a4, a5, a6, a10]
  refine ⟨hr.trans (funext fun i => ?_), hi.trans (funext fun i => ?_), hkeep⟩
  · idx_vars i
    exact congrArg Prod.fst (e i0 i1)
  · idx_vars i
    exact congrArg Prod.snd (e i0 i1)

end Cert.Kernel9Ideal.Hand
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Pre_gdn_finite
public import proofs.«01_k».proof.Proof.Gen.Pre_gla_finite
public import proofs.«01_k».proof.Proof.Gen.Pre_merge_finite
public import proofs.«01_k».proof.Proof.Gen.Pre_in_proj_finite
public import proofs.«01_k».proof.Proof.Gen.Pre_prep_finite
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Value
public import proofs.«01_k».proof.Proof.Dec.Gdn2
public import proofs.«01_k».proof.Proof.Dec.Gla3
public import proofs.«01_k».proof.Proof.Ffn.Equal
public import proofs.«01_k».proof.Proof.Merge.Equal
public import proofs.«01_k».proof.Proof.Inp.Equal
public import proofs.«01_k».proof.Proof.Ffns.Equal
public import proofs.«01_k».proof.Proof.Ssm.Equal
public import proofs.«01_k».proof.Proof.Prep.Equal
public import proofs.«01_k».proof.Proof.Ssp.Equal
public import Idealize.ShloMosaic.Adequacy
public import Idealize.ShloMosaic.Init

@[expose] public section

noncomputable section

namespace Cert.Proof

open Idealize.ShloMosaic Idealize.SL.Sem Cert.Kernel

/-- Every program's frame, and the equality of each kernel with its reference. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Pre_gdn_finite.Gen.facts, Cert.Pre_gla_finite.Gen.facts, Cert.Pre_merge_finite.Gen.facts, Cert.Pre_in_proj_finite.Gen.facts, Cert.Pre_prep_finite.Gen.facts,
    ⟨fun m ρ _ => Cert.Kernel.Gen.frame m ρ,
    fun m ρ _ => Cert.KernelIdeal.Gen.frame m ρ,
    fun m ρ _ => Cert.KernelIdeal.Gen.frame m ρ,
    fun m ρ _ => (θ_run _ _ _).mono (fun r h => ⟨fun c => (h c).2.2, sem_eq_zero_of_no_sems (by decide) r.2⟩)
      (Cert.ReferenceIdeal.Value.run m ρ),
    fun m ρ _ => (θ_run _ _ _).mono (fun r h => ⟨fun c => (h c).2.2, sem_eq_zero_of_no_sems (by decide) r.2⟩)
      (Cert.ReferenceIdeal.Value.run m ρ),
    fun m ρ _ => Cert.Kernel2.Gen.frame m ρ,
    fun m ρ _ => Cert.Kernel2Ideal.Gen.frame m ρ,
    fun m ρ _ => Cert.Kernel2Ideal.Gen.frame m ρ,
    fun m ρ _ => (θ_run _ _ _).mono (fun r h => ⟨fun c => (h c).2.2, sem_eq_zero_of_no_sems (by decide) r.2⟩)
      (Cert.Reference2Ideal.Value.run m ρ),
    fun m ρ _ => (θ_run _ _ _).mono (fun r h => ⟨fun c => (h c).2.2, sem_eq_zero_of_no_sems (by decide) r.2⟩)
      (Cert.Reference2Ideal.Value.run m ρ),
    fun m ρ _ => Cert.Kernel3.Gen.frame m ρ,
    fun m ρ _ => Cert.Kernel3Ideal.Gen.frame m ρ,
    fun m ρ _ => (θ_run _ _ _).mono (fun r h => ⟨fun c => (h c).2, sem_eq_zero_of_no_sems (by decide) r.2⟩)
      (Cert.Reference3Ideal.Value.run m ρ),
    fun m ρ _ => Cert.Kernel4.Gen.frame m ρ,
    fun m ρ _ => Cert.Kernel4Ideal.Gen.frame m ρ,
    fun m ρ _ => Cert.Kernel4Ideal.Gen.frame m ρ,
    fun m ρ _ => (θ_run _ _ _).mono (fun r h => ⟨fun c => (h c).2, sem_eq_zero_of_no_sems (by decide) r.2⟩)
      (Cert.Reference4Ideal.Value.run m ρ),
    fun m ρ _ => (θ_run _ _ _).mono (fun r h => ⟨fun c => (h c).2, sem_eq_zero_of_no_sems (by decide) r.2⟩)
      (Cert.Reference4Ideal.Value.run m ρ),
    fun m ρ _ => Cert.Kernel5.Gen.frame m ρ,
    fun m ρ _ => Cert.Kernel5Ideal.Gen.frame m ρ,
    fun m ρ _ => Cert.Kernel5Ideal.Gen.frame m ρ,
    fun m ρ _ => (θ_run _ _ _).mono (fun r h => ⟨fun c => (h c).2.2.2.2.2, sem_eq_zero_of_no_sems (by decide) r.2⟩)
      (Cert.Reference5Ideal.Value.run m ρ),
    fun m ρ _ => (θ_run _ _ _).mono (fun r h => ⟨fun c => (h c).2.2.2.2.2, sem_eq_zero_of_no_sems (by decide) r.2⟩)
      (Cert.Reference5Ideal.Value.run m ρ),
    fun m ρ _ => Cert.Kernel6.Gen.frame m ρ,
    fun m ρ _ => Cert.Kernel6Ideal.Gen.frame m ρ,
    fun m ρ _ => (θ_run _ _ _).mono (fun r h => ⟨fun c => (h c).2, sem_eq_zero_of_no_sems (by decide) r.2⟩)
      (Cert.Reference6Ideal.Value.run m ρ),
    fun m ρ _ => Cert.Kernel7.Gen.frame m ρ,
    fun m ρ _ => Cert.Kernel7Ideal.Gen.frame m ρ,
    fun m ρ _ => (θ_run _ _ _).mono (fun r h => ⟨fun c => (h c).2.2.2, sem_eq_zero_of_no_sems (by decide) r.2⟩)
      (Cert.Reference7Ideal.Value.run m ρ),
    fun m ρ _ => Cert.Kernel8.Gen.frame m ρ,
    fun m ρ _ => Cert.Kernel8Ideal.Gen.frame m ρ,
    fun m ρ _ => Cert.Kernel8Ideal.Gen.frame m ρ,
    fun m ρ _ => (θ_run _ _ _).mono (fun r h => ⟨fun c => (h c).2.2.2.2.2, sem_eq_zero_of_no_sems (by decide) r.2⟩)
      (Cert.Reference8Ideal.Value.run m ρ),
    fun m ρ _ => (θ_run _ _ _).mono (fun r h => ⟨fun c => (h c).2.2.2.2.2, sem_eq_zero_of_no_sems (by decide) r.2⟩)
      (Cert.Reference8Ideal.Value.run m ρ),
    fun m ρ _ => Cert.Kernel9.Gen.frame m ρ,
    fun m ρ _ => Cert.Kernel9Ideal.Gen.frame m ρ,
    fun m ρ _ => Cert.Reference9Ideal.Gen.frame m ρ,
    trivial,
    Cert.KernelIdeal.Hand.gdn_equal,
    trivial,
    Cert.Kernel2Ideal.Hand.gla_equal,
    trivial,
    Cert.Kernel3Ideal.Hand.ffn_equal,
    trivial,
    Cert.Kernel4Ideal.Hand.merge_equal,
    trivial,
    Cert.Kernel5Ideal.Hand.in_proj_equal,
    trivial,
    Cert.Kernel6Ideal.Hand.ffn_sample_equal,
    trivial,
    Cert.Kernel7Ideal.Hand.s5_sample_equal,
    trivial,
    Cert.Kernel8Ideal.Hand.prep_equal,
    trivial,
    Cert.Kernel9Ideal.Hand.s5_prompt_equal⟩⟩

end Cert.Proof

end
